-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Sibling (m : (ℓ : Loc Cert.Sibling.nD Cert.Sibling.τ Cert.Sibling.sig) → Buf (Elt Bits) ℓ) : Prop :=
  True

def Pre_SiblingIdeal (m : (ℓ : Loc Cert.SiblingIdeal.nD Cert.SiblingIdeal.τ Cert.SiblingIdeal.sig) → Buf (Elt Ideal) ℓ) : Prop :=
  True

def Pre_SiblingRefIdeal (m : (ℓ : Loc Cert.SiblingRefIdeal.nD Cert.SiblingRefIdeal.τ Cert.SiblingRefIdeal.sig) → Buf (Elt Ideal) ℓ) : Prop :=
  True

def Pre_SiblingRef (m : (ℓ : Loc Cert.SiblingRef.nD Cert.SiblingRef.τ Cert.SiblingRef.sig) → Buf (Elt Bits) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_ChipsRef (m : (ℓ : Loc Cert.ChipsRef.nD Cert.ChipsRef.τ Cert.ChipsRef.sig) → Buf (Elt Bits) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamPoolUp (m : (ℓ : Loc Cert.AdamPoolUp.nD Cert.AdamPoolUp.τ Cert.AdamPoolUp.sig) → Buf (Elt Bits) ℓ) : Prop :=
  True

def Pre_AdamPoolUpIdeal (m : (ℓ : Loc Cert.AdamPoolUpIdeal.nD Cert.AdamPoolUpIdeal.τ Cert.AdamPoolUpIdeal.sig) → Buf (Elt Ideal) ℓ) : Prop :=
  True

def Pre_AdamPoolUpRefIdeal (m : (ℓ : Loc Cert.AdamPoolUpRefIdeal.nD Cert.AdamPoolUpRefIdeal.τ Cert.AdamPoolUpRefIdeal.sig) → Buf (Elt Ideal) ℓ) : Prop :=
  True

def Pre_AdamConvOut (m : (ℓ : Loc Cert.AdamConvOut.nD Cert.AdamConvOut.τ Cert.AdamConvOut.sig) → Buf (Elt Bits) ℓ) : Prop :=
  True

def Pre_AdamConvOutIdeal (m : (ℓ : Loc Cert.AdamConvOutIdeal.nD Cert.AdamConvOutIdeal.τ Cert.AdamConvOutIdeal.sig) → Buf (Elt Ideal) ℓ) : Prop :=
  True

def Pre_AdamConvOutRefIdeal (m : (ℓ : Loc Cert.AdamConvOutRefIdeal.nD Cert.AdamConvOutRefIdeal.τ Cert.AdamConvOutRefIdeal.sig) → Buf (Elt Ideal) ℓ) : Prop :=
  True

def Pre_AdamAttnUp (m : (ℓ : Loc Cert.AdamAttnUp.nD Cert.AdamAttnUp.τ Cert.AdamAttnUp.sig) → Buf (Elt Bits) ℓ) : Prop :=
  True

def Pre_AdamAttnUpIdeal (m : (ℓ : Loc Cert.AdamAttnUpIdeal.nD Cert.AdamAttnUpIdeal.τ Cert.AdamAttnUpIdeal.sig) → Buf (Elt Ideal) ℓ) : Prop :=
  True

def Pre_AdamAttnUpRefIdeal (m : (ℓ : Loc Cert.AdamAttnUpRefIdeal.nD Cert.AdamAttnUpRefIdeal.τ Cert.AdamAttnUpRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamFf1 (m : (ℓ : Loc Cert.AdamFf1.nD Cert.AdamFf1.τ Cert.AdamFf1.sig) → Buf (Elt Bits) ℓ) : Prop :=
  True

def Pre_AdamFf1Ideal (m : (ℓ : Loc Cert.AdamFf1Ideal.nD Cert.AdamFf1Ideal.τ Cert.AdamFf1Ideal.sig) → Buf (Elt Ideal) ℓ) : Prop :=
  True

def Pre_AdamFf1RefIdeal (m : (ℓ : Loc Cert.AdamFf1RefIdeal.nD Cert.AdamFf1RefIdeal.τ Cert.AdamFf1RefIdeal.sig) → Buf (Elt Ideal) ℓ) : Prop :=
  True

def Pre_AdamFf2 (m : (ℓ : Loc Cert.AdamFf2.nD Cert.AdamFf2.τ Cert.AdamFf2.sig) → Buf (Elt Bits) ℓ) : Prop :=
  True

def Pre_AdamFf2Ideal (m : (ℓ : Loc Cert.AdamFf2Ideal.nD Cert.AdamFf2Ideal.τ Cert.AdamFf2Ideal.sig) → Buf (Elt Ideal) ℓ) : Prop :=
  True

def Pre_AdamFf2RefIdeal (m : (ℓ : Loc Cert.AdamFf2RefIdeal.nD Cert.AdamFf2RefIdeal.τ Cert.AdamFf2RefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumTwo (m : (ℓ : Loc Cert.SumTwo.nD Cert.SumTwo.τ Cert.SumTwo.sig) → Buf (Elt Bits) ℓ) : Prop :=
  True

def Pre_SumTwoIdeal (m : (ℓ : Loc Cert.SumTwoIdeal.nD Cert.SumTwoIdeal.τ Cert.SumTwoIdeal.sig) → Buf (Elt Ideal) ℓ) : Prop :=
  True

def Pre_SumTwoRefIdeal (m : (ℓ : Loc Cert.SumTwoRefIdeal.nD Cert.SumTwoRefIdeal.τ Cert.SumTwoRefIdeal.sig) → Buf (Elt Ideal) ℓ) : Prop :=
  True

def Pre_SumBig (m : (ℓ : Loc Cert.SumBig.nD Cert.SumBig.τ Cert.SumBig.sig) → Buf (Elt Bits) ℓ) : Prop :=
  True

def Pre_SumBigIdeal (m : (ℓ : Loc Cert.SumBigIdeal.nD Cert.SumBigIdeal.τ Cert.SumBigIdeal.sig) → Buf (Elt Ideal) ℓ) : Prop :=
  True

def Pre_SumBigRefIdeal (m : (ℓ : Loc Cert.SumBigRefIdeal.nD Cert.SumBigRefIdeal.τ Cert.SumBigRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumTwoRef (m : (ℓ : Loc Cert.SumTwoRef.nD Cert.SumTwoRef.τ Cert.SumTwoRef.sig) → Buf (Elt Bits) ℓ) : Prop :=
  True

def Pre_SumPair [hPre_named : Cert.Pre_named.Facts] (m : (ℓ : Loc Cert.SumPair.nD Cert.SumPair.τ Cert.SumPair.sig) → Buf (Elt Bits) ℓ) : Prop :=
  ∀ c : Dev Cert.SumPair.nD,
    (Cert.Pre_named.fn (F := Bits) (m ((c.tc : Thread Cert.SumPair.nD Cert.SumPair.τ).loc Cert.SumPair.main_arg0)) (m ((c.tc : Thread Cert.SumPair.nD Cert.SumPair.τ).loc Cert.SumPair.main_arg1)) (m ((c.tc : Thread Cert.SumPair.nD Cert.SumPair.τ).loc Cert.SumPair.main_arg2))) = (fun _ => 1#1)

def Pre_SumPairIdeal [hPre_named : Cert.Pre_named.Facts] (m : (ℓ : Loc Cert.SumPairIdeal.nD Cert.SumPairIdeal.τ Cert.SumPairIdeal.sig) → Buf (Elt Ideal) ℓ) : Prop :=
  ∀ c : Dev Cert.SumPairIdeal.nD,
    (Cert.Pre_named.fn (F := Ideal) (m ((c.tc : Thread Cert.SumPairIdeal.nD Cert.SumPairIdeal.τ).loc Cert.SumPairIdeal.main_arg0)) (m ((c.tc : Thread Cert.SumPairIdeal.nD Cert.SumPairIdeal.τ).loc Cert.SumPairIdeal.main_arg1)) (m ((c.tc : Thread Cert.SumPairIdeal.nD Cert.SumPairIdeal.τ).loc Cert.SumPairIdeal.main_arg2))) = (fun _ => 1#1)

def Pre_SumPairRefIdeal (m : (ℓ : Loc Cert.SumPairRefIdeal.nD Cert.SumPairRefIdeal.τ Cert.SumPairRefIdeal.sig) → Buf (Elt Ideal) ℓ) : Prop :=
  True

def Pre_SumPairRefIdeal_named [hPre_named : Cert.Pre_named.Facts] (m : (ℓ : Loc Cert.SumPairRefIdeal.nD Cert.SumPairRefIdeal.τ Cert.SumPairRefIdeal.sig) → Buf (Elt Ideal) ℓ) : Prop :=
  ∀ c : Dev Cert.SumPairRefIdeal.nD,
    (Cert.Pre_named.fn (F := Ideal) (m ((c.tc : Thread Cert.SumPairRefIdeal.nD Cert.SumPairRefIdeal.τ).loc Cert.SumPairRefIdeal.main_arg0)) (m ((c.tc : Thread Cert.SumPairRefIdeal.nD Cert.SumPairRefIdeal.τ).loc Cert.SumPairRefIdeal.main_arg1)) (m ((c.tc : Thread Cert.SumPairRefIdeal.nD Cert.SumPairRefIdeal.τ).loc Cert.SumPairRefIdeal.main_arg2))) = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_Total (m : (ℓ : Loc Cert.Total.nD Cert.Total.τ Cert.Total.sig) → Buf (Elt Bits) ℓ) : Prop :=
  True

def Pre_TotalIdeal (m : (ℓ : Loc Cert.TotalIdeal.nD Cert.TotalIdeal.τ Cert.TotalIdeal.sig) → Buf (Elt Ideal) ℓ) : Prop :=
  True

def Pre_TotalRefIdeal (m : (ℓ : Loc Cert.TotalRefIdeal.nD Cert.TotalRefIdeal.τ Cert.TotalRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfUp (m : (ℓ : Loc Cert.FfUp.nD Cert.FfUp.τ Cert.FfUp.sig) → Buf (Elt Bits) ℓ) : Prop :=
  True

def Pre_FfUpIdeal (m : (ℓ : Loc Cert.FfUpIdeal.nD Cert.FfUpIdeal.τ Cert.FfUpIdeal.sig) → Buf (Elt Ideal) ℓ) : Prop :=
  True

def Pre_FfUpRefIdeal (m : (ℓ : Loc Cert.FfUpRefIdeal.nD Cert.FfUpRefIdeal.τ Cert.FfUpRefIdeal.sig) → Buf (Elt Ideal) ℓ) : Prop :=
  True

def Pre_FfBack (m : (ℓ : Loc Cert.FfBack.nD Cert.FfBack.τ Cert.FfBack.sig) → Buf (Elt Bits) ℓ) : Prop :=
  True

def Pre_FfBackIdeal (m : (ℓ : Loc Cert.FfBackIdeal.nD Cert.FfBackIdeal.τ Cert.FfBackIdeal.sig) → Buf (Elt Ideal) ℓ) : Prop :=
  True

def Pre_FfBackRefIdeal (m : (ℓ : Loc Cert.FfBackRefIdeal.nD Cert.FfBackRefIdeal.τ Cert.FfBackRefIdeal.sig) → Buf (Elt Ideal) ℓ) : Prop :=
  True

def Pre_OutBack (m : (ℓ : Loc Cert.OutBack.nD Cert.OutBack.τ Cert.OutBack.sig) → Buf (Elt Bits) ℓ) : Prop :=
  True

def Pre_OutBackIdeal (m : (ℓ : Loc Cert.OutBackIdeal.nD Cert.OutBackIdeal.τ Cert.OutBackIdeal.sig) → Buf (Elt Ideal) ℓ) : Prop :=
  True

def Pre_OutBackRefIdeal (m : (ℓ : Loc Cert.OutBackRefIdeal.nD Cert.OutBackRefIdeal.τ Cert.OutBackRefIdeal.sig) → Buf (Elt Ideal) ℓ) : Prop :=
  True

def Pre_UpBack (m : (ℓ : Loc Cert.UpBack.nD Cert.UpBack.τ Cert.UpBack.sig) → Buf (Elt Bits) ℓ) : Prop :=
  True

def Pre_UpBackIdeal (m : (ℓ : Loc Cert.UpBackIdeal.nD Cert.UpBackIdeal.τ Cert.UpBackIdeal.sig) → Buf (Elt Ideal) ℓ) : Prop :=
  True

def Pre_UpBackRefIdeal (m : (ℓ : Loc Cert.UpBackRefIdeal.nD Cert.UpBackRefIdeal.τ Cert.UpBackRefIdeal.sig) → Buf (Elt Ideal) ℓ) : Prop :=
  True

def Pre_UpBackNarrow (m : (ℓ : Loc Cert.UpBackNarrow.nD Cert.UpBackNarrow.τ Cert.UpBackNarrow.sig) → Buf (Elt Bits) ℓ) : Prop :=
  True

def Pre_UpBackNarrowIdeal (m : (ℓ : Loc Cert.UpBackNarrowIdeal.nD Cert.UpBackNarrowIdeal.τ Cert.UpBackNarrowIdeal.sig) → Buf (Elt Ideal) ℓ) : Prop :=
  True

def Pre_UpBackNarrowRefIdeal (m : (ℓ : Loc Cert.UpBackNarrowRefIdeal.nD Cert.UpBackNarrowRefIdeal.τ Cert.UpBackNarrowRefIdeal.sig) → Buf (Elt Ideal) ℓ) : Prop :=
  True

def Pre_FfDown (m : (ℓ : Loc Cert.FfDown.nD Cert.FfDown.τ Cert.FfDown.sig) → Buf (Elt Bits) ℓ) : Prop :=
  True

def Pre_FfDownIdeal (m : (ℓ : Loc Cert.FfDownIdeal.nD Cert.FfDownIdeal.τ Cert.FfDownIdeal.sig) → Buf (Elt Ideal) ℓ) : Prop :=
  True

def Pre_FfDownRefIdeal (m : (ℓ : Loc Cert.FfDownRefIdeal.nD Cert.FfDownRefIdeal.τ Cert.FfDownRefIdeal.sig) → Buf (Elt Ideal) ℓ) : Prop :=
  True

def Pre_FfIn (m : (ℓ : Loc Cert.FfIn.nD Cert.FfIn.τ Cert.FfIn.sig) → Buf (Elt Bits) ℓ) : Prop :=
  True

def Pre_FfInIdeal (m : (ℓ : Loc Cert.FfInIdeal.nD Cert.FfInIdeal.τ Cert.FfInIdeal.sig) → Buf (Elt Ideal) ℓ) : Prop :=
  True

def Pre_FfInRefIdeal (m : (ℓ : Loc Cert.FfInRefIdeal.nD Cert.FfInRefIdeal.τ Cert.FfInRefIdeal.sig) → Buf (Elt Ideal) ℓ) : Prop :=
  True

def Pre_InBack (m : (ℓ : Loc Cert.InBack.nD Cert.InBack.τ Cert.InBack.sig) → Buf (Elt Bits) ℓ) : Prop :=
  True

def Pre_InBackIdeal (m : (ℓ : Loc Cert.InBackIdeal.nD Cert.InBackIdeal.τ Cert.InBackIdeal.sig) → Buf (Elt Ideal) ℓ) : Prop :=
  True

def Pre_InBackRefIdeal (m : (ℓ : Loc Cert.InBackRefIdeal.nD Cert.InBackRefIdeal.τ Cert.InBackRefIdeal.sig) → Buf (Elt Ideal) ℓ) : Prop :=
  True

def Pre_GradFf2 (m : (ℓ : Loc Cert.GradFf2.nD Cert.GradFf2.τ Cert.GradFf2.sig) → Buf (Elt Bits) ℓ) : Prop :=
  True

def Pre_GradFf2Ideal (m : (ℓ : Loc Cert.GradFf2Ideal.nD Cert.GradFf2Ideal.τ Cert.GradFf2Ideal.sig) → Buf (Elt Ideal) ℓ) : Prop :=
  True

def Pre_GradFf2RefIdeal (m : (ℓ : Loc Cert.GradFf2RefIdeal.nD Cert.GradFf2RefIdeal.τ Cert.GradFf2RefIdeal.sig) → Buf (Elt Ideal) ℓ) : Prop :=
  True

def Pre_GradFf1 (m : (ℓ : Loc Cert.GradFf1.nD Cert.GradFf1.τ Cert.GradFf1.sig) → Buf (Elt Bits) ℓ) : Prop :=
  True

def Pre_GradFf1Ideal (m : (ℓ : Loc Cert.GradFf1Ideal.nD Cert.GradFf1Ideal.τ Cert.GradFf1Ideal.sig) → Buf (Elt Ideal) ℓ) : Prop :=
  True

def Pre_GradFf1RefIdeal (m : (ℓ : Loc Cert.GradFf1RefIdeal.nD Cert.GradFf1RefIdeal.τ Cert.GradFf1RefIdeal.sig) → Buf (Elt Ideal) ℓ) : Prop :=
  True

def Pre_GradO (m : (ℓ : Loc Cert.GradO.nD Cert.GradO.τ Cert.GradO.sig) → Buf (Elt Bits) ℓ) : Prop :=
  True

def Pre_GradOIdeal (m : (ℓ : Loc Cert.GradOIdeal.nD Cert.GradOIdeal.τ Cert.GradOIdeal.sig) → Buf (Elt Ideal) ℓ) : Prop :=
  True

def Pre_GradORefIdeal (m : (ℓ : Loc Cert.GradORefIdeal.nD Cert.GradORefIdeal.τ Cert.GradORefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_GradUpNarrow (m : (ℓ : Loc Cert.GradUpNarrow.nD Cert.GradUpNarrow.τ Cert.GradUpNarrow.sig) → Buf (Elt Bits) ℓ) : Prop :=
  True

def Pre_GradUpNarrowIdeal (m : (ℓ : Loc Cert.GradUpNarrowIdeal.nD Cert.GradUpNarrowIdeal.τ Cert.GradUpNarrowIdeal.sig) → Buf (Elt Ideal) ℓ) : Prop :=
  True

def Pre_GradUpNarrowRefIdeal (m : (ℓ : Loc Cert.GradUpNarrowRefIdeal.nD Cert.GradUpNarrowRefIdeal.τ Cert.GradUpNarrowRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_weighed [hPre_weighed : Cert.Pre_weighed.Facts] (m : (ℓ : Loc Cert.MixIdeal.nD Cert.MixIdeal.τ Cert.MixIdeal.sig) → Buf (Elt Ideal) ℓ) : Prop :=
  ∀ c : Dev Cert.MixIdeal.nD,
    (Cert.Pre_weighed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_weighed [hPre_weighed : Cert.Pre_weighed.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_weighed.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))) = (fun _ => 1#1)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_Sibling [hSibling : Cert.Sibling.Facts] : Prop :=
  ∀ (m : (ℓ : Loc Cert.Sibling.nD Cert.Sibling.τ Cert.Sibling.sig) → Buf (Elt Bits) ℓ) (g : Dev Cert.Sibling.nD → PrngReg), Pre_Sibling m →
    θ_run (Cert.Sibling.defs (F := Bits)) (onTc (τ := Cert.Sibling.τ) (Cert.Sibling.main (F := Bits))) ⟨m, fun _ => 0, g⟩ (fun r => (∀ c : Dev Cert.Sibling.nD,
      r.2.mem ((c.tc : Thread Cert.Sibling.nD Cert.Sibling.τ).loc Cert.Sibling.main_arg0) = m ((c.tc : Thread Cert.Sibling.nD Cert.Sibling.τ).loc Cert.Sibling.main_arg0)
      ∧ r.2.mem ((c.tc : Thread Cert.Sibling.nD Cert.Sibling.τ).loc Cert.Sibling.main_arg1) = m ((c.tc : Thread Cert.Sibling.nD Cert.Sibling.τ).loc Cert.Sibling.main_arg1))
      ∧ r.2.sem = fun _ => 0)

def quiescent_SiblingIdeal [hSiblingIdeal : Cert.SiblingIdeal.Facts] : Prop :=
  ∀ (m : (ℓ : Loc Cert.SiblingIdeal.nD Cert.SiblingIdeal.τ Cert.SiblingIdeal.sig) → Buf (Elt Ideal) ℓ) (g : Dev Cert.SiblingIdeal.nD → PrngReg), Pre_SiblingIdeal m →
    θ_run (Cert.SiblingIdeal.defs (F := Ideal)) (onTc (τ := Cert.SiblingIdeal.τ) (Cert.SiblingIdeal.main (F := Ideal))) ⟨m, fun _ => 0, g⟩ (fun r => (∀ c : Dev Cert.SiblingIdeal.nD,
      r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0)
      ∧ r.2.mem ((c.tc : Thread Cert.SiblingIdeal.nD Cert.SiblingIdeal.τ).loc Cert.SiblingIdeal.main_arg1) = m ((c.tc : Thread Cert.SiblingIdeal.nD Cert.SiblingIdeal.τ).loc Cert.SiblingIdeal.main_arg1))
      ∧ r.2.sem = fun _ => 0)

def quiescent_SiblingRefIdeal [hSiblingRefIdeal : Cert.SiblingRefIdeal.Facts] : Prop :=
  ∀ (m : (ℓ : Loc Cert.SiblingRefIdeal.nD Cert.SiblingRefIdeal.τ Cert.SiblingRefIdeal.sig) → Buf (Elt Ideal) ℓ) (g : Dev Cert.SiblingRefIdeal.nD → PrngReg), Pre_SiblingRefIdeal m →
    θ_run (Cert.SiblingRefIdeal.defs (F := Ideal)) (onTc (τ := Cert.SiblingRefIdeal.τ) (Cert.SiblingRefIdeal.main (F := Ideal))) ⟨m, fun _ => 0, g⟩ (fun r => (∀ c : Dev Cert.SiblingRefIdeal.nD,
      r.2.mem ((c.tc : Thread Cert.SiblingRefIdeal.nD Cert.SiblingRefIdeal.τ).loc Cert.SiblingRefIdeal.main_arg0) = m ((c.tc : Thread Cert.SiblingRefIdeal.nD Cert.SiblingRefIdeal.τ).loc Cert.SiblingRefIdeal.main_arg0)
      ∧ r.2.mem ((c.tc : Thread Cert.SiblingRefIdeal.nD Cert.SiblingRefIdeal.τ).loc Cert.SiblingRefIdeal.main_arg1) = m ((c.tc : Thread Cert.SiblingRefIdeal.nD Cert.SiblingRefIdeal.τ).loc Cert.SiblingRefIdeal.main_arg1))
      ∧ r.2.sem = fun _ => 0)

def quiescent_SiblingRef [hSiblingRef : Cert.SiblingRef.Facts] : Prop :=
  ∀ (m : (ℓ : Loc Cert.SiblingRef.nD Cert.SiblingRef.τ Cert.SiblingRef.sig) → Buf (Elt Bits) ℓ) (g : Dev Cert.SiblingRef.nD → PrngReg), Pre_SiblingRef m →
    θ_run (Cert.SiblingRef.defs (F := Bits)) (onTc (τ := Cert.SiblingRef.τ) (Cert.SiblingRef.main (F := Bits))) ⟨m, fun _ => 0, g⟩ (fun r => (∀ c : Dev Cert.SiblingRef.nD,
      r.2.mem ((c.tc : Thread Cert.SiblingRef.nD Cert.SiblingRef.τ).loc Cert.SiblingRef.main_arg0) = m ((c.tc : Thread Cert.SiblingRef.nD Cert.SiblingRef.τ).loc Cert.SiblingRef.main_arg0)
      ∧ r.2.mem ((c.tc : Thread Cert.SiblingRef.nD Cert.SiblingRef.τ).loc Cert.SiblingRef.main_arg1) = m ((c.tc : Thread Cert.SiblingRef.nD Cert.SiblingRef.τ).loc Cert.SiblingRef.main_arg1))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0)
      ∧ r.2.mem ((c.tc : Thread Cert.Chips.nD Cert.Chips.τ).loc Cert.Chips.main_arg1) = m ((c.tc : Thread Cert.Chips.nD Cert.Chips.τ).loc Cert.Chips.main_arg1))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
      ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0)
      ∧ r.2.mem ((c.tc : Thread Cert.ChipsRefIdeal.nD Cert.ChipsRefIdeal.τ).loc Cert.ChipsRefIdeal.main_arg1) = m ((c.tc : Thread Cert.ChipsRefIdeal.nD Cert.ChipsRefIdeal.τ).loc Cert.ChipsRefIdeal.main_arg1))
      ∧ r.2.sem = fun _ => 0)

def quiescent_ChipsRef [hChipsRef : Cert.ChipsRef.Facts] : Prop :=
  ∀ (m : (ℓ : Loc Cert.ChipsRef.nD Cert.ChipsRef.τ Cert.ChipsRef.sig) → Buf (Elt Bits) ℓ) (g : Dev Cert.ChipsRef.nD → PrngReg), Pre_ChipsRef m →
    θ_run (Cert.ChipsRef.defs (F := Bits)) (onTc (τ := Cert.ChipsRef.τ) (Cert.ChipsRef.main (F := Bits))) ⟨m, fun _ => 0, g⟩ (fun r => (∀ c : Dev Cert.ChipsRef.nD,
      r.2.mem ((c.tc : Thread Cert.ChipsRef.nD Cert.ChipsRef.τ).loc Cert.ChipsRef.main_arg0) = m ((c.tc : Thread Cert.ChipsRef.nD Cert.ChipsRef.τ).loc Cert.ChipsRef.main_arg0)
      ∧ r.2.mem ((c.tc : Thread Cert.ChipsRef.nD Cert.ChipsRef.τ).loc Cert.ChipsRef.main_arg1) = m ((c.tc : Thread Cert.ChipsRef.nD Cert.ChipsRef.τ).loc Cert.ChipsRef.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamPoolUp [hAdamPoolUp : Cert.AdamPoolUp.Facts] : Prop :=
  ∀ (m : (ℓ : Loc Cert.AdamPoolUp.nD Cert.AdamPoolUp.τ Cert.AdamPoolUp.sig) → Buf (Elt Bits) ℓ) (g : Dev Cert.AdamPoolUp.nD → PrngReg), Pre_AdamPoolUp m →
    θ_run (Cert.AdamPoolUp.defs (F := Bits)) (onTc (τ := Cert.AdamPoolUp.τ) (Cert.AdamPoolUp.main (F := Bits))) ⟨m, fun _ => 0, g⟩ (fun r => (∀ c : Dev Cert.AdamPoolUp.nD,
      r.2.mem ((c.tc : Thread Cert.AdamPoolUp.nD Cert.AdamPoolUp.τ).loc Cert.AdamPoolUp.main_arg0) = m ((c.tc : Thread Cert.AdamPoolUp.nD Cert.AdamPoolUp.τ).loc Cert.AdamPoolUp.main_arg0)
      ∧ r.2.mem ((c.tc : Thread Cert.AdamPoolUp.nD Cert.AdamPoolUp.τ).loc Cert.AdamPoolUp.main_arg1) = m ((c.tc : Thread Cert.AdamPoolUp.nD Cert.AdamPoolUp.τ).loc Cert.AdamPoolUp.main_arg1)
      ∧ r.2.mem ((c.tc : Thread Cert.AdamPoolUp.nD Cert.AdamPoolUp.τ).loc Cert.AdamPoolUp.main_arg2) = m ((c.tc : Thread Cert.AdamPoolUp.nD Cert.AdamPoolUp.τ).loc Cert.AdamPoolUp.main_arg2)
      ∧ r.2.mem ((c.tc : Thread Cert.AdamPoolUp.nD Cert.AdamPoolUp.τ).loc Cert.AdamPoolUp.main_arg3) = m ((c.tc : Thread Cert.AdamPoolUp.nD Cert.AdamPoolUp.τ).loc Cert.AdamPoolUp.main_arg3))
      ∧ r.2.sem = fun _ => 0)

def quiescent_AdamPoolUpIdeal [hAdamPoolUpIdeal : Cert.AdamPoolUpIdeal.Facts] : Prop :=
  ∀ (m : (ℓ : Loc Cert.AdamPoolUpIdeal.nD Cert.AdamPoolUpIdeal.τ Cert.AdamPoolUpIdeal.sig) → Buf (Elt Ideal) ℓ) (g : Dev Cert.AdamPoolUpIdeal.nD → PrngReg), Pre_AdamPoolUpIdeal m →
    θ_run (Cert.AdamPoolUpIdeal.defs (F := Ideal)) (onTc (τ := Cert.AdamPoolUpIdeal.τ) (Cert.AdamPoolUpIdeal.main (F := Ideal))) ⟨m, fun _ => 0, g⟩ (fun r => (∀ c : Dev Cert.AdamPoolUpIdeal.nD,
      r.2.mem ((c.tc : Thread Cert.AdamPoolUpIdeal.nD Cert.AdamPoolUpIdeal.τ).loc Cert.AdamPoolUpIdeal.main_arg0) = m ((c.tc : Thread Cert.AdamPoolUpIdeal.nD Cert.AdamPoolUpIdeal.τ).loc Cert.AdamPoolUpIdeal.main_arg0)
      ∧ r.2.mem ((c.tc : Thread Cert.AdamPoolUpIdeal.nD Cert.AdamPoolUpIdeal.τ).loc Cert.AdamPoolUpIdeal.main_arg1) = m ((c.tc : Thread Cert.AdamPoolUpIdeal.nD Cert.AdamPoolUpIdeal.τ).loc Cert.AdamPoolUpIdeal.main_arg1)
      ∧ r.2.mem ((c.tc : Thread Cert.AdamPoolUpIdeal.nD Cert.AdamPoolUpIdeal.τ).loc Cert.AdamPoolUpIdeal.main_arg2) = m ((c.tc : Thread Cert.AdamPoolUpIdeal.nD Cert.AdamPoolUpIdeal.τ).loc Cert.AdamPoolUpIdeal.main_arg2)
      ∧ r.2.mem ((c.tc : Thread Cert.AdamPoolUpIdeal.nD Cert.AdamPoolUpIdeal.τ).loc Cert.AdamPoolUpIdeal.main_arg3) = m ((c.tc : Thread Cert.AdamPoolUpIdeal.nD Cert.AdamPoolUpIdeal.τ).loc Cert.AdamPoolUpIdeal.main_arg3))
      ∧ r.2.sem = fun _ => 0)

def quiescent_AdamPoolUpRefIdeal [hAdamPoolUpRefIdeal : Cert.AdamPoolUpRefIdeal.Facts] : Prop :=
  ∀ (m : (ℓ : Loc Cert.AdamPoolUpRefIdeal.nD Cert.AdamPoolUpRefIdeal.τ Cert.AdamPoolUpRefIdeal.sig) → Buf (Elt Ideal) ℓ) (g : Dev Cert.AdamPoolUpRefIdeal.nD → PrngReg), Pre_AdamPoolUpRefIdeal m →
    θ_run (Cert.AdamPoolUpRefIdeal.defs (F := Ideal)) (onTc (τ := Cert.AdamPoolUpRefIdeal.τ) (Cert.AdamPoolUpRefIdeal.main (F := Ideal))) ⟨m, fun _ => 0, g⟩ (fun r => (∀ c : Dev Cert.AdamPoolUpRefIdeal.nD,
      r.2.mem ((c.tc : Thread Cert.AdamPoolUpRefIdeal.nD Cert.AdamPoolUpRefIdeal.τ).loc Cert.AdamPoolUpRefIdeal.main_arg0) = m ((c.tc : Thread Cert.AdamPoolUpRefIdeal.nD Cert.AdamPoolUpRefIdeal.τ).loc Cert.AdamPoolUpRefIdeal.main_arg0)
      ∧ r.2.mem ((c.tc : Thread Cert.AdamPoolUpRefIdeal.nD Cert.AdamPoolUpRefIdeal.τ).loc Cert.AdamPoolUpRefIdeal.main_arg1) = m ((c.tc : Thread Cert.AdamPoolUpRefIdeal.nD Cert.AdamPoolUpRefIdeal.τ).loc Cert.AdamPoolUpRefIdeal.main_arg1)
      ∧ r.2.mem ((c.tc : Thread Cert.AdamPoolUpRefIdeal.nD Cert.AdamPoolUpRefIdeal.τ).loc Cert.AdamPoolUpRefIdeal.main_arg2) = m ((c.tc : Thread Cert.AdamPoolUpRefIdeal.nD Cert.AdamPoolUpRefIdeal.τ).loc Cert.AdamPoolUpRefIdeal.main_arg2)
      ∧ r.2.mem ((c.tc : Thread Cert.AdamPoolUpRefIdeal.nD Cert.AdamPoolUpRefIdeal.τ).loc Cert.AdamPoolUpRefIdeal.main_arg3) = m ((c.tc : Thread Cert.AdamPoolUpRefIdeal.nD Cert.AdamPoolUpRefIdeal.τ).loc Cert.AdamPoolUpRefIdeal.main_arg3))
      ∧ r.2.sem = fun _ => 0)

def quiescent_AdamConvOut [hAdamConvOut : Cert.AdamConvOut.Facts] : Prop :=
  ∀ (m : (ℓ : Loc Cert.AdamConvOut.nD Cert.AdamConvOut.τ Cert.AdamConvOut.sig) → Buf (Elt Bits) ℓ) (g : Dev Cert.AdamConvOut.nD → PrngReg), Pre_AdamConvOut m →
    θ_run (Cert.AdamConvOut.defs (F := Bits)) (onTc (τ := Cert.AdamConvOut.τ) (Cert.AdamConvOut.main (F := Bits))) ⟨m, fun _ => 0, g⟩ (fun r => (∀ c : Dev Cert.AdamConvOut.nD,
      r.2.mem ((c.tc : Thread Cert.AdamConvOut.nD Cert.AdamConvOut.τ).loc Cert.AdamConvOut.main_arg0) = m ((c.tc : Thread Cert.AdamConvOut.nD Cert.AdamConvOut.τ).loc Cert.AdamConvOut.main_arg0)
      ∧ r.2.mem ((c.tc : Thread Cert.AdamConvOut.nD Cert.AdamConvOut.τ).loc Cert.AdamConvOut.main_arg1) = m ((c.tc : Thread Cert.AdamConvOut.nD Cert.AdamConvOut.τ).loc Cert.AdamConvOut.main_arg1)
      ∧ r.2.mem ((c.tc : Thread Cert.AdamConvOut.nD Cert.AdamConvOut.τ).loc Cert.AdamConvOut.main_arg2) = m ((c.tc : Thread Cert.AdamConvOut.nD Cert.AdamConvOut.τ).loc Cert.AdamConvOut.main_arg2)
      ∧ r.2.mem ((c.tc : Thread Cert.AdamConvOut.nD Cert.AdamConvOut.τ).loc Cert.AdamConvOut.main_arg3) = m ((c.tc : Thread Cert.AdamConvOut.nD Cert.AdamConvOut.τ).loc Cert.AdamConvOut.main_arg3))
      ∧ r.2.sem = fun _ => 0)

def quiescent_AdamConvOutIdeal [hAdamConvOutIdeal : Cert.AdamConvOutIdeal.Facts] : Prop :=
  ∀ (m : (ℓ : Loc Cert.AdamConvOutIdeal.nD Cert.AdamConvOutIdeal.τ Cert.AdamConvOutIdeal.sig) → Buf (Elt Ideal) ℓ) (g : Dev Cert.AdamConvOutIdeal.nD → PrngReg), Pre_AdamConvOutIdeal m →
    θ_run (Cert.AdamConvOutIdeal.defs (F := Ideal)) (onTc (τ := Cert.AdamConvOutIdeal.τ) (Cert.AdamConvOutIdeal.main (F := Ideal))) ⟨m, fun _ => 0, g⟩ (fun r => (∀ c : Dev Cert.AdamConvOutIdeal.nD,
      r.2.mem ((c.tc : Thread Cert.AdamConvOutIdeal.nD Cert.AdamConvOutIdeal.τ).loc Cert.AdamConvOutIdeal.main_arg0) = m ((c.tc : Thread Cert.AdamConvOutIdeal.nD Cert.AdamConvOutIdeal.τ).loc Cert.AdamConvOutIdeal.main_arg0)
      ∧ r.2.mem ((c.tc : Thread Cert.AdamConvOutIdeal.nD Cert.AdamConvOutIdeal.τ).loc Cert.AdamConvOutIdeal.main_arg1) = m ((c.tc : Thread Cert.AdamConvOutIdeal.nD Cert.AdamConvOutIdeal.τ).loc Cert.AdamConvOutIdeal.main_arg1)
      ∧ r.2.mem ((c.tc : Thread Cert.AdamConvOutIdeal.nD Cert.AdamConvOutIdeal.τ).loc Cert.AdamConvOutIdeal.main_arg2) = m ((c.tc : Thread Cert.AdamConvOutIdeal.nD Cert.AdamConvOutIdeal.τ).loc Cert.AdamConvOutIdeal.main_arg2)
      ∧ r.2.mem ((c.tc : Thread Cert.AdamConvOutIdeal.nD Cert.AdamConvOutIdeal.τ).loc Cert.AdamConvOutIdeal.main_arg3) = m ((c.tc : Thread Cert.AdamConvOutIdeal.nD Cert.AdamConvOutIdeal.τ).loc Cert.AdamConvOutIdeal.main_arg3))
      ∧ r.2.sem = fun _ => 0)

def quiescent_AdamConvOutRefIdeal [hAdamConvOutRefIdeal : Cert.AdamConvOutRefIdeal.Facts] : Prop :=
  ∀ (m : (ℓ : Loc Cert.AdamConvOutRefIdeal.nD Cert.AdamConvOutRefIdeal.τ Cert.AdamConvOutRefIdeal.sig) → Buf (Elt Ideal) ℓ) (g : Dev Cert.AdamConvOutRefIdeal.nD → PrngReg), Pre_AdamConvOutRefIdeal m →
    θ_run (Cert.AdamConvOutRefIdeal.defs (F := Ideal)) (onTc (τ := Cert.AdamConvOutRefIdeal.τ) (Cert.AdamConvOutRefIdeal.main (F := Ideal))) ⟨m, fun _ => 0, g⟩ (fun r => (∀ c : Dev Cert.AdamConvOutRefIdeal.nD,
      r.2.mem ((c.tc : Thread Cert.AdamConvOutRefIdeal.nD Cert.AdamConvOutRefIdeal.τ).loc Cert.AdamConvOutRefIdeal.main_arg0) = m ((c.tc : Thread Cert.AdamConvOutRefIdeal.nD Cert.AdamConvOutRefIdeal.τ).loc Cert.AdamConvOutRefIdeal.main_arg0)
      ∧ r.2.mem ((c.tc : Thread Cert.AdamConvOutRefIdeal.nD Cert.AdamConvOutRefIdeal.τ).loc Cert.AdamConvOutRefIdeal.main_arg1) = m ((c.tc : Thread Cert.AdamConvOutRefIdeal.nD Cert.AdamConvOutRefIdeal.τ).loc Cert.AdamConvOutRefIdeal.main_arg1)
      ∧ r.2.mem ((c.tc : Thread Cert.AdamConvOutRefIdeal.nD Cert.AdamConvOutRefIdeal.τ).loc Cert.AdamConvOutRefIdeal.main_arg2) = m ((c.tc : Thread Cert.AdamConvOutRefIdeal.nD Cert.AdamConvOutRefIdeal.τ).loc Cert.AdamConvOutRefIdeal.main_arg2)
      ∧ r.2.mem ((c.tc : Thread Cert.AdamConvOutRefIdeal.nD Cert.AdamConvOutRefIdeal.τ).loc Cert.AdamConvOutRefIdeal.main_arg3) = m ((c.tc : Thread Cert.AdamConvOutRefIdeal.nD Cert.AdamConvOutRefIdeal.τ).loc Cert.AdamConvOutRefIdeal.main_arg3))
      ∧ r.2.sem = fun _ => 0)

def quiescent_AdamAttnUp [hAdamAttnUp : Cert.AdamAttnUp.Facts] : Prop :=
  ∀ (m : (ℓ : Loc Cert.AdamAttnUp.nD Cert.AdamAttnUp.τ Cert.AdamAttnUp.sig) → Buf (Elt Bits) ℓ) (g : Dev Cert.AdamAttnUp.nD → PrngReg), Pre_AdamAttnUp m →
    θ_run (Cert.AdamAttnUp.defs (F := Bits)) (onTc (τ := Cert.AdamAttnUp.τ) (Cert.AdamAttnUp.main (F := Bits))) ⟨m, fun _ => 0, g⟩ (fun r => (∀ c : Dev Cert.AdamAttnUp.nD,
      r.2.mem ((c.tc : Thread Cert.AdamAttnUp.nD Cert.AdamAttnUp.τ).loc Cert.AdamAttnUp.main_arg0) = m ((c.tc : Thread Cert.AdamAttnUp.nD Cert.AdamAttnUp.τ).loc Cert.AdamAttnUp.main_arg0)
      ∧ r.2.mem ((c.tc : Thread Cert.AdamAttnUp.nD Cert.AdamAttnUp.τ).loc Cert.AdamAttnUp.main_arg1) = m ((c.tc : Thread Cert.AdamAttnUp.nD Cert.AdamAttnUp.τ).loc Cert.AdamAttnUp.main_arg1)
      ∧ r.2.mem ((c.tc : Thread Cert.AdamAttnUp.nD Cert.AdamAttnUp.τ).loc Cert.AdamAttnUp.main_arg2) = m ((c.tc : Thread Cert.AdamAttnUp.nD Cert.AdamAttnUp.τ).loc Cert.AdamAttnUp.main_arg2)
      ∧ r.2.mem ((c.tc : Thread Cert.AdamAttnUp.nD Cert.AdamAttnUp.τ).loc Cert.AdamAttnUp.main_arg3) = m ((c.tc : Thread Cert.AdamAttnUp.nD Cert.AdamAttnUp.τ).loc Cert.AdamAttnUp.main_arg3))
      ∧ r.2.sem = fun _ => 0)

def quiescent_AdamAttnUpIdeal [hAdamAttnUpIdeal : Cert.AdamAttnUpIdeal.Facts] : Prop :=
  ∀ (m : (ℓ : Loc Cert.AdamAttnUpIdeal.nD Cert.AdamAttnUpIdeal.τ Cert.AdamAttnUpIdeal.sig) → Buf (Elt Ideal) ℓ) (g : Dev Cert.AdamAttnUpIdeal.nD → PrngReg), Pre_AdamAttnUpIdeal m →
    θ_run (Cert.AdamAttnUpIdeal.defs (F := Ideal)) (onTc (τ := Cert.AdamAttnUpIdeal.τ) (Cert.AdamAttnUpIdeal.main (F := Ideal))) ⟨m, fun _ => 0, g⟩ (fun r => (∀ c : Dev Cert.AdamAttnUpIdeal.nD,
      r.2.mem ((c.tc : Thread Cert.AdamAttnUpIdeal.nD Cert.AdamAttnUpIdeal.τ).loc Cert.AdamAttnUpIdeal.main_arg0) = m ((c.tc : Thread Cert.AdamAttnUpIdeal.nD Cert.AdamAttnUpIdeal.τ).loc Cert.AdamAttnUpIdeal.main_arg0)
      ∧ r.2.mem ((c.tc : Thread Cert.AdamAttnUpIdeal.nD Cert.AdamAttnUpIdeal.τ).loc Cert.AdamAttnUpIdeal.main_arg1) = m ((c.tc : Thread Cert.AdamAttnUpIdeal.nD Cert.AdamAttnUpIdeal.τ).loc Cert.AdamAttnUpIdeal.main_arg1)
      ∧ r.2.mem ((c.tc : Thread Cert.AdamAttnUpIdeal.nD Cert.AdamAttnUpIdeal.τ).loc Cert.AdamAttnUpIdeal.main_arg2) = m ((c.tc : Thread Cert.AdamAttnUpIdeal.nD Cert.AdamAttnUpIdeal.τ).loc Cert.AdamAttnUpIdeal.main_arg2)
      ∧ r.2.mem ((c.tc : Thread Cert.AdamAttnUpIdeal.nD Cert.AdamAttnUpIdeal.τ).loc Cert.AdamAttnUpIdeal.main_arg3) = m ((c.tc : Thread Cert.AdamAttnUpIdeal.nD Cert.AdamAttnUpIdeal.τ).loc Cert.AdamAttnUpIdeal.main_arg3))
      ∧ r.2.sem = fun _ => 0)

def quiescent_AdamAttnUpRefIdeal [hAdamAttnUpRefIdeal : Cert.AdamAttnUpRefIdeal.Facts] : Prop :=
  ∀ (m : (ℓ : Loc Cert.AdamAttnUpRefIdeal.nD Cert.AdamAttnUpRefIdeal.τ Cert.AdamAttnUpRefIdeal.sig) → Buf (Elt Ideal) ℓ) (g : Dev Cert.AdamAttnUpRefIdeal.nD → PrngReg), Pre_AdamAttnUpRefIdeal m →
    θ_run (Cert.AdamAttnUpRefIdeal.defs (F := Ideal)) (onTc (τ := Cert.AdamAttnUpRefIdeal.τ) (Cert.AdamAttnUpRefIdeal.main (F := Ideal))) ⟨m, fun _ => 0, g⟩ (fun r => (∀ c : Dev Cert.AdamAttnUpRefIdeal.nD,
      r.2.mem ((c.tc : Thread Cert.AdamAttnUpRefIdeal.nD Cert.AdamAttnUpRefIdeal.τ).loc Cert.AdamAttnUpRefIdeal.main_arg0) = m ((c.tc : Thread Cert.AdamAttnUpRefIdeal.nD Cert.AdamAttnUpRefIdeal.τ).loc Cert.AdamAttnUpRefIdeal.main_arg0)
      ∧ r.2.mem ((c.tc : Thread Cert.AdamAttnUpRefIdeal.nD Cert.AdamAttnUpRefIdeal.τ).loc Cert.AdamAttnUpRefIdeal.main_arg1) = m ((c.tc : Thread Cert.AdamAttnUpRefIdeal.nD Cert.AdamAttnUpRefIdeal.τ).loc Cert.AdamAttnUpRefIdeal.main_arg1)
      ∧ r.2.mem ((c.tc : Thread Cert.AdamAttnUpRefIdeal.nD Cert.AdamAttnUpRefIdeal.τ).loc Cert.AdamAttnUpRefIdeal.main_arg2) = m ((c.tc : Thread Cert.AdamAttnUpRefIdeal.nD Cert.AdamAttnUpRefIdeal.τ).loc Cert.AdamAttnUpRefIdeal.main_arg2)
      ∧ r.2.mem ((c.tc : Thread Cert.AdamAttnUpRefIdeal.nD Cert.AdamAttnUpRefIdeal.τ).loc Cert.AdamAttnUpRefIdeal.main_arg3) = m ((c.tc : Thread Cert.AdamAttnUpRefIdeal.nD Cert.AdamAttnUpRefIdeal.τ).loc Cert.AdamAttnUpRefIdeal.main_arg3))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3))
      ∧ r.2.sem = fun _ => 0)

def quiescent_AdamFf1 [hAdamFf1 : Cert.AdamFf1.Facts] : Prop :=
  ∀ (m : (ℓ : Loc Cert.AdamFf1.nD Cert.AdamFf1.τ Cert.AdamFf1.sig) → Buf (Elt Bits) ℓ) (g : Dev Cert.AdamFf1.nD → PrngReg), Pre_AdamFf1 m →
    θ_run (Cert.AdamFf1.defs (F := Bits)) (onTc (τ := Cert.AdamFf1.τ) (Cert.AdamFf1.main (F := Bits))) ⟨m, fun _ => 0, g⟩ (fun r => (∀ c : Dev Cert.AdamFf1.nD,
      r.2.mem ((c.tc : Thread Cert.AdamFf1.nD Cert.AdamFf1.τ).loc Cert.AdamFf1.main_arg0) = m ((c.tc : Thread Cert.AdamFf1.nD Cert.AdamFf1.τ).loc Cert.AdamFf1.main_arg0)
      ∧ r.2.mem ((c.tc : Thread Cert.AdamFf1.nD Cert.AdamFf1.τ).loc Cert.AdamFf1.main_arg1) = m ((c.tc : Thread Cert.AdamFf1.nD Cert.AdamFf1.τ).loc Cert.AdamFf1.main_arg1)
      ∧ r.2.mem ((c.tc : Thread Cert.AdamFf1.nD Cert.AdamFf1.τ).loc Cert.AdamFf1.main_arg2) = m ((c.tc : Thread Cert.AdamFf1.nD Cert.AdamFf1.τ).loc Cert.AdamFf1.main_arg2)
      ∧ r.2.mem ((c.tc : Thread Cert.AdamFf1.nD Cert.AdamFf1.τ).loc Cert.AdamFf1.main_arg3) = m ((c.tc : Thread Cert.AdamFf1.nD Cert.AdamFf1.τ).loc Cert.AdamFf1.main_arg3))
      ∧ r.2.sem = fun _ => 0)

def quiescent_AdamFf1Ideal [hAdamFf1Ideal : Cert.AdamFf1Ideal.Facts] : Prop :=
  ∀ (m : (ℓ : Loc Cert.AdamFf1Ideal.nD Cert.AdamFf1Ideal.τ Cert.AdamFf1Ideal.sig) → Buf (Elt Ideal) ℓ) (g : Dev Cert.AdamFf1Ideal.nD → PrngReg), Pre_AdamFf1Ideal m →
    θ_run (Cert.AdamFf1Ideal.defs (F := Ideal)) (onTc (τ := Cert.AdamFf1Ideal.τ) (Cert.AdamFf1Ideal.main (F := Ideal))) ⟨m, fun _ => 0, g⟩ (fun r => (∀ c : Dev Cert.AdamFf1Ideal.nD,
      r.2.mem ((c.tc : Thread Cert.AdamFf1Ideal.nD Cert.AdamFf1Ideal.τ).loc Cert.AdamFf1Ideal.main_arg0) = m ((c.tc : Thread Cert.AdamFf1Ideal.nD Cert.AdamFf1Ideal.τ).loc Cert.AdamFf1Ideal.main_arg0)
      ∧ r.2.mem ((c.tc : Thread Cert.AdamFf1Ideal.nD Cert.AdamFf1Ideal.τ).loc Cert.AdamFf1Ideal.main_arg1) = m ((c.tc : Thread Cert.AdamFf1Ideal.nD Cert.AdamFf1Ideal.τ).loc Cert.AdamFf1Ideal.main_arg1)
      ∧ r.2.mem ((c.tc : Thread Cert.AdamFf1Ideal.nD Cert.AdamFf1Ideal.τ).loc Cert.AdamFf1Ideal.main_arg2) = m ((c.tc : Thread Cert.AdamFf1Ideal.nD Cert.AdamFf1Ideal.τ).loc Cert.AdamFf1Ideal.main_arg2)
      ∧ r.2.mem ((c.tc : Thread Cert.AdamFf1Ideal.nD Cert.AdamFf1Ideal.τ).loc Cert.AdamFf1Ideal.main_arg3) = m ((c.tc : Thread Cert.AdamFf1Ideal.nD Cert.AdamFf1Ideal.τ).loc Cert.AdamFf1Ideal.main_arg3))
      ∧ r.2.sem = fun _ => 0)

def quiescent_AdamFf1RefIdeal [hAdamFf1RefIdeal : Cert.AdamFf1RefIdeal.Facts] : Prop :=
  ∀ (m : (ℓ : Loc Cert.AdamFf1RefIdeal.nD Cert.AdamFf1RefIdeal.τ Cert.AdamFf1RefIdeal.sig) → Buf (Elt Ideal) ℓ) (g : Dev Cert.AdamFf1RefIdeal.nD → PrngReg), Pre_AdamFf1RefIdeal m →
    θ_run (Cert.AdamFf1RefIdeal.defs (F := Ideal)) (onTc (τ := Cert.AdamFf1RefIdeal.τ) (Cert.AdamFf1RefIdeal.main (F := Ideal))) ⟨m, fun _ => 0, g⟩ (fun r => (∀ c : Dev Cert.AdamFf1RefIdeal.nD,
      r.2.mem ((c.tc : Thread Cert.AdamFf1RefIdeal.nD Cert.AdamFf1RefIdeal.τ).loc Cert.AdamFf1RefIdeal.main_arg0) = m ((c.tc : Thread Cert.AdamFf1RefIdeal.nD Cert.AdamFf1RefIdeal.τ).loc Cert.AdamFf1RefIdeal.main_arg0)
      ∧ r.2.mem ((c.tc : Thread Cert.AdamFf1RefIdeal.nD Cert.AdamFf1RefIdeal.τ).loc Cert.AdamFf1RefIdeal.main_arg1) = m ((c.tc : Thread Cert.AdamFf1RefIdeal.nD Cert.AdamFf1RefIdeal.τ).loc Cert.AdamFf1RefIdeal.main_arg1)
      ∧ r.2.mem ((c.tc : Thread Cert.AdamFf1RefIdeal.nD Cert.AdamFf1RefIdeal.τ).loc Cert.AdamFf1RefIdeal.main_arg2) = m ((c.tc : Thread Cert.AdamFf1RefIdeal.nD Cert.AdamFf1RefIdeal.τ).loc Cert.AdamFf1RefIdeal.main_arg2)
      ∧ r.2.mem ((c.tc : Thread Cert.AdamFf1RefIdeal.nD Cert.AdamFf1RefIdeal.τ).loc Cert.AdamFf1RefIdeal.main_arg3) = m ((c.tc : Thread Cert.AdamFf1RefIdeal.nD Cert.AdamFf1RefIdeal.τ).loc Cert.AdamFf1RefIdeal.main_arg3))
      ∧ r.2.sem = fun _ => 0)

def quiescent_AdamFf2 [hAdamFf2 : Cert.AdamFf2.Facts] : Prop :=
  ∀ (m : (ℓ : Loc Cert.AdamFf2.nD Cert.AdamFf2.τ Cert.AdamFf2.sig) → Buf (Elt Bits) ℓ) (g : Dev Cert.AdamFf2.nD → PrngReg), Pre_AdamFf2 m →
    θ_run (Cert.AdamFf2.defs (F := Bits)) (onTc (τ := Cert.AdamFf2.τ) (Cert.AdamFf2.main (F := Bits))) ⟨m, fun _ => 0, g⟩ (fun r => (∀ c : Dev Cert.AdamFf2.nD,
      r.2.mem ((c.tc : Thread Cert.AdamFf2.nD Cert.AdamFf2.τ).loc Cert.AdamFf2.main_arg0) = m ((c.tc : Thread Cert.AdamFf2.nD Cert.AdamFf2.τ).loc Cert.AdamFf2.main_arg0)
      ∧ r.2.mem ((c.tc : Thread Cert.AdamFf2.nD Cert.AdamFf2.τ).loc Cert.AdamFf2.main_arg1) = m ((c.tc : Thread Cert.AdamFf2.nD Cert.AdamFf2.τ).loc Cert.AdamFf2.main_arg1)
      ∧ r.2.mem ((c.tc : Thread Cert.AdamFf2.nD Cert.AdamFf2.τ).loc Cert.AdamFf2.main_arg2) = m ((c.tc : Thread Cert.AdamFf2.nD Cert.AdamFf2.τ).loc Cert.AdamFf2.main_arg2)
      ∧ r.2.mem ((c.tc : Thread Cert.AdamFf2.nD Cert.AdamFf2.τ).loc Cert.AdamFf2.main_arg3) = m ((c.tc : Thread Cert.AdamFf2.nD Cert.AdamFf2.τ).loc Cert.AdamFf2.main_arg3))
      ∧ r.2.sem = fun _ => 0)

def quiescent_AdamFf2Ideal [hAdamFf2Ideal : Cert.AdamFf2Ideal.Facts] : Prop :=
  ∀ (m : (ℓ : Loc Cert.AdamFf2Ideal.nD Cert.AdamFf2Ideal.τ Cert.AdamFf2Ideal.sig) → Buf (Elt Ideal) ℓ) (g : Dev Cert.AdamFf2Ideal.nD → PrngReg), Pre_AdamFf2Ideal m →
    θ_run (Cert.AdamFf2Ideal.defs (F := Ideal)) (onTc (τ := Cert.AdamFf2Ideal.τ) (Cert.AdamFf2Ideal.main (F := Ideal))) ⟨m, fun _ => 0, g⟩ (fun r => (∀ c : Dev Cert.AdamFf2Ideal.nD,
      r.2.mem ((c.tc : Thread Cert.AdamFf2Ideal.nD Cert.AdamFf2Ideal.τ).loc Cert.AdamFf2Ideal.main_arg0) = m ((c.tc : Thread Cert.AdamFf2Ideal.nD Cert.AdamFf2Ideal.τ).loc Cert.AdamFf2Ideal.main_arg0)
      ∧ r.2.mem ((c.tc : Thread Cert.AdamFf2Ideal.nD Cert.AdamFf2Ideal.τ).loc Cert.AdamFf2Ideal.main_arg1) = m ((c.tc : Thread Cert.AdamFf2Ideal.nD Cert.AdamFf2Ideal.τ).loc Cert.AdamFf2Ideal.main_arg1)
      ∧ r.2.mem ((c.tc : Thread Cert.AdamFf2Ideal.nD Cert.AdamFf2Ideal.τ).loc Cert.AdamFf2Ideal.main_arg2) = m ((c.tc : Thread Cert.AdamFf2Ideal.nD Cert.AdamFf2Ideal.τ).loc Cert.AdamFf2Ideal.main_arg2)
      ∧ r.2.mem ((c.tc : Thread Cert.AdamFf2Ideal.nD Cert.AdamFf2Ideal.τ).loc Cert.AdamFf2Ideal.main_arg3) = m ((c.tc : Thread Cert.AdamFf2Ideal.nD Cert.AdamFf2Ideal.τ).loc Cert.AdamFf2Ideal.main_arg3))
      ∧ r.2.sem = fun _ => 0)

def quiescent_AdamFf2RefIdeal [hAdamFf2RefIdeal : Cert.AdamFf2RefIdeal.Facts] : Prop :=
  ∀ (m : (ℓ : Loc Cert.AdamFf2RefIdeal.nD Cert.AdamFf2RefIdeal.τ Cert.AdamFf2RefIdeal.sig) → Buf (Elt Ideal) ℓ) (g : Dev Cert.AdamFf2RefIdeal.nD → PrngReg), Pre_AdamFf2RefIdeal m →
    θ_run (Cert.AdamFf2RefIdeal.defs (F := Ideal)) (onTc (τ := Cert.AdamFf2RefIdeal.τ) (Cert.AdamFf2RefIdeal.main (F := Ideal))) ⟨m, fun _ => 0, g⟩ (fun r => (∀ c : Dev Cert.AdamFf2RefIdeal.nD,
      r.2.mem ((c.tc : Thread Cert.AdamFf2RefIdeal.nD Cert.AdamFf2RefIdeal.τ).loc Cert.AdamFf2RefIdeal.main_arg0) = m ((c.tc : Thread Cert.AdamFf2RefIdeal.nD Cert.AdamFf2RefIdeal.τ).loc Cert.AdamFf2RefIdeal.main_arg0)
      ∧ r.2.mem ((c.tc : Thread Cert.AdamFf2RefIdeal.nD Cert.AdamFf2RefIdeal.τ).loc Cert.AdamFf2RefIdeal.main_arg1) = m ((c.tc : Thread Cert.AdamFf2RefIdeal.nD Cert.AdamFf2RefIdeal.τ).loc Cert.AdamFf2RefIdeal.main_arg1)
      ∧ r.2.mem ((c.tc : Thread Cert.AdamFf2RefIdeal.nD Cert.AdamFf2RefIdeal.τ).loc Cert.AdamFf2RefIdeal.main_arg2) = m ((c.tc : Thread Cert.AdamFf2RefIdeal.nD Cert.AdamFf2RefIdeal.τ).loc Cert.AdamFf2RefIdeal.main_arg2)
      ∧ r.2.mem ((c.tc : Thread Cert.AdamFf2RefIdeal.nD Cert.AdamFf2RefIdeal.τ).loc Cert.AdamFf2RefIdeal.main_arg3) = m ((c.tc : Thread Cert.AdamFf2RefIdeal.nD Cert.AdamFf2RefIdeal.τ).loc Cert.AdamFf2RefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumTwo [hSumTwo : Cert.SumTwo.Facts] : Prop :=
  ∀ (m : (ℓ : Loc Cert.SumTwo.nD Cert.SumTwo.τ Cert.SumTwo.sig) → Buf (Elt Bits) ℓ) (g : Dev Cert.SumTwo.nD → PrngReg), Pre_SumTwo m →
    θ_run (Cert.SumTwo.defs (F := Bits)) (onTc (τ := Cert.SumTwo.τ) (Cert.SumTwo.main (F := Bits))) ⟨m, fun _ => 0, g⟩ (fun r => (∀ c : Dev Cert.SumTwo.nD,
      r.2.mem ((c.tc : Thread Cert.SumTwo.nD Cert.SumTwo.τ).loc Cert.SumTwo.main_arg0) = m ((c.tc : Thread Cert.SumTwo.nD Cert.SumTwo.τ).loc Cert.SumTwo.main_arg0)
      ∧ r.2.mem ((c.tc : Thread Cert.SumTwo.nD Cert.SumTwo.τ).loc Cert.SumTwo.main_arg1) = m ((c.tc : Thread Cert.SumTwo.nD Cert.SumTwo.τ).loc Cert.SumTwo.main_arg1))
      ∧ r.2.sem = fun _ => 0)

def quiescent_SumTwoIdeal [hSumTwoIdeal : Cert.SumTwoIdeal.Facts] : Prop :=
  ∀ (m : (ℓ : Loc Cert.SumTwoIdeal.nD Cert.SumTwoIdeal.τ Cert.SumTwoIdeal.sig) → Buf (Elt Ideal) ℓ) (g : Dev Cert.SumTwoIdeal.nD → PrngReg), Pre_SumTwoIdeal m →
    θ_run (Cert.SumTwoIdeal.defs (F := Ideal)) (onTc (τ := Cert.SumTwoIdeal.τ) (Cert.SumTwoIdeal.main (F := Ideal))) ⟨m, fun _ => 0, g⟩ (fun r => (∀ c : Dev Cert.SumTwoIdeal.nD,
      r.2.mem ((c.tc : Thread Cert.SumTwoIdeal.nD Cert.SumTwoIdeal.τ).loc Cert.SumTwoIdeal.main_arg0) = m ((c.tc : Thread Cert.SumTwoIdeal.nD Cert.SumTwoIdeal.τ).loc Cert.SumTwoIdeal.main_arg0)
      ∧ r.2.mem ((c.tc : Thread Cert.SumTwoIdeal.nD Cert.SumTwoIdeal.τ).loc Cert.SumTwoIdeal.main_arg1) = m ((c.tc : Thread Cert.SumTwoIdeal.nD Cert.SumTwoIdeal.τ).loc Cert.SumTwoIdeal.main_arg1))
      ∧ r.2.sem = fun _ => 0)

def quiescent_SumTwoRefIdeal [hSumTwoRefIdeal : Cert.SumTwoRefIdeal.Facts] : Prop :=
  ∀ (m : (ℓ : Loc Cert.SumTwoRefIdeal.nD Cert.SumTwoRefIdeal.τ Cert.SumTwoRefIdeal.sig) → Buf (Elt Ideal) ℓ) (g : Dev Cert.SumTwoRefIdeal.nD → PrngReg), Pre_SumTwoRefIdeal m →
    θ_run (Cert.SumTwoRefIdeal.defs (F := Ideal)) (onTc (τ := Cert.SumTwoRefIdeal.τ) (Cert.SumTwoRefIdeal.main (F := Ideal))) ⟨m, fun _ => 0, g⟩ (fun r => (∀ c : Dev Cert.SumTwoRefIdeal.nD,
      r.2.mem ((c.tc : Thread Cert.SumTwoRefIdeal.nD Cert.SumTwoRefIdeal.τ).loc Cert.SumTwoRefIdeal.main_arg0) = m ((c.tc : Thread Cert.SumTwoRefIdeal.nD Cert.SumTwoRefIdeal.τ).loc Cert.SumTwoRefIdeal.main_arg0)
      ∧ r.2.mem ((c.tc : Thread Cert.SumTwoRefIdeal.nD Cert.SumTwoRefIdeal.τ).loc Cert.SumTwoRefIdeal.main_arg1) = m ((c.tc : Thread Cert.SumTwoRefIdeal.nD Cert.SumTwoRefIdeal.τ).loc Cert.SumTwoRefIdeal.main_arg1))
      ∧ r.2.sem = fun _ => 0)

def quiescent_SumBig [hSumBig : Cert.SumBig.Facts] : Prop :=
  ∀ (m : (ℓ : Loc Cert.SumBig.nD Cert.SumBig.τ Cert.SumBig.sig) → Buf (Elt Bits) ℓ) (g : Dev Cert.SumBig.nD → PrngReg), Pre_SumBig m →
    θ_run (Cert.SumBig.defs (F := Bits)) (onTc (τ := Cert.SumBig.τ) (Cert.SumBig.main (F := Bits))) ⟨m, fun _ => 0, g⟩ (fun r => (∀ c : Dev Cert.SumBig.nD,
      r.2.mem ((c.tc : Thread Cert.SumBig.nD Cert.SumBig.τ).loc Cert.SumBig.main_arg0) = m ((c.tc : Thread Cert.SumBig.nD Cert.SumBig.τ).loc Cert.SumBig.main_arg0)
      ∧ r.2.mem ((c.tc : Thread Cert.SumBig.nD Cert.SumBig.τ).loc Cert.SumBig.main_arg1) = m ((c.tc : Thread Cert.SumBig.nD Cert.SumBig.τ).loc Cert.SumBig.main_arg1)
      ∧ r.2.mem ((c.tc : Thread Cert.SumBig.nD Cert.SumBig.τ).loc Cert.SumBig.main_arg2) = m ((c.tc : Thread Cert.SumBig.nD Cert.SumBig.τ).loc Cert.SumBig.main_arg2))
      ∧ r.2.sem = fun _ => 0)

def quiescent_SumBigIdeal [hSumBigIdeal : Cert.SumBigIdeal.Facts] : Prop :=
  ∀ (m : (ℓ : Loc Cert.SumBigIdeal.nD Cert.SumBigIdeal.τ Cert.SumBigIdeal.sig) → Buf (Elt Ideal) ℓ) (g : Dev Cert.SumBigIdeal.nD → PrngReg), Pre_SumBigIdeal m →
    θ_run (Cert.SumBigIdeal.defs (F := Ideal)) (onTc (τ := Cert.SumBigIdeal.τ) (Cert.SumBigIdeal.main (F := Ideal))) ⟨m, fun _ => 0, g⟩ (fun r => (∀ c : Dev Cert.SumBigIdeal.nD,
      r.2.mem ((c.tc : Thread Cert.SumBigIdeal.nD Cert.SumBigIdeal.τ).loc Cert.SumBigIdeal.main_arg0) = m ((c.tc : Thread Cert.SumBigIdeal.nD Cert.SumBigIdeal.τ).loc Cert.SumBigIdeal.main_arg0)
      ∧ r.2.mem ((c.tc : Thread Cert.SumBigIdeal.nD Cert.SumBigIdeal.τ).loc Cert.SumBigIdeal.main_arg1) = m ((c.tc : Thread Cert.SumBigIdeal.nD Cert.SumBigIdeal.τ).loc Cert.SumBigIdeal.main_arg1)
      ∧ r.2.mem ((c.tc : Thread Cert.SumBigIdeal.nD Cert.SumBigIdeal.τ).loc Cert.SumBigIdeal.main_arg2) = m ((c.tc : Thread Cert.SumBigIdeal.nD Cert.SumBigIdeal.τ).loc Cert.SumBigIdeal.main_arg2))
      ∧ r.2.sem = fun _ => 0)

def quiescent_SumBigRefIdeal [hSumBigRefIdeal : Cert.SumBigRefIdeal.Facts] : Prop :=
  ∀ (m : (ℓ : Loc Cert.SumBigRefIdeal.nD Cert.SumBigRefIdeal.τ Cert.SumBigRefIdeal.sig) → Buf (Elt Ideal) ℓ) (g : Dev Cert.SumBigRefIdeal.nD → PrngReg), Pre_SumBigRefIdeal m →
    θ_run (Cert.SumBigRefIdeal.defs (F := Ideal)) (onTc (τ := Cert.SumBigRefIdeal.τ) (Cert.SumBigRefIdeal.main (F := Ideal))) ⟨m, fun _ => 0, g⟩ (fun r => (∀ c : Dev Cert.SumBigRefIdeal.nD,
      r.2.mem ((c.tc : Thread Cert.SumBigRefIdeal.nD Cert.SumBigRefIdeal.τ).loc Cert.SumBigRefIdeal.main_arg0) = m ((c.tc : Thread Cert.SumBigRefIdeal.nD Cert.SumBigRefIdeal.τ).loc Cert.SumBigRefIdeal.main_arg0)
      ∧ r.2.mem ((c.tc : Thread Cert.SumBigRefIdeal.nD Cert.SumBigRefIdeal.τ).loc Cert.SumBigRefIdeal.main_arg1) = m ((c.tc : Thread Cert.SumBigRefIdeal.nD Cert.SumBigRefIdeal.τ).loc Cert.SumBigRefIdeal.main_arg1)
      ∧ r.2.mem ((c.tc : Thread Cert.SumBigRefIdeal.nD Cert.SumBigRefIdeal.τ).loc Cert.SumBigRefIdeal.main_arg2) = m ((c.tc : Thread Cert.SumBigRefIdeal.nD Cert.SumBigRefIdeal.τ).loc Cert.SumBigRefIdeal.main_arg2))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1)
      ∧ r.2.mem ((c.tc : Thread Cert.SumSmall.nD Cert.SumSmall.τ).loc Cert.SumSmall.main_arg2) = m ((c.tc : Thread Cert.SumSmall.nD Cert.SumSmall.τ).loc Cert.SumSmall.main_arg2))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
      ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0)
      ∧ r.2.mem ((c.tc : Thread Cert.SumSmallRefIdeal.nD Cert.SumSmallRefIdeal.τ).loc Cert.SumSmallRefIdeal.main_arg1) = m ((c.tc : Thread Cert.SumSmallRefIdeal.nD Cert.SumSmallRefIdeal.τ).loc Cert.SumSmallRefIdeal.main_arg1)
      ∧ r.2.mem ((c.tc : Thread Cert.SumSmallRefIdeal.nD Cert.SumSmallRefIdeal.τ).loc Cert.SumSmallRefIdeal.main_arg2) = m ((c.tc : Thread Cert.SumSmallRefIdeal.nD Cert.SumSmallRefIdeal.τ).loc Cert.SumSmallRefIdeal.main_arg2))
      ∧ r.2.sem = fun _ => 0)

def quiescent_SumTwoRef [hSumTwoRef : Cert.SumTwoRef.Facts] : Prop :=
  ∀ (m : (ℓ : Loc Cert.SumTwoRef.nD Cert.SumTwoRef.τ Cert.SumTwoRef.sig) → Buf (Elt Bits) ℓ) (g : Dev Cert.SumTwoRef.nD → PrngReg), Pre_SumTwoRef m →
    θ_run (Cert.SumTwoRef.defs (F := Bits)) (onTc (τ := Cert.SumTwoRef.τ) (Cert.SumTwoRef.main (F := Bits))) ⟨m, fun _ => 0, g⟩ (fun r => (∀ c : Dev Cert.SumTwoRef.nD,
      r.2.mem ((c.tc : Thread Cert.SumTwoRef.nD Cert.SumTwoRef.τ).loc Cert.SumTwoRef.main_arg0) = m ((c.tc : Thread Cert.SumTwoRef.nD Cert.SumTwoRef.τ).loc Cert.SumTwoRef.main_arg0)
      ∧ r.2.mem ((c.tc : Thread Cert.SumTwoRef.nD Cert.SumTwoRef.τ).loc Cert.SumTwoRef.main_arg1) = m ((c.tc : Thread Cert.SumTwoRef.nD Cert.SumTwoRef.τ).loc Cert.SumTwoRef.main_arg1))
      ∧ r.2.sem = fun _ => 0)

def quiescent_SumPair [hSumPair : Cert.SumPair.Facts] [hPre_named : Cert.Pre_named.Facts] : Prop :=
  ∀ (m : (ℓ : Loc Cert.SumPair.nD Cert.SumPair.τ Cert.SumPair.sig) → Buf (Elt Bits) ℓ) (g : Dev Cert.SumPair.nD → PrngReg), Pre_SumPair m →
    θ_run (Cert.SumPair.defs (F := Bits)) (onTc (τ := Cert.SumPair.τ) (Cert.SumPair.main (F := Bits))) ⟨m, fun _ => 0, g⟩ (fun r => (∀ c : Dev Cert.SumPair.nD,
      r.2.mem ((c.tc : Thread Cert.SumPair.nD Cert.SumPair.τ).loc Cert.SumPair.main_arg0) = m ((c.tc : Thread Cert.SumPair.nD Cert.SumPair.τ).loc Cert.SumPair.main_arg0)
      ∧ r.2.mem ((c.tc : Thread Cert.SumPair.nD Cert.SumPair.τ).loc Cert.SumPair.main_arg1) = m ((c.tc : Thread Cert.SumPair.nD Cert.SumPair.τ).loc Cert.SumPair.main_arg1)
      ∧ r.2.mem ((c.tc : Thread Cert.SumPair.nD Cert.SumPair.τ).loc Cert.SumPair.main_arg2) = m ((c.tc : Thread Cert.SumPair.nD Cert.SumPair.τ).loc Cert.SumPair.main_arg2))
      ∧ r.2.sem = fun _ => 0)

def quiescent_SumPairIdeal [hSumPairIdeal : Cert.SumPairIdeal.Facts] [hPre_named : Cert.Pre_named.Facts] : Prop :=
  ∀ (m : (ℓ : Loc Cert.SumPairIdeal.nD Cert.SumPairIdeal.τ Cert.SumPairIdeal.sig) → Buf (Elt Ideal) ℓ) (g : Dev Cert.SumPairIdeal.nD → PrngReg), Pre_SumPairIdeal m →
    θ_run (Cert.SumPairIdeal.defs (F := Ideal)) (onTc (τ := Cert.SumPairIdeal.τ) (Cert.SumPairIdeal.main (F := Ideal))) ⟨m, fun _ => 0, g⟩ (fun r => (∀ c : Dev Cert.SumPairIdeal.nD,
      r.2.mem ((c.tc : Thread Cert.SumPairIdeal.nD Cert.SumPairIdeal.τ).loc Cert.SumPairIdeal.main_arg0) = m ((c.tc : Thread Cert.SumPairIdeal.nD Cert.SumPairIdeal.τ).loc Cert.SumPairIdeal.main_arg0)
      ∧ r.2.mem ((c.tc : Thread Cert.SumPairIdeal.nD Cert.SumPairIdeal.τ).loc Cert.SumPairIdeal.main_arg1) = m ((c.tc : Thread Cert.SumPairIdeal.nD Cert.SumPairIdeal.τ).loc Cert.SumPairIdeal.main_arg1)
      ∧ r.2.mem ((c.tc : Thread Cert.SumPairIdeal.nD Cert.SumPairIdeal.τ).loc Cert.SumPairIdeal.main_arg2) = m ((c.tc : Thread Cert.SumPairIdeal.nD Cert.SumPairIdeal.τ).loc Cert.SumPairIdeal.main_arg2))
      ∧ r.2.sem = fun _ => 0)

def quiescent_SumPairRefIdeal [hSumPairRefIdeal : Cert.SumPairRefIdeal.Facts] : Prop :=
  ∀ (m : (ℓ : Loc Cert.SumPairRefIdeal.nD Cert.SumPairRefIdeal.τ Cert.SumPairRefIdeal.sig) → Buf (Elt Ideal) ℓ) (g : Dev Cert.SumPairRefIdeal.nD → PrngReg), Pre_SumPairRefIdeal m →
    θ_run (Cert.SumPairRefIdeal.defs (F := Ideal)) (onTc (τ := Cert.SumPairRefIdeal.τ) (Cert.SumPairRefIdeal.main (F := Ideal))) ⟨m, fun _ => 0, g⟩ (fun r => (∀ c : Dev Cert.SumPairRefIdeal.nD,
      r.2.mem ((c.tc : Thread Cert.SumPairRefIdeal.nD Cert.SumPairRefIdeal.τ).loc Cert.SumPairRefIdeal.main_arg0) = m ((c.tc : Thread Cert.SumPairRefIdeal.nD Cert.SumPairRefIdeal.τ).loc Cert.SumPairRefIdeal.main_arg0)
      ∧ r.2.mem ((c.tc : Thread Cert.SumPairRefIdeal.nD Cert.SumPairRefIdeal.τ).loc Cert.SumPairRefIdeal.main_arg1) = m ((c.tc : Thread Cert.SumPairRefIdeal.nD Cert.SumPairRefIdeal.τ).loc Cert.SumPairRefIdeal.main_arg1)
      ∧ r.2.mem ((c.tc : Thread Cert.SumPairRefIdeal.nD Cert.SumPairRefIdeal.τ).loc Cert.SumPairRefIdeal.main_arg2) = m ((c.tc : Thread Cert.SumPairRefIdeal.nD Cert.SumPairRefIdeal.τ).loc Cert.SumPairRefIdeal.main_arg2))
      ∧ r.2.sem = fun _ => 0)

def quiescent_SumPairRefIdeal_pre_named [hSumPairRefIdeal : Cert.SumPairRefIdeal.Facts] [hPre_named : Cert.Pre_named.Facts] : Prop :=
  ∀ (m : (ℓ : Loc Cert.SumPairRefIdeal.nD Cert.SumPairRefIdeal.τ Cert.SumPairRefIdeal.sig) → Buf (Elt Ideal) ℓ) (g : Dev Cert.SumPairRefIdeal.nD → PrngReg), Pre_SumPairRefIdeal_named m →
    θ_run (Cert.SumPairRefIdeal.defs (F := Ideal)) (onTc (τ := Cert.SumPairRefIdeal.τ) (Cert.SumPairRefIdeal.main (F := Ideal))) ⟨m, fun _ => 0, g⟩ (fun r => (∀ c : Dev Cert.SumPairRefIdeal.nD,
      r.2.mem ((c.tc : Thread Cert.SumPairRefIdeal.nD Cert.SumPairRefIdeal.τ).loc Cert.SumPairRefIdeal.main_arg0) = m ((c.tc : Thread Cert.SumPairRefIdeal.nD Cert.SumPairRefIdeal.τ).loc Cert.SumPairRefIdeal.main_arg0)
      ∧ r.2.mem ((c.tc : Thread Cert.SumPairRefIdeal.nD Cert.SumPairRefIdeal.τ).loc Cert.SumPairRefIdeal.main_arg1) = m ((c.tc : Thread Cert.SumPairRefIdeal.nD Cert.SumPairRefIdeal.τ).loc Cert.SumPairRefIdeal.main_arg1)
      ∧ r.2.mem ((c.tc : Thread Cert.SumPairRefIdeal.nD Cert.SumPairRefIdeal.τ).loc Cert.SumPairRefIdeal.main_arg2) = m ((c.tc : Thread Cert.SumPairRefIdeal.nD Cert.SumPairRefIdeal.τ).loc Cert.SumPairRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_Total [hTotal : Cert.Total.Facts] : Prop :=
  ∀ (m : (ℓ : Loc Cert.Total.nD Cert.Total.τ Cert.Total.sig) → Buf (Elt Bits) ℓ) (g : Dev Cert.Total.nD → PrngReg), Pre_Total m →
    θ_run (Cert.Total.defs (F := Bits)) (onTc (τ := Cert.Total.τ) (Cert.Total.main (F := Bits))) ⟨m, fun _ => 0, g⟩ (fun r => (∀ c : Dev Cert.Total.nD,
      r.2.mem ((c.tc : Thread Cert.Total.nD Cert.Total.τ).loc Cert.Total.main_arg0) = m ((c.tc : Thread Cert.Total.nD Cert.Total.τ).loc Cert.Total.main_arg0)
      ∧ r.2.mem ((c.tc : Thread Cert.Total.nD Cert.Total.τ).loc Cert.Total.main_arg1) = m ((c.tc : Thread Cert.Total.nD Cert.Total.τ).loc Cert.Total.main_arg1))
      ∧ r.2.sem = fun _ => 0)

def quiescent_TotalIdeal [hTotalIdeal : Cert.TotalIdeal.Facts] : Prop :=
  ∀ (m : (ℓ : Loc Cert.TotalIdeal.nD Cert.TotalIdeal.τ Cert.TotalIdeal.sig) → Buf (Elt Ideal) ℓ) (g : Dev Cert.TotalIdeal.nD → PrngReg), Pre_TotalIdeal m →
    θ_run (Cert.TotalIdeal.defs (F := Ideal)) (onTc (τ := Cert.TotalIdeal.τ) (Cert.TotalIdeal.main (F := Ideal))) ⟨m, fun _ => 0, g⟩ (fun r => (∀ c : Dev Cert.TotalIdeal.nD,
      r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0)
      ∧ r.2.mem ((c.tc : Thread Cert.TotalIdeal.nD Cert.TotalIdeal.τ).loc Cert.TotalIdeal.main_arg1) = m ((c.tc : Thread Cert.TotalIdeal.nD Cert.TotalIdeal.τ).loc Cert.TotalIdeal.main_arg1))
      ∧ r.2.sem = fun _ => 0)

def quiescent_TotalRefIdeal [hTotalRefIdeal : Cert.TotalRefIdeal.Facts] : Prop :=
  ∀ (m : (ℓ : Loc Cert.TotalRefIdeal.nD Cert.TotalRefIdeal.τ Cert.TotalRefIdeal.sig) → Buf (Elt Ideal) ℓ) (g : Dev Cert.TotalRefIdeal.nD → PrngReg), Pre_TotalRefIdeal m →
    θ_run (Cert.TotalRefIdeal.defs (F := Ideal)) (onTc (τ := Cert.TotalRefIdeal.τ) (Cert.TotalRefIdeal.main (F := Ideal))) ⟨m, fun _ => 0, g⟩ (fun r => (∀ c : Dev Cert.TotalRefIdeal.nD,
      r.2.mem ((c.tc : Thread Cert.TotalRefIdeal.nD Cert.TotalRefIdeal.τ).loc Cert.TotalRefIdeal.main_arg0) = m ((c.tc : Thread Cert.TotalRefIdeal.nD Cert.TotalRefIdeal.τ).loc Cert.TotalRefIdeal.main_arg0)
      ∧ r.2.mem ((c.tc : Thread Cert.TotalRefIdeal.nD Cert.TotalRefIdeal.τ).loc Cert.TotalRefIdeal.main_arg1) = m ((c.tc : Thread Cert.TotalRefIdeal.nD Cert.TotalRefIdeal.τ).loc Cert.TotalRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_FfUp [hFfUp : Cert.FfUp.Facts] : Prop :=
  ∀ (m : (ℓ : Loc Cert.FfUp.nD Cert.FfUp.τ Cert.FfUp.sig) → Buf (Elt Bits) ℓ) (g : Dev Cert.FfUp.nD → PrngReg), Pre_FfUp m →
    θ_run (Cert.FfUp.defs (F := Bits)) (onTc (τ := Cert.FfUp.τ) (Cert.FfUp.main (F := Bits))) ⟨m, fun _ => 0, g⟩ (fun r => (∀ c : Dev Cert.FfUp.nD,
      r.2.mem ((c.tc : Thread Cert.FfUp.nD Cert.FfUp.τ).loc Cert.FfUp.main_arg0) = m ((c.tc : Thread Cert.FfUp.nD Cert.FfUp.τ).loc Cert.FfUp.main_arg0)
      ∧ r.2.mem ((c.tc : Thread Cert.FfUp.nD Cert.FfUp.τ).loc Cert.FfUp.main_arg1) = m ((c.tc : Thread Cert.FfUp.nD Cert.FfUp.τ).loc Cert.FfUp.main_arg1))
      ∧ r.2.sem = fun _ => 0)

def quiescent_FfUpIdeal [hFfUpIdeal : Cert.FfUpIdeal.Facts] : Prop :=
  ∀ (m : (ℓ : Loc Cert.FfUpIdeal.nD Cert.FfUpIdeal.τ Cert.FfUpIdeal.sig) → Buf (Elt Ideal) ℓ) (g : Dev Cert.FfUpIdeal.nD → PrngReg), Pre_FfUpIdeal m →
    θ_run (Cert.FfUpIdeal.defs (F := Ideal)) (onTc (τ := Cert.FfUpIdeal.τ) (Cert.FfUpIdeal.main (F := Ideal))) ⟨m, fun _ => 0, g⟩ (fun r => (∀ c : Dev Cert.FfUpIdeal.nD,
      r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
      ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1))
      ∧ r.2.sem = fun _ => 0)

def quiescent_FfUpRefIdeal [hFfUpRefIdeal : Cert.FfUpRefIdeal.Facts] : Prop :=
  ∀ (m : (ℓ : Loc Cert.FfUpRefIdeal.nD Cert.FfUpRefIdeal.τ Cert.FfUpRefIdeal.sig) → Buf (Elt Ideal) ℓ) (g : Dev Cert.FfUpRefIdeal.nD → PrngReg), Pre_FfUpRefIdeal m →
    θ_run (Cert.FfUpRefIdeal.defs (F := Ideal)) (onTc (τ := Cert.FfUpRefIdeal.τ) (Cert.FfUpRefIdeal.main (F := Ideal))) ⟨m, fun _ => 0, g⟩ (fun r => (∀ c : Dev Cert.FfUpRefIdeal.nD,
      r.2.mem ((c.tc : Thread Cert.FfUpRefIdeal.nD Cert.FfUpRefIdeal.τ).loc Cert.FfUpRefIdeal.main_arg0) = m ((c.tc : Thread Cert.FfUpRefIdeal.nD Cert.FfUpRefIdeal.τ).loc Cert.FfUpRefIdeal.main_arg0)
      ∧ r.2.mem ((c.tc : Thread Cert.FfUpRefIdeal.nD Cert.FfUpRefIdeal.τ).loc Cert.FfUpRefIdeal.main_arg1) = m ((c.tc : Thread Cert.FfUpRefIdeal.nD Cert.FfUpRefIdeal.τ).loc Cert.FfUpRefIdeal.main_arg1))
      ∧ r.2.sem = fun _ => 0)

def quiescent_FfBack [hFfBack : Cert.FfBack.Facts] : Prop :=
  ∀ (m : (ℓ : Loc Cert.FfBack.nD Cert.FfBack.τ Cert.FfBack.sig) → Buf (Elt Bits) ℓ) (g : Dev Cert.FfBack.nD → PrngReg), Pre_FfBack m →
    θ_run (Cert.FfBack.defs (F := Bits)) (onTc (τ := Cert.FfBack.τ) (Cert.FfBack.main (F := Bits))) ⟨m, fun _ => 0, g⟩ (fun r => (∀ c : Dev Cert.FfBack.nD,
      r.2.mem ((c.tc : Thread Cert.FfBack.nD Cert.FfBack.τ).loc Cert.FfBack.main_arg0) = m ((c.tc : Thread Cert.FfBack.nD Cert.FfBack.τ).loc Cert.FfBack.main_arg0)
      ∧ r.2.mem ((c.tc : Thread Cert.FfBack.nD Cert.FfBack.τ).loc Cert.FfBack.main_arg1) = m ((c.tc : Thread Cert.FfBack.nD Cert.FfBack.τ).loc Cert.FfBack.main_arg1)
      ∧ r.2.mem ((c.tc : Thread Cert.FfBack.nD Cert.FfBack.τ).loc Cert.FfBack.main_arg2) = m ((c.tc : Thread Cert.FfBack.nD Cert.FfBack.τ).loc Cert.FfBack.main_arg2))
      ∧ r.2.sem = fun _ => 0)

def quiescent_FfBackIdeal [hFfBackIdeal : Cert.FfBackIdeal.Facts] : Prop :=
  ∀ (m : (ℓ : Loc Cert.FfBackIdeal.nD Cert.FfBackIdeal.τ Cert.FfBackIdeal.sig) → Buf (Elt Ideal) ℓ) (g : Dev Cert.FfBackIdeal.nD → PrngReg), Pre_FfBackIdeal m →
    θ_run (Cert.FfBackIdeal.defs (F := Ideal)) (onTc (τ := Cert.FfBackIdeal.τ) (Cert.FfBackIdeal.main (F := Ideal))) ⟨m, fun _ => 0, g⟩ (fun r => (∀ c : Dev Cert.FfBackIdeal.nD,
      r.2.mem ((c.tc : Thread Cert.FfBackIdeal.nD Cert.FfBackIdeal.τ).loc Cert.FfBackIdeal.main_arg0) = m ((c.tc : Thread Cert.FfBackIdeal.nD Cert.FfBackIdeal.τ).loc Cert.FfBackIdeal.main_arg0)
      ∧ r.2.mem ((c.tc : Thread Cert.FfBackIdeal.nD Cert.FfBackIdeal.τ).loc Cert.FfBackIdeal.main_arg1) = m ((c.tc : Thread Cert.FfBackIdeal.nD Cert.FfBackIdeal.τ).loc Cert.FfBackIdeal.main_arg1)
      ∧ r.2.mem ((c.tc : Thread Cert.FfBackIdeal.nD Cert.FfBackIdeal.τ).loc Cert.FfBackIdeal.main_arg2) = m ((c.tc : Thread Cert.FfBackIdeal.nD Cert.FfBackIdeal.τ).loc Cert.FfBackIdeal.main_arg2))
      ∧ r.2.sem = fun _ => 0)

def quiescent_FfBackRefIdeal [hFfBackRefIdeal : Cert.FfBackRefIdeal.Facts] : Prop :=
  ∀ (m : (ℓ : Loc Cert.FfBackRefIdeal.nD Cert.FfBackRefIdeal.τ Cert.FfBackRefIdeal.sig) → Buf (Elt Ideal) ℓ) (g : Dev Cert.FfBackRefIdeal.nD → PrngReg), Pre_FfBackRefIdeal m →
    θ_run (Cert.FfBackRefIdeal.defs (F := Ideal)) (onTc (τ := Cert.FfBackRefIdeal.τ) (Cert.FfBackRefIdeal.main (F := Ideal))) ⟨m, fun _ => 0, g⟩ (fun r => (∀ c : Dev Cert.FfBackRefIdeal.nD,
      r.2.mem ((c.tc : Thread Cert.FfBackRefIdeal.nD Cert.FfBackRefIdeal.τ).loc Cert.FfBackRefIdeal.main_arg0) = m ((c.tc : Thread Cert.FfBackRefIdeal.nD Cert.FfBackRefIdeal.τ).loc Cert.FfBackRefIdeal.main_arg0)
      ∧ r.2.mem ((c.tc : Thread Cert.FfBackRefIdeal.nD Cert.FfBackRefIdeal.τ).loc Cert.FfBackRefIdeal.main_arg1) = m ((c.tc : Thread Cert.FfBackRefIdeal.nD Cert.FfBackRefIdeal.τ).loc Cert.FfBackRefIdeal.main_arg1)
      ∧ r.2.mem ((c.tc : Thread Cert.FfBackRefIdeal.nD Cert.FfBackRefIdeal.τ).loc Cert.FfBackRefIdeal.main_arg2) = m ((c.tc : Thread Cert.FfBackRefIdeal.nD Cert.FfBackRefIdeal.τ).loc Cert.FfBackRefIdeal.main_arg2))
      ∧ r.2.sem = fun _ => 0)

def quiescent_OutBack [hOutBack : Cert.OutBack.Facts] : Prop :=
  ∀ (m : (ℓ : Loc Cert.OutBack.nD Cert.OutBack.τ Cert.OutBack.sig) → Buf (Elt Bits) ℓ) (g : Dev Cert.OutBack.nD → PrngReg), Pre_OutBack m →
    θ_run (Cert.OutBack.defs (F := Bits)) (onTc (τ := Cert.OutBack.τ) (Cert.OutBack.main (F := Bits))) ⟨m, fun _ => 0, g⟩ (fun r => (∀ c : Dev Cert.OutBack.nD,
      r.2.mem ((c.tc : Thread Cert.OutBack.nD Cert.OutBack.τ).loc Cert.OutBack.main_arg0) = m ((c.tc : Thread Cert.OutBack.nD Cert.OutBack.τ).loc Cert.OutBack.main_arg0)
      ∧ r.2.mem ((c.tc : Thread Cert.OutBack.nD Cert.OutBack.τ).loc Cert.OutBack.main_arg1) = m ((c.tc : Thread Cert.OutBack.nD Cert.OutBack.τ).loc Cert.OutBack.main_arg1))
      ∧ r.2.sem = fun _ => 0)

def quiescent_OutBackIdeal [hOutBackIdeal : Cert.OutBackIdeal.Facts] : Prop :=
  ∀ (m : (ℓ : Loc Cert.OutBackIdeal.nD Cert.OutBackIdeal.τ Cert.OutBackIdeal.sig) → Buf (Elt Ideal) ℓ) (g : Dev Cert.OutBackIdeal.nD → PrngReg), Pre_OutBackIdeal m →
    θ_run (Cert.OutBackIdeal.defs (F := Ideal)) (onTc (τ := Cert.OutBackIdeal.τ) (Cert.OutBackIdeal.main (F := Ideal))) ⟨m, fun _ => 0, g⟩ (fun r => (∀ c : Dev Cert.OutBackIdeal.nD,
      r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
      ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1))
      ∧ r.2.sem = fun _ => 0)

def quiescent_OutBackRefIdeal [hOutBackRefIdeal : Cert.OutBackRefIdeal.Facts] : Prop :=
  ∀ (m : (ℓ : Loc Cert.OutBackRefIdeal.nD Cert.OutBackRefIdeal.τ Cert.OutBackRefIdeal.sig) → Buf (Elt Ideal) ℓ) (g : Dev Cert.OutBackRefIdeal.nD → PrngReg), Pre_OutBackRefIdeal m →
    θ_run (Cert.OutBackRefIdeal.defs (F := Ideal)) (onTc (τ := Cert.OutBackRefIdeal.τ) (Cert.OutBackRefIdeal.main (F := Ideal))) ⟨m, fun _ => 0, g⟩ (fun r => (∀ c : Dev Cert.OutBackRefIdeal.nD,
      r.2.mem ((c.tc : Thread Cert.OutBackRefIdeal.nD Cert.OutBackRefIdeal.τ).loc Cert.OutBackRefIdeal.main_arg0) = m ((c.tc : Thread Cert.OutBackRefIdeal.nD Cert.OutBackRefIdeal.τ).loc Cert.OutBackRefIdeal.main_arg0)
      ∧ r.2.mem ((c.tc : Thread Cert.OutBackRefIdeal.nD Cert.OutBackRefIdeal.τ).loc Cert.OutBackRefIdeal.main_arg1) = m ((c.tc : Thread Cert.OutBackRefIdeal.nD Cert.OutBackRefIdeal.τ).loc Cert.OutBackRefIdeal.main_arg1))
      ∧ r.2.sem = fun _ => 0)

def quiescent_UpBack [hUpBack : Cert.UpBack.Facts] : Prop :=
  ∀ (m : (ℓ : Loc Cert.UpBack.nD Cert.UpBack.τ Cert.UpBack.sig) → Buf (Elt Bits) ℓ) (g : Dev Cert.UpBack.nD → PrngReg), Pre_UpBack m →
    θ_run (Cert.UpBack.defs (F := Bits)) (onTc (τ := Cert.UpBack.τ) (Cert.UpBack.main (F := Bits))) ⟨m, fun _ => 0, g⟩ (fun r => (∀ c : Dev Cert.UpBack.nD,
      r.2.mem ((c.tc : Thread Cert.UpBack.nD Cert.UpBack.τ).loc Cert.UpBack.main_arg0) = m ((c.tc : Thread Cert.UpBack.nD Cert.UpBack.τ).loc Cert.UpBack.main_arg0)
      ∧ r.2.mem ((c.tc : Thread Cert.UpBack.nD Cert.UpBack.τ).loc Cert.UpBack.main_arg1) = m ((c.tc : Thread Cert.UpBack.nD Cert.UpBack.τ).loc Cert.UpBack.main_arg1))
      ∧ r.2.sem = fun _ => 0)

def quiescent_UpBackIdeal [hUpBackIdeal : Cert.UpBackIdeal.Facts] : Prop :=
  ∀ (m : (ℓ : Loc Cert.UpBackIdeal.nD Cert.UpBackIdeal.τ Cert.UpBackIdeal.sig) → Buf (Elt Ideal) ℓ) (g : Dev Cert.UpBackIdeal.nD → PrngReg), Pre_UpBackIdeal m →
    θ_run (Cert.UpBackIdeal.defs (F := Ideal)) (onTc (τ := Cert.UpBackIdeal.τ) (Cert.UpBackIdeal.main (F := Ideal))) ⟨m, fun _ => 0, g⟩ (fun r => (∀ c : Dev Cert.UpBackIdeal.nD,
      r.2.mem ((c.tc : Thread Cert.UpBackIdeal.nD Cert.UpBackIdeal.τ).loc Cert.UpBackIdeal.main_arg0) = m ((c.tc : Thread Cert.UpBackIdeal.nD Cert.UpBackIdeal.τ).loc Cert.UpBackIdeal.main_arg0)
      ∧ r.2.mem ((c.tc : Thread Cert.UpBackIdeal.nD Cert.UpBackIdeal.τ).loc Cert.UpBackIdeal.main_arg1) = m ((c.tc : Thread Cert.UpBackIdeal.nD Cert.UpBackIdeal.τ).loc Cert.UpBackIdeal.main_arg1))
      ∧ r.2.sem = fun _ => 0)

def quiescent_UpBackRefIdeal [hUpBackRefIdeal : Cert.UpBackRefIdeal.Facts] : Prop :=
  ∀ (m : (ℓ : Loc Cert.UpBackRefIdeal.nD Cert.UpBackRefIdeal.τ Cert.UpBackRefIdeal.sig) → Buf (Elt Ideal) ℓ) (g : Dev Cert.UpBackRefIdeal.nD → PrngReg), Pre_UpBackRefIdeal m →
    θ_run (Cert.UpBackRefIdeal.defs (F := Ideal)) (onTc (τ := Cert.UpBackRefIdeal.τ) (Cert.UpBackRefIdeal.main (F := Ideal))) ⟨m, fun _ => 0, g⟩ (fun r => (∀ c : Dev Cert.UpBackRefIdeal.nD,
      r.2.mem ((c.tc : Thread Cert.UpBackRefIdeal.nD Cert.UpBackRefIdeal.τ).loc Cert.UpBackRefIdeal.main_arg0) = m ((c.tc : Thread Cert.UpBackRefIdeal.nD Cert.UpBackRefIdeal.τ).loc Cert.UpBackRefIdeal.main_arg0)
      ∧ r.2.mem ((c.tc : Thread Cert.UpBackRefIdeal.nD Cert.UpBackRefIdeal.τ).loc Cert.UpBackRefIdeal.main_arg1) = m ((c.tc : Thread Cert.UpBackRefIdeal.nD Cert.UpBackRefIdeal.τ).loc Cert.UpBackRefIdeal.main_arg1))
      ∧ r.2.sem = fun _ => 0)

def quiescent_UpBackNarrow [hUpBackNarrow : Cert.UpBackNarrow.Facts] : Prop :=
  ∀ (m : (ℓ : Loc Cert.UpBackNarrow.nD Cert.UpBackNarrow.τ Cert.UpBackNarrow.sig) → Buf (Elt Bits) ℓ) (g : Dev Cert.UpBackNarrow.nD → PrngReg), Pre_UpBackNarrow m →
    θ_run (Cert.UpBackNarrow.defs (F := Bits)) (onTc (τ := Cert.UpBackNarrow.τ) (Cert.UpBackNarrow.main (F := Bits))) ⟨m, fun _ => 0, g⟩ (fun r => (∀ c : Dev Cert.UpBackNarrow.nD,
      r.2.mem ((c.tc : Thread Cert.UpBackNarrow.nD Cert.UpBackNarrow.τ).loc Cert.UpBackNarrow.main_arg0) = m ((c.tc : Thread Cert.UpBackNarrow.nD Cert.UpBackNarrow.τ).loc Cert.UpBackNarrow.main_arg0)
      ∧ r.2.mem ((c.tc : Thread Cert.UpBackNarrow.nD Cert.UpBackNarrow.τ).loc Cert.UpBackNarrow.main_arg1) = m ((c.tc : Thread Cert.UpBackNarrow.nD Cert.UpBackNarrow.τ).loc Cert.UpBackNarrow.main_arg1))
      ∧ r.2.sem = fun _ => 0)

def quiescent_UpBackNarrowIdeal [hUpBackNarrowIdeal : Cert.UpBackNarrowIdeal.Facts] : Prop :=
  ∀ (m : (ℓ : Loc Cert.UpBackNarrowIdeal.nD Cert.UpBackNarrowIdeal.τ Cert.UpBackNarrowIdeal.sig) → Buf (Elt Ideal) ℓ) (g : Dev Cert.UpBackNarrowIdeal.nD → PrngReg), Pre_UpBackNarrowIdeal m →
    θ_run (Cert.UpBackNarrowIdeal.defs (F := Ideal)) (onTc (τ := Cert.UpBackNarrowIdeal.τ) (Cert.UpBackNarrowIdeal.main (F := Ideal))) ⟨m, fun _ => 0, g⟩ (fun r => (∀ c : Dev Cert.UpBackNarrowIdeal.nD,
      r.2.mem ((c.tc : Thread Cert.UpBackNarrowIdeal.nD Cert.UpBackNarrowIdeal.τ).loc Cert.UpBackNarrowIdeal.main_arg0) = m ((c.tc : Thread Cert.UpBackNarrowIdeal.nD Cert.UpBackNarrowIdeal.τ).loc Cert.UpBackNarrowIdeal.main_arg0)
      ∧ r.2.mem ((c.tc : Thread Cert.UpBackNarrowIdeal.nD Cert.UpBackNarrowIdeal.τ).loc Cert.UpBackNarrowIdeal.main_arg1) = m ((c.tc : Thread Cert.UpBackNarrowIdeal.nD Cert.UpBackNarrowIdeal.τ).loc Cert.UpBackNarrowIdeal.main_arg1))
      ∧ r.2.sem = fun _ => 0)

def quiescent_UpBackNarrowRefIdeal [hUpBackNarrowRefIdeal : Cert.UpBackNarrowRefIdeal.Facts] : Prop :=
  ∀ (m : (ℓ : Loc Cert.UpBackNarrowRefIdeal.nD Cert.UpBackNarrowRefIdeal.τ Cert.UpBackNarrowRefIdeal.sig) → Buf (Elt Ideal) ℓ) (g : Dev Cert.UpBackNarrowRefIdeal.nD → PrngReg), Pre_UpBackNarrowRefIdeal m →
    θ_run (Cert.UpBackNarrowRefIdeal.defs (F := Ideal)) (onTc (τ := Cert.UpBackNarrowRefIdeal.τ) (Cert.UpBackNarrowRefIdeal.main (F := Ideal))) ⟨m, fun _ => 0, g⟩ (fun r => (∀ c : Dev Cert.UpBackNarrowRefIdeal.nD,
      r.2.mem ((c.tc : Thread Cert.UpBackNarrowRefIdeal.nD Cert.UpBackNarrowRefIdeal.τ).loc Cert.UpBackNarrowRefIdeal.main_arg0) = m ((c.tc : Thread Cert.UpBackNarrowRefIdeal.nD Cert.UpBackNarrowRefIdeal.τ).loc Cert.UpBackNarrowRefIdeal.main_arg0)
      ∧ r.2.mem ((c.tc : Thread Cert.UpBackNarrowRefIdeal.nD Cert.UpBackNarrowRefIdeal.τ).loc Cert.UpBackNarrowRefIdeal.main_arg1) = m ((c.tc : Thread Cert.UpBackNarrowRefIdeal.nD Cert.UpBackNarrowRefIdeal.τ).loc Cert.UpBackNarrowRefIdeal.main_arg1))
      ∧ r.2.sem = fun _ => 0)

def quiescent_FfDown [hFfDown : Cert.FfDown.Facts] : Prop :=
  ∀ (m : (ℓ : Loc Cert.FfDown.nD Cert.FfDown.τ Cert.FfDown.sig) → Buf (Elt Bits) ℓ) (g : Dev Cert.FfDown.nD → PrngReg), Pre_FfDown m →
    θ_run (Cert.FfDown.defs (F := Bits)) (onTc (τ := Cert.FfDown.τ) (Cert.FfDown.main (F := Bits))) ⟨m, fun _ => 0, g⟩ (fun r => (∀ c : Dev Cert.FfDown.nD,
      r.2.mem ((c.tc : Thread Cert.FfDown.nD Cert.FfDown.τ).loc Cert.FfDown.main_arg0) = m ((c.tc : Thread Cert.FfDown.nD Cert.FfDown.τ).loc Cert.FfDown.main_arg0)
      ∧ r.2.mem ((c.tc : Thread Cert.FfDown.nD Cert.FfDown.τ).loc Cert.FfDown.main_arg1) = m ((c.tc : Thread Cert.FfDown.nD Cert.FfDown.τ).loc Cert.FfDown.main_arg1)
      ∧ r.2.mem ((c.tc : Thread Cert.FfDown.nD Cert.FfDown.τ).loc Cert.FfDown.main_arg2) = m ((c.tc : Thread Cert.FfDown.nD Cert.FfDown.τ).loc Cert.FfDown.main_arg2))
      ∧ r.2.sem = fun _ => 0)

def quiescent_FfDownIdeal [hFfDownIdeal : Cert.FfDownIdeal.Facts] : Prop :=
  ∀ (m : (ℓ : Loc Cert.FfDownIdeal.nD Cert.FfDownIdeal.τ Cert.FfDownIdeal.sig) → Buf (Elt Ideal) ℓ) (g : Dev Cert.FfDownIdeal.nD → PrngReg), Pre_FfDownIdeal m →
    θ_run (Cert.FfDownIdeal.defs (F := Ideal)) (onTc (τ := Cert.FfDownIdeal.τ) (Cert.FfDownIdeal.main (F := Ideal))) ⟨m, fun _ => 0, g⟩ (fun r => (∀ c : Dev Cert.FfDownIdeal.nD,
      r.2.mem ((c.tc : Thread Cert.FfDownIdeal.nD Cert.FfDownIdeal.τ).loc Cert.FfDownIdeal.main_arg0) = m ((c.tc : Thread Cert.FfDownIdeal.nD Cert.FfDownIdeal.τ).loc Cert.FfDownIdeal.main_arg0)
      ∧ r.2.mem ((c.tc : Thread Cert.FfDownIdeal.nD Cert.FfDownIdeal.τ).loc Cert.FfDownIdeal.main_arg1) = m ((c.tc : Thread Cert.FfDownIdeal.nD Cert.FfDownIdeal.τ).loc Cert.FfDownIdeal.main_arg1)
      ∧ r.2.mem ((c.tc : Thread Cert.FfDownIdeal.nD Cert.FfDownIdeal.τ).loc Cert.FfDownIdeal.main_arg2) = m ((c.tc : Thread Cert.FfDownIdeal.nD Cert.FfDownIdeal.τ).loc Cert.FfDownIdeal.main_arg2))
      ∧ r.2.sem = fun _ => 0)

def quiescent_FfDownRefIdeal [hFfDownRefIdeal : Cert.FfDownRefIdeal.Facts] : Prop :=
  ∀ (m : (ℓ : Loc Cert.FfDownRefIdeal.nD Cert.FfDownRefIdeal.τ Cert.FfDownRefIdeal.sig) → Buf (Elt Ideal) ℓ) (g : Dev Cert.FfDownRefIdeal.nD → PrngReg), Pre_FfDownRefIdeal m →
    θ_run (Cert.FfDownRefIdeal.defs (F := Ideal)) (onTc (τ := Cert.FfDownRefIdeal.τ) (Cert.FfDownRefIdeal.main (F := Ideal))) ⟨m, fun _ => 0, g⟩ (fun r => (∀ c : Dev Cert.FfDownRefIdeal.nD,
      r.2.mem ((c.tc : Thread Cert.FfDownRefIdeal.nD Cert.FfDownRefIdeal.τ).loc Cert.FfDownRefIdeal.main_arg0) = m ((c.tc : Thread Cert.FfDownRefIdeal.nD Cert.FfDownRefIdeal.τ).loc Cert.FfDownRefIdeal.main_arg0)
      ∧ r.2.mem ((c.tc : Thread Cert.FfDownRefIdeal.nD Cert.FfDownRefIdeal.τ).loc Cert.FfDownRefIdeal.main_arg1) = m ((c.tc : Thread Cert.FfDownRefIdeal.nD Cert.FfDownRefIdeal.τ).loc Cert.FfDownRefIdeal.main_arg1)
      ∧ r.2.mem ((c.tc : Thread Cert.FfDownRefIdeal.nD Cert.FfDownRefIdeal.τ).loc Cert.FfDownRefIdeal.main_arg2) = m ((c.tc : Thread Cert.FfDownRefIdeal.nD Cert.FfDownRefIdeal.τ).loc Cert.FfDownRefIdeal.main_arg2))
      ∧ r.2.sem = fun _ => 0)

def quiescent_FfIn [hFfIn : Cert.FfIn.Facts] : Prop :=
  ∀ (m : (ℓ : Loc Cert.FfIn.nD Cert.FfIn.τ Cert.FfIn.sig) → Buf (Elt Bits) ℓ) (g : Dev Cert.FfIn.nD → PrngReg), Pre_FfIn m →
    θ_run (Cert.FfIn.defs (F := Bits)) (onTc (τ := Cert.FfIn.τ) (Cert.FfIn.main (F := Bits))) ⟨m, fun _ => 0, g⟩ (fun r => (∀ c : Dev Cert.FfIn.nD,
      r.2.mem ((c.tc : Thread Cert.FfIn.nD Cert.FfIn.τ).loc Cert.FfIn.main_arg0) = m ((c.tc : Thread Cert.FfIn.nD Cert.FfIn.τ).loc Cert.FfIn.main_arg0)
      ∧ r.2.mem ((c.tc : Thread Cert.FfIn.nD Cert.FfIn.τ).loc Cert.FfIn.main_arg1) = m ((c.tc : Thread Cert.FfIn.nD Cert.FfIn.τ).loc Cert.FfIn.main_arg1))
      ∧ r.2.sem = fun _ => 0)

def quiescent_FfInIdeal [hFfInIdeal : Cert.FfInIdeal.Facts] : Prop :=
  ∀ (m : (ℓ : Loc Cert.FfInIdeal.nD Cert.FfInIdeal.τ Cert.FfInIdeal.sig) → Buf (Elt Ideal) ℓ) (g : Dev Cert.FfInIdeal.nD → PrngReg), Pre_FfInIdeal m →
    θ_run (Cert.FfInIdeal.defs (F := Ideal)) (onTc (τ := Cert.FfInIdeal.τ) (Cert.FfInIdeal.main (F := Ideal))) ⟨m, fun _ => 0, g⟩ (fun r => (∀ c : Dev Cert.FfInIdeal.nD,
      r.2.mem ((c.tc : Thread Cert.FfInIdeal.nD Cert.FfInIdeal.τ).loc Cert.FfInIdeal.main_arg0) = m ((c.tc : Thread Cert.FfInIdeal.nD Cert.FfInIdeal.τ).loc Cert.FfInIdeal.main_arg0)
      ∧ r.2.mem ((c.tc : Thread Cert.FfInIdeal.nD Cert.FfInIdeal.τ).loc Cert.FfInIdeal.main_arg1) = m ((c.tc : Thread Cert.FfInIdeal.nD Cert.FfInIdeal.τ).loc Cert.FfInIdeal.main_arg1))
      ∧ r.2.sem = fun _ => 0)

def quiescent_FfInRefIdeal [hFfInRefIdeal : Cert.FfInRefIdeal.Facts] : Prop :=
  ∀ (m : (ℓ : Loc Cert.FfInRefIdeal.nD Cert.FfInRefIdeal.τ Cert.FfInRefIdeal.sig) → Buf (Elt Ideal) ℓ) (g : Dev Cert.FfInRefIdeal.nD → PrngReg), Pre_FfInRefIdeal m →
    θ_run (Cert.FfInRefIdeal.defs (F := Ideal)) (onTc (τ := Cert.FfInRefIdeal.τ) (Cert.FfInRefIdeal.main (F := Ideal))) ⟨m, fun _ => 0, g⟩ (fun r => (∀ c : Dev Cert.FfInRefIdeal.nD,
      r.2.mem ((c.tc : Thread Cert.FfInRefIdeal.nD Cert.FfInRefIdeal.τ).loc Cert.FfInRefIdeal.main_arg0) = m ((c.tc : Thread Cert.FfInRefIdeal.nD Cert.FfInRefIdeal.τ).loc Cert.FfInRefIdeal.main_arg0)
      ∧ r.2.mem ((c.tc : Thread Cert.FfInRefIdeal.nD Cert.FfInRefIdeal.τ).loc Cert.FfInRefIdeal.main_arg1) = m ((c.tc : Thread Cert.FfInRefIdeal.nD Cert.FfInRefIdeal.τ).loc Cert.FfInRefIdeal.main_arg1))
      ∧ r.2.sem = fun _ => 0)

def quiescent_InBack [hInBack : Cert.InBack.Facts] : Prop :=
  ∀ (m : (ℓ : Loc Cert.InBack.nD Cert.InBack.τ Cert.InBack.sig) → Buf (Elt Bits) ℓ) (g : Dev Cert.InBack.nD → PrngReg), Pre_InBack m →
    θ_run (Cert.InBack.defs (F := Bits)) (onTc (τ := Cert.InBack.τ) (Cert.InBack.main (F := Bits))) ⟨m, fun _ => 0, g⟩ (fun r => (∀ c : Dev Cert.InBack.nD,
      r.2.mem ((c.tc : Thread Cert.InBack.nD Cert.InBack.τ).loc Cert.InBack.main_arg0) = m ((c.tc : Thread Cert.InBack.nD Cert.InBack.τ).loc Cert.InBack.main_arg0)
      ∧ r.2.mem ((c.tc : Thread Cert.InBack.nD Cert.InBack.τ).loc Cert.InBack.main_arg1) = m ((c.tc : Thread Cert.InBack.nD Cert.InBack.τ).loc Cert.InBack.main_arg1))
      ∧ r.2.sem = fun _ => 0)

def quiescent_InBackIdeal [hInBackIdeal : Cert.InBackIdeal.Facts] : Prop :=
  ∀ (m : (ℓ : Loc Cert.InBackIdeal.nD Cert.InBackIdeal.τ Cert.InBackIdeal.sig) → Buf (Elt Ideal) ℓ) (g : Dev Cert.InBackIdeal.nD → PrngReg), Pre_InBackIdeal m →
    θ_run (Cert.InBackIdeal.defs (F := Ideal)) (onTc (τ := Cert.InBackIdeal.τ) (Cert.InBackIdeal.main (F := Ideal))) ⟨m, fun _ => 0, g⟩ (fun r => (∀ c : Dev Cert.InBackIdeal.nD,
      r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
      ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1))
      ∧ r.2.sem = fun _ => 0)

def quiescent_InBackRefIdeal [hInBackRefIdeal : Cert.InBackRefIdeal.Facts] : Prop :=
  ∀ (m : (ℓ : Loc Cert.InBackRefIdeal.nD Cert.InBackRefIdeal.τ Cert.InBackRefIdeal.sig) → Buf (Elt Ideal) ℓ) (g : Dev Cert.InBackRefIdeal.nD → PrngReg), Pre_InBackRefIdeal m →
    θ_run (Cert.InBackRefIdeal.defs (F := Ideal)) (onTc (τ := Cert.InBackRefIdeal.τ) (Cert.InBackRefIdeal.main (F := Ideal))) ⟨m, fun _ => 0, g⟩ (fun r => (∀ c : Dev Cert.InBackRefIdeal.nD,
      r.2.mem ((c.tc : Thread Cert.InBackRefIdeal.nD Cert.InBackRefIdeal.τ).loc Cert.InBackRefIdeal.main_arg0) = m ((c.tc : Thread Cert.InBackRefIdeal.nD Cert.InBackRefIdeal.τ).loc Cert.InBackRefIdeal.main_arg0)
      ∧ r.2.mem ((c.tc : Thread Cert.InBackRefIdeal.nD Cert.InBackRefIdeal.τ).loc Cert.InBackRefIdeal.main_arg1) = m ((c.tc : Thread Cert.InBackRefIdeal.nD Cert.InBackRefIdeal.τ).loc Cert.InBackRefIdeal.main_arg1))
      ∧ r.2.sem = fun _ => 0)

def quiescent_GradFf2 [hGradFf2 : Cert.GradFf2.Facts] : Prop :=
  ∀ (m : (ℓ : Loc Cert.GradFf2.nD Cert.GradFf2.τ Cert.GradFf2.sig) → Buf (Elt Bits) ℓ) (g : Dev Cert.GradFf2.nD → PrngReg), Pre_GradFf2 m →
    θ_run (Cert.GradFf2.defs (F := Bits)) (onTc (τ := Cert.GradFf2.τ) (Cert.GradFf2.main (F := Bits))) ⟨m, fun _ => 0, g⟩ (fun r => (∀ c : Dev Cert.GradFf2.nD,
      r.2.mem ((c.tc : Thread Cert.GradFf2.nD Cert.GradFf2.τ).loc Cert.GradFf2.main_arg0) = m ((c.tc : Thread Cert.GradFf2.nD Cert.GradFf2.τ).loc Cert.GradFf2.main_arg0)
      ∧ r.2.mem ((c.tc : Thread Cert.GradFf2.nD Cert.GradFf2.τ).loc Cert.GradFf2.main_arg1) = m ((c.tc : Thread Cert.GradFf2.nD Cert.GradFf2.τ).loc Cert.GradFf2.main_arg1))
      ∧ r.2.sem = fun _ => 0)

def quiescent_GradFf2Ideal [hGradFf2Ideal : Cert.GradFf2Ideal.Facts] : Prop :=
  ∀ (m : (ℓ : Loc Cert.GradFf2Ideal.nD Cert.GradFf2Ideal.τ Cert.GradFf2Ideal.sig) → Buf (Elt Ideal) ℓ) (g : Dev Cert.GradFf2Ideal.nD → PrngReg), Pre_GradFf2Ideal m →
    θ_run (Cert.GradFf2Ideal.defs (F := Ideal)) (onTc (τ := Cert.GradFf2Ideal.τ) (Cert.GradFf2Ideal.main (F := Ideal))) ⟨m, fun _ => 0, g⟩ (fun r => (∀ c : Dev Cert.GradFf2Ideal.nD,
      r.2.mem ((c.tc : Thread Cert.GradFf2Ideal.nD Cert.GradFf2Ideal.τ).loc Cert.GradFf2Ideal.main_arg0) = m ((c.tc : Thread Cert.GradFf2Ideal.nD Cert.GradFf2Ideal.τ).loc Cert.GradFf2Ideal.main_arg0)
      ∧ r.2.mem ((c.tc : Thread Cert.GradFf2Ideal.nD Cert.GradFf2Ideal.τ).loc Cert.GradFf2Ideal.main_arg1) = m ((c.tc : Thread Cert.GradFf2Ideal.nD Cert.GradFf2Ideal.τ).loc Cert.GradFf2Ideal.main_arg1))
      ∧ r.2.sem = fun _ => 0)

def quiescent_GradFf2RefIdeal [hGradFf2RefIdeal : Cert.GradFf2RefIdeal.Facts] : Prop :=
  ∀ (m : (ℓ : Loc Cert.GradFf2RefIdeal.nD Cert.GradFf2RefIdeal.τ Cert.GradFf2RefIdeal.sig) → Buf (Elt Ideal) ℓ) (g : Dev Cert.GradFf2RefIdeal.nD → PrngReg), Pre_GradFf2RefIdeal m →
    θ_run (Cert.GradFf2RefIdeal.defs (F := Ideal)) (onTc (τ := Cert.GradFf2RefIdeal.τ) (Cert.GradFf2RefIdeal.main (F := Ideal))) ⟨m, fun _ => 0, g⟩ (fun r => (∀ c : Dev Cert.GradFf2RefIdeal.nD,
      r.2.mem ((c.tc : Thread Cert.GradFf2RefIdeal.nD Cert.GradFf2RefIdeal.τ).loc Cert.GradFf2RefIdeal.main_arg0) = m ((c.tc : Thread Cert.GradFf2RefIdeal.nD Cert.GradFf2RefIdeal.τ).loc Cert.GradFf2RefIdeal.main_arg0)
      ∧ r.2.mem ((c.tc : Thread Cert.GradFf2RefIdeal.nD Cert.GradFf2RefIdeal.τ).loc Cert.GradFf2RefIdeal.main_arg1) = m ((c.tc : Thread Cert.GradFf2RefIdeal.nD Cert.GradFf2RefIdeal.τ).loc Cert.GradFf2RefIdeal.main_arg1))
      ∧ r.2.sem = fun _ => 0)

def quiescent_GradFf1 [hGradFf1 : Cert.GradFf1.Facts] : Prop :=
  ∀ (m : (ℓ : Loc Cert.GradFf1.nD Cert.GradFf1.τ Cert.GradFf1.sig) → Buf (Elt Bits) ℓ) (g : Dev Cert.GradFf1.nD → PrngReg), Pre_GradFf1 m →
    θ_run (Cert.GradFf1.defs (F := Bits)) (onTc (τ := Cert.GradFf1.τ) (Cert.GradFf1.main (F := Bits))) ⟨m, fun _ => 0, g⟩ (fun r => (∀ c : Dev Cert.GradFf1.nD,
      r.2.mem ((c.tc : Thread Cert.GradFf1.nD Cert.GradFf1.τ).loc Cert.GradFf1.main_arg0) = m ((c.tc : Thread Cert.GradFf1.nD Cert.GradFf1.τ).loc Cert.GradFf1.main_arg0)
      ∧ r.2.mem ((c.tc : Thread Cert.GradFf1.nD Cert.GradFf1.τ).loc Cert.GradFf1.main_arg1) = m ((c.tc : Thread Cert.GradFf1.nD Cert.GradFf1.τ).loc Cert.GradFf1.main_arg1))
      ∧ r.2.sem = fun _ => 0)

def quiescent_GradFf1Ideal [hGradFf1Ideal : Cert.GradFf1Ideal.Facts] : Prop :=
  ∀ (m : (ℓ : Loc Cert.GradFf1Ideal.nD Cert.GradFf1Ideal.τ Cert.GradFf1Ideal.sig) → Buf (Elt Ideal) ℓ) (g : Dev Cert.GradFf1Ideal.nD → PrngReg), Pre_GradFf1Ideal m →
    θ_run (Cert.GradFf1Ideal.defs (F := Ideal)) (onTc (τ := Cert.GradFf1Ideal.τ) (Cert.GradFf1Ideal.main (F := Ideal))) ⟨m, fun _ => 0, g⟩ (fun r => (∀ c : Dev Cert.GradFf1Ideal.nD,
      r.2.mem ((c.tc : Thread Cert.GradFf1Ideal.nD Cert.GradFf1Ideal.τ).loc Cert.GradFf1Ideal.main_arg0) = m ((c.tc : Thread Cert.GradFf1Ideal.nD Cert.GradFf1Ideal.τ).loc Cert.GradFf1Ideal.main_arg0)
      ∧ r.2.mem ((c.tc : Thread Cert.GradFf1Ideal.nD Cert.GradFf1Ideal.τ).loc Cert.GradFf1Ideal.main_arg1) = m ((c.tc : Thread Cert.GradFf1Ideal.nD Cert.GradFf1Ideal.τ).loc Cert.GradFf1Ideal.main_arg1))
      ∧ r.2.sem = fun _ => 0)

def quiescent_GradFf1RefIdeal [hGradFf1RefIdeal : Cert.GradFf1RefIdeal.Facts] : Prop :=
  ∀ (m : (ℓ : Loc Cert.GradFf1RefIdeal.nD Cert.GradFf1RefIdeal.τ Cert.GradFf1RefIdeal.sig) → Buf (Elt Ideal) ℓ) (g : Dev Cert.GradFf1RefIdeal.nD → PrngReg), Pre_GradFf1RefIdeal m →
    θ_run (Cert.GradFf1RefIdeal.defs (F := Ideal)) (onTc (τ := Cert.GradFf1RefIdeal.τ) (Cert.GradFf1RefIdeal.main (F := Ideal))) ⟨m, fun _ => 0, g⟩ (fun r => (∀ c : Dev Cert.GradFf1RefIdeal.nD,
      r.2.mem ((c.tc : Thread Cert.GradFf1RefIdeal.nD Cert.GradFf1RefIdeal.τ).loc Cert.GradFf1RefIdeal.main_arg0) = m ((c.tc : Thread Cert.GradFf1RefIdeal.nD Cert.GradFf1RefIdeal.τ).loc Cert.GradFf1RefIdeal.main_arg0)
      ∧ r.2.mem ((c.tc : Thread Cert.GradFf1RefIdeal.nD Cert.GradFf1RefIdeal.τ).loc Cert.GradFf1RefIdeal.main_arg1) = m ((c.tc : Thread Cert.GradFf1RefIdeal.nD Cert.GradFf1RefIdeal.τ).loc Cert.GradFf1RefIdeal.main_arg1))
      ∧ r.2.sem = fun _ => 0)

def quiescent_GradO [hGradO : Cert.GradO.Facts] : Prop :=
  ∀ (m : (ℓ : Loc Cert.GradO.nD Cert.GradO.τ Cert.GradO.sig) → Buf (Elt Bits) ℓ) (g : Dev Cert.GradO.nD → PrngReg), Pre_GradO m →
    θ_run (Cert.GradO.defs (F := Bits)) (onTc (τ := Cert.GradO.τ) (Cert.GradO.main (F := Bits))) ⟨m, fun _ => 0, g⟩ (fun r => (∀ c : Dev Cert.GradO.nD,
      r.2.mem ((c.tc : Thread Cert.GradO.nD Cert.GradO.τ).loc Cert.GradO.main_arg0) = m ((c.tc : Thread Cert.GradO.nD Cert.GradO.τ).loc Cert.GradO.main_arg0)
      ∧ r.2.mem ((c.tc : Thread Cert.GradO.nD Cert.GradO.τ).loc Cert.GradO.main_arg1) = m ((c.tc : Thread Cert.GradO.nD Cert.GradO.τ).loc Cert.GradO.main_arg1))
      ∧ r.2.sem = fun _ => 0)

def quiescent_GradOIdeal [hGradOIdeal : Cert.GradOIdeal.Facts] : Prop :=
  ∀ (m : (ℓ : Loc Cert.GradOIdeal.nD Cert.GradOIdeal.τ Cert.GradOIdeal.sig) → Buf (Elt Ideal) ℓ) (g : Dev Cert.GradOIdeal.nD → PrngReg), Pre_GradOIdeal m →
    θ_run (Cert.GradOIdeal.defs (F := Ideal)) (onTc (τ := Cert.GradOIdeal.τ) (Cert.GradOIdeal.main (F := Ideal))) ⟨m, fun _ => 0, g⟩ (fun r => (∀ c : Dev Cert.GradOIdeal.nD,
      r.2.mem ((c.tc : Thread Cert.GradOIdeal.nD Cert.GradOIdeal.τ).loc Cert.GradOIdeal.main_arg0) = m ((c.tc : Thread Cert.GradOIdeal.nD Cert.GradOIdeal.τ).loc Cert.GradOIdeal.main_arg0)
      ∧ r.2.mem ((c.tc : Thread Cert.GradOIdeal.nD Cert.GradOIdeal.τ).loc Cert.GradOIdeal.main_arg1) = m ((c.tc : Thread Cert.GradOIdeal.nD Cert.GradOIdeal.τ).loc Cert.GradOIdeal.main_arg1))
      ∧ r.2.sem = fun _ => 0)

def quiescent_GradORefIdeal [hGradORefIdeal : Cert.GradORefIdeal.Facts] : Prop :=
  ∀ (m : (ℓ : Loc Cert.GradORefIdeal.nD Cert.GradORefIdeal.τ Cert.GradORefIdeal.sig) → Buf (Elt Ideal) ℓ) (g : Dev Cert.GradORefIdeal.nD → PrngReg), Pre_GradORefIdeal m →
    θ_run (Cert.GradORefIdeal.defs (F := Ideal)) (onTc (τ := Cert.GradORefIdeal.τ) (Cert.GradORefIdeal.main (F := Ideal))) ⟨m, fun _ => 0, g⟩ (fun r => (∀ c : Dev Cert.GradORefIdeal.nD,
      r.2.mem ((c.tc : Thread Cert.GradORefIdeal.nD Cert.GradORefIdeal.τ).loc Cert.GradORefIdeal.main_arg0) = m ((c.tc : Thread Cert.GradORefIdeal.nD Cert.GradORefIdeal.τ).loc Cert.GradORefIdeal.main_arg0)
      ∧ r.2.mem ((c.tc : Thread Cert.GradORefIdeal.nD Cert.GradORefIdeal.τ).loc Cert.GradORefIdeal.main_arg1) = m ((c.tc : Thread Cert.GradORefIdeal.nD Cert.GradORefIdeal.τ).loc Cert.GradORefIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_GradUpNarrow [hGradUpNarrow : Cert.GradUpNarrow.Facts] : Prop :=
  ∀ (m : (ℓ : Loc Cert.GradUpNarrow.nD Cert.GradUpNarrow.τ Cert.GradUpNarrow.sig) → Buf (Elt Bits) ℓ) (g : Dev Cert.GradUpNarrow.nD → PrngReg), Pre_GradUpNarrow m →
    θ_run (Cert.GradUpNarrow.defs (F := Bits)) (onTc (τ := Cert.GradUpNarrow.τ) (Cert.GradUpNarrow.main (F := Bits))) ⟨m, fun _ => 0, g⟩ (fun r => (∀ c : Dev Cert.GradUpNarrow.nD,
      r.2.mem ((c.tc : Thread Cert.GradUpNarrow.nD Cert.GradUpNarrow.τ).loc Cert.GradUpNarrow.main_arg0) = m ((c.tc : Thread Cert.GradUpNarrow.nD Cert.GradUpNarrow.τ).loc Cert.GradUpNarrow.main_arg0)
      ∧ r.2.mem ((c.tc : Thread Cert.GradUpNarrow.nD Cert.GradUpNarrow.τ).loc Cert.GradUpNarrow.main_arg1) = m ((c.tc : Thread Cert.GradUpNarrow.nD Cert.GradUpNarrow.τ).loc Cert.GradUpNarrow.main_arg1))
      ∧ r.2.sem = fun _ => 0)

def quiescent_GradUpNarrowIdeal [hGradUpNarrowIdeal : Cert.GradUpNarrowIdeal.Facts] : Prop :=
  ∀ (m : (ℓ : Loc Cert.GradUpNarrowIdeal.nD Cert.GradUpNarrowIdeal.τ Cert.GradUpNarrowIdeal.sig) → Buf (Elt Ideal) ℓ) (g : Dev Cert.GradUpNarrowIdeal.nD → PrngReg), Pre_GradUpNarrowIdeal m →
    θ_run (Cert.GradUpNarrowIdeal.defs (F := Ideal)) (onTc (τ := Cert.GradUpNarrowIdeal.τ) (Cert.GradUpNarrowIdeal.main (F := Ideal))) ⟨m, fun _ => 0, g⟩ (fun r => (∀ c : Dev Cert.GradUpNarrowIdeal.nD,
      r.2.mem ((c.tc : Thread Cert.GradUpNarrowIdeal.nD Cert.GradUpNarrowIdeal.τ).loc Cert.GradUpNarrowIdeal.main_arg0) = m ((c.tc : Thread Cert.GradUpNarrowIdeal.nD Cert.GradUpNarrowIdeal.τ).loc Cert.GradUpNarrowIdeal.main_arg0)
      ∧ r.2.mem ((c.tc : Thread Cert.GradUpNarrowIdeal.nD Cert.GradUpNarrowIdeal.τ).loc Cert.GradUpNarrowIdeal.main_arg1) = m ((c.tc : Thread Cert.GradUpNarrowIdeal.nD Cert.GradUpNarrowIdeal.τ).loc Cert.GradUpNarrowIdeal.main_arg1))
      ∧ r.2.sem = fun _ => 0)

def quiescent_GradUpNarrowRefIdeal [hGradUpNarrowRefIdeal : Cert.GradUpNarrowRefIdeal.Facts] : Prop :=
  ∀ (m : (ℓ : Loc Cert.GradUpNarrowRefIdeal.nD Cert.GradUpNarrowRefIdeal.τ Cert.GradUpNarrowRefIdeal.sig) → Buf (Elt Ideal) ℓ) (g : Dev Cert.GradUpNarrowRefIdeal.nD → PrngReg), Pre_GradUpNarrowRefIdeal m →
    θ_run (Cert.GradUpNarrowRefIdeal.defs (F := Ideal)) (onTc (τ := Cert.GradUpNarrowRefIdeal.τ) (Cert.GradUpNarrowRefIdeal.main (F := Ideal))) ⟨m, fun _ => 0, g⟩ (fun r => (∀ c : Dev Cert.GradUpNarrowRefIdeal.nD,
      r.2.mem ((c.tc : Thread Cert.GradUpNarrowRefIdeal.nD Cert.GradUpNarrowRefIdeal.τ).loc Cert.GradUpNarrowRefIdeal.main_arg0) = m ((c.tc : Thread Cert.GradUpNarrowRefIdeal.nD Cert.GradUpNarrowRefIdeal.τ).loc Cert.GradUpNarrowRefIdeal.main_arg0)
      ∧ r.2.mem ((c.tc : Thread Cert.GradUpNarrowRefIdeal.nD Cert.GradUpNarrowRefIdeal.τ).loc Cert.GradUpNarrowRefIdeal.main_arg1) = m ((c.tc : Thread Cert.GradUpNarrowRefIdeal.nD Cert.GradUpNarrowRefIdeal.τ).loc Cert.GradUpNarrowRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixIdeal_pre_weighed [hMixIdeal : Cert.MixIdeal.Facts] [hPre_weighed : Cert.Pre_weighed.Facts] : Prop :=
  ∀ (m : (ℓ : Loc Cert.MixIdeal.nD Cert.MixIdeal.τ Cert.MixIdeal.sig) → Buf (Elt Ideal) ℓ) (g : Dev Cert.MixIdeal.nD → PrngReg), Pre_MixIdeal_weighed m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixRefIdeal_pre_weighed [hMixRefIdeal : Cert.MixRefIdeal.Facts] [hPre_weighed : Cert.Pre_weighed.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_weighed m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![35856, 128]⟩ ⟨2, ![286848, 128]⟩ 0 8 c (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![35856, 128]⟩ ⟨2, ![286848, 128]⟩ 0 8 c (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_Sibling_SiblingIdeal : Prop :=
  True

def algebraic_SiblingIdeal_SiblingRefIdeal [hSiblingIdeal : Cert.SiblingIdeal.Facts] [hSiblingRefIdeal : Cert.SiblingRefIdeal.Facts] : Prop :=
  ∀ (m : (ℓ : Loc Cert.SiblingIdeal.nD Cert.SiblingIdeal.τ Cert.SiblingIdeal.sig) → Buf (Elt Ideal) ℓ) (g : Dev Cert.SiblingIdeal.nD → PrngReg)
    (m' : (ℓ : Loc Cert.SiblingRefIdeal.nD Cert.SiblingRefIdeal.τ Cert.SiblingRefIdeal.sig) → Buf (Elt Ideal) ℓ) (g' : Dev Cert.SiblingRefIdeal.nD → PrngReg), Pre_SiblingIdeal m →
    (∀ c : Dev Cert.SiblingIdeal.nD,
      m ((c.tc : Thread Cert.SiblingIdeal.nD Cert.SiblingIdeal.τ).loc Cert.SiblingIdeal.main_arg0) = Layout.block ⟨4, ![2, 4, 35840, 128]⟩ ⟨4, ![16, 4, 35840, 128]⟩ 0 8 c (m' (((0 : Dev Cert.SiblingRefIdeal.nD).tc : Thread Cert.SiblingRefIdeal.nD Cert.SiblingRefIdeal.τ).loc Cert.SiblingRefIdeal.main_arg0))
      ∧ m ((c.tc : Thread Cert.SiblingIdeal.nD Cert.SiblingIdeal.τ).loc Cert.SiblingIdeal.main_arg1) = Layout.block ⟨2, ![1144, 128]⟩ ⟨2, ![9152, 128]⟩ 0 8 c (m' (((0 : Dev Cert.SiblingRefIdeal.nD).tc : Thread Cert.SiblingRefIdeal.nD Cert.SiblingRefIdeal.τ).loc Cert.SiblingRefIdeal.main_arg1))) →
    ∃ (v0 : Buf (Elt Ideal) (((0 : Dev Cert.SiblingRefIdeal.nD).tc : Thread Cert.SiblingRefIdeal.nD Cert.SiblingRefIdeal.τ).loc Cert.SiblingRefIdeal.main_v16)) (v1 : Buf (Elt Ideal) (((0 : Dev Cert.SiblingRefIdeal.nD).tc : Thread Cert.SiblingRefIdeal.nD Cert.SiblingRefIdeal.τ).loc Cert.SiblingRefIdeal.main_v17)),
      θ_run (Cert.SiblingIdeal.defs (F := Ideal)) (onTc (τ := Cert.SiblingIdeal.τ) (Cert.SiblingIdeal.main (F := Ideal))) ⟨m, fun _ => 0, g⟩ (fun r => ∀ c : Dev Cert.SiblingIdeal.nD,
          r.2.mem ((c.tc : Thread Cert.SiblingIdeal.nD Cert.SiblingIdeal.τ).loc Cert.SiblingIdeal.main_v1_0) = Layout.block ⟨3, ![4, 35840, 128]⟩ ⟨3, ![32, 35840, 128]⟩ 0 8 c v0
          ∧ r.2.mem ((c.tc : Thread Cert.SiblingIdeal.nD Cert.SiblingIdeal.τ).loc Cert.SiblingIdeal.main_v1_1) = Layout.block ⟨2, ![1144, 128]⟩ ⟨2, ![9152, 128]⟩ 0 8 c v1
          ∧ r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0)
          ∧ r.2.mem ((c.tc : Thread Cert.SiblingIdeal.nD Cert.SiblingIdeal.τ).loc Cert.SiblingIdeal.main_arg1) = m ((c.tc : Thread Cert.SiblingIdeal.nD Cert.SiblingIdeal.τ).loc Cert.SiblingIdeal.main_arg1))
      ∧ θ_run (Cert.SiblingRefIdeal.defs (F := Ideal)) (onTc (τ := Cert.SiblingRefIdeal.τ) (Cert.SiblingRefIdeal.main (F := Ideal))) ⟨m', fun _ => 0, g'⟩ (fun r =>
          r.2.mem (((0 : Dev Cert.SiblingRefIdeal.nD).tc : Thread Cert.SiblingRefIdeal.nD Cert.SiblingRefIdeal.τ).loc Cert.SiblingRefIdeal.main_v16) = v0
          ∧ r.2.mem (((0 : Dev Cert.SiblingRefIdeal.nD).tc : Thread Cert.SiblingRefIdeal.nD Cert.SiblingRefIdeal.τ).loc Cert.SiblingRefIdeal.main_v17) = v1
          ∧ r.2.mem (((0 : Dev Cert.SiblingRefIdeal.nD).tc : Thread Cert.SiblingRefIdeal.nD Cert.SiblingRefIdeal.τ).loc Cert.SiblingRefIdeal.main_arg0) = m' (((0 : Dev Cert.SiblingRefIdeal.nD).tc : Thread Cert.SiblingRefIdeal.nD Cert.SiblingRefIdeal.τ).loc Cert.SiblingRefIdeal.main_arg0)
          ∧ r.2.mem (((0 : Dev Cert.SiblingRefIdeal.nD).tc : Thread Cert.SiblingRefIdeal.nD Cert.SiblingRefIdeal.τ).loc Cert.SiblingRefIdeal.main_arg1) = m' (((0 : Dev Cert.SiblingRefIdeal.nD).tc : Thread Cert.SiblingRefIdeal.nD Cert.SiblingRefIdeal.τ).loc Cert.SiblingRefIdeal.main_arg1))

def bitexact_Sibling_SiblingRef [hSibling : Cert.Sibling.Facts] [hSiblingRef : Cert.SiblingRef.Facts] : Prop :=
  ∀ (m : (ℓ : Loc Cert.Sibling.nD Cert.Sibling.τ Cert.Sibling.sig) → Buf (Elt Bits) ℓ) (g : Dev Cert.Sibling.nD → PrngReg)
    (m' : (ℓ : Loc Cert.SiblingRef.nD Cert.SiblingRef.τ Cert.SiblingRef.sig) → Buf (Elt Bits) ℓ) (g' : Dev Cert.SiblingRef.nD → PrngReg), Pre_Sibling m →
    (∀ c : Dev Cert.Sibling.nD,
      m ((c.tc : Thread Cert.Sibling.nD Cert.Sibling.τ).loc Cert.Sibling.main_arg0) = Layout.block ⟨4, ![2, 4, 35840, 128]⟩ ⟨4, ![16, 4, 35840, 128]⟩ 0 8 c (m' (((0 : Dev Cert.SiblingRef.nD).tc : Thread Cert.SiblingRef.nD Cert.SiblingRef.τ).loc Cert.SiblingRef.main_arg0))
      ∧ m ((c.tc : Thread Cert.Sibling.nD Cert.Sibling.τ).loc Cert.Sibling.main_arg1) = Layout.block ⟨2, ![1144, 128]⟩ ⟨2, ![9152, 128]⟩ 0 8 c (m' (((0 : Dev Cert.SiblingRef.nD).tc : Thread Cert.SiblingRef.nD Cert.SiblingRef.τ).loc Cert.SiblingRef.main_arg1))) →
    ∃ (v0 : Buf (Elt Bits) (((0 : Dev Cert.SiblingRef.nD).tc : Thread Cert.SiblingRef.nD Cert.SiblingRef.τ).loc Cert.SiblingRef.main_v16)) (v1 : Buf (Elt Bits) (((0 : Dev Cert.SiblingRef.nD).tc : Thread Cert.SiblingRef.nD Cert.SiblingRef.τ).loc Cert.SiblingRef.main_v17)),
      θ_run (Cert.Sibling.defs (F := Bits)) (onTc (τ := Cert.Sibling.τ) (Cert.Sibling.main (F := Bits))) ⟨m, fun _ => 0, g⟩ (fun r => ∀ c : Dev Cert.Sibling.nD,
          r.2.mem ((c.tc : Thread Cert.Sibling.nD Cert.Sibling.τ).loc Cert.Sibling.main_v1_0) = Layout.block ⟨3, ![4, 35840, 128]⟩ ⟨3, ![32, 35840, 128]⟩ 0 8 c v0
          ∧ r.2.mem ((c.tc : Thread Cert.Sibling.nD Cert.Sibling.τ).loc Cert.Sibling.main_v1_1) = Layout.block ⟨2, ![1144, 128]⟩ ⟨2, ![9152, 128]⟩ 0 8 c v1
          ∧ r.2.mem ((c.tc : Thread Cert.Sibling.nD Cert.Sibling.τ).loc Cert.Sibling.main_arg0) = m ((c.tc : Thread Cert.Sibling.nD Cert.Sibling.τ).loc Cert.Sibling.main_arg0)
          ∧ r.2.mem ((c.tc : Thread Cert.Sibling.nD Cert.Sibling.τ).loc Cert.Sibling.main_arg1) = m ((c.tc : Thread Cert.Sibling.nD Cert.Sibling.τ).loc Cert.Sibling.main_arg1))
      ∧ θ_run (Cert.SiblingRef.defs (F := Bits)) (onTc (τ := Cert.SiblingRef.τ) (Cert.SiblingRef.main (F := Bits))) ⟨m', fun _ => 0, g'⟩ (fun r =>
          r.2.mem (((0 : Dev Cert.SiblingRef.nD).tc : Thread Cert.SiblingRef.nD Cert.SiblingRef.τ).loc Cert.SiblingRef.main_v16) = v0
          ∧ r.2.mem (((0 : Dev Cert.SiblingRef.nD).tc : Thread Cert.SiblingRef.nD Cert.SiblingRef.τ).loc Cert.SiblingRef.main_v17) = v1
          ∧ r.2.mem (((0 : Dev Cert.SiblingRef.nD).tc : Thread Cert.SiblingRef.nD Cert.SiblingRef.τ).loc Cert.SiblingRef.main_arg0) = m' (((0 : Dev Cert.SiblingRef.nD).tc : Thread Cert.SiblingRef.nD Cert.SiblingRef.τ).loc Cert.SiblingRef.main_arg0)
          ∧ r.2.mem (((0 : Dev Cert.SiblingRef.nD).tc : Thread Cert.SiblingRef.nD Cert.SiblingRef.τ).loc Cert.SiblingRef.main_arg1) = m' (((0 : Dev Cert.SiblingRef.nD).tc : Thread Cert.SiblingRef.nD Cert.SiblingRef.τ).loc Cert.SiblingRef.main_arg1))

def preserves_Chips_ChipsIdeal : Prop :=
  True

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 35840, 128]⟩ ⟨3, ![32, 35840, 128]⟩ 0 8 c (m' (((0 : Dev Cert.ChipsRefIdeal.nD).tc : Thread Cert.ChipsRefIdeal.nD Cert.ChipsRefIdeal.τ).loc Cert.ChipsRefIdeal.main_arg0))
      ∧ m ((c.tc : Thread Cert.ChipsIdeal.nD Cert.ChipsIdeal.τ).loc Cert.ChipsIdeal.main_arg1) = Layout.block ⟨2, ![1144, 128]⟩ ⟨2, ![9152, 128]⟩ 0 8 c (m' (((0 : Dev Cert.ChipsRefIdeal.nD).tc : Thread Cert.ChipsRefIdeal.nD Cert.ChipsRefIdeal.τ).loc Cert.ChipsRefIdeal.main_arg1))) →
    ∃ (v0 : Buf (Elt Ideal) (((0 : Dev Cert.ChipsRefIdeal.nD).tc : Thread Cert.ChipsRefIdeal.nD Cert.ChipsRefIdeal.τ).loc Cert.ChipsRefIdeal.main_v5)) (v1 : Buf (Elt Ideal) (((0 : Dev Cert.ChipsRefIdeal.nD).tc : Thread Cert.ChipsRefIdeal.nD Cert.ChipsRefIdeal.τ).loc Cert.ChipsRefIdeal.main_v6)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v1_0) = Layout.block ⟨3, ![4, 35840, 128]⟩ ⟨3, ![32, 35840, 128]⟩ 0 8 c v0
          ∧ r.2.mem ((c.tc : Thread Cert.ChipsIdeal.nD Cert.ChipsIdeal.τ).loc Cert.ChipsIdeal.main_v1_1) = Layout.block ⟨3, ![4, 1144, 128]⟩ ⟨3, ![32, 1144, 128]⟩ 0 8 c v1
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
          ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1))
      ∧ θ_run (Cert.ChipsRefIdeal.defs (F := Ideal)) (onTc (τ := Cert.ChipsRefIdeal.τ) (Cert.ChipsRefIdeal.main (F := Ideal))) ⟨m', fun _ => 0, g'⟩ (fun r =>
          r.2.mem (((0 : Dev Cert.ChipsRefIdeal.nD).tc : Thread Cert.ChipsRefIdeal.nD Cert.ChipsRefIdeal.τ).loc Cert.ChipsRefIdeal.main_v5) = v0
          ∧ r.2.mem (((0 : Dev Cert.ChipsRefIdeal.nD).tc : Thread Cert.ChipsRefIdeal.nD Cert.ChipsRefIdeal.τ).loc Cert.ChipsRefIdeal.main_v6) = v1
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0)
          ∧ r.2.mem (((0 : Dev Cert.ChipsRefIdeal.nD).tc : Thread Cert.ChipsRefIdeal.nD Cert.ChipsRefIdeal.τ).loc Cert.ChipsRefIdeal.main_arg1) = m' (((0 : Dev Cert.ChipsRefIdeal.nD).tc : Thread Cert.ChipsRefIdeal.nD Cert.ChipsRefIdeal.τ).loc Cert.ChipsRefIdeal.main_arg1))

def bitexact_Chips_ChipsRef [hChips : Cert.Chips.Facts] [hChipsRef : Cert.ChipsRef.Facts] : Prop :=
  ∀ (m : (ℓ : Loc Cert.Chips.nD Cert.Chips.τ Cert.Chips.sig) → Buf (Elt Bits) ℓ) (g : Dev Cert.Chips.nD → PrngReg)
    (m' : (ℓ : Loc Cert.ChipsRef.nD Cert.ChipsRef.τ Cert.ChipsRef.sig) → Buf (Elt Bits) ℓ) (g' : Dev Cert.ChipsRef.nD → PrngReg), Pre_Chips m →
    (∀ c : Dev Cert.Chips.nD,
      m ((c.tc : Thread Cert.Chips.nD Cert.Chips.τ).loc Cert.Chips.main_arg0) = Layout.block ⟨3, ![4, 35840, 128]⟩ ⟨3, ![32, 35840, 128]⟩ 0 8 c (m' (((0 : Dev Cert.ChipsRef.nD).tc : Thread Cert.ChipsRef.nD Cert.ChipsRef.τ).loc Cert.ChipsRef.main_arg0))
      ∧ m ((c.tc : Thread Cert.Chips.nD Cert.Chips.τ).loc Cert.Chips.main_arg1) = Layout.block ⟨2, ![1144, 128]⟩ ⟨2, ![9152, 128]⟩ 0 8 c (m' (((0 : Dev Cert.ChipsRef.nD).tc : Thread Cert.ChipsRef.nD Cert.ChipsRef.τ).loc Cert.ChipsRef.main_arg1))) →
    ∃ (v0 : Buf (Elt Bits) (((0 : Dev Cert.ChipsRef.nD).tc : Thread Cert.ChipsRef.nD Cert.ChipsRef.τ).loc Cert.ChipsRef.main_v5)) (v1 : Buf (Elt Bits) (((0 : Dev Cert.ChipsRef.nD).tc : Thread Cert.ChipsRef.nD Cert.ChipsRef.τ).loc Cert.ChipsRef.main_v6)),
      θ_run (Cert.Chips.defs (F := Bits)) (onTc (τ := Cert.Chips.τ) (Cert.Chips.main (F := Bits))) ⟨m, fun _ => 0, g⟩ (fun r => ∀ c : Dev Cert.Chips.nD,
          r.2.mem ((c.tc : Thread Cert.Chips.nD Cert.Chips.τ).loc Cert.Chips.main_v1_0) = Layout.block ⟨3, ![4, 35840, 128]⟩ ⟨3, ![32, 35840, 128]⟩ 0 8 c v0
          ∧ r.2.mem ((c.tc : Thread Cert.Chips.nD Cert.Chips.τ).loc Cert.Chips.main_v1_1) = Layout.block ⟨3, ![4, 1144, 128]⟩ ⟨3, ![32, 1144, 128]⟩ 0 8 c v1
          ∧ r.2.mem ((c.tc : Thread Cert.Chips.nD Cert.Chips.τ).loc Cert.Chips.main_arg0) = m ((c.tc : Thread Cert.Chips.nD Cert.Chips.τ).loc Cert.Chips.main_arg0)
          ∧ r.2.mem ((c.tc : Thread Cert.Chips.nD Cert.Chips.τ).loc Cert.Chips.main_arg1) = m ((c.tc : Thread Cert.Chips.nD Cert.Chips.τ).loc Cert.Chips.main_arg1))
      ∧ θ_run (Cert.ChipsRef.defs (F := Bits)) (onTc (τ := Cert.ChipsRef.τ) (Cert.ChipsRef.main (F := Bits))) ⟨m', fun _ => 0, g'⟩ (fun r =>
          r.2.mem (((0 : Dev Cert.ChipsRef.nD).tc : Thread Cert.ChipsRef.nD Cert.ChipsRef.τ).loc Cert.ChipsRef.main_v5) = v0
          ∧ r.2.mem (((0 : Dev Cert.ChipsRef.nD).tc : Thread Cert.ChipsRef.nD Cert.ChipsRef.τ).loc Cert.ChipsRef.main_v6) = v1
          ∧ r.2.mem (((0 : Dev Cert.ChipsRef.nD).tc : Thread Cert.ChipsRef.nD Cert.ChipsRef.τ).loc Cert.ChipsRef.main_arg0) = m' (((0 : Dev Cert.ChipsRef.nD).tc : Thread Cert.ChipsRef.nD Cert.ChipsRef.τ).loc Cert.ChipsRef.main_arg0)
          ∧ r.2.mem (((0 : Dev Cert.ChipsRef.nD).tc : Thread Cert.ChipsRef.nD Cert.ChipsRef.τ).loc Cert.ChipsRef.main_arg1) = m' (((0 : Dev Cert.ChipsRef.nD).tc : Thread Cert.ChipsRef.nD Cert.ChipsRef.τ).loc Cert.ChipsRef.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamPoolUp_AdamPoolUpIdeal : Prop :=
  True

def algebraic_AdamPoolUpIdeal_AdamPoolUpRefIdeal [hAdamPoolUpIdeal : Cert.AdamPoolUpIdeal.Facts] [hAdamPoolUpRefIdeal : Cert.AdamPoolUpRefIdeal.Facts] : Prop :=
  ∀ (m : (ℓ : Loc Cert.AdamPoolUpIdeal.nD Cert.AdamPoolUpIdeal.τ Cert.AdamPoolUpIdeal.sig) → Buf (Elt Ideal) ℓ) (g : Dev Cert.AdamPoolUpIdeal.nD → PrngReg)
    (m' : (ℓ : Loc Cert.AdamPoolUpRefIdeal.nD Cert.AdamPoolUpRefIdeal.τ Cert.AdamPoolUpRefIdeal.sig) → Buf (Elt Ideal) ℓ) (g' : Dev Cert.AdamPoolUpRefIdeal.nD → PrngReg), Pre_AdamPoolUpIdeal m →
    (∀ c : Dev Cert.AdamPoolUpIdeal.nD,
      m' ((c.tc : Thread Cert.AdamPoolUpRefIdeal.nD Cert.AdamPoolUpRefIdeal.τ).loc Cert.AdamPoolUpRefIdeal.main_arg0) = m ((c.tc : Thread Cert.AdamPoolUpIdeal.nD Cert.AdamPoolUpIdeal.τ).loc Cert.AdamPoolUpIdeal.main_arg0)
      ∧ m' ((c.tc : Thread Cert.AdamPoolUpRefIdeal.nD Cert.AdamPoolUpRefIdeal.τ).loc Cert.AdamPoolUpRefIdeal.main_arg1) = m ((c.tc : Thread Cert.AdamPoolUpIdeal.nD Cert.AdamPoolUpIdeal.τ).loc Cert.AdamPoolUpIdeal.main_arg1)
      ∧ m' ((c.tc : Thread Cert.AdamPoolUpRefIdeal.nD Cert.AdamPoolUpRefIdeal.τ).loc Cert.AdamPoolUpRefIdeal.main_arg2) = m ((c.tc : Thread Cert.AdamPoolUpIdeal.nD Cert.AdamPoolUpIdeal.τ).loc Cert.AdamPoolUpIdeal.main_arg2)
      ∧ m' ((c.tc : Thread Cert.AdamPoolUpRefIdeal.nD Cert.AdamPoolUpRefIdeal.τ).loc Cert.AdamPoolUpRefIdeal.main_arg3) = m ((c.tc : Thread Cert.AdamPoolUpIdeal.nD Cert.AdamPoolUpIdeal.τ).loc Cert.AdamPoolUpIdeal.main_arg3)) →
    ∃ (v0 : (c : Dev Cert.AdamPoolUpIdeal.nD) → Buf (Elt Ideal) ((c.tc : Thread Cert.AdamPoolUpIdeal.nD Cert.AdamPoolUpIdeal.τ).loc Cert.AdamPoolUpIdeal.main_v0_0)) (v1 : (c : Dev Cert.AdamPoolUpIdeal.nD) → Buf (Elt Ideal) ((c.tc : Thread Cert.AdamPoolUpIdeal.nD Cert.AdamPoolUpIdeal.τ).loc Cert.AdamPoolUpIdeal.main_v0_1)) (v2 : (c : Dev Cert.AdamPoolUpIdeal.nD) → Buf (Elt Ideal) ((c.tc : Thread Cert.AdamPoolUpIdeal.nD Cert.AdamPoolUpIdeal.τ).loc Cert.AdamPoolUpIdeal.main_v0_2)),
      θ_run (Cert.AdamPoolUpIdeal.defs (F := Ideal)) (onTc (τ := Cert.AdamPoolUpIdeal.τ) (Cert.AdamPoolUpIdeal.main (F := Ideal))) ⟨m, fun _ => 0, g⟩ (fun r => ∀ c : Dev Cert.AdamPoolUpIdeal.nD,
          r.2.mem ((c.tc : Thread Cert.AdamPoolUpIdeal.nD Cert.AdamPoolUpIdeal.τ).loc Cert.AdamPoolUpIdeal.main_v0_0) = v0 c
          ∧ r.2.mem ((c.tc : Thread Cert.AdamPoolUpIdeal.nD Cert.AdamPoolUpIdeal.τ).loc Cert.AdamPoolUpIdeal.main_v0_1) = v1 c
          ∧ r.2.mem ((c.tc : Thread Cert.AdamPoolUpIdeal.nD Cert.AdamPoolUpIdeal.τ).loc Cert.AdamPoolUpIdeal.main_v0_2) = v2 c
          ∧ r.2.mem ((c.tc : Thread Cert.AdamPoolUpIdeal.nD Cert.AdamPoolUpIdeal.τ).loc Cert.AdamPoolUpIdeal.main_arg0) = m ((c.tc : Thread Cert.AdamPoolUpIdeal.nD Cert.AdamPoolUpIdeal.τ).loc Cert.AdamPoolUpIdeal.main_arg0)
          ∧ r.2.mem ((c.tc : Thread Cert.AdamPoolUpIdeal.nD Cert.AdamPoolUpIdeal.τ).loc Cert.AdamPoolUpIdeal.main_arg1) = m ((c.tc : Thread Cert.AdamPoolUpIdeal.nD Cert.AdamPoolUpIdeal.τ).loc Cert.AdamPoolUpIdeal.main_arg1)
          ∧ r.2.mem ((c.tc : Thread Cert.AdamPoolUpIdeal.nD Cert.AdamPoolUpIdeal.τ).loc Cert.AdamPoolUpIdeal.main_arg2) = m ((c.tc : Thread Cert.AdamPoolUpIdeal.nD Cert.AdamPoolUpIdeal.τ).loc Cert.AdamPoolUpIdeal.main_arg2)
          ∧ r.2.mem ((c.tc : Thread Cert.AdamPoolUpIdeal.nD Cert.AdamPoolUpIdeal.τ).loc Cert.AdamPoolUpIdeal.main_arg3) = m ((c.tc : Thread Cert.AdamPoolUpIdeal.nD Cert.AdamPoolUpIdeal.τ).loc Cert.AdamPoolUpIdeal.main_arg3))
      ∧ θ_run (Cert.AdamPoolUpRefIdeal.defs (F := Ideal)) (onTc (τ := Cert.AdamPoolUpRefIdeal.τ) (Cert.AdamPoolUpRefIdeal.main (F := Ideal))) ⟨m', fun _ => 0, g'⟩ (fun r => ∀ c : Dev Cert.AdamPoolUpRefIdeal.nD,
          r.2.mem ((c.tc : Thread Cert.AdamPoolUpRefIdeal.nD Cert.AdamPoolUpRefIdeal.τ).loc Cert.AdamPoolUpRefIdeal.main_v23) = v0 c
          ∧ r.2.mem ((c.tc : Thread Cert.AdamPoolUpRefIdeal.nD Cert.AdamPoolUpRefIdeal.τ).loc Cert.AdamPoolUpRefIdeal.main_v4) = v1 c
          ∧ r.2.mem ((c.tc : Thread Cert.AdamPoolUpRefIdeal.nD Cert.AdamPoolUpRefIdeal.τ).loc Cert.AdamPoolUpRefIdeal.main_v10) = v2 c
          ∧ r.2.mem ((c.tc : Thread Cert.AdamPoolUpRefIdeal.nD Cert.AdamPoolUpRefIdeal.τ).loc Cert.AdamPoolUpRefIdeal.main_arg0) = m' ((c.tc : Thread Cert.AdamPoolUpRefIdeal.nD Cert.AdamPoolUpRefIdeal.τ).loc Cert.AdamPoolUpRefIdeal.main_arg0)
          ∧ r.2.mem ((c.tc : Thread Cert.AdamPoolUpRefIdeal.nD Cert.AdamPoolUpRefIdeal.τ).loc Cert.AdamPoolUpRefIdeal.main_arg1) = m' ((c.tc : Thread Cert.AdamPoolUpRefIdeal.nD Cert.AdamPoolUpRefIdeal.τ).loc Cert.AdamPoolUpRefIdeal.main_arg1)
          ∧ r.2.mem ((c.tc : Thread Cert.AdamPoolUpRefIdeal.nD Cert.AdamPoolUpRefIdeal.τ).loc Cert.AdamPoolUpRefIdeal.main_arg2) = m' ((c.tc : Thread Cert.AdamPoolUpRefIdeal.nD Cert.AdamPoolUpRefIdeal.τ).loc Cert.AdamPoolUpRefIdeal.main_arg2)
          ∧ r.2.mem ((c.tc : Thread Cert.AdamPoolUpRefIdeal.nD Cert.AdamPoolUpRefIdeal.τ).loc Cert.AdamPoolUpRefIdeal.main_arg3) = m' ((c.tc : Thread Cert.AdamPoolUpRefIdeal.nD Cert.AdamPoolUpRefIdeal.τ).loc Cert.AdamPoolUpRefIdeal.main_arg3))

def preserves_AdamConvOut_AdamConvOutIdeal : Prop :=
  True

def algebraic_AdamConvOutIdeal_AdamConvOutRefIdeal [hAdamConvOutIdeal : Cert.AdamConvOutIdeal.Facts] [hAdamConvOutRefIdeal : Cert.AdamConvOutRefIdeal.Facts] : Prop :=
  ∀ (m : (ℓ : Loc Cert.AdamConvOutIdeal.nD Cert.AdamConvOutIdeal.τ Cert.AdamConvOutIdeal.sig) → Buf (Elt Ideal) ℓ) (g : Dev Cert.AdamConvOutIdeal.nD → PrngReg)
    (m' : (ℓ : Loc Cert.AdamConvOutRefIdeal.nD Cert.AdamConvOutRefIdeal.τ Cert.AdamConvOutRefIdeal.sig) → Buf (Elt Ideal) ℓ) (g' : Dev Cert.AdamConvOutRefIdeal.nD → PrngReg), Pre_AdamConvOutIdeal m →
    (∀ c : Dev Cert.AdamConvOutIdeal.nD,
      m' ((c.tc : Thread Cert.AdamConvOutRefIdeal.nD Cert.AdamConvOutRefIdeal.τ).loc Cert.AdamConvOutRefIdeal.main_arg0) = m ((c.tc : Thread Cert.AdamConvOutIdeal.nD Cert.AdamConvOutIdeal.τ).loc Cert.AdamConvOutIdeal.main_arg0)
      ∧ m' ((c.tc : Thread Cert.AdamConvOutRefIdeal.nD Cert.AdamConvOutRefIdeal.τ).loc Cert.AdamConvOutRefIdeal.main_arg1) = m ((c.tc : Thread Cert.AdamConvOutIdeal.nD Cert.AdamConvOutIdeal.τ).loc Cert.AdamConvOutIdeal.main_arg1)
      ∧ m' ((c.tc : Thread Cert.AdamConvOutRefIdeal.nD Cert.AdamConvOutRefIdeal.τ).loc Cert.AdamConvOutRefIdeal.main_arg2) = m ((c.tc : Thread Cert.AdamConvOutIdeal.nD Cert.AdamConvOutIdeal.τ).loc Cert.AdamConvOutIdeal.main_arg2)
      ∧ m' ((c.tc : Thread Cert.AdamConvOutRefIdeal.nD Cert.AdamConvOutRefIdeal.τ).loc Cert.AdamConvOutRefIdeal.main_arg3) = m ((c.tc : Thread Cert.AdamConvOutIdeal.nD Cert.AdamConvOutIdeal.τ).loc Cert.AdamConvOutIdeal.main_arg3)) →
    ∃ (v0 : (c : Dev Cert.AdamConvOutIdeal.nD) → Buf (Elt Ideal) ((c.tc : Thread Cert.AdamConvOutIdeal.nD Cert.AdamConvOutIdeal.τ).loc Cert.AdamConvOutIdeal.main_v0_0)) (v1 : (c : Dev Cert.AdamConvOutIdeal.nD) → Buf (Elt Ideal) ((c.tc : Thread Cert.AdamConvOutIdeal.nD Cert.AdamConvOutIdeal.τ).loc Cert.AdamConvOutIdeal.main_v0_1)) (v2 : (c : Dev Cert.AdamConvOutIdeal.nD) → Buf (Elt Ideal) ((c.tc : Thread Cert.AdamConvOutIdeal.nD Cert.AdamConvOutIdeal.τ).loc Cert.AdamConvOutIdeal.main_v0_2)),
      θ_run (Cert.AdamConvOutIdeal.defs (F := Ideal)) (onTc (τ := Cert.AdamConvOutIdeal.τ) (Cert.AdamConvOutIdeal.main (F := Ideal))) ⟨m, fun _ => 0, g⟩ (fun r => ∀ c : Dev Cert.AdamConvOutIdeal.nD,
          r.2.mem ((c.tc : Thread Cert.AdamConvOutIdeal.nD Cert.AdamConvOutIdeal.τ).loc Cert.AdamConvOutIdeal.main_v0_0) = v0 c
          ∧ r.2.mem ((c.tc : Thread Cert.AdamConvOutIdeal.nD Cert.AdamConvOutIdeal.τ).loc Cert.AdamConvOutIdeal.main_v0_1) = v1 c
          ∧ r.2.mem ((c.tc : Thread Cert.AdamConvOutIdeal.nD Cert.AdamConvOutIdeal.τ).loc Cert.AdamConvOutIdeal.main_v0_2) = v2 c
          ∧ r.2.mem ((c.tc : Thread Cert.AdamConvOutIdeal.nD Cert.AdamConvOutIdeal.τ).loc Cert.AdamConvOutIdeal.main_arg0) = m ((c.tc : Thread Cert.AdamConvOutIdeal.nD Cert.AdamConvOutIdeal.τ).loc Cert.AdamConvOutIdeal.main_arg0)
          ∧ r.2.mem ((c.tc : Thread Cert.AdamConvOutIdeal.nD Cert.AdamConvOutIdeal.τ).loc Cert.AdamConvOutIdeal.main_arg1) = m ((c.tc : Thread Cert.AdamConvOutIdeal.nD Cert.AdamConvOutIdeal.τ).loc Cert.AdamConvOutIdeal.main_arg1)
          ∧ r.2.mem ((c.tc : Thread Cert.AdamConvOutIdeal.nD Cert.AdamConvOutIdeal.τ).loc Cert.AdamConvOutIdeal.main_arg2) = m ((c.tc : Thread Cert.AdamConvOutIdeal.nD Cert.AdamConvOutIdeal.τ).loc Cert.AdamConvOutIdeal.main_arg2)
          ∧ r.2.mem ((c.tc : Thread Cert.AdamConvOutIdeal.nD Cert.AdamConvOutIdeal.τ).loc Cert.AdamConvOutIdeal.main_arg3) = m ((c.tc : Thread Cert.AdamConvOutIdeal.nD Cert.AdamConvOutIdeal.τ).loc Cert.AdamConvOutIdeal.main_arg3))
      ∧ θ_run (Cert.AdamConvOutRefIdeal.defs (F := Ideal)) (onTc (τ := Cert.AdamConvOutRefIdeal.τ) (Cert.AdamConvOutRefIdeal.main (F := Ideal))) ⟨m', fun _ => 0, g'⟩ (fun r => ∀ c : Dev Cert.AdamConvOutRefIdeal.nD,
          r.2.mem ((c.tc : Thread Cert.AdamConvOutRefIdeal.nD Cert.AdamConvOutRefIdeal.τ).loc Cert.AdamConvOutRefIdeal.main_v23) = v0 c
          ∧ r.2.mem ((c.tc : Thread Cert.AdamConvOutRefIdeal.nD Cert.AdamConvOutRefIdeal.τ).loc Cert.AdamConvOutRefIdeal.main_v4) = v1 c
          ∧ r.2.mem ((c.tc : Thread Cert.AdamConvOutRefIdeal.nD Cert.AdamConvOutRefIdeal.τ).loc Cert.AdamConvOutRefIdeal.main_v10) = v2 c
          ∧ r.2.mem ((c.tc : Thread Cert.AdamConvOutRefIdeal.nD Cert.AdamConvOutRefIdeal.τ).loc Cert.AdamConvOutRefIdeal.main_arg0) = m' ((c.tc : Thread Cert.AdamConvOutRefIdeal.nD Cert.AdamConvOutRefIdeal.τ).loc Cert.AdamConvOutRefIdeal.main_arg0)
          ∧ r.2.mem ((c.tc : Thread Cert.AdamConvOutRefIdeal.nD Cert.AdamConvOutRefIdeal.τ).loc Cert.AdamConvOutRefIdeal.main_arg1) = m' ((c.tc : Thread Cert.AdamConvOutRefIdeal.nD Cert.AdamConvOutRefIdeal.τ).loc Cert.AdamConvOutRefIdeal.main_arg1)
          ∧ r.2.mem ((c.tc : Thread Cert.AdamConvOutRefIdeal.nD Cert.AdamConvOutRefIdeal.τ).loc Cert.AdamConvOutRefIdeal.main_arg2) = m' ((c.tc : Thread Cert.AdamConvOutRefIdeal.nD Cert.AdamConvOutRefIdeal.τ).loc Cert.AdamConvOutRefIdeal.main_arg2)
          ∧ r.2.mem ((c.tc : Thread Cert.AdamConvOutRefIdeal.nD Cert.AdamConvOutRefIdeal.τ).loc Cert.AdamConvOutRefIdeal.main_arg3) = m' ((c.tc : Thread Cert.AdamConvOutRefIdeal.nD Cert.AdamConvOutRefIdeal.τ).loc Cert.AdamConvOutRefIdeal.main_arg3))

def preserves_AdamAttnUp_AdamAttnUpIdeal : Prop :=
  True

def algebraic_AdamAttnUpIdeal_AdamAttnUpRefIdeal [hAdamAttnUpIdeal : Cert.AdamAttnUpIdeal.Facts] [hAdamAttnUpRefIdeal : Cert.AdamAttnUpRefIdeal.Facts] : Prop :=
  ∀ (m : (ℓ : Loc Cert.AdamAttnUpIdeal.nD Cert.AdamAttnUpIdeal.τ Cert.AdamAttnUpIdeal.sig) → Buf (Elt Ideal) ℓ) (g : Dev Cert.AdamAttnUpIdeal.nD → PrngReg)
    (m' : (ℓ : Loc Cert.AdamAttnUpRefIdeal.nD Cert.AdamAttnUpRefIdeal.τ Cert.AdamAttnUpRefIdeal.sig) → Buf (Elt Ideal) ℓ) (g' : Dev Cert.AdamAttnUpRefIdeal.nD → PrngReg), Pre_AdamAttnUpIdeal m →
    (∀ c : Dev Cert.AdamAttnUpIdeal.nD,
      m' ((c.tc : Thread Cert.AdamAttnUpRefIdeal.nD Cert.AdamAttnUpRefIdeal.τ).loc Cert.AdamAttnUpRefIdeal.main_arg0) = m ((c.tc : Thread Cert.AdamAttnUpIdeal.nD Cert.AdamAttnUpIdeal.τ).loc Cert.AdamAttnUpIdeal.main_arg0)
      ∧ m' ((c.tc : Thread Cert.AdamAttnUpRefIdeal.nD Cert.AdamAttnUpRefIdeal.τ).loc Cert.AdamAttnUpRefIdeal.main_arg1) = m ((c.tc : Thread Cert.AdamAttnUpIdeal.nD Cert.AdamAttnUpIdeal.τ).loc Cert.AdamAttnUpIdeal.main_arg1)
      ∧ m' ((c.tc : Thread Cert.AdamAttnUpRefIdeal.nD Cert.AdamAttnUpRefIdeal.τ).loc Cert.AdamAttnUpRefIdeal.main_arg2) = m ((c.tc : Thread Cert.AdamAttnUpIdeal.nD Cert.AdamAttnUpIdeal.τ).loc Cert.AdamAttnUpIdeal.main_arg2)
      ∧ m' ((c.tc : Thread Cert.AdamAttnUpRefIdeal.nD Cert.AdamAttnUpRefIdeal.τ).loc Cert.AdamAttnUpRefIdeal.main_arg3) = m ((c.tc : Thread Cert.AdamAttnUpIdeal.nD Cert.AdamAttnUpIdeal.τ).loc Cert.AdamAttnUpIdeal.main_arg3)) →
    ∃ (v0 : (c : Dev Cert.AdamAttnUpIdeal.nD) → Buf (Elt Ideal) ((c.tc : Thread Cert.AdamAttnUpIdeal.nD Cert.AdamAttnUpIdeal.τ).loc Cert.AdamAttnUpIdeal.main_v0_0)) (v1 : (c : Dev Cert.AdamAttnUpIdeal.nD) → Buf (Elt Ideal) ((c.tc : Thread Cert.AdamAttnUpIdeal.nD Cert.AdamAttnUpIdeal.τ).loc Cert.AdamAttnUpIdeal.main_v0_1)) (v2 : (c : Dev Cert.AdamAttnUpIdeal.nD) → Buf (Elt Ideal) ((c.tc : Thread Cert.AdamAttnUpIdeal.nD Cert.AdamAttnUpIdeal.τ).loc Cert.AdamAttnUpIdeal.main_v0_2)),
      θ_run (Cert.AdamAttnUpIdeal.defs (F := Ideal)) (onTc (τ := Cert.AdamAttnUpIdeal.τ) (Cert.AdamAttnUpIdeal.main (F := Ideal))) ⟨m, fun _ => 0, g⟩ (fun r => ∀ c : Dev Cert.AdamAttnUpIdeal.nD,
          r.2.mem ((c.tc : Thread Cert.AdamAttnUpIdeal.nD Cert.AdamAttnUpIdeal.τ).loc Cert.AdamAttnUpIdeal.main_v0_0) = v0 c
          ∧ r.2.mem ((c.tc : Thread Cert.AdamAttnUpIdeal.nD Cert.AdamAttnUpIdeal.τ).loc Cert.AdamAttnUpIdeal.main_v0_1) = v1 c
          ∧ r.2.mem ((c.tc : Thread Cert.AdamAttnUpIdeal.nD Cert.AdamAttnUpIdeal.τ).loc Cert.AdamAttnUpIdeal.main_v0_2) = v2 c
          ∧ r.2.mem ((c.tc : Thread Cert.AdamAttnUpIdeal.nD Cert.AdamAttnUpIdeal.τ).loc Cert.AdamAttnUpIdeal.main_arg0) = m ((c.tc : Thread Cert.AdamAttnUpIdeal.nD Cert.AdamAttnUpIdeal.τ).loc Cert.AdamAttnUpIdeal.main_arg0)
          ∧ r.2.mem ((c.tc : Thread Cert.AdamAttnUpIdeal.nD Cert.AdamAttnUpIdeal.τ).loc Cert.AdamAttnUpIdeal.main_arg1) = m ((c.tc : Thread Cert.AdamAttnUpIdeal.nD Cert.AdamAttnUpIdeal.τ).loc Cert.AdamAttnUpIdeal.main_arg1)
          ∧ r.2.mem ((c.tc : Thread Cert.AdamAttnUpIdeal.nD Cert.AdamAttnUpIdeal.τ).loc Cert.AdamAttnUpIdeal.main_arg2) = m ((c.tc : Thread Cert.AdamAttnUpIdeal.nD Cert.AdamAttnUpIdeal.τ).loc Cert.AdamAttnUpIdeal.main_arg2)
          ∧ r.2.mem ((c.tc : Thread Cert.AdamAttnUpIdeal.nD Cert.AdamAttnUpIdeal.τ).loc Cert.AdamAttnUpIdeal.main_arg3) = m ((c.tc : Thread Cert.AdamAttnUpIdeal.nD Cert.AdamAttnUpIdeal.τ).loc Cert.AdamAttnUpIdeal.main_arg3))
      ∧ θ_run (Cert.AdamAttnUpRefIdeal.defs (F := Ideal)) (onTc (τ := Cert.AdamAttnUpRefIdeal.τ) (Cert.AdamAttnUpRefIdeal.main (F := Ideal))) ⟨m', fun _ => 0, g'⟩ (fun r => ∀ c : Dev Cert.AdamAttnUpRefIdeal.nD,
          r.2.mem ((c.tc : Thread Cert.AdamAttnUpRefIdeal.nD Cert.AdamAttnUpRefIdeal.τ).loc Cert.AdamAttnUpRefIdeal.main_v23) = v0 c
          ∧ r.2.mem ((c.tc : Thread Cert.AdamAttnUpRefIdeal.nD Cert.AdamAttnUpRefIdeal.τ).loc Cert.AdamAttnUpRefIdeal.main_v4) = v1 c
          ∧ r.2.mem ((c.tc : Thread Cert.AdamAttnUpRefIdeal.nD Cert.AdamAttnUpRefIdeal.τ).loc Cert.AdamAttnUpRefIdeal.main_v10) = v2 c
          ∧ r.2.mem ((c.tc : Thread Cert.AdamAttnUpRefIdeal.nD Cert.AdamAttnUpRefIdeal.τ).loc Cert.AdamAttnUpRefIdeal.main_arg0) = m' ((c.tc : Thread Cert.AdamAttnUpRefIdeal.nD Cert.AdamAttnUpRefIdeal.τ).loc Cert.AdamAttnUpRefIdeal.main_arg0)
          ∧ r.2.mem ((c.tc : Thread Cert.AdamAttnUpRefIdeal.nD Cert.AdamAttnUpRefIdeal.τ).loc Cert.AdamAttnUpRefIdeal.main_arg1) = m' ((c.tc : Thread Cert.AdamAttnUpRefIdeal.nD Cert.AdamAttnUpRefIdeal.τ).loc Cert.AdamAttnUpRefIdeal.main_arg1)
          ∧ r.2.mem ((c.tc : Thread Cert.AdamAttnUpRefIdeal.nD Cert.AdamAttnUpRefIdeal.τ).loc Cert.AdamAttnUpRefIdeal.main_arg2) = m' ((c.tc : Thread Cert.AdamAttnUpRefIdeal.nD Cert.AdamAttnUpRefIdeal.τ).loc Cert.AdamAttnUpRefIdeal.main_arg2)
          ∧ r.2.mem ((c.tc : Thread Cert.AdamAttnUpRefIdeal.nD Cert.AdamAttnUpRefIdeal.τ).loc Cert.AdamAttnUpRefIdeal.main_arg3) = m' ((c.tc : Thread Cert.AdamAttnUpRefIdeal.nD Cert.AdamAttnUpRefIdeal.τ).loc Cert.AdamAttnUpRefIdeal.main_arg3))

def preserves_AdamO_AdamOIdeal : Prop :=
  True

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)) →
    ∃ (v0 : (c : Dev Cert.AdamOIdeal.nD) → Buf (Elt Ideal) ((c.tc : Thread Cert.AdamOIdeal.nD Cert.AdamOIdeal.τ).loc Cert.AdamOIdeal.main_v0_0)) (v1 : (c : Dev Cert.AdamOIdeal.nD) → Buf (Elt Ideal) ((c.tc : Thread Cert.AdamOIdeal.nD Cert.AdamOIdeal.τ).loc Cert.AdamOIdeal.main_v0_1)) (v2 : (c : Dev Cert.AdamOIdeal.nD) → Buf (Elt Ideal) ((c.tc : Thread Cert.AdamOIdeal.nD Cert.AdamOIdeal.τ).loc Cert.AdamOIdeal.main_v0_2)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v0_0) = v0 c
          ∧ r.2.mem ((c.tc : Thread Cert.AdamOIdeal.nD Cert.AdamOIdeal.τ).loc Cert.AdamOIdeal.main_v0_1) = v1 c
          ∧ r.2.mem ((c.tc : Thread Cert.AdamOIdeal.nD Cert.AdamOIdeal.τ).loc Cert.AdamOIdeal.main_v0_2) = v2 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v23) = v0 c
          ∧ r.2.mem ((c.tc : Thread Cert.AdamORefIdeal.nD Cert.AdamORefIdeal.τ).loc Cert.AdamORefIdeal.main_v4) = v1 c
          ∧ r.2.mem ((c.tc : Thread Cert.AdamORefIdeal.nD Cert.AdamORefIdeal.τ).loc Cert.AdamORefIdeal.main_v10) = v2 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3))

def preserves_AdamFf1_AdamFf1Ideal : Prop :=
  True

def algebraic_AdamFf1Ideal_AdamFf1RefIdeal [hAdamFf1Ideal : Cert.AdamFf1Ideal.Facts] [hAdamFf1RefIdeal : Cert.AdamFf1RefIdeal.Facts] : Prop :=
  ∀ (m : (ℓ : Loc Cert.AdamFf1Ideal.nD Cert.AdamFf1Ideal.τ Cert.AdamFf1Ideal.sig) → Buf (Elt Ideal) ℓ) (g : Dev Cert.AdamFf1Ideal.nD → PrngReg)
    (m' : (ℓ : Loc Cert.AdamFf1RefIdeal.nD Cert.AdamFf1RefIdeal.τ Cert.AdamFf1RefIdeal.sig) → Buf (Elt Ideal) ℓ) (g' : Dev Cert.AdamFf1RefIdeal.nD → PrngReg), Pre_AdamFf1Ideal m →
    (∀ c : Dev Cert.AdamFf1Ideal.nD,
      m' ((c.tc : Thread Cert.AdamFf1RefIdeal.nD Cert.AdamFf1RefIdeal.τ).loc Cert.AdamFf1RefIdeal.main_arg0) = m ((c.tc : Thread Cert.AdamFf1Ideal.nD Cert.AdamFf1Ideal.τ).loc Cert.AdamFf1Ideal.main_arg0)
      ∧ m' ((c.tc : Thread Cert.AdamFf1RefIdeal.nD Cert.AdamFf1RefIdeal.τ).loc Cert.AdamFf1RefIdeal.main_arg1) = m ((c.tc : Thread Cert.AdamFf1Ideal.nD Cert.AdamFf1Ideal.τ).loc Cert.AdamFf1Ideal.main_arg1)
      ∧ m' ((c.tc : Thread Cert.AdamFf1RefIdeal.nD Cert.AdamFf1RefIdeal.τ).loc Cert.AdamFf1RefIdeal.main_arg2) = m ((c.tc : Thread Cert.AdamFf1Ideal.nD Cert.AdamFf1Ideal.τ).loc Cert.AdamFf1Ideal.main_arg2)
      ∧ m' ((c.tc : Thread Cert.AdamFf1RefIdeal.nD Cert.AdamFf1RefIdeal.τ).loc Cert.AdamFf1RefIdeal.main_arg3) = m ((c.tc : Thread Cert.AdamFf1Ideal.nD Cert.AdamFf1Ideal.τ).loc Cert.AdamFf1Ideal.main_arg3)) →
    ∃ (v0 : (c : Dev Cert.AdamFf1Ideal.nD) → Buf (Elt Ideal) ((c.tc : Thread Cert.AdamFf1Ideal.nD Cert.AdamFf1Ideal.τ).loc Cert.AdamFf1Ideal.main_v0_0)) (v1 : (c : Dev Cert.AdamFf1Ideal.nD) → Buf (Elt Ideal) ((c.tc : Thread Cert.AdamFf1Ideal.nD Cert.AdamFf1Ideal.τ).loc Cert.AdamFf1Ideal.main_v0_1)) (v2 : (c : Dev Cert.AdamFf1Ideal.nD) → Buf (Elt Ideal) ((c.tc : Thread Cert.AdamFf1Ideal.nD Cert.AdamFf1Ideal.τ).loc Cert.AdamFf1Ideal.main_v0_2)),
      θ_run (Cert.AdamFf1Ideal.defs (F := Ideal)) (onTc (τ := Cert.AdamFf1Ideal.τ) (Cert.AdamFf1Ideal.main (F := Ideal))) ⟨m, fun _ => 0, g⟩ (fun r => ∀ c : Dev Cert.AdamFf1Ideal.nD,
          r.2.mem ((c.tc : Thread Cert.AdamFf1Ideal.nD Cert.AdamFf1Ideal.τ).loc Cert.AdamFf1Ideal.main_v0_0) = v0 c
          ∧ r.2.mem ((c.tc : Thread Cert.AdamFf1Ideal.nD Cert.AdamFf1Ideal.τ).loc Cert.AdamFf1Ideal.main_v0_1) = v1 c
          ∧ r.2.mem ((c.tc : Thread Cert.AdamFf1Ideal.nD Cert.AdamFf1Ideal.τ).loc Cert.AdamFf1Ideal.main_v0_2) = v2 c
          ∧ r.2.mem ((c.tc : Thread Cert.AdamFf1Ideal.nD Cert.AdamFf1Ideal.τ).loc Cert.AdamFf1Ideal.main_arg0) = m ((c.tc : Thread Cert.AdamFf1Ideal.nD Cert.AdamFf1Ideal.τ).loc Cert.AdamFf1Ideal.main_arg0)
          ∧ r.2.mem ((c.tc : Thread Cert.AdamFf1Ideal.nD Cert.AdamFf1Ideal.τ).loc Cert.AdamFf1Ideal.main_arg1) = m ((c.tc : Thread Cert.AdamFf1Ideal.nD Cert.AdamFf1Ideal.τ).loc Cert.AdamFf1Ideal.main_arg1)
          ∧ r.2.mem ((c.tc : Thread Cert.AdamFf1Ideal.nD Cert.AdamFf1Ideal.τ).loc Cert.AdamFf1Ideal.main_arg2) = m ((c.tc : Thread Cert.AdamFf1Ideal.nD Cert.AdamFf1Ideal.τ).loc Cert.AdamFf1Ideal.main_arg2)
          ∧ r.2.mem ((c.tc : Thread Cert.AdamFf1Ideal.nD Cert.AdamFf1Ideal.τ).loc Cert.AdamFf1Ideal.main_arg3) = m ((c.tc : Thread Cert.AdamFf1Ideal.nD Cert.AdamFf1Ideal.τ).loc Cert.AdamFf1Ideal.main_arg3))
      ∧ θ_run (Cert.AdamFf1RefIdeal.defs (F := Ideal)) (onTc (τ := Cert.AdamFf1RefIdeal.τ) (Cert.AdamFf1RefIdeal.main (F := Ideal))) ⟨m', fun _ => 0, g'⟩ (fun r => ∀ c : Dev Cert.AdamFf1RefIdeal.nD,
          r.2.mem ((c.tc : Thread Cert.AdamFf1RefIdeal.nD Cert.AdamFf1RefIdeal.τ).loc Cert.AdamFf1RefIdeal.main_v23) = v0 c
          ∧ r.2.mem ((c.tc : Thread Cert.AdamFf1RefIdeal.nD Cert.AdamFf1RefIdeal.τ).loc Cert.AdamFf1RefIdeal.main_v4) = v1 c
          ∧ r.2.mem ((c.tc : Thread Cert.AdamFf1RefIdeal.nD Cert.AdamFf1RefIdeal.τ).loc Cert.AdamFf1RefIdeal.main_v10) = v2 c
          ∧ r.2.mem ((c.tc : Thread Cert.AdamFf1RefIdeal.nD Cert.AdamFf1RefIdeal.τ).loc Cert.AdamFf1RefIdeal.main_arg0) = m' ((c.tc : Thread Cert.AdamFf1RefIdeal.nD Cert.AdamFf1RefIdeal.τ).loc Cert.AdamFf1RefIdeal.main_arg0)
          ∧ r.2.mem ((c.tc : Thread Cert.AdamFf1RefIdeal.nD Cert.AdamFf1RefIdeal.τ).loc Cert.AdamFf1RefIdeal.main_arg1) = m' ((c.tc : Thread Cert.AdamFf1RefIdeal.nD Cert.AdamFf1RefIdeal.τ).loc Cert.AdamFf1RefIdeal.main_arg1)
          ∧ r.2.mem ((c.tc : Thread Cert.AdamFf1RefIdeal.nD Cert.AdamFf1RefIdeal.τ).loc Cert.AdamFf1RefIdeal.main_arg2) = m' ((c.tc : Thread Cert.AdamFf1RefIdeal.nD Cert.AdamFf1RefIdeal.τ).loc Cert.AdamFf1RefIdeal.main_arg2)
          ∧ r.2.mem ((c.tc : Thread Cert.AdamFf1RefIdeal.nD Cert.AdamFf1RefIdeal.τ).loc Cert.AdamFf1RefIdeal.main_arg3) = m' ((c.tc : Thread Cert.AdamFf1RefIdeal.nD Cert.AdamFf1RefIdeal.τ).loc Cert.AdamFf1RefIdeal.main_arg3))

def preserves_AdamFf2_AdamFf2Ideal : Prop :=
  True

def algebraic_AdamFf2Ideal_AdamFf2RefIdeal [hAdamFf2Ideal : Cert.AdamFf2Ideal.Facts] [hAdamFf2RefIdeal : Cert.AdamFf2RefIdeal.Facts] : Prop :=
  ∀ (m : (ℓ : Loc Cert.AdamFf2Ideal.nD Cert.AdamFf2Ideal.τ Cert.AdamFf2Ideal.sig) → Buf (Elt Ideal) ℓ) (g : Dev Cert.AdamFf2Ideal.nD → PrngReg)
    (m' : (ℓ : Loc Cert.AdamFf2RefIdeal.nD Cert.AdamFf2RefIdeal.τ Cert.AdamFf2RefIdeal.sig) → Buf (Elt Ideal) ℓ) (g' : Dev Cert.AdamFf2RefIdeal.nD → PrngReg), Pre_AdamFf2Ideal m →
    (∀ c : Dev Cert.AdamFf2Ideal.nD,
      m' ((c.tc : Thread Cert.AdamFf2RefIdeal.nD Cert.AdamFf2RefIdeal.τ).loc Cert.AdamFf2RefIdeal.main_arg0) = m ((c.tc : Thread Cert.AdamFf2Ideal.nD Cert.AdamFf2Ideal.τ).loc Cert.AdamFf2Ideal.main_arg0)
      ∧ m' ((c.tc : Thread Cert.AdamFf2RefIdeal.nD Cert.AdamFf2RefIdeal.τ).loc Cert.AdamFf2RefIdeal.main_arg1) = m ((c.tc : Thread Cert.AdamFf2Ideal.nD Cert.AdamFf2Ideal.τ).loc Cert.AdamFf2Ideal.main_arg1)
      ∧ m' ((c.tc : Thread Cert.AdamFf2RefIdeal.nD Cert.AdamFf2RefIdeal.τ).loc Cert.AdamFf2RefIdeal.main_arg2) = m ((c.tc : Thread Cert.AdamFf2Ideal.nD Cert.AdamFf2Ideal.τ).loc Cert.AdamFf2Ideal.main_arg2)
      ∧ m' ((c.tc : Thread Cert.AdamFf2RefIdeal.nD Cert.AdamFf2RefIdeal.τ).loc Cert.AdamFf2RefIdeal.main_arg3) = m ((c.tc : Thread Cert.AdamFf2Ideal.nD Cert.AdamFf2Ideal.τ).loc Cert.AdamFf2Ideal.main_arg3)) →
    ∃ (v0 : (c : Dev Cert.AdamFf2Ideal.nD) → Buf (Elt Ideal) ((c.tc : Thread Cert.AdamFf2Ideal.nD Cert.AdamFf2Ideal.τ).loc Cert.AdamFf2Ideal.main_v0_0)) (v1 : (c : Dev Cert.AdamFf2Ideal.nD) → Buf (Elt Ideal) ((c.tc : Thread Cert.AdamFf2Ideal.nD Cert.AdamFf2Ideal.τ).loc Cert.AdamFf2Ideal.main_v0_1)) (v2 : (c : Dev Cert.AdamFf2Ideal.nD) → Buf (Elt Ideal) ((c.tc : Thread Cert.AdamFf2Ideal.nD Cert.AdamFf2Ideal.τ).loc Cert.AdamFf2Ideal.main_v0_2)),
      θ_run (Cert.AdamFf2Ideal.defs (F := Ideal)) (onTc (τ := Cert.AdamFf2Ideal.τ) (Cert.AdamFf2Ideal.main (F := Ideal))) ⟨m, fun _ => 0, g⟩ (fun r => ∀ c : Dev Cert.AdamFf2Ideal.nD,
          r.2.mem ((c.tc : Thread Cert.AdamFf2Ideal.nD Cert.AdamFf2Ideal.τ).loc Cert.AdamFf2Ideal.main_v0_0) = v0 c
          ∧ r.2.mem ((c.tc : Thread Cert.AdamFf2Ideal.nD Cert.AdamFf2Ideal.τ).loc Cert.AdamFf2Ideal.main_v0_1) = v1 c
          ∧ r.2.mem ((c.tc : Thread Cert.AdamFf2Ideal.nD Cert.AdamFf2Ideal.τ).loc Cert.AdamFf2Ideal.main_v0_2) = v2 c
          ∧ r.2.mem ((c.tc : Thread Cert.AdamFf2Ideal.nD Cert.AdamFf2Ideal.τ).loc Cert.AdamFf2Ideal.main_arg0) = m ((c.tc : Thread Cert.AdamFf2Ideal.nD Cert.AdamFf2Ideal.τ).loc Cert.AdamFf2Ideal.main_arg0)
          ∧ r.2.mem ((c.tc : Thread Cert.AdamFf2Ideal.nD Cert.AdamFf2Ideal.τ).loc Cert.AdamFf2Ideal.main_arg1) = m ((c.tc : Thread Cert.AdamFf2Ideal.nD Cert.AdamFf2Ideal.τ).loc Cert.AdamFf2Ideal.main_arg1)
          ∧ r.2.mem ((c.tc : Thread Cert.AdamFf2Ideal.nD Cert.AdamFf2Ideal.τ).loc Cert.AdamFf2Ideal.main_arg2) = m ((c.tc : Thread Cert.AdamFf2Ideal.nD Cert.AdamFf2Ideal.τ).loc Cert.AdamFf2Ideal.main_arg2)
          ∧ r.2.mem ((c.tc : Thread Cert.AdamFf2Ideal.nD Cert.AdamFf2Ideal.τ).loc Cert.AdamFf2Ideal.main_arg3) = m ((c.tc : Thread Cert.AdamFf2Ideal.nD Cert.AdamFf2Ideal.τ).loc Cert.AdamFf2Ideal.main_arg3))
      ∧ θ_run (Cert.AdamFf2RefIdeal.defs (F := Ideal)) (onTc (τ := Cert.AdamFf2RefIdeal.τ) (Cert.AdamFf2RefIdeal.main (F := Ideal))) ⟨m', fun _ => 0, g'⟩ (fun r => ∀ c : Dev Cert.AdamFf2RefIdeal.nD,
          r.2.mem ((c.tc : Thread Cert.AdamFf2RefIdeal.nD Cert.AdamFf2RefIdeal.τ).loc Cert.AdamFf2RefIdeal.main_v23) = v0 c
          ∧ r.2.mem ((c.tc : Thread Cert.AdamFf2RefIdeal.nD Cert.AdamFf2RefIdeal.τ).loc Cert.AdamFf2RefIdeal.main_v4) = v1 c
          ∧ r.2.mem ((c.tc : Thread Cert.AdamFf2RefIdeal.nD Cert.AdamFf2RefIdeal.τ).loc Cert.AdamFf2RefIdeal.main_v10) = v2 c
          ∧ r.2.mem ((c.tc : Thread Cert.AdamFf2RefIdeal.nD Cert.AdamFf2RefIdeal.τ).loc Cert.AdamFf2RefIdeal.main_arg0) = m' ((c.tc : Thread Cert.AdamFf2RefIdeal.nD Cert.AdamFf2RefIdeal.τ).loc Cert.AdamFf2RefIdeal.main_arg0)
          ∧ r.2.mem ((c.tc : Thread Cert.AdamFf2RefIdeal.nD Cert.AdamFf2RefIdeal.τ).loc Cert.AdamFf2RefIdeal.main_arg1) = m' ((c.tc : Thread Cert.AdamFf2RefIdeal.nD Cert.AdamFf2RefIdeal.τ).loc Cert.AdamFf2RefIdeal.main_arg1)
          ∧ r.2.mem ((c.tc : Thread Cert.AdamFf2RefIdeal.nD Cert.AdamFf2RefIdeal.τ).loc Cert.AdamFf2RefIdeal.main_arg2) = m' ((c.tc : Thread Cert.AdamFf2RefIdeal.nD Cert.AdamFf2RefIdeal.τ).loc Cert.AdamFf2RefIdeal.main_arg2)
          ∧ r.2.mem ((c.tc : Thread Cert.AdamFf2RefIdeal.nD Cert.AdamFf2RefIdeal.τ).loc Cert.AdamFf2RefIdeal.main_arg3) = m' ((c.tc : Thread Cert.AdamFf2RefIdeal.nD Cert.AdamFf2RefIdeal.τ).loc Cert.AdamFf2RefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumTwo_SumTwoIdeal : Prop :=
  True

def algebraic_SumTwoIdeal_SumTwoRefIdeal [hSumTwoIdeal : Cert.SumTwoIdeal.Facts] [hSumTwoRefIdeal : Cert.SumTwoRefIdeal.Facts] : Prop :=
  ∀ (m : (ℓ : Loc Cert.SumTwoIdeal.nD Cert.SumTwoIdeal.τ Cert.SumTwoIdeal.sig) → Buf (Elt Ideal) ℓ) (g : Dev Cert.SumTwoIdeal.nD → PrngReg)
    (m' : (ℓ : Loc Cert.SumTwoRefIdeal.nD Cert.SumTwoRefIdeal.τ Cert.SumTwoRefIdeal.sig) → Buf (Elt Ideal) ℓ) (g' : Dev Cert.SumTwoRefIdeal.nD → PrngReg), Pre_SumTwoIdeal m →
    (∀ c : Dev Cert.SumTwoIdeal.nD,
      m' ((c.tc : Thread Cert.SumTwoRefIdeal.nD Cert.SumTwoRefIdeal.τ).loc Cert.SumTwoRefIdeal.main_arg0) = m ((c.tc : Thread Cert.SumTwoIdeal.nD Cert.SumTwoIdeal.τ).loc Cert.SumTwoIdeal.main_arg0)
      ∧ m' ((c.tc : Thread Cert.SumTwoRefIdeal.nD Cert.SumTwoRefIdeal.τ).loc Cert.SumTwoRefIdeal.main_arg1) = m ((c.tc : Thread Cert.SumTwoIdeal.nD Cert.SumTwoIdeal.τ).loc Cert.SumTwoIdeal.main_arg1)) →
    ∃ (v0 : (c : Dev Cert.SumTwoIdeal.nD) → Buf (Elt Ideal) ((c.tc : Thread Cert.SumTwoIdeal.nD Cert.SumTwoIdeal.τ).loc Cert.SumTwoIdeal.main_v0)),
      θ_run (Cert.SumTwoIdeal.defs (F := Ideal)) (onTc (τ := Cert.SumTwoIdeal.τ) (Cert.SumTwoIdeal.main (F := Ideal))) ⟨m, fun _ => 0, g⟩ (fun r => ∀ c : Dev Cert.SumTwoIdeal.nD,
          r.2.mem ((c.tc : Thread Cert.SumTwoIdeal.nD Cert.SumTwoIdeal.τ).loc Cert.SumTwoIdeal.main_v0) = v0 c
          ∧ r.2.mem ((c.tc : Thread Cert.SumTwoIdeal.nD Cert.SumTwoIdeal.τ).loc Cert.SumTwoIdeal.main_arg0) = m ((c.tc : Thread Cert.SumTwoIdeal.nD Cert.SumTwoIdeal.τ).loc Cert.SumTwoIdeal.main_arg0)
          ∧ r.2.mem ((c.tc : Thread Cert.SumTwoIdeal.nD Cert.SumTwoIdeal.τ).loc Cert.SumTwoIdeal.main_arg1) = m ((c.tc : Thread Cert.SumTwoIdeal.nD Cert.SumTwoIdeal.τ).loc Cert.SumTwoIdeal.main_arg1))
      ∧ θ_run (Cert.SumTwoRefIdeal.defs (F := Ideal)) (onTc (τ := Cert.SumTwoRefIdeal.τ) (Cert.SumTwoRefIdeal.main (F := Ideal))) ⟨m', fun _ => 0, g'⟩ (fun r => ∀ c : Dev Cert.SumTwoRefIdeal.nD,
          r.2.mem ((c.tc : Thread Cert.SumTwoRefIdeal.nD Cert.SumTwoRefIdeal.τ).loc Cert.SumTwoRefIdeal.main_v0) = v0 c
          ∧ r.2.mem ((c.tc : Thread Cert.SumTwoRefIdeal.nD Cert.SumTwoRefIdeal.τ).loc Cert.SumTwoRefIdeal.main_arg0) = m' ((c.tc : Thread Cert.SumTwoRefIdeal.nD Cert.SumTwoRefIdeal.τ).loc Cert.SumTwoRefIdeal.main_arg0)
          ∧ r.2.mem ((c.tc : Thread Cert.SumTwoRefIdeal.nD Cert.SumTwoRefIdeal.τ).loc Cert.SumTwoRefIdeal.main_arg1) = m' ((c.tc : Thread Cert.SumTwoRefIdeal.nD Cert.SumTwoRefIdeal.τ).loc Cert.SumTwoRefIdeal.main_arg1))

def preserves_SumBig_SumBigIdeal : Prop :=
  True

def algebraic_SumBigIdeal_SumBigRefIdeal [hSumBigIdeal : Cert.SumBigIdeal.Facts] [hSumBigRefIdeal : Cert.SumBigRefIdeal.Facts] : Prop :=
  ∀ (m : (ℓ : Loc Cert.SumBigIdeal.nD Cert.SumBigIdeal.τ Cert.SumBigIdeal.sig) → Buf (Elt Ideal) ℓ) (g : Dev Cert.SumBigIdeal.nD → PrngReg)
    (m' : (ℓ : Loc Cert.SumBigRefIdeal.nD Cert.SumBigRefIdeal.τ Cert.SumBigRefIdeal.sig) → Buf (Elt Ideal) ℓ) (g' : Dev Cert.SumBigRefIdeal.nD → PrngReg), Pre_SumBigIdeal m →
    (∀ c : Dev Cert.SumBigIdeal.nD,
      m' ((c.tc : Thread Cert.SumBigRefIdeal.nD Cert.SumBigRefIdeal.τ).loc Cert.SumBigRefIdeal.main_arg0) = m ((c.tc : Thread Cert.SumBigIdeal.nD Cert.SumBigIdeal.τ).loc Cert.SumBigIdeal.main_arg0)
      ∧ m' ((c.tc : Thread Cert.SumBigRefIdeal.nD Cert.SumBigRefIdeal.τ).loc Cert.SumBigRefIdeal.main_arg1) = m ((c.tc : Thread Cert.SumBigIdeal.nD Cert.SumBigIdeal.τ).loc Cert.SumBigIdeal.main_arg1)
      ∧ m' ((c.tc : Thread Cert.SumBigRefIdeal.nD Cert.SumBigRefIdeal.τ).loc Cert.SumBigRefIdeal.main_arg2) = m ((c.tc : Thread Cert.SumBigIdeal.nD Cert.SumBigIdeal.τ).loc Cert.SumBigIdeal.main_arg2)) →
    ∃ (v0 : (c : Dev Cert.SumBigIdeal.nD) → Buf (Elt Ideal) ((c.tc : Thread Cert.SumBigIdeal.nD Cert.SumBigIdeal.τ).loc Cert.SumBigIdeal.main_v0)),
      θ_run (Cert.SumBigIdeal.defs (F := Ideal)) (onTc (τ := Cert.SumBigIdeal.τ) (Cert.SumBigIdeal.main (F := Ideal))) ⟨m, fun _ => 0, g⟩ (fun r => ∀ c : Dev Cert.SumBigIdeal.nD,
          r.2.mem ((c.tc : Thread Cert.SumBigIdeal.nD Cert.SumBigIdeal.τ).loc Cert.SumBigIdeal.main_v0) = v0 c
          ∧ r.2.mem ((c.tc : Thread Cert.SumBigIdeal.nD Cert.SumBigIdeal.τ).loc Cert.SumBigIdeal.main_arg0) = m ((c.tc : Thread Cert.SumBigIdeal.nD Cert.SumBigIdeal.τ).loc Cert.SumBigIdeal.main_arg0)
          ∧ r.2.mem ((c.tc : Thread Cert.SumBigIdeal.nD Cert.SumBigIdeal.τ).loc Cert.SumBigIdeal.main_arg1) = m ((c.tc : Thread Cert.SumBigIdeal.nD Cert.SumBigIdeal.τ).loc Cert.SumBigIdeal.main_arg1)
          ∧ r.2.mem ((c.tc : Thread Cert.SumBigIdeal.nD Cert.SumBigIdeal.τ).loc Cert.SumBigIdeal.main_arg2) = m ((c.tc : Thread Cert.SumBigIdeal.nD Cert.SumBigIdeal.τ).loc Cert.SumBigIdeal.main_arg2))
      ∧ θ_run (Cert.SumBigRefIdeal.defs (F := Ideal)) (onTc (τ := Cert.SumBigRefIdeal.τ) (Cert.SumBigRefIdeal.main (F := Ideal))) ⟨m', fun _ => 0, g'⟩ (fun r => ∀ c : Dev Cert.SumBigRefIdeal.nD,
          r.2.mem ((c.tc : Thread Cert.SumBigRefIdeal.nD Cert.SumBigRefIdeal.τ).loc Cert.SumBigRefIdeal.main_v9) = v0 c
          ∧ r.2.mem ((c.tc : Thread Cert.SumBigRefIdeal.nD Cert.SumBigRefIdeal.τ).loc Cert.SumBigRefIdeal.main_arg0) = m' ((c.tc : Thread Cert.SumBigRefIdeal.nD Cert.SumBigRefIdeal.τ).loc Cert.SumBigRefIdeal.main_arg0)
          ∧ r.2.mem ((c.tc : Thread Cert.SumBigRefIdeal.nD Cert.SumBigRefIdeal.τ).loc Cert.SumBigRefIdeal.main_arg1) = m' ((c.tc : Thread Cert.SumBigRefIdeal.nD Cert.SumBigRefIdeal.τ).loc Cert.SumBigRefIdeal.main_arg1)
          ∧ r.2.mem ((c.tc : Thread Cert.SumBigRefIdeal.nD Cert.SumBigRefIdeal.τ).loc Cert.SumBigRefIdeal.main_arg2) = m' ((c.tc : Thread Cert.SumBigRefIdeal.nD Cert.SumBigRefIdeal.τ).loc Cert.SumBigRefIdeal.main_arg2))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)
      ∧ m' ((c.tc : Thread Cert.SumSmallRefIdeal.nD Cert.SumSmallRefIdeal.τ).loc Cert.SumSmallRefIdeal.main_arg1) = m ((c.tc : Thread Cert.SumSmallIdeal.nD Cert.SumSmallIdeal.τ).loc Cert.SumSmallIdeal.main_arg1)
      ∧ m' ((c.tc : Thread Cert.SumSmallRefIdeal.nD Cert.SumSmallRefIdeal.τ).loc Cert.SumSmallRefIdeal.main_arg2) = m ((c.tc : Thread Cert.SumSmallIdeal.nD Cert.SumSmallIdeal.τ).loc Cert.SumSmallIdeal.main_arg2)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
          ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v8) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0)
          ∧ r.2.mem ((c.tc : Thread Cert.SumSmallRefIdeal.nD Cert.SumSmallRefIdeal.τ).loc Cert.SumSmallRefIdeal.main_arg1) = m' ((c.tc : Thread Cert.SumSmallRefIdeal.nD Cert.SumSmallRefIdeal.τ).loc Cert.SumSmallRefIdeal.main_arg1)
          ∧ r.2.mem ((c.tc : Thread Cert.SumSmallRefIdeal.nD Cert.SumSmallRefIdeal.τ).loc Cert.SumSmallRefIdeal.main_arg2) = m' ((c.tc : Thread Cert.SumSmallRefIdeal.nD Cert.SumSmallRefIdeal.τ).loc Cert.SumSmallRefIdeal.main_arg2))

def bitexact_SumTwo_SumTwoRef [hSumTwo : Cert.SumTwo.Facts] [hSumTwoRef : Cert.SumTwoRef.Facts] : Prop :=
  ∀ (m : (ℓ : Loc Cert.SumTwo.nD Cert.SumTwo.τ Cert.SumTwo.sig) → Buf (Elt Bits) ℓ) (g : Dev Cert.SumTwo.nD → PrngReg)
    (m' : (ℓ : Loc Cert.SumTwoRef.nD Cert.SumTwoRef.τ Cert.SumTwoRef.sig) → Buf (Elt Bits) ℓ) (g' : Dev Cert.SumTwoRef.nD → PrngReg), Pre_SumTwo m →
    (∀ c : Dev Cert.SumTwo.nD,
      m' ((c.tc : Thread Cert.SumTwoRef.nD Cert.SumTwoRef.τ).loc Cert.SumTwoRef.main_arg0) = m ((c.tc : Thread Cert.SumTwo.nD Cert.SumTwo.τ).loc Cert.SumTwo.main_arg0)
      ∧ m' ((c.tc : Thread Cert.SumTwoRef.nD Cert.SumTwoRef.τ).loc Cert.SumTwoRef.main_arg1) = m ((c.tc : Thread Cert.SumTwo.nD Cert.SumTwo.τ).loc Cert.SumTwo.main_arg1)) →
    ∃ (v0 : (c : Dev Cert.SumTwo.nD) → Buf (Elt Bits) ((c.tc : Thread Cert.SumTwo.nD Cert.SumTwo.τ).loc Cert.SumTwo.main_v0)),
      θ_run (Cert.SumTwo.defs (F := Bits)) (onTc (τ := Cert.SumTwo.τ) (Cert.SumTwo.main (F := Bits))) ⟨m, fun _ => 0, g⟩ (fun r => ∀ c : Dev Cert.SumTwo.nD,
          r.2.mem ((c.tc : Thread Cert.SumTwo.nD Cert.SumTwo.τ).loc Cert.SumTwo.main_v0) = v0 c
          ∧ r.2.mem ((c.tc : Thread Cert.SumTwo.nD Cert.SumTwo.τ).loc Cert.SumTwo.main_arg0) = m ((c.tc : Thread Cert.SumTwo.nD Cert.SumTwo.τ).loc Cert.SumTwo.main_arg0)
          ∧ r.2.mem ((c.tc : Thread Cert.SumTwo.nD Cert.SumTwo.τ).loc Cert.SumTwo.main_arg1) = m ((c.tc : Thread Cert.SumTwo.nD Cert.SumTwo.τ).loc Cert.SumTwo.main_arg1))
      ∧ θ_run (Cert.SumTwoRef.defs (F := Bits)) (onTc (τ := Cert.SumTwoRef.τ) (Cert.SumTwoRef.main (F := Bits))) ⟨m', fun _ => 0, g'⟩ (fun r => ∀ c : Dev Cert.SumTwoRef.nD,
          r.2.mem ((c.tc : Thread Cert.SumTwoRef.nD Cert.SumTwoRef.τ).loc Cert.SumTwoRef.main_v0) = v0 c
          ∧ r.2.mem ((c.tc : Thread Cert.SumTwoRef.nD Cert.SumTwoRef.τ).loc Cert.SumTwoRef.main_arg0) = m' ((c.tc : Thread Cert.SumTwoRef.nD Cert.SumTwoRef.τ).loc Cert.SumTwoRef.main_arg0)
          ∧ r.2.mem ((c.tc : Thread Cert.SumTwoRef.nD Cert.SumTwoRef.τ).loc Cert.SumTwoRef.main_arg1) = m' ((c.tc : Thread Cert.SumTwoRef.nD Cert.SumTwoRef.τ).loc Cert.SumTwoRef.main_arg1))

def preserves_SumPair_SumPairIdeal : Prop :=
  True

def algebraic_SumPairIdeal_SumPairRefIdeal [hSumPairIdeal : Cert.SumPairIdeal.Facts] [hSumPairRefIdeal : Cert.SumPairRefIdeal.Facts] [hPre_named : Cert.Pre_named.Facts] : Prop :=
  ∀ (m : (ℓ : Loc Cert.SumPairIdeal.nD Cert.SumPairIdeal.τ Cert.SumPairIdeal.sig) → Buf (Elt Ideal) ℓ) (g : Dev Cert.SumPairIdeal.nD → PrngReg)
    (m' : (ℓ : Loc Cert.SumPairRefIdeal.nD Cert.SumPairRefIdeal.τ Cert.SumPairRefIdeal.sig) → Buf (Elt Ideal) ℓ) (g' : Dev Cert.SumPairRefIdeal.nD → PrngReg), Pre_SumPairIdeal m →
    (∀ c : Dev Cert.SumPairIdeal.nD,
      m' ((c.tc : Thread Cert.SumPairRefIdeal.nD Cert.SumPairRefIdeal.τ).loc Cert.SumPairRefIdeal.main_arg0) = m ((c.tc : Thread Cert.SumPairIdeal.nD Cert.SumPairIdeal.τ).loc Cert.SumPairIdeal.main_arg0)
      ∧ m' ((c.tc : Thread Cert.SumPairRefIdeal.nD Cert.SumPairRefIdeal.τ).loc Cert.SumPairRefIdeal.main_arg1) = m ((c.tc : Thread Cert.SumPairIdeal.nD Cert.SumPairIdeal.τ).loc Cert.SumPairIdeal.main_arg1)
      ∧ m' ((c.tc : Thread Cert.SumPairRefIdeal.nD Cert.SumPairRefIdeal.τ).loc Cert.SumPairRefIdeal.main_arg2) = m ((c.tc : Thread Cert.SumPairIdeal.nD Cert.SumPairIdeal.τ).loc Cert.SumPairIdeal.main_arg2)) →
    ∃ (v0 : (c : Dev Cert.SumPairIdeal.nD) → Buf (Elt Ideal) ((c.tc : Thread Cert.SumPairIdeal.nD Cert.SumPairIdeal.τ).loc Cert.SumPairIdeal.main_v0_0)) (v1 : (c : Dev Cert.SumPairIdeal.nD) → Buf (Elt Ideal) ((c.tc : Thread Cert.SumPairIdeal.nD Cert.SumPairIdeal.τ).loc Cert.SumPairIdeal.main_v0_1)),
      θ_run (Cert.SumPairIdeal.defs (F := Ideal)) (onTc (τ := Cert.SumPairIdeal.τ) (Cert.SumPairIdeal.main (F := Ideal))) ⟨m, fun _ => 0, g⟩ (fun r => ∀ c : Dev Cert.SumPairIdeal.nD,
          r.2.mem ((c.tc : Thread Cert.SumPairIdeal.nD Cert.SumPairIdeal.τ).loc Cert.SumPairIdeal.main_v0_0) = v0 c
          ∧ r.2.mem ((c.tc : Thread Cert.SumPairIdeal.nD Cert.SumPairIdeal.τ).loc Cert.SumPairIdeal.main_v0_1) = v1 c
          ∧ r.2.mem ((c.tc : Thread Cert.SumPairIdeal.nD Cert.SumPairIdeal.τ).loc Cert.SumPairIdeal.main_arg0) = m ((c.tc : Thread Cert.SumPairIdeal.nD Cert.SumPairIdeal.τ).loc Cert.SumPairIdeal.main_arg0)
          ∧ r.2.mem ((c.tc : Thread Cert.SumPairIdeal.nD Cert.SumPairIdeal.τ).loc Cert.SumPairIdeal.main_arg1) = m ((c.tc : Thread Cert.SumPairIdeal.nD Cert.SumPairIdeal.τ).loc Cert.SumPairIdeal.main_arg1)
          ∧ r.2.mem ((c.tc : Thread Cert.SumPairIdeal.nD Cert.SumPairIdeal.τ).loc Cert.SumPairIdeal.main_arg2) = m ((c.tc : Thread Cert.SumPairIdeal.nD Cert.SumPairIdeal.τ).loc Cert.SumPairIdeal.main_arg2))
      ∧ θ_run (Cert.SumPairRefIdeal.defs (F := Ideal)) (onTc (τ := Cert.SumPairRefIdeal.τ) (Cert.SumPairRefIdeal.main (F := Ideal))) ⟨m', fun _ => 0, g'⟩ (fun r => ∀ c : Dev Cert.SumPairRefIdeal.nD,
          r.2.mem ((c.tc : Thread Cert.SumPairRefIdeal.nD Cert.SumPairRefIdeal.τ).loc Cert.SumPairRefIdeal.main_v11) = v0 c
          ∧ r.2.mem ((c.tc : Thread Cert.SumPairRefIdeal.nD Cert.SumPairRefIdeal.τ).loc Cert.SumPairRefIdeal.main_v17) = v1 c
          ∧ r.2.mem ((c.tc : Thread Cert.SumPairRefIdeal.nD Cert.SumPairRefIdeal.τ).loc Cert.SumPairRefIdeal.main_arg0) = m' ((c.tc : Thread Cert.SumPairRefIdeal.nD Cert.SumPairRefIdeal.τ).loc Cert.SumPairRefIdeal.main_arg0)
          ∧ r.2.mem ((c.tc : Thread Cert.SumPairRefIdeal.nD Cert.SumPairRefIdeal.τ).loc Cert.SumPairRefIdeal.main_arg1) = m' ((c.tc : Thread Cert.SumPairRefIdeal.nD Cert.SumPairRefIdeal.τ).loc Cert.SumPairRefIdeal.main_arg1)
          ∧ r.2.mem ((c.tc : Thread Cert.SumPairRefIdeal.nD Cert.SumPairRefIdeal.τ).loc Cert.SumPairRefIdeal.main_arg2) = m' ((c.tc : Thread Cert.SumPairRefIdeal.nD Cert.SumPairRefIdeal.τ).loc Cert.SumPairRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v9) = v0 c
          ∧ r.2.mem ((c.tc : Thread Cert.LossHeadRefIdeal.nD Cert.LossHeadRefIdeal.τ).loc Cert.LossHeadRefIdeal.main_v10) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v22) = v0 c
          ∧ r.2.mem ((c.tc : Thread Cert.NormBwdRefIdeal.nD Cert.NormBwdRefIdeal.τ).loc Cert.NormBwdRefIdeal.main_v25) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_Total_TotalIdeal : Prop :=
  True

def algebraic_TotalIdeal_TotalRefIdeal [hTotalIdeal : Cert.TotalIdeal.Facts] [hTotalRefIdeal : Cert.TotalRefIdeal.Facts] : Prop :=
  ∀ (m : (ℓ : Loc Cert.TotalIdeal.nD Cert.TotalIdeal.τ Cert.TotalIdeal.sig) → Buf (Elt Ideal) ℓ) (g : Dev Cert.TotalIdeal.nD → PrngReg)
    (m' : (ℓ : Loc Cert.TotalRefIdeal.nD Cert.TotalRefIdeal.τ Cert.TotalRefIdeal.sig) → Buf (Elt Ideal) ℓ) (g' : Dev Cert.TotalRefIdeal.nD → PrngReg), Pre_TotalIdeal m →
    (∀ c : Dev Cert.TotalIdeal.nD,
      m ((c.tc : Thread Cert.TotalIdeal.nD Cert.TotalIdeal.τ).loc Cert.TotalIdeal.main_arg0) = Layout.block ⟨2, ![4096, 1024]⟩ ⟨2, ![32768, 1024]⟩ 0 8 c (m' (((0 : Dev Cert.TotalRefIdeal.nD).tc : Thread Cert.TotalRefIdeal.nD Cert.TotalRefIdeal.τ).loc Cert.TotalRefIdeal.main_arg0))
      ∧ m ((c.tc : Thread Cert.TotalIdeal.nD Cert.TotalIdeal.τ).loc Cert.TotalIdeal.main_arg1) = Layout.block ⟨2, ![4096, 1024]⟩ ⟨2, ![32768, 1024]⟩ 0 8 c (m' (((0 : Dev Cert.TotalRefIdeal.nD).tc : Thread Cert.TotalRefIdeal.nD Cert.TotalRefIdeal.τ).loc Cert.TotalRefIdeal.main_arg1))) →
    ∃ (v0 : Buf (Elt Ideal) (((0 : Dev Cert.TotalRefIdeal.nD).tc : Thread Cert.TotalRefIdeal.nD Cert.TotalRefIdeal.τ).loc Cert.TotalRefIdeal.main_v6)),
      θ_run (Cert.TotalIdeal.defs (F := Ideal)) (onTc (τ := Cert.TotalIdeal.τ) (Cert.TotalIdeal.main (F := Ideal))) ⟨m, fun _ => 0, g⟩ (fun r => ∀ c : Dev Cert.TotalIdeal.nD,
          r.2.mem ((c.tc : Thread Cert.TotalIdeal.nD Cert.TotalIdeal.τ).loc Cert.TotalIdeal.main_v3) = v0
          ∧ r.2.mem ((c.tc : Thread Cert.TotalIdeal.nD Cert.TotalIdeal.τ).loc Cert.TotalIdeal.main_arg0) = m ((c.tc : Thread Cert.TotalIdeal.nD Cert.TotalIdeal.τ).loc Cert.TotalIdeal.main_arg0)
          ∧ r.2.mem ((c.tc : Thread Cert.TotalIdeal.nD Cert.TotalIdeal.τ).loc Cert.TotalIdeal.main_arg1) = m ((c.tc : Thread Cert.TotalIdeal.nD Cert.TotalIdeal.τ).loc Cert.TotalIdeal.main_arg1))
      ∧ θ_run (Cert.TotalRefIdeal.defs (F := Ideal)) (onTc (τ := Cert.TotalRefIdeal.τ) (Cert.TotalRefIdeal.main (F := Ideal))) ⟨m', fun _ => 0, g'⟩ (fun r =>
          r.2.mem (((0 : Dev Cert.TotalRefIdeal.nD).tc : Thread Cert.TotalRefIdeal.nD Cert.TotalRefIdeal.τ).loc Cert.TotalRefIdeal.main_v6) = v0
          ∧ r.2.mem (((0 : Dev Cert.TotalRefIdeal.nD).tc : Thread Cert.TotalRefIdeal.nD Cert.TotalRefIdeal.τ).loc Cert.TotalRefIdeal.main_arg0) = m' (((0 : Dev Cert.TotalRefIdeal.nD).tc : Thread Cert.TotalRefIdeal.nD Cert.TotalRefIdeal.τ).loc Cert.TotalRefIdeal.main_arg0)
          ∧ r.2.mem (((0 : Dev Cert.TotalRefIdeal.nD).tc : Thread Cert.TotalRefIdeal.nD Cert.TotalRefIdeal.τ).loc Cert.TotalRefIdeal.main_arg1) = m' (((0 : Dev Cert.TotalRefIdeal.nD).tc : Thread Cert.TotalRefIdeal.nD Cert.TotalRefIdeal.τ).loc Cert.TotalRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_FfUp_FfUpIdeal : Prop :=
  True

def algebraic_FfUpIdeal_FfUpRefIdeal [hFfUpIdeal : Cert.FfUpIdeal.Facts] [hFfUpRefIdeal : Cert.FfUpRefIdeal.Facts] : Prop :=
  ∀ (m : (ℓ : Loc Cert.FfUpIdeal.nD Cert.FfUpIdeal.τ Cert.FfUpIdeal.sig) → Buf (Elt Ideal) ℓ) (g : Dev Cert.FfUpIdeal.nD → PrngReg)
    (m' : (ℓ : Loc Cert.FfUpRefIdeal.nD Cert.FfUpRefIdeal.τ Cert.FfUpRefIdeal.sig) → Buf (Elt Ideal) ℓ) (g' : Dev Cert.FfUpRefIdeal.nD → PrngReg), Pre_FfUpIdeal m →
    (∀ c : Dev Cert.FfUpIdeal.nD,
      m' ((c.tc : Thread Cert.FfUpRefIdeal.nD Cert.FfUpRefIdeal.τ).loc Cert.FfUpRefIdeal.main_arg0) = m ((c.tc : Thread Cert.FfUpIdeal.nD Cert.FfUpIdeal.τ).loc Cert.FfUpIdeal.main_arg0)
      ∧ m' ((c.tc : Thread Cert.FfUpRefIdeal.nD Cert.FfUpRefIdeal.τ).loc Cert.FfUpRefIdeal.main_arg1) = m ((c.tc : Thread Cert.FfUpIdeal.nD Cert.FfUpIdeal.τ).loc Cert.FfUpIdeal.main_arg1)) →
    ∃ (v0 : (c : Dev Cert.FfUpIdeal.nD) → Buf (Elt Ideal) ((c.tc : Thread Cert.FfUpIdeal.nD Cert.FfUpIdeal.τ).loc Cert.FfUpIdeal.main_v0_0)) (v1 : (c : Dev Cert.FfUpIdeal.nD) → Buf (Elt Ideal) ((c.tc : Thread Cert.FfUpIdeal.nD Cert.FfUpIdeal.τ).loc Cert.FfUpIdeal.main_v0_1)),
      θ_run (Cert.FfUpIdeal.defs (F := Ideal)) (onTc (τ := Cert.FfUpIdeal.τ) (Cert.FfUpIdeal.main (F := Ideal))) ⟨m, fun _ => 0, g⟩ (fun r => ∀ c : Dev Cert.FfUpIdeal.nD,
          r.2.mem ((c.tc : Thread Cert.FfUpIdeal.nD Cert.FfUpIdeal.τ).loc Cert.FfUpIdeal.main_v0_0) = v0 c
          ∧ r.2.mem ((c.tc : Thread Cert.FfUpIdeal.nD Cert.FfUpIdeal.τ).loc Cert.FfUpIdeal.main_v0_1) = v1 c
          ∧ r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
          ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1))
      ∧ θ_run (Cert.FfUpRefIdeal.defs (F := Ideal)) (onTc (τ := Cert.FfUpRefIdeal.τ) (Cert.FfUpRefIdeal.main (F := Ideal))) ⟨m', fun _ => 0, g'⟩ (fun r => ∀ c : Dev Cert.FfUpRefIdeal.nD,
          r.2.mem ((c.tc : Thread Cert.FfUpRefIdeal.nD Cert.FfUpRefIdeal.τ).loc Cert.FfUpRefIdeal.main_v2) = v0 c
          ∧ r.2.mem ((c.tc : Thread Cert.FfUpRefIdeal.nD Cert.FfUpRefIdeal.τ).loc Cert.FfUpRefIdeal.main_v5) = v1 c
          ∧ r.2.mem ((c.tc : Thread Cert.FfUpRefIdeal.nD Cert.FfUpRefIdeal.τ).loc Cert.FfUpRefIdeal.main_arg0) = m' ((c.tc : Thread Cert.FfUpRefIdeal.nD Cert.FfUpRefIdeal.τ).loc Cert.FfUpRefIdeal.main_arg0)
          ∧ r.2.mem ((c.tc : Thread Cert.FfUpRefIdeal.nD Cert.FfUpRefIdeal.τ).loc Cert.FfUpRefIdeal.main_arg1) = m' ((c.tc : Thread Cert.FfUpRefIdeal.nD Cert.FfUpRefIdeal.τ).loc Cert.FfUpRefIdeal.main_arg1))

def preserves_FfBack_FfBackIdeal : Prop :=
  True

def algebraic_FfBackIdeal_FfBackRefIdeal [hFfBackIdeal : Cert.FfBackIdeal.Facts] [hFfBackRefIdeal : Cert.FfBackRefIdeal.Facts] : Prop :=
  ∀ (m : (ℓ : Loc Cert.FfBackIdeal.nD Cert.FfBackIdeal.τ Cert.FfBackIdeal.sig) → Buf (Elt Ideal) ℓ) (g : Dev Cert.FfBackIdeal.nD → PrngReg)
    (m' : (ℓ : Loc Cert.FfBackRefIdeal.nD Cert.FfBackRefIdeal.τ Cert.FfBackRefIdeal.sig) → Buf (Elt Ideal) ℓ) (g' : Dev Cert.FfBackRefIdeal.nD → PrngReg), Pre_FfBackIdeal m →
    (∀ c : Dev Cert.FfBackIdeal.nD,
      m' ((c.tc : Thread Cert.FfBackRefIdeal.nD Cert.FfBackRefIdeal.τ).loc Cert.FfBackRefIdeal.main_arg0) = m ((c.tc : Thread Cert.FfBackIdeal.nD Cert.FfBackIdeal.τ).loc Cert.FfBackIdeal.main_arg0)
      ∧ m' ((c.tc : Thread Cert.FfBackRefIdeal.nD Cert.FfBackRefIdeal.τ).loc Cert.FfBackRefIdeal.main_arg1) = m ((c.tc : Thread Cert.FfBackIdeal.nD Cert.FfBackIdeal.τ).loc Cert.FfBackIdeal.main_arg1)
      ∧ m' ((c.tc : Thread Cert.FfBackRefIdeal.nD Cert.FfBackRefIdeal.τ).loc Cert.FfBackRefIdeal.main_arg2) = m ((c.tc : Thread Cert.FfBackIdeal.nD Cert.FfBackIdeal.τ).loc Cert.FfBackIdeal.main_arg2)) →
    ∃ (v0 : (c : Dev Cert.FfBackIdeal.nD) → Buf (Elt Ideal) ((c.tc : Thread Cert.FfBackIdeal.nD Cert.FfBackIdeal.τ).loc Cert.FfBackIdeal.main_v0)),
      θ_run (Cert.FfBackIdeal.defs (F := Ideal)) (onTc (τ := Cert.FfBackIdeal.τ) (Cert.FfBackIdeal.main (F := Ideal))) ⟨m, fun _ => 0, g⟩ (fun r => ∀ c : Dev Cert.FfBackIdeal.nD,
          r.2.mem ((c.tc : Thread Cert.FfBackIdeal.nD Cert.FfBackIdeal.τ).loc Cert.FfBackIdeal.main_v0) = v0 c
          ∧ r.2.mem ((c.tc : Thread Cert.FfBackIdeal.nD Cert.FfBackIdeal.τ).loc Cert.FfBackIdeal.main_arg0) = m ((c.tc : Thread Cert.FfBackIdeal.nD Cert.FfBackIdeal.τ).loc Cert.FfBackIdeal.main_arg0)
          ∧ r.2.mem ((c.tc : Thread Cert.FfBackIdeal.nD Cert.FfBackIdeal.τ).loc Cert.FfBackIdeal.main_arg1) = m ((c.tc : Thread Cert.FfBackIdeal.nD Cert.FfBackIdeal.τ).loc Cert.FfBackIdeal.main_arg1)
          ∧ r.2.mem ((c.tc : Thread Cert.FfBackIdeal.nD Cert.FfBackIdeal.τ).loc Cert.FfBackIdeal.main_arg2) = m ((c.tc : Thread Cert.FfBackIdeal.nD Cert.FfBackIdeal.τ).loc Cert.FfBackIdeal.main_arg2))
      ∧ θ_run (Cert.FfBackRefIdeal.defs (F := Ideal)) (onTc (τ := Cert.FfBackRefIdeal.τ) (Cert.FfBackRefIdeal.main (F := Ideal))) ⟨m', fun _ => 0, g'⟩ (fun r => ∀ c : Dev Cert.FfBackRefIdeal.nD,
          r.2.mem ((c.tc : Thread Cert.FfBackRefIdeal.nD Cert.FfBackRefIdeal.τ).loc Cert.FfBackRefIdeal.main_v7) = v0 c
          ∧ r.2.mem ((c.tc : Thread Cert.FfBackRefIdeal.nD Cert.FfBackRefIdeal.τ).loc Cert.FfBackRefIdeal.main_arg0) = m' ((c.tc : Thread Cert.FfBackRefIdeal.nD Cert.FfBackRefIdeal.τ).loc Cert.FfBackRefIdeal.main_arg0)
          ∧ r.2.mem ((c.tc : Thread Cert.FfBackRefIdeal.nD Cert.FfBackRefIdeal.τ).loc Cert.FfBackRefIdeal.main_arg1) = m' ((c.tc : Thread Cert.FfBackRefIdeal.nD Cert.FfBackRefIdeal.τ).loc Cert.FfBackRefIdeal.main_arg1)
          ∧ r.2.mem ((c.tc : Thread Cert.FfBackRefIdeal.nD Cert.FfBackRefIdeal.τ).loc Cert.FfBackRefIdeal.main_arg2) = m' ((c.tc : Thread Cert.FfBackRefIdeal.nD Cert.FfBackRefIdeal.τ).loc Cert.FfBackRefIdeal.main_arg2))

def preserves_OutBack_OutBackIdeal : Prop :=
  True

def algebraic_OutBackIdeal_OutBackRefIdeal [hOutBackIdeal : Cert.OutBackIdeal.Facts] [hOutBackRefIdeal : Cert.OutBackRefIdeal.Facts] : Prop :=
  ∀ (m : (ℓ : Loc Cert.OutBackIdeal.nD Cert.OutBackIdeal.τ Cert.OutBackIdeal.sig) → Buf (Elt Ideal) ℓ) (g : Dev Cert.OutBackIdeal.nD → PrngReg)
    (m' : (ℓ : Loc Cert.OutBackRefIdeal.nD Cert.OutBackRefIdeal.τ Cert.OutBackRefIdeal.sig) → Buf (Elt Ideal) ℓ) (g' : Dev Cert.OutBackRefIdeal.nD → PrngReg), Pre_OutBackIdeal m →
    (∀ c : Dev Cert.OutBackIdeal.nD,
      m' ((c.tc : Thread Cert.OutBackRefIdeal.nD Cert.OutBackRefIdeal.τ).loc Cert.OutBackRefIdeal.main_arg0) = m ((c.tc : Thread Cert.OutBackIdeal.nD Cert.OutBackIdeal.τ).loc Cert.OutBackIdeal.main_arg0)
      ∧ m' ((c.tc : Thread Cert.OutBackRefIdeal.nD Cert.OutBackRefIdeal.τ).loc Cert.OutBackRefIdeal.main_arg1) = m ((c.tc : Thread Cert.OutBackIdeal.nD Cert.OutBackIdeal.τ).loc Cert.OutBackIdeal.main_arg1)) →
    ∃ (v0 : (c : Dev Cert.OutBackIdeal.nD) → Buf (Elt Ideal) ((c.tc : Thread Cert.OutBackIdeal.nD Cert.OutBackIdeal.τ).loc Cert.OutBackIdeal.main_v0)),
      θ_run (Cert.OutBackIdeal.defs (F := Ideal)) (onTc (τ := Cert.OutBackIdeal.τ) (Cert.OutBackIdeal.main (F := Ideal))) ⟨m, fun _ => 0, g⟩ (fun r => ∀ c : Dev Cert.OutBackIdeal.nD,
          r.2.mem ((c.tc : Thread Cert.OutBackIdeal.nD Cert.OutBackIdeal.τ).loc Cert.OutBackIdeal.main_v0) = v0 c
          ∧ r.2.mem ((c.tc : Thread Cert.OutBackIdeal.nD Cert.OutBackIdeal.τ).loc Cert.OutBackIdeal.main_arg0) = m ((c.tc : Thread Cert.OutBackIdeal.nD Cert.OutBackIdeal.τ).loc Cert.OutBackIdeal.main_arg0)
          ∧ r.2.mem ((c.tc : Thread Cert.OutBackIdeal.nD Cert.OutBackIdeal.τ).loc Cert.OutBackIdeal.main_arg1) = m ((c.tc : Thread Cert.OutBackIdeal.nD Cert.OutBackIdeal.τ).loc Cert.OutBackIdeal.main_arg1))
      ∧ θ_run (Cert.OutBackRefIdeal.defs (F := Ideal)) (onTc (τ := Cert.OutBackRefIdeal.τ) (Cert.OutBackRefIdeal.main (F := Ideal))) ⟨m', fun _ => 0, g'⟩ (fun r => ∀ c : Dev Cert.OutBackRefIdeal.nD,
          r.2.mem ((c.tc : Thread Cert.OutBackRefIdeal.nD Cert.OutBackRefIdeal.τ).loc Cert.OutBackRefIdeal.main_v2) = v0 c
          ∧ r.2.mem ((c.tc : Thread Cert.OutBackRefIdeal.nD Cert.OutBackRefIdeal.τ).loc Cert.OutBackRefIdeal.main_arg0) = m' ((c.tc : Thread Cert.OutBackRefIdeal.nD Cert.OutBackRefIdeal.τ).loc Cert.OutBackRefIdeal.main_arg0)
          ∧ r.2.mem ((c.tc : Thread Cert.OutBackRefIdeal.nD Cert.OutBackRefIdeal.τ).loc Cert.OutBackRefIdeal.main_arg1) = m' ((c.tc : Thread Cert.OutBackRefIdeal.nD Cert.OutBackRefIdeal.τ).loc Cert.OutBackRefIdeal.main_arg1))

def preserves_UpBack_UpBackIdeal : Prop :=
  True

def algebraic_UpBackIdeal_UpBackRefIdeal [hUpBackIdeal : Cert.UpBackIdeal.Facts] [hUpBackRefIdeal : Cert.UpBackRefIdeal.Facts] : Prop :=
  ∀ (m : (ℓ : Loc Cert.UpBackIdeal.nD Cert.UpBackIdeal.τ Cert.UpBackIdeal.sig) → Buf (Elt Ideal) ℓ) (g : Dev Cert.UpBackIdeal.nD → PrngReg)
    (m' : (ℓ : Loc Cert.UpBackRefIdeal.nD Cert.UpBackRefIdeal.τ Cert.UpBackRefIdeal.sig) → Buf (Elt Ideal) ℓ) (g' : Dev Cert.UpBackRefIdeal.nD → PrngReg), Pre_UpBackIdeal m →
    (∀ c : Dev Cert.UpBackIdeal.nD,
      m' ((c.tc : Thread Cert.UpBackRefIdeal.nD Cert.UpBackRefIdeal.τ).loc Cert.UpBackRefIdeal.main_arg0) = m ((c.tc : Thread Cert.UpBackIdeal.nD Cert.UpBackIdeal.τ).loc Cert.UpBackIdeal.main_arg0)
      ∧ m' ((c.tc : Thread Cert.UpBackRefIdeal.nD Cert.UpBackRefIdeal.τ).loc Cert.UpBackRefIdeal.main_arg1) = m ((c.tc : Thread Cert.UpBackIdeal.nD Cert.UpBackIdeal.τ).loc Cert.UpBackIdeal.main_arg1)) →
    ∃ (v0 : (c : Dev Cert.UpBackIdeal.nD) → Buf (Elt Ideal) ((c.tc : Thread Cert.UpBackIdeal.nD Cert.UpBackIdeal.τ).loc Cert.UpBackIdeal.main_v0)),
      θ_run (Cert.UpBackIdeal.defs (F := Ideal)) (onTc (τ := Cert.UpBackIdeal.τ) (Cert.UpBackIdeal.main (F := Ideal))) ⟨m, fun _ => 0, g⟩ (fun r => ∀ c : Dev Cert.UpBackIdeal.nD,
          r.2.mem ((c.tc : Thread Cert.UpBackIdeal.nD Cert.UpBackIdeal.τ).loc Cert.UpBackIdeal.main_v0) = v0 c
          ∧ r.2.mem ((c.tc : Thread Cert.UpBackIdeal.nD Cert.UpBackIdeal.τ).loc Cert.UpBackIdeal.main_arg0) = m ((c.tc : Thread Cert.UpBackIdeal.nD Cert.UpBackIdeal.τ).loc Cert.UpBackIdeal.main_arg0)
          ∧ r.2.mem ((c.tc : Thread Cert.UpBackIdeal.nD Cert.UpBackIdeal.τ).loc Cert.UpBackIdeal.main_arg1) = m ((c.tc : Thread Cert.UpBackIdeal.nD Cert.UpBackIdeal.τ).loc Cert.UpBackIdeal.main_arg1))
      ∧ θ_run (Cert.UpBackRefIdeal.defs (F := Ideal)) (onTc (τ := Cert.UpBackRefIdeal.τ) (Cert.UpBackRefIdeal.main (F := Ideal))) ⟨m', fun _ => 0, g'⟩ (fun r => ∀ c : Dev Cert.UpBackRefIdeal.nD,
          r.2.mem ((c.tc : Thread Cert.UpBackRefIdeal.nD Cert.UpBackRefIdeal.τ).loc Cert.UpBackRefIdeal.main_v3) = v0 c
          ∧ r.2.mem ((c.tc : Thread Cert.UpBackRefIdeal.nD Cert.UpBackRefIdeal.τ).loc Cert.UpBackRefIdeal.main_arg0) = m' ((c.tc : Thread Cert.UpBackRefIdeal.nD Cert.UpBackRefIdeal.τ).loc Cert.UpBackRefIdeal.main_arg0)
          ∧ r.2.mem ((c.tc : Thread Cert.UpBackRefIdeal.nD Cert.UpBackRefIdeal.τ).loc Cert.UpBackRefIdeal.main_arg1) = m' ((c.tc : Thread Cert.UpBackRefIdeal.nD Cert.UpBackRefIdeal.τ).loc Cert.UpBackRefIdeal.main_arg1))

def preserves_UpBackNarrow_UpBackNarrowIdeal : Prop :=
  True

def algebraic_UpBackNarrowIdeal_UpBackNarrowRefIdeal [hUpBackNarrowIdeal : Cert.UpBackNarrowIdeal.Facts] [hUpBackNarrowRefIdeal : Cert.UpBackNarrowRefIdeal.Facts] : Prop :=
  ∀ (m : (ℓ : Loc Cert.UpBackNarrowIdeal.nD Cert.UpBackNarrowIdeal.τ Cert.UpBackNarrowIdeal.sig) → Buf (Elt Ideal) ℓ) (g : Dev Cert.UpBackNarrowIdeal.nD → PrngReg)
    (m' : (ℓ : Loc Cert.UpBackNarrowRefIdeal.nD Cert.UpBackNarrowRefIdeal.τ Cert.UpBackNarrowRefIdeal.sig) → Buf (Elt Ideal) ℓ) (g' : Dev Cert.UpBackNarrowRefIdeal.nD → PrngReg), Pre_UpBackNarrowIdeal m →
    (∀ c : Dev Cert.UpBackNarrowIdeal.nD,
      m' ((c.tc : Thread Cert.UpBackNarrowRefIdeal.nD Cert.UpBackNarrowRefIdeal.τ).loc Cert.UpBackNarrowRefIdeal.main_arg0) = m ((c.tc : Thread Cert.UpBackNarrowIdeal.nD Cert.UpBackNarrowIdeal.τ).loc Cert.UpBackNarrowIdeal.main_arg0)
      ∧ m' ((c.tc : Thread Cert.UpBackNarrowRefIdeal.nD Cert.UpBackNarrowRefIdeal.τ).loc Cert.UpBackNarrowRefIdeal.main_arg1) = m ((c.tc : Thread Cert.UpBackNarrowIdeal.nD Cert.UpBackNarrowIdeal.τ).loc Cert.UpBackNarrowIdeal.main_arg1)) →
    ∃ (v0 : (c : Dev Cert.UpBackNarrowIdeal.nD) → Buf (Elt Ideal) ((c.tc : Thread Cert.UpBackNarrowIdeal.nD Cert.UpBackNarrowIdeal.τ).loc Cert.UpBackNarrowIdeal.main_v0)),
      θ_run (Cert.UpBackNarrowIdeal.defs (F := Ideal)) (onTc (τ := Cert.UpBackNarrowIdeal.τ) (Cert.UpBackNarrowIdeal.main (F := Ideal))) ⟨m, fun _ => 0, g⟩ (fun r => ∀ c : Dev Cert.UpBackNarrowIdeal.nD,
          r.2.mem ((c.tc : Thread Cert.UpBackNarrowIdeal.nD Cert.UpBackNarrowIdeal.τ).loc Cert.UpBackNarrowIdeal.main_v0) = v0 c
          ∧ r.2.mem ((c.tc : Thread Cert.UpBackNarrowIdeal.nD Cert.UpBackNarrowIdeal.τ).loc Cert.UpBackNarrowIdeal.main_arg0) = m ((c.tc : Thread Cert.UpBackNarrowIdeal.nD Cert.UpBackNarrowIdeal.τ).loc Cert.UpBackNarrowIdeal.main_arg0)
          ∧ r.2.mem ((c.tc : Thread Cert.UpBackNarrowIdeal.nD Cert.UpBackNarrowIdeal.τ).loc Cert.UpBackNarrowIdeal.main_arg1) = m ((c.tc : Thread Cert.UpBackNarrowIdeal.nD Cert.UpBackNarrowIdeal.τ).loc Cert.UpBackNarrowIdeal.main_arg1))
      ∧ θ_run (Cert.UpBackNarrowRefIdeal.defs (F := Ideal)) (onTc (τ := Cert.UpBackNarrowRefIdeal.τ) (Cert.UpBackNarrowRefIdeal.main (F := Ideal))) ⟨m', fun _ => 0, g'⟩ (fun r => ∀ c : Dev Cert.UpBackNarrowRefIdeal.nD,
          r.2.mem ((c.tc : Thread Cert.UpBackNarrowRefIdeal.nD Cert.UpBackNarrowRefIdeal.τ).loc Cert.UpBackNarrowRefIdeal.main_v3) = v0 c
          ∧ r.2.mem ((c.tc : Thread Cert.UpBackNarrowRefIdeal.nD Cert.UpBackNarrowRefIdeal.τ).loc Cert.UpBackNarrowRefIdeal.main_arg0) = m' ((c.tc : Thread Cert.UpBackNarrowRefIdeal.nD Cert.UpBackNarrowRefIdeal.τ).loc Cert.UpBackNarrowRefIdeal.main_arg0)
          ∧ r.2.mem ((c.tc : Thread Cert.UpBackNarrowRefIdeal.nD Cert.UpBackNarrowRefIdeal.τ).loc Cert.UpBackNarrowRefIdeal.main_arg1) = m' ((c.tc : Thread Cert.UpBackNarrowRefIdeal.nD Cert.UpBackNarrowRefIdeal.τ).loc Cert.UpBackNarrowRefIdeal.main_arg1))

def preserves_FfDown_FfDownIdeal : Prop :=
  True

def algebraic_FfDownIdeal_FfDownRefIdeal [hFfDownIdeal : Cert.FfDownIdeal.Facts] [hFfDownRefIdeal : Cert.FfDownRefIdeal.Facts] : Prop :=
  ∀ (m : (ℓ : Loc Cert.FfDownIdeal.nD Cert.FfDownIdeal.τ Cert.FfDownIdeal.sig) → Buf (Elt Ideal) ℓ) (g : Dev Cert.FfDownIdeal.nD → PrngReg)
    (m' : (ℓ : Loc Cert.FfDownRefIdeal.nD Cert.FfDownRefIdeal.τ Cert.FfDownRefIdeal.sig) → Buf (Elt Ideal) ℓ) (g' : Dev Cert.FfDownRefIdeal.nD → PrngReg), Pre_FfDownIdeal m →
    (∀ c : Dev Cert.FfDownIdeal.nD,
      m' ((c.tc : Thread Cert.FfDownRefIdeal.nD Cert.FfDownRefIdeal.τ).loc Cert.FfDownRefIdeal.main_arg0) = m ((c.tc : Thread Cert.FfDownIdeal.nD Cert.FfDownIdeal.τ).loc Cert.FfDownIdeal.main_arg0)
      ∧ m' ((c.tc : Thread Cert.FfDownRefIdeal.nD Cert.FfDownRefIdeal.τ).loc Cert.FfDownRefIdeal.main_arg1) = m ((c.tc : Thread Cert.FfDownIdeal.nD Cert.FfDownIdeal.τ).loc Cert.FfDownIdeal.main_arg1)
      ∧ m' ((c.tc : Thread Cert.FfDownRefIdeal.nD Cert.FfDownRefIdeal.τ).loc Cert.FfDownRefIdeal.main_arg2) = m ((c.tc : Thread Cert.FfDownIdeal.nD Cert.FfDownIdeal.τ).loc Cert.FfDownIdeal.main_arg2)) →
    ∃ (v0 : (c : Dev Cert.FfDownIdeal.nD) → Buf (Elt Ideal) ((c.tc : Thread Cert.FfDownIdeal.nD Cert.FfDownIdeal.τ).loc Cert.FfDownIdeal.main_v0)),
      θ_run (Cert.FfDownIdeal.defs (F := Ideal)) (onTc (τ := Cert.FfDownIdeal.τ) (Cert.FfDownIdeal.main (F := Ideal))) ⟨m, fun _ => 0, g⟩ (fun r => ∀ c : Dev Cert.FfDownIdeal.nD,
          r.2.mem ((c.tc : Thread Cert.FfDownIdeal.nD Cert.FfDownIdeal.τ).loc Cert.FfDownIdeal.main_v0) = v0 c
          ∧ r.2.mem ((c.tc : Thread Cert.FfDownIdeal.nD Cert.FfDownIdeal.τ).loc Cert.FfDownIdeal.main_arg0) = m ((c.tc : Thread Cert.FfDownIdeal.nD Cert.FfDownIdeal.τ).loc Cert.FfDownIdeal.main_arg0)
          ∧ r.2.mem ((c.tc : Thread Cert.FfDownIdeal.nD Cert.FfDownIdeal.τ).loc Cert.FfDownIdeal.main_arg1) = m ((c.tc : Thread Cert.FfDownIdeal.nD Cert.FfDownIdeal.τ).loc Cert.FfDownIdeal.main_arg1)
          ∧ r.2.mem ((c.tc : Thread Cert.FfDownIdeal.nD Cert.FfDownIdeal.τ).loc Cert.FfDownIdeal.main_arg2) = m ((c.tc : Thread Cert.FfDownIdeal.nD Cert.FfDownIdeal.τ).loc Cert.FfDownIdeal.main_arg2))
      ∧ θ_run (Cert.FfDownRefIdeal.defs (F := Ideal)) (onTc (τ := Cert.FfDownRefIdeal.τ) (Cert.FfDownRefIdeal.main (F := Ideal))) ⟨m', fun _ => 0, g'⟩ (fun r => ∀ c : Dev Cert.FfDownRefIdeal.nD,
          r.2.mem ((c.tc : Thread Cert.FfDownRefIdeal.nD Cert.FfDownRefIdeal.τ).loc Cert.FfDownRefIdeal.main_v3) = v0 c
          ∧ r.2.mem ((c.tc : Thread Cert.FfDownRefIdeal.nD Cert.FfDownRefIdeal.τ).loc Cert.FfDownRefIdeal.main_arg0) = m' ((c.tc : Thread Cert.FfDownRefIdeal.nD Cert.FfDownRefIdeal.τ).loc Cert.FfDownRefIdeal.main_arg0)
          ∧ r.2.mem ((c.tc : Thread Cert.FfDownRefIdeal.nD Cert.FfDownRefIdeal.τ).loc Cert.FfDownRefIdeal.main_arg1) = m' ((c.tc : Thread Cert.FfDownRefIdeal.nD Cert.FfDownRefIdeal.τ).loc Cert.FfDownRefIdeal.main_arg1)
          ∧ r.2.mem ((c.tc : Thread Cert.FfDownRefIdeal.nD Cert.FfDownRefIdeal.τ).loc Cert.FfDownRefIdeal.main_arg2) = m' ((c.tc : Thread Cert.FfDownRefIdeal.nD Cert.FfDownRefIdeal.τ).loc Cert.FfDownRefIdeal.main_arg2))

def preserves_FfIn_FfInIdeal : Prop :=
  True

def algebraic_FfInIdeal_FfInRefIdeal [hFfInIdeal : Cert.FfInIdeal.Facts] [hFfInRefIdeal : Cert.FfInRefIdeal.Facts] : Prop :=
  ∀ (m : (ℓ : Loc Cert.FfInIdeal.nD Cert.FfInIdeal.τ Cert.FfInIdeal.sig) → Buf (Elt Ideal) ℓ) (g : Dev Cert.FfInIdeal.nD → PrngReg)
    (m' : (ℓ : Loc Cert.FfInRefIdeal.nD Cert.FfInRefIdeal.τ Cert.FfInRefIdeal.sig) → Buf (Elt Ideal) ℓ) (g' : Dev Cert.FfInRefIdeal.nD → PrngReg), Pre_FfInIdeal m →
    (∀ c : Dev Cert.FfInIdeal.nD,
      m' ((c.tc : Thread Cert.FfInRefIdeal.nD Cert.FfInRefIdeal.τ).loc Cert.FfInRefIdeal.main_arg0) = m ((c.tc : Thread Cert.FfInIdeal.nD Cert.FfInIdeal.τ).loc Cert.FfInIdeal.main_arg0)
      ∧ m' ((c.tc : Thread Cert.FfInRefIdeal.nD Cert.FfInRefIdeal.τ).loc Cert.FfInRefIdeal.main_arg1) = m ((c.tc : Thread Cert.FfInIdeal.nD Cert.FfInIdeal.τ).loc Cert.FfInIdeal.main_arg1)) →
    ∃ (v0 : (c : Dev Cert.FfInIdeal.nD) → Buf (Elt Ideal) ((c.tc : Thread Cert.FfInIdeal.nD Cert.FfInIdeal.τ).loc Cert.FfInIdeal.main_v0)),
      θ_run (Cert.FfInIdeal.defs (F := Ideal)) (onTc (τ := Cert.FfInIdeal.τ) (Cert.FfInIdeal.main (F := Ideal))) ⟨m, fun _ => 0, g⟩ (fun r => ∀ c : Dev Cert.FfInIdeal.nD,
          r.2.mem ((c.tc : Thread Cert.FfInIdeal.nD Cert.FfInIdeal.τ).loc Cert.FfInIdeal.main_v0) = v0 c
          ∧ r.2.mem ((c.tc : Thread Cert.FfInIdeal.nD Cert.FfInIdeal.τ).loc Cert.FfInIdeal.main_arg0) = m ((c.tc : Thread Cert.FfInIdeal.nD Cert.FfInIdeal.τ).loc Cert.FfInIdeal.main_arg0)
          ∧ r.2.mem ((c.tc : Thread Cert.FfInIdeal.nD Cert.FfInIdeal.τ).loc Cert.FfInIdeal.main_arg1) = m ((c.tc : Thread Cert.FfInIdeal.nD Cert.FfInIdeal.τ).loc Cert.FfInIdeal.main_arg1))
      ∧ θ_run (Cert.FfInRefIdeal.defs (F := Ideal)) (onTc (τ := Cert.FfInRefIdeal.τ) (Cert.FfInRefIdeal.main (F := Ideal))) ⟨m', fun _ => 0, g'⟩ (fun r => ∀ c : Dev Cert.FfInRefIdeal.nD,
          r.2.mem ((c.tc : Thread Cert.FfInRefIdeal.nD Cert.FfInRefIdeal.τ).loc Cert.FfInRefIdeal.main_v3) = v0 c
          ∧ r.2.mem ((c.tc : Thread Cert.FfInRefIdeal.nD Cert.FfInRefIdeal.τ).loc Cert.FfInRefIdeal.main_arg0) = m' ((c.tc : Thread Cert.FfInRefIdeal.nD Cert.FfInRefIdeal.τ).loc Cert.FfInRefIdeal.main_arg0)
          ∧ r.2.mem ((c.tc : Thread Cert.FfInRefIdeal.nD Cert.FfInRefIdeal.τ).loc Cert.FfInRefIdeal.main_arg1) = m' ((c.tc : Thread Cert.FfInRefIdeal.nD Cert.FfInRefIdeal.τ).loc Cert.FfInRefIdeal.main_arg1))

def preserves_InBack_InBackIdeal : Prop :=
  True

def algebraic_InBackIdeal_InBackRefIdeal [hInBackIdeal : Cert.InBackIdeal.Facts] [hInBackRefIdeal : Cert.InBackRefIdeal.Facts] : Prop :=
  ∀ (m : (ℓ : Loc Cert.InBackIdeal.nD Cert.InBackIdeal.τ Cert.InBackIdeal.sig) → Buf (Elt Ideal) ℓ) (g : Dev Cert.InBackIdeal.nD → PrngReg)
    (m' : (ℓ : Loc Cert.InBackRefIdeal.nD Cert.InBackRefIdeal.τ Cert.InBackRefIdeal.sig) → Buf (Elt Ideal) ℓ) (g' : Dev Cert.InBackRefIdeal.nD → PrngReg), Pre_InBackIdeal m →
    (∀ c : Dev Cert.InBackIdeal.nD,
      m' ((c.tc : Thread Cert.InBackRefIdeal.nD Cert.InBackRefIdeal.τ).loc Cert.InBackRefIdeal.main_arg0) = m ((c.tc : Thread Cert.InBackIdeal.nD Cert.InBackIdeal.τ).loc Cert.InBackIdeal.main_arg0)
      ∧ m' ((c.tc : Thread Cert.InBackRefIdeal.nD Cert.InBackRefIdeal.τ).loc Cert.InBackRefIdeal.main_arg1) = m ((c.tc : Thread Cert.InBackIdeal.nD Cert.InBackIdeal.τ).loc Cert.InBackIdeal.main_arg1)) →
    ∃ (v0 : (c : Dev Cert.InBackIdeal.nD) → Buf (Elt Ideal) ((c.tc : Thread Cert.InBackIdeal.nD Cert.InBackIdeal.τ).loc Cert.InBackIdeal.main_v0)),
      θ_run (Cert.InBackIdeal.defs (F := Ideal)) (onTc (τ := Cert.InBackIdeal.τ) (Cert.InBackIdeal.main (F := Ideal))) ⟨m, fun _ => 0, g⟩ (fun r => ∀ c : Dev Cert.InBackIdeal.nD,
          r.2.mem ((c.tc : Thread Cert.InBackIdeal.nD Cert.InBackIdeal.τ).loc Cert.InBackIdeal.main_v0) = v0 c
          ∧ r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
          ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1))
      ∧ θ_run (Cert.InBackRefIdeal.defs (F := Ideal)) (onTc (τ := Cert.InBackRefIdeal.τ) (Cert.InBackRefIdeal.main (F := Ideal))) ⟨m', fun _ => 0, g'⟩ (fun r => ∀ c : Dev Cert.InBackRefIdeal.nD,
          r.2.mem ((c.tc : Thread Cert.InBackRefIdeal.nD Cert.InBackRefIdeal.τ).loc Cert.InBackRefIdeal.main_v3) = v0 c
          ∧ r.2.mem ((c.tc : Thread Cert.InBackRefIdeal.nD Cert.InBackRefIdeal.τ).loc Cert.InBackRefIdeal.main_arg0) = m' ((c.tc : Thread Cert.InBackRefIdeal.nD Cert.InBackRefIdeal.τ).loc Cert.InBackRefIdeal.main_arg0)
          ∧ r.2.mem ((c.tc : Thread Cert.InBackRefIdeal.nD Cert.InBackRefIdeal.τ).loc Cert.InBackRefIdeal.main_arg1) = m' ((c.tc : Thread Cert.InBackRefIdeal.nD Cert.InBackRefIdeal.τ).loc Cert.InBackRefIdeal.main_arg1))

def preserves_GradFf2_GradFf2Ideal : Prop :=
  True

def algebraic_GradFf2Ideal_GradFf2RefIdeal [hGradFf2Ideal : Cert.GradFf2Ideal.Facts] [hGradFf2RefIdeal : Cert.GradFf2RefIdeal.Facts] : Prop :=
  ∀ (m : (ℓ : Loc Cert.GradFf2Ideal.nD Cert.GradFf2Ideal.τ Cert.GradFf2Ideal.sig) → Buf (Elt Ideal) ℓ) (g : Dev Cert.GradFf2Ideal.nD → PrngReg)
    (m' : (ℓ : Loc Cert.GradFf2RefIdeal.nD Cert.GradFf2RefIdeal.τ Cert.GradFf2RefIdeal.sig) → Buf (Elt Ideal) ℓ) (g' : Dev Cert.GradFf2RefIdeal.nD → PrngReg), Pre_GradFf2Ideal m →
    (∀ c : Dev Cert.GradFf2Ideal.nD,
      m' ((c.tc : Thread Cert.GradFf2RefIdeal.nD Cert.GradFf2RefIdeal.τ).loc Cert.GradFf2RefIdeal.main_arg0) = m ((c.tc : Thread Cert.GradFf2Ideal.nD Cert.GradFf2Ideal.τ).loc Cert.GradFf2Ideal.main_arg0)
      ∧ m' ((c.tc : Thread Cert.GradFf2RefIdeal.nD Cert.GradFf2RefIdeal.τ).loc Cert.GradFf2RefIdeal.main_arg1) = m ((c.tc : Thread Cert.GradFf2Ideal.nD Cert.GradFf2Ideal.τ).loc Cert.GradFf2Ideal.main_arg1)) →
    ∃ (v0 : (c : Dev Cert.GradFf2Ideal.nD) → Buf (Elt Ideal) ((c.tc : Thread Cert.GradFf2Ideal.nD Cert.GradFf2Ideal.τ).loc Cert.GradFf2Ideal.main_v0)),
      θ_run (Cert.GradFf2Ideal.defs (F := Ideal)) (onTc (τ := Cert.GradFf2Ideal.τ) (Cert.GradFf2Ideal.main (F := Ideal))) ⟨m, fun _ => 0, g⟩ (fun r => ∀ c : Dev Cert.GradFf2Ideal.nD,
          r.2.mem ((c.tc : Thread Cert.GradFf2Ideal.nD Cert.GradFf2Ideal.τ).loc Cert.GradFf2Ideal.main_v0) = v0 c
          ∧ r.2.mem ((c.tc : Thread Cert.GradFf2Ideal.nD Cert.GradFf2Ideal.τ).loc Cert.GradFf2Ideal.main_arg0) = m ((c.tc : Thread Cert.GradFf2Ideal.nD Cert.GradFf2Ideal.τ).loc Cert.GradFf2Ideal.main_arg0)
          ∧ r.2.mem ((c.tc : Thread Cert.GradFf2Ideal.nD Cert.GradFf2Ideal.τ).loc Cert.GradFf2Ideal.main_arg1) = m ((c.tc : Thread Cert.GradFf2Ideal.nD Cert.GradFf2Ideal.τ).loc Cert.GradFf2Ideal.main_arg1))
      ∧ θ_run (Cert.GradFf2RefIdeal.defs (F := Ideal)) (onTc (τ := Cert.GradFf2RefIdeal.τ) (Cert.GradFf2RefIdeal.main (F := Ideal))) ⟨m', fun _ => 0, g'⟩ (fun r => ∀ c : Dev Cert.GradFf2RefIdeal.nD,
          r.2.mem ((c.tc : Thread Cert.GradFf2RefIdeal.nD Cert.GradFf2RefIdeal.τ).loc Cert.GradFf2RefIdeal.main_v2) = v0 c
          ∧ r.2.mem ((c.tc : Thread Cert.GradFf2RefIdeal.nD Cert.GradFf2RefIdeal.τ).loc Cert.GradFf2RefIdeal.main_arg0) = m' ((c.tc : Thread Cert.GradFf2RefIdeal.nD Cert.GradFf2RefIdeal.τ).loc Cert.GradFf2RefIdeal.main_arg0)
          ∧ r.2.mem ((c.tc : Thread Cert.GradFf2RefIdeal.nD Cert.GradFf2RefIdeal.τ).loc Cert.GradFf2RefIdeal.main_arg1) = m' ((c.tc : Thread Cert.GradFf2RefIdeal.nD Cert.GradFf2RefIdeal.τ).loc Cert.GradFf2RefIdeal.main_arg1))

def preserves_GradFf1_GradFf1Ideal : Prop :=
  True

def algebraic_GradFf1Ideal_GradFf1RefIdeal [hGradFf1Ideal : Cert.GradFf1Ideal.Facts] [hGradFf1RefIdeal : Cert.GradFf1RefIdeal.Facts] : Prop :=
  ∀ (m : (ℓ : Loc Cert.GradFf1Ideal.nD Cert.GradFf1Ideal.τ Cert.GradFf1Ideal.sig) → Buf (Elt Ideal) ℓ) (g : Dev Cert.GradFf1Ideal.nD → PrngReg)
    (m' : (ℓ : Loc Cert.GradFf1RefIdeal.nD Cert.GradFf1RefIdeal.τ Cert.GradFf1RefIdeal.sig) → Buf (Elt Ideal) ℓ) (g' : Dev Cert.GradFf1RefIdeal.nD → PrngReg), Pre_GradFf1Ideal m →
    (∀ c : Dev Cert.GradFf1Ideal.nD,
      m' ((c.tc : Thread Cert.GradFf1RefIdeal.nD Cert.GradFf1RefIdeal.τ).loc Cert.GradFf1RefIdeal.main_arg0) = m ((c.tc : Thread Cert.GradFf1Ideal.nD Cert.GradFf1Ideal.τ).loc Cert.GradFf1Ideal.main_arg0)
      ∧ m' ((c.tc : Thread Cert.GradFf1RefIdeal.nD Cert.GradFf1RefIdeal.τ).loc Cert.GradFf1RefIdeal.main_arg1) = m ((c.tc : Thread Cert.GradFf1Ideal.nD Cert.GradFf1Ideal.τ).loc Cert.GradFf1Ideal.main_arg1)) →
    ∃ (v0 : (c : Dev Cert.GradFf1Ideal.nD) → Buf (Elt Ideal) ((c.tc : Thread Cert.GradFf1Ideal.nD Cert.GradFf1Ideal.τ).loc Cert.GradFf1Ideal.main_v0)),
      θ_run (Cert.GradFf1Ideal.defs (F := Ideal)) (onTc (τ := Cert.GradFf1Ideal.τ) (Cert.GradFf1Ideal.main (F := Ideal))) ⟨m, fun _ => 0, g⟩ (fun r => ∀ c : Dev Cert.GradFf1Ideal.nD,
          r.2.mem ((c.tc : Thread Cert.GradFf1Ideal.nD Cert.GradFf1Ideal.τ).loc Cert.GradFf1Ideal.main_v0) = v0 c
          ∧ r.2.mem ((c.tc : Thread Cert.GradFf1Ideal.nD Cert.GradFf1Ideal.τ).loc Cert.GradFf1Ideal.main_arg0) = m ((c.tc : Thread Cert.GradFf1Ideal.nD Cert.GradFf1Ideal.τ).loc Cert.GradFf1Ideal.main_arg0)
          ∧ r.2.mem ((c.tc : Thread Cert.GradFf1Ideal.nD Cert.GradFf1Ideal.τ).loc Cert.GradFf1Ideal.main_arg1) = m ((c.tc : Thread Cert.GradFf1Ideal.nD Cert.GradFf1Ideal.τ).loc Cert.GradFf1Ideal.main_arg1))
      ∧ θ_run (Cert.GradFf1RefIdeal.defs (F := Ideal)) (onTc (τ := Cert.GradFf1RefIdeal.τ) (Cert.GradFf1RefIdeal.main (F := Ideal))) ⟨m', fun _ => 0, g'⟩ (fun r => ∀ c : Dev Cert.GradFf1RefIdeal.nD,
          r.2.mem ((c.tc : Thread Cert.GradFf1RefIdeal.nD Cert.GradFf1RefIdeal.τ).loc Cert.GradFf1RefIdeal.main_v3) = v0 c
          ∧ r.2.mem ((c.tc : Thread Cert.GradFf1RefIdeal.nD Cert.GradFf1RefIdeal.τ).loc Cert.GradFf1RefIdeal.main_arg0) = m' ((c.tc : Thread Cert.GradFf1RefIdeal.nD Cert.GradFf1RefIdeal.τ).loc Cert.GradFf1RefIdeal.main_arg0)
          ∧ r.2.mem ((c.tc : Thread Cert.GradFf1RefIdeal.nD Cert.GradFf1RefIdeal.τ).loc Cert.GradFf1RefIdeal.main_arg1) = m' ((c.tc : Thread Cert.GradFf1RefIdeal.nD Cert.GradFf1RefIdeal.τ).loc Cert.GradFf1RefIdeal.main_arg1))

def preserves_GradO_GradOIdeal : Prop :=
  True

def algebraic_GradOIdeal_GradORefIdeal [hGradOIdeal : Cert.GradOIdeal.Facts] [hGradORefIdeal : Cert.GradORefIdeal.Facts] : Prop :=
  ∀ (m : (ℓ : Loc Cert.GradOIdeal.nD Cert.GradOIdeal.τ Cert.GradOIdeal.sig) → Buf (Elt Ideal) ℓ) (g : Dev Cert.GradOIdeal.nD → PrngReg)
    (m' : (ℓ : Loc Cert.GradORefIdeal.nD Cert.GradORefIdeal.τ Cert.GradORefIdeal.sig) → Buf (Elt Ideal) ℓ) (g' : Dev Cert.GradORefIdeal.nD → PrngReg), Pre_GradOIdeal m →
    (∀ c : Dev Cert.GradOIdeal.nD,
      m' ((c.tc : Thread Cert.GradORefIdeal.nD Cert.GradORefIdeal.τ).loc Cert.GradORefIdeal.main_arg0) = m ((c.tc : Thread Cert.GradOIdeal.nD Cert.GradOIdeal.τ).loc Cert.GradOIdeal.main_arg0)
      ∧ m' ((c.tc : Thread Cert.GradORefIdeal.nD Cert.GradORefIdeal.τ).loc Cert.GradORefIdeal.main_arg1) = m ((c.tc : Thread Cert.GradOIdeal.nD Cert.GradOIdeal.τ).loc Cert.GradOIdeal.main_arg1)) →
    ∃ (v0 : (c : Dev Cert.GradOIdeal.nD) → Buf (Elt Ideal) ((c.tc : Thread Cert.GradOIdeal.nD Cert.GradOIdeal.τ).loc Cert.GradOIdeal.main_v0)),
      θ_run (Cert.GradOIdeal.defs (F := Ideal)) (onTc (τ := Cert.GradOIdeal.τ) (Cert.GradOIdeal.main (F := Ideal))) ⟨m, fun _ => 0, g⟩ (fun r => ∀ c : Dev Cert.GradOIdeal.nD,
          r.2.mem ((c.tc : Thread Cert.GradOIdeal.nD Cert.GradOIdeal.τ).loc Cert.GradOIdeal.main_v0) = v0 c
          ∧ r.2.mem ((c.tc : Thread Cert.GradOIdeal.nD Cert.GradOIdeal.τ).loc Cert.GradOIdeal.main_arg0) = m ((c.tc : Thread Cert.GradOIdeal.nD Cert.GradOIdeal.τ).loc Cert.GradOIdeal.main_arg0)
          ∧ r.2.mem ((c.tc : Thread Cert.GradOIdeal.nD Cert.GradOIdeal.τ).loc Cert.GradOIdeal.main_arg1) = m ((c.tc : Thread Cert.GradOIdeal.nD Cert.GradOIdeal.τ).loc Cert.GradOIdeal.main_arg1))
      ∧ θ_run (Cert.GradORefIdeal.defs (F := Ideal)) (onTc (τ := Cert.GradORefIdeal.τ) (Cert.GradORefIdeal.main (F := Ideal))) ⟨m', fun _ => 0, g'⟩ (fun r => ∀ c : Dev Cert.GradORefIdeal.nD,
          r.2.mem ((c.tc : Thread Cert.GradORefIdeal.nD Cert.GradORefIdeal.τ).loc Cert.GradORefIdeal.main_v2) = v0 c
          ∧ r.2.mem ((c.tc : Thread Cert.GradORefIdeal.nD Cert.GradORefIdeal.τ).loc Cert.GradORefIdeal.main_arg0) = m' ((c.tc : Thread Cert.GradORefIdeal.nD Cert.GradORefIdeal.τ).loc Cert.GradORefIdeal.main_arg0)
          ∧ r.2.mem ((c.tc : Thread Cert.GradORefIdeal.nD Cert.GradORefIdeal.τ).loc Cert.GradORefIdeal.main_arg1) = m' ((c.tc : Thread Cert.GradORefIdeal.nD Cert.GradORefIdeal.τ).loc Cert.GradORefIdeal.main_arg1))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v2) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_GradUpNarrow_GradUpNarrowIdeal : Prop :=
  True

def algebraic_GradUpNarrowIdeal_GradUpNarrowRefIdeal [hGradUpNarrowIdeal : Cert.GradUpNarrowIdeal.Facts] [hGradUpNarrowRefIdeal : Cert.GradUpNarrowRefIdeal.Facts] : Prop :=
  ∀ (m : (ℓ : Loc Cert.GradUpNarrowIdeal.nD Cert.GradUpNarrowIdeal.τ Cert.GradUpNarrowIdeal.sig) → Buf (Elt Ideal) ℓ) (g : Dev Cert.GradUpNarrowIdeal.nD → PrngReg)
    (m' : (ℓ : Loc Cert.GradUpNarrowRefIdeal.nD Cert.GradUpNarrowRefIdeal.τ Cert.GradUpNarrowRefIdeal.sig) → Buf (Elt Ideal) ℓ) (g' : Dev Cert.GradUpNarrowRefIdeal.nD → PrngReg), Pre_GradUpNarrowIdeal m →
    (∀ c : Dev Cert.GradUpNarrowIdeal.nD,
      m' ((c.tc : Thread Cert.GradUpNarrowRefIdeal.nD Cert.GradUpNarrowRefIdeal.τ).loc Cert.GradUpNarrowRefIdeal.main_arg0) = m ((c.tc : Thread Cert.GradUpNarrowIdeal.nD Cert.GradUpNarrowIdeal.τ).loc Cert.GradUpNarrowIdeal.main_arg0)
      ∧ m' ((c.tc : Thread Cert.GradUpNarrowRefIdeal.nD Cert.GradUpNarrowRefIdeal.τ).loc Cert.GradUpNarrowRefIdeal.main_arg1) = m ((c.tc : Thread Cert.GradUpNarrowIdeal.nD Cert.GradUpNarrowIdeal.τ).loc Cert.GradUpNarrowIdeal.main_arg1)) →
    ∃ (v0 : (c : Dev Cert.GradUpNarrowIdeal.nD) → Buf (Elt Ideal) ((c.tc : Thread Cert.GradUpNarrowIdeal.nD Cert.GradUpNarrowIdeal.τ).loc Cert.GradUpNarrowIdeal.main_v0)),
      θ_run (Cert.GradUpNarrowIdeal.defs (F := Ideal)) (onTc (τ := Cert.GradUpNarrowIdeal.τ) (Cert.GradUpNarrowIdeal.main (F := Ideal))) ⟨m, fun _ => 0, g⟩ (fun r => ∀ c : Dev Cert.GradUpNarrowIdeal.nD,
          r.2.mem ((c.tc : Thread Cert.GradUpNarrowIdeal.nD Cert.GradUpNarrowIdeal.τ).loc Cert.GradUpNarrowIdeal.main_v0) = v0 c
          ∧ r.2.mem ((c.tc : Thread Cert.GradUpNarrowIdeal.nD Cert.GradUpNarrowIdeal.τ).loc Cert.GradUpNarrowIdeal.main_arg0) = m ((c.tc : Thread Cert.GradUpNarrowIdeal.nD Cert.GradUpNarrowIdeal.τ).loc Cert.GradUpNarrowIdeal.main_arg0)
          ∧ r.2.mem ((c.tc : Thread Cert.GradUpNarrowIdeal.nD Cert.GradUpNarrowIdeal.τ).loc Cert.GradUpNarrowIdeal.main_arg1) = m ((c.tc : Thread Cert.GradUpNarrowIdeal.nD Cert.GradUpNarrowIdeal.τ).loc Cert.GradUpNarrowIdeal.main_arg1))
      ∧ θ_run (Cert.GradUpNarrowRefIdeal.defs (F := Ideal)) (onTc (τ := Cert.GradUpNarrowRefIdeal.τ) (Cert.GradUpNarrowRefIdeal.main (F := Ideal))) ⟨m', fun _ => 0, g'⟩ (fun r => ∀ c : Dev Cert.GradUpNarrowRefIdeal.nD,
          r.2.mem ((c.tc : Thread Cert.GradUpNarrowRefIdeal.nD Cert.GradUpNarrowRefIdeal.τ).loc Cert.GradUpNarrowRefIdeal.main_v2) = v0 c
          ∧ r.2.mem ((c.tc : Thread Cert.GradUpNarrowRefIdeal.nD Cert.GradUpNarrowRefIdeal.τ).loc Cert.GradUpNarrowRefIdeal.main_arg0) = m' ((c.tc : Thread Cert.GradUpNarrowRefIdeal.nD Cert.GradUpNarrowRefIdeal.τ).loc Cert.GradUpNarrowRefIdeal.main_arg0)
          ∧ r.2.mem ((c.tc : Thread Cert.GradUpNarrowRefIdeal.nD Cert.GradUpNarrowRefIdeal.τ).loc Cert.GradUpNarrowRefIdeal.main_arg1) = m' ((c.tc : Thread Cert.GradUpNarrowRefIdeal.nD Cert.GradUpNarrowRefIdeal.τ).loc Cert.GradUpNarrowRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v3) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v27) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Mix_MixIdeal : Prop :=
  True

def algebraic_MixIdeal_MixRefIdeal_pre_weighed [hMixIdeal : Cert.MixIdeal.Facts] [hMixRefIdeal : Cert.MixRefIdeal.Facts] [hPre_weighed : Cert.Pre_weighed.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_weighed m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v21) = v0 c
          ∧ r.2.mem ((c.tc : Thread Cert.MixRefIdeal.nD Cert.MixRefIdeal.τ).loc Cert.MixRefIdeal.main_v28) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def Claim : Prop :=
  ∃ (hGather : Cert.Gather.Facts) (hGatherIdeal : Cert.GatherIdeal.Facts) (hGatherRefIdeal : Cert.GatherRefIdeal.Facts) (hGatherRef : Cert.GatherRef.Facts) (hSibling : Cert.Sibling.Facts) (hSiblingIdeal : Cert.SiblingIdeal.Facts) (hSiblingRefIdeal : Cert.SiblingRefIdeal.Facts) (hSiblingRef : Cert.SiblingRef.Facts) (hChips : Cert.Chips.Facts) (hChipsIdeal : Cert.ChipsIdeal.Facts) (hChipsRefIdeal : Cert.ChipsRefIdeal.Facts) (hChipsRef : Cert.ChipsRef.Facts) (hAdamIn : Cert.AdamIn.Facts) (hAdamInIdeal : Cert.AdamInIdeal.Facts) (hAdamInRefIdeal : Cert.AdamInRefIdeal.Facts) (hAdamPoolUp : Cert.AdamPoolUp.Facts) (hAdamPoolUpIdeal : Cert.AdamPoolUpIdeal.Facts) (hAdamPoolUpRefIdeal : Cert.AdamPoolUpRefIdeal.Facts) (hAdamConvOut : Cert.AdamConvOut.Facts) (hAdamConvOutIdeal : Cert.AdamConvOutIdeal.Facts) (hAdamConvOutRefIdeal : Cert.AdamConvOutRefIdeal.Facts) (hAdamAttnUp : Cert.AdamAttnUp.Facts) (hAdamAttnUpIdeal : Cert.AdamAttnUpIdeal.Facts) (hAdamAttnUpRefIdeal : Cert.AdamAttnUpRefIdeal.Facts) (hAdamO : Cert.AdamO.Facts) (hAdamOIdeal : Cert.AdamOIdeal.Facts) (hAdamORefIdeal : Cert.AdamORefIdeal.Facts) (hAdamFf1 : Cert.AdamFf1.Facts) (hAdamFf1Ideal : Cert.AdamFf1Ideal.Facts) (hAdamFf1RefIdeal : Cert.AdamFf1RefIdeal.Facts) (hAdamFf2 : Cert.AdamFf2.Facts) (hAdamFf2Ideal : Cert.AdamFf2Ideal.Facts) (hAdamFf2RefIdeal : Cert.AdamFf2RefIdeal.Facts) (hAdamSmall : Cert.AdamSmall.Facts) (hAdamSmallIdeal : Cert.AdamSmallIdeal.Facts) (hAdamSmallRefIdeal : Cert.AdamSmallRefIdeal.Facts) (hSumTwo : Cert.SumTwo.Facts) (hSumTwoIdeal : Cert.SumTwoIdeal.Facts) (hSumTwoRefIdeal : Cert.SumTwoRefIdeal.Facts) (hSumBig : Cert.SumBig.Facts) (hSumBigIdeal : Cert.SumBigIdeal.Facts) (hSumBigRefIdeal : Cert.SumBigRefIdeal.Facts) (hSumSmall : Cert.SumSmall.Facts) (hSumSmallIdeal : Cert.SumSmallIdeal.Facts) (hSumSmallRefIdeal : Cert.SumSmallRefIdeal.Facts) (hSumTwoRef : Cert.SumTwoRef.Facts) (hSumPair : Cert.SumPair.Facts) (hSumPairIdeal : Cert.SumPairIdeal.Facts) (hSumPairRefIdeal : Cert.SumPairRefIdeal.Facts) (hLossHead : Cert.LossHead.Facts) (hLossHeadIdeal : Cert.LossHeadIdeal.Facts) (hLossHeadRefIdeal : Cert.LossHeadRefIdeal.Facts) (hNormFwd : Cert.NormFwd.Facts) (hNormFwdIdeal : Cert.NormFwdIdeal.Facts) (hNormFwdRefIdeal : Cert.NormFwdRefIdeal.Facts) (hNormBwd : Cert.NormBwd.Facts) (hNormBwdIdeal : Cert.NormBwdIdeal.Facts) (hNormBwdRefIdeal : Cert.NormBwdRefIdeal.Facts) (hTotal : Cert.Total.Facts) (hTotalIdeal : Cert.TotalIdeal.Facts) (hTotalRefIdeal : Cert.TotalRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFfUp : Cert.FfUp.Facts) (hFfUpIdeal : Cert.FfUpIdeal.Facts) (hFfUpRefIdeal : Cert.FfUpRefIdeal.Facts) (hFfBack : Cert.FfBack.Facts) (hFfBackIdeal : Cert.FfBackIdeal.Facts) (hFfBackRefIdeal : Cert.FfBackRefIdeal.Facts) (hOutBack : Cert.OutBack.Facts) (hOutBackIdeal : Cert.OutBackIdeal.Facts) (hOutBackRefIdeal : Cert.OutBackRefIdeal.Facts) (hUpBack : Cert.UpBack.Facts) (hUpBackIdeal : Cert.UpBackIdeal.Facts) (hUpBackRefIdeal : Cert.UpBackRefIdeal.Facts) (hUpBackNarrow : Cert.UpBackNarrow.Facts) (hUpBackNarrowIdeal : Cert.UpBackNarrowIdeal.Facts) (hUpBackNarrowRefIdeal : Cert.UpBackNarrowRefIdeal.Facts) (hFfDown : Cert.FfDown.Facts) (hFfDownIdeal : Cert.FfDownIdeal.Facts) (hFfDownRefIdeal : Cert.FfDownRefIdeal.Facts) (hFfIn : Cert.FfIn.Facts) (hFfInIdeal : Cert.FfInIdeal.Facts) (hFfInRefIdeal : Cert.FfInRefIdeal.Facts) (hInBack : Cert.InBack.Facts) (hInBackIdeal : Cert.InBackIdeal.Facts) (hInBackRefIdeal : Cert.InBackRefIdeal.Facts) (hGradFf2 : Cert.GradFf2.Facts) (hGradFf2Ideal : Cert.GradFf2Ideal.Facts) (hGradFf2RefIdeal : Cert.GradFf2RefIdeal.Facts) (hGradFf1 : Cert.GradFf1.Facts) (hGradFf1Ideal : Cert.GradFf1Ideal.Facts) (hGradFf1RefIdeal : Cert.GradFf1RefIdeal.Facts) (hGradO : Cert.GradO.Facts) (hGradOIdeal : Cert.GradOIdeal.Facts) (hGradORefIdeal : Cert.GradORefIdeal.Facts) (hGradUp : Cert.GradUp.Facts) (hGradUpIdeal : Cert.GradUpIdeal.Facts) (hGradUpRefIdeal : Cert.GradUpRefIdeal.Facts) (hGradUpNarrow : Cert.GradUpNarrow.Facts) (hGradUpNarrowIdeal : Cert.GradUpNarrowIdeal.Facts) (hGradUpNarrowRefIdeal : Cert.GradUpNarrowRefIdeal.Facts) (hGradIn : Cert.GradIn.Facts) (hGradInIdeal : Cert.GradInIdeal.Facts) (hGradInRefIdeal : Cert.GradInRefIdeal.Facts) (hMerge : Cert.Merge.Facts) (hMergeIdeal : Cert.MergeIdeal.Facts) (hMergeRefIdeal : Cert.MergeRefIdeal.Facts) (hMix : Cert.Mix.Facts) (hMixIdeal : Cert.MixIdeal.Facts) (hMixRefIdeal : Cert.MixRefIdeal.Facts) (hPre_named : Cert.Pre_named.Facts) (hPre_weighed : Cert.Pre_weighed.Facts),
    quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Sibling (hSibling := hSibling)
    ∧ quiescent_SiblingIdeal (hSiblingIdeal := hSiblingIdeal)
    ∧ quiescent_SiblingRefIdeal (hSiblingRefIdeal := hSiblingRefIdeal)
    ∧ quiescent_SiblingRef (hSiblingRef := hSiblingRef)
    ∧ quiescent_Chips (hChips := hChips)
    ∧ quiescent_ChipsIdeal (hChipsIdeal := hChipsIdeal)
    ∧ quiescent_ChipsRefIdeal (hChipsRefIdeal := hChipsRefIdeal)
    ∧ quiescent_ChipsRef (hChipsRef := hChipsRef)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamPoolUp (hAdamPoolUp := hAdamPoolUp)
    ∧ quiescent_AdamPoolUpIdeal (hAdamPoolUpIdeal := hAdamPoolUpIdeal)
    ∧ quiescent_AdamPoolUpRefIdeal (hAdamPoolUpRefIdeal := hAdamPoolUpRefIdeal)
    ∧ quiescent_AdamConvOut (hAdamConvOut := hAdamConvOut)
    ∧ quiescent_AdamConvOutIdeal (hAdamConvOutIdeal := hAdamConvOutIdeal)
    ∧ quiescent_AdamConvOutRefIdeal (hAdamConvOutRefIdeal := hAdamConvOutRefIdeal)
    ∧ quiescent_AdamAttnUp (hAdamAttnUp := hAdamAttnUp)
    ∧ quiescent_AdamAttnUpIdeal (hAdamAttnUpIdeal := hAdamAttnUpIdeal)
    ∧ quiescent_AdamAttnUpRefIdeal (hAdamAttnUpRefIdeal := hAdamAttnUpRefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamFf1 (hAdamFf1 := hAdamFf1)
    ∧ quiescent_AdamFf1Ideal (hAdamFf1Ideal := hAdamFf1Ideal)
    ∧ quiescent_AdamFf1RefIdeal (hAdamFf1RefIdeal := hAdamFf1RefIdeal)
    ∧ quiescent_AdamFf2 (hAdamFf2 := hAdamFf2)
    ∧ quiescent_AdamFf2Ideal (hAdamFf2Ideal := hAdamFf2Ideal)
    ∧ quiescent_AdamFf2RefIdeal (hAdamFf2RefIdeal := hAdamFf2RefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumTwo (hSumTwo := hSumTwo)
    ∧ quiescent_SumTwoIdeal (hSumTwoIdeal := hSumTwoIdeal)
    ∧ quiescent_SumTwoRefIdeal (hSumTwoRefIdeal := hSumTwoRefIdeal)
    ∧ quiescent_SumBig (hSumBig := hSumBig)
    ∧ quiescent_SumBigIdeal (hSumBigIdeal := hSumBigIdeal)
    ∧ quiescent_SumBigRefIdeal (hSumBigRefIdeal := hSumBigRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumTwoRef (hSumTwoRef := hSumTwoRef)
    ∧ quiescent_SumPair (hSumPair := hSumPair) (hPre_named := hPre_named)
    ∧ quiescent_SumPairIdeal (hSumPairIdeal := hSumPairIdeal) (hPre_named := hPre_named)
    ∧ quiescent_SumPairRefIdeal (hSumPairRefIdeal := hSumPairRefIdeal)
    ∧ quiescent_SumPairRefIdeal_pre_named (hSumPairRefIdeal := hSumPairRefIdeal) (hPre_named := hPre_named)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_Total (hTotal := hTotal)
    ∧ quiescent_TotalIdeal (hTotalIdeal := hTotalIdeal)
    ∧ quiescent_TotalRefIdeal (hTotalRefIdeal := hTotalRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfUp (hFfUp := hFfUp)
    ∧ quiescent_FfUpIdeal (hFfUpIdeal := hFfUpIdeal)
    ∧ quiescent_FfUpRefIdeal (hFfUpRefIdeal := hFfUpRefIdeal)
    ∧ quiescent_FfBack (hFfBack := hFfBack)
    ∧ quiescent_FfBackIdeal (hFfBackIdeal := hFfBackIdeal)
    ∧ quiescent_FfBackRefIdeal (hFfBackRefIdeal := hFfBackRefIdeal)
    ∧ quiescent_OutBack (hOutBack := hOutBack)
    ∧ quiescent_OutBackIdeal (hOutBackIdeal := hOutBackIdeal)
    ∧ quiescent_OutBackRefIdeal (hOutBackRefIdeal := hOutBackRefIdeal)
    ∧ quiescent_UpBack (hUpBack := hUpBack)
    ∧ quiescent_UpBackIdeal (hUpBackIdeal := hUpBackIdeal)
    ∧ quiescent_UpBackRefIdeal (hUpBackRefIdeal := hUpBackRefIdeal)
    ∧ quiescent_UpBackNarrow (hUpBackNarrow := hUpBackNarrow)
    ∧ quiescent_UpBackNarrowIdeal (hUpBackNarrowIdeal := hUpBackNarrowIdeal)
    ∧ quiescent_UpBackNarrowRefIdeal (hUpBackNarrowRefIdeal := hUpBackNarrowRefIdeal)
    ∧ quiescent_FfDown (hFfDown := hFfDown)
    ∧ quiescent_FfDownIdeal (hFfDownIdeal := hFfDownIdeal)
    ∧ quiescent_FfDownRefIdeal (hFfDownRefIdeal := hFfDownRefIdeal)
    ∧ quiescent_FfIn (hFfIn := hFfIn)
    ∧ quiescent_FfInIdeal (hFfInIdeal := hFfInIdeal)
    ∧ quiescent_FfInRefIdeal (hFfInRefIdeal := hFfInRefIdeal)
    ∧ quiescent_InBack (hInBack := hInBack)
    ∧ quiescent_InBackIdeal (hInBackIdeal := hInBackIdeal)
    ∧ quiescent_InBackRefIdeal (hInBackRefIdeal := hInBackRefIdeal)
    ∧ quiescent_GradFf2 (hGradFf2 := hGradFf2)
    ∧ quiescent_GradFf2Ideal (hGradFf2Ideal := hGradFf2Ideal)
    ∧ quiescent_GradFf2RefIdeal (hGradFf2RefIdeal := hGradFf2RefIdeal)
    ∧ quiescent_GradFf1 (hGradFf1 := hGradFf1)
    ∧ quiescent_GradFf1Ideal (hGradFf1Ideal := hGradFf1Ideal)
    ∧ quiescent_GradFf1RefIdeal (hGradFf1RefIdeal := hGradFf1RefIdeal)
    ∧ quiescent_GradO (hGradO := hGradO)
    ∧ quiescent_GradOIdeal (hGradOIdeal := hGradOIdeal)
    ∧ quiescent_GradORefIdeal (hGradORefIdeal := hGradORefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_GradUpNarrow (hGradUpNarrow := hGradUpNarrow)
    ∧ quiescent_GradUpNarrowIdeal (hGradUpNarrowIdeal := hGradUpNarrowIdeal)
    ∧ quiescent_GradUpNarrowRefIdeal (hGradUpNarrowRefIdeal := hGradUpNarrowRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mix (hMix := hMix)
    ∧ quiescent_MixIdeal (hMixIdeal := hMixIdeal)
    ∧ quiescent_MixIdeal_pre_weighed (hMixIdeal := hMixIdeal) (hPre_weighed := hPre_weighed)
    ∧ quiescent_MixRefIdeal (hMixRefIdeal := hMixRefIdeal)
    ∧ quiescent_MixRefIdeal_pre_weighed (hMixRefIdeal := hMixRefIdeal) (hPre_weighed := hPre_weighed)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Sibling_SiblingIdeal
    ∧ algebraic_SiblingIdeal_SiblingRefIdeal (hSiblingIdeal := hSiblingIdeal) (hSiblingRefIdeal := hSiblingRefIdeal)
    ∧ bitexact_Sibling_SiblingRef (hSibling := hSibling) (hSiblingRef := hSiblingRef)
    ∧ preserves_Chips_ChipsIdeal
    ∧ algebraic_ChipsIdeal_ChipsRefIdeal (hChipsIdeal := hChipsIdeal) (hChipsRefIdeal := hChipsRefIdeal)
    ∧ bitexact_Chips_ChipsRef (hChips := hChips) (hChipsRef := hChipsRef)
    ∧ preserves_AdamIn_AdamInIdeal
    ∧ algebraic_AdamInIdeal_AdamInRefIdeal (hAdamInIdeal := hAdamInIdeal) (hAdamInRefIdeal := hAdamInRefIdeal)
    ∧ preserves_AdamPoolUp_AdamPoolUpIdeal
    ∧ algebraic_AdamPoolUpIdeal_AdamPoolUpRefIdeal (hAdamPoolUpIdeal := hAdamPoolUpIdeal) (hAdamPoolUpRefIdeal := hAdamPoolUpRefIdeal)
    ∧ preserves_AdamConvOut_AdamConvOutIdeal
    ∧ algebraic_AdamConvOutIdeal_AdamConvOutRefIdeal (hAdamConvOutIdeal := hAdamConvOutIdeal) (hAdamConvOutRefIdeal := hAdamConvOutRefIdeal)
    ∧ preserves_AdamAttnUp_AdamAttnUpIdeal
    ∧ algebraic_AdamAttnUpIdeal_AdamAttnUpRefIdeal (hAdamAttnUpIdeal := hAdamAttnUpIdeal) (hAdamAttnUpRefIdeal := hAdamAttnUpRefIdeal)
    ∧ preserves_AdamO_AdamOIdeal
    ∧ algebraic_AdamOIdeal_AdamORefIdeal (hAdamOIdeal := hAdamOIdeal) (hAdamORefIdeal := hAdamORefIdeal)
    ∧ preserves_AdamFf1_AdamFf1Ideal
    ∧ algebraic_AdamFf1Ideal_AdamFf1RefIdeal (hAdamFf1Ideal := hAdamFf1Ideal) (hAdamFf1RefIdeal := hAdamFf1RefIdeal)
    ∧ preserves_AdamFf2_AdamFf2Ideal
    ∧ algebraic_AdamFf2Ideal_AdamFf2RefIdeal (hAdamFf2Ideal := hAdamFf2Ideal) (hAdamFf2RefIdeal := hAdamFf2RefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumTwo_SumTwoIdeal
    ∧ algebraic_SumTwoIdeal_SumTwoRefIdeal (hSumTwoIdeal := hSumTwoIdeal) (hSumTwoRefIdeal := hSumTwoRefIdeal)
    ∧ preserves_SumBig_SumBigIdeal
    ∧ algebraic_SumBigIdeal_SumBigRefIdeal (hSumBigIdeal := hSumBigIdeal) (hSumBigRefIdeal := hSumBigRefIdeal)
    ∧ preserves_SumSmall_SumSmallIdeal
    ∧ algebraic_SumSmallIdeal_SumSmallRefIdeal (hSumSmallIdeal := hSumSmallIdeal) (hSumSmallRefIdeal := hSumSmallRefIdeal)
    ∧ bitexact_SumTwo_SumTwoRef (hSumTwo := hSumTwo) (hSumTwoRef := hSumTwoRef)
    ∧ preserves_SumPair_SumPairIdeal
    ∧ algebraic_SumPairIdeal_SumPairRefIdeal (hSumPairIdeal := hSumPairIdeal) (hSumPairRefIdeal := hSumPairRefIdeal) (hPre_named := hPre_named)
    ∧ preserves_LossHead_LossHeadIdeal
    ∧ algebraic_LossHeadIdeal_LossHeadRefIdeal (hLossHeadIdeal := hLossHeadIdeal) (hLossHeadRefIdeal := hLossHeadRefIdeal)
    ∧ preserves_NormFwd_NormFwdIdeal
    ∧ algebraic_NormFwdIdeal_NormFwdRefIdeal (hNormFwdIdeal := hNormFwdIdeal) (hNormFwdRefIdeal := hNormFwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_Total_TotalIdeal
    ∧ algebraic_TotalIdeal_TotalRefIdeal (hTotalIdeal := hTotalIdeal) (hTotalRefIdeal := hTotalRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_FfUp_FfUpIdeal
    ∧ algebraic_FfUpIdeal_FfUpRefIdeal (hFfUpIdeal := hFfUpIdeal) (hFfUpRefIdeal := hFfUpRefIdeal)
    ∧ preserves_FfBack_FfBackIdeal
    ∧ algebraic_FfBackIdeal_FfBackRefIdeal (hFfBackIdeal := hFfBackIdeal) (hFfBackRefIdeal := hFfBackRefIdeal)
    ∧ preserves_OutBack_OutBackIdeal
    ∧ algebraic_OutBackIdeal_OutBackRefIdeal (hOutBackIdeal := hOutBackIdeal) (hOutBackRefIdeal := hOutBackRefIdeal)
    ∧ preserves_UpBack_UpBackIdeal
    ∧ algebraic_UpBackIdeal_UpBackRefIdeal (hUpBackIdeal := hUpBackIdeal) (hUpBackRefIdeal := hUpBackRefIdeal)
    ∧ preserves_UpBackNarrow_UpBackNarrowIdeal
    ∧ algebraic_UpBackNarrowIdeal_UpBackNarrowRefIdeal (hUpBackNarrowIdeal := hUpBackNarrowIdeal) (hUpBackNarrowRefIdeal := hUpBackNarrowRefIdeal)
    ∧ preserves_FfDown_FfDownIdeal
    ∧ algebraic_FfDownIdeal_FfDownRefIdeal (hFfDownIdeal := hFfDownIdeal) (hFfDownRefIdeal := hFfDownRefIdeal)
    ∧ preserves_FfIn_FfInIdeal
    ∧ algebraic_FfInIdeal_FfInRefIdeal (hFfInIdeal := hFfInIdeal) (hFfInRefIdeal := hFfInRefIdeal)
    ∧ preserves_InBack_InBackIdeal
    ∧ algebraic_InBackIdeal_InBackRefIdeal (hInBackIdeal := hInBackIdeal) (hInBackRefIdeal := hInBackRefIdeal)
    ∧ preserves_GradFf2_GradFf2Ideal
    ∧ algebraic_GradFf2Ideal_GradFf2RefIdeal (hGradFf2Ideal := hGradFf2Ideal) (hGradFf2RefIdeal := hGradFf2RefIdeal)
    ∧ preserves_GradFf1_GradFf1Ideal
    ∧ algebraic_GradFf1Ideal_GradFf1RefIdeal (hGradFf1Ideal := hGradFf1Ideal) (hGradFf1RefIdeal := hGradFf1RefIdeal)
    ∧ preserves_GradO_GradOIdeal
    ∧ algebraic_GradOIdeal_GradORefIdeal (hGradOIdeal := hGradOIdeal) (hGradORefIdeal := hGradORefIdeal)
    ∧ preserves_GradUp_GradUpIdeal
    ∧ algebraic_GradUpIdeal_GradUpRefIdeal (hGradUpIdeal := hGradUpIdeal) (hGradUpRefIdeal := hGradUpRefIdeal)
    ∧ preserves_GradUpNarrow_GradUpNarrowIdeal
    ∧ algebraic_GradUpNarrowIdeal_GradUpNarrowRefIdeal (hGradUpNarrowIdeal := hGradUpNarrowIdeal) (hGradUpNarrowRefIdeal := hGradUpNarrowRefIdeal)
    ∧ preserves_GradIn_GradInIdeal
    ∧ algebraic_GradInIdeal_GradInRefIdeal (hGradInIdeal := hGradInIdeal) (hGradInRefIdeal := hGradInRefIdeal)
    ∧ preserves_Merge_MergeIdeal
    ∧ algebraic_MergeIdeal_MergeRefIdeal (hMergeIdeal := hMergeIdeal) (hMergeRefIdeal := hMergeRefIdeal)
    ∧ preserves_Mix_MixIdeal
    ∧ algebraic_MixIdeal_MixRefIdeal_pre_weighed (hMixIdeal := hMixIdeal) (hMixRefIdeal := hMixRefIdeal) (hPre_weighed := hPre_weighed)
-- ==== Pre_named.lean ====
abbrev S2 : Shape := ⟨1, ![2]⟩
abbrev S2x4x35840x128 : Shape := ⟨4, ![2, 4, 35840, 128]⟩
abbrev S4x35840x128 : Shape := ⟨3, ![4, 35840, 128]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S2x4x35840x128 .f32) (main_arg2 : FVec F S4x35840x128 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 2#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 4#32
  let main_v13 : IVec S_ 1 := cmpi .slt main_v12 main_c_2
  let main_v14 : IVec S_ 1 := andi main_v10 main_v13
  main_v14
-- ==== Pre_weighed.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)

variable [Facts]

def fn {F : FTy → Type} [FloatOps F] (main_arg0 : FVec F S4096x256 .f32) (main_arg1 : FVec F S4096x256 .f32) (main_arg2 : FVec F S4096x256 .f32) (main_arg3 : FVec F S4096x256 .f32) (main_arg4 : FVec F S4096x256 .f32) (main_arg5 : FVec F S4096x256 .f32) : IVec S4096x256 1 :=
  let main_v0 : FVec F S4096x256 .f32 := maximumf main_arg3 main_arg4
  let main_v1 : FVec F S4096x256 .f32 := maximumf main_v0 main_arg5
  let main_cst : FVec F S_ .f32 := constant S_ .f32 0xFF800000#32
  let main_v2 : FVec F S4096x256 .f32 := broadcastInDim S4096x256 ![] bcast_S_S4096x256 main_cst
  let main_v3 : IVec S4096x256 1 := cmpf .ogt main_v1 main_v2
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v1 main_v4
  let main_v6 : IVec S4096x256 1 := andi main_v3 main_v5
  main_v6
-- ==== Gather.lean ====
abbrev S35856x128 : Shape := ⟨2, ![35856, 128]⟩
abbrev S8x35856x128 : Shape := ⟨3, ![8, 35856, 128]⟩
abbrev S7 : Shape := ⟨1, ![7]⟩
abbrev S_ : Shape := ⟨0, ![]⟩
abbrev S1x35856x128 : Shape := ⟨3, ![1, 35856, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S35856x128, .bf16⟩
  | .hbm, ⟨1, _⟩ => ⟨S8x35856x128, .bf16⟩
  | _, _ => ⟨S35856x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherRef.lean ====
abbrev S286848x128 : Shape := ⟨2, ![286848, 128]⟩
abbrev S8x35856x128 : Shape := ⟨3, ![8, 35856, 128]⟩

abbrev nBuf : Space → Nat
  | .hbm => 2
  | .vmem => 0
  | .smem => 0
  | _ => 0

abbrev bufTy : (tb : Table) → Fin (tcTables nBuf tb) → BufTy
  | .hbm, ⟨0, _⟩ => ⟨S286848x128, .bf16⟩
  | .hbm, ⟨1, _⟩ => ⟨S8x35856x128, .bf16⟩
  | _, _ => ⟨S286848x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Sibling.lean ====
abbrev S2x4x35840x128 : Shape := ⟨4, ![2, 4, 35840, 128]⟩
abbrev S1144x128 : Shape := ⟨2, ![1144, 128]⟩
abbrev S4x35840x128 : Shape := ⟨3, ![4, 35840, 128]⟩
abbrev S2 : Shape := ⟨1, ![2]⟩
abbrev S1 : Shape := ⟨1, ![1]⟩
abbrev S_ : Shape := ⟨0, ![]⟩
abbrev S1x4x35840x128 : Shape := ⟨4, ![1, 4, 35840, 128]⟩

abbrev nBuf : Space → Nat
  | .hbm => 4
  | .vmem => 0
  | .smem => 0
  | _ => 0

abbrev bufTy : (tb : Table) → Fin (tcTables nBuf tb) → BufTy
  | .hbm, ⟨0, _⟩ => ⟨S2x4x35840x128, .f32⟩
  | .hbm, ⟨1, _⟩ => ⟨S1144x128, .f32⟩
  | .hbm, ⟨2, _⟩ => ⟨S4x35840x128, .f32⟩
  | .hbm, ⟨3, _⟩ => ⟨S1144x128, .f32⟩
  | _, _ => ⟨S2x4x35840x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 4 → Nat :=
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c0_i32_10 : BitVec 32 := 0#32
  let c0_i32_11 : BitVec 32 := 0#32
  let c0_i32_12 : BitVec 32 := 0#32
  ![v10.toNat, 0, 0, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v11 : BitVec 32 := Scalar.muli v2 c4_i32_6
  let v12 : BitVec 32 := Scalar.addi c0_i32_7 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v13 : BitVec 32 := Scalar.muli v5 c2_i32_8
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_9 : BitVec 32 := 1#32
  let v15 : BitVec 32 := Scalar.muli v9 c1_i32_9
  let v16 : BitVec 32 := Scalar.addi v14 v15
  v16.toNat
def k0_dev2 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v23 : BitVec 32 := Scalar.muli v2 c4_i32_15
  let v24 : BitVec 32 := Scalar.addi c0_i32_16 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v25 : BitVec 32 := Scalar.muli v5 c2_i32_17
  let v26 : BitVec 32 := Scalar.addi v24 v25
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_18 : BitVec 32 := 1#32
  let v27 : BitVec 32 := Scalar.muli v9 c1_i32_18
  let v28 : BitVec 32 := Scalar.addi v26 v27
  v28.toNat
-- ==== SiblingRef.lean ====
abbrev S16x4x35840x128 : Shape := ⟨4, ![16, 4, 35840, 128]⟩
abbrev S9152x128 : Shape := ⟨2, ![9152, 128]⟩
abbrev S4x2x2x4x35840x128 : Shape := ⟨6, ![4, 2, 2, 4, 35840, 128]⟩
abbrev S4x2x1144x128 : Shape := ⟨4, ![4, 2, 1144, 128]⟩
abbrev S4x1x1x4x35840x128 : Shape := ⟨6, ![4, 1, 1, 4, 35840, 128]⟩
abbrev S4x4x35840x128 : Shape := ⟨4, ![4, 4, 35840, 128]⟩
abbrev S4x1x4x35840x128 : Shape := ⟨5, ![4, 1, 4, 35840, 128]⟩
abbrev S4x2x4x35840x128 : Shape := ⟨5, ![4, 2, 4, 35840, 128]⟩
abbrev S4x1x1144x128 : Shape := ⟨4, ![4, 1, 1144, 128]⟩
abbrev S4x1144x128 : Shape := ⟨3, ![4, 1144, 128]⟩
abbrev S32x35840x128 : Shape := ⟨3, ![32, 35840, 128]⟩

abbrev nBuf : Space → Nat
  | .hbm => 20
  | .vmem => 0
  | .smem => 0
  | _ => 0

abbrev bufTy : (tb : Table) → Fin (tcTables nBuf tb) → BufTy
  | .hbm, ⟨0, _⟩ => ⟨S16x4x35840x128, .f32⟩
  | .hbm, ⟨1, _⟩ => ⟨S9152x128, .f32⟩
  | .hbm, ⟨2, _⟩ => ⟨S4x2x2x4x35840x128, .f32⟩
  | .hbm, ⟨3, _⟩ => ⟨S4x2x1144x128, .f32⟩
  | .hbm, ⟨4, _⟩ => ⟨S4x1x1x4x35840x128, .f32⟩
  | .hbm, ⟨5, _⟩ => ⟨S4x4x35840x128, .f32⟩
  | .hbm, ⟨6, _⟩ => ⟨S4x1x1x4x35840x128, .f32⟩
  | .hbm, ⟨7, _⟩ => ⟨S4x4x35840x128, .f32⟩
  | .hbm, ⟨8, _⟩ => ⟨S4x1x4x35840x128, .f32⟩
  | .hbm, ⟨9, _⟩ => ⟨S4x1x4x35840x128, .f32⟩
  | .hbm, ⟨10, _⟩ => ⟨S4x2x4x35840x128, .f32⟩
  | .hbm, ⟨11, _⟩ => ⟨S4x1x1144x128, .f32⟩
  | .hbm, ⟨12, _⟩ => ⟨S4x1144x128, .f32⟩
  | .hbm, ⟨13, _⟩ => ⟨S4x1x1144x128, .f32⟩
  | .hbm, ⟨14, _⟩ => ⟨S4x1144x128, .f32⟩
  | .hbm, ⟨15, _⟩ => ⟨S4x1x1144x128, .f32⟩
  | .hbm, ⟨16, _⟩ => ⟨S4x1x1144x128, .f32⟩
  | .hbm, ⟨17, _⟩ => ⟨S4x2x1144x128, .f32⟩
  | .hbm, ⟨18, _⟩ => ⟨S32x35840x128, .f32⟩
  | .hbm, ⟨19, _⟩ => ⟨S9152x128, .f32⟩
  | _, _ => ⟨S16x4x35840x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Chips.lean ====
abbrev S4x35840x128 : Shape := ⟨3, ![4, 35840, 128]⟩
abbrev S1144x128 : Shape := ⟨2, ![1144, 128]⟩
abbrev S4x1144x128 : Shape := ⟨3, ![4, 1144, 128]⟩
abbrev S6 : Shape := ⟨1, ![6]⟩
abbrev S2 : Shape := ⟨1, ![2]⟩
abbrev S1 : Shape := ⟨1, ![1]⟩
abbrev S_ : Shape := ⟨0, ![]⟩
abbrev S1x35840x128 : Shape := ⟨3, ![1, 35840, 128]⟩
abbrev S35840x128 : Shape := ⟨2, ![35840, 128]⟩
abbrev S1x1144x128 : Shape := ⟨3, ![1, 1144, 128]⟩

abbrev nBuf : Space → Nat
  | .hbm => 4
  | .vmem => 0
  | .smem => 0
  | _ => 0

abbrev bufTy : (tb : Table) → Fin (tcTables nBuf tb) → BufTy
  | .hbm, ⟨0, _⟩ => ⟨S4x35840x128, .bf16⟩
  | .hbm, ⟨1, _⟩ => ⟨S1144x128, .f32⟩
  | .hbm, ⟨2, _⟩ => ⟨S4x35840x128, .bf16⟩
  | .hbm, ⟨3, _⟩ => ⟨S4x1144x128, .f32⟩
  | _, _ => ⟨S4x35840x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_8 : BitVec 32 := 0#32
  let c0_i32_9 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_13 : BitVec 32 := 0#32
  let c0_i32_14 : BitVec 32 := 0#32
  ![v10.toNat, 0, 0]
def k0_off3 (d0 : Dev nD) : Fin 3 → Nat :=
  let c2_i32_15 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v25 : BitVec 32 := Scalar.muli c2_i32_15 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.addi v25 v5
  let c0_i32_26 : BitVec 32 := 0#32
  let c0_i32_27 : BitVec 32 := 0#32
  ![v26.toNat, 0, 0]
def k0_dev1 (d0 : Dev nD) : Nat :=
  let c0_i32_21 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_20 : BitVec 32 := 4#32
  let v31 : BitVec 32 := Scalar.muli v11 c4_i32_20
  let v32 : BitVec 32 := Scalar.addi c0_i32_21 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v33 : BitVec 32 := Scalar.muli v5 c2_i32_22
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v35 : BitVec 32 := Scalar.muli v8 c1_i32_23
  let v36 : BitVec 32 := Scalar.addi v34 v35
  v36.toNat
def k0_dev2 (d0 : Dev nD) : Nat :=
  let c0_i32_31 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_30 : BitVec 32 := 4#32
  let v45 : BitVec 32 := Scalar.muli v11 c4_i32_30
  let v46 : BitVec 32 := Scalar.addi c0_i32_31 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v47 : BitVec 32 := Scalar.muli v5 c2_i32_32
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v49 : BitVec 32 := Scalar.muli v8 c1_i32_33
  let v50 : BitVec 32 := Scalar.addi v48 v49
  v50.toNat
def k0_off4 (d0 : Dev nD) : Fin 3 → Nat :=
  let c2_i32_16 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.muli c2_i32_16 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v28 : BitVec 32 := Scalar.addi v27 v12
  let c0_i32_44 : BitVec 32 := 0#32
  let c0_i32_45 : BitVec 32 := 0#32
  ![v28.toNat, 0, 0]
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v57 : BitVec 32 := Scalar.muli v2 c4_i32_38
  let v58 : BitVec 32 := Scalar.addi c0_i32_39 v57
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_40 : BitVec 32 := 2#32
  let v59 : BitVec 32 := Scalar.muli v12 c2_i32_40
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v61 : BitVec 32 := Scalar.muli v8 c1_i32_41
  let v62 : BitVec 32 := Scalar.addi v60 v61
  v62.toNat
def k0_dev4 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v71 : BitVec 32 := Scalar.muli v2 c4_i32_47
  let v72 : BitVec 32 := Scalar.addi c0_i32_48 v71
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_49 : BitVec 32 := 2#32
  let v73 : BitVec 32 := Scalar.muli v12 c2_i32_49
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v75 : BitVec 32 := Scalar.muli v8 c1_i32_50
  let v76 : BitVec 32 := Scalar.addi v74 v75
  v76.toNat
def k0_off5 (d0 : Dev nD) : Fin 3 → Nat :=
  let c2_i32_17 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v29 : BitVec 32 := Scalar.muli c2_i32_17 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v30 : BitVec 32 := Scalar.addi v29 v14
  let c0_i32_61 : BitVec 32 := 0#32
  let c0_i32_62 : BitVec 32 := 0#32
  ![v30.toNat, 0, 0]
def k0_dev5 (d0 : Dev nD) : Nat :=
  let c0_i32_56 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_55 : BitVec 32 := 4#32
  let v83 : BitVec 32 := Scalar.muli v13 c4_i32_55
  let v84 : BitVec 32 := Scalar.addi c0_i32_56 v83
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_57 : BitVec 32 := 2#32
  let v85 : BitVec 32 := Scalar.muli v14 c2_i32_57
  let v86 : BitVec 32 := Scalar.addi v84 v85
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v87 : BitVec 32 := Scalar.muli v8 c1_i32_58
  let v88 : BitVec 32 := Scalar.addi v86 v87
  v88.toNat
def k0_dev6 (d0 : Dev nD) : Nat :=
  let c0_i32_65 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_64 : BitVec 32 := 4#32
  let v97 : BitVec 32 := Scalar.muli v13 c4_i32_64
  let v98 : BitVec 32 := Scalar.addi c0_i32_65 v97
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_66 : BitVec 32 := 2#32
  let v99 : BitVec 32 := Scalar.muli v14 c2_i32_66
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v101 : BitVec 32 := Scalar.muli v8 c1_i32_67
  let v102 : BitVec 32 := Scalar.addi v100 v101
  v102.toNat
def k0_off6 (d0 : Dev nD) : Fin 3 → Nat :=
  let c2_i32_81 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v123 : BitVec 32 := Scalar.muli c2_i32_81 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v124 : BitVec 32 := Scalar.addi v123 v5
  let c0_i32_88 : BitVec 32 := 0#32
  let c0_i32_89 : BitVec 32 := 0#32
  ![v124.toNat, 0, 0]
def k0_off7 (d0 : Dev nD) : Fin 3 → Nat :=
  let c2_i32_101 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v149 : BitVec 32 := Scalar.muli c2_i32_101 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v150 : BitVec 32 := Scalar.addi v149 v12
  let c0_i32_108 : BitVec 32 := 0#32
  let c0_i32_109 : BitVec 32 := 0#32
  ![v150.toNat, 0, 0]
def k0_off8 (d0 : Dev nD) : Fin 3 → Nat :=
  let c2_i32_121 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v175 : BitVec 32 := Scalar.muli c2_i32_121 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v176 : BitVec 32 := Scalar.addi v175 v14
  let c0_i32_128 : BitVec 32 := 0#32
  let c0_i32_129 : BitVec 32 := 0#32
  ![v176.toNat, 0, 0]
-- ==== ChipsRef.lean ====
abbrev S32x35840x128 : Shape := ⟨3, ![32, 35840, 128]⟩
abbrev S9152x128 : Shape := ⟨2, ![9152, 128]⟩
abbrev S4x2x4x35840x128 : Shape := ⟨5, ![4, 2, 4, 35840, 128]⟩
abbrev S4x2x1144x128 : Shape := ⟨4, ![4, 2, 1144, 128]⟩
abbrev S2x4x1144x128 : Shape := ⟨4, ![2, 4, 1144, 128]⟩
abbrev S4x2x4x1144x128 : Shape := ⟨5, ![4, 2, 4, 1144, 128]⟩
abbrev S32x1144x128 : Shape := ⟨3, ![32, 1144, 128]⟩

abbrev nBuf : Space → Nat
  | .hbm => 9
  | .vmem => 0
  | .smem => 0
  | _ => 0

abbrev bufTy : (tb : Table) → Fin (tcTables nBuf tb) → BufTy
  | .hbm, ⟨0, _⟩ => ⟨S32x35840x128, .bf16⟩
  | .hbm, ⟨1, _⟩ => ⟨S9152x128, .f32⟩
  | .hbm, ⟨2, _⟩ => ⟨S4x2x4x35840x128, .bf16⟩
  | .hbm, ⟨3, _⟩ => ⟨S4x2x4x35840x128, .bf16⟩
  | .hbm, ⟨4, _⟩ => ⟨S4x2x1144x128, .f32⟩
  | .hbm, ⟨5, _⟩ => ⟨S2x4x1144x128, .f32⟩
  | .hbm, ⟨6, _⟩ => ⟨S4x2x4x1144x128, .f32⟩
  | .hbm, ⟨7, _⟩ => ⟨S32x35840x128, .bf16⟩
  | .hbm, ⟨8, _⟩ => ⟨S32x1144x128, .f32⟩
  | _, _ => ⟨S32x35840x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== AdamIn.lean ====
abbrev S2048x928 : Shape := ⟨2, ![2048, 928]⟩
abbrev S512x928 : Shape := ⟨2, ![512, 928]⟩

abbrev nBuf : Space → Nat
  | .hbm => 7
  | .vmem => 14
  | .smem => 0
  | _ => 0

abbrev bufTy : (tb : Table) → Fin (tcTables nBuf tb) → BufTy
  | .hbm, ⟨0, _⟩ => ⟨S2048x928, .f32⟩
  | .hbm, ⟨1, _⟩ => ⟨S2048x928, .f32⟩
  | .hbm, ⟨2, _⟩ => ⟨S2048x928, .f32⟩
  | .hbm, ⟨3, _⟩ => ⟨S2048x928, .f32⟩
  | .hbm, ⟨4, _⟩ => ⟨S2048x928, .f32⟩
  | .hbm, ⟨5, _⟩ => ⟨S2048x928, .f32⟩
  | .hbm, ⟨6, _⟩ => ⟨S2048x928, .f32⟩
  | .local _ .vmem, ⟨0, _⟩ => ⟨S512x928, .f32⟩
  | .local _ .vmem, ⟨1, _⟩ => ⟨S512x928, .f32⟩
  | .local _ .vmem, ⟨2, _⟩ => ⟨S512x928, .f32⟩
  | .local _ .vmem, ⟨3, _⟩ => ⟨S512x928, .f32⟩
  | .local _ .vmem, ⟨4, _⟩ => ⟨S512x928, .f32⟩
  | .local _ .vmem, ⟨5, _⟩ => ⟨S512x928, .f32⟩
  | .local _ .vmem, ⟨6, _⟩ => ⟨S512x928, .f32⟩
  | .local _ .vmem, ⟨7, _⟩ => ⟨S512x928, .f32⟩
  | .local _ .vmem, ⟨8, _⟩ => ⟨S512x928, .f32⟩
  | .local _ .vmem, ⟨9, _⟩ => ⟨S512x928, .f32⟩
  | .local _ .vmem, ⟨10, _⟩ => ⟨S512x928, .f32⟩
  | .local _ .vmem, ⟨11, _⟩ => ⟨S512x928, .f32⟩
  | .local _ .vmem, ⟨12, _⟩ => ⟨S512x928, .f32⟩
  | .local _ .vmem, ⟨13, _⟩ => ⟨S512x928, .f32⟩
  | _, _ => ⟨S2048x928, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x928 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x928 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x928 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x928 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x928 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x928 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x928 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S2048x928 : Shape := ⟨2, ![2048, 928]⟩
abbrev S512x928 : Shape := ⟨2, ![512, 928]⟩

abbrev nBuf : Space → Nat
  | .hbm => 7
  | .vmem => 14
  | .smem => 0
  | _ => 0

abbrev bufTy : (tb : Table) → Fin (tcTables nBuf tb) → BufTy
  | .hbm, ⟨0, _⟩ => ⟨S2048x928, .f32⟩
  | .hbm, ⟨1, _⟩ => ⟨S2048x928, .f32⟩
  | .hbm, ⟨2, _⟩ => ⟨S2048x928, .f32⟩
  | .hbm, ⟨3, _⟩ => ⟨S2048x928, .f32⟩
  | .hbm, ⟨4, _⟩ => ⟨S2048x928, .f32⟩
  | .hbm, ⟨5, _⟩ => ⟨S2048x928, .f32⟩
  | .hbm, ⟨6, _⟩ => ⟨S2048x928, .f32⟩
  | .local _ .vmem, ⟨0, _⟩ => ⟨S512x928, .f32⟩
  | .local _ .vmem, ⟨1, _⟩ => ⟨S512x928, .f32⟩
  | .local _ .vmem, ⟨2, _⟩ => ⟨S512x928, .f32⟩
  | .local _ .vmem, ⟨3, _⟩ => ⟨S512x928, .f32⟩
  | .local _ .vmem, ⟨4, _⟩ => ⟨S512x928, .f32⟩
  | .local _ .vmem, ⟨5, _⟩ => ⟨S512x928, .f32⟩
  | .local _ .vmem, ⟨6, _⟩ => ⟨S512x928, .f32⟩
  | .local _ .vmem, ⟨7, _⟩ => ⟨S512x928, .f32⟩
  | .local _ .vmem, ⟨8, _⟩ => ⟨S512x928, .f32⟩
  | .local _ .vmem, ⟨9, _⟩ => ⟨S512x928, .f32⟩
  | .local _ .vmem, ⟨10, _⟩ => ⟨S512x928, .f32⟩
  | .local _ .vmem, ⟨11, _⟩ => ⟨S512x928, .f32⟩
  | .local _ .vmem, ⟨12, _⟩ => ⟨S512x928, .f32⟩
  | .local _ .vmem, ⟨13, _⟩ => ⟨S512x928, .f32⟩
  | _, _ => ⟨S2048x928, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x928 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x928 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x928 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x928 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x928 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x928 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x928 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2048x928 : Shape := ⟨2, ![2048, 928]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x928, .f32⟩
  | .hbm, ⟨1, _⟩ => ⟨S2048x928, .f32⟩
  | .hbm, ⟨2, _⟩ => ⟨S2048x928, .f32⟩
  | .hbm, ⟨3, _⟩ => ⟨S2048x928, .f32⟩
  | .hbm, ⟨4, _⟩ => ⟨S_, .f32⟩
  | .hbm, ⟨5, _⟩ => ⟨S2048x928, .f32⟩
  | .hbm, ⟨6, _⟩ => ⟨S2048x928, .f32⟩
  | .hbm, ⟨7, _⟩ => ⟨S_, .f32⟩
  | .hbm, ⟨8, _⟩ => ⟨S2048x928, .f32⟩
  | .hbm, ⟨9, _⟩ => ⟨S2048x928, .f32⟩
  | .hbm, ⟨10, _⟩ => ⟨S2048x928, .f32⟩
  | .hbm, ⟨11, _⟩ => ⟨S_, .f32⟩
  | .hbm, ⟨12, _⟩ => ⟨S2048x928, .f32⟩
  | .hbm, ⟨13, _⟩ => ⟨S2048x928, .f32⟩
  | .hbm, ⟨14, _⟩ => ⟨S2048x928, .f32⟩
  | .hbm, ⟨15, _⟩ => ⟨S_, .f32⟩
  | .hbm, ⟨16, _⟩ => ⟨S2048x928, .f32⟩
  | .hbm, ⟨17, _⟩ => ⟨S2048x928, .f32⟩
  | .hbm, ⟨18, _⟩ => ⟨S2048x928, .f32⟩
  | .hbm, ⟨19, _⟩ => ⟨S_, .f32⟩
  | .hbm, ⟨20, _⟩ => ⟨S2048x928, .f32⟩
  | .hbm, ⟨21, _⟩ => ⟨S2048x928, .f32⟩
  | .hbm, ⟨22, _⟩ => ⟨S_, .f32⟩
  | .hbm, ⟨23, _⟩ => ⟨S2048x928, .f32⟩
  | .hbm, ⟨24, _⟩ => ⟨S2048x928, .f32⟩
  | .hbm, ⟨25, _⟩ => ⟨S2048x928, .f32⟩
  | .hbm, ⟨26, _⟩ => ⟨S_, .f32⟩
  | .hbm, ⟨27, _⟩ => ⟨S2048x928, .f32⟩
  | .hbm, ⟨28, _⟩ => ⟨S2048x928, .f32⟩
  | .hbm, ⟨29, _⟩ => ⟨S2048x928, .f32⟩
  | .hbm, ⟨30, _⟩ => ⟨S_, .f32⟩
  | .hbm, ⟨31, _⟩ => ⟨S2048x928, .f32⟩
  | .hbm, ⟨32, _⟩ => ⟨S2048x928, .f32⟩
  | .hbm, ⟨33, _⟩ => ⟨S2048x928, .f32⟩
  | .hbm, ⟨34, _⟩ => ⟨S_, .f32⟩
  | .hbm, ⟨35, _⟩ => ⟨S2048x928, .f32⟩
  | .hbm, ⟨36, _⟩ => ⟨S2048x928, .f32⟩
  | _, _ => ⟨S2048x928, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPoolUp.lean ====
abbrev S1024x128 : Shape := ⟨2, ![1024, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPoolUpIdeal.lean ====
abbrev S1024x128 : Shape := ⟨2, ![1024, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPoolUpRefIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvOut.lean ====
abbrev S1024x128 : Shape := ⟨2, ![1024, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamConvOutIdeal.lean ====
abbrev S1024x128 : Shape := ⟨2, ![1024, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamConvOutRefIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAttnUp.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAttnUpIdeal.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAttnUpRefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamO.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamORefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFf1.lean ====
abbrev S2048x512 : Shape := ⟨2, ![2048, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFf1Ideal.lean ====
abbrev S2048x512 : Shape := ⟨2, ![2048, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFf1RefIdeal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFf2.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFf2Ideal.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFf2RefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1120x128 : Shape := ⟨2, ![1120, 128]⟩
abbrev S280x128 : Shape := ⟨2, ![280, 128]⟩

abbrev nBuf : Space → Nat
  | .hbm => 7
  | .vmem => 14
  | .smem => 0
  | _ => 0

abbrev bufTy : (tb : Table) → Fin (tcTables nBuf tb) → BufTy
  | .hbm, ⟨0, _⟩ => ⟨S1120x128, .f32⟩
  | .hbm, ⟨1, _⟩ => ⟨S1120x128, .f32⟩
  | .hbm, ⟨2, _⟩ => ⟨S1120x128, .f32⟩
  | .hbm, ⟨3, _⟩ => ⟨S1120x128, .f32⟩
  | .hbm, ⟨4, _⟩ => ⟨S1120x128, .f32⟩
  | .hbm, ⟨5, _⟩ => ⟨S1120x128, .f32⟩
  | .hbm, ⟨6, _⟩ => ⟨S1120x128, .f32⟩
  | .local _ .vmem, ⟨0, _⟩ => ⟨S280x128, .f32⟩
  | .local _ .vmem, ⟨1, _⟩ => ⟨S280x128, .f32⟩
  | .local _ .vmem, ⟨2, _⟩ => ⟨S280x128, .f32⟩
  | .local _ .vmem, ⟨3, _⟩ => ⟨S280x128, .f32⟩
  | .local _ .vmem, ⟨4, _⟩ => ⟨S280x128, .f32⟩
  | .local _ .vmem, ⟨5, _⟩ => ⟨S280x128, .f32⟩
  | .local _ .vmem, ⟨6, _⟩ => ⟨S280x128, .f32⟩
  | .local _ .vmem, ⟨7, _⟩ => ⟨S280x128, .f32⟩
  | .local _ .vmem, ⟨8, _⟩ => ⟨S280x128, .f32⟩
  | .local _ .vmem, ⟨9, _⟩ => ⟨S280x128, .f32⟩
  | .local _ .vmem, ⟨10, _⟩ => ⟨S280x128, .f32⟩
  | .local _ .vmem, ⟨11, _⟩ => ⟨S280x128, .f32⟩
  | .local _ .vmem, ⟨12, _⟩ => ⟨S280x128, .f32⟩
  | .local _ .vmem, ⟨13, _⟩ => ⟨S280x128, .f32⟩
  | _, _ => ⟨S1120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S280x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S280x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S280x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S280x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S280x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S1120x128 : Shape := ⟨2, ![1120, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1120x128, .f32⟩
  | .hbm, ⟨1, _⟩ => ⟨S1120x128, .f32⟩
  | .hbm, ⟨2, _⟩ => ⟨S1120x128, .f32⟩
  | .hbm, ⟨3, _⟩ => ⟨S1120x128, .f32⟩
  | .hbm, ⟨4, _⟩ => ⟨S_, .f32⟩
  | .hbm, ⟨5, _⟩ => ⟨S1120x128, .f32⟩
  | .hbm, ⟨6, _⟩ => ⟨S1120x128, .f32⟩
  | .hbm, ⟨7, _⟩ => ⟨S_, .f32⟩
  | .hbm, ⟨8, _⟩ => ⟨S1120x128, .f32⟩
  | .hbm, ⟨9, _⟩ => ⟨S1120x128, .f32⟩
  | .hbm, ⟨10, _⟩ => ⟨S1120x128, .f32⟩
  | .hbm, ⟨11, _⟩ => ⟨S_, .f32⟩
  | .hbm, ⟨12, _⟩ => ⟨S1120x128, .f32⟩
  | .hbm, ⟨13, _⟩ => ⟨S1120x128, .f32⟩
  | .hbm, ⟨14, _⟩ => ⟨S1120x128, .f32⟩
  | .hbm, ⟨15, _⟩ => ⟨S_, .f32⟩
  | .hbm, ⟨16, _⟩ => ⟨S1120x128, .f32⟩
  | .hbm, ⟨17, _⟩ => ⟨S1120x128, .f32⟩
  | .hbm, ⟨18, _⟩ => ⟨S1120x128, .f32⟩
  | .hbm, ⟨19, _⟩ => ⟨S_, .f32⟩
  | .hbm, ⟨20, _⟩ => ⟨S1120x128, .f32⟩
  | .hbm, ⟨21, _⟩ => ⟨S1120x128, .f32⟩
  | .hbm, ⟨22, _⟩ => ⟨S_, .f32⟩
  | .hbm, ⟨23, _⟩ => ⟨S1120x128, .f32⟩
  | .hbm, ⟨24, _⟩ => ⟨S1120x128, .f32⟩
  | .hbm, ⟨25, _⟩ => ⟨S1120x128, .f32⟩
  | .hbm, ⟨26, _⟩ => ⟨S_, .f32⟩
  | .hbm, ⟨27, _⟩ => ⟨S1120x128, .f32⟩
  | .hbm, ⟨28, _⟩ => ⟨S1120x128, .f32⟩
  | .hbm, ⟨29, _⟩ => ⟨S1120x128, .f32⟩
  | .hbm, ⟨30, _⟩ => ⟨S_, .f32⟩
  | .hbm, ⟨31, _⟩ => ⟨S1120x128, .f32⟩
  | .hbm, ⟨32, _⟩ => ⟨S1120x128, .f32⟩
  | .hbm, ⟨33, _⟩ => ⟨S1120x128, .f32⟩
  | .hbm, ⟨34, _⟩ => ⟨S_, .f32⟩
  | .hbm, ⟨35, _⟩ => ⟨S1120x128, .f32⟩
  | .hbm, ⟨36, _⟩ => ⟨S1120x128, .f32⟩
  | _, _ => ⟨S1120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumTwo.lean ====
abbrev S1144x128 : Shape := ⟨2, ![1144, 128]⟩

abbrev nBuf : Space → Nat
  | .hbm => 3
  | .vmem => 3
  | .smem => 0
  | _ => 0

abbrev bufTy : (tb : Table) → Fin (tcTables nBuf tb) → BufTy
  | .hbm, ⟨0, _⟩ => ⟨S1144x128, .f32⟩
  | .hbm, ⟨1, _⟩ => ⟨S1144x128, .f32⟩
  | .hbm, ⟨2, _⟩ => ⟨S1144x128, .f32⟩
  | .local _ .vmem, ⟨0, _⟩ => ⟨S1144x128, .f32⟩
  | .local _ .vmem, ⟨1, _⟩ => ⟨S1144x128, .f32⟩
  | .local _ .vmem, ⟨2, _⟩ => ⟨S1144x128, .f32⟩
  | _, _ => ⟨S1144x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== SumBig.lean ====
abbrev S2 : Shape := ⟨1, ![2]⟩
abbrev S4x35840x128 : Shape := ⟨3, ![4, 35840, 128]⟩
abbrev S35840x128 : Shape := ⟨2, ![35840, 128]⟩
abbrev S4x2560x128 : Shape := ⟨3, ![4, 2560, 128]⟩
abbrev S2560x128 : Shape := ⟨2, ![2560, 128]⟩
abbrev S1 : Shape := ⟨1, ![1]⟩
abbrev S1x2560x128 : Shape := ⟨3, ![1, 2560, 128]⟩

abbrev nBuf : Space → Nat
  | .hbm => 3
  | .vmem => 6
  | .smem => 1
  | _ => 0

abbrev bufTy : (tb : Table) → Fin (tcTables nBuf tb) → BufTy
  | .hbm, ⟨0, _⟩ => ⟨S4x35840x128, .bf16⟩
  | .hbm, ⟨1, _⟩ => ⟨S35840x128, .f32⟩
  | .hbm, ⟨2, _⟩ => ⟨S35840x128, .f32⟩
  | .local _ .vmem, ⟨0, _⟩ => ⟨S4x2560x128, .bf16⟩
  | .local _ .vmem, ⟨1, _⟩ => ⟨S4x2560x128, .bf16⟩
  | .local _ .vmem, ⟨2, _⟩ => ⟨S2560x128, .f32⟩
  | .local _ .vmem, ⟨3, _⟩ => ⟨S2560x128, .f32⟩
  | .local _ .vmem, ⟨4, _⟩ => ⟨S2560x128, .f32⟩
  | .local _ .vmem, ⟨5, _⟩ => ⟨S2560x128, .f32⟩
  | .local _ .smem, ⟨0, _⟩ => ⟨S2, .i32⟩
  | _, _ => ⟨S4x35840x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![14], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2560x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumBigRefIdeal.lean ====
abbrev S2 : Shape := ⟨1, ![2]⟩
abbrev S4x35840x128 : Shape := ⟨3, ![4, 35840, 128]⟩
abbrev S35840x128 : Shape := ⟨2, ![35840, 128]⟩
abbrev S4 : Shape := ⟨1, ![4]⟩
abbrev S4x1x1 : Shape := ⟨3, ![4, 1, 1]⟩
abbrev S1 : Shape := ⟨1, ![1]⟩
abbrev S_ : Shape := ⟨0, ![]⟩
abbrev S1x35840x128 : Shape := ⟨3, ![1, 35840, 128]⟩

abbrev nBuf : Space → Nat
  | .hbm => 16
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x35840x128, .bf16⟩
  | .hbm, ⟨2, _⟩ => ⟨S35840x128, .f32⟩
  | .hbm, ⟨3, _⟩ => ⟨S4, .i32⟩
  | .hbm, ⟨4, _⟩ => ⟨S4x1x1, .i32⟩
  | .hbm, ⟨5, _⟩ => ⟨S1, .i32⟩
  | .hbm, ⟨6, _⟩ => ⟨S_, .i32⟩
  | .hbm, ⟨7, _⟩ => ⟨S4x1x1, .i32⟩
  | .hbm, ⟨8, _⟩ => ⟨S4x1x1, .i1⟩
  | .hbm, ⟨9, _⟩ => ⟨S1x35840x128, .f32⟩
  | .hbm, ⟨10, _⟩ => ⟨S4x35840x128, .f32⟩
  | .hbm, ⟨11, _⟩ => ⟨S4x35840x128, .i1⟩
  | .hbm, ⟨12, _⟩ => ⟨S4x35840x128, .f32⟩
  | .hbm, ⟨13, _⟩ => ⟨S4x35840x128, .f32⟩
  | .hbm, ⟨14, _⟩ => ⟨S_, .f32⟩
  | .hbm, ⟨15, _⟩ => ⟨S35840x128, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== SumSmall.lean ====
abbrev S2 : Shape := ⟨1, ![2]⟩
abbrev S4x1144x128 : Shape := ⟨3, ![4, 1144, 128]⟩
abbrev S1144x128 : Shape := ⟨2, ![1144, 128]⟩
abbrev S1 : Shape := ⟨1, ![1]⟩
abbrev S1x1144x128 : Shape := ⟨3, ![1, 1144, 128]⟩

abbrev nBuf : Space → Nat
  | .hbm => 3
  | .vmem => 3
  | .smem => 1
  | _ => 0

abbrev bufTy : (tb : Table) → Fin (tcTables nBuf tb) → BufTy
  | .hbm, ⟨0, _⟩ => ⟨S4x1144x128, .f32⟩
  | .hbm, ⟨1, _⟩ => ⟨S1144x128, .f32⟩
  | .hbm, ⟨2, _⟩ => ⟨S1144x128, .f32⟩
  | .local _ .vmem, ⟨0, _⟩ => ⟨S4x1144x128, .f32⟩
  | .local _ .vmem, ⟨1, _⟩ => ⟨S1144x128, .f32⟩
  | .local _ .vmem, ⟨2, _⟩ => ⟨S1144x128, .f32⟩
  | .local _ .smem, ⟨0, _⟩ => ⟨S2, .i32⟩
  | _, _ => ⟨S4x1144x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumSmallRefIdeal.lean ====
abbrev S2 : Shape := ⟨1, ![2]⟩
abbrev S4x1144x128 : Shape := ⟨3, ![4, 1144, 128]⟩
abbrev S1144x128 : Shape := ⟨2, ![1144, 128]⟩
abbrev S4 : Shape := ⟨1, ![4]⟩
abbrev S4x1x1 : Shape := ⟨3, ![4, 1, 1]⟩
abbrev S1 : Shape := ⟨1, ![1]⟩
abbrev S_ : Shape := ⟨0, ![]⟩
abbrev S1x1144x128 : Shape := ⟨3, ![1, 1144, 128]⟩

abbrev nBuf : Space → Nat
  | .hbm => 15
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x1144x128, .f32⟩
  | .hbm, ⟨2, _⟩ => ⟨S1144x128, .f32⟩
  | .hbm, ⟨3, _⟩ => ⟨S4, .i32⟩
  | .hbm, ⟨4, _⟩ => ⟨S4x1x1, .i32⟩
  | .hbm, ⟨5, _⟩ => ⟨S1, .i32⟩
  | .hbm, ⟨6, _⟩ => ⟨S_, .i32⟩
  | .hbm, ⟨7, _⟩ => ⟨S4x1x1, .i32⟩
  | .hbm, ⟨8, _⟩ => ⟨S4x1x1, .i1⟩
  | .hbm, ⟨9, _⟩ => ⟨S1x1144x128, .f32⟩
  | .hbm, ⟨10, _⟩ => ⟨S4x1144x128, .i1⟩
  | .hbm, ⟨11, _⟩ => ⟨S4x1144x128, .f32⟩
  | .hbm, ⟨12, _⟩ => ⟨S4x1144x128, .f32⟩
  | .hbm, ⟨13, _⟩ => ⟨S_, .f32⟩
  | .hbm, ⟨14, _⟩ => ⟨S1144x128, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== SumTwoRef.lean ====
abbrev S1144x128 : Shape := ⟨2, ![1144, 128]⟩

abbrev nBuf : Space → Nat
  | .hbm => 3
  | .vmem => 0
  | .smem => 0
  | _ => 0

abbrev bufTy : (tb : Table) → Fin (tcTables nBuf tb) → BufTy
  | .hbm, ⟨0, _⟩ => ⟨S1144x128, .f32⟩
  | .hbm, ⟨1, _⟩ => ⟨S1144x128, .f32⟩
  | .hbm, ⟨2, _⟩ => ⟨S1144x128, .f32⟩
  | _, _ => ⟨S1144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumPair.lean ====
abbrev S2 : Shape := ⟨1, ![2]⟩
abbrev S2x4x35840x128 : Shape := ⟨4, ![2, 4, 35840, 128]⟩
abbrev S4x35840x128 : Shape := ⟨3, ![4, 35840, 128]⟩
abbrev S35840x128 : Shape := ⟨2, ![35840, 128]⟩
abbrev S1x1x2560x128 : Shape := ⟨4, ![1, 1, 2560, 128]⟩
abbrev S1 : Shape := ⟨1, ![1]⟩
abbrev S1x2560x128 : Shape := ⟨3, ![1, 2560, 128]⟩
abbrev S2560x128 : Shape := ⟨2, ![2560, 128]⟩

abbrev nBuf : Space → Nat
  | .hbm => 4
  | .vmem => 8
  | .smem => 1
  | _ => 0

abbrev bufTy : (tb : Table) → Fin (tcTables nBuf tb) → BufTy
  | .hbm, ⟨0, _⟩ => ⟨S2x4x35840x128, .f32⟩
  | .hbm, ⟨1, _⟩ => ⟨S4x35840x128, .f32⟩
  | .hbm, ⟨2, _⟩ => ⟨S4x35840x128, .bf16⟩
  | .hbm, ⟨3, _⟩ => ⟨S35840x128, .f32⟩
  | .local _ .vmem, ⟨0, _⟩ => ⟨S1x1x2560x128, .f32⟩
  | .local _ .vmem, ⟨1, _⟩ => ⟨S1x1x2560x128, .f32⟩
  | .local _ .vmem, ⟨2, _⟩ => ⟨S1x2560x128, .f32⟩
  | .local _ .vmem, ⟨3, _⟩ => ⟨S1x2560x128, .f32⟩
  | .local _ .vmem, ⟨4, _⟩ => ⟨S1x2560x128, .bf16⟩
  | .local _ .vmem, ⟨5, _⟩ => ⟨S1x2560x128, .bf16⟩
  | .local _ .vmem, ⟨6, _⟩ => ⟨S2560x128, .f32⟩
  | .local _ .vmem, ⟨7, _⟩ => ⟨S2560x128, .f32⟩
  | .local _ .smem, ⟨0, _⟩ => ⟨S2, .i32⟩
  | _, _ => ⟨S2x4x35840x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![14, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v9 : BitVec 32) : BitVec 1 :=
  let arg1 : BitVec 32 := BitVec.ofNat 32 (i 1).val
  let v10 : BitVec 1 := Scalar.cmpi .eq arg1 v9
  let v11 : BitVec 32 := Scalar.extui v10
  let c0_i32 : BitVec 32 := 0#32
  let v12 : BitVec 1 := Scalar.cmpi .ne v11 c0_i32
  v12

def cc0_transform_0 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1x2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2560x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2560x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== SumPairRefIdeal.lean ====
abbrev S2 : Shape := ⟨1, ![2]⟩
abbrev S2x4x35840x128 : Shape := ⟨4, ![2, 4, 35840, 128]⟩
abbrev S4x35840x128 : Shape := ⟨3, ![4, 35840, 128]⟩
abbrev S1 : Shape := ⟨1, ![1]⟩
abbrev S_ : Shape := ⟨0, ![]⟩
abbrev S1x4x35840x128 : Shape := ⟨4, ![1, 4, 35840, 128]⟩
abbrev S4 : Shape := ⟨1, ![4]⟩
abbrev S4x1x1 : Shape := ⟨3, ![4, 1, 1]⟩
abbrev S35840x128 : Shape := ⟨2, ![35840, 128]⟩

abbrev nBuf : Space → Nat
  | .hbm => 27
  | .vmem => 0
  | .smem => 0
  | _ => 0

abbrev bufTy : (tb : Table) → Fin (tcTables nBuf tb) → BufTy
  | .hbm, ⟨0, _⟩ => ⟨S2, .i32⟩
  | .hbm, ⟨1, _⟩ => ⟨S2x4x35840x128, .f32⟩
  | .hbm, ⟨2, _⟩ => ⟨S4x35840x128, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S1x4x35840x128, .f32⟩
  | .hbm, ⟨8, _⟩ => ⟨S4x35840x128, .f32⟩
  | .hbm, ⟨9, _⟩ => ⟨S1x4x35840x128, .f32⟩
  | .hbm, ⟨10, _⟩ => ⟨S4x35840x128, .f32⟩
  | .hbm, ⟨11, _⟩ => ⟨S4x35840x128, .f32⟩
  | .hbm, ⟨12, _⟩ => ⟨S4x35840x128, .f32⟩
  | .hbm, ⟨13, _⟩ => ⟨S4, .i32⟩
  | .hbm, ⟨14, _⟩ => ⟨S4x1x1, .i32⟩
  | .hbm, ⟨15, _⟩ => ⟨S4x35840x128, .bf16⟩
  | .hbm, ⟨16, _⟩ => ⟨S1, .i32⟩
  | .hbm, ⟨17, _⟩ => ⟨S_, .i32⟩
  | .hbm, ⟨18, _⟩ => ⟨S4x1x1, .i32⟩
  | .hbm, ⟨19, _⟩ => ⟨S4x1x1, .i1⟩
  | .hbm, ⟨20, _⟩ => ⟨S_, .f32⟩
  | .hbm, ⟨21, _⟩ => ⟨S_, .f32⟩
  | .hbm, ⟨22, _⟩ => ⟨S4x35840x128, .i1⟩
  | .hbm, ⟨23, _⟩ => ⟨S4x35840x128, .f32⟩
  | .hbm, ⟨24, _⟩ => ⟨S4x35840x128, .f32⟩
  | .hbm, ⟨25, _⟩ => ⟨S_, .f32⟩
  | .hbm, ⟨26, _⟩ => ⟨S35840x128, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== LossHead.lean ====
abbrev S4096x1024 : Shape := ⟨2, ![4096, 1024]⟩
abbrev S1x1 : Shape := ⟨2, ![1, 1]⟩
abbrev S512x1024 : Shape := ⟨2, ![512, 1024]⟩
abbrev S8x1024 : Shape := ⟨2, ![8, 1024]⟩
abbrev S64x8x1024 : Shape := ⟨3, ![64, 8, 1024]⟩
abbrev S8 : Shape := ⟨1, ![8]⟩
abbrev S8x1 : Shape := ⟨2, ![8, 1]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | .local _ .vmem, ⟨7, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v15 : BitVec 1 := Scalar.cmpi .eq arg0 c7_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== NormFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBwd.lean ====
abbrev S4096x1024 : Shape := ⟨2, ![4096, 1024]⟩
abbrev S1x1024 : Shape := ⟨2, ![1, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v37 : BitVec 1 := Scalar.cmpi .eq arg0 c7_i32
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Total.lean ====
abbrev S4096x1024 : Shape := ⟨2, ![4096, 1024]⟩
abbrev S1x1 : Shape := ⟨2, ![1, 1]⟩
abbrev S512x1024 : Shape := ⟨2, ![512, 1024]⟩
abbrev S8x1024 : Shape := ⟨2, ![8, 1024]⟩
abbrev S64x8x1024 : Shape := ⟨3, ![64, 8, 1024]⟩
abbrev S8 : Shape := ⟨1, ![8]⟩
abbrev S8x1 : Shape := ⟨2, ![8, 1]⟩
abbrev S1 : Shape := ⟨1, ![1]⟩
abbrev S_ : Shape := ⟨0, ![]⟩

abbrev nBuf : Space → Nat
  | .hbm => 14
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | .local _ .vmem, ⟨7, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | _ => false

abbrev sig : RefSig :=
  ofTc nBuf bufTy 1 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v3_s0 : Ref sig .tc := ⟨.hbm, 6, rfl⟩
abbrev main_v3_s1 : Ref sig .tc := ⟨.hbm, 7, rfl⟩
abbrev main_v3_s2 : Ref sig .tc := ⟨.hbm, 8, rfl⟩
abbrev main_v3_s3 : Ref sig .tc := ⟨.hbm, 9, rfl⟩
abbrev main_v3_s4 : Ref sig .tc := ⟨.hbm, 10, rfl⟩
abbrev main_v3_s5 : Ref sig .tc := ⟨.hbm, 11, rfl⟩
abbrev main_v3_s6 : Ref sig .tc := ⟨.hbm, 12, rfl⟩
abbrev main_v3_s7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev ar0_recv : DmaSem sig := 7
abbrev ar0_send : DmaSem sig := 8
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v17 : BitVec 1 := Scalar.cmpi .eq arg0 c7_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== TotalRefIdeal.lean ====
abbrev S32768x1024 : Shape := ⟨2, ![32768, 1024]⟩
abbrev S_ : Shape := ⟨0, ![]⟩
abbrev S32768 : Shape := ⟨1, ![32768]⟩

abbrev nBuf : Space → Nat
  | .hbm => 13
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== InProj.lean ====
abbrev S4096x1024 : Shape := ⟨2, ![4096, 1024]⟩
abbrev S1024x7424 : Shape := ⟨2, ![1024, 7424]⟩
abbrev S4096x7424 : Shape := ⟨2, ![4096, 7424]⟩
abbrev S512x1024 : Shape := ⟨2, ![512, 1024]⟩
abbrev S1024x3712 : Shape := ⟨2, ![1024, 3712]⟩
abbrev S512x3712 : Shape := ⟨2, ![512, 3712]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x7424, .bf16⟩
  | .hbm, ⟨2, _⟩ => ⟨S4096x7424, .f32⟩
  | .local _ .vmem, ⟨0, _⟩ => ⟨S512x1024, .bf16⟩
  | .local _ .vmem, ⟨1, _⟩ => ⟨S512x1024, .bf16⟩
  | .local _ .vmem, ⟨2, _⟩ => ⟨S1024x3712, .bf16⟩
  | .local _ .vmem, ⟨3, _⟩ => ⟨S1024x3712, .bf16⟩
  | .local _ .vmem, ⟨4, _⟩ => ⟨S512x3712, .f32⟩
  | .local _ .vmem, ⟨5, _⟩ => ⟨S512x3712, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3712 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x1024 : Shape := ⟨2, ![4096, 1024]⟩
abbrev S1024x7424 : Shape := ⟨2, ![1024, 7424]⟩
abbrev S4096x7424 : Shape := ⟨2, ![4096, 7424]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x7424, .bf16⟩
  | .hbm, ⟨2, _⟩ => ⟨S4096x1024, .f32⟩
  | .hbm, ⟨3, _⟩ => ⟨S1024x7424, .f32⟩
  | .hbm, ⟨4, _⟩ => ⟨S4096x7424, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfUp.lean ====
abbrev S4096x1024 : Shape := ⟨2, ![4096, 1024]⟩
abbrev S1024x4096 : Shape := ⟨2, ![1024, 4096]⟩
abbrev S4096x4096 : Shape := ⟨2, ![4096, 4096]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .hbm, ⟨3, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfUpRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FfBack.lean ====
abbrev S4096x1024 : Shape := ⟨2, ![4096, 1024]⟩
abbrev S4096x4096 : Shape := ⟨2, ![4096, 4096]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .f32⟩
  | .hbm, ⟨3, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfBackRefIdeal.lean ====
abbrev S4096x1024 : Shape := ⟨2, ![4096, 1024]⟩
abbrev S4096x4096 : Shape := ⟨2, ![4096, 4096]⟩
abbrev S1024x4096 : Shape := ⟨2, ![1024, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== OutBack.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBackRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpBack.lean ====
abbrev S4096x1024 : Shape := ⟨2, ![4096, 1024]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpBackRefIdeal.lean ====
abbrev S4096x1024 : Shape := ⟨2, ![4096, 1024]⟩
abbrev S512x1024 : Shape := ⟨2, ![512, 1024]⟩
abbrev S1024x512 : Shape := ⟨2, ![1024, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x1024, .f32⟩
  | .hbm, ⟨3, _⟩ => ⟨S512x1024, .f32⟩
  | .hbm, ⟨4, _⟩ => ⟨S1024x512, .f32⟩
  | .hbm, ⟨5, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpBackNarrow.lean ====
abbrev S4096x1024 : Shape := ⟨2, ![4096, 1024]⟩
abbrev S256x1024 : Shape := ⟨2, ![256, 1024]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S4096x256, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpBackNarrowRefIdeal.lean ====
abbrev S4096x1024 : Shape := ⟨2, ![4096, 1024]⟩
abbrev S256x1024 : Shape := ⟨2, ![256, 1024]⟩
abbrev S1024x256 : Shape := ⟨2, ![1024, 256]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S4096x1024, .f32⟩
  | .hbm, ⟨3, _⟩ => ⟨S256x1024, .f32⟩
  | .hbm, ⟨4, _⟩ => ⟨S1024x256, .f32⟩
  | .hbm, ⟨5, _⟩ => ⟨S4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfDown.lean ====
abbrev S4096x4096 : Shape := ⟨2, ![4096, 4096]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfDownRefIdeal.lean ====
abbrev S4096x4096 : Shape := ⟨2, ![4096, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfIn.lean ====
abbrev S4096x4096 : Shape := ⟨2, ![4096, 4096]⟩
abbrev S1024x4096 : Shape := ⟨2, ![1024, 4096]⟩
abbrev S4096x1024 : Shape := ⟨2, ![4096, 1024]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfInRefIdeal.lean ====
abbrev S4096x4096 : Shape := ⟨2, ![4096, 4096]⟩
abbrev S1024x4096 : Shape := ⟨2, ![1024, 4096]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x4096, .f32⟩
  | .hbm, ⟨3, _⟩ => ⟨S1024x4096, .f32⟩
  | .hbm, ⟨4, _⟩ => ⟨S4096x1024, .f32⟩
  | .hbm, ⟨5, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InBack.lean ====
abbrev S4096x7424 : Shape := ⟨2, ![4096, 7424]⟩
abbrev S1024x7424 : Shape := ⟨2, ![1024, 7424]⟩
abbrev S4096x1024 : Shape := ⟨2, ![4096, 1024]⟩
abbrev S512x3712 : Shape := ⟨2, ![512, 3712]⟩
abbrev S1024x3712 : Shape := ⟨2, ![1024, 3712]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x7424, .bf16⟩
  | .hbm, ⟨1, _⟩ => ⟨S1024x7424, .bf16⟩
  | .hbm, ⟨2, _⟩ => ⟨S4096x1024, .f32⟩
  | .local _ .vmem, ⟨0, _⟩ => ⟨S512x3712, .bf16⟩
  | .local _ .vmem, ⟨1, _⟩ => ⟨S512x3712, .bf16⟩
  | .local _ .vmem, ⟨2, _⟩ => ⟨S1024x3712, .bf16⟩
  | .local _ .vmem, ⟨3, _⟩ => ⟨S1024x3712, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x7424, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBackRefIdeal.lean ====
abbrev S4096x7424 : Shape := ⟨2, ![4096, 7424]⟩
abbrev S1024x7424 : Shape := ⟨2, ![1024, 7424]⟩
abbrev S7424x1024 : Shape := ⟨2, ![7424, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x7424, .bf16⟩
  | .hbm, ⟨1, _⟩ => ⟨S1024x7424, .bf16⟩
  | .hbm, ⟨2, _⟩ => ⟨S4096x7424, .f32⟩
  | .hbm, ⟨3, _⟩ => ⟨S1024x7424, .f32⟩
  | .hbm, ⟨4, _⟩ => ⟨S7424x1024, .f32⟩
  | .hbm, ⟨5, _⟩ => ⟨S4096x1024, .f32⟩
  | _, _ => ⟨S4096x7424, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradFf2.lean ====
abbrev S4096x4096 : Shape := ⟨2, ![4096, 4096]⟩
abbrev S4096x1024 : Shape := ⟨2, ![4096, 1024]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFf2RefIdeal.lean ====
abbrev S4096x4096 : Shape := ⟨2, ![4096, 4096]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x4096, .f32⟩
  | .hbm, ⟨3, _⟩ => ⟨S4096x4096, .f32⟩
  | .hbm, ⟨4, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradFf1.lean ====
abbrev S4096x1024 : Shape := ⟨2, ![4096, 1024]⟩
abbrev S4096x4096 : Shape := ⟨2, ![4096, 4096]⟩
abbrev S1024x4096 : Shape := ⟨2, ![1024, 4096]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFf1RefIdeal.lean ====
abbrev S4096x1024 : Shape := ⟨2, ![4096, 1024]⟩
abbrev S4096x4096 : Shape := ⟨2, ![4096, 4096]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradO.lean ====
abbrev S4096x1024 : Shape := ⟨2, ![4096, 1024]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradORefIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradUp.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .bf16⟩
  | .hbm, ⟨2, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradUpRefIdeal.lean ====
abbrev S4096x512 : Shape := ⟨2, ![4096, 512]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .bf16⟩
  | .hbm, ⟨2, _⟩ => ⟨S512x4096, .f32⟩
  | .hbm, ⟨3, _⟩ => ⟨S4096x1024, .f32⟩
  | .hbm, ⟨4, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradUpNarrow.lean ====
abbrev S4096x256 : Shape := ⟨2, ![4096, 256]⟩
abbrev S4096x1024 : Shape := ⟨2, ![4096, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S256x1024, .f32⟩
  | .local _ .vmem, ⟨0, _⟩ => ⟨S512x256, .f32⟩
  | .local _ .vmem, ⟨1, _⟩ => ⟨S512x256, .f32⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradUpNarrowRefIdeal.lean ====
abbrev S4096x256 : Shape := ⟨2, ![4096, 256]⟩
abbrev S4096x1024 : Shape := ⟨2, ![4096, 1024]⟩
abbrev S256x4096 : Shape := ⟨2, ![256, 4096]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S256x4096, .f32⟩
  | .hbm, ⟨3, _⟩ => ⟨S4096x1024, .f32⟩
  | .hbm, ⟨4, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradIn.lean ====
abbrev S4096x1024 : Shape := ⟨2, ![4096, 1024]⟩
abbrev S4096x7424 : Shape := ⟨2, ![4096, 7424]⟩
abbrev S1024x7424 : Shape := ⟨2, ![1024, 7424]⟩
abbrev S512x512 : Shape := ⟨2, ![512, 512]⟩
abbrev S512x3712 : Shape := ⟨2, ![512, 3712]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x7424, .bf16⟩
  | .hbm, ⟨2, _⟩ => ⟨S1024x7424, .f32⟩
  | .local _ .vmem, ⟨0, _⟩ => ⟨S512x512, .bf16⟩
  | .local _ .vmem, ⟨1, _⟩ => ⟨S512x512, .bf16⟩
  | .local _ .vmem, ⟨2, _⟩ => ⟨S512x3712, .bf16⟩
  | .local _ .vmem, ⟨3, _⟩ => ⟨S512x3712, .bf16⟩
  | .local _ .vmem, ⟨4, _⟩ => ⟨S512x3712, .f32⟩
  | .local _ .vmem, ⟨5, _⟩ => ⟨S512x3712, .f32⟩
  | .local _ .vmem, ⟨6, _⟩ => ⟨S512x3712, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3712 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInRefIdeal.lean ====
abbrev S4096x1024 : Shape := ⟨2, ![4096, 1024]⟩
abbrev S4096x7424 : Shape := ⟨2, ![4096, 7424]⟩
abbrev S1024x4096 : Shape := ⟨2, ![1024, 4096]⟩
abbrev S1024x7424 : Shape := ⟨2, ![1024, 7424]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x7424, .bf16⟩
  | .hbm, ⟨2, _⟩ => ⟨S4096x1024, .f32⟩
  | .hbm, ⟨3, _⟩ => ⟨S1024x4096, .f32⟩
  | .hbm, ⟨4, _⟩ => ⟨S4096x7424, .f32⟩
  | .hbm, ⟨5, _⟩ => ⟨S1024x7424, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S4096x7424 : Shape := ⟨2, ![4096, 7424]⟩
abbrev S1x3072 : Shape := ⟨2, ![1, 3072]⟩
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S4096x1024 : Shape := ⟨2, ![4096, 1024]⟩
abbrev S512x512 : Shape := ⟨2, ![512, 512]⟩
abbrev S512x256 : Shape := ⟨2, ![512, 256]⟩
abbrev S256x256 : Shape := ⟨2, ![256, 256]⟩
abbrev S1x256 : Shape := ⟨2, ![1, 256]⟩

abbrev nBuf : Space → Nat
  | .hbm => 9
  | .vmem => 26
  | .smem => 0
  | _ => 0

abbrev bufTy : (tb : Table) → Fin (tcTables nBuf tb) → BufTy
  | .hbm, ⟨0, _⟩ => ⟨S4096x7424, .f32⟩
  | .hbm, ⟨1, _⟩ => ⟨S1x3072, .f32⟩
  | .hbm, ⟨2, _⟩ => ⟨S4096x512, .f32⟩
  | .hbm, ⟨3, _⟩ => ⟨S4096x512, .f32⟩
  | .hbm, ⟨4, _⟩ => ⟨S4096x256, .f32⟩
  | .hbm, ⟨5, _⟩ => ⟨S512x1024, .bf16⟩
  | .hbm, ⟨6, _⟩ => ⟨S512x1024, .bf16⟩
  | .hbm, ⟨7, _⟩ => ⟨S256x1024, .bf16⟩
  | .hbm, ⟨8, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S256x256, .bf16⟩
  | .local _ .vmem, ⟨11, _⟩ => ⟨S256x256, .bf16⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S512x256, .bf16⟩
  | .local _ .vmem, ⟨25, _⟩ => ⟨S512x256, .bf16⟩
  | _, _ => ⟨S4096x7424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S4096x7424 : Shape := ⟨2, ![4096, 7424]⟩
abbrev S1x3072 : Shape := ⟨2, ![1, 3072]⟩
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩
abbrev S4096x1024 : Shape := ⟨2, ![4096, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x7424, .f32⟩
  | .hbm, ⟨1, _⟩ => ⟨S1x3072, .f32⟩
  | .hbm, ⟨2, _⟩ => ⟨S4096x512, .f32⟩
  | .hbm, ⟨3, _⟩ => ⟨S4096x512, .f32⟩
  | .hbm, ⟨4, _⟩ => ⟨S4096x256, .f32⟩
  | .hbm, ⟨5, _⟩ => ⟨S512x1024, .bf16⟩
  | .hbm, ⟨6, _⟩ => ⟨S512x1024, .bf16⟩
  | .hbm, ⟨7, _⟩ => ⟨S256x1024, .bf16⟩
  | .hbm, ⟨8, _⟩ => ⟨S4096x3072, .f32⟩
  | .hbm, ⟨9, _⟩ => ⟨S4096x3072, .f32⟩
  | .hbm, ⟨10, _⟩ => ⟨S4096x3072, .f32⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S4096x3072, .f32⟩
  | .hbm, ⟨18, _⟩ => ⟨S4096x3072, .f32⟩
  | .hbm, ⟨19, _⟩ => ⟨S4096x3x1024, .f32⟩
  | .hbm, ⟨20, _⟩ => ⟨S4096x1x1024, .f32⟩
  | .hbm, ⟨21, _⟩ => ⟨S4096x1024, .f32⟩
  | .hbm, ⟨22, _⟩ => ⟨S512x1024, .f32⟩
  | .hbm, ⟨23, _⟩ => ⟨S4096x1024, .f32⟩
  | .hbm, ⟨24, _⟩ => ⟨S4096x1024, .f32⟩
  | .hbm, ⟨25, _⟩ => ⟨S4096x1x1024, .f32⟩
  | .hbm, ⟨26, _⟩ => ⟨S4096x1024, .f32⟩
  | .hbm, ⟨27, _⟩ => ⟨S512x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1x1024, .f32⟩
  | .hbm, ⟨32, _⟩ => ⟨S4096x1024, .f32⟩
  | .hbm, ⟨33, _⟩ => ⟨S256x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x7424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Mix.lean ====
abbrev S4096x256 : Shape := ⟨2, ![4096, 256]⟩
abbrev S512x256 : Shape := ⟨2, ![512, 256]⟩

abbrev nBuf : Space → Nat
  | .hbm => 8
  | .vmem => 16
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixRefIdeal.lean ====
abbrev S4096x256 : Shape := ⟨2, ![4096, 256]⟩
abbrev S1x4096x256 : Shape := ⟨3, ![1, 4096, 256]⟩
abbrev S3x4096x256 : Shape := ⟨3, ![3, 4096, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S1x4096x256, .f32⟩
  | .hbm, ⟨7, _⟩ => ⟨S1x4096x256, .f32⟩
  | .hbm, ⟨8, _⟩ => ⟨S1x4096x256, .f32⟩
  | .hbm, ⟨9, _⟩ => ⟨S3x4096x256, .f32⟩
  | .hbm, ⟨10, _⟩ => ⟨S_, .f32⟩
  | .hbm, ⟨11, _⟩ => ⟨S4096x256, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S1x4096x256, .f32⟩
  | .hbm, ⟨16, _⟩ => ⟨S3x4096x256, .f32⟩
  | .hbm, ⟨17, _⟩ => ⟨S3x4096x256, .f32⟩
  | .hbm, ⟨18, _⟩ => ⟨S3x4096x256, .f32⟩
  | .hbm, ⟨19, _⟩ => ⟨S_, .f32⟩
  | .hbm, ⟨20, _⟩ => ⟨S4096x256, .f32⟩
  | .hbm, ⟨21, _⟩ => ⟨S1x4096x256, .f32⟩
  | .hbm, ⟨22, _⟩ => ⟨S3x4096x256, .f32⟩
  | .hbm, ⟨23, _⟩ => ⟨S3x4096x256, .f32⟩
  | .hbm, ⟨24, _⟩ => ⟨S_, .f32⟩
  | .hbm, ⟨25, _⟩ => ⟨S4096x256, .f32⟩
  | .hbm, ⟨26, _⟩ => ⟨S1x4096x256, .f32⟩
  | .hbm, ⟨27, _⟩ => ⟨S1x4096x256, .f32⟩
  | .hbm, ⟨28, _⟩ => ⟨S1x4096x256, .f32⟩
  | .hbm, ⟨29, _⟩ => ⟨S3x4096x256, .f32⟩
  | .hbm, ⟨30, _⟩ => ⟨S3x4096x256, .f32⟩
  | .hbm, ⟨31, _⟩ => ⟨S_, .f32⟩
  | .hbm, ⟨32, _⟩ => ⟨S4096x256, .f32⟩
  | .hbm, ⟨33, _⟩ => ⟨S1x4096x256, .f32⟩
  | .hbm, ⟨34, _⟩ => ⟨S3x4096x256, .f32⟩
  | .hbm, ⟨35, _⟩ => ⟨S3x4096x256, .f32⟩
  | .hbm, ⟨36, _⟩ => ⟨S3x4096x256, .f32⟩
  | .hbm, ⟨37, _⟩ => ⟨S_, .f32⟩
  | .hbm, ⟨38, _⟩ => ⟨S4096x256, .f32⟩
  | .hbm, ⟨39, _⟩ => ⟨S4096x256, .f32⟩
  | .hbm, ⟨40, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proof.Deal.lean ====
/-
# The launch of a kernel whose devices exchange their arrays at once

The exchange kernels of this directory have no barrier: a device's first transfer may land in another device's result
array before that device has done anything. So the arrays themselves are dealt at the launch: `run_dealt` is a launch
theorem for an `@main` that is one kernel region without windows, whose global step receives EVERY device's unscoped
buffers — beside the kernel's own semaphores, the launch credit and the ghost state — and hands each device what it
starts from, which may be a part of another device's array.
-/
module

public import Idealize.ShloMosaic.Lib.Pipeline.Launch
public import Idealize.ShloMosaic.Lib.Pipeline.Kit
public import Idealize.ShloMosaic.Lib.Tactic

@[expose] public section

set_option Elab.async false

noncomputable section

namespace Cert.Deal

open Idealize.ShloMosaic
open Idealize.ShloMosaic.TcCoe
open Idealize.SL Idealize.SL.RA
open Idealize.SL.BI (sProp bigSep bigSep_sep' bigSep_insert bigSep_mono bigSep_congr bigSep_map bigSep_union bigSep_univ_prod
  bigSep_fupd bigSep_subset bigSep_erase bigSep_sdiff_split bigSep_filter_split bigSep_elim)
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The levels of every TensorCore's cells assigned once for the machine, when no other thread's cell has an index. -/
theorem levels_assign [Preorder Lvl] (L : GSem nD τ sig → Finset Ix) (lv : GSem nD τ sig → Ix → Lvl)
    (only_tc : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have other (t : Thread nD τ) (h : t.2 ≠ .tc) : (coreLevAts t L lv : sProp 𝕄) = BI.emp := by
    unfold coreLevAts
    rw [bigSep_congr (Ψ := fun _ : SemLoc sig => (BI.emp : sProp 𝕄)) fun sm _ => by rw [only_tc (t, sm) h, BI.bigSep_empty],
      BI.bigSep_emp_const]
  have all : (levAts L lv : sProp 𝕄) = iprop(bigSep Finset.univ (fun d : Dev nD => coreLevAts (d.tc : Thread nD τ) L lv) ∗ BI.emp) := by
    rw [show (levAts L lv : sProp 𝕄) = bigSep Finset.univ fun c : Thread nD τ => coreLevAts c L lv
        from bigSep_univ_prod fun g : GSem nD τ sig => bigSep (L g) fun ι => levAt g ι (lv g ι),
      bigSep_threads (fun c : Thread nD τ => coreLevAts c L lv)]
    congr 1
    rw [bigSep_congr (Ψ := fun _ : Dev nD => (BI.emp : sProp 𝕄)) fun d _ =>
      (bigSep_congr fun p hp => other (d, p) (Finset.ne_of_mem_erase hp)).trans (BI.bigSep_emp_const _), BI.bigSep_emp_const]
  have kept : (bigSep Finset.univ fun c : Dev nD => iprop((bigSep Finset.univ fun sm : SemLoc sig =>
        levels ((c.tc : Thread nD τ), sm) (L ((c.tc : Thread nD τ), sm))) ∗ coreLevAts (c.tc : Thread nD τ) L lv) : sProp 𝕄) ⊢ levAts L lv := by
    rw [all, bigSep_sep']
    iintro ⟨-, H⟩
    isplitl [H]; · iexact H
    iempintro
  exact (bigSep_mono fun c _ => lev_assign_cells (c.tc : Thread nD τ) L lv).trans <| (BI.bigSep_bupd _ _).trans <| BI.bupd_mono kept

section Launch

variable {Λ₀ : Labels} {P : Type} [Fintype P]

variable (pcs : P → PCfg sig Λ₀ Val) (a : Dev nD → (p : P) → (pcs p).Adm)
  (dats : (p : P) → (c : Dev nD) → Dat τ Val Ix Name U Lvl (pinD pcs a c p) c) (ι : Ix)
  (phinj : Function.Injective (PerCore.cellOf (nD := nD) (pinD pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

variable [DecidableEq P] [Preorder Lvl]

/-- What a device holds when its `@main` begins: the region's own storage, what it owes, the level facts, the region's
    ghost state, and its deal `X`. -/
def before (O₀ : Dev nD → CellTallies nD τ sig Ix) (L : GSem nD τ sig → Finset Ix) (lv : GSem nD τ sig → Ix → Lvl)
    (X : Dev nD → sProp 𝕄) (c : Dev nD) : sProp 𝕄 :=
  iprop((scopedBufs (c.tc : Thread nD τ) ∗ PerCore.cellsSems0 (pinD pcs a) p c ∗ PerCore.idleSems0 (pinD pcs a) phinj p (fun _ => ho) c)
    ∗ owes (c.tc : Thread nD τ) (O₀ c) ∅ ∗ levAts L lv
    ∗ PerCore.cellsGhost (pinD pcs a) EP p c ∗ PerCore.toksInit (pinD pcs a) EP p c ∗ X c)

/-- What the global step is given of each device. -/
def offered (m : (ℓ : Loc nD τ sig) → Buf Val ℓ) (O₀ : Dev nD → CellTallies nD τ sig Ix) (G : Dev nD → sProp 𝕄) (c : Dev nD) : sProp 𝕄 :=
  iprop(ownSems0 osem c ∗ unscopedBufs c (fun b => m ((c.tc : Thread nD τ).loc b)) ∗ launchCred O₀ c ∗ G c)

include hw in
/-- The launch: every device's holdings regrouped, the levels assigned, the deal made. -/
theorem launch_deal [Infinite Name] [EP.LandsIn (upEmb : UEmb _ 𝕄)]
    (m : (ℓ : Loc nD τ sig) → Buf Val ℓ) (g : Dev nD → PrngReg)
    (O₀ : Dev nD → CellTallies nD τ sig Ix)
    (L : GSem nD τ sig → Finset Ix) (lv : GSem nD τ sig → Ix → Lvl) (only_tc : ∀ g : GSem nD τ sig, g.1.2 ≠ .tc → L g = ∅)
    (G X : Dev nD → sProp 𝕄) (u₀ : U)
    (ghost : (ownU u₀ : sProp 𝕄)
      ⊢ |={Set.univ}=> iprop(BI.own (EP (initOf (PerCore.cells (pinD pcs a) phinj) (PerCore.launchToks (pinD pcs a) phinj))) ∗ bigSep Finset.univ G))
    (deal : (bigSep Finset.univ (offered (osem := osem) m O₀ G) : sProp 𝕄) ⊢ |={Set.univ}=> bigSep Finset.univ X) :
    iprop((bigSep Finset.univ fun d : Dev nD =>
        coreInit (Ix := Ix) (Name := Name) (U := U) (Lvl := Lvl) (owing O₀) 0 (⟨m, fun _ => 0, g⟩ : MemSt nD τ sig Val) (d.tc : Thread nD τ)) ∗ ownU u₀)
      ⊢ (|={Set.univ}=> bigSep Finset.univ (before pcs a phinj p ho EP O₀ L lv X) : sProp 𝕄) := by
  have one (c : Dev nD) :
      coreInit (Ix := Ix) (Name := Name) (U := U) (Lvl := Lvl) (owing O₀) 0 (⟨m, fun _ => 0, g⟩ : MemSt nD τ sig Val) (c.tc : Thread nD τ)
        ⊢ iprop(iprop(scopedBufs (c.tc : Thread nD τ) ∗ PerCore.cellsSems0 (pinD pcs a) p c ∗ PerCore.idleSems0 (pinD pcs a) phinj p (fun _ => ho) c)
            ∗ owes (c.tc : Thread nD τ) (O₀ c) ∅ ∗ levels0 c
            ∗ ownSems0 osem c ∗ unscopedBufs c (fun b => m ((c.tc : Thread nD τ).loc b)) ∗ launchCred O₀ c) := by
    refine (coreInit_boundary_owing O₀ m g c).trans ?_
    unfold boundary
    rw [PerCore.scopedSems0_split (pinD pcs a) phinj p (fun _ => hw) (fun _ => ho) c]
    iintro ⟨⟨Hsc, ⟨⟨Hcells, Hown⟩, Hidle⟩, -⟩, Hbufs, -, Howes, Hlev, -, Hcred⟩
    isplitl [Hsc Hcells Hidle]
    · isplitl [Hsc]; · iexact Hsc
      isplitl [Hcells] <;> iassumption
    isplitl [Howes]; · iexact Howes
    isplitl [Hlev]; · iexact Hlev
    isplitl [Hown]; · iexact Hown
    isplitl [Hbufs] <;> iassumption
  have pick (Φ : P → Dev nD → sProp 𝕄) :
      (bigSep Finset.univ fun c : Dev nD => bigSep Finset.univ fun q => Φ q c) ⊢ bigSep Finset.univ fun c : Dev nD => Φ p c :=
    bigSep_mono fun c _ => BI.bigSep_elim (Finset.mem_univ p)
  have cores := (bigSep_mono (s := Finset.univ) fun (c : Dev nD) _ => one c)
  simp only [bigSep_sep'] at cores
  iintro ⟨Hcores, Hu⟩
  ihave Hc := (show (_ : sProp 𝕄) ⊢ _ from cores) $$ Hcores
  icases Hc with ⟨Hreg, Howes, Hlev, Hown, Hbufs, Hcred⟩
  imod (levels_assign L lv only_tc) $$ Hlev with Hla
  imod ghost $$ Hu with ⟨HP, HG⟩
  imod (PerCore.fund_ghost (pinD pcs a) EP phinj) $$ HP with ⟨Hg, Ht⟩
  imod deal $$ [Hown Hbufs Hcred HG] with HX
  · unfold offered
    simp only [bigSep_sep']
    isplitl [Hown]; · iexact Hown
    isplitl [Hbufs]; · iexact Hbufs
    isplitl [Hcred] <;> iassumption
  imodintro
  unfold before
  simp only [bigSep_sep']
  isplitl [Hreg]; · iexact Hreg
  isplitl [Howes]; · iexact Howes
  isplitl [Hla]; · iapply (BI.bigSep_intro_persistent (S := Finset.univ) fun (c : Dev nD) _ => (BI.Entails.refl (levAts L lv : sProp 𝕄))); iexact Hla
  isplitl [Hg]; · iapply (pick fun q c => PerCore.cellsGhost (pinD pcs a) EP q c); iexact Hg
  isplitl [Ht]; · iapply (pick fun q c => PerCore.toksInit (pinD pcs a) EP q c); iexact Ht
  iexact HX

/-- What a device holds after its `@main`. -/
def after (Y : Dev nD → sProp 𝕄) (c : Dev nD) : sProp 𝕄 := iprop(Y c ∗ scopedSems0 (c.tc : Thread nD τ))

include hw in
/-- One device's `@main`: the region, then the return. -/
theorem core_run [∀ e, Nonempty (Val e)] [Infinite Name] [EP.LandsIn (upEmb : UEmb _ 𝕄)] (c : Dev nD)
    (nowin : IsEmpty (Fin (pcs p).W)) (notab : IsEmpty (Fin (pcs p).pre.K))
    (body : BodyObligationLoose (dats p c) defs₀ 𝒱₀ ι Set.univ)
    (O₀ : Dev nD → CellTallies nD τ sig Ix) (owed_first : (dats p c).owed 0 = O₀ c) (owed_last : (dats p c).owed (Fin.last _) = 0)
    (L : GSem nD τ sig → Finset Ix) (lv : GSem nD τ sig → Ix → Lvl)
    (X Y : Dev nD → sProp 𝕄)
    (enter : iprop(X c ∗ levAts L lv ∗ scopedRest (pinD pcs a c p).spec c) ⊢ (dats p c).Φ 0)
    (leave : (dats p c).Φ (Fin.last (pinD pcs a c p).N) ⊢ iprop(Y c ∗ ownSems0 osem c ∗ scopedRest (pinD pcs a c p).spec c)) :
    before pcs a phinj p ho EP O₀ L lv X c
      ⊢ wp frame (wpE 𝔻 𝕍 (c.tc : Thread nD τ) none) Set.univ (.op (.customCall (entry p) ()) fun _ => .ret ⟨⟩ : Prog (TpuEff nD τ sig Val (Sig Λ₀ P fun p => (pcs p).Adm) .tc) PUnit)
          (fun _ => post (liftTc (after Y) BI.emp) (c.tc : Thread nD τ)) := by
  have bufs := PerCore.scopedBufs_split (pinD pcs a) p c hw.stage_scoped hw.stage_inj (fun w => nowin.elim w) (nD := nD) (τ := τ) (Ix := Ix) (Val := Val) (Name := Name) (U := U) (Lvl := Lvl)
  have sems := PerCore.scopedSems0_split (pinD pcs a) phinj p (fun _ => hw) (fun _ => ho) (Ix := Ix) (Val := Val) (Name := Name) (U := U) (Lvl := Lvl) c
  have enter' : iprop(iprop(X c ∗ levAts L lv) ∗ prefHeld (pcs p).pre c (fun _ => fullShare.right) (a c p).1 ∗ scopedRest (pinD pcs a c p).spec c) ⊢ (dats p c).Φ 0 := by
    iintro ⟨⟨HX, Hl⟩, -, HR⟩
    iapply enter
    isplitl [HX]; · iexact HX
    isplitl [Hl] <;> iassumption
  have leave' : iprop((dats p c).Φ (Fin.last (pinD pcs a c p).N) ∗ PerCore.cellsSems0 (pinD pcs a) p c ∗ Dat.staging (pinD pcs a c p) c ∗ PerCore.idleSems0 (pinD pcs a) phinj p (fun _ => ho) c)
      ⊢ iprop(Y c ∗ scopedSems0 (c.tc : Thread nD τ) ∗ scopedBufs (c.tc : Thread nD τ)) := by
    rw [sems, bufs]
    iintro ⟨HΦ, Hcells, Hst, Hidle⟩
    ihave H := leave $$ HΦ
    icases H with ⟨HY, Hown, Hrest⟩
    isplitl [HY]; · iexact HY
    isplitl [Hcells Hown Hidle]
    · isplitl [Hcells Hown]; · isplitl [Hcells] <;> iassumption
      iexact Hidle
    isplitl [Hst] <;> iassumption
  have empty_arrays (F) : (BI.emp : sProp 𝕄) ⊢ (dats p c).arrays F := by
    unfold Dat.arrays
    rw [show (Finset.univ : Finset (Fin (pinD pcs a c p).W)) = ∅ from Finset.eq_empty_of_forall_notMem fun w => (nowin.elim w), BI.bigSep_empty]
  have empty_tables : (BI.emp : sProp 𝕄) ⊢ prefHeld (pcs p).pre c (fun _ => fullShare.right) (a c p).1 := by
    unfold prefHeld
    rw [show (Finset.univ : Finset (Fin (pcs p).pre.K)) = ∅ from Finset.eq_empty_of_forall_notMem fun w => (notab.elim w), BI.bigSep_empty]
  unfold before
  iintro ⟨⟨Hsc, Hcells, Hidle⟩, Howes, #Hla, Hg, Ht, HX⟩
  iapply (fupd_wp frame (wpE 𝔻 𝕍 (c.tc : Thread nD τ) none) Set.univ _ _)
  imod (PerCore.cellsInit_alloc (pinD pcs a) dats EP phinj p c) $$ [Hcells Hg] with ⟨%κ, -, Hinit⟩
  · isplitl [Hcells] <;> iassumption
  imodintro
  iapply (PerCore.wp_customCall_entry_frame pcs a dats ι EP κ phinj p defs₀ 𝒱₀ (fun _ => fullShare.right) c Set.univ (fun _ _ => Set.mem_univ _)
      body (fun w => nowin.elim w) none (fun u h => nomatch h) (X := iprop(X c ∗ levAts L lv)) (Y := Y c) (R := scopedRest (pinD pcs a c p).spec c)
      (I := PerCore.idleSems0 (pinD pcs a) phinj p (fun _ => ho) c) (Entails.of_eq bufs) enter' leave'
      (k := fun _ => .ret ⟨⟩) (Q := fun _ => post (liftTc (after Y) BI.emp) (c.tc : Thread nD τ))) $$ [Howes Hinit Ht HX Hidle Hsc]
  · isplitl [Howes Hinit Ht]
    · unfold PerCore.EntryPre Dat.owesAt owesWithin
      rw [owed_first]
      isplitr; · iapply (empty_arrays _); iempintro
      isplitl [Howes]
      · iexists ∅; isplitr; · ipureintro; rw [Finset.coe_empty]; exact Set.empty_subset _
        iexact Howes
      isplitr
      · iapply (PerCore.cellsWaits_intro (pinD pcs a) dats ι p c (R := (levAts L lv : sProp 𝕄)) fun w => nowin.elim w); iexact Hla
      isplitl [Hinit] <;> iassumption
    isplitr; · iapply empty_tables; iempintro
    isplitl [HX]
    · isplitl [HX]; · iexact HX
      iexact Hla
    isplitl [Hidle] <;> iassumption
  iintro ⟨Hpost, HY, Hss, -⟩
  rw [wp_ret]; imodintro
  unfold post PerCore.EntryPost Dat.owesAt owesWithin
  simp only [liftTc_tc, after]
  rw [owed_last]
  icases Hpost with ⟨-, ⟨%W, -, HW⟩⟩
  isplitr [HW]
  · isplitl [HY] <;> iassumption
  · iexists W; iexact HW

include phinj hw ho in
/-- The launch theorem: an `@main` that is one region without windows, the unscoped buffers of all devices dealt at
    once by `deal`. A final state has what `read` reads of what each device ends with, and every semaphore of a thread
    other than a TensorCore, and every scoped TensorCore semaphore, at zero. -/
theorem run_dealt [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (nowin : IsEmpty (Fin (pcs p).W)) (notab : IsEmpty (Fin (pcs p).pre.K))
    (body : ∀ c, BodyObligationLoose (dats p c) defs₀ 𝒱₀ ι Set.univ)
    (O₀ : Dev nD → CellTallies nD τ sig Ix) (owed_first : ∀ c, (dats p c).owed 0 = O₀ c) (owed_last : ∀ c, (dats p c).owed (Fin.last _) = 0)
    (L : GSem nD τ sig → Finset Ix) (lv : GSem nD τ sig → Ix → Lvl) (only_tc : ∀ g : GSem nD τ sig, g.1.2 ≠ .tc → L g = ∅)
    (G : Dev nD → sProp 𝕄) (u₀ : U)
    (ghost : (ownU u₀ : sProp 𝕄)
      ⊢ |={Set.univ}=> iprop(BI.own (EP (initOf (PerCore.cells (pinD pcs a) phinj) (PerCore.launchToks (pinD pcs a) phinj))) ∗ bigSep Finset.univ G))
    (X Y : Dev nD → sProp 𝕄)
    (deal : (bigSep Finset.univ (offered (osem := osem) m O₀ G) : sProp 𝕄) ⊢ |={Set.univ}=> bigSep Finset.univ X)
    (enter : ∀ c, iprop(X c ∗ levAts L lv ∗ scopedRest (pinD pcs a c p).spec c) ⊢ (dats p c).Φ 0)
    (leave : ∀ c, (dats p c).Φ (Fin.last (pinD pcs a c p).N) ⊢ iprop(Y c ∗ ownSems0 osem c ∗ scopedRest (pinD pcs a c p).spec c))
    (Z : Dev nD → MemSt nD τ sig Val → Prop)
    (read : ∀ c (s' : Phys nD τ sig Val), iprop(Y c ∗ SI s') ⊢ |={Set.univ}=> iprop(⌜Z c s'.mem⌝ ∗ SI s')) :
    θ_run 𝔻 (onTc main) ⟨m, fun _ => 0, g⟩ (fun r => (∀ c, Z c r.2)
      ∧ ∀ g' : GSem nD τ sig, (g'.1.2 ≠ .tc ∨ g'.2.isScoped .tc = true) → r.2.sem g' = 0) := by
  classical
  have core (c : Dev nD) (s' : Phys nD τ sig Val) : iprop(after Y c ∗ SI s') ⊢ |={Set.univ}=>
      iprop(⌜Z c s'.mem ∧ ∀ sm : SemLoc sig, sm.isScoped .tc = true → s'.mem.sem ((c.tc : Thread nD τ), sm) = 0⌝ ∗ SI s') := by
    unfold after
    iintro ⟨⟨HY, Hss⟩, HSI⟩
    ihave %hz := (tcScoped_read_pers c s') $$ [Hss HSI]
    · isplitl [Hss] <;> iassumption
    imod (read c s') $$ [HY HSI] with ⟨%hy, HSI⟩
    · isplitl [HY] <;> iassumption
    imodintro
    isplitr
    · ipureintro; exact ⟨hy, hz⟩
    · iexact HSI
  refine (θ_run 𝔻 _ _).mono (Q := fun r => (∀ c : Dev nD, Z c r.2 ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sems_of_reads (fun c => (hr.1 c).2) hr.2⟩) (adequate_tpu 𝔻 _ _ _
    (reflect_intro_fupd_tc_sems (X := Unit) 𝕍 (owing O₀) 0 (noBookings fun _ => le_rfl) (owing_of_ne O₀) u₀
      (fun _ => before pcs a phinj p ho EP O₀ L lv X) (fun _ => after Y)
      (fun _ => iprop(emp)) Set.univ ?_ (fun _ c => ?_) fun _ => ?_))
  · iintro H
    imod (launch_deal pcs a phinj p hw ho EP m g O₀ L lv only_tc G X u₀ ghost deal) $$ H with H
    imodintro
    iexists ()
    isplitl [H]; · iexact H
    iempintro
  · rw [hmain c]
    exact core_run pcs a dats ι phinj p hw ho EP defs₀ 𝒱₀ c nowin notab (body c) O₀ (owed_first c) (owed_last c) L lv X Y (enter c) (leave c)
  · iintro ⟨H, -, Hsc⟩ %s' HSI
    ihave %hsc := (scSems_read_zero m g s') $$ [Hsc HSI]
    · isplitl [Hsc] <;> iassumption
    imod (posts_fupd Finset.univ core s') $$ [H HSI] with %h
    · isplitl [H] <;> iassumption
    imodintro
    ipureintro
    exact ⟨fun c => h c (Finset.mem_univ c), hsc⟩

end Launch

end Cert.Deal

end
-- ==== Proof.Exchange.lean ====
/-
# An exchange of one round: every semaphore completes once

A `Plan` says of a kernel body without barrier how its devices meet: the body's semaphores `sem k`, each completed once
on each device, by an amount `amt k`; the device `dest k c` whose semaphore `k` a transfer issued by `c` completes; the
semaphores `owed` completed by a transfer of another device; and a level that orders the waits. Over the payloads `pay c k`
of the completions this file gives the ghost state (`st`), the rules of the three operations (`send_step`, `copy_step`,
`wait_step`), the launch (`deal`) and the whole run (`run`): a kernel supplies its body's proof over `st`.
-/
module

public import proofs.«01_k».proof.Proof.Deal

@[expose] public section

set_option Elab.async false

noncomputable section

namespace Cert.Exchange

open Idealize.ShloMosaic
open Idealize.ShloMosaic.TcCoe
open Idealize.SL Idealize.SL.RA
open Idealize.SL.BI
open scoped Idealize.SL.BI
open Idealize.SL.BI.BIBase Idealize.SL.BI.Laws Idealize.SL.ProofMode Idealize.SL.Sem
open Idealize.ShloMosaic.Rounds
open Idealize.ShloMosaic.Pipeline

theorem sep_put {M : Type} [URA M] {I : Type} [DecidableEq I] {i : I} {s : Finset I} (h : i ∉ s) {Φ : I → sProp M} :
    bigSep (insert i s) Φ = iprop(Φ i ∗ bigSep s Φ) := bigSep_insert h
theorem sep_take {M : Type} [URA M] {I : Type} [DecidableEq I] {s : Finset I} {i : I} (h : i ∈ s) {Φ : I → sProp M} :
    bigSep s Φ = iprop(Φ i ∗ bigSep (s.erase i) Φ) := bigSep_erase h
theorem sep_at {M : Type} [URA M] {I : Type} [DecidableEq I] {s : Finset I} {i : I} (h : i ∈ s) {Φ : I → sProp M} :
    (bigSep s Φ : sProp M) ⊢ Φ i := bigSep_elim h

/-- The shape of the exchange. -/
structure Plan (nD : ℕ) (sig : RefSig) (n : ℕ) where
  sem : Fin n → SemLoc sig
  sem_inj : Function.Injective sem
  dest : Fin n → Equiv.Perm (Dev nD)
  amt : Fin n → ℕ
  amt_pos : ∀ k, 0 < amt k
  owed : Finset (Fin n)
  lvl : Fin n → ℕ

variable {nD : Nat} {τ : Topo} {sig : RefSig} {Val : EltTy → Type}

abbrev UU (nD : Nat) (τ : Topo) (sig : RefSig) : Type := URounds (GSem nD τ sig) Unit × URounds (GSem nD τ sig) Unit

local notation "𝕄" => MT nD τ sig Unit Val ℕ (UU nD τ sig) ℕ

abbrev EP : Emb (URounds (GSem nD τ sig) Unit) (MT nD τ sig Unit Val ℕ (UU nD τ sig) ℕ) := embL
abbrev ER : Emb (URounds (GSem nD τ sig) Unit) (MT nD τ sig Unit Val ℕ (UU nD τ sig) ℕ) := embR

section Plan

variable {n : ℕ} (P : Plan nD sig n)

/-- Device `ck.1`'s semaphore `ck.2`. -/
def cell (ck : Dev nD × Fin n) : GSem nD τ sig := ((ck.1.tc : Thread nD τ), P.sem ck.2)

theorem cell_inj : Function.Injective (cell (τ := τ) P) := by
  rintro ⟨c, k⟩ ⟨d, j⟩ h
  have h1 : c = d := congrArg (fun g : GSem nD τ sig => g.1.1) h
  have h2 : k = j := P.sem_inj (congrArg Prod.snd h)
  rw [h1, h2]

variable (pay : Dev nD → Fin n → sProp (MT nD τ sig Unit Val ℕ (UU nD τ sig) ℕ))

/-- One round, in which each cell of the plan is completed once. -/
def sched : Schedule (GSem nD τ sig) Unit (MT nD τ sig Unit Val ℕ (UU nD τ sig) ℕ) where
  duties g r := open Classical in if r = 0 ∧ ∃ ck, cell P ck = g then {()} else ∅
  unitless _ := False
  amount g _ _ := Function.extend (cell P) (fun ck => P.amt ck.2) (fun _ => 1) g
  payload g _ _ := Function.extend (cell P) (fun ck => pay ck.1 ck.2) (fun _ => iprop(emp)) g
  amount_pos g _ _ _ := by
    by_cases h : ∃ ck, cell P ck = g
    · obtain ⟨ck, rfl⟩ := h
      rw [(cell_inj P).extend_apply]; exact P.amt_pos _
    · rw [Function.extend_apply' _ _ _ h]; exact Nat.one_pos

theorem duties_cell (c : Dev nD) (k : Fin n) : (sched P pay).duties (cell P (c, k)) 0 = {()} := if_pos ⟨rfl, _, rfl⟩
theorem duties_later (g : GSem nD τ sig) (r : ℕ) (h : 1 ≤ r) : (sched P pay).duties g r = ∅ := if_neg fun h' => by omega
theorem amount_cell (c : Dev nD) (k : Fin n) : (sched P pay).amount (cell P (c, k)) 0 () = P.amt k := by
  dsimp only [sched]; exact (cell_inj P).extend_apply _ _ (c, k)
theorem payload_cell (c : Dev nD) (k : Fin n) : (sched P pay).payload (cell P (c, k)) 0 () = pay c k := by
  dsimp only [sched]; exact (cell_inj P).extend_apply _ _ (c, k)
theorem expect_cell (c : Dev nD) (k : Fin n) : (sched P pay).expect (cell P (c, k)) 0 = P.amt k := by
  unfold Schedule.expect Schedule.amountOf; rw [duties_cell, Finset.sum_singleton, amount_cell]
theorem rest_cell (c : Dev nD) (k : Fin n) :
    bigSep ((sched P pay).duties (cell P (c, k)) 0 \ ∅) (fun u => (sched P pay).payload (cell P (c, k)) 0 u) = pay c k := by
  rw [Finset.sdiff_empty, duties_cell, bigSep_singleton, payload_cell]

instance payload_storable [∀ c k, BI.Storable (upEmb : UEmb _ 𝕄) (pay c k)] (g : GSem nD τ sig) (r : ℕ) (u : Unit) :
    BI.Storable (upEmb : UEmb _ 𝕄) ((sched P pay).payload g r u) := by
  show BI.Storable upEmb (Function.extend (cell P) (fun ck => pay ck.1 ck.2) (fun _ => iprop(emp)) g)
  by_cases h : ∃ ck, cell P ck = g
  · obtain ⟨ck, rfl⟩ := h
    rw [(cell_inj P).extend_apply]; infer_instance
  · rw [Function.extend_apply' _ _ _ h]; infer_instance

/-- What device `c` owes of the completions `S`. -/
def owes_of (S : Finset (Fin n)) (c : Dev nD) : CellTallies nD τ sig Unit := ∑ k ∈ S, tallyAt (cell P (P.dest k c, k)) () (P.amt k)

def L (g : GSem nD τ sig) : Finset Unit := if g.1.2 = .tc then {()} else ∅
def lv (g : GSem nD τ sig) (_ : Unit) : ℕ := Function.extend (cell P) (fun ck => P.lvl ck.2) (fun _ => 0) g

theorem L_of_ne (g : GSem nD τ sig) (h : g.1.2 ≠ .tc) : L g = ∅ := if_neg h
theorem L_tc (c : Dev nD) (sm : SemLoc sig) : L (τ := τ) ((c : Thread nD τ), sm) = {()} := if_pos rfl
theorem lv_cell (c : Dev nD) (k : Fin n) : lv P (cell (τ := τ) P (c, k)) () = P.lvl k := by
  dsimp only [lv]; exact (cell_inj P).extend_apply _ _ (c, k)

theorem owes_pos {S : Finset (Fin n)} {c : Dev nD} {g : GSem nD τ sig} {u : Unit} (h : 0 < owes_of P S c g u) :
    ∃ k ∈ S, g = cell P (P.dest k c, k) := by
  unfold owes_of at h
  rw [Finset.sum_apply, Finsupp.finsetSum_apply] at h
  obtain ⟨k, hk, h0⟩ := Finset.exists_ne_zero_of_sum_ne_zero h.ne'
  refine ⟨k, hk, ?_⟩
  by_contra hne
  exact h0 (by rw [tallyAt_ne_cell hne]; rfl)

theorem may_wait (S : Finset (Fin n)) (c : Dev nD) (k : Fin n) (hlt : ∀ j ∈ S, P.lvl k < P.lvl j) :
    (levAts L (lv P) : sProp 𝕄) ⊢ MayWait (c.tc : Thread nD τ) (P.sem k) () (owes_of P S c) :=
  MayOwe.of_cut (L := L) (lev := lv P) (P.lvl k)
    (fun p hp => by rw [Finset.mem_singleton.mp hp]; rw [L_tc]; exact Finset.mem_singleton_self _)
    (fun g u hg => by obtain ⟨j, -, rfl⟩ := owes_pos P hg; unfold cell; rw [L_tc]; exact Finset.mem_singleton_self _)
    (fun p hp => by rw [Finset.mem_singleton.mp hp]; exact (lv_cell P c k).le)
    (fun g u hg => by obtain ⟨j, hj, rfl⟩ := owes_pos P hg; cases u; rw [lv_cell]; exact hlt j hj)

/-- The cells' invariants and their opening, known to every device. -/
def records (K : Dev nD × Fin n → ℕ) : sProp 𝕄 :=
  iprop((bigSep Finset.univ fun ck => cellInv ER (sched P pay) (K ck) (cell P ck)) ∗ bigSep Finset.univ fun ck => reached ER (cell P ck) 0)

instance records_persistent (K : Dev nD × Fin n → ℕ) : BI.Persistent (records P pay K) := by unfold records; infer_instance

theorem record_inv (K : Dev nD × Fin n → ℕ) (ck : Dev nD × Fin n) : records P pay K ⊢ cellInv ER (sched P pay) (K ck) (cell P ck) := by
  unfold records
  iintro ⟨H, -⟩
  iapply (sep_at (Φ := fun ck => cellInv ER (sched P pay) (K ck) (cell P ck)) (Finset.mem_univ ck)); iexact H

theorem record_reached (K : Dev nD × Fin n → ℕ) (ck : Dev nD × Fin n) : records P pay K ⊢ reached ER (cell P ck) 0 := by
  unfold records
  iintro ⟨-, H⟩
  iapply (sep_at (Φ := fun ck => (reached ER (cell P ck) 0 : sProp 𝕄)) (Finset.mem_univ ck)); iexact H

/-- What a device holds of the exchange between two operations: it still owes `S`, has yet to issue the transfers that
    complete `T`, may wait for `C`, and has yet to wait for `A`; the semaphores waited for are back at zero. -/
def st (K : Dev nD × Fin n → ℕ) (c : Dev nD) (S T C A : Finset (Fin n)) : sProp 𝕄 :=
  iprop((records P pay K ∗ levAts L (lv P)) ∗ (∃ W, owes (c.tc : Thread nD τ) (owes_of P S c) W)
    ∗ (bigSep T fun k => dutyTok ER (cell P (P.dest k c, k)) 0 ())
    ∗ (bigSep C fun k => cred (tallyAt (cell P (c, k)) () (P.amt k)))
    ∗ (bigSep A fun k => atPos ER (cell P (c, k)) 0 ∅ 0)
    ∗ bigSep Aᶜ fun k => semVal (cell P (c, k)) 0)

section Steps

variable {Λ : Labels} {defs : Defs nD τ sig Val Λ} (𝒱 : Variants)
variable [∀ c k, BI.Storable (upEmb : UEmb _ (MT nD τ sig Unit Val ℕ (UU nD τ sig) ℕ)) (pay c k)]
variable (K : Dev nD × Fin n → ℕ) (c : Dev nD) {S T C A : Finset (Fin n)}
variable {α : Type} {Q : α → sProp (MT nD τ sig Unit Val ℕ (UU nD τ sig) ℕ)} {sp sp' : Space} {s : Shape} {e : EltTy}

/-- A transfer to device `d = dest kr c`: the source's completion `ks` is `c`'s own, the landing's `kr` is `d`'s. -/
theorem send_step (ks kr : Fin n) {d : Dev nD} (hd : d = P.dest kr c) (hself : P.dest ks c = c) (hne : kr ≠ ks) (hks : ks ∈ T) (hkr : kr ∈ T)
    (hS : kr ∈ S) (hC : ks ∉ C)
    {src : Memref sig (c.tc : Thread nD τ).2.kind sp s e} {dst : Memref sig (d.tc : Thread nD τ).2.kind sp' s e} {hsc : dst.view.ref.isScScratch = false}
    {sS sem : SemLoc sig} (h1 : sS = P.sem ks) (h2 : sem = P.sem kr)
    {hsrc : src.view.WordExact} {hdst : dst.view.WordExact} {hsem : DmaTarget.Typed sp sem (.remote (d.tc : Thread nD τ) dst sS hsc)}
    {k : PUnit → Prog (TpuEff nD τ sig Val Λ (c.tc : Thread nD τ).2) α} {q : PosShare TreeShare}
    {fs : Buf Val (src.view.loc (c.tc : Thread nD τ))} {fd : Buf Val (dst.view.loc (d.tc : Thread nD τ))}
    (hN : dst.view.amount sem = P.amt kr) (hkk : P.amt ks = P.amt kr)
    (hpay₁ : (src.view.loc (c.tc : Thread nD τ) ↦[src.view.set]{q} fs) ⊢ pay c ks)
    (hpay₂ : (dst.view.loc (d.tc : Thread nD τ) ↦[dst.view.set]{fullShare} (dst.view.write Val fd (src.view.read Val fs) Finset.univ)) ⊢ pay d kr) :
    iprop(st P pay K c S T C A ∗ (src.view.loc (c.tc : Thread nD τ) ↦[src.view.set]{q} fs) ∗ (dst.view.loc (d.tc : Thread nD τ) ↦[dst.view.set]{fullShare} fd))
      ⊢ iprop((st P pay K c (S.erase kr) ((T.erase ks).erase kr) (insert ks C) A -∗ wp frame (wpE defs 𝒱 (c.tc : Thread nD τ) none) Set.univ (k ⟨⟩) Q)
          -∗ wp frame (wpE defs 𝒱 (c.tc : Thread nD τ) none) Set.univ (.op (.enqueueDma src (.remote (d.tc : Thread nD τ) dst sS hsc) sem hsrc hdst hsem) k) Q) := by
  subst h1 h2 hd
  unfold st
  rw [sep_take hks, sep_take (s := T.erase ks) (Finset.mem_erase.mpr ⟨hne, hkr⟩), sep_put hC, hself]
  iintro ⟨⟨⟨#Hrec, #Hlev⟩, ⟨%W, HO⟩, ⟨Ht1, Ht2, HT⟩, HC, HA, HZ⟩, Hs, Hd⟩ Hk
  iapply (Rounds.wp_send_pointsTo 𝒱 ER (sched P pay) (c.tc : Thread nD τ) none (κ₁ := K (c, ks)) (κ₂ := K (P.dest kr c, kr))
    (r₁ := 0) (r₂ := 0) (d₁ := ()) (d₂ := ()) (fd := fd)
    (by show () ∈ (sched P pay).duties (cell P (c, ks)) 0; rw [duties_cell]; exact Finset.mem_singleton_self _)
    (by show () ∈ (sched P pay).duties (cell P (P.dest kr c, kr)) 0; rw [duties_cell]; exact Finset.mem_singleton_self _)
    () () (P.amt kr) hN ((amount_cell P pay c ks).trans hkk) (amount_cell P pay (P.dest kr c) kr) (owes_of P (S.erase kr) c)
    (show owes_of P S c = _ from (Finset.sum_erase_add S _ hS).symm) (W := W)
    (by rw [show (sched P pay).payload ((c.tc : Thread nD τ), P.sem ks) 0 () = _ from payload_cell P pay c ks]; exact hpay₁)
    (by rw [show (sched P pay).payload (((P.dest kr c).tc : Thread nD τ), P.sem kr) 0 () = _ from payload_cell P pay (P.dest kr c) kr]; exact hpay₂) (Topo.routes_tc _ _)) $$ [HO Ht1 Ht2 Hs Hd]
  · isplitr; · iapply (record_inv P pay K (c, ks)); iexact Hrec
    isplitr; · iapply (record_inv P pay K (P.dest kr c, kr)); iexact Hrec
    isplitl [Hs]; · iexact Hs
    isplitl [Hd]; · iexact Hd
    isplitl [HO]; · iexact HO
    isplitl [Ht1]; · iexact Ht1
    isplitr; · iapply (record_reached P pay K (c, ks)); iexact Hrec
    isplitl [Ht2]; · iexact Ht2
    iapply (record_reached P pay K (P.dest kr c, kr)); iexact Hrec
  iintro ⟨Hc, HO⟩
  iapply Hk
  isplitr
  · isplitr; · iexact Hrec
    iexact Hlev
  isplitl [HO]; · iexists W; iexact HO
  isplitl [HT]; · iexact HT
  isplitl [Hc HC]
  · isplitl [Hc]; · rw [hkk]; iexact Hc
    iexact HC
  isplitl [HA] <;> iassumption

/-- A copy within the device, completing its own `ks`. -/
theorem copy_step (ks : Fin n) (hself : P.dest ks c = c) (hks : ks ∈ T) (hC : ks ∉ C)
    {src : Memref sig (c.tc : Thread nD τ).2.kind sp s e} {dst : Memref sig (c.tc : Thread nD τ).2.kind sp' s e}
    {sem : SemLoc sig} (h2 : sem = P.sem ks)
    {hsrc : src.view.WordExact} {hdst : dst.view.WordExact} {hsem : DmaTarget.Typed (nD := nD) sp sem (.here dst)}
    {k : PUnit → Prog (TpuEff nD τ sig Val Λ (c.tc : Thread nD τ).2) α} {q : PosShare TreeShare}
    {fs : Buf Val (src.view.loc (c.tc : Thread nD τ))} {fd : Buf Val (dst.view.loc (c.tc : Thread nD τ))}
    (hN : dst.view.amount sem = P.amt ks)
    (hpay : iprop((dst.view.loc (c.tc : Thread nD τ) ↦[dst.view.set]{fullShare} (dst.view.write Val fd (src.view.read Val fs) Finset.univ))
        ∗ (src.view.loc (c.tc : Thread nD τ) ↦[src.view.set]{q} fs)) ⊢ pay c ks) :
    iprop(st P pay K c S T C A ∗ (src.view.loc (c.tc : Thread nD τ) ↦[src.view.set]{q} fs) ∗ (dst.view.loc (c.tc : Thread nD τ) ↦[dst.view.set]{fullShare} fd))
      ⊢ iprop((st P pay K c S (T.erase ks) (insert ks C) A -∗ wp frame (wpE defs 𝒱 (c.tc : Thread nD τ) none) Set.univ (k ⟨⟩) Q)
          -∗ wp frame (wpE defs 𝒱 (c.tc : Thread nD τ) none) Set.univ (.op (.enqueueDma src (.here dst) sem hsrc hdst hsem) k) Q) := by
  subst h2
  unfold st
  rw [sep_take hks, sep_put hC, hself]
  iintro ⟨⟨⟨#Hrec, #Hlev⟩, HO, ⟨Ht1, HT⟩, HC, HA, HZ⟩, Hs, Hd⟩ Hk
  iapply (Rounds.wp_copy_pointsTo 𝒱 ER (sched P pay) (c.tc : Thread nD τ) none (κ := K (c, ks)) (r := 0) (d := ()) (fd := fd)
    (by show () ∈ (sched P pay).duties (cell P (c, ks)) 0; rw [duties_cell]; exact Finset.mem_singleton_self _)
    () (P.amt ks) hN (amount_cell P pay c ks)
    (by rw [show (sched P pay).payload ((c.tc : Thread nD τ), P.sem ks) 0 () = _ from payload_cell P pay c ks]; exact hpay)) $$ [Ht1 Hs Hd]
  · isplitr; · iapply (record_inv P pay K (c, ks)); iexact Hrec
    isplitl [Hs]; · iexact Hs
    isplitl [Hd]; · iexact Hd
    isplitl [Ht1]; · iexact Ht1
    iapply (record_reached P pay K (c, ks)); iexact Hrec
  iintro Hc
  iapply Hk
  isplitr
  · isplitr; · iexact Hrec
    iexact Hlev
  isplitl [HO]; · iexact HO
  isplitl [HT]; · iexact HT
  isplitl [Hc HC]
  · isplitl [Hc]; · iexact Hc
    iexact HC
  isplitl [HA] <;> iassumption

/-- A wait for its own completion `j`, below everything still owed: the payload comes, and the semaphore is done. -/
theorem wait_step (j : Fin n) (hC : j ∈ C) (hA : j ∈ A) (hlt : ∀ i ∈ S, P.lvl j < P.lvl i)
    {w : TpuEff nD τ sig Val Λ (c.tc : Thread nD τ).2 PUnit} {sm : SemLoc sig} (hsm : sm = P.sem j) {k' : ℕ}
    (hw : ∀ K : PUnit → sProp 𝕄, wpE defs 𝒱 (c.tc : Thread nD τ) none Set.univ w K = waitSpec (c.tc : Thread nD τ) Set.univ sm k' K)
    (hN : k' = P.amt j)
    {k : PUnit → Prog (TpuEff nD τ sig Val Λ (c.tc : Thread nD τ).2) α} :
    st P pay K c S T C A
      ⊢ iprop((iprop(st P pay K c S T (C.erase j) (A.erase j) ∗ pay c j) -∗ wp frame (wpE defs 𝒱 (c.tc : Thread nD τ) none) Set.univ (k ⟨⟩) Q)
          -∗ wp frame (wpE defs 𝒱 (c.tc : Thread nD τ) none) Set.univ (.op w k) Q) := by
  subst hsm hN
  unfold st
  rw [sep_take hC, sep_take hA, show (A.erase j)ᶜ = insert j Aᶜ from by ext i; simp only [Finset.mem_compl, Finset.mem_erase, Finset.mem_insert]; tauto,
    sep_put (by simpa using hA)]
  iintro ⟨⟨#Hrec, #Hlev⟩, ⟨%W, HO⟩, HT, ⟨Hc, HC⟩, ⟨Hat, HA⟩, HZ⟩ Hk
  iapply (Rounds.wp_wait_rest_token 𝒱 ER (sched P pay) (c.tc : Thread nD τ) none (κ := K (c, j)) hw (Set.mem_univ _) () (O := owes_of P S c) (W := W)
    (R := 0) (m := 0) (T := ∅) ((Nat.zero_add _).trans (expect_cell P pay c j).symm)) $$ [Hc HO Hat]
  · isplitr; · iapply (record_inv P pay K (c, j)); iexact Hrec
    isplitl [Hc]; · iexact Hc
    isplitl [HO]; · iexact HO
    isplitr; · iapply (may_wait P S c j hlt); iexact Hlev
    iexact Hat
  iintro ⟨HO, Hat, -, Hp⟩
  iapply (fupd_wp frame (wpE defs 𝒱 (c.tc : Thread nD τ) none) Set.univ _ _)
  imod (Rounds.cell_close ER (sched P pay) (Set.mem_univ (K (c, j))) (fun h => h) (R := 0 + 1) (fun r hr => duties_later P pay (cell P (c, j)) r hr)) $$ [Hat] with Hz
  · isplitr; · iapply (record_inv P pay K (c, j)); iexact Hrec
    iexact Hat
  imodintro
  iapply Hk
  isplitr [Hp]
  · isplitr
    · isplitr; · iexact Hrec
      iexact Hlev
    isplitl [HO]; · iexists _; iexact HO
    isplitl [HT]; · iexact HT
    isplitl [HC]; · iexact HC
    isplitl [HA]; · iexact HA
    isplitl [Hz] <;> iassumption
  · iapply (Entails.of_eq (rest_cell P pay c j)); iexact Hp

end Steps

/-! ## The launch -/

section Launch

variable {Λ₀ : Labels} (cfg : Cfg sig Λ₀)

def cells : Finset (GSem nD τ sig) := Finset.univ.map ⟨cell P, cell_inj P⟩
def toks : Finset (GSem nD τ sig × ℕ × Unit) :=
  Finset.univ.map ⟨fun ck : Dev nD × Fin n => (cell P ck, 0, ()), fun _ _ h => cell_inj P (congrArg Prod.fst h)⟩

theorem over_cells (Φ : GSem nD τ sig → sProp 𝕄) :
    bigSep (cells P) Φ = bigSep Finset.univ fun c : Dev nD => bigSep Finset.univ fun k : Fin n => Φ (cell P (c, k)) := by
  unfold cells; rw [bigSep_map, bigSep_univ_prod]; rfl

/-- The ghost state of one device's own cells. -/
def G (c : Dev nD) : sProp 𝕄 :=
  iprop((bigSep Finset.univ fun k : Fin n => roundState ER (sched P pay) (cell P (c, k)) 0)
    ∗ (bigSep Finset.univ fun k : Fin n => reached ER (cell P (c, k)) 0)
    ∗ (bigSep Finset.univ fun k : Fin n => atPos ER (cell P (c, k)) 0 ∅ 0)
    ∗ bigSep Finset.univ fun k : Fin n => dutyTok ER (cell P (c, k)) 0 ())

theorem fund_cells : BI.own (ER (initOf (cells P) (toks P))) ⊢ (|==> bigSep Finset.univ (G P pay) : sProp 𝕄) := by
  have hT : bigSep (toks P) (fun x => (dutyTok ER x.1 x.2.1 x.2.2 : sProp 𝕄))
      = bigSep Finset.univ fun c : Dev nD => bigSep Finset.univ fun k : Fin n => dutyTok ER (cell P (c, k)) 0 () := by
    unfold toks; rw [bigSep_map, bigSep_univ_prod]; rfl
  have split : (bigSep Finset.univ (G P pay) : sProp 𝕄) = _ := (bigSep_sep' _ _ _).trans
    (congrArg (fun X : sProp 𝕄 => iprop(_ ∗ X)) ((bigSep_sep' _ _ _).trans (congrArg (fun X : sProp 𝕄 => iprop(_ ∗ X)) (bigSep_sep' _ _ _))))
  rw [split, ← over_cells P (fun g => roundState ER (sched P pay) g 0), ← over_cells P (fun g => reached ER g 0),
    ← over_cells P (fun g => atPos ER g 0 ∅ 0), ← hT]
  exact Rounds.fund ER (sched P pay) (cells P) (toks P)

/-- What the global step leaves one device of the exchange. -/
def held (c : Dev nD) : sProp 𝕄 :=
  iprop((bigSep Finset.univ fun k => dutyTok ER (cell P (P.dest k c, k)) 0 ()) ∗ (bigSep P.owed fun k => cred (tallyAt (cell P (c, k)) () (P.amt k)))
    ∗ bigSep Finset.univ fun k => atPos ER (cell P (c, k)) 0 ∅ 0)

theorem core_alloc [∀ c k, BI.Storable (upEmb : UEmb _ (MT nD τ sig Unit Val ℕ (UU nD τ sig) ℕ)) (pay c k)] :
    iprop((bigSep Finset.univ fun c : Dev nD => bigSep Finset.univ fun k : Fin n => semVal (cell P (c, k)) 0)
        ∗ bigSep Finset.univ fun c : Dev nD => bigSep Finset.univ fun k : Fin n => roundState ER (sched P pay) (cell P (c, k)) 0)
      ⊢ (|={Set.univ}=> ∃ K : Dev nD × Fin n → ℕ, bigSep Finset.univ fun ck => cellInv ER (sched P pay) (K ck) (cell P ck) : sProp 𝕄) := by
  have each (c : Dev nD) : iprop((bigSep Finset.univ fun k : Fin n => semVal (cell P (c, k)) 0) ∗ bigSep Finset.univ fun k : Fin n => roundState ER (sched P pay) (cell P (c, k)) 0)
      ⊢ (|={Set.univ}=> bigSep Finset.univ fun k => iprop(∃ κ : ℕ, cellInv ER (sched P pay) κ (cell P (c, k))) : sProp 𝕄) := by
    rw [← bigSep_sep']
    exact (bigSep_mono fun k _ => (Rounds.body_intro ER (sched P pay) (cell P (c, k))).trans inv_alloc).trans (bigSep_fupd _ _)
  refine (show _ ⊢ _ from ((Entails.of_eq (bigSep_sep' _ _ _).symm).trans ((bigSep_mono fun c _ => each c).trans (bigSep_fupd _ _)))).trans (BI.fupd_mono ?_)
  rw [← bigSep_univ_prod (fun ck : Dev nD × Fin n => iprop(∃ κ : ℕ, cellInv ER (sched P pay) κ (cell P ck)))]
  exact BI.bigSep_exists_pi Finset.univ (fun (ck : Dev nD × Fin n) (κ : ℕ) => (cellInv ER (sched P pay) κ (cell P ck) : sProp 𝕄))

/-- The tokens go from the cells' devices to the issuers of the transfers. -/
theorem toks_dealt : (bigSep Finset.univ fun c : Dev nD => bigSep Finset.univ fun k : Fin n => (dutyTok ER (cell P (c, k)) 0 () : sProp 𝕄))
    = bigSep Finset.univ fun c : Dev nD => bigSep Finset.univ fun k : Fin n => dutyTok ER (cell P (P.dest k c, k)) 0 () := by
  rw [Idealize.SL.BI.bigSep_univ_comm, Idealize.SL.BI.bigSep_univ_comm (fun (c : Dev nD) (k : Fin n) => (dutyTok ER (cell P (P.dest k c, k)) 0 () : sProp 𝕄))]
  exact bigSep_congr fun k _ => bigSep_univ_equiv (P.dest k) (fun c : Dev nD => (dutyTok ER (cell P (c, k)) 0 () : sProp 𝕄))

theorem cred_one (k : Fin n) (c : Dev nD) :
    (launchCred (fun d => tallyAt (cell P (P.dest k d, k)) () (P.amt k)) c : sProp 𝕄) ⊢ cred (tallyAt (cell P (c, k)) () (P.amt k)) := by
  refine (launchCred_elim _ c (P.sem k)).trans (Entails.of_eq (congrArg cred ?_))
  show tallyOn (cell P (c, k)) _ = tallyAt (cell P (c, k)) () (P.amt k)
  unfold tallyAt
  refine congrArg _ (Finsupp.ext fun u => ?_)
  cases u
  rw [launchCredit_owing, Finsupp.single_eq_same]
  have one (d : Dev nD) : (tallyOn (cell (τ := τ) P (P.dest k d, k)) (Finsupp.single () (P.amt k)) : CellTallies nD τ sig Unit) ((c.tc : Thread nD τ), P.sem k) ()
      = if d = (P.dest k).symm c then P.amt k else 0 := by
    by_cases h : P.dest k d = c
    · rw [if_pos (by rw [← h, Equiv.symm_apply_apply]), h]
      show (tallyAt (cell P (c, k)) () (P.amt k) : CellTallies nD τ sig Unit) (cell P (c, k)) () = _
      rw [tallyAt_apply, if_pos ⟨rfl, rfl⟩]
    · rw [if_neg (fun h' => h (by rw [h', Equiv.apply_symm_apply]))]
      show (tallyAt (cell P (P.dest k d, k)) () (P.amt k) : CellTallies nD τ sig Unit) (cell P (c, k)) () = 0
      rw [tallyAt_ne_cell (fun h' => h (congrArg Prod.fst (cell_inj P (a₁ := (c, k)) h')).symm)]; rfl
  rw [Finset.sum_congr rfl fun d _ => one d, Finset.sum_ite_eq' Finset.univ _ fun _ => P.amt k, if_pos (Finset.mem_univ _)]

theorem creds (c : Dev nD) : (launchCred (owes_of P P.owed) c : sProp 𝕄) ⊢ bigSep P.owed fun k => cred (tallyAt (cell P (c, k)) () (P.amt k)) := by
  show launchCred (fun d => ∑ k ∈ P.owed, tallyAt (cell P (P.dest k d, k)) () (P.amt k)) c ⊢ _
  rw [launchCred_sum]
  exact bigSep_mono fun k _ => cred_one P k c

/-- What a device starts from: the exchange's records and its own part of them, and its deal `M` of the arrays. -/
def starts (M : Dev nD → sProp 𝕄) (c : Dev nD) : sProp 𝕄 := iprop((∃ K, records P pay K ∗ held P c) ∗ M c)

theorem deal [∀ c k, BI.Storable (upEmb : UEmb _ (MT nD τ sig Unit Val ℕ (UU nD τ sig) ℕ)) (pay c k)]
    (m : (ℓ : Loc nD τ sig) → Buf Val ℓ) (M : Dev nD → sProp 𝕄)
    (split : (bigSep Finset.univ fun c : Dev nD => unscopedBufs c (fun b => m ((c.tc : Thread nD τ).loc b)) : sProp 𝕄) ⊢ bigSep Finset.univ M) :
    (bigSep Finset.univ (Cert.Deal.offered (osem := P.sem) m (owes_of P P.owed) (G P pay)) : sProp 𝕄) ⊢ |={Set.univ}=> bigSep Finset.univ (starts P pay M) := by
  unfold Cert.Deal.offered G
  simp only [bigSep_sep']
  rw [toks_dealt]
  iintro ⟨Hv, Hm, Hc, Hst, Hr, Hat, Htok⟩
  imod (core_alloc P pay) $$ [Hv Hst] with ⟨%K, #HI⟩
  · isplitl [Hv]; · iexact Hv
    iexact Hst
  ihave Hc' := (show (_ : sProp 𝕄) ⊢ _ from bigSep_mono (s := Finset.univ) fun c _ => creds P c) $$ Hc
  ihave Hm' := split $$ Hm
  ihave #Hr' := (Entails.of_eq (bigSep_univ_prod (fun ck : Dev nD × Fin n => (reached ER (cell P ck) 0 : sProp 𝕄))).symm) $$ Hr
  imodintro
  have give (c : Dev nD) : iprop(records P pay K ∗ held P c ∗ M c) ⊢ starts P pay M c := by
    unfold starts
    iintro ⟨HR, Hh, HM⟩
    isplitr [HM]
    · iexists K; isplitl [HR] <;> iassumption
    · iexact HM
  iapply (BI.bigSep_with_persistent (R := records P pay K) fun c _ => give c)
  isplitr
  · unfold records
    isplitr; · iexact HI
    iexact Hr'
  · unfold held
    simp only [bigSep_sep']
    isplitr [Hm']
    · isplitl [Htok]; · iexact Htok
      isplitl [Hc']; · iexact Hc'
      iexact Hat
    · iexact Hm'

/-- The region's proof data: a device runs from `starts` to its arrays at `Vf`. -/
def dat (nowin : IsEmpty (Fin cfg.W)) (M : Dev nD → sProp 𝕄) (Vf : (c : Dev nD) → (b : Ref sig .tc) → Buf Val ((c.tc : Thread nD τ).loc b)) (c : Dev nD) :
    Dat τ Val Unit ℕ (UU nD τ sig) ℕ cfg c where
  A w := nowin.elim w
  after w := nowin.elim w
  Φ t := if t.val = 0 then iprop(starts P pay M c ∗ levAts L (lv P)) else iprop(unscopedBufs c (Vf c) ∗ ownSems0 P.sem c)
  q _ := fullShare
  owed t := if t.val = 0 then owes_of P P.owed c else 0

section Dat

variable (nowin : IsEmpty (Fin cfg.W)) (M : Dev nD → sProp (MT nD τ sig Unit Val ℕ (UU nD τ sig) ℕ))
  (Vf : (c : Dev nD) → (b : Ref sig .tc) → Buf Val ((c.tc : Thread nD τ).loc b)) (c : Dev nD) (t : Fin (cfg.N + 1))

theorem dat_first (h : t.val = 0) : (dat P pay cfg nowin M Vf c).Φ t = iprop(starts P pay M c ∗ levAts L (lv P)) := by dsimp only [dat]; exact if_pos h
theorem dat_last (h : t.val ≠ 0) : (dat P pay cfg nowin M Vf c).Φ t = iprop(unscopedBufs c (Vf c) ∗ ownSems0 P.sem c) := by dsimp only [dat]; exact if_neg h
theorem owed_first (h : t.val = 0) : (dat P pay cfg nowin M Vf c).owed t = owes_of P P.owed c := by dsimp only [dat]; exact if_pos h
theorem owed_last (h : t.val ≠ 0) : (dat P pay cfg nowin M Vf c).owed t = 0 := by dsimp only [dat]; exact if_neg h

end Dat

theorem body_obligation (hN : cfg.N = 1) (nowin : IsEmpty (Fin cfg.W)) (M : Dev nD → sProp 𝕄) (Vf : (c : Dev nD) → (b : Ref sig .tc) → Buf Val ((c.tc : Thread nD τ).loc b))
    (defs₀ : Defs nD τ sig Val Λ₀)
    (body : ∀ K c t, iprop(st P pay K c P.owed Finset.univ P.owed Finset.univ ∗ M c)
      ⊢ wp frame (wpE defs₀ Variants.none (c.tc : Thread nD τ) none) Set.univ (defs₀ .tc cfg.body (cfg.bodyArgs t (cfg.slots t)))
          fun _ => iprop(st P pay K c ∅ ∅ ∅ ∅ ∗ unscopedBufs c (Vf c))) (c : Dev nD) :
    BodyObligation (dat P pay cfg nowin M Vf c) defs₀ Variants.none () Set.univ := fun t => by
  have ht : t.val = 0 := by have := t.isLt; omega
  have nil (Φ : Fin cfg.W → sProp 𝕄) : bigSep Finset.univ Φ = iprop(emp) := by
    rw [show (Finset.univ : Finset (Fin cfg.W)) = ∅ from Finset.eq_empty_of_forall_notMem fun w => nowin.elim w, bigSep_empty]; rfl
  rw [nil, nil]
  unfold Dat.owesAt owesWithin
  rw [dat_first P pay cfg nowin M Vf c t.castSucc ht, dat_last P pay cfg nowin M Vf c t.succ (Nat.succ_ne_zero _), owed_first P pay cfg nowin M Vf c t.castSucc ht, owed_last P pay cfg nowin M Vf c t.succ (Nat.succ_ne_zero _)]
  unfold starts
  iintro ⟨⟨⟨⟨%K, Hrec, Hh⟩, HM⟩, Hl⟩, ⟨%W, -, HO⟩, -⟩
  iapply (wp_mono frame (wpE defs₀ Variants.none (c.tc : Thread nD τ) none) Set.univ (Q := fun _ => iprop(st P pay K c ∅ ∅ ∅ ∅ ∗ unscopedBufs c (Vf c))) fun _ => ?_)
  rotate_left
  · iapply (body K c t)
    unfold st held
    icases Hh with ⟨Ht, Hc, Ha⟩
    isplitr [HM]
    · isplitl [Hrec Hl]
      · isplitl [Hrec] <;> iassumption
      isplitl [HO]; · iexists W; iexact HO
      isplitl [Ht]; · iexact Ht
      isplitl [Hc]; · iexact Hc
      isplitl [Ha]; · iexact Ha
      rw [Finset.compl_univ, bigSep_empty]
      iempintro
    · iexact HM
  · unfold st
    rw [Finset.compl_empty]
    iintro ⟨⟨-, ⟨%W', HO⟩, -, -, -, Hz⟩, Hb⟩
    isplitl [Hz Hb]
    · isplitl [Hb]; · iexact Hb
      iapply (Entails.of_eq (show (bigSep Finset.univ fun k => semVal (cell P (c, k)) 0 : sProp 𝕄) = ownSems0 P.sem c from rfl))
      iexact Hz
    isplitl [HO]
    · iexists W'
      isplitr; · ipureintro; exact fun x _ => Or.inl trivial
      iexact HO
    iempintro

/-- The run: from any memory with every semaphore at zero, every device ends with its arrays at `Vf`, and every
    semaphore is back at zero. -/
theorem run [∀ e, Nonempty (Val e)] [∀ c k, BI.Storable (upEmb : UEmb _ (MT nD τ sig Unit Val ℕ (UU nD τ sig) ℕ)) (pay c k)]
    (hN : cfg.N = 1) (nowin : IsEmpty (Fin cfg.W)) (phinj : Function.Injective (PerCore.cellOf (nD := nD) (τ := τ) (fun (_ : Dev nD) (_ : Fin 1) => cfg)))
    (hw : WinFacts₀ cfg.spec) (ho : OwnSemFacts cfg.spec P.sem)
    (norest : ∀ c : Dev nD, (scopedRest (Ix := Unit) (Name := ℕ) (U := UU nD τ sig) (Lvl := ℕ) (Val := Val) cfg.spec c : sProp 𝕄) = BI.emp)
    (defs₀ : Defs nD τ sig Val Λ₀) (m : (ℓ : Loc nD τ sig) → Buf Val ℓ) (g : Dev nD → PrngReg)
    (main : Dev nD → Prog (TpuEff nD τ sig Val (Pipeline.Sig Λ₀ (Fin 1) fun _ => (cfg.toPCfg (Val := Val)).Adm) .tc) PUnit)
    (hmain : ∀ c, main c = .op (.customCall (entry 0) ()) fun _ => .ret ⟨⟩)
    (M : Dev nD → sProp 𝕄) (Vf : (c : Dev nD) → (b : Ref sig .tc) → Buf Val ((c.tc : Thread nD τ).loc b))
    (split : (bigSep Finset.univ fun c : Dev nD => unscopedBufs c (fun b => m ((c.tc : Thread nD τ).loc b)) : sProp 𝕄) ⊢ bigSep Finset.univ M)
    (body : ∀ K c t, iprop(st P pay K c P.owed Finset.univ P.owed Finset.univ ∗ M c)
      ⊢ wp frame (wpE defs₀ Variants.none (c.tc : Thread nD τ) none) Set.univ (defs₀ .tc cfg.body (cfg.bodyArgs t (cfg.slots t)))
          fun _ => iprop(st P pay K c ∅ ∅ ∅ ∅ ∗ unscopedBufs c (Vf c))) :
    θ_run (Pipeline.defs (fun _ : Fin 1 => cfg.toPCfg) defs₀) (onTc (τ := τ) main) ⟨m, fun _ => 0, g⟩ (fun r =>
      (∀ (c : Dev nD) (b : Ref sig .tc), ¬ b.isScoped → r.2.mem ((c.tc : Thread nD τ).loc b) = Vf c b)
        ∧ ∀ g' : GSem nD τ sig, (g'.1.2 ≠ .tc ∨ g'.2.isScoped .tc = true) → r.2.sem g' = 0) := by
  classical
  refine Cert.Deal.run_dealt (fun _ : Fin 1 => cfg.toPCfg) (fun _ _ => cfg.toPCfg_adm) (fun _ c => dat P pay cfg nowin M Vf c) () phinj (0 : Fin 1) hw ho EP defs₀ Variants.none
    m g main hmain nowin ⟨fun k => k.elim0⟩ (fun c => (body_obligation P pay cfg hN nowin M Vf defs₀ body c).loose)
    (owes_of P P.owed) (fun c => owed_first P pay cfg nowin M Vf c 0 rfl) (fun c => owed_last P pay cfg nowin M Vf c (Fin.last _) (by show cfg.N ≠ 0; omega)) L (lv P) L_of_ne (G P pay)
    (initOf (PerCore.cells (fun (_ : Dev nD) (_ : Fin 1) => cfg) phinj) (PerCore.launchToks (fun (_ : Dev nD) (_ : Fin 1) => cfg) phinj), initOf (cells P) (toks P)) ?_
    (starts P pay M) (fun c => unscopedBufs c (Vf c)) (deal P pay m M split) (fun c => ?_) (fun c => ?_)
    (fun c s => ∀ b : Ref sig .tc, ¬ b.isScoped → s.mem ((c.tc : Thread nD τ).loc b) = Vf c b) (fun c s' => ?_)
  · iintro Hu
    ihave H := (ownU_pair _ _) $$ Hu
    icases H with ⟨HP, HX⟩
    imod (fund_cells P pay) $$ HX with HG
    imodintro
    isplitl [HP]; · iexact HP
    iexact HG
  · refine BI.Entails.trans ?_ (Entails.of_eq (dat_first P pay cfg nowin M Vf c 0 rfl).symm)
    show (_ : sProp 𝕄) ⊢ _
    iintro ⟨HX, Hl, -⟩
    isplitl [HX] <;> iassumption
  · refine BI.Entails.trans (Entails.of_eq (dat_last P pay cfg nowin M Vf c (Fin.last _) (by show cfg.N ≠ 0; omega))) ?_
    show (_ : sProp 𝕄) ⊢ _
    iintro ⟨Hb, Hs⟩
    isplitl [Hb]; · iexact Hb
    isplitl [Hs]; · iexact Hs
    iapply (Entails.of_eq (norest c).symm)
    iempintro
  · unfold unscopedBufs
    iintro H
    ihave H' := (pointsTo_read_all (Finset.univ.filter fun b : Ref sig .tc => ¬ b.isScoped) (fun b => (c.tc : Thread nD τ).loc b) (Vf c) s') $$ H
    icases H' with ⟨%h, HSI⟩
    imodintro
    isplitr
    · ipureintro; exact fun b hb => h b (Finset.mem_filter.mpr ⟨Finset.mem_univ _, hb⟩)
    · iexact HSI

end Launch

end Plan

/-- Without windows, a device's unscoped buffers are all the rest. -/
theorem unscoped_all {gr W : ℕ} (win : Fin W → WinSpec sig gr) (nowin : IsEmpty (Fin W)) (c : Dev nD) (V : (b : Ref sig .tc) → Buf Val ((c.tc : Thread nD τ).loc b)) :
    (unscopedBufs c V : sProp 𝕄) = unscopedRest win c V := by
  unfold unscopedBufs unscopedRest
  rw [show (Finset.univ : Finset (Fin W)) = ∅ from Finset.eq_empty_of_forall_notMem fun w => nowin.elim w, Finset.image_empty, Finset.sdiff_empty]

/-- What landed, at contents that read as what was sent. -/
theorem landed_at {sp : Space} {s : Shape} {e : EltTy} {c : Thread nD τ} (dst : Memref sig c.2.kind sp s e) (fd f : Buf Val (dst.view.loc c)) (v : s.Idx → Val e)
    (h : dst.view.read Val f = v) :
    (dst.view.loc c ↦[dst.view.set]{fullShare} (dst.view.write Val fd v Finset.univ) : sProp 𝕄) ⊢ (dst.view.loc c ↦[dst.view.set]{fullShare} f) := by
  subst h
  refine Entails.of_eq (pointsTo_congr fun i hi => ?_)
  rw [View.write_read_eq_piecewise]
  exact Finset.piecewise_eq_of_mem _ _ _ hi

theorem whole_pts (c : Dev nD) (b : Ref sig .tc) (q : PosShare TreeShare) (f : Buf Val ((c.tc : Thread nD τ).loc b)) :
    ((Memref.whole b).view.loc (c.tc : Thread nD τ) ↦[(Memref.whole b).view.set]{q} f : sProp 𝕄) = (((c.tc : Thread nD τ).loc b) ↦{q} f) :=
  congrArg (fun X : Finset (Idx ((c.tc : Thread nD τ).loc b)) => (((c.tc : Thread nD τ).loc b) ↦[X]{q} f : sProp 𝕄)) (View.set_whole b)

/-- A part of a buffer taken out, and put back unchanged. -/
theorem part_out {ℓ : Loc nD τ sig} {I : Finset (Idx ℓ)} {q : PosShare TreeShare} (f : Buf Val ℓ) :
    (ℓ ↦{q} f : sProp 𝕄) ⊢ iprop((ℓ ↦[I]{q} f) ∗ ℓ ↦[Finset.univ \ I]{q} f) := (pointsTo_split_subset (Finset.subset_univ _)).1
theorem part_in {ℓ : Loc nD τ sig} {I : Finset (Idx ℓ)} {q : PosShare TreeShare} (f : Buf Val ℓ) :
    iprop((ℓ ↦[I]{q} f) ∗ ℓ ↦[Finset.univ \ I]{q} f) ⊢ (ℓ ↦{q} f : sProp 𝕄) := (pointsTo_split_subset (Finset.subset_univ _)).2

end Cert.Exchange

end
-- ==== Proof.Rows.lean ====
/-
# Arrays held row by row

An array `[k, R, C]` is its `k` rows: a device's array splits into them (`rows`), the rows of every device's array can be
dealt to other devices (`rows_dealt`), and a row reads as the array does at its first coordinate (`read_row`).
-/
module

public import proofs.«01_k».proof.Proof.Exchange
public import Idealize.ShloMosaic.Lib.Pipeline.Value
public import Idealize.ShloMosaic.Lib.PointwiseCore

@[expose] public section

set_option Elab.async false

noncomputable section

namespace Cert.Exchange

open Idealize.ShloMosaic
open Idealize.ShloMosaic.TcCoe
open Idealize.SL Idealize.SL.RA
open Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}

local notation "𝕄" => MT nD τ sig Unit Val ℕ (UU nD τ sig) ℕ

/-! ## Separating conjunctions over few indices -/

theorem sep_four {M : Type} [URA M] (Φ : Fin 4 → sProp M) : bigSep Finset.univ Φ = iprop(Φ 0 ∗ Φ 1 ∗ Φ 2 ∗ Φ 3) := by
  rw [show (Finset.univ : Finset (Fin 4)) = {0, 1, 2, 3} from by decide, sep_put (by decide), sep_put (by decide), sep_put (by decide), bigSep_singleton]
theorem sep_five {M : Type} [URA M] (Φ : Fin 5 → sProp M) : bigSep Finset.univ Φ = iprop(Φ 0 ∗ Φ 1 ∗ Φ 2 ∗ Φ 3 ∗ Φ 4) := by
  rw [show (Finset.univ : Finset (Fin 5)) = {0, 1, 2, 3, 4} from by decide, sep_put (by decide), sep_put (by decide), sep_put (by decide),
    sep_put (by decide), bigSep_singleton]
theorem sep_eight {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, sep_put (by decide), sep_put (by decide), sep_put (by decide),
    sep_put (by decide), sep_put (by decide), sep_put (by decide), sep_put (by decide), bigSep_singleton]

/-! ## The elements of a view -/

/-- The elements of a view on device `c`, at a share. -/
abbrev part {sp : Space} {s : Shape} {e : EltTy} (c : Dev nD) (M : Memref sig .tc sp s e) (q : PosShare TreeShare)
    (f : Buf Val (M.view.loc (c.tc : Thread nD τ))) : sProp 𝕄 :=
  iprop(M.view.loc (c.tc : Thread nD τ) ↦[M.view.set]{q} f)

/-! ## Rows -/

variable {k R C : ℕ} {κ : Kind} {sp : Space} {e : EltTy}

/-- Offsets at which a row lies inside an array `[k, R, C]`. -/
abbrev Fits (k R C : ℕ) (o : Fin 3 → ℕ) : Prop := ∀ a, o a + (⟨3, ![1, R, C]⟩ : Shape).size a ≤ (⟨3, ![k, R, C]⟩ : Shape).size a
/-- The row's shape without its leading axis. -/
abbrev Flat (R C : ℕ) : Prop := (⟨3, ![1, R, C]⟩ : Shape).Squeezes ⟨2, ![R, C]⟩

/-- The row of an array `[k, R, C]` at offsets `o`. -/
abbrev row (M : Memref sig κ sp ⟨3, ![k, R, C]⟩ e) (o : Fin 3 → ℕ) (h : Fits k R C o) (hs : Flat R C) : Memref sig κ sp ⟨2, ![R, C]⟩ e :=
  (M.slice (Rect.unit (s := ⟨3, ![k, R, C]⟩) o (⟨3, ![1, R, C]⟩ : Shape).size h) (fun _ => rfl)).squeeze ⟨2, ![R, C]⟩ hs

/-- The first coordinate tells the row. -/
theorem mem_rect (o : Fin 3 → ℕ) (h : Fits k R C o) (q : ℕ) (ho : o = ![q, 0, 0])
    (i : (⟨3, ![k, R, C]⟩ : Shape).Idx) :
    i ∈ (Rect.unit (s := ⟨3, ![k, R, C]⟩) o (⟨3, ![1, R, C]⟩ : Shape).size h).set ↔ (i 0).val = q := by
  subst ho
  rw [Rect.mem_set_unit]
  have h1 : (i 1).val < R := (i 1).isLt
  have h2 : (i 2).val < C := (i 2).isLt
  constructor
  · intro H
    have H0 : q ≤ (i 0).val ∧ (i 0).val < q + 1 := H 0
    omega
  · intro H a
    fin_cases a
    · show q ≤ (i 0).val ∧ (i 0).val < q + 1; omega
    · show 0 ≤ (i 1).val ∧ (i 1).val < 0 + R; omega
    · show 0 ≤ (i 2).val ∧ (i 2).val < 0 + C; omega

/-- The elements of a row. -/
def rowSet (M : Memref sig κ sp ⟨3, ![k, R, C]⟩ e) (o : Fin 3 → ℕ) (h : Fits k R C o) : Finset M.view.ty.Idx :=
  (Rect.unit (s := ⟨3, ![k, R, C]⟩) o (⟨3, ![1, R, C]⟩ : Shape).size h).set.map M.view.emb

theorem set_row (M : Memref sig κ sp ⟨3, ![k, R, C]⟩ e) (o : Fin 3 → ℕ) (h : Fits k R C o) (hs : Flat R C) : (row M o h hs).view.set = rowSet M o h := by
  show ((M.view.slice (Rect.unit (s := ⟨3, ![k, R, C]⟩) o (⟨3, ![1, R, C]⟩ : Shape).size h)).reshape ⟨2, ![R, C]⟩ _).set = _
  rw [View.set_reshape, View.set_slice]; rfl

/-- An array's elements are its rows', no two of which meet. -/
theorem rows_cover (M : Memref sig κ sp ⟨3, ![k, R, C]⟩ e) (o : Fin k → Fin 3 → ℕ) (h : ∀ j, Fits k R C (o j)) (r : Fin k → Fin k)
    (ho : ∀ j, o j = ![(r j).val, 0, 0]) (hr : Function.Injective r) : M.view.set = (Finset.univ : Finset (Fin k)).biUnion fun j => rowSet M (o j) (h j) := by
  ext x
  rw [Finset.mem_biUnion]
  constructor
  · intro hx
    obtain ⟨i, _, rfl⟩ := Finset.mem_map.mp hx
    obtain ⟨j, hj⟩ := (Finite.injective_iff_surjective.mp hr) (i 0)
    exact ⟨j, Finset.mem_univ _, Finset.mem_map_of_mem _ ((mem_rect _ _ _ (ho j) i).mpr (congrArg Fin.val hj.symm))⟩
  · rintro ⟨j, _, hx⟩
    obtain ⟨i, _, rfl⟩ := Finset.mem_map.mp hx
    exact View.emb_mem_set _ i
theorem rows_disjoint (M : Memref sig κ sp ⟨3, ![k, R, C]⟩ e) (o : Fin k → Fin 3 → ℕ) (h : ∀ j, Fits k R C (o j)) (r : Fin k → Fin k)
    (ho : ∀ j, o j = ![(r j).val, 0, 0]) (hr : Function.Injective r) (t t' : Fin k) (hne : t ≠ t') : Disjoint (rowSet M (o t) (h t)) (rowSet M (o t') (h t')) := by
  unfold rowSet
  rw [Finset.disjoint_map, Finset.disjoint_left]
  intro i hi hi'
  exact hne (hr (Fin.ext (((mem_rect _ _ _ (ho t) i).mp hi).symm.trans ((mem_rect _ _ _ (ho t') i).mp hi'))))

/-- A row reads as the array at its first coordinate. -/
theorem read_row (M : Memref sig κ sp ⟨3, ![k, R, C]⟩ e) (o : Fin 3 → ℕ) (h : Fits k R C o) (hs : Flat R C) (q : Fin k) (ho : o = ![q.val, 0, 0]) (f : M.view.ty.Contents Val)
    (i : (⟨2, ![R, C]⟩ : Shape).Idx) :
    (row M o h hs).view.read Val f i = M.view.read Val f (ix3 q (i 0) (i 1)) := by
  subst ho
  refine (congrFun (Memref.read_squeeze_slice M (Rect.unit (s := ⟨3, ![k, R, C]⟩) ![q.val, 0, 0] (⟨3, ![1, R, C]⟩ : Shape).size h) (fun _ => rfl) hs hs.numel_eq f) i).trans ?_
  refine (shapeCast_dropUnit_apply (n := 2) ![R, C] _ _ i).trans ?_
  show M.view.read Val f _ = _
  refine congrArg (M.view.read Val f) (funext fun a => Fin.ext ?_)
  fin_cases a
  · show q.val + 1 * 0 = q.val; omega
  · show 0 + 1 * (i 0).val = (i 0).val; omega
  · show 0 + 1 * (i 1).val = (i 1).val; omega

/-- A device's array is its rows. -/
theorem rows (M : Memref sig .tc sp ⟨3, ![k, R, C]⟩ e) (o : Fin k → Fin 3 → ℕ) (h : ∀ j, Fits k R C (o j)) (hs : Flat R C) (r : Fin k → Fin k) (ho : ∀ j, o j = ![(r j).val, 0, 0])
    (hr : Function.Injective r) (c : Dev nD) (q : PosShare TreeShare) (f : Buf Val (M.view.loc (c.tc : Thread nD τ))) :
    (part c M q f : sProp 𝕄) = bigSep Finset.univ fun j => part c (row M (o j) (h j) hs) q f := by
  have H := pointsTo_biUnion (Val := Val) (Ix := Unit) (Name := ℕ) (U := UU nD τ sig) (Lvl := ℕ) (ℓ := M.view.loc (c.tc : Thread nD τ)) (q := q) (f := f) Finset.univ (fun j => rowSet M (o j) (h j))
    (fun t _ t' _ hne => rows_disjoint M o h r ho hr t t' hne)
  refine Eq.trans ?_ (H.trans (bigSep_congr fun j _ => ?_))
  · exact congrArg (fun X : Finset (Idx (M.view.loc (c.tc : Thread nD τ))) => (M.view.loc (c.tc : Thread nD τ) ↦[X]{q} f : sProp 𝕄)) (rows_cover M o h r ho hr)
  · exact congrArg (fun X : Finset (Idx (M.view.loc (c.tc : Thread nD τ))) => (M.view.loc (c.tc : Thread nD τ) ↦[X]{q} f : sProp 𝕄)) (set_row M (o j) (h j) hs).symm

/-- A row at equal offsets. -/
theorem part_row (M : Memref sig .tc sp ⟨3, ![k, R, C]⟩ e) {o o' : Fin 3 → ℕ} (eo : o = o') (h : Fits k R C o) (h' : Fits k R C o') (hs : Flat R C) (c : Dev nD) (q : PosShare TreeShare)
    (f : Buf Val (M.view.loc (c.tc : Thread nD τ))) : (part c (row M o h hs) q f : sProp 𝕄) = part c (row M o' h' hs) q f := by
  subst eo; rfl

/-- Every device's array, dealt by rows: row `j` of device `d j c` goes to `c`. -/
theorem rows_dealt (M : Memref sig .tc sp ⟨3, ![k, R, C]⟩ e) (o : Dev nD → Fin k → Fin 3 → ℕ) (h : ∀ c j, Fits k R C (o c j)) (hs : Flat R C) (r : Dev nD → Fin k → Fin k)
    (ho : ∀ c j, o c j = ![(r c j).val, 0, 0]) (hr : ∀ c, Function.Injective (r c)) (d : Fin k → Equiv.Perm (Dev nD)) (q : PosShare TreeShare)
    (f : (c : Dev nD) → Buf Val (M.view.loc (c.tc : Thread nD τ))) :
    (bigSep Finset.univ (fun c => part c M q (f c)) : sProp 𝕄)
      = bigSep Finset.univ fun c => bigSep Finset.univ fun j => part (d j c) (row M (o (d j c) j) (h (d j c) j) hs) q (f (d j c)) := by
  rw [show (fun c => (part c M q (f c) : sProp 𝕄)) = _ from funext fun c => rows M (o c) (h c) hs (r c) (ho c) (hr c) c q (f c),
    Idealize.SL.BI.bigSep_univ_comm, Idealize.SL.BI.bigSep_univ_comm (fun c j => part (d j c) (row M (o (d j c) j) (h (d j c) j) hs) q (f (d j c)))]
  exact bigSep_congr fun j _ => (bigSep_univ_equiv (d j) fun c => part c (row M (o c j) (h c j) hs) q (f c))

end Cert.Exchange

end
-- ==== Proof.GatherRun.lean ====
/-
# The gather of the weights: one run, over any floats

Each device puts its shard into its own slot, sends it to its chip's other core and to the same core of the other three
chips, and passes each of the three shards that come from those on to its chip's other core. Fifteen completions: seven
sources' and seven landings', and the local copy's. In the end every slot of every device holds its device's shard.
-/
module

public import proofs.«01_k».proof.Proof.Rows
public import proofs.«01_k».proof.Proof.Gen.GatherIdeal.Skeleton
public import proofs.«01_k».proof.Proof.Gen.GatherIdeal.Launch
public import Idealize.ShloMosaic.Lib.Tactic
public import Idealize.ShloMosaic.Lib.Transfers

@[expose] public section

set_option Elab.async false

noncomputable section

namespace Cert.GatherRun

open Cert.GatherIdeal Cert.GatherIdeal.Gen Cert.Exchange

open Idealize.ShloMosaic
open Idealize.ShloMosaic.TcCoe
open Idealize.SL Idealize.SL.RA
open Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UU nD τ sig) ℕ

/-! ## Devices and slots -/

/-- The chip's other core; the same core of the chips across x, across y and across both. -/
def sibOf (c : Dev nD) : Dev nD := ⟨k0_dev1 c, k0_dev1_lt c⟩
def xOf (c : Dev nD) : Dev nD := ⟨k0_dev2 c, k0_dev2_lt c⟩
def yOf (c : Dev nD) : Dev nD := ⟨k0_dev3 c, k0_dev3_lt c⟩
def zOf (c : Dev nD) : Dev nD := ⟨k0_dev4 c, k0_dev4_lt c⟩
theorem sib_sib : ∀ c : Dev nD, sibOf (sibOf c) = c := by decide +kernel
theorem x_x : ∀ c : Dev nD, xOf (xOf c) = c := by decide +kernel
theorem y_y : ∀ c : Dev nD, yOf (yOf c) = c := by decide +kernel
theorem z_z : ∀ c : Dev nD, zOf (zOf c) = c := by decide +kernel
def sib : Equiv.Perm (Dev nD) := ⟨sibOf, sibOf, sib_sib, sib_sib⟩
def xP : Equiv.Perm (Dev nD) := ⟨xOf, xOf, x_x, x_x⟩
def yP : Equiv.Perm (Dev nD) := ⟨yOf, yOf, y_y, y_y⟩
def zP : Equiv.Perm (Dev nD) := ⟨zOf, zOf, z_z, z_z⟩
theorem dev5_eq : ∀ c : Dev nD, (⟨k0_dev5 c, k0_dev5_lt c⟩ : Dev nD) = sibOf c := by decide +kernel
theorem dev6_eq : ∀ c : Dev nD, (⟨k0_dev6 c, k0_dev6_lt c⟩ : Dev nD) = sibOf c := by decide +kernel
theorem dev7_eq : ∀ c : Dev nD, (⟨k0_dev7 c, k0_dev7_lt c⟩ : Dev nD) = sibOf c := by decide +kernel

/-- The slots of a device's result, in the order the kernel names them. -/
def off (c : Dev nD) : Fin 8 → Fin 3 → ℕ := ![k0_off1 c, k0_off2 c, k0_off3 c, k0_off4 c, k0_off5 c, k0_off6 c, k0_off7 c, k0_off8 c]
theorem inb (c : Dev nD) (j : Fin 8) : Fits 8 35856 128 (off c j) := by
  fin_cases j
  exacts [k0_off1_inb c, k0_off2_inb c, k0_off3_inb c, k0_off4_inb c, k0_off5_inb c, k0_off6_inb c, k0_off7_inb c, k0_off8_inb c]
def slot (c : Dev nD) (j : Fin 8) : Fin 8 := ⟨off c j 0 % 8, Nat.mod_lt _ (by decide)⟩
theorem off_slot : ∀ (c : Dev nD) (j : Fin 8), off c j = ![(slot c j).val, 0, 0] := by decide +kernel
theorem slot_inj : ∀ c : Dev nD, Function.Injective (slot c) := by
  have h : ∀ (c : Dev nD) (i j : Fin 8), slot c i = slot c j → i = j := by decide +kernel
  exact fun c i j => h c i j
/-- Slot `j` of device `from_ j c` is written by `c`, from its own slot `of j`. -/
def from_ : Fin 8 → Equiv.Perm (Dev nD) := ![Equiv.refl _, xP, yP, zP, sib, sib, sib, sib]
def of : Fin 8 → Fin 8 := ![0, 0, 0, 0, 0, 1, 2, 3]
theorem off_of : ∀ (c : Dev nD) (j : Fin 8), off (from_ j c) j = off c (of j) := by decide +kernel
theorem slot_of : ∀ (c : Dev nD) (j : Fin 8), slot (from_ j c) j = slot c (of j) := by decide +kernel
/-- A slot's device. -/
def dev (q : Fin 8) : Dev nD := ⟨q.val, q.isLt⟩
theorem dev_own : ∀ c : Dev nD, dev (slot c 0) = c := by decide +kernel

abbrev xM : Memref sig .tc .hbm S35856x128 .bf16 := Memref.whole main_arg0
abbrev oM : Memref sig .tc .hbm S8x35856x128 .bf16 := Memref.whole main_v1
abbrev out (o : Fin 3 → ℕ) (h : Fits 8 35856 128 o) : Memref sig .tc .hbm S35856x128 .bf16 := row oM o h squeezes_S1x35856x128_S35856x128

def credit : ℕ := xM.view.dmaCredit

def plan : Plan nD sig 15 where
  sem := fun k => .dma k
  sem_inj := by intro a b h; injection h
  dest := ![Equiv.refl _, Equiv.refl _, Equiv.refl _, Equiv.refl _, Equiv.refl _, Equiv.refl _, Equiv.refl _, sib, xP, yP, zP, sib, sib, sib, Equiv.refl _]
  amt := fun _ => credit
  amt_pos := fun _ => View.dmaCredit_pos _ (by decide)
  owed := {7, 8, 9, 10, 11, 12, 13}
  lvl := ![0, 0, 0, 0, 0, 0, 0, 0, 0, 0, 0, 1, 1, 1, 0]

/-! ## Contents -/

variable (m : (ℓ : Loc nD τ sig) → Buf (Elt F) ℓ)

abbrev shard (c : Dev nD) : Buf (Elt F) ((c.tc : Thread nD τ).loc main_arg0) := m ((c.tc : Thread nD τ).loc main_arg0)
/-- Every device's shard in its slot. -/
def full (c : Dev nD) : Buf (Elt F) ((c.tc : Thread nD τ).loc main_v1) :=
  fun i : S8x35856x128.Idx => shard m (dev (i 0)) (ix2 (i 1) (i 2))

/-- A slot holding its device's shard; a share of the own shard. -/
def got (c : Dev nD) (j : Fin 8) : sProp 𝕄 := part c (out (off c j) (inb c j)) fullShare (full m c)
def back (c : Dev nD) (j : Fin 5) : sProp 𝕄 := part c xM (Transfers.shareTok fullShare 5 j) (shard m c)
instance got_storable (c : Dev nD) (j : Fin 8) : BI.Storable (upEmb : UEmb _ 𝕄) (got m c j) := by unfold got; infer_instance
instance back_storable (c : Dev nD) (j : Fin 5) : BI.Storable (upEmb : UEmb _ 𝕄) (back m c j) := by unfold back; infer_instance

def pay (c : Dev nD) : Fin 15 → sProp 𝕄 :=
  ![back m c 0, back m c 1, back m c 2, back m c 3, got m c 1, got m c 2, got m c 3,
    got m c 4, got m c 1, got m c 2, got m c 3, got m c 5, got m c 6, got m c 7, iprop(got m c 0 ∗ back m c 4)]

instance pay_storable (c : Dev nD) (k : Fin 15) : BI.Storable (upEmb : UEmb _ 𝕄) (pay m c k) := by
  have hg := got_storable m c
  have hb := back_storable m c
  have hl : BI.Storable (upEmb : UEmb _ 𝕄) iprop(got m c 0 ∗ back m c 4) := inferInstance
  fin_cases k
  exacts [hb 0, hb 1, hb 2, hb 3, hg 1, hg 2, hg 3, hg 4, hg 1, hg 2, hg 3, hg 5, hg 6, hg 7, hl]

/-- The buffers at the end. -/
def Vf (c : Dev nD) : (b : Ref sig .tc) → Buf (Elt F) ((c.tc : Thread nD τ).loc b) :=
  Function.update (fun b => m ((c.tc : Thread nD τ).loc b)) main_v1 (full m c)
theorem Vf_arg0 (c : Dev nD) : Vf m c main_arg0 = shard m c := by unfold Vf; rw [Function.update_of_ne (by decide)]
theorem Vf_v1 (c : Dev nD) : Vf m c main_v1 = full m c := by unfold Vf; rw [Function.update_self]

/-! ## What a device starts from -/

/-- Its own shard, and the slots it writes, on the devices they lie on. -/
def start (c : Dev nD) : sProp 𝕄 :=
  iprop((((c.tc : Thread nD τ).loc main_arg0) ↦{fullShare} shard m c)
    ∗ bigSep Finset.univ fun j : Fin 8 => part (from_ j c) (out (off (from_ j c) j) (inb (from_ j c) j)) fullShare (m (((from_ j c).tc : Thread nD τ).loc main_v1)))

theorem all_bufs (c : Dev nD) (V : (b : Ref sig .tc) → Buf (Elt F) ((c.tc : Thread nD τ).loc b)) :
    (unscopedBufs c V : sProp 𝕄) = iprop((((c.tc : Thread nD τ).loc main_arg0) ↦{fullShare} V main_arg0) ∗ part c oM fullShare (V main_v1)) := by
  rw [unscoped_all (cfg0.spec) (Fin.isEmpty : IsEmpty (Fin 0)) c V]
  unfold part
  rw [whole_pts]
  exact unscopedRest0_eq c V

theorem starts_split : (bigSep Finset.univ (fun c : Dev nD => unscopedBufs c (fun b => m ((c.tc : Thread nD τ).loc b))) : sProp 𝕄)
    ⊢ bigSep Finset.univ (start m) := by
  refine Entails.of_eq ?_
  rw [show (fun c : Dev nD => (unscopedBufs c (fun b => m ((c.tc : Thread nD τ).loc b)) : sProp 𝕄)) = _ from funext fun c => all_bufs c _]
  unfold start
  rw [bigSep_sep', bigSep_sep']
  exact congrArg (fun X : sProp 𝕄 => iprop((bigSep Finset.univ fun c : Dev nD => ((c.tc : Thread nD τ).loc main_arg0) ↦{fullShare} shard m c) ∗ X))
    (rows_dealt oM off inb squeezes_S1x35856x128_S35856x128 slot off_slot slot_inj from_ fullShare (fun c => m ((c.tc : Thread nD τ).loc main_v1)))

/-- A slot this device writes on device `d`, as the kernel names it. -/
abbrev there (d : Dev nD) (o : Fin 3 → ℕ) (h : Fits 8 35856 128 o) : sProp 𝕄 := part d (out o h) fullShare (m ((d.tc : Thread nD τ).loc main_v1))

theorem start_slots (c : Dev nD) : start m c ⊢ iprop((((c.tc : Thread nD τ).loc main_arg0) ↦{fullShare} shard m c)
    ∗ there m c (k0_off1 c) (k0_off1_inb c) ∗ there m (xOf c) (k0_off1 c) (k0_off1_inb c) ∗ there m (yOf c) (k0_off1 c) (k0_off1_inb c)
    ∗ there m (zOf c) (k0_off1 c) (k0_off1_inb c) ∗ there m (sibOf c) (k0_off1 c) (k0_off1_inb c)
    ∗ there m ⟨k0_dev5 c, k0_dev5_lt c⟩ (k0_off2 c) (k0_off2_inb c) ∗ there m ⟨k0_dev6 c, k0_dev6_lt c⟩ (k0_off3 c) (k0_off3_inb c)
    ∗ there m ⟨k0_dev7 c, k0_dev7_lt c⟩ (k0_off4 c) (k0_off4_inb c)) := by
  have h : ∀ j : Fin 8, (part (from_ j c) (out (off (from_ j c) j) (inb (from_ j c) j)) fullShare (m (((from_ j c).tc : Thread nD τ).loc main_v1)) : sProp 𝕄)
      = there m (from_ j c) (off c (of j)) (inb c (of j)) :=
    fun j => part_row oM (off_of c j) (inb (from_ j c) j) (inb c (of j)) squeezes_S1x35856x128_S35856x128 (from_ j c) fullShare _
  unfold start
  rw [sep_eight, h 0, h 1, h 2, h 3, h 4, h 5, h 6, h 7, dev5_eq, dev6_eq, dev7_eq]
  exact Entails.refl _

theorem shard_split (c : Dev nD) : ((((c.tc : Thread nD τ).loc main_arg0) ↦{fullShare} shard m c) : sProp 𝕄)
    ⊢ iprop(part c xM (Transfers.shareDrop fullShare 5) (shard m c) ∗ back m c 0 ∗ back m c 1 ∗ back m c 2 ∗ back m c 3 ∗ back m c 4) := by
  rw [← whole_pts]
  refine (Transfers.pointsTo_toks_split fullShare 5).trans ?_
  rw [sep_five]
  exact Entails.refl _
theorem shard_join (c : Dev nD) : iprop(part c xM (Transfers.shareDrop fullShare 5) (shard m c) ∗ back m c 0 ∗ back m c 1 ∗ back m c 2 ∗ back m c 3 ∗ back m c 4)
    ⊢ ((((c.tc : Thread nD τ).loc main_arg0) ↦{fullShare} shard m c) : sProp 𝕄) := by
  rw [← whole_pts]
  refine BI.Entails.trans ?_ (Transfers.pointsTo_toks_join fullShare 5)
  rw [sep_five]
  exact Entails.refl _
theorem slots_join (c : Dev nD) : iprop(got m c 0 ∗ got m c 1 ∗ got m c 2 ∗ got m c 3 ∗ got m c 4 ∗ got m c 5 ∗ got m c 6 ∗ got m c 7)
    ⊢ (part c oM fullShare (full m c) : sProp 𝕄) := by
  rw [rows oM (off c) (inb c) squeezes_S1x35856x128_S35856x128 (slot c) (off_slot c) (slot_inj c) c fullShare (full m c), sep_eight]
  exact Entails.refl _

/-! ## What lands -/

theorem read_full (c : Dev nD) (o : Fin 3 → ℕ) (h : Fits 8 35856 128 o) (q : Fin 8) (ho : o = ![q.val, 0, 0]) :
    (out o h).view.read (Elt F) (full m c) = fun i : S35856x128.Idx => shard m (dev q) (ix2 (i 0) (i 1)) :=
  funext fun i => read_row oM o h squeezes_S1x35856x128_S35856x128 q ho (full m c) i

theorem lands_shard (c : Dev nD) (j : Fin 8) (hj : of j = 0) (fd : Buf (Elt F) (((from_ j c).tc : Thread nD τ).loc main_v1)) :
    (part (from_ j c) (out (off c 0) (inb c 0)) fullShare ((out (off c 0) (inb c 0)).view.write (Elt F) fd (xM.view.read (Elt F) (shard m c)) Finset.univ) : sProp 𝕄)
      ⊢ got m (from_ j c) j := by
  refine (landed_at (c := ((from_ j c).tc : Thread nD τ)) (out (off c 0) (inb c 0)) fd (full m (from_ j c)) (xM.view.read (Elt F) (shard m c)) ?_).trans (Entails.of_eq (part_row oM ?_ _ _ _ _ _ _))
  · rw [read_full m _ _ _ (slot c 0) (off_slot c 0), dev_own]
    exact funext fun i => congrArg (shard m c) (ix2_eta i)
  · rw [off_of, hj]

theorem lands_slot (c d : Dev nD) (j : Fin 8) (hd : d = from_ j c) (fd : Buf (Elt F) ((d.tc : Thread nD τ).loc main_v1)) :
    (part d (out (off c (of j)) (inb c (of j))) fullShare ((out (off c (of j)) (inb c (of j))).view.write (Elt F) fd ((out (off c (of j)) (inb c (of j))).view.read (Elt F) (full m c)) Finset.univ) : sProp 𝕄)
      ⊢ got m d j := by
  subst hd
  refine (landed_at (c := ((from_ j c).tc : Thread nD τ)) (out (off c (of j)) (inb c (of j))) fd (full m (from_ j c)) ((out (off c (of j)) (inb c (of j))).view.read (Elt F) (full m c)) ?_).trans (Entails.of_eq (part_row oM (off_of c j).symm _ _ _ _ _ _))
  rw [read_full m _ _ _ (slot c (of j)) (off_slot c (of j)), read_full m _ _ _ (slot c (of j)) (off_slot c (of j))]

/-! ## The body -/

variable (K : Dev nD × Fin 15 → ℕ)

set_option maxHeartbeats 8000000 in
theorem body_run (c : Dev nD) :
    iprop(st plan (pay m) K c plan.owed Finset.univ plan.owed Finset.univ ∗ start m c)
      ⊢ wp frame (wpE (defs₀ (F := F)) Variants.none (c.tc : Thread nD τ) none) Set.univ
          (cc0_gather_weights xM (Memref.isWhole_whole _) oM (Memref.isWhole_whole _) cc0_scratch0 cc0_scratch1 cc0_scratch2)
          (fun _ => iprop(st plan (pay m) K c ∅ ∅ ∅ ∅ ∗ unscopedBufs c (Vf m c))) := by
  simp only [cc0_gather_weights_eq_skeleton]; unfold cc0_gather_weights_skel
  simp only [k0_part10_eq_skeleton]; unfold k0_part10_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [Prog.lift, Prog.bind_op, Prog.bind_ret, Prog.pure_eq_ret, wp_deviceId]
  iintro ⟨Hst, Hs⟩
  ihave ⟨Hx, Ho0, Ho1, Ho2, Ho3, Ho4, Ho5, Ho6, Ho7⟩ := (start_slots m c) $$ Hs
  ihave ⟨Hxr, Hx0, Hx1, Hx2, Hx3, Hx4⟩ := (shard_split m c) $$ Hx
  iapply (copy_step plan (pay m) Variants.none K c (defs := defs₀ (F := F)) (14 : Fin 15) rfl ?_ ?_ (src := xM) (dst := out (k0_off1 c) (k0_off1_inb c)) rfl rfl
    (BIClass.sep_mono (lands_shard m c 0 rfl _) (Entails.refl _))) $$ [Hst Hx4 Ho0]
  rotate_left 2
  · isplitl [Hst]; · iexact Hst
    isplitl [Hx4]; · iapply (Entails.of_eq (show back m c 4 = part c xM (Transfers.shareTok fullShare 5 4) (shard m c) from rfl)); iexact Hx4
    iexact Ho0
  iintro Hst
  iapply (send_step plan (pay m) Variants.none K c (defs := defs₀ (F := F)) (0 : Fin 15) (7 : Fin 15) (d := sibOf c) rfl rfl (show (7 : Fin 15) ≠ 0 by decide) ?_ ?_
    ?_ ?_ (src := xM) (dst := out (k0_off1 c) (k0_off1_inb c)) rfl rfl rfl rfl (Entails.refl _) (lands_shard m c 4 rfl _)) $$ [Hst Hx0 Ho4]
  rotate_left 4
  · isplitl [Hst]; · iexact Hst
    isplitl [Hx0]; · iapply (Entails.of_eq (show back m c 0 = part c xM (Transfers.shareTok fullShare 5 0) (shard m c) from rfl)); iexact Hx0
    iexact Ho4
  iintro Hst
  iapply (send_step plan (pay m) Variants.none K c (defs := defs₀ (F := F)) (1 : Fin 15) (8 : Fin 15) (d := xOf c) rfl rfl (show (8 : Fin 15) ≠ 1 by decide) ?_ ?_
    ?_ ?_ (src := xM) (dst := out (k0_off1 c) (k0_off1_inb c)) rfl rfl rfl rfl (Entails.refl _) (lands_shard m c 1 rfl _)) $$ [Hst Hx1 Ho1]
  rotate_left 4
  · isplitl [Hst]; · iexact Hst
    isplitl [Hx1]; · iapply (Entails.of_eq (show back m c 1 = part c xM (Transfers.shareTok fullShare 5 1) (shard m c) from rfl)); iexact Hx1
    iexact Ho1
  iintro Hst
  iapply (send_step plan (pay m) Variants.none K c (defs := defs₀ (F := F)) (2 : Fin 15) (9 : Fin 15) (d := yOf c) rfl rfl (show (9 : Fin 15) ≠ 2 by decide) ?_ ?_
    ?_ ?_ (src := xM) (dst := out (k0_off1 c) (k0_off1_inb c)) rfl rfl rfl rfl (Entails.refl _) (lands_shard m c 2 rfl _)) $$ [Hst Hx2 Ho2]
  rotate_left 4
  · isplitl [Hst]; · iexact Hst
    isplitl [Hx2]; · iapply (Entails.of_eq (show back m c 2 = part c xM (Transfers.shareTok fullShare 5 2) (shard m c) from rfl)); iexact Hx2
    iexact Ho2
  iintro Hst
  iapply (send_step plan (pay m) Variants.none K c (defs := defs₀ (F := F)) (3 : Fin 15) (10 : Fin 15) (d := zOf c) rfl rfl (show (10 : Fin 15) ≠ 3 by decide) ?_ ?_
    ?_ ?_ (src := xM) (dst := out (k0_off1 c) (k0_off1_inb c)) rfl rfl rfl rfl (Entails.refl _) (lands_shard m c 3 rfl _)) $$ [Hst Hx3 Ho3]
  rotate_left 4
  · isplitl [Hst]; · iexact Hst
    isplitl [Hx3]; · iapply (Entails.of_eq (show back m c 3 = part c xM (Transfers.shareTok fullShare 5 3) (shard m c) from rfl)); iexact Hx3
    iexact Ho3
  iintro Hst
  iapply (wait_step plan (pay m) Variants.none K c (defs := defs₀ (F := F)) (8 : Fin 15) ?_ ?_ ?_ rfl
    (wpE_waitDma2_eq Variants.none (c.tc : Thread nD τ) none Set.univ) rfl) $$ Hst
  rotate_left 3
  iintro ⟨Hst, Hg1⟩
  iapply (send_step plan (pay m) Variants.none K c (defs := defs₀ (F := F)) (4 : Fin 15) (11 : Fin 15) (d := ⟨k0_dev5 c, k0_dev5_lt c⟩) (dev5_eq c) rfl (show (11 : Fin 15) ≠ 4 by decide) ?_ ?_
    ?_ ?_ (src := out (k0_off2 c) (k0_off2_inb c)) (dst := out (k0_off2 c) (k0_off2_inb c)) rfl rfl rfl rfl (Entails.refl _) (lands_slot m c _ 5 (dev5_eq c) _)) $$ [Hst Hg1 Ho5]
  rotate_left 4
  · isplitl [Hst]; · iexact Hst
    isplitl [Hg1]; · iapply (Entails.of_eq (show pay m c 8 = part c (out (k0_off2 c) (k0_off2_inb c)) fullShare (full m c) from rfl)); iexact Hg1
    iexact Ho5
  iintro Hst
  iapply (wait_step plan (pay m) Variants.none K c (defs := defs₀ (F := F)) (9 : Fin 15) ?_ ?_ ?_ rfl
    (wpE_waitDma2_eq Variants.none (c.tc : Thread nD τ) none Set.univ) rfl) $$ Hst
  rotate_left 3
  iintro ⟨Hst, Hg2⟩
  iapply (send_step plan (pay m) Variants.none K c (defs := defs₀ (F := F)) (5 : Fin 15) (12 : Fin 15) (d := ⟨k0_dev6 c, k0_dev6_lt c⟩) (dev6_eq c) rfl (show (12 : Fin 15) ≠ 5 by decide) ?_ ?_
    ?_ ?_ (src := out (k0_off3 c) (k0_off3_inb c)) (dst := out (k0_off3 c) (k0_off3_inb c)) rfl rfl rfl rfl (Entails.refl _) (lands_slot m c _ 6 (dev6_eq c) _)) $$ [Hst Hg2 Ho6]
  rotate_left 4
  · isplitl [Hst]; · iexact Hst
    isplitl [Hg2]; · iapply (Entails.of_eq (show pay m c 9 = part c (out (k0_off3 c) (k0_off3_inb c)) fullShare (full m c) from rfl)); iexact Hg2
    iexact Ho6
  iintro Hst
  iapply (wait_step plan (pay m) Variants.none K c (defs := defs₀ (F := F)) (10 : Fin 15) ?_ ?_ ?_ rfl
    (wpE_waitDma2_eq Variants.none (c.tc : Thread nD τ) none Set.univ) rfl) $$ Hst
  rotate_left 3
  iintro ⟨Hst, Hg3⟩
  iapply (send_step plan (pay m) Variants.none K c (defs := defs₀ (F := F)) (6 : Fin 15) (13 : Fin 15) (d := ⟨k0_dev7 c, k0_dev7_lt c⟩) (dev7_eq c) rfl (show (13 : Fin 15) ≠ 6 by decide) ?_ ?_
    ?_ ?_ (src := out (k0_off4 c) (k0_off4_inb c)) (dst := out (k0_off4 c) (k0_off4_inb c)) rfl rfl rfl rfl (Entails.refl _) (lands_slot m c _ 7 (dev7_eq c) _)) $$ [Hst Hg3 Ho7]
  rotate_left 4
  · isplitl [Hst]; · iexact Hst
    isplitl [Hg3]; · iapply (Entails.of_eq (show pay m c 10 = part c (out (k0_off4 c) (k0_off4_inb c)) fullShare (full m c) from rfl)); iexact Hg3
    iexact Ho7
  iintro Hst
  iapply (wait_step plan (pay m) Variants.none K c (defs := defs₀ (F := F)) (7 : Fin 15) ?_ ?_ ?_ rfl
    (wpE_waitDma2_eq Variants.none (c.tc : Thread nD τ) none Set.univ) rfl) $$ Hst
  rotate_left 3
  iintro ⟨Hst, Hg4⟩
  iapply (wait_step plan (pay m) Variants.none K c (defs := defs₀ (F := F)) (11 : Fin 15) ?_ ?_ ?_ rfl
    (wpE_waitDma2_eq Variants.none (c.tc : Thread nD τ) none Set.univ) rfl) $$ Hst
  rotate_left 3
  iintro ⟨Hst, Hg5⟩
  iapply (wait_step plan (pay m) Variants.none K c (defs := defs₀ (F := F)) (12 : Fin 15) ?_ ?_ ?_ rfl
    (wpE_waitDma2_eq Variants.none (c.tc : Thread nD τ) none Set.univ) rfl) $$ Hst
  rotate_left 3
  iintro ⟨Hst, Hg6⟩
  iapply (wait_step plan (pay m) Variants.none K c (defs := defs₀ (F := F)) (13 : Fin 15) ?_ ?_ ?_ rfl
    (wpE_waitDma2_eq Variants.none (c.tc : Thread nD τ) none Set.univ) rfl) $$ Hst
  rotate_left 3
  iintro ⟨Hst, Hg7⟩
  iapply (wait_step plan (pay m) Variants.none K c (defs := defs₀ (F := F)) (0 : Fin 15) ?_ ?_ ?_ rfl
    (wpE_waitDma2_eq Variants.none (c.tc : Thread nD τ) none Set.univ) rfl) $$ Hst
  rotate_left 3
  iintro ⟨Hst, Hx0⟩
  iapply (wait_step plan (pay m) Variants.none K c (defs := defs₀ (F := F)) (1 : Fin 15) ?_ ?_ ?_ rfl
    (wpE_waitDma2_eq Variants.none (c.tc : Thread nD τ) none Set.univ) rfl) $$ Hst
  rotate_left 3
  iintro ⟨Hst, Hx1⟩
  iapply (wait_step plan (pay m) Variants.none K c (defs := defs₀ (F := F)) (2 : Fin 15) ?_ ?_ ?_ rfl
    (wpE_waitDma2_eq Variants.none (c.tc : Thread nD τ) none Set.univ) rfl) $$ Hst
  rotate_left 3
  iintro ⟨Hst, Hx2⟩
  iapply (wait_step plan (pay m) Variants.none K c (defs := defs₀ (F := F)) (3 : Fin 15) ?_ ?_ ?_ rfl
    (wpE_waitDma2_eq Variants.none (c.tc : Thread nD τ) none Set.univ) rfl) $$ Hst
  rotate_left 3
  iintro ⟨Hst, Hx3⟩
  iapply (wait_step plan (pay m) Variants.none K c (defs := defs₀ (F := F)) (4 : Fin 15) ?_ ?_ ?_ rfl
    (wpE_waitDma2_eq Variants.none (c.tc : Thread nD τ) none Set.univ) rfl) $$ Hst
  rotate_left 3
  iintro ⟨Hst, Hg1⟩
  iapply (wait_step plan (pay m) Variants.none K c (defs := defs₀ (F := F)) (5 : Fin 15) ?_ ?_ ?_ rfl
    (wpE_waitDma2_eq Variants.none (c.tc : Thread nD τ) none Set.univ) rfl) $$ Hst
  rotate_left 3
  iintro ⟨Hst, Hg2⟩
  iapply (wait_step plan (pay m) Variants.none K c (defs := defs₀ (F := F)) (6 : Fin 15) ?_ ?_ ?_ rfl
    (wpE_waitDma2_eq Variants.none (c.tc : Thread nD τ) none Set.univ) rfl) $$ Hst
  rotate_left 3
  iintro ⟨Hst, Hg3⟩
  iapply (wait_step plan (pay m) Variants.none K c (defs := defs₀ (F := F)) (14 : Fin 15) ?_ ?_ ?_ rfl
    (wpE_waitDma2_eq Variants.none (c.tc : Thread nD τ) none Set.univ) rfl) $$ Hst
  rotate_left 3
  iintro ⟨Hst, Hl⟩
  rw [wp_ret]; imodintro
  rw [all_bufs, Vf_arg0, Vf_v1]
  ihave ⟨Hg0, Hx4⟩ := (Entails.of_eq (show pay m c 14 = iprop(got m c 0 ∗ back m c 4) from rfl)) $$ Hl
  isplitl [Hst]
  · iapply (Entails.of_eq (show st plan (pay m) K c _ _ _ _ = st plan (pay m) K c ∅ ∅ ∅ ∅ from by congr 1)); iexact Hst
  isplitl [Hxr Hx0 Hx1 Hx2 Hx3 Hx4]
  · iapply (shard_join m c)
    isplitl [Hxr]; · iexact Hxr
    isplitl [Hx0]; · iapply (Entails.of_eq (show pay m c 0 = back m c 0 from rfl)); iexact Hx0
    isplitl [Hx1]; · iapply (Entails.of_eq (show pay m c 1 = back m c 1 from rfl)); iexact Hx1
    isplitl [Hx2]; · iapply (Entails.of_eq (show pay m c 2 = back m c 2 from rfl)); iexact Hx2
    isplitl [Hx3]; · iapply (Entails.of_eq (show pay m c 3 = back m c 3 from rfl)); iexact Hx3
    iexact Hx4
  iapply (slots_join m c)
  isplitl [Hg0]; · iexact Hg0
  isplitl [Hg1]; · iapply (Entails.of_eq (show pay m c 4 = got m c 1 from rfl)); iexact Hg1
  isplitl [Hg2]; · iapply (Entails.of_eq (show pay m c 5 = got m c 2 from rfl)); iexact Hg2
  isplitl [Hg3]; · iapply (Entails.of_eq (show pay m c 6 = got m c 3 from rfl)); iexact Hg3
  isplitl [Hg4]; · iapply (Entails.of_eq (show pay m c 7 = got m c 4 from rfl)); iexact Hg4
  isplitl [Hg5]; · iapply (Entails.of_eq (show pay m c 11 = got m c 5 from rfl)); iexact Hg5
  isplitl [Hg6]; · iapply (Entails.of_eq (show pay m c 12 = got m c 6 from rfl)); iexact Hg6
  iapply (Entails.of_eq (show pay m c 13 = got m c 7 from rfl)); iexact Hg7
  all_goals decide

theorem own_sems : OwnSemFacts (cfg0.spec) plan.sem := by decide

theorem run_main (m : (ℓ : Loc nD τ sig) → Buf (Elt F) ℓ) (g : Dev nD → PrngReg) :
    θ_run (defs (F := F)) (onTc (τ := τ) (main (F := F))) ⟨m, fun _ => 0, g⟩
      (fun r => (∀ (c : Dev nD) (b : Ref sig .tc), ¬ b.isScoped → r.2.mem ((c.tc : Thread nD τ).loc b) = Vf m c b)
        ∧ ∀ s : GSem nD τ sig, (s.1.2 ≠ .tc ∨ s.2.isScoped .tc = true) → r.2.sem s = 0) := by
  refine Exchange.run plan (pay m) cfg0 N_0 (Fin.isEmpty : IsEmpty (Fin 0)) cellOf_inj winFacts0.to₀ own_sems
    (fun c => scopedRest0_eq c) defs₀ m g main (fun _ => rfl) (start m) (Vf m) (starts_split m) ?_
  intro K c t
  exact body_run m K c

end Cert.GatherRun

end
-- ==== Proof.GatherValue.lean ====
/-
# The gather of the weights: what it computes

Slot `q` of every device holds device `q`'s shard, rows `35856 q` to `35856 (q + 1)` of the whole array: the whole array, read
as eight blocks.
-/
module

public import proofs.«01_k».proof.Proof.GatherRun
public import proofs.«01_k».proof.Proof.Gen.GatherRefIdeal
public import Idealize.ShloMosaic.Lib.Layout
public import Idealize.ShloMosaic.Lib.Pipeline.Value
public import Idealize.ShloMosaic.Lib.PointwiseCore

@[expose] public section

set_option Elab.async false
set_option maxRecDepth 16384

noncomputable section

namespace Cert.GatherValue

open Idealize.ShloMosaic
open Idealize.ShloMosaic.TcCoe

section Ref
open Cert.GatherRefIdeal Cert.GatherRefIdeal.Gen

variable {α : Type}

/-- The reference's result, of the whole array. -/
def wholeRef (X : S286848x128.Idx → α) : S8x35856x128.Idx → α := shapeCast _ X shapeCasts_S286848x128_S8x35856x128

theorem wholeRef_apply (X : S286848x128.Idx → α) (q : Fin 8) (r : Fin 35856) (l : Fin 128) :
    wholeRef X (ix3 q r l) = X (ix2 ⟨35856 * q.val + r.val, by omega⟩ l) := by
  pointwise [wholeRef]
  all_goals exact congrArg (fun k => X (ix2 k l)) (Fin.ext (by dsimp only; omega))

end Ref

section Run
open Cert.GatherIdeal Cert.GatherIdeal.Gen Cert.GatherRun

variable {F : FTy → Type} [FloatOps F]

/-- From blocks of `X`, the gather leaves the reference's result on every device. -/
theorem value (m : (ℓ : Loc nD τ sig) → Buf (Elt F) ℓ) (X : (⟨2, ![286848, 128]⟩ : Shape).Idx → Elt F .bf16)
    (h : ∀ c : Dev nD, m ((c.tc : Thread nD τ).loc main_arg0) = Layout.block ⟨2, ![35856, 128]⟩ ⟨2, ![286848, 128]⟩ 0 8 c X) (c : Dev nD) :
    full m c = wholeRef X := by
  funext i
  rw [eq_ix3 i]
  refine Eq.trans ?_ (wholeRef_apply X (i 0) (i 1) (i 2)).symm
  show m (((dev (i 0)).tc : Thread nD τ).loc main_arg0) (ix2 (i 1) (i 2)) = _
  rw [h, Layout.block_apply]
  refine congrArg X (funext fun b => Fin.ext ?_)
  rw [Layout.Tiles.idx_val]
  fin_cases b
  · show (i 0).val * 35856 + (i 1).val = 35856 * (i 0).val + (i 1).val
    omega
  all_goals rfl

end Run

end Cert.GatherValue

end
-- ==== Proof.GatherClaims.lean ====
/-
# The gather of the weights: its claims

The frames of the kernel and of the reference, and that the two agree: the kernel's run and the reference's are each
stated once, for any float values, and every claim is read off them.
-/
module

public import proofs.«01_k».proof.Defs
public import proofs.«01_k».proof.Proof.GatherValue
public import proofs.«01_k».proof.Proof.Gen.Gather
public import proofs.«01_k».proof.Proof.Gen.GatherRefIdeal.Run
public import proofs.«01_k».proof.Proof.Gen.GatherRef
public import proofs.«01_k».proof.Proof.Gen.GatherRef.Run
public import Idealize.ShloMosaic.Lib.Quiescent

@[expose] public section

set_option Elab.async false
set_option maxRecDepth 16384

noncomputable section

namespace Cert.GatherClaims

open Idealize.ShloMosaic Idealize.SL.Sem
open Idealize.ShloMosaic.TcCoe
open Cert.GatherIdeal Cert.GatherIdeal.Gen
open Cert.GatherRun Cert.GatherValue

variable {F : FTy → Type} [FloatOps F]

/-- The gather keeps its argument and returns every counter to zero. -/
theorem keeps (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)) ∧ r.2.sem = fun _ => 0 :=
  (θ_run defs _ _).mono (fun _ h => ⟨fun c => (h.1 c main_arg0 (by decide)).trans (Vf_arg0 m c), sem_eq_zero_of_scoped (by decide) h.2⟩) (run_main m g)

/-- From blocks of `X` the gather leaves on every device what the reference makes of it. -/
theorem computes (m : (ℓ : Loc nD τ sig) → Buf (Elt F) ℓ) (g : Dev nD → PrngReg) (X : (⟨2, ![286848, 128]⟩ : Shape).Idx → Elt F .bf16)
    (h : ∀ c : Dev nD, m ((c.tc : Thread nD τ).loc main_arg0) = Layout.block ⟨2, ![35856, 128]⟩ ⟨2, ![286848, 128]⟩ 0 8 c X) :
    θ_run (defs (F := F)) (onTc (τ := τ) (main (F := F))) ⟨m, fun _ => 0, g⟩ fun r => ∀ c : Dev nD,
      r.2.mem ((c.tc : Thread nD τ).loc main_v1) = wholeRef X
      ∧ r.2.mem ((c.tc : Thread nD τ).loc main_arg0) = m ((c.tc : Thread nD τ).loc main_arg0) :=
  (θ_run defs _ _).mono (fun _ r c =>
      ⟨((r.1 c main_v1 (by decide)).trans (Vf_v1 m c)).trans (value m X h c), (r.1 c main_arg0 (by decide)).trans (Vf_arg0 m c)⟩) (run_main m g)

theorem frame_kernel : Cert.quiescent_Gather := fun m g _ => keeps (F := Bits) m g
theorem frame_ideal : Cert.quiescent_GatherIdeal := fun m g _ => keeps (F := Ideal) m g

theorem frame_ref_ideal : Cert.quiescent_GatherRefIdeal := fun m g _ =>
  (θ_run Cert.GatherRefIdeal.defs _ _).mono (fun r h => ⟨fun c => (h c).2, sem_eq_zero_of_no_sems (by decide) r.2⟩)
    (Cert.GatherRefIdeal.Value.run (F := Ideal) m g)
theorem frame_ref : Cert.quiescent_GatherRef := fun m g _ =>
  (θ_run Cert.GatherRef.defs _ _).mono (fun r h => ⟨fun c => (h c).2, sem_eq_zero_of_no_sems (by decide) r.2⟩)
    (Cert.GatherRef.Value.run (F := Bits) m g)

/-- Over the extended reals every device ends with the reference's result. -/
theorem algebraic : Cert.algebraic_GatherIdeal_GatherRefIdeal := fun m g m' g' _ h =>
  ⟨_, computes (F := Ideal) m g _ h,
    (θ_run Cert.GatherRefIdeal.defs _ _).mono (fun _ r => r 0) (Cert.GatherRefIdeal.Value.run (F := Ideal) m' g')⟩

/-- And word by word. -/
theorem bitexact : Cert.bitexact_Gather_GatherRef := fun m g m' g' _ h =>
  ⟨_, computes (F := Bits) m g _ h,
    (θ_run Cert.GatherRef.defs _ _).mono (fun _ r => r 0) (Cert.GatherRef.Value.run (F := Bits) m' g')⟩

end Cert.GatherClaims

end
-- ==== Proof.SiblingRun.lean ====
/-
# The sibling exchange: one run, over any floats

Each device sends the half of its gradient stack that belongs to its chip's other core, and its whole small block, to that
core. Four completions: the two sources' on the sender, the two landings' on the receiver.
-/
module

public import proofs.«01_k».proof.Proof.Exchange
public import proofs.«01_k».proof.Proof.Gen.SiblingIdeal.Skeleton
public import proofs.«01_k».proof.Proof.Gen.SiblingIdeal.Launch
public import Idealize.ShloMosaic.Lib.Tactic

@[expose] public section

set_option Elab.async false

noncomputable section

namespace Cert.SiblingRun

open Cert.SiblingIdeal Cert.SiblingIdeal.Gen Cert.Exchange

open Idealize.ShloMosaic
open Idealize.ShloMosaic.TcCoe
open Idealize.SL Idealize.SL.RA
open Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UU nD τ sig) ℕ

/-- The chip's other core. -/
def peerOf (c : Dev nD) : Dev nD := ⟨k0_dev1 c, k0_dev1_lt c⟩
theorem peer_peer : ∀ c : Dev nD, peerOf (peerOf c) = c := by decide +kernel
def peer : Equiv.Perm (Dev nD) := ⟨peerOf, peerOf, peer_peer, peer_peer⟩
theorem dev2_eq : ∀ c : Dev nD, (⟨k0_dev2 c, k0_dev2_lt c⟩ : Dev nD) = peerOf c := by decide +kernel

abbrev bigM : Memref sig .tc .hbm S2x4x35840x128 .f32 := Memref.whole main_arg0
abbrev smallM : Memref sig .tc .hbm S1144x128 .f32 := Memref.whole main_arg1
abbrev bigOut : Memref sig .tc .hbm S4x35840x128 .f32 := Memref.whole main_v1_0
abbrev smallOut : Memref sig .tc .hbm S1144x128 .f32 := Memref.whole main_v1_1
/-- The half of `c`'s stack that it sends. -/
abbrev half (c : Dev nD) : Memref sig .tc .hbm S4x35840x128 .f32 :=
  (bigM.slice (Rect.unit (s := S2x4x35840x128) (k0_off1 c) S1x4x35840x128.size (k0_off1_inb c)) (fun _ => rfl)).squeeze S4x35840x128 squeezes_S1x4x35840x128_S4x35840x128

abbrev sent0 : DmaSems sig S_ := (cc0_scratch0.slice (Rect.unit (s := S2) ![0] S1.size inb_S2_S1_0)).squeeze S_ squeezes_S1_S_
abbrev sent1 : DmaSems sig S_ := (cc0_scratch0.slice (Rect.unit (s := S2) ![1] S1.size inb_S2_S1_1)).squeeze S_ squeezes_S1_S_
abbrev come0 : DmaSems sig S_ := (cc0_scratch1.slice (Rect.unit (s := S2) ![0] S1.size inb_S2_S1_0)).squeeze S_ squeezes_S1_S_
abbrev come1 : DmaSems sig S_ := (cc0_scratch1.slice (Rect.unit (s := S2) ![1] S1.size inb_S2_S1_1)).squeeze S_ squeezes_S1_S_

def plan : Plan nD sig 4 where
  sem := ![.dma sent0.sem, .dma come0.sem, .dma sent1.sem, .dma come1.sem]
  sem_inj := by decide
  dest := ![Equiv.refl _, peer, Equiv.refl _, peer]
  amt := ![bigOut.view.dmaCredit, bigOut.view.dmaCredit, smallOut.view.dmaCredit, smallOut.view.dmaCredit]
  amt_pos := by
    have h0 : 0 < bigOut.view.dmaCredit := View.dmaCredit_pos _ (by decide)
    have h1 : 0 < smallOut.view.dmaCredit := View.dmaCredit_pos _ (by decide)
    intro k; fin_cases k
    exacts [h0, h0, h1, h1]
  owed := {1, 3}
  lvl := fun _ => 0

variable (m : (ℓ : Loc nD τ sig) → Buf (Elt F) ℓ)

/-- What lands on device `c`. -/
def got0 (c : Dev nD) : Buf (Elt F) ((c.tc : Thread nD τ).loc main_v1_0) :=
  bigOut.view.write (Elt F) (m ((c.tc : Thread nD τ).loc main_v1_0)) ((half (peerOf c)).view.read (Elt F) (m (((peerOf c).tc : Thread nD τ).loc main_arg0))) Finset.univ
def got1 (c : Dev nD) : Buf (Elt F) ((c.tc : Thread nD τ).loc main_v1_1) :=
  smallOut.view.write (Elt F) (m ((c.tc : Thread nD τ).loc main_v1_1)) (smallM.view.read (Elt F) (m (((peerOf c).tc : Thread nD τ).loc main_arg1))) Finset.univ

/-- The elements of a view on device `c`. -/
abbrev all {sp : Space} {s : Shape} {e : EltTy} (c : Dev nD) (M : Memref sig .tc sp s e) (f : Buf (Elt F) (M.view.loc (c.tc : Thread nD τ))) : sProp 𝕄 :=
  iprop(M.view.loc (c.tc : Thread nD τ) ↦[M.view.set]{fullShare} f)

def pay (c : Dev nD) : Fin 4 → sProp 𝕄 :=
  ![all c (half c) (m ((c.tc : Thread nD τ).loc main_arg0)), all c bigOut (got0 m c),
    all c smallM (m ((c.tc : Thread nD τ).loc main_arg1)), all c smallOut (got1 m c)]

theorem pay0 (c : Dev nD) : pay m c 0 = all c (half c) (m ((c.tc : Thread nD τ).loc main_arg0)) := rfl
theorem pay1 (c : Dev nD) : pay m c 1 = all c bigOut (got0 m c) := rfl
theorem pay2 (c : Dev nD) : pay m c 2 = all c smallM (m ((c.tc : Thread nD τ).loc main_arg1)) := rfl
theorem pay3 (c : Dev nD) : pay m c 3 = all c smallOut (got1 m c) := rfl

instance pay_storable (c : Dev nD) (k : Fin 4) : BI.Storable (upEmb : UEmb _ 𝕄) (pay m c k) := by
  have h0 : BI.Storable (upEmb : UEmb _ 𝕄) (pay m c 0) := (inferInstance : BI.Storable (upEmb : UEmb _ 𝕄) (all c (half c) (m ((c.tc : Thread nD τ).loc main_arg0))))
  have h1 : BI.Storable (upEmb : UEmb _ 𝕄) (pay m c 1) := (inferInstance : BI.Storable (upEmb : UEmb _ 𝕄) (all c bigOut (got0 m c)))
  have h2 : BI.Storable (upEmb : UEmb _ 𝕄) (pay m c 2) := (inferInstance : BI.Storable (upEmb : UEmb _ 𝕄) (all c smallM (m ((c.tc : Thread nD τ).loc main_arg1))))
  have h3 : BI.Storable (upEmb : UEmb _ 𝕄) (pay m c 3) := (inferInstance : BI.Storable (upEmb : UEmb _ 𝕄) (all c smallOut (got1 m c)))
  fin_cases k <;> assumption

/-- The buffers at the end. -/
def Vf (c : Dev nD) : (b : Ref sig .tc) → Buf (Elt F) ((c.tc : Thread nD τ).loc b) :=
  Function.update (Function.update (fun b => m ((c.tc : Thread nD τ).loc b)) main_v1_0 (got0 m c)) main_v1_1 (got1 m c)

theorem Vf_arg0 (c : Dev nD) : Vf m c main_arg0 = m ((c.tc : Thread nD τ).loc main_arg0) := by
  unfold Vf; rw [Function.update_of_ne (by decide), Function.update_of_ne (by decide)]
theorem Vf_arg1 (c : Dev nD) : Vf m c main_arg1 = m ((c.tc : Thread nD τ).loc main_arg1) := by
  unfold Vf; rw [Function.update_of_ne (by decide), Function.update_of_ne (by decide)]
theorem Vf_v0 (c : Dev nD) : Vf m c main_v1_0 = got0 m c := by
  unfold Vf; rw [Function.update_of_ne (by decide), Function.update_self]
theorem Vf_v1 (c : Dev nD) : Vf m c main_v1_1 = got1 m c := by
  unfold Vf; rw [Function.update_self]

/-- What device `c` starts from: its own inputs, and its peer's results. -/
def start (c : Dev nD) : sProp 𝕄 :=
  iprop((((c.tc : Thread nD τ).loc main_arg0) ↦{fullShare} m ((c.tc : Thread nD τ).loc main_arg0))
    ∗ all c smallM (m ((c.tc : Thread nD τ).loc main_arg1))
    ∗ all (peer c) bigOut (m (((peer c).tc : Thread nD τ).loc main_v1_0))
    ∗ all (peer c) smallOut (m (((peer c).tc : Thread nD τ).loc main_v1_1)))

theorem all_bufs (c : Dev nD) (V : (b : Ref sig .tc) → Buf (Elt F) ((c.tc : Thread nD τ).loc b)) :
    (unscopedBufs c V : sProp 𝕄)
      = iprop((((c.tc : Thread nD τ).loc main_arg0) ↦{fullShare} V main_arg0) ∗ all c smallM (V main_arg1)
          ∗ all c bigOut (V main_v1_0) ∗ all c smallOut (V main_v1_1)) := by
  rw [unscoped_all (cfg0.spec) (Fin.isEmpty : IsEmpty (Fin 0)) c V]
  unfold all
  rw [whole_pts, whole_pts, whole_pts]
  exact unscopedRest0_eq c V

theorem starts_split : (bigSep Finset.univ (fun c : Dev nD => unscopedBufs c (fun b => m ((c.tc : Thread nD τ).loc b))) : sProp 𝕄)
    ⊢ bigSep Finset.univ (start m) := by
  refine Entails.of_eq ?_
  rw [show (fun c : Dev nD => (unscopedBufs c (fun b => m ((c.tc : Thread nD τ).loc b)) : sProp 𝕄)) = _ from funext fun c => all_bufs c _]
  unfold start
  rw [bigSep_sep', bigSep_sep', bigSep_sep', bigSep_sep', bigSep_sep', bigSep_sep',
    ← bigSep_univ_equiv peer (fun c : Dev nD => all c bigOut (m ((c.tc : Thread nD τ).loc main_v1_0))),
    ← bigSep_univ_equiv peer (fun c : Dev nD => all c smallOut (m ((c.tc : Thread nD τ).loc main_v1_1)))]

theorem lands0 (c : Dev nD) :
    all (peerOf c) bigOut (bigOut.view.write (Elt F) (m (((peerOf c).tc : Thread nD τ).loc main_v1_0)) ((half c).view.read (Elt F) (m ((c.tc : Thread nD τ).loc main_arg0))) Finset.univ)
      ⊢ pay m (peerOf c) 1 := by
  show _ ⊢ all (peerOf c) bigOut (got0 m (peerOf c))
  unfold got0; rw [peer_peer]
theorem lands1 (c : Dev nD) :
    all (peerOf c) smallOut (smallOut.view.write (Elt F) (m (((peerOf c).tc : Thread nD τ).loc main_v1_1)) (smallM.view.read (Elt F) (m ((c.tc : Thread nD τ).loc main_arg1))) Finset.univ)
      ⊢ pay m (peerOf c) 3 := by
  show _ ⊢ all (peerOf c) smallOut (got1 m (peerOf c))
  unfold got1; rw [peer_peer]

variable (K : Dev nD × Fin 4 → ℕ)

set_option maxHeartbeats 1600000 in
theorem body_run (c : Dev nD) :
    iprop(st plan (pay m) K c plan.owed Finset.univ plan.owed Finset.univ ∗ start m c)
      ⊢ wp frame (wpE (defs₀ (F := F)) Variants.none (c.tc : Thread nD τ) none) Set.univ
          (cc0_rs_sibling bigM (Memref.isWhole_whole _) smallM (Memref.isWhole_whole _) bigOut (Memref.isWhole_whole _) smallOut (Memref.isWhole_whole _)
            cc0_scratch0 cc0_scratch1) (fun _ => iprop(st plan (pay m) K c ∅ ∅ ∅ ∅ ∗ unscopedBufs c (Vf m c))) := by
  simp only [cc0_rs_sibling_eq_skeleton]; unfold cc0_rs_sibling_skel
  simp only [k0_part1_eq_skeleton]; unfold k0_part1_skel
  simp only [Prog.lift, Prog.bind_op, Prog.bind_ret, Prog.pure_eq_ret, wp_deviceId]
  unfold start
  iintro ⟨Hst, Hb, Hs, Hbo, Hso⟩
  ihave ⟨Hh, Hr⟩ := (part_out (I := (half c).view.set) _) $$ Hb
  simp only [dev2_eq c]
  iapply (send_step plan (pay m) Variants.none K c (defs := defs₀ (F := F)) (0 : Fin 4) 1 (d := peerOf c) rfl rfl (show 1 ≠ 0 by decide) ?_ ?_
    ?_ ?_ (src := half c) (dst := bigOut) rfl rfl rfl rfl (Entails.refl _) (lands0 m c)) $$ [Hst Hh Hbo]
  rotate_left 4
  · isplitl [Hst]; · iexact Hst
    isplitl [Hh]; · iexact Hh
    iexact Hbo
  iintro Hst
  iapply (send_step plan (pay m) Variants.none K c (defs := defs₀ (F := F)) (2 : Fin 4) (3 : Fin 4) (d := peerOf c) rfl rfl (show (3 : Fin 4) ≠ 2 by decide) ?_ ?_
    ?_ ?_ (src := smallM) (dst := smallOut) rfl rfl rfl rfl (Entails.refl _) (lands1 m c)) $$ [Hst Hs Hso]
  rotate_left 4
  · isplitl [Hst]; · iexact Hst
    isplitl [Hs]; · iexact Hs
    iexact Hso
  iintro Hst
  iapply (wait_step plan (pay m) Variants.none K c (defs := defs₀ (F := F)) (0 : Fin 4) ?_ ?_ ?_ rfl
    (wpE_waitDma2_eq Variants.none (c.tc : Thread nD τ) none Set.univ) rfl) $$ Hst
  rotate_left 3
  iintro ⟨Hst, Hh⟩
  iapply (wait_step plan (pay m) Variants.none K c (defs := defs₀ (F := F)) 1 ?_ ?_ ?_ rfl
    (wpE_waitDma2_eq Variants.none (c.tc : Thread nD τ) none Set.univ) rfl) $$ Hst
  rotate_left 3
  iintro ⟨Hst, Hbo⟩
  iapply (wait_step plan (pay m) Variants.none K c (defs := defs₀ (F := F)) (2 : Fin 4) ?_ ?_ ?_ rfl
    (wpE_waitDma2_eq Variants.none (c.tc : Thread nD τ) none Set.univ) rfl) $$ Hst
  rotate_left 3
  iintro ⟨Hst, Hs⟩
  iapply (wait_step plan (pay m) Variants.none K c (defs := defs₀ (F := F)) (3 : Fin 4) ?_ ?_ ?_ rfl
    (wpE_waitDma2_eq Variants.none (c.tc : Thread nD τ) none Set.univ) rfl) $$ Hst
  rotate_left 3
  iintro ⟨Hst, Hso⟩
  rw [wp_ret]; imodintro
  rw [all_bufs, Vf_arg0, Vf_arg1, Vf_v0, Vf_v1]
  isplitl [Hst]
  · iapply (Entails.of_eq (show st plan (pay m) K c _ _ _ _ = st plan (pay m) K c ∅ ∅ ∅ ∅ from by congr 1)); iexact Hst
  isplitl [Hh Hr]
  · iapply (part_in (I := (half c).view.set) _)
    isplitl [Hh]; · iapply (Entails.of_eq (pay0 m c)); iexact Hh
    iexact Hr
  isplitl [Hs]; · iapply (Entails.of_eq (pay2 m c)); iexact Hs
  isplitl [Hbo]; · iapply (Entails.of_eq (pay1 m c)); iexact Hbo
  iapply (Entails.of_eq (pay3 m c)); iexact Hso
  all_goals decide

theorem own_sems : OwnSemFacts (cfg0.spec) plan.sem := by decide

theorem fin_pt (t : Fin grid0.N) : t = t0_0 := fin_N0 t

theorem run_main (m : (ℓ : Loc nD τ sig) → Buf (Elt F) ℓ) (g : Dev nD → PrngReg) :
    θ_run (defs (F := F)) (onTc (τ := τ) (main (F := F))) ⟨m, fun _ => 0, g⟩
      (fun r => (∀ (c : Dev nD) (b : Ref sig .tc), ¬ b.isScoped → r.2.mem ((c.tc : Thread nD τ).loc b) = Vf m c b)
        ∧ ∀ s : GSem nD τ sig, (s.1.2 ≠ .tc ∨ s.2.isScoped .tc = true) → r.2.sem s = 0) := by
  refine Exchange.run plan (pay m) cfg0 N_0 (Fin.isEmpty : IsEmpty (Fin 0)) cellOf_inj winFacts0.to₀ own_sems
    (fun c => scopedRest0_eq c) defs₀ m g main (fun _ => rfl) (start m) (Vf m) (starts_split m) ?_
  intro K c t
  exact body_run m K c

end Cert.SiblingRun

end
-- ==== Proof.SiblingValue.lean ====
/-
# The sibling exchange: what it computes

Device `c = 2 p + k` (chip `p`, core `k`) receives, of the stack of its chip's other core, the half with its own number
`k`. The reference names that entry of the whole array by (chip, core, half); both are read here at one element.
-/
module

public import proofs.«01_k».proof.Proof.SiblingRun
public import proofs.«01_k».proof.Proof.Gen.SiblingRefIdeal
public import Idealize.ShloMosaic.Lib.Layout
public import Idealize.ShloMosaic.Lib.Pipeline.Value
public import Idealize.ShloMosaic.Lib.PointwiseCore

@[expose] public section

set_option Elab.async false
set_option maxRecDepth 16384

noncomputable section

namespace Cert.SiblingValue

open Idealize.ShloMosaic
open Idealize.ShloMosaic.TcCoe

section Ref
open Cert.SiblingRefIdeal Cert.SiblingRefIdeal.Gen

variable {α : Type}

/-- The reference's first result, of the whole stack. -/
def bigRef (X : S16x4x35840x128.Idx → α) : S32x35840x128.Idx → α :=
  shapeCast _ (concatenate S4x2x4x35840x128 1 [⟨S4x1x4x35840x128, (broadcastInDim S4x1x4x35840x128 ![0, 2, 3, 4] bcast_S4x4x35840x128_S4x1x4x35840x128_0_2_3_4 (shapeCast _ (extractStridedSlice S4x1x1x4x35840x128 ![0, 1, 0, 0, 0, 0] (shapeCast _ X shapeCasts_S16x4x35840x128_S4x2x2x4x35840x128) slices_S4x2x2x4x35840x128_S4x1x1x4x35840x128_0_1_0_0_0_0) shapeCasts_S4x1x1x4x35840x128_S4x4x35840x128))⟩, ⟨S4x1x4x35840x128, (broadcastInDim S4x1x4x35840x128 ![0, 2, 3, 4] bcast_S4x4x35840x128_S4x1x4x35840x128_0_2_3_4 (shapeCast _ (extractStridedSlice S4x1x1x4x35840x128 ![0, 0, 1, 0, 0, 0] (shapeCast _ X shapeCasts_S16x4x35840x128_S4x2x2x4x35840x128) slices_S4x2x2x4x35840x128_S4x1x1x4x35840x128_0_0_1_0_0_0) shapeCasts_S4x1x1x4x35840x128_S4x4x35840x128))⟩] concatenates_S4x1x4x35840x128_S4x1x4x35840x128_S4x2x4x35840x128_d1) shapeCasts_S4x2x4x35840x128_S32x35840x128

/-- The reference's second result, of the whole small array. -/
def smallRef (X : S9152x128.Idx → α) : S9152x128.Idx → α :=
  shapeCast _ (concatenate S4x2x1144x128 1 [⟨S4x1x1144x128, (broadcastInDim S4x1x1144x128 ![0, 2, 3] bcast_S4x1144x128_S4x1x1144x128_0_2_3 (shapeCast _ (extractStridedSlice S4x1x1144x128 ![0, 1, 0, 0] (shapeCast _ X shapeCasts_S9152x128_S4x2x1144x128) slices_S4x2x1144x128_S4x1x1144x128_0_1_0_0) shapeCasts_S4x1x1144x128_S4x1144x128))⟩, ⟨S4x1x1144x128, (broadcastInDim S4x1x1144x128 ![0, 2, 3] bcast_S4x1144x128_S4x1x1144x128_0_2_3 (shapeCast _ (extractStridedSlice S4x1x1144x128 ![0, 0, 0, 0] (shapeCast _ X shapeCasts_S9152x128_S4x2x1144x128) slices_S4x2x1144x128_S4x1x1144x128_0_0_0_0) shapeCasts_S4x1x1144x128_S4x1144x128))⟩] concatenates_S4x1x1144x128_S4x1x1144x128_S4x2x1144x128_d1) shapeCasts_S4x2x1144x128_S9152x128

theorem bigRef_apply (X : S16x4x35840x128.Idx → α) (c : Fin 8) (a : Fin 4) (r : Fin 35840) (l : Fin 128) :
    bigRef X (ix3 ⟨4 * c.val + a.val, by omega⟩ r l) = X (ix4 ⟨4 * (c.val / 2) + 2 * (1 - c.val % 2) + c.val % 2, by omega⟩ a r l) := by
  pointwise [bigRef]
  split_ifs with h
  all_goals exact congrArg (fun k => X (ix4 k a r l)) (Fin.ext (by dsimp only; omega))

theorem smallRef_apply (X : S9152x128.Idx → α) (c : Fin 8) (r : Fin 1144) (l : Fin 128) :
    smallRef X (ix2 ⟨1144 * c.val + r.val, by omega⟩ l) = X (ix2 ⟨1144 * (2 * (c.val / 2) + (1 - c.val % 2)) + r.val, by omega⟩ l) := by
  pointwise [smallRef]
  split_ifs with h
  all_goals exact congrArg (fun k => X (ix2 k l)) (Fin.ext (by dsimp only; omega))

end Ref

section Run
open Cert.SiblingIdeal Cert.SiblingIdeal.Gen Cert.SiblingRun

variable {F : FTy → Type} [FloatOps F]

theorem cast_apply {α : Type} (G : S1x4x35840x128.Idx → α) (h : S1x4x35840x128.ShapeCasts S4x35840x128) (a : Fin 4) (r : Fin 35840) (l : Fin 128) :
    shapeCast S4x35840x128 G h (ix3 a r l) = G (ix4 0 a r l) := by pointwise

theorem half_apply (d : Dev nD) (f : S2x4x35840x128.Idx → Elt F .f32) (a : Fin 4) (r : Fin 35840) (l : Fin 128) :
    (half d).view.read (Elt F) f (ix3 a r l) = f (ix4 ⟨1 - d.val % 2, by omega⟩ a r l) := by
  rw [Memref.read_squeeze_slice _ _ _ _ (show S1x4x35840x128.ShapeCasts S4x35840x128 by decide)]
  refine (cast_apply _ _ a r l).trans ?_
  show f _ = f _
  refine congrArg f (funext fun b => Fin.ext ?_)
  refine (congrArg (· + 1 * ((ix4 (0 : Fin 1) a r l : S1x4x35840x128.Idx) b).val) (congrFun (k0_off1_eq d) b)).trans ?_
  fin_cases b
  · show 1 - d.val % 2 + 1 * 0 = 1 - d.val % 2
    omega
  · show 0 + 1 * a.val = a.val
    omega
  · show 0 + 1 * r.val = r.val
    omega
  · show 0 + 1 * l.val = l.val
    omega

theorem small_read (f : S1144x128.Idx → Elt F .f32) : smallM.view.read (Elt F) f = f := View.read_whole _ _

theorem got0_eq (m : (ℓ : Loc nD τ sig) → Buf (Elt F) ℓ) (c : Dev nD) :
    got0 m c = (half (peerOf c)).view.read (Elt F) (m (((peerOf c).tc : Thread nD τ).loc main_arg0)) := View.write_whole_univ _ _ _
theorem got1_eq (m : (ℓ : Loc nD τ sig) → Buf (Elt F) ℓ) (c : Dev nD) :
    got1 m c = m (((peerOf c).tc : Thread nD τ).loc main_arg1) := by
  refine (View.write_whole_univ _ _ _).trans ?_
  exact View.read_whole _ _

theorem peer_val : ∀ c : Dev nD, (peerOf c).val = 2 * (c.val / 2) + (1 - c.val % 2) := by decide +kernel

/-- From blocks of `X`, the exchange leaves the reference's blocks. -/
theorem big_value (m : (ℓ : Loc nD τ sig) → Buf (Elt F) ℓ) (X : (⟨4, ![16, 4, 35840, 128]⟩ : Shape).Idx → Elt F .f32)
    (h : ∀ c : Dev nD, m ((c.tc : Thread nD τ).loc main_arg0) = Layout.block ⟨4, ![2, 4, 35840, 128]⟩ ⟨4, ![16, 4, 35840, 128]⟩ 0 8 c X) (c : Dev nD) :
    got0 m c = Layout.block ⟨3, ![4, 35840, 128]⟩ ⟨3, ![32, 35840, 128]⟩ 0 8 c (bigRef X) := by
  rw [got0_eq, h]
  funext i
  rw [eq_ix3 i]
  refine (half_apply _ _ (i 0) (i 1) (i 2)).trans ?_
  have hp := peer_val c
  have hc : c.val < 8 := c.isLt
  refine Eq.trans ?_ ((bigRef_apply X c (i 0) (i 1) (i 2)).symm.trans ?_)
  · rw [Layout.block_apply]
    refine congrArg X (funext fun b => Fin.ext ?_)
    rw [Layout.Tiles.idx_val]
    fin_cases b
    · show (peerOf c).val * 2 + (1 - (peerOf c).val % 2) = 4 * (c.val / 2) + 2 * (1 - c.val % 2) + c.val % 2
      omega
    all_goals rfl
  · rw [Layout.block_apply]
    refine congrArg (bigRef X) (funext fun b => Fin.ext ?_)
    rw [Layout.Tiles.idx_val]
    fin_cases b
    · show 4 * c.val + (i 0).val = c.val * 4 + (i 0).val
      omega
    all_goals rfl

theorem small_value (m : (ℓ : Loc nD τ sig) → Buf (Elt F) ℓ) (X : (⟨2, ![9152, 128]⟩ : Shape).Idx → Elt F .f32)
    (h : ∀ c : Dev nD, m ((c.tc : Thread nD τ).loc main_arg1) = Layout.block ⟨2, ![1144, 128]⟩ ⟨2, ![9152, 128]⟩ 0 8 c X) (c : Dev nD) :
    got1 m c = Layout.block ⟨2, ![1144, 128]⟩ ⟨2, ![9152, 128]⟩ 0 8 c (smallRef X) := by
  rw [got1_eq, h]
  funext i
  rw [eq_ix2 i]
  have hp := peer_val c
  have hc : c.val < 8 := c.isLt
  refine Eq.trans ?_ ((smallRef_apply X c (i 0) (i 1)).symm.trans ?_)
  · rw [Layout.block_apply]
    refine congrArg X (funext fun b => Fin.ext ?_)
    rw [Layout.Tiles.idx_val]
    fin_cases b
    · show (peerOf c).val * 1144 + (i 0).val = 1144 * (2 * (c.val / 2) + (1 - c.val % 2)) + (i 0).val
      omega
    all_goals rfl
  · rw [Layout.block_apply]
    refine congrArg (smallRef X) (funext fun b => Fin.ext ?_)
    rw [Layout.Tiles.idx_val]
    fin_cases b
    · show 1144 * c.val + (i 0).val = c.val * 1144 + (i 0).val
      omega
    all_goals rfl

end Run

end Cert.SiblingValue

end
-- ==== Proof.SiblingClaims.lean ====
/-
# The sibling exchange: its claims

The frames of the kernel and of the reference, and that the two agree: the kernel's run and the reference's are each
stated once, for any float values, and every claim is read off them.
-/
module

public import proofs.«01_k».proof.Defs
public import proofs.«01_k».proof.Proof.SiblingValue
public import proofs.«01_k».proof.Proof.Gen.Sibling
public import proofs.«01_k».proof.Proof.Gen.SiblingRefIdeal.Run
public import proofs.«01_k».proof.Proof.Gen.SiblingRef
public import proofs.«01_k».proof.Proof.Gen.SiblingRef.Run
public import Idealize.ShloMosaic.Lib.Quiescent

@[expose] public section

set_option Elab.async false
set_option maxRecDepth 16384

noncomputable section

namespace Cert.SiblingClaims

open Idealize.ShloMosaic Idealize.SL.Sem
open Idealize.ShloMosaic.TcCoe
open Cert.SiblingIdeal Cert.SiblingIdeal.Gen
open Cert.SiblingRun Cert.SiblingValue

variable {F : FTy → Type} [FloatOps F]

/-- The exchange keeps both arguments and returns every counter to zero. -/
theorem keeps (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c =>
      ⟨(h.1 c main_arg0 (by decide)).trans (Vf_arg0 m c), (h.1 c main_arg1 (by decide)).trans (Vf_arg1 m c)⟩,
    sem_eq_zero_of_scoped (by decide) h.2⟩) (run_main m g)

/-- From blocks of `X` and `Y` the exchange leaves blocks of what the reference makes of them. -/
theorem computes (m : (ℓ : Loc nD τ sig) → Buf (Elt F) ℓ) (g : Dev nD → PrngReg)
    (X : (⟨4, ![16, 4, 35840, 128]⟩ : Shape).Idx → Elt F .f32) (Y : (⟨2, ![9152, 128]⟩ : Shape).Idx → Elt F .f32)
    (h : ∀ c : Dev nD,
      m ((c.tc : Thread nD τ).loc main_arg0) = Layout.block ⟨4, ![2, 4, 35840, 128]⟩ ⟨4, ![16, 4, 35840, 128]⟩ 0 8 c X
      ∧ m ((c.tc : Thread nD τ).loc main_arg1) = Layout.block ⟨2, ![1144, 128]⟩ ⟨2, ![9152, 128]⟩ 0 8 c Y) :
    θ_run (defs (F := F)) (onTc (τ := τ) (main (F := F))) ⟨m, fun _ => 0, g⟩ fun r => ∀ c : Dev nD,
      r.2.mem ((c.tc : Thread nD τ).loc main_v1_0) = Layout.block ⟨3, ![4, 35840, 128]⟩ ⟨3, ![32, 35840, 128]⟩ 0 8 c (bigRef X)
      ∧ r.2.mem ((c.tc : Thread nD τ).loc main_v1_1) = Layout.block ⟨2, ![1144, 128]⟩ ⟨2, ![9152, 128]⟩ 0 8 c (smallRef Y)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ r c =>
      ⟨((r.1 c main_v1_0 (by decide)).trans (Vf_v0 m c)).trans (big_value m X (fun c => (h c).1) c),
        ((r.1 c main_v1_1 (by decide)).trans (Vf_v1 m c)).trans (small_value m Y (fun c => (h c).2) c),
        (r.1 c main_arg0 (by decide)).trans (Vf_arg0 m c), (r.1 c main_arg1 (by decide)).trans (Vf_arg1 m c)⟩) (run_main m g)

theorem frame_kernel : Cert.quiescent_Sibling := fun m g _ => keeps (F := Bits) m g
theorem frame_ideal : Cert.quiescent_SiblingIdeal := fun m g _ => keeps (F := Ideal) m g

theorem frame_ref_ideal : Cert.quiescent_SiblingRefIdeal := fun m g _ =>
  (θ_run Cert.SiblingRefIdeal.defs _ _).mono (fun r h => ⟨fun c => (h c).2.2, sem_eq_zero_of_no_sems (by decide) r.2⟩)
    (Cert.SiblingRefIdeal.Value.run (F := Ideal) m g)
theorem frame_ref : Cert.quiescent_SiblingRef := fun m g _ =>
  (θ_run Cert.SiblingRef.defs _ _).mono (fun r h => ⟨fun c => (h c).2.2, sem_eq_zero_of_no_sems (by decide) r.2⟩)
    (Cert.SiblingRef.Value.run (F := Bits) m g)

/-- Over the extended reals every device ends with its blocks of the reference's results. -/
theorem algebraic : Cert.algebraic_SiblingIdeal_SiblingRefIdeal := fun m g m' g' _ h =>
  ⟨_, _, computes (F := Ideal) m g _ _ h,
    (θ_run Cert.SiblingRefIdeal.defs _ _).mono (fun _ r => r 0) (Cert.SiblingRefIdeal.Value.run (F := Ideal) m' g')⟩

/-- And word by word. -/
theorem bitexact : Cert.bitexact_Sibling_SiblingRef := fun m g m' g' _ h =>
  ⟨_, _, computes (F := Bits) m g _ _ h,
    (θ_run Cert.SiblingRef.defs _ _).mono (fun _ r => r 0) (Cert.SiblingRef.Value.run (F := Bits) m' g')⟩

end Cert.SiblingClaims

end
-- ==== Proof.ChipsRun.lean ====
/-
# The exchange between chips: one run, over any floats

Each device has a stack of four rows, one for each chip, and one small block. It copies its own chip's row and the block into
its own slots of its two results, and sends the other rows and the block to the same core of the other three chips. Fourteen
completions: six sources' and six landings', and the two local copies'. In the end slot `q` of a device's results holds what
chip `q` had for its chip.
-/
module

public import proofs.«01_k».proof.Proof.Rows
public import proofs.«01_k».proof.Proof.Gen.ChipsIdeal.Skeleton
public import proofs.«01_k».proof.Proof.Gen.ChipsIdeal.Launch
public import Idealize.ShloMosaic.Lib.Tactic
public import Idealize.ShloMosaic.Lib.Transfers

@[expose] public section

set_option Elab.async false

noncomputable section

namespace Cert.ChipsRun

open Cert.ChipsIdeal Cert.ChipsIdeal.Gen Cert.Exchange

open Idealize.ShloMosaic
open Idealize.ShloMosaic.TcCoe
open Idealize.SL Idealize.SL.RA
open Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UU nD τ sig) ℕ

/-! ## Devices and slots -/

/-- The same core of the chips across x, across y and across both. -/
def xOf (c : Dev nD) : Dev nD := ⟨k0_dev1 c, k0_dev1_lt c⟩
def yOf (c : Dev nD) : Dev nD := ⟨k0_dev3 c, k0_dev3_lt c⟩
def zOf (c : Dev nD) : Dev nD := ⟨k0_dev5 c, k0_dev5_lt c⟩
theorem x_x : ∀ c : Dev nD, xOf (xOf c) = c := by decide +kernel
theorem y_y : ∀ c : Dev nD, yOf (yOf c) = c := by decide +kernel
theorem z_z : ∀ c : Dev nD, zOf (zOf c) = c := by decide +kernel
def xP : Equiv.Perm (Dev nD) := ⟨xOf, xOf, x_x, x_x⟩
def yP : Equiv.Perm (Dev nD) := ⟨yOf, yOf, y_y, y_y⟩
def zP : Equiv.Perm (Dev nD) := ⟨zOf, zOf, z_z, z_z⟩
theorem dev2_eq : ∀ c : Dev nD, (⟨k0_dev2 c, k0_dev2_lt c⟩ : Dev nD) = xOf c := by decide +kernel
theorem dev4_eq : ∀ c : Dev nD, (⟨k0_dev4 c, k0_dev4_lt c⟩ : Dev nD) = yOf c := by decide +kernel
theorem dev6_eq : ∀ c : Dev nD, (⟨k0_dev6 c, k0_dev6_lt c⟩ : Dev nD) = zOf c := by decide +kernel

/-- The rows of the two results, own chip first; the stack's rows are the first result's. -/
def offT (c : Dev nD) : Fin 4 → Fin 3 → ℕ := ![k0_off1 c, k0_off3 c, k0_off4 c, k0_off5 c]
def offB (c : Dev nD) : Fin 4 → Fin 3 → ℕ := ![k0_off2 c, k0_off6 c, k0_off7 c, k0_off8 c]
theorem inbT (c : Dev nD) (j : Fin 4) : Fits 4 35840 128 (offT c j) := by
  fin_cases j
  exacts [k0_off1_inb c, k0_off3_inb c, k0_off4_inb c, k0_off5_inb c]
theorem inbB (c : Dev nD) (j : Fin 4) : Fits 4 1144 128 (offB c j) := by
  fin_cases j
  exacts [k0_off2_inb c, k0_off6_inb c, k0_off7_inb c, k0_off8_inb c]
def slot (c : Dev nD) (j : Fin 4) : Fin 4 := ⟨offT c j 0 % 4, Nat.mod_lt _ (by decide)⟩
theorem offT_slot : ∀ (c : Dev nD) (j : Fin 4), offT c j = ![(slot c j).val, 0, 0] := by decide +kernel
theorem offB_slot : ∀ (c : Dev nD) (j : Fin 4), offB c j = ![(slot c j).val, 0, 0] := by decide +kernel
theorem slot_inj : ∀ c : Dev nD, Function.Injective (slot c) := by
  have h : ∀ (c : Dev nD) (i j : Fin 4), slot c i = slot c j → i = j := by decide +kernel
  exact fun c i j => h c i j
/-- Slot `j` of device `from_ j c` is written by `c`. -/
def from_ : Fin 4 → Equiv.Perm (Dev nD) := ![Equiv.refl _, xP, yP, zP]
theorem offT_own : ∀ (c : Dev nD) (j : Fin 4), offT (from_ j c) j = offT c 0 := by decide +kernel
theorem offB_own : ∀ (c : Dev nD) (j : Fin 4), offB (from_ j c) j = offB c 0 := by decide +kernel
/-- A device's chip; the device of chip `q` with the same core. -/
def chip (c : Dev nD) : Fin 4 := ⟨c.val / 2, Nat.div_lt_of_lt_mul c.isLt⟩
def dev (c : Dev nD) (q : Fin 4) : Dev nD := ⟨2 * q.val + c.val % 2, show 2 * q.val + c.val % 2 < 8 by omega⟩
theorem dev_own : ∀ (c : Dev nD) (j : Fin 4), dev (from_ j c) (slot c 0) = c := by decide +kernel
theorem chip_from : ∀ (c : Dev nD) (j : Fin 4), chip (from_ j c) = slot c j := by decide +kernel

abbrev tM : Memref sig .tc .hbm S4x35840x128 .bf16 := Memref.whole main_arg0
abbrev bM : Memref sig .tc .hbm S1144x128 .f32 := Memref.whole main_arg1
abbrev rM : Memref sig .tc .hbm S4x35840x128 .bf16 := Memref.whole main_v1_0
abbrev qM : Memref sig .tc .hbm S4x1144x128 .f32 := Memref.whole main_v1_1
abbrev src (o : Fin 3 → ℕ) (h : Fits 4 35840 128 o) : Memref sig .tc .hbm S35840x128 .bf16 := row tM o h squeezes_S1x35840x128_S35840x128
abbrev outT (o : Fin 3 → ℕ) (h : Fits 4 35840 128 o) : Memref sig .tc .hbm S35840x128 .bf16 := row rM o h squeezes_S1x35840x128_S35840x128
abbrev outB (o : Fin 3 → ℕ) (h : Fits 4 1144 128 o) : Memref sig .tc .hbm S1144x128 .f32 := row qM o h squeezes_S1x1144x128_S1144x128

def creditT : ℕ := (Memref.whole main_arg0 : Memref sig .tc .hbm S4x35840x128 .bf16).view.ref.dmaCredit S35840x128 .bf16
def creditB : ℕ := bM.view.dmaCredit

def plan : Plan nD sig 14 where
  sem := fun k => .dma k
  sem_inj := by intro a b h; injection h
  dest := ![Equiv.refl _, Equiv.refl _, Equiv.refl _, Equiv.refl _, Equiv.refl _, Equiv.refl _, xP, xP, yP, yP, zP, zP, Equiv.refl _, Equiv.refl _]
  amt := ![creditT, creditB, creditT, creditB, creditT, creditB, creditT, creditB, creditT, creditB, creditT, creditB, creditT, creditB]
  amt_pos := by
    have h0 : 0 < creditT := View.dmaCredit_pos (src (k0_off1 0) (k0_off1_inb 0)).view (by decide)
    have h1 : 0 < creditB := View.dmaCredit_pos _ (by decide)
    intro k; fin_cases k
    exacts [h0, h1, h0, h1, h0, h1, h0, h1, h0, h1, h0, h1, h0, h1]
  owed := {6, 7, 8, 9, 10, 11}
  lvl := fun _ => 0

/-! ## Contents -/

variable (m : (ℓ : Loc nD τ sig) → Buf (Elt F) ℓ)

abbrev stack (c : Dev nD) : Buf (Elt F) ((c.tc : Thread nD τ).loc main_arg0) := m ((c.tc : Thread nD τ).loc main_arg0)
abbrev block (c : Dev nD) : Buf (Elt F) ((c.tc : Thread nD τ).loc main_arg1) := m ((c.tc : Thread nD τ).loc main_arg1)
/-- In slot `q`, the row of chip `q`'s stack that is for this chip; the block of chip `q`. -/
def fullT (c : Dev nD) : Buf (Elt F) ((c.tc : Thread nD τ).loc main_v1_0) :=
  fun i : S4x35840x128.Idx => stack m (dev c (i 0)) (ix3 (chip c) (i 1) (i 2))
def fullB (c : Dev nD) : Buf (Elt F) ((c.tc : Thread nD τ).loc main_v1_1) :=
  fun i : S4x1144x128.Idx => block m (dev c (i 0)) (ix2 (i 1) (i 2))

/-- A slot of either result as it ends; a row of the own stack; a share of the own block. -/
def gotT (c : Dev nD) (j : Fin 4) : sProp 𝕄 := part c (outT (offT c j) (inbT c j)) fullShare (fullT m c)
def gotB (c : Dev nD) (j : Fin 4) : sProp 𝕄 := part c (outB (offB c j) (inbB c j)) fullShare (fullB m c)
def backT (c : Dev nD) (j : Fin 4) : sProp 𝕄 := part c (src (offT c j) (inbT c j)) fullShare (stack m c)
def backB (c : Dev nD) (j : Fin 4) : sProp 𝕄 := part c bM (Transfers.shareTok fullShare 4 j) (block m c)
instance gotT_storable (c : Dev nD) (j : Fin 4) : BI.Storable (upEmb : UEmb _ 𝕄) (gotT m c j) := by unfold gotT; infer_instance
instance gotB_storable (c : Dev nD) (j : Fin 4) : BI.Storable (upEmb : UEmb _ 𝕄) (gotB m c j) := by unfold gotB; infer_instance
instance backT_storable (c : Dev nD) (j : Fin 4) : BI.Storable (upEmb : UEmb _ 𝕄) (backT m c j) := by unfold backT; infer_instance
instance backB_storable (c : Dev nD) (j : Fin 4) : BI.Storable (upEmb : UEmb _ 𝕄) (backB m c j) := by unfold backB; infer_instance

def pay (c : Dev nD) : Fin 14 → sProp 𝕄 :=
  ![backT m c 1, backB m c 1, backT m c 2, backB m c 2, backT m c 3, backB m c 3,
    gotT m c 1, gotB m c 1, gotT m c 2, gotB m c 2, gotT m c 3, gotB m c 3,
    iprop(gotT m c 0 ∗ backT m c 0), iprop(gotB m c 0 ∗ backB m c 0)]

instance pay_storable (c : Dev nD) (k : Fin 14) : BI.Storable (upEmb : UEmb _ 𝕄) (pay m c k) := by
  have gt := gotT_storable m c
  have gb := gotB_storable m c
  have bt := backT_storable m c
  have bb := backB_storable m c
  have lt : BI.Storable (upEmb : UEmb _ 𝕄) iprop(gotT m c 0 ∗ backT m c 0) := inferInstance
  have lb : BI.Storable (upEmb : UEmb _ 𝕄) iprop(gotB m c 0 ∗ backB m c 0) := inferInstance
  fin_cases k
  exacts [bt 1, bb 1, bt 2, bb 2, bt 3, bb 3, gt 1, gb 1, gt 2, gb 2, gt 3, gb 3, lt, lb]

/-- The buffers at the end. -/
def Vf (c : Dev nD) : (b : Ref sig .tc) → Buf (Elt F) ((c.tc : Thread nD τ).loc b) :=
  Function.update (Function.update (fun b => m ((c.tc : Thread nD τ).loc b)) main_v1_0 (fullT m c)) main_v1_1 (fullB m c)
theorem Vf_arg0 (c : Dev nD) : Vf m c main_arg0 = stack m c := by
  unfold Vf; rw [Function.update_of_ne (by decide), Function.update_of_ne (by decide)]
theorem Vf_arg1 (c : Dev nD) : Vf m c main_arg1 = block m c := by
  unfold Vf; rw [Function.update_of_ne (by decide), Function.update_of_ne (by decide)]
theorem Vf_v0 (c : Dev nD) : Vf m c main_v1_0 = fullT m c := by
  unfold Vf; rw [Function.update_of_ne (by decide), Function.update_self]
theorem Vf_v1 (c : Dev nD) : Vf m c main_v1_1 = fullB m c := by
  unfold Vf; rw [Function.update_self]

/-! ## What a device starts from -/

/-- Its own stack and block, and the slots it writes, on the devices they lie on. -/
def start (c : Dev nD) : sProp 𝕄 :=
  iprop(part c tM fullShare (stack m c) ∗ part c bM fullShare (block m c)
    ∗ (bigSep Finset.univ fun j : Fin 4 => part (from_ j c) (outT (offT (from_ j c) j) (inbT (from_ j c) j)) fullShare (m (((from_ j c).tc : Thread nD τ).loc main_v1_0)))
    ∗ bigSep Finset.univ fun j : Fin 4 => part (from_ j c) (outB (offB (from_ j c) j) (inbB (from_ j c) j)) fullShare (m (((from_ j c).tc : Thread nD τ).loc main_v1_1)))

theorem all_bufs (c : Dev nD) (V : (b : Ref sig .tc) → Buf (Elt F) ((c.tc : Thread nD τ).loc b)) :
    (unscopedBufs c V : sProp 𝕄) = iprop(part c tM fullShare (V main_arg0) ∗ part c bM fullShare (V main_arg1)
      ∗ part c rM fullShare (V main_v1_0) ∗ part c qM fullShare (V main_v1_1)) := by
  rw [unscoped_all (cfg0.spec) (Fin.isEmpty : IsEmpty (Fin 0)) c V]
  unfold part
  rw [whole_pts, whole_pts, whole_pts, whole_pts]
  exact unscopedRest0_eq c V

theorem starts_split : (bigSep Finset.univ (fun c : Dev nD => unscopedBufs c (fun b => m ((c.tc : Thread nD τ).loc b))) : sProp 𝕄)
    ⊢ bigSep Finset.univ (start m) := by
  refine Entails.of_eq ?_
  rw [show (fun c : Dev nD => (unscopedBufs c (fun b => m ((c.tc : Thread nD τ).loc b)) : sProp 𝕄)) = _ from funext fun c => all_bufs c _]
  unfold start
  rw [bigSep_sep', bigSep_sep', bigSep_sep', bigSep_sep', bigSep_sep', bigSep_sep']
  exact congrArg₂ (fun X Y : sProp 𝕄 => iprop((bigSep Finset.univ fun c : Dev nD => part c tM fullShare (stack m c))
      ∗ (bigSep Finset.univ fun c : Dev nD => part c bM fullShare (block m c)) ∗ X ∗ Y))
    (rows_dealt rM offT inbT squeezes_S1x35840x128_S35840x128 slot offT_slot slot_inj from_ fullShare (fun c => m ((c.tc : Thread nD τ).loc main_v1_0)))
    (rows_dealt qM offB inbB squeezes_S1x1144x128_S1144x128 slot offB_slot slot_inj from_ fullShare (fun c => m ((c.tc : Thread nD τ).loc main_v1_1)))

/-- The slots this device writes on device `d`, as the kernel names them. -/
abbrev thereT (d c : Dev nD) : sProp 𝕄 := part d (outT (k0_off1 c) (k0_off1_inb c)) fullShare (m ((d.tc : Thread nD τ).loc main_v1_0))
abbrev thereB (d c : Dev nD) : sProp 𝕄 := part d (outB (k0_off2 c) (k0_off2_inb c)) fullShare (m ((d.tc : Thread nD τ).loc main_v1_1))

theorem start_slots (c : Dev nD) : start m c ⊢ iprop(part c tM fullShare (stack m c) ∗ part c bM fullShare (block m c)
    ∗ (thereT m c c ∗ thereT m (xOf c) c ∗ thereT m (yOf c) c ∗ thereT m (zOf c) c)
    ∗ thereB m c c ∗ thereB m ⟨k0_dev2 c, k0_dev2_lt c⟩ c ∗ thereB m ⟨k0_dev4 c, k0_dev4_lt c⟩ c ∗ thereB m ⟨k0_dev6 c, k0_dev6_lt c⟩ c) := by
  have hT : ∀ j : Fin 4, (part (from_ j c) (outT (offT (from_ j c) j) (inbT (from_ j c) j)) fullShare (m (((from_ j c).tc : Thread nD τ).loc main_v1_0)) : sProp 𝕄)
      = thereT m (from_ j c) c :=
    fun j => part_row rM (offT_own c j) (inbT (from_ j c) j) (inbT c 0) squeezes_S1x35840x128_S35840x128 (from_ j c) fullShare _
  have hB : ∀ j : Fin 4, (part (from_ j c) (outB (offB (from_ j c) j) (inbB (from_ j c) j)) fullShare (m (((from_ j c).tc : Thread nD τ).loc main_v1_1)) : sProp 𝕄)
      = thereB m (from_ j c) c :=
    fun j => part_row qM (offB_own c j) (inbB (from_ j c) j) (inbB c 0) squeezes_S1x1144x128_S1144x128 (from_ j c) fullShare _
  unfold start
  rw [sep_four, sep_four, hT 0, hT 1, hT 2, hT 3, hB 0, hB 1, hB 2, hB 3, dev2_eq, dev4_eq, dev6_eq]
  exact Entails.refl _

theorem stack_rows (c : Dev nD) : (part c tM fullShare (stack m c) : sProp 𝕄) = iprop(backT m c 0 ∗ backT m c 1 ∗ backT m c 2 ∗ backT m c 3) := by
  rw [rows tM (offT c) (inbT c) squeezes_S1x35840x128_S35840x128 (slot c) (offT_slot c) (slot_inj c) c fullShare (stack m c), sep_four]
  rfl
theorem slotsT_join (c : Dev nD) : iprop(gotT m c 0 ∗ gotT m c 1 ∗ gotT m c 2 ∗ gotT m c 3) ⊢ (part c rM fullShare (fullT m c) : sProp 𝕄) := by
  rw [rows rM (offT c) (inbT c) squeezes_S1x35840x128_S35840x128 (slot c) (offT_slot c) (slot_inj c) c fullShare (fullT m c), sep_four]
  exact Entails.refl _
theorem slotsB_join (c : Dev nD) : iprop(gotB m c 0 ∗ gotB m c 1 ∗ gotB m c 2 ∗ gotB m c 3) ⊢ (part c qM fullShare (fullB m c) : sProp 𝕄) := by
  rw [rows qM (offB c) (inbB c) squeezes_S1x1144x128_S1144x128 (slot c) (offB_slot c) (slot_inj c) c fullShare (fullB m c), sep_four]
  exact Entails.refl _
theorem block_split (c : Dev nD) : (part c bM fullShare (block m c) : sProp 𝕄)
    ⊢ iprop(part c bM (Transfers.shareDrop fullShare 4) (block m c) ∗ backB m c 0 ∗ backB m c 1 ∗ backB m c 2 ∗ backB m c 3) := by
  refine (Transfers.pointsTo_toks_split fullShare 4).trans ?_
  rw [sep_four]
  exact Entails.refl _
theorem block_join (c : Dev nD) : iprop(part c bM (Transfers.shareDrop fullShare 4) (block m c) ∗ backB m c 0 ∗ backB m c 1 ∗ backB m c 2 ∗ backB m c 3)
    ⊢ (part c bM fullShare (block m c) : sProp 𝕄) := by
  refine BI.Entails.trans ?_ (Transfers.pointsTo_toks_join fullShare 4)
  rw [sep_four]
  exact Entails.refl _

/-! ## What lands -/

theorem landsT (c d : Dev nD) (j : Fin 4) (hd : d = from_ j c) (fd : Buf (Elt F) ((d.tc : Thread nD τ).loc main_v1_0)) :
    (part d (outT (offT c 0) (inbT c 0)) fullShare ((outT (offT c 0) (inbT c 0)).view.write (Elt F) fd ((src (offT c j) (inbT c j)).view.read (Elt F) (stack m c)) Finset.univ) : sProp 𝕄)
      ⊢ gotT m d j := by
  subst hd
  refine (landed_at (c := ((from_ j c).tc : Thread nD τ)) (outT (offT c 0) (inbT c 0)) fd (fullT m (from_ j c)) ((src (offT c j) (inbT c j)).view.read (Elt F) (stack m c)) ?_).trans
    (Entails.of_eq (part_row rM (offT_own c j).symm _ _ _ _ _ _))
  funext i
  refine (read_row rM _ _ squeezes_S1x35840x128_S35840x128 (slot c 0) (offT_slot c 0) (fullT m (from_ j c)) i).trans ?_
  refine Eq.trans ?_ (read_row tM _ _ squeezes_S1x35840x128_S35840x128 (slot c j) (offT_slot c j) (stack m c) i).symm
  show stack m (dev (from_ j c) (slot c 0)) (ix3 (chip (from_ j c)) (i 0) (i 1)) = stack m c (ix3 (slot c j) (i 0) (i 1))
  rw [dev_own, chip_from]

theorem landsB (c d : Dev nD) (j : Fin 4) (hd : d = from_ j c) (fd : Buf (Elt F) ((d.tc : Thread nD τ).loc main_v1_1)) :
    (part d (outB (offB c 0) (inbB c 0)) fullShare ((outB (offB c 0) (inbB c 0)).view.write (Elt F) fd (bM.view.read (Elt F) (block m c)) Finset.univ) : sProp 𝕄)
      ⊢ gotB m d j := by
  subst hd
  refine (landed_at (c := ((from_ j c).tc : Thread nD τ)) (outB (offB c 0) (inbB c 0)) fd (fullB m (from_ j c)) (bM.view.read (Elt F) (block m c)) ?_).trans
    (Entails.of_eq (part_row qM (offB_own c j).symm _ _ _ _ _ _))
  funext i
  refine (read_row qM _ _ squeezes_S1x1144x128_S1144x128 (slot c 0) (offB_slot c 0) (fullB m (from_ j c)) i).trans ?_
  show block m (dev (from_ j c) (slot c 0)) (ix2 (i 0) (i 1)) = block m c i
  rw [dev_own]
  exact congrArg (block m c) (ix2_eta i)

/-! ## The body -/

variable (K : Dev nD × Fin 14 → ℕ)

set_option maxHeartbeats 8000000 in
theorem body_run (c : Dev nD) :
    iprop(st plan (pay m) K c plan.owed Finset.univ plan.owed Finset.univ ∗ start m c)
      ⊢ wp frame (wpE (defs₀ (F := F)) Variants.none (c.tc : Thread nD τ) none) Set.univ
          (cc0_rs_chips tM (Memref.isWhole_whole _) bM (Memref.isWhole_whole _) rM (Memref.isWhole_whole _) qM (Memref.isWhole_whole _) cc0_scratch0 cc0_scratch1 cc0_scratch2)
          (fun _ => iprop(st plan (pay m) K c ∅ ∅ ∅ ∅ ∗ unscopedBufs c (Vf m c))) := by
  simp only [cc0_rs_chips_eq_skeleton]; unfold cc0_rs_chips_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [Prog.lift, Prog.bind_op, Prog.bind_ret, Prog.pure_eq_ret, wp_deviceId]
  iintro ⟨Hst, Hs⟩
  ihave ⟨Ht, Hb, ⟨Hr0, Hr1, Hr2, Hr3⟩, Hq0, Hq1, Hq2, Hq3⟩ := (start_slots m c) $$ Hs
  ihave ⟨Ht0, Ht1, Ht2, Ht3⟩ := (Entails.of_eq (stack_rows m c)) $$ Ht
  ihave ⟨Hbr, Hb0, Hb1, Hb2, Hb3⟩ := (block_split m c) $$ Hb
  iapply (copy_step plan (pay m) Variants.none K c (defs := defs₀ (F := F)) (12 : Fin 14) rfl ?_ ?_ (src := src (k0_off1 c) (k0_off1_inb c)) (dst := outT (k0_off1 c) (k0_off1_inb c)) rfl rfl
    (BIClass.sep_mono (landsT m c c 0 rfl _) (Entails.refl _))) $$ [Hst Ht0 Hr0]
  rotate_left 2
  · isplitl [Hst]; · iexact Hst
    isplitl [Ht0]; · iapply (Entails.of_eq (show backT m c 0 = part c (src (k0_off1 c) (k0_off1_inb c)) fullShare (stack m c) from rfl)); iexact Ht0
    iexact Hr0
  iintro Hst
  iapply (copy_step plan (pay m) Variants.none K c (defs := defs₀ (F := F)) (13 : Fin 14) rfl ?_ ?_ (src := bM) (dst := outB (k0_off2 c) (k0_off2_inb c)) rfl rfl
    (BIClass.sep_mono (landsB m c c 0 rfl _) (Entails.refl _))) $$ [Hst Hb0 Hq0]
  rotate_left 2
  · isplitl [Hst]; · iexact Hst
    isplitl [Hb0]; · iapply (Entails.of_eq (show backB m c 0 = part c bM (Transfers.shareTok fullShare 4 0) (block m c) from rfl)); iexact Hb0
    iexact Hq0
  iintro Hst
  iapply (send_step plan (pay m) Variants.none K c (defs := defs₀ (F := F)) (0 : Fin 14) (6 : Fin 14) (d := xOf c) rfl rfl (show (6 : Fin 14) ≠ 0 by decide) ?_ ?_
    ?_ ?_ (src := src (k0_off3 c) (k0_off3_inb c)) (dst := outT (k0_off1 c) (k0_off1_inb c)) rfl rfl rfl rfl (Entails.refl _) (landsT m c _ 1 rfl _)) $$ [Hst Ht1 Hr1]
  rotate_left 4
  · isplitl [Hst]; · iexact Hst
    isplitl [Ht1]; · iapply (Entails.of_eq (show backT m c 1 = part c (src (k0_off3 c) (k0_off3_inb c)) fullShare (stack m c) from rfl)); iexact Ht1
    iexact Hr1
  iintro Hst
  iapply (send_step plan (pay m) Variants.none K c (defs := defs₀ (F := F)) (1 : Fin 14) (7 : Fin 14) (d := ⟨k0_dev2 c, k0_dev2_lt c⟩) (dev2_eq c) rfl (show (7 : Fin 14) ≠ 1 by decide) ?_ ?_
    ?_ ?_ (src := bM) (dst := outB (k0_off2 c) (k0_off2_inb c)) rfl rfl rfl rfl (Entails.refl _) (landsB m c _ 1 (dev2_eq c) _)) $$ [Hst Hb1 Hq1]
  rotate_left 4
  · isplitl [Hst]; · iexact Hst
    isplitl [Hb1]; · iapply (Entails.of_eq (show backB m c 1 = part c bM (Transfers.shareTok fullShare 4 1) (block m c) from rfl)); iexact Hb1
    iexact Hq1
  iintro Hst
  iapply (send_step plan (pay m) Variants.none K c (defs := defs₀ (F := F)) (2 : Fin 14) (8 : Fin 14) (d := yOf c) rfl rfl (show (8 : Fin 14) ≠ 2 by decide) ?_ ?_
    ?_ ?_ (src := src (k0_off4 c) (k0_off4_inb c)) (dst := outT (k0_off1 c) (k0_off1_inb c)) rfl rfl rfl rfl (Entails.refl _) (landsT m c _ 2 rfl _)) $$ [Hst Ht2 Hr2]
  rotate_left 4
  · isplitl [Hst]; · iexact Hst
    isplitl [Ht2]; · iapply (Entails.of_eq (show backT m c 2 = part c (src (k0_off4 c) (k0_off4_inb c)) fullShare (stack m c) from rfl)); iexact Ht2
    iexact Hr2
  iintro Hst
  iapply (send_step plan (pay m) Variants.none K c (defs := defs₀ (F := F)) (3 : Fin 14) (9 : Fin 14) (d := ⟨k0_dev4 c, k0_dev4_lt c⟩) (dev4_eq c) rfl (show (9 : Fin 14) ≠ 3 by decide) ?_ ?_
    ?_ ?_ (src := bM) (dst := outB (k0_off2 c) (k0_off2_inb c)) rfl rfl rfl rfl (Entails.refl _) (landsB m c _ 2 (dev4_eq c) _)) $$ [Hst Hb2 Hq2]
  rotate_left 4
  · isplitl [Hst]; · iexact Hst
    isplitl [Hb2]; · iapply (Entails.of_eq (show backB m c 2 = part c bM (Transfers.shareTok fullShare 4 2) (block m c) from rfl)); iexact Hb2
    iexact Hq2
  iintro Hst
  iapply (send_step plan (pay m) Variants.none K c (defs := defs₀ (F := F)) (4 : Fin 14) (10 : Fin 14) (d := zOf c) rfl rfl (show (10 : Fin 14) ≠ 4 by decide) ?_ ?_
    ?_ ?_ (src := src (k0_off5 c) (k0_off5_inb c)) (dst := outT (k0_off1 c) (k0_off1_inb c)) rfl rfl rfl rfl (Entails.refl _) (landsT m c _ 3 rfl _)) $$ [Hst Ht3 Hr3]
  rotate_left 4
  · isplitl [Hst]; · iexact Hst
    isplitl [Ht3]; · iapply (Entails.of_eq (show backT m c 3 = part c (src (k0_off5 c) (k0_off5_inb c)) fullShare (stack m c) from rfl)); iexact Ht3
    iexact Hr3
  iintro Hst
  iapply (send_step plan (pay m) Variants.none K c (defs := defs₀ (F := F)) (5 : Fin 14) (11 : Fin 14) (d := ⟨k0_dev6 c, k0_dev6_lt c⟩) (dev6_eq c) rfl (show (11 : Fin 14) ≠ 5 by decide) ?_ ?_
    ?_ ?_ (src := bM) (dst := outB (k0_off2 c) (k0_off2_inb c)) rfl rfl rfl rfl (Entails.refl _) (landsB m c _ 3 (dev6_eq c) _)) $$ [Hst Hb3 Hq3]
  rotate_left 4
  · isplitl [Hst]; · iexact Hst
    isplitl [Hb3]; · iapply (Entails.of_eq (show backB m c 3 = part c bM (Transfers.shareTok fullShare 4 3) (block m c) from rfl)); iexact Hb3
    iexact Hq3
  iintro Hst
  iapply (wait_step plan (pay m) Variants.none K c (defs := defs₀ (F := F)) (6 : Fin 14) ?_ ?_ ?_ rfl
    (wpE_waitDma2_eq Variants.none (c.tc : Thread nD τ) none Set.univ) rfl) $$ Hst
  rotate_left 3
  iintro ⟨Hst, Hr1⟩
  iapply (wait_step plan (pay m) Variants.none K c (defs := defs₀ (F := F)) (7 : Fin 14) ?_ ?_ ?_ rfl
    (wpE_waitDma2_eq Variants.none (c.tc : Thread nD τ) none Set.univ) rfl) $$ Hst
  rotate_left 3
  iintro ⟨Hst, Hq1⟩
  iapply (wait_step plan (pay m) Variants.none K c (defs := defs₀ (F := F)) (8 : Fin 14) ?_ ?_ ?_ rfl
    (wpE_waitDma2_eq Variants.none (c.tc : Thread nD τ) none Set.univ) rfl) $$ Hst
  rotate_left 3
  iintro ⟨Hst, Hr2⟩
  iapply (wait_step plan (pay m) Variants.none K c (defs := defs₀ (F := F)) (9 : Fin 14) ?_ ?_ ?_ rfl
    (wpE_waitDma2_eq Variants.none (c.tc : Thread nD τ) none Set.univ) rfl) $$ Hst
  rotate_left 3
  iintro ⟨Hst, Hq2⟩
  iapply (wait_step plan (pay m) Variants.none K c (defs := defs₀ (F := F)) (10 : Fin 14) ?_ ?_ ?_ rfl
    (wpE_waitDma2_eq Variants.none (c.tc : Thread nD τ) none Set.univ) rfl) $$ Hst
  rotate_left 3
  iintro ⟨Hst, Hr3⟩
  iapply (wait_step plan (pay m) Variants.none K c (defs := defs₀ (F := F)) (11 : Fin 14) ?_ ?_ ?_ rfl
    (wpE_waitDma2_eq Variants.none (c.tc : Thread nD τ) none Set.univ) rfl) $$ Hst
  rotate_left 3
  iintro ⟨Hst, Hq3⟩
  iapply (wait_step plan (pay m) Variants.none K c (defs := defs₀ (F := F)) (0 : Fin 14) ?_ ?_ ?_ rfl
    (wpE_waitDma2_eq Variants.none (c.tc : Thread nD τ) none Set.univ) rfl) $$ Hst
  rotate_left 3
  iintro ⟨Hst, Ht1⟩
  iapply (wait_step plan (pay m) Variants.none K c (defs := defs₀ (F := F)) (1 : Fin 14) ?_ ?_ ?_ rfl
    (wpE_waitDma2_eq Variants.none (c.tc : Thread nD τ) none Set.univ) rfl) $$ Hst
  rotate_left 3
  iintro ⟨Hst, Hb1⟩
  iapply (wait_step plan (pay m) Variants.none K c (defs := defs₀ (F := F)) (2 : Fin 14) ?_ ?_ ?_ rfl
    (wpE_waitDma2_eq Variants.none (c.tc : Thread nD τ) none Set.univ) rfl) $$ Hst
  rotate_left 3
  iintro ⟨Hst, Ht2⟩
  iapply (wait_step plan (pay m) Variants.none K c (defs := defs₀ (F := F)) (3 : Fin 14) ?_ ?_ ?_ rfl
    (wpE_waitDma2_eq Variants.none (c.tc : Thread nD τ) none Set.univ) rfl) $$ Hst
  rotate_left 3
  iintro ⟨Hst, Hb2⟩
  iapply (wait_step plan (pay m) Variants.none K c (defs := defs₀ (F := F)) (4 : Fin 14) ?_ ?_ ?_ rfl
    (wpE_waitDma2_eq Variants.none (c.tc : Thread nD τ) none Set.univ) rfl) $$ Hst
  rotate_left 3
  iintro ⟨Hst, Ht3⟩
  iapply (wait_step plan (pay m) Variants.none K c (defs := defs₀ (F := F)) (5 : Fin 14) ?_ ?_ ?_ rfl
    (wpE_waitDma2_eq Variants.none (c.tc : Thread nD τ) none Set.univ) rfl) $$ Hst
  rotate_left 3
  iintro ⟨Hst, Hb3⟩
  iapply (wait_step plan (pay m) Variants.none K c (defs := defs₀ (F := F)) (12 : Fin 14) ?_ ?_ ?_ rfl
    (wpE_waitDma2_eq Variants.none (c.tc : Thread nD τ) none Set.univ) rfl) $$ Hst
  rotate_left 3
  iintro ⟨Hst, HlT⟩
  iapply (wait_step plan (pay m) Variants.none K c (defs := defs₀ (F := F)) (13 : Fin 14) ?_ ?_ ?_ rfl
    (wpE_waitDma2_eq Variants.none (c.tc : Thread nD τ) none Set.univ) rfl) $$ Hst
  rotate_left 3
  iintro ⟨Hst, HlB⟩
  rw [wp_ret]; imodintro
  rw [all_bufs, Vf_arg0, Vf_arg1, Vf_v0, Vf_v1]
  ihave ⟨Hr0, Ht0⟩ := (Entails.of_eq (show pay m c 12 = iprop(gotT m c 0 ∗ backT m c 0) from rfl)) $$ HlT
  ihave ⟨Hq0, Hb0⟩ := (Entails.of_eq (show pay m c 13 = iprop(gotB m c 0 ∗ backB m c 0) from rfl)) $$ HlB
  isplitl [Hst]
  · iapply (Entails.of_eq (show st plan (pay m) K c _ _ _ _ = st plan (pay m) K c ∅ ∅ ∅ ∅ from by congr 1)); iexact Hst
  isplitl [Ht0 Ht1 Ht2 Ht3]
  · iapply (Entails.of_eq (stack_rows m c).symm)
    isplitl [Ht0]; · iexact Ht0
    isplitl [Ht1]; · iapply (Entails.of_eq (show pay m c 0 = backT m c 1 from rfl)); iexact Ht1
    isplitl [Ht2]; · iapply (Entails.of_eq (show pay m c 2 = backT m c 2 from rfl)); iexact Ht2
    iapply (Entails.of_eq (show pay m c 4 = backT m c 3 from rfl)); iexact Ht3
  isplitl [Hbr Hb0 Hb1 Hb2 Hb3]
  · iapply (block_join m c)
    isplitl [Hbr]; · iexact Hbr
    isplitl [Hb0]; · iexact Hb0
    isplitl [Hb1]; · iapply (Entails.of_eq (show pay m c 1 = backB m c 1 from rfl)); iexact Hb1
    isplitl [Hb2]; · iapply (Entails.of_eq (show pay m c 3 = backB m c 2 from rfl)); iexact Hb2
    iapply (Entails.of_eq (show pay m c 5 = backB m c 3 from rfl)); iexact Hb3
  isplitl [Hr0 Hr1 Hr2 Hr3]
  · iapply (slotsT_join m c)
    isplitl [Hr0]; · iexact Hr0
    isplitl [Hr1]; · iapply (Entails.of_eq (show pay m c 6 = gotT m c 1 from rfl)); iexact Hr1
    isplitl [Hr2]; · iapply (Entails.of_eq (show pay m c 8 = gotT m c 2 from rfl)); iexact Hr2
    iapply (Entails.of_eq (show pay m c 10 = gotT m c 3 from rfl)); iexact Hr3
  iapply (slotsB_join m c)
  isplitl [Hq0]; · iexact Hq0
  isplitl [Hq1]; · iapply (Entails.of_eq (show pay m c 7 = gotB m c 1 from rfl)); iexact Hq1
  isplitl [Hq2]; · iapply (Entails.of_eq (show pay m c 9 = gotB m c 2 from rfl)); iexact Hq2
  iapply (Entails.of_eq (show pay m c 11 = gotB m c 3 from rfl)); iexact Hq3
  all_goals decide

theorem own_sems : OwnSemFacts (cfg0.spec) plan.sem := by decide

theorem run_main (m : (ℓ : Loc nD τ sig) → Buf (Elt F) ℓ) (g : Dev nD → PrngReg) :
    θ_run (defs (F := F)) (onTc (τ := τ) (main (F := F))) ⟨m, fun _ => 0, g⟩
      (fun r => (∀ (c : Dev nD) (b : Ref sig .tc), ¬ b.isScoped → r.2.mem ((c.tc : Thread nD τ).loc b) = Vf m c b)
        ∧ ∀ s : GSem nD τ sig, (s.1.2 ≠ .tc ∨ s.2.isScoped .tc = true) → r.2.sem s = 0) := by
  refine Exchange.run plan (pay m) cfg0 N_0 (Fin.isEmpty : IsEmpty (Fin 0)) cellOf_inj winFacts0.to₀ own_sems
    (fun c => scopedRest0_eq c) defs₀ m g main (fun _ => rfl) (start m) (Vf m) (starts_split m) ?_
  intro K c t
  exact body_run m K c

end Cert.ChipsRun

end
-- ==== Proof.ChipsValue.lean ====
/-
# The exchange between chips: what it computes

Device `c = 2 p + k` (chip `p`, core `k`) receives from core `k` of each chip `q` the row of its stack with number `p`, and
its small block. The reference writes this as an exchange of the chip axis and the row axis of the whole stack; both are
read here at one element.
-/
module

public import proofs.«01_k».proof.Proof.ChipsRun
public import proofs.«01_k».proof.Proof.Gen.ChipsRefIdeal
public import Idealize.ShloMosaic.Lib.Layout
public import Idealize.ShloMosaic.Lib.Pipeline.Value
public import Idealize.ShloMosaic.Lib.PointwiseCore

@[expose] public section

set_option Elab.async false
set_option maxRecDepth 16384

noncomputable section

namespace Cert.ChipsValue

open Idealize.ShloMosaic
open Idealize.ShloMosaic.TcCoe

section Ref
open Cert.ChipsRefIdeal Cert.ChipsRefIdeal.Gen

variable {α : Type}

/-- The reference's first result, of the whole stack. -/
def rowsRef (X : S32x35840x128.Idx → α) : S32x35840x128.Idx → α :=
  shapeCast _ (transpose S4x2x4x35840x128 [2, 1, 0, 3, 4] (shapeCast _ X shapeCasts_S32x35840x128_S4x2x4x35840x128) transposes_S4x2x4x35840x128_S4x2x4x35840x128_2_1_0_3_4) shapeCasts_S4x2x4x35840x128_S32x35840x128

/-- The reference's second result, of the whole small array. -/
def blocksRef (X : S9152x128.Idx → α) : S32x1144x128.Idx → α :=
  shapeCast _ (broadcastInDim S4x2x4x1144x128 ![1, 2, 3, 4] bcast_S2x4x1144x128_S4x2x4x1144x128_1_2_3_4 (transpose S2x4x1144x128 [1, 0, 2, 3] (shapeCast _ X shapeCasts_S9152x128_S4x2x1144x128) transposes_S4x2x1144x128_S2x4x1144x128_1_0_2_3)) shapeCasts_S4x2x4x1144x128_S32x1144x128

theorem rowsRef_apply (X : S32x35840x128.Idx → α) (c : Fin 8) (q : Fin 4) (r : Fin 35840) (l : Fin 128) :
    rowsRef X (ix3 ⟨4 * c.val + q.val, by omega⟩ r l) = X (ix3 ⟨8 * q.val + 4 * (c.val % 2) + c.val / 2, by omega⟩ r l) := by
  pointwise [rowsRef]
  all_goals exact congrArg (fun k => X (ix3 k r l)) (Fin.ext (by dsimp only; omega))

theorem blocksRef_apply (X : S9152x128.Idx → α) (c : Fin 8) (q : Fin 4) (r : Fin 1144) (l : Fin 128) :
    blocksRef X (ix3 ⟨4 * c.val + q.val, by omega⟩ r l) = X (ix2 ⟨1144 * (2 * q.val + c.val % 2) + r.val, by omega⟩ l) := by
  pointwise [blocksRef]
  all_goals exact congrArg (fun k => X (ix2 k l)) (Fin.ext (by dsimp only; omega))

end Ref

section Run
open Cert.ChipsIdeal Cert.ChipsIdeal.Gen Cert.ChipsRun

variable {F : FTy → Type} [FloatOps F]

/-- From blocks of `X`, the exchange leaves the reference's blocks. -/
theorem rows_value (m : (ℓ : Loc nD τ sig) → Buf (Elt F) ℓ) (X : (⟨3, ![32, 35840, 128]⟩ : Shape).Idx → Elt F .bf16)
    (h : ∀ c : Dev nD, m ((c.tc : Thread nD τ).loc main_arg0) = Layout.block ⟨3, ![4, 35840, 128]⟩ ⟨3, ![32, 35840, 128]⟩ 0 8 c X) (c : Dev nD) :
    fullT m c = Layout.block ⟨3, ![4, 35840, 128]⟩ ⟨3, ![32, 35840, 128]⟩ 0 8 c (rowsRef X) := by
  funext i
  rw [eq_ix3 i]
  have hc : c.val < 8 := c.isLt
  have hq : (i 0).val < 4 := (i 0).isLt
  refine Eq.trans ?_ ((rowsRef_apply X c (i 0) (i 1) (i 2)).symm.trans ?_)
  · show m (((dev c (i 0)).tc : Thread nD τ).loc main_arg0) (ix3 (chip c) (i 1) (i 2)) = _
    rw [h, Layout.block_apply]
    refine congrArg X (funext fun b => Fin.ext ?_)
    rw [Layout.Tiles.idx_val]
    fin_cases b
    · show (2 * (i 0).val + c.val % 2) * 4 + c.val / 2 = 8 * (i 0).val + 4 * (c.val % 2) + c.val / 2
      omega
    all_goals rfl
  · rw [Layout.block_apply]
    refine congrArg (rowsRef X) (funext fun b => Fin.ext ?_)
    rw [Layout.Tiles.idx_val]
    fin_cases b
    · show 4 * c.val + (i 0).val = c.val * 4 + (i 0).val
      omega
    all_goals rfl

theorem blocks_value (m : (ℓ : Loc nD τ sig) → Buf (Elt F) ℓ) (X : (⟨2, ![9152, 128]⟩ : Shape).Idx → Elt F .f32)
    (h : ∀ c : Dev nD, m ((c.tc : Thread nD τ).loc main_arg1) = Layout.block ⟨2, ![1144, 128]⟩ ⟨2, ![9152, 128]⟩ 0 8 c X) (c : Dev nD) :
    fullB m c = Layout.block ⟨3, ![4, 1144, 128]⟩ ⟨3, ![32, 1144, 128]⟩ 0 8 c (blocksRef X) := by
  funext i
  rw [eq_ix3 i]
  have hc : c.val < 8 := c.isLt
  have hq : (i 0).val < 4 := (i 0).isLt
  refine Eq.trans ?_ ((blocksRef_apply X c (i 0) (i 1) (i 2)).symm.trans ?_)
  · show m (((dev c (i 0)).tc : Thread nD τ).loc main_arg1) (ix2 (i 1) (i 2)) = _
    rw [h, Layout.block_apply]
    refine congrArg X (funext fun b => Fin.ext ?_)
    rw [Layout.Tiles.idx_val]
    fin_cases b
    · show (2 * (i 0).val + c.val % 2) * 1144 + (i 1).val = 1144 * (2 * (i 0).val + c.val % 2) + (i 1).val
      omega
    all_goals rfl
  · rw [Layout.block_apply]
    refine congrArg (blocksRef X) (funext fun b => Fin.ext ?_)
    rw [Layout.Tiles.idx_val]
    fin_cases b
    · show 4 * c.val + (i 0).val = c.val * 4 + (i 0).val
      omega
    all_goals rfl

end Run

end Cert.ChipsValue

end
-- ==== Proof.ChipsClaims.lean ====
/-
# The exchange between chips: its claims

The frames of the kernel and of the reference, and that the two agree: the kernel's run and the reference's are each
stated once, for any float values, and every claim is read off them.
-/
module

public import proofs.«01_k».proof.Defs
public import proofs.«01_k».proof.Proof.ChipsValue
public import proofs.«01_k».proof.Proof.Gen.Chips
public import proofs.«01_k».proof.Proof.Gen.ChipsRefIdeal.Run
public import proofs.«01_k».proof.Proof.Gen.ChipsRef
public import proofs.«01_k».proof.Proof.Gen.ChipsRef.Run
public import Idealize.ShloMosaic.Lib.Quiescent

@[expose] public section

set_option Elab.async false
set_option maxRecDepth 16384

noncomputable section

namespace Cert.ChipsClaims

open Idealize.ShloMosaic Idealize.SL.Sem
open Idealize.ShloMosaic.TcCoe
open Cert.ChipsIdeal Cert.ChipsIdeal.Gen
open Cert.ChipsRun Cert.ChipsValue

variable {F : FTy → Type} [FloatOps F]

/-- The exchange keeps both arguments and returns every counter to zero. -/
theorem keeps (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c =>
      ⟨(h.1 c main_arg0 (by decide)).trans (Vf_arg0 m c), (h.1 c main_arg1 (by decide)).trans (Vf_arg1 m c)⟩,
    sem_eq_zero_of_scoped (by decide) h.2⟩) (run_main m g)

/-- From blocks of `X` and `Y` the exchange leaves blocks of what the reference makes of them. -/
theorem computes (m : (ℓ : Loc nD τ sig) → Buf (Elt F) ℓ) (g : Dev nD → PrngReg)
    (X : (⟨3, ![32, 35840, 128]⟩ : Shape).Idx → Elt F .bf16) (Y : (⟨2, ![9152, 128]⟩ : Shape).Idx → Elt F .f32)
    (h : ∀ c : Dev nD,
      m ((c.tc : Thread nD τ).loc main_arg0) = Layout.block ⟨3, ![4, 35840, 128]⟩ ⟨3, ![32, 35840, 128]⟩ 0 8 c X
      ∧ m ((c.tc : Thread nD τ).loc main_arg1) = Layout.block ⟨2, ![1144, 128]⟩ ⟨2, ![9152, 128]⟩ 0 8 c Y) :
    θ_run (defs (F := F)) (onTc (τ := τ) (main (F := F))) ⟨m, fun _ => 0, g⟩ fun r => ∀ c : Dev nD,
      r.2.mem ((c.tc : Thread nD τ).loc main_v1_0) = Layout.block ⟨3, ![4, 35840, 128]⟩ ⟨3, ![32, 35840, 128]⟩ 0 8 c (rowsRef X)
      ∧ r.2.mem ((c.tc : Thread nD τ).loc main_v1_1) = Layout.block ⟨3, ![4, 1144, 128]⟩ ⟨3, ![32, 1144, 128]⟩ 0 8 c (blocksRef Y)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ r c =>
      ⟨((r.1 c main_v1_0 (by decide)).trans (Vf_v0 m c)).trans (rows_value m X (fun c => (h c).1) c),
        ((r.1 c main_v1_1 (by decide)).trans (Vf_v1 m c)).trans (blocks_value m Y (fun c => (h c).2) c),
        (r.1 c main_arg0 (by decide)).trans (Vf_arg0 m c), (r.1 c main_arg1 (by decide)).trans (Vf_arg1 m c)⟩) (run_main m g)

theorem frame_kernel : Cert.quiescent_Chips := fun m g _ => keeps (F := Bits) m g
theorem frame_ideal : Cert.quiescent_ChipsIdeal := fun m g _ => keeps (F := Ideal) m g

theorem frame_ref_ideal : Cert.quiescent_ChipsRefIdeal := fun m g _ =>
  (θ_run Cert.ChipsRefIdeal.defs _ _).mono (fun r h => ⟨fun c => (h c).2.2, sem_eq_zero_of_no_sems (by decide) r.2⟩)
    (Cert.ChipsRefIdeal.Value.run (F := Ideal) m g)
theorem frame_ref : Cert.quiescent_ChipsRef := fun m g _ =>
  (θ_run Cert.ChipsRef.defs _ _).mono (fun r h => ⟨fun c => (h c).2.2, sem_eq_zero_of_no_sems (by decide) r.2⟩)
    (Cert.ChipsRef.Value.run (F := Bits) m g)

/-- Over the extended reals every device ends with its blocks of the reference's results. -/
theorem algebraic : Cert.algebraic_ChipsIdeal_ChipsRefIdeal := fun m g m' g' _ h =>
  ⟨_, _, computes (F := Ideal) m g _ _ h,
    (θ_run Cert.ChipsRefIdeal.defs _ _).mono (fun _ r => r 0) (Cert.ChipsRefIdeal.Value.run (F := Ideal) m' g')⟩

/-- And word by word. -/
theorem bitexact : Cert.bitexact_Chips_ChipsRef := fun m g m' g' _ h =>
  ⟨_, _, computes (F := Bits) m g _ _ h,
    (θ_run Cert.ChipsRef.defs _ _).mono (fun _ r => r 0) (Cert.ChipsRef.Value.run (F := Bits) m' g')⟩

end Cert.ChipsClaims

end
-- ==== Proof.Adam.lean ====
/-
# AdamW: what one entry becomes

The update is entry by entry, so its three results are stated once, for arrays of any shape, and every weight's call is
read at its own shape.
-/
module

public import Idealize.ShloMosaic.Lib.StableHlo.Run
public import Idealize.ShloMosaic.PureOps.Ideal

@[expose] public section

set_option Elab.async false

noncomputable section

namespace Cert.Adam

open Idealize.ShloMosaic Idealize.SL.Sem

variable {F : FTy → Type} [FloatOps F]

/-- The first moment: 0.9 of the old one and 0.1 of the gradient. -/
def mean (m g : F .f32) : F .f32 :=
  FloatOps.addf (FloatOps.mulf (Scalar.ofBits .f32 0x3F666666#32) m) (FloatOps.mulf (Scalar.ofBits .f32 0x3DCCCCCD#32) g)

/-- The second moment: 0.999 of the old one and 0.001 of the gradient's square. -/
def meanSq (v g : F .f32) : F .f32 :=
  FloatOps.addf (FloatOps.mulf (Scalar.ofBits .f32 0x3F7FBE77#32) v)
    (FloatOps.mulf (Scalar.ofBits .f32 0x3A83126F#32) (FloatOps.mulf g g))

/-- The step: the moments without their bias, one over the root of the other, with the weight's decay. -/
def step (w g m v : F .f32) : F .f32 :=
  FloatOps.mulf (Scalar.ofBits .f32 0xBA83126F#32)
    (FloatOps.addf
      (FloatOps.divf (FloatOps.divf (mean m g) (Scalar.ofBits .f32 0x3F26BD02#32))
        (FloatOps.addf (FloatOps.sqrt (FloatOps.divf (meanSq v g) (Scalar.ofBits .f32 0x3C231ACC#32)))
          (Scalar.ofBits .f32 0x322BCC77#32)))
      (FloatOps.mulf (Scalar.ofBits .f32 0x3C23D70A#32) w))

variable {S : Shape} (one : (⟨0, ![]⟩ : Shape).BroadcastsInDim S (![] : Fin 0 → Fin S.rank))

/-- A number spread over the whole array. -/
abbrev spread (bits : BitVec 32) : S.Idx → F .f32 := broadcastInDim S ![] one (constant ⟨0, ![]⟩ .f32 bits)

/-- The reference's first moment is `mean`, entry by entry. -/
theorem mean_eq (g m : S.Idx → F .f32) :
    addf (mulf (spread one 0x3F666666#32) m) (mulf (spread one 0x3DCCCCCD#32) g) = fun i => mean (m i) (g i) := rfl

/-- The reference's second moment is `meanSq`, entry by entry. -/
theorem meanSq_eq (g v : S.Idx → F .f32) :
    addf (mulf (spread one 0x3F7FBE77#32) v) (mulf (spread one 0x3A83126F#32) (mulf g g)) = fun i => meanSq (v i) (g i) := rfl

/-- Over the extended reals the reference's step is `step`, entry by entry: there the host's quotient and root are the
kernel's. -/
theorem step_eq (w g m v : S.Idx → Ideal .f32) :
    mulf (spread one 0xBA83126F#32)
      (addf
        (Host.divf (Host.divf (addf (mulf (spread one 0x3F666666#32) m) (mulf (spread one 0x3DCCCCCD#32) g)) (spread one 0x3F26BD02#32))
          (addf (Host.sqrt (Host.divf (addf (mulf (spread one 0x3F7FBE77#32) v) (mulf (spread one 0x3A83126F#32) (mulf g g)))
            (spread one 0x3C231ACC#32))) (spread one 0x322BCC77#32)))
        (mulf (spread one 0x3C23D70A#32) w))
      = fun i => step (w i) (g i) (m i) (v i) := by
  rw [mean_eq, meanSq_eq]
  funext i
  simp only [mulf, addf, Host.divf, Host.sqrt, step, Ideal.hostDivf_def, Ideal.hostUnary_sqrt_def, Ideal.divf_def, Ideal.sqrt_def]
  rfl

/-- So where the reference starts from the kernel's arguments it ends with the kernel's results. -/
theorem agree {w g m v w' g' m' v' d a b : S.Idx → Ideal .f32} {P : Prop} (h : w' = w ∧ g' = g ∧ m' = m ∧ v' = v)
    (r : d = mulf (spread one 0xBA83126F#32)
        (addf
          (Host.divf (Host.divf (addf (mulf (spread one 0x3F666666#32) m') (mulf (spread one 0x3DCCCCCD#32) g')) (spread one 0x3F26BD02#32))
            (addf (Host.sqrt (Host.divf (addf (mulf (spread one 0x3F7FBE77#32) v') (mulf (spread one 0x3A83126F#32) (mulf g' g')))
              (spread one 0x3C231ACC#32))) (spread one 0x322BCC77#32)))
          (mulf (spread one 0x3C23D70A#32) w'))
      ∧ a = addf (mulf (spread one 0x3F666666#32) m') (mulf (spread one 0x3DCCCCCD#32) g')
      ∧ b = addf (mulf (spread one 0x3F7FBE77#32) v') (mulf (spread one 0x3A83126F#32) (mulf g' g'))
      ∧ P) :
    d = (fun i => step (w i) (g i) (m i) (v i)) ∧ a = (fun i => mean (m i) (g i)) ∧ b = (fun i => meanSq (v i) (g i)) ∧ P := by
  obtain ⟨rfl, rfl, rfl, rfl⟩ := h
  exact ⟨r.1.trans (step_eq one _ _ _ _), r.2.1.trans (mean_eq one _ _), r.2.2.1.trans (meanSq_eq one _ _), r.2.2.2⟩

end Cert.Adam

end
-- ==== Proof.AdamClaims.lean ====
/-
# AdamW: the claims

One call for each shape. The kernel's run and the reference's give each result as one function of the arguments, entry by
entry, and the reference's three functions are the kernel's.
-/
module

public import proofs.«01_k».proof.Defs
public import proofs.«01_k».proof.Proof.Adam
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamPoolUp.Frame
public import proofs.«01_k».proof.Proof.Gen.AdamPoolUpIdeal.Value
public import proofs.«01_k».proof.Proof.Gen.AdamPoolUpRefIdeal.Run
public import proofs.«01_k».proof.Proof.Gen.AdamConvOut.Frame
public import proofs.«01_k».proof.Proof.Gen.AdamConvOutIdeal.Value
public import proofs.«01_k».proof.Proof.Gen.AdamConvOutRefIdeal.Run
public import proofs.«01_k».proof.Proof.Gen.AdamAttnUp.Frame
public import proofs.«01_k».proof.Proof.Gen.AdamAttnUpIdeal.Value
public import proofs.«01_k».proof.Proof.Gen.AdamAttnUpRefIdeal.Run
public import proofs.«01_k».proof.Proof.Gen.AdamO.Frame
public import proofs.«01_k».proof.Proof.Gen.AdamOIdeal.Value
public import proofs.«01_k».proof.Proof.Gen.AdamORefIdeal.Run
public import proofs.«01_k».proof.Proof.Gen.AdamFf1.Frame
public import proofs.«01_k».proof.Proof.Gen.AdamFf1Ideal.Value
public import proofs.«01_k».proof.Proof.Gen.AdamFf1RefIdeal.Run
public import proofs.«01_k».proof.Proof.Gen.AdamFf2.Frame
public import proofs.«01_k».proof.Proof.Gen.AdamFf2Ideal.Value
public import proofs.«01_k».proof.Proof.Gen.AdamFf2RefIdeal.Run
public import proofs.«01_k».proof.Proof.Gen.AdamSmall.Frame
public import proofs.«01_k».proof.Proof.Gen.AdamSmallIdeal.Value
public import proofs.«01_k».proof.Proof.Gen.AdamSmallRefIdeal.Run
public import Idealize.ShloMosaic.Lib.Quiescent

@[expose] public section

set_option Elab.async false
set_option maxRecDepth 16384

noncomputable section

open Idealize.ShloMosaic Idealize.SL.Sem
open Idealize.ShloMosaic.TcCoe

namespace Cert.AdamIn.Claims

theorem frame_kernel : Cert.quiescent_AdamIn := fun m g _ => Cert.AdamIn.Gen.frame (F := Bits) m g
theorem frame_ideal : Cert.quiescent_AdamInIdeal := fun m g _ => Cert.AdamInIdeal.Gen.frame (F := Ideal) m g
theorem frame_ref : Cert.quiescent_AdamInRefIdeal := fun m g _ =>
  (θ_run Cert.AdamInRefIdeal.defs _ _).mono (fun r h => ⟨fun c => (h c).2.2.2, sem_eq_zero_of_no_sems (by decide) r.2⟩)
    (Cert.AdamInRefIdeal.Value.run (F := Ideal) m g)

theorem algebraic : Cert.algebraic_AdamInIdeal_AdamInRefIdeal := fun m g m' g' _ h =>
  ⟨_, _, _, Cert.AdamInIdeal.Value.run (F := Ideal) m g,
    (θ_run Cert.AdamInRefIdeal.defs _ _).mono (fun _ r c => Cert.Adam.agree _ (h c) (r c))
      (Cert.AdamInRefIdeal.Value.run (F := Ideal) m' g')⟩

end Cert.AdamIn.Claims

namespace Cert.AdamPoolUp.Claims

theorem frame_kernel : Cert.quiescent_AdamPoolUp := fun m g _ => Cert.AdamPoolUp.Gen.frame (F := Bits) m g
theorem frame_ideal : Cert.quiescent_AdamPoolUpIdeal := fun m g _ => Cert.AdamPoolUpIdeal.Gen.frame (F := Ideal) m g
theorem frame_ref : Cert.quiescent_AdamPoolUpRefIdeal := fun m g _ =>
  (θ_run Cert.AdamPoolUpRefIdeal.defs _ _).mono (fun r h => ⟨fun c => (h c).2.2.2, sem_eq_zero_of_no_sems (by decide) r.2⟩)
    (Cert.AdamPoolUpRefIdeal.Value.run (F := Ideal) m g)

theorem algebraic : Cert.algebraic_AdamPoolUpIdeal_AdamPoolUpRefIdeal := fun m g m' g' _ h =>
  ⟨_, _, _, Cert.AdamPoolUpIdeal.Value.run (F := Ideal) m g,
    (θ_run Cert.AdamPoolUpRefIdeal.defs _ _).mono (fun _ r c => Cert.Adam.agree _ (h c) (r c))
      (Cert.AdamPoolUpRefIdeal.Value.run (F := Ideal) m' g')⟩

end Cert.AdamPoolUp.Claims

namespace Cert.AdamConvOut.Claims

theorem frame_kernel : Cert.quiescent_AdamConvOut := fun m g _ => Cert.AdamConvOut.Gen.frame (F := Bits) m g
theorem frame_ideal : Cert.quiescent_AdamConvOutIdeal := fun m g _ => Cert.AdamConvOutIdeal.Gen.frame (F := Ideal) m g
theorem frame_ref : Cert.quiescent_AdamConvOutRefIdeal := fun m g _ =>
  (θ_run Cert.AdamConvOutRefIdeal.defs _ _).mono (fun r h => ⟨fun c => (h c).2.2.2, sem_eq_zero_of_no_sems (by decide) r.2⟩)
    (Cert.AdamConvOutRefIdeal.Value.run (F := Ideal) m g)

theorem algebraic : Cert.algebraic_AdamConvOutIdeal_AdamConvOutRefIdeal := fun m g m' g' _ h =>
  ⟨_, _, _, Cert.AdamConvOutIdeal.Value.run (F := Ideal) m g,
    (θ_run Cert.AdamConvOutRefIdeal.defs _ _).mono (fun _ r c => Cert.Adam.agree _ (h c) (r c))
      (Cert.AdamConvOutRefIdeal.Value.run (F := Ideal) m' g')⟩

end Cert.AdamConvOut.Claims

namespace Cert.AdamAttnUp.Claims

theorem frame_kernel : Cert.quiescent_AdamAttnUp := fun m g _ => Cert.AdamAttnUp.Gen.frame (F := Bits) m g
theorem frame_ideal : Cert.quiescent_AdamAttnUpIdeal := fun m g _ => Cert.AdamAttnUpIdeal.Gen.frame (F := Ideal) m g
theorem frame_ref : Cert.quiescent_AdamAttnUpRefIdeal := fun m g _ =>
  (θ_run Cert.AdamAttnUpRefIdeal.defs _ _).mono (fun r h => ⟨fun c => (h c).2.2.2, sem_eq_zero_of_no_sems (by decide) r.2⟩)
    (Cert.AdamAttnUpRefIdeal.Value.run (F := Ideal) m g)

theorem algebraic : Cert.algebraic_AdamAttnUpIdeal_AdamAttnUpRefIdeal := fun m g m' g' _ h =>
  ⟨_, _, _, Cert.AdamAttnUpIdeal.Value.run (F := Ideal) m g,
    (θ_run Cert.AdamAttnUpRefIdeal.defs _ _).mono (fun _ r c => Cert.Adam.agree _ (h c) (r c))
      (Cert.AdamAttnUpRefIdeal.Value.run (F := Ideal) m' g')⟩

end Cert.AdamAttnUp.Claims

namespace Cert.AdamO.Claims

theorem frame_kernel : Cert.quiescent_AdamO := fun m g _ => Cert.AdamO.Gen.frame (F := Bits) m g
theorem frame_ideal : Cert.quiescent_AdamOIdeal := fun m g _ => Cert.AdamOIdeal.Gen.frame (F := Ideal) m g
theorem frame_ref : Cert.quiescent_AdamORefIdeal := fun m g _ =>
  (θ_run Cert.AdamORefIdeal.defs _ _).mono (fun r h => ⟨fun c => (h c).2.2.2, sem_eq_zero_of_no_sems (by decide) r.2⟩)
    (Cert.AdamORefIdeal.Value.run (F := Ideal) m g)

theorem algebraic : Cert.algebraic_AdamOIdeal_AdamORefIdeal := fun m g m' g' _ h =>
  ⟨_, _, _, Cert.AdamOIdeal.Value.run (F := Ideal) m g,
    (θ_run Cert.AdamORefIdeal.defs _ _).mono (fun _ r c => Cert.Adam.agree _ (h c) (r c))
      (Cert.AdamORefIdeal.Value.run (F := Ideal) m' g')⟩

end Cert.AdamO.Claims

namespace Cert.AdamFf1.Claims

theorem frame_kernel : Cert.quiescent_AdamFf1 := fun m g _ => Cert.AdamFf1.Gen.frame (F := Bits) m g
theorem frame_ideal : Cert.quiescent_AdamFf1Ideal := fun m g _ => Cert.AdamFf1Ideal.Gen.frame (F := Ideal) m g
theorem frame_ref : Cert.quiescent_AdamFf1RefIdeal := fun m g _ =>
  (θ_run Cert.AdamFf1RefIdeal.defs _ _).mono (fun r h => ⟨fun c => (h c).2.2.2, sem_eq_zero_of_no_sems (by decide) r.2⟩)
    (Cert.AdamFf1RefIdeal.Value.run (F := Ideal) m g)

theorem algebraic : Cert.algebraic_AdamFf1Ideal_AdamFf1RefIdeal := fun m g m' g' _ h =>
  ⟨_, _, _, Cert.AdamFf1Ideal.Value.run (F := Ideal) m g,
    (θ_run Cert.AdamFf1RefIdeal.defs _ _).mono (fun _ r c => Cert.Adam.agree _ (h c) (r c))
      (Cert.AdamFf1RefIdeal.Value.run (F := Ideal) m' g')⟩

end Cert.AdamFf1.Claims

namespace Cert.AdamFf2.Claims

theorem frame_kernel : Cert.quiescent_AdamFf2 := fun m g _ => Cert.AdamFf2.Gen.frame (F := Bits) m g
theorem frame_ideal : Cert.quiescent_AdamFf2Ideal := fun m g _ => Cert.AdamFf2Ideal.Gen.frame (F := Ideal) m g
theorem frame_ref : Cert.quiescent_AdamFf2RefIdeal := fun m g _ =>
  (θ_run Cert.AdamFf2RefIdeal.defs _ _).mono (fun r h => ⟨fun c => (h c).2.2.2, sem_eq_zero_of_no_sems (by decide) r.2⟩)
    (Cert.AdamFf2RefIdeal.Value.run (F := Ideal) m g)

theorem algebraic : Cert.algebraic_AdamFf2Ideal_AdamFf2RefIdeal := fun m g m' g' _ h =>
  ⟨_, _, _, Cert.AdamFf2Ideal.Value.run (F := Ideal) m g,
    (θ_run Cert.AdamFf2RefIdeal.defs _ _).mono (fun _ r c => Cert.Adam.agree _ (h c) (r c))
      (Cert.AdamFf2RefIdeal.Value.run (F := Ideal) m' g')⟩

end Cert.AdamFf2.Claims

namespace Cert.AdamSmall.Claims

theorem frame_kernel : Cert.quiescent_AdamSmall := fun m g _ => Cert.AdamSmall.Gen.frame (F := Bits) m g
theorem frame_ideal : Cert.quiescent_AdamSmallIdeal := fun m g _ => Cert.AdamSmallIdeal.Gen.frame (F := Ideal) m g
theorem frame_ref : Cert.quiescent_AdamSmallRefIdeal := fun m g _ =>
  (θ_run Cert.AdamSmallRefIdeal.defs _ _).mono (fun r h => ⟨fun c => (h c).2.2.2, sem_eq_zero_of_no_sems (by decide) r.2⟩)
    (Cert.AdamSmallRefIdeal.Value.run (F := Ideal) m g)

theorem algebraic : Cert.algebraic_AdamSmallIdeal_AdamSmallRefIdeal := fun m g m' g' _ h =>
  ⟨_, _, _, Cert.AdamSmallIdeal.Value.run (F := Ideal) m g,
    (θ_run Cert.AdamSmallRefIdeal.defs _ _).mono (fun _ r c => Cert.Adam.agree _ (h c) (r c))
      (Cert.AdamSmallRefIdeal.Value.run (F := Ideal) m' g')⟩

end Cert.AdamSmall.Claims

end
-- ==== Proof.Sum.lean ====
/-
# The sums of the reduce-scatter: what one entry becomes

After the exchange between chips each chip adds four parts: the three that came and, in its own place, the one that it
kept. Stated once, entry by entry, for any number of rows.
-/
module

public import Idealize.ShloMosaic.Lib.StableHlo.Run
public import Idealize.ShloMosaic.Lib.Pipeline.Value
public import Idealize.ShloMosaic.Lib.Pointwise.Reduce
public import Idealize.ShloMosaic.Lib.IdealHost
public import Idealize.ShloMosaic.Lib.ValueLayout
public import Idealize.ShloMosaic.PureOps.Ideal

@[expose] public section

set_option Elab.async false

noncomputable section

namespace Cert.Sum

open Idealize.ShloMosaic
open Idealize.ShloMosaic.ValueIdx hiding ix1 ix2 ix3 eq_ix2

variable {F : FTy → Type} [FloatOps F]

/-- Part `k` of the four, or the chip's own where `k` is the chip `w`. -/
def pick (w : BitVec 32) (own : F .f32) (r : Fin 4 → F .f32) (k : Fin 4) : F .f32 :=
  Scalar.select (Scalar.cmpi .eq w (BitVec.ofNat 32 k.val)) own (r k)

/-- The four parts added in order. -/
def four (w : BitVec 32) (own : F .f32) (r : Fin 4 → F .f32) : F .f32 :=
  FloatOps.addf (FloatOps.addf (FloatOps.addf (pick w own r 0) (pick w own r 1)) (pick w own r 2)) (pick w own r 3)

/-- Equality of words, asked in either order. -/
theorem cmpi_eq_comm (a b : BitVec 32) : Scalar.cmpi .eq a b = Scalar.cmpi .eq b a :=
  congrArg BitVec.ofBool (BEq.comm (a := a) (b := b))

/-- A choice between two arrays is made entry by entry. -/
theorem choose_at {S : Shape} {α : Type} (c : BitVec 1) (a b : S.Idx → α) (j : S.Idx) :
    Scalar.select c a b j = Scalar.select c (a j) (b j) := by
  unfold Scalar.select; split <;> rfl

/-- The kernel's four choices and three sums, at one entry. -/
theorem four_at {S : Shape} (w : BitVec 32) (own b0 b1 b2 b3 : S.Idx → F .f32) (r : Fin 4 → F .f32) (j : S.Idx)
    (h0 : b0 j = r 0) (h1 : b1 j = r 1) (h2 : b2 j = r 2) (h3 : b3 j = r 3) :
    addf (addf (addf (Scalar.select (Scalar.cmpi .eq w 0#32) own b0) (Scalar.select (Scalar.cmpi .eq w 1#32) own b1))
      (Scalar.select (Scalar.cmpi .eq w 2#32) own b2)) (Scalar.select (Scalar.cmpi .eq w 3#32) own b3) j
      = four w (own j) r := by
  unfold four pick
  rw [← h0, ← h1, ← h2, ← h3]
  show FloatOps.addf (FloatOps.addf (FloatOps.addf (Scalar.select _ own b0 j) (Scalar.select _ own b1 j))
    (Scalar.select _ own b2 j)) (Scalar.select _ own b3 j) = _
  rw [choose_at, choose_at, choose_at, choose_at]
  rfl

/-- One of the four parts, loaded as a block with a leading axis of one and cast to rows. -/
theorem part_at {R C : ℕ} {Val : EltTy → Type} {e : EltTy} (X : (⟨3, ![4, R, C]⟩ : Shape).Idx → Val e) (k : Fin 4)
    (inb : ∀ a, (![k.val, 0, 0] : Fin 3 → ℕ) a + (⟨3, ![1, R, C]⟩ : Shape).size a ≤ (⟨3, ![4, R, C]⟩ : Shape).size a)
    (h : (⟨3, ![1, R, C]⟩ : Shape).ShapeCasts ⟨2, ![R, C]⟩) (j : (⟨2, ![R, C]⟩ : Shape).Idx) :
    shapeCast ⟨2, ![R, C]⟩ (View.ld X (Rect.unit (s := ⟨3, ![4, R, C]⟩) ![k.val, 0, 0] (⟨3, ![1, R, C]⟩ : Shape).size inb)) h j
      = X (ix3 k (j 0) (j 1)) := by
  rw [eq_ix2 j]
  refine (shapeCast_1ab_ab_apply _ h (j 0) (j 1)).trans (congrArg X (funext fun a => Fin.ext ?_))
  match a with
  | ⟨0, _⟩ => show k.val + 1 * 0 = k.val; omega
  | ⟨1, _⟩ => show 0 + 1 * (j 0).val = (j 0).val; omega
  | ⟨2, _⟩ => show 0 + 1 * (j 1).val = (j 1).val; omega

/-- The kernel's four loads, choices and sums, at one entry; `widen` is the parts' cast to the sum's type. -/
theorem parts_at {R C : ℕ} {e : EltTy} (widen : Elt F e → F .f32) (X : (⟨3, ![4, R, C]⟩ : Shape).Idx → Elt F e)
    (w : BitVec 32) (own : (⟨2, ![R, C]⟩ : Shape).Idx → F .f32) {inb0 inb1 inb2 inb3}
    (h : (⟨3, ![1, R, C]⟩ : Shape).ShapeCasts ⟨2, ![R, C]⟩) (j : (⟨2, ![R, C]⟩ : Shape).Idx) :
    let part (k : ℕ) (inb : ∀ a, (![k, 0, 0] : Fin 3 → ℕ) a + (⟨3, ![1, R, C]⟩ : Shape).size a ≤ (⟨3, ![4, R, C]⟩ : Shape).size a) :
        (⟨2, ![R, C]⟩ : Shape).Idx → F .f32 := fun i => widen (shapeCast ⟨2, ![R, C]⟩
      (View.ld X (Rect.unit (s := ⟨3, ![4, R, C]⟩) ![k, 0, 0] (⟨3, ![1, R, C]⟩ : Shape).size inb)) h i)
    addf (addf (addf (Scalar.select (Scalar.cmpi .eq w 0#32) own (part 0 inb0))
        (Scalar.select (Scalar.cmpi .eq w 1#32) own (part 1 inb1)))
      (Scalar.select (Scalar.cmpi .eq w 2#32) own (part 2 inb2))) (Scalar.select (Scalar.cmpi .eq w 3#32) own (part 3 inb3)) j
      = four w (own j) (fun k => widen (X (ix3 k (j 0) (j 1)))) :=
  four_at w own _ _ _ _ _ j (congrArg widen (part_at X 0 inb0 h j)) (congrArg widen (part_at X 1 inb1 h j))
    (congrArg widen (part_at X 2 inb2 h j)) (congrArg widen (part_at X 3 inb3 h j))

/-- The reference's sum over the four parts is `four` at each entry. -/
theorem reference_eq {R C : ℕ} (hR : R ≠ 1) (hC : C ≠ 1) (ids : (⟨1, ![2]⟩ : Shape).Idx → BitVec 32) (own : (⟨2, ![R, C]⟩ : Shape).Idx → Ideal .f32)
    (x : (⟨3, ![4, R, C]⟩ : Shape).Idx → Ideal .f32)
    (b1 : (⟨3, ![4, 1, 1]⟩ : Shape).BroadcastsInDim ⟨3, ![4, R, C]⟩ ![0, 1, 2])
    (b2 : (⟨1, ![4]⟩ : Shape).BroadcastsInDim ⟨3, ![4, 1, 1]⟩ ![0])
    (b3 : (⟨0, ![]⟩ : Shape).BroadcastsInDim ⟨3, ![4, 1, 1]⟩ ![])
    (hs : (⟨1, ![2]⟩ : Shape).Slices ![1] ⟨1, ![1]⟩) (hc : (⟨1, ![1]⟩ : Shape).ShapeCasts ⟨0, ![]⟩)
    (b4 : (⟨3, ![1, R, C]⟩ : Shape).BroadcastsInDim ⟨3, ![4, R, C]⟩ ![0, 1, 2])
    (b5 : (⟨2, ![R, C]⟩ : Shape).BroadcastsInDim ⟨3, ![1, R, C]⟩ ![1, 2])
    (hr : (⟨3, ![4, R, C]⟩ : Shape).ReducesTo [0] ⟨2, ![R, C]⟩) (hu : 0 < (⟨0, ![]⟩ : Shape).numel) :
    Host.reduceAdd (select (broadcastInDim ⟨3, ![4, R, C]⟩ ![0, 1, 2] b1
        (cmpi .eq (broadcastInDim ⟨3, ![4, 1, 1]⟩ ![0] b2 (iotaInDim ⟨1, ![4]⟩ 32 0))
          (broadcastInDim ⟨3, ![4, 1, 1]⟩ ![] b3 (shapeCast ⟨0, ![]⟩ (extractStridedSlice ⟨1, ![1]⟩ ![1] ids hs) hc))))
        (broadcastInDim ⟨3, ![4, R, C]⟩ ![0, 1, 2] b4 (broadcastInDim ⟨3, ![1, R, C]⟩ ![1, 2] b5 own)) x)
      (constant ⟨0, ![]⟩ .f32 0x00000000#32) hr hu
      = fun j => four (ids (ix1 1)) (own j) (fun k => x (ix3 k (j 0) (j 1))) := by
  funext j
  refine (hostReduceAdd_apply _ _ hr hu j).trans ?_
  refine (Ideal.hostReduceAdd_r3_a0 hr _ _ j).trans ?_
  have chip : ∀ k : Fin 4, broadcastInDim ⟨3, ![4, R, C]⟩ ![0, 1, 2] b1
        (cmpi .eq (broadcastInDim ⟨3, ![4, 1, 1]⟩ ![0] b2 (iotaInDim ⟨1, ![4]⟩ 32 0))
          (broadcastInDim ⟨3, ![4, 1, 1]⟩ ![] b3 (shapeCast ⟨0, ![]⟩ (extractStridedSlice ⟨1, ![1]⟩ ![1] ids hs) hc)))
          (ix3 (n0 := 4) (n1 := R) (n2 := C) k (j 0) (j 1)) = Scalar.cmpi .eq (BitVec.ofNat 32 k.val) (ids (ix1 1)) := fun k => by
    refine (broadcastInDim_apply ![0, 1, 2] b1 _ (ix3 (n0 := 4) (n1 := R) (n2 := C) k (j 0) (j 1)) (ix3 (n0 := 4) (n1 := 1) (n2 := 1) k 0 0) (fun a => by
      match a with | ⟨0, _⟩ => rfl | ⟨1, _⟩ => rfl | ⟨2, _⟩ => rfl)).trans ?_
    refine congrArg₂ (Scalar.cmpi .eq) ?_ ?_
    · exact broadcastInDim_apply ![0] b2 (iotaInDim ⟨1, ![4]⟩ 32 0) (ix3 (n0 := 4) (n1 := 1) (n2 := 1) k 0 0) (ix1 (n0 := 4) k) (fun a => by match a with | ⟨0, _⟩ => rfl)
    · refine (broadcastInDim_scalar_apply b3 _ _).trans ((shapeCast_apply _ hc _ (ix1 (n0 := 1) 0) rfl).trans ?_)
      exact congrArg ids (funext fun a => by match a with | ⟨0, _⟩ => rfl)
  have mine : ∀ k : Fin 4, broadcastInDim ⟨3, ![4, R, C]⟩ ![0, 1, 2] b4 (broadcastInDim ⟨3, ![1, R, C]⟩ ![1, 2] b5 own)
      (ix3 (n0 := 4) (n1 := R) (n2 := C) k (j 0) (j 1)) = own j := fun k =>
    (broadcastInDim_apply ![0, 1, 2] b4 _ (ix3 (n0 := 4) (n1 := R) (n2 := C) k (j 0) (j 1)) (ix3 (n0 := 1) (n1 := R) (n2 := C) 0 (j 0) (j 1)) (fun a => by
      match a with
      | ⟨0, _⟩ => rfl
      | ⟨1, _⟩ => exact (if_neg hR).symm
      | ⟨2, _⟩ => exact (if_neg hC).symm)).trans
    (broadcastInDim_apply ![1, 2] b5 own (ix3 (n0 := 1) (n1 := R) (n2 := C) 0 (j 0) (j 1)) j (fun a => by
      match a with
      | ⟨0, _⟩ => exact (if_neg hR).symm
      | ⟨1, _⟩ => exact (if_neg hC).symm))
  have each : ∀ k : Fin 4, select _ _ x (ix3 (n0 := 4) (n1 := R) (n2 := C) k (j 0) (j 1)) = pick (F := Ideal) (ids (ix1 1)) (own j) (fun k => x (ix3 (n0 := 4) (n1 := R) (n2 := C) k (j 0) (j 1))) k :=
    fun k => (congrArg₂ (fun c y => Scalar.select c y (x (ix3 (n0 := 4) (n1 := R) (n2 := C) k (j 0) (j 1)))) (chip k) (mine k)).trans (by
      unfold pick
      rw [cmpi_eq_comm])
  refine (congrArg₂ (· + ·) (Ideal.ofBits_zero_f32) (Finset.sum_congr rfl fun k _ => each k)).trans ?_
  rw [Fin.sum_univ_four, zero_add]
  rfl

end Cert.Sum
-- ==== Proof.SumRun.lean ====
/-
# The sums of the reduce-scatter: the kernel's run

What one block holds after the kernel's body, that the blocks fill the array, and so what the array holds after the run:
at each entry the sum of the four parts.
-/
module

public import proofs.«01_k».proof.Proof.Sum
public import proofs.«01_k».proof.Proof.Gen.SumBigIdeal.Frame
public import proofs.«01_k».proof.Proof.Gen.SumSmallIdeal.Frame
public import Idealize.ShloMosaic.Lib.WritesUnit
public import Idealize.ShloMosaic.Lib.Quiescent
public import Idealize.ShloMosaic.Lib.Claim

@[expose] public section
set_option Elab.async false
set_option maxRecDepth 16384
noncomputable section

open Idealize.ShloMosaic Idealize.SL.Sem
open Idealize.ShloMosaic.TcCoe

namespace Cert.SumBigIdeal.Entry

open Cert.SumBigIdeal.Gen

variable {F : FTy → Type} [FloatOps F]

/-- What the kernel leaves at each entry of its block. -/
theorem block_at (c : Dev nD) (i : grid0.Coords) (arg2 : Memref sig .tc .vmem S4x2560x128 .bf16) (harg2 : arg2.IsWhole)
    (arg3 : Memref sig .tc .vmem S2560x128 .f32) (harg3 : arg3.IsWhole) (arg4 : Memref sig .tc .vmem S2560x128 .f32)
    (harg4 : arg4.IsWhole) (x0 : Vec F S4x2560x128 .bf16) (x1 : Vec F S2560x128 .f32) (xt0 : TbBuf0 (F := F) c tbM0_0)
    (j : S2560x128.Idx) : out0_A_2 c i arg2 harg2 arg3 harg3 arg4 harg4 x0 x1 xt0 j
      = Cert.Sum.four ((xt0 : S2.Idx → BitVec 32) (ix1 1)) (x1 j) (fun k => extf .f32 x0 bitsLt_bf16_f32 (ix3 k (j 0) (j 1))) := by
  unfold out0_A_2 kernelRun0_A
  dsimp only
  refine (View.read_writes_cons_unit_of_mem VO0_2 _ inb_S2560x128_S2560x128_0_0 _ [] j j (off' := ![0, 0]) rfl
    (fun a => by match a with | ⟨0, _⟩ => exact (Nat.zero_add _).symm | ⟨1, _⟩ => exact (Nat.zero_add _).symm)).trans ?_
  unfold kernelRun0_A.sl.r_1 k0_pay1
  simp only [View.readAt_eq_ld, harg3.read_unread, harg2.read_unread]
  unfold kernelRun0_A.sl.r
  have word : View.readAt (Elt F) tbM0_0.view (Rect.unit (s := S2) ![1] S1.size inb_S2_S1_1).toLoadRect xt0 (Shape.Idx.first Nat.one_pos)
      = (xt0 : S2.Idx → BitVec 32) (ix1 1) :=
    congrArg (xt0 : S2.Idx → BitVec 32) (funext fun a => by match a with | ⟨0, _⟩ => rfl)
  rw [View.ld_unit_zero (S := S2560x128) (funext fun a => by match a with | ⟨0, _⟩ => rfl | ⟨1, _⟩ => rfl)]
  exact (Cert.Sum.parts_at (FloatOps.extf .f32 bitsLt_bf16_f32) x0 _ x1 _ j).trans (congrArg (fun w => Cert.Sum.four w (x1 j) _) word)

variable (m : (ℓ : Loc nD τ sig) → Buf (Elt F) ℓ) (ρ : Dev nD → PrngReg)

/-- No block's place depends on the table, so any table does. -/
theorem ok : Ok m := by trivial

/-- Entry by entry, the sum of the four parts. -/
abbrev total (ids : S2.Idx → BitVec 32) (r : S4x35840x128.Idx → F .bf16) (own : S35840x128.Idx → F .f32) : S35840x128.Idx → F .f32 :=
  fun i => Cert.Sum.four (ids (ix1 1)) (own i) (fun k => extf .f32 r bitsLt_bf16_f32 (ix3 k (i 0) (i 1)))

/-- The three windows move together, one block of rows at each point. -/
theorem places : ∀ t : Fin grid0.N, cc0_transform_0 (grid0.coords t) = ![0, t.val, 0]
    ∧ cc0_transform_1 (grid0.coords t) = ![t.val, 0] ∧ cc0_transform_2 (grid0.coords t) = ![t.val, 0] := by decide +kernel

/-- Where an entry of a point's block lies in the array, for the parts, for the chip's own part and for the result. -/
abbrev at0 (t : Fin (cfgM m (ok m)).N) (j : S4x2560x128.Idx) : S4x35840x128.Idx := (((cfgM m (ok m)).win 0).blk t).view.emb j
abbrev at1 (t : Fin (cfgM m (ok m)).N) (j : S2560x128.Idx) : S35840x128.Idx := (((cfgM m (ok m)).win 1).blk t).view.emb j
abbrev at2 (t : Fin (cfgM m (ok m)).N) (j : S2560x128.Idx) : S35840x128.Idx := (((cfgM m (ok m)).win 2).blk t).view.emb j

/-- What one point writes back is its block of the sum. -/
theorem flushed_eq (c : Dev nD) (t : Fin (cfgM m (ok m)).N) : (dats m (ok m) 0 c).flushed 2 t
    = (((cfgM m (ok m)).win 2).blk t).view.read (Elt F) (total (tbl m 0) (V m c main_arg1) (V m c main_arg2)) := by
  show ((cfgM m (ok m)).win 2).cut (grid0.coords t) ((dats m (ok m) 0 c).after 2 t) = _
  rw [after0_2]
  refine funext fun (j : S2560x128.Idx) => ?_
  obtain ⟨e0, e1, e2⟩ := places t
  refine (block_at c _ _ _ _ _ _ _ _ _ _ j).trans ?_
  have h1 : at1 m t j = at2 m t j := by
    funext a; apply Fin.ext
    match a with
    | ⟨0, _⟩ => show cc0_transform_1 (grid0.coords t) 0 * 2560 + 1 * (j 0).val = cc0_transform_2 (grid0.coords t) 0 * 2560 + 1 * (j 0).val; rw [e1, e2]
    | ⟨1, _⟩ => show cc0_transform_1 (grid0.coords t) 1 * 128 + 1 * (j 1).val = cc0_transform_2 (grid0.coords t) 1 * 128 + 1 * (j 1).val; rw [e1, e2]
  have h0 : ∀ k : Fin 4, at0 m t (ix3 k (j 0) (j 1)) = ix3 k (at2 m t j 0) (at2 m t j 1) := fun k => by
    funext a; apply Fin.ext
    match a with
    | ⟨0, _⟩ => show cc0_transform_0 (grid0.coords t) 0 * 4 + 1 * k.val = k.val; rw [e0]; show 0 * 4 + 1 * k.val = k.val; omega
    | ⟨1, _⟩ => show cc0_transform_0 (grid0.coords t) 1 * 2560 + 1 * (j 0).val = cc0_transform_2 (grid0.coords t) 0 * 2560 + 1 * (j 0).val; rw [e0, e2]; rfl
    | ⟨2, _⟩ => show cc0_transform_0 (grid0.coords t) 2 * 128 + 1 * (j 1).val = cc0_transform_2 (grid0.coords t) 1 * 128 + 1 * (j 1).val; rw [e0, e2]; rfl
  refine congrArg₂ (Cert.Sum.four _) (congrArg (V m c main_arg2) h1) (funext fun k => ?_)
  exact congrArg (extf .f32 (V m c main_arg1 : S4x35840x128.Idx → F .bf16) bitsLt_bf16_f32) (h0 k)

/-- Every row is in the block of some point. -/
theorem cover (i : S35840x128.Idx) : ∃ t : Fin (cfgM m (ok m)).N, ((cfgM m (ok m)).win 2).flush t = true
    ∧ i ∈ (((cfgM m (ok m)).win 2).blk t).view.set := by
  have hi0 : (i 0).val < 35840 := (i 0).isLt
  have hi1 : (i 1).val < 128 := (i 1).isLt
  have hq : (i 0).val / 2560 < grid0.N := by rw [N_0]; omega
  refine ⟨⟨(i 0).val / 2560, hq⟩, flush0_2 _ _, ?_⟩
  refine (Finset.ext_iff.mp (View.set_slice_whole main_v0 _) i).mpr (Rect.mem_set_unit.mpr fun a => ?_)
  obtain ⟨-, -, e2⟩ := places ⟨(i 0).val / 2560, hq⟩
  match a with
  | ⟨0, _⟩ =>
    show cc0_transform_2 (grid0.coords ⟨(i 0).val / 2560, hq⟩) 0 * 2560 ≤ (i 0).val
      ∧ (i 0).val < cc0_transform_2 (grid0.coords ⟨(i 0).val / 2560, hq⟩) 0 * 2560 + 2560
    rw [e2]; show (i 0).val / 2560 * 2560 ≤ _ ∧ _ < (i 0).val / 2560 * 2560 + 2560; omega
  | ⟨1, _⟩ =>
    show cc0_transform_2 (grid0.coords ⟨(i 0).val / 2560, hq⟩) 1 * 128 ≤ (i 1).val
      ∧ (i 1).val < cc0_transform_2 (grid0.coords ⟨(i 0).val / 2560, hq⟩) 1 * 128 + 128
    rw [e2]; show 0 * 128 ≤ _ ∧ _ < 0 * 128 + 128; omega

/-- The kernel's run: the result is the sum, the arguments as they were. -/
theorem run : θ_run defs (onTc (τ := τ) (main (F := F))) ⟨m, fun _ => 0, ρ⟩ fun r => ∀ c : Dev nD,
      r.2.mem ((c : Thread nD τ).loc main_v0)
        = total (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, h.2 c⟩) (θ_run_and (run_main m ρ (ok m)) (unchanged m ρ (ok m)))
  refine ((h.1 c).1 2).trans (((dats m (ok m) 0 c).arrAt_eq_of_cover 2 _ (fun t _ => flushed_eq m c t) (cover m)).trans ?_)
  obtain rfl : c = 0 := Subsingleton.elim _ _
  rfl

end Cert.SumBigIdeal.Entry

namespace Cert.SumSmallIdeal.Entry

open Cert.SumSmallIdeal.Gen

variable {F : FTy → Type} [FloatOps F]

/-- What the kernel leaves at each entry of its block. -/
theorem block_at (c : Dev nD) (i : grid0.Coords) (arg2 : Memref sig .tc .vmem S4x1144x128 .f32) (harg2 : arg2.IsWhole)
    (arg3 : Memref sig .tc .vmem S1144x128 .f32) (harg3 : arg3.IsWhole) (arg4 : Memref sig .tc .vmem S1144x128 .f32)
    (harg4 : arg4.IsWhole) (x0 : Vec F S4x1144x128 .f32) (x1 : Vec F S1144x128 .f32) (xt0 : TbBuf0 (F := F) c tbM0_0)
    (j : S1144x128.Idx) : out0_A_2 c i arg2 harg2 arg3 harg3 arg4 harg4 x0 x1 xt0 j
      = Cert.Sum.four ((xt0 : S2.Idx → BitVec 32) (ix1 1)) (x1 j) (fun k => x0 (ix3 k (j 0) (j 1))) := by
  unfold out0_A_2 kernelRun0_A
  dsimp only
  refine (View.read_writes_cons_unit_of_mem VO0_2 _ inb_S1144x128_S1144x128_0_0 _ [] j j (off' := ![0, 0]) rfl
    (fun a => by match a with | ⟨0, _⟩ => exact (Nat.zero_add _).symm | ⟨1, _⟩ => exact (Nat.zero_add _).symm)).trans ?_
  unfold k0_pay1
  simp only [View.readAt_eq_ld, harg3.read_unread, harg2.read_unread]
  unfold kernelRun0_A.sl.r
  have word : View.readAt (Elt F) tbM0_0.view (Rect.unit (s := S2) ![1] S1.size inb_S2_S1_1).toLoadRect xt0 (Shape.Idx.first Nat.one_pos)
      = (xt0 : S2.Idx → BitVec 32) (ix1 1) :=
    congrArg (xt0 : S2.Idx → BitVec 32) (funext fun a => by match a with | ⟨0, _⟩ => rfl)
  rw [View.ld_unit_zero (S := S1144x128) (funext fun a => by match a with | ⟨0, _⟩ => rfl | ⟨1, _⟩ => rfl)]
  exact (Cert.Sum.parts_at (id) x0 _ x1 _ j).trans (congrArg (fun w => Cert.Sum.four w (x1 j) _) word)

variable (m : (ℓ : Loc nD τ sig) → Buf (Elt F) ℓ) (ρ : Dev nD → PrngReg)

/-- No block's place depends on the table, so any table does. -/
theorem ok : Ok m := by trivial

/-- Entry by entry, the sum of the four parts. -/
abbrev total (ids : S2.Idx → BitVec 32) (r : S4x1144x128.Idx → F .f32) (own : S1144x128.Idx → F .f32) : S1144x128.Idx → F .f32 :=
  fun i => Cert.Sum.four (ids (ix1 1)) (own i) (fun k => r (ix3 k (i 0) (i 1)))

/-- The three windows move together, one block of rows at each point. -/
theorem places : ∀ t : Fin grid0.N, cc0_transform_0 (grid0.coords t) = ![0, 0, 0]
    ∧ cc0_transform_1 (grid0.coords t) = ![0, 0] ∧ cc0_transform_2 (grid0.coords t) = ![0, 0] := by decide +kernel

/-- Where an entry of a point's block lies in the array, for the parts, for the chip's own part and for the result. -/
abbrev at0 (t : Fin (cfgM m (ok m)).N) (j : S4x1144x128.Idx) : S4x1144x128.Idx := (((cfgM m (ok m)).win 0).blk t).view.emb j
abbrev at1 (t : Fin (cfgM m (ok m)).N) (j : S1144x128.Idx) : S1144x128.Idx := (((cfgM m (ok m)).win 1).blk t).view.emb j
abbrev at2 (t : Fin (cfgM m (ok m)).N) (j : S1144x128.Idx) : S1144x128.Idx := (((cfgM m (ok m)).win 2).blk t).view.emb j

/-- What one point writes back is its block of the sum. -/
theorem flushed_eq (c : Dev nD) (t : Fin (cfgM m (ok m)).N) : (dats m (ok m) 0 c).flushed 2 t
    = (((cfgM m (ok m)).win 2).blk t).view.read (Elt F) (total (tbl m 0) (V m c main_arg1) (V m c main_arg2)) := by
  show ((cfgM m (ok m)).win 2).cut (grid0.coords t) ((dats m (ok m) 0 c).after 2 t) = _
  rw [after0_2]
  refine funext fun (j : S1144x128.Idx) => ?_
  obtain ⟨e0, e1, e2⟩ := places t
  refine (block_at c _ _ _ _ _ _ _ _ _ _ j).trans ?_
  have h1 : at1 m t j = at2 m t j := by
    funext a; apply Fin.ext
    match a with
    | ⟨0, _⟩ => show cc0_transform_1 (grid0.coords t) 0 * 1144 + 1 * (j 0).val = cc0_transform_2 (grid0.coords t) 0 * 1144 + 1 * (j 0).val; rw [e1, e2]
    | ⟨1, _⟩ => show cc0_transform_1 (grid0.coords t) 1 * 128 + 1 * (j 1).val = cc0_transform_2 (grid0.coords t) 1 * 128 + 1 * (j 1).val; rw [e1, e2]
  have h0 : ∀ k : Fin 4, at0 m t (ix3 k (j 0) (j 1)) = ix3 k (at2 m t j 0) (at2 m t j 1) := fun k => by
    funext a; apply Fin.ext
    match a with
    | ⟨0, _⟩ => show cc0_transform_0 (grid0.coords t) 0 * 4 + 1 * k.val = k.val; rw [e0]; show 0 * 4 + 1 * k.val = k.val; omega
    | ⟨1, _⟩ => show cc0_transform_0 (grid0.coords t) 1 * 1144 + 1 * (j 0).val = cc0_transform_2 (grid0.coords t) 0 * 1144 + 1 * (j 0).val; rw [e0, e2]; rfl
    | ⟨2, _⟩ => show cc0_transform_0 (grid0.coords t) 2 * 128 + 1 * (j 1).val = cc0_transform_2 (grid0.coords t) 1 * 128 + 1 * (j 1).val; rw [e0, e2]; rfl
  refine congrArg₂ (Cert.Sum.four _) (congrArg (V m c main_arg2) h1) (funext fun k => ?_)
  exact congrArg (V m c main_arg1) (h0 k)

/-- Every row is in the block of some point. -/
theorem cover (i : S1144x128.Idx) : ∃ t : Fin (cfgM m (ok m)).N, ((cfgM m (ok m)).win 2).flush t = true
    ∧ i ∈ (((cfgM m (ok m)).win 2).blk t).view.set := by
  have hi0 : (i 0).val < 1144 := (i 0).isLt
  have hi1 : (i 1).val < 128 := (i 1).isLt
  have hq : 0 < grid0.N := by rw [N_0]; omega
  refine ⟨⟨0, hq⟩, flush0_2 _ _, ?_⟩
  refine (Finset.ext_iff.mp (View.set_slice_whole main_v0 _) i).mpr (Rect.mem_set_unit.mpr fun a => ?_)
  obtain ⟨-, -, e2⟩ := places ⟨0, hq⟩
  match a with
  | ⟨0, _⟩ =>
    show cc0_transform_2 (grid0.coords ⟨0, hq⟩) 0 * 1144 ≤ (i 0).val
      ∧ (i 0).val < cc0_transform_2 (grid0.coords ⟨0, hq⟩) 0 * 1144 + 1144
    rw [e2]; show 0 * 1144 ≤ _ ∧ _ < 0 * 1144 + 1144; omega
  | ⟨1, _⟩ =>
    show cc0_transform_2 (grid0.coords ⟨0, hq⟩) 1 * 128 ≤ (i 1).val
      ∧ (i 1).val < cc0_transform_2 (grid0.coords ⟨0, hq⟩) 1 * 128 + 128
    rw [e2]; show 0 * 128 ≤ _ ∧ _ < 0 * 128 + 128; omega

/-- The kernel's run: the result is the sum, the arguments as they were. -/
theorem run : θ_run defs (onTc (τ := τ) (main (F := F))) ⟨m, fun _ => 0, ρ⟩ fun r => ∀ c : Dev nD,
      r.2.mem ((c : Thread nD τ).loc main_v0)
        = total (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, h.2 c⟩) (θ_run_and (run_main m ρ (ok m)) (unchanged m ρ (ok m)))
  refine ((h.1 c).1 2).trans (((dats m (ok m) 0 c).arrAt_eq_of_cover 2 _ (fun t _ => flushed_eq m c t) (cover m)).trans ?_)
  obtain rfl : c = 0 := Subsingleton.elim _ _
  rfl

end Cert.SumSmallIdeal.Entry
-- ==== Proof.SumClaims.lean ====
/-
# The sums of the reduce-scatter: the claims

The kernel's run and the reference's give the same sum of the arguments: of two arrays, and of the four parts.
-/
module

public import proofs.«01_k».proof.Defs
public import proofs.«01_k».proof.Proof.SumRun
public import proofs.«01_k».proof.Proof.Gen.SumTwo.Value
public import proofs.«01_k».proof.Proof.Gen.SumTwoIdeal.Value
public import proofs.«01_k».proof.Proof.Gen.SumTwoRef.Run
public import proofs.«01_k».proof.Proof.Gen.SumTwoRefIdeal.Run
public import proofs.«01_k».proof.Proof.Gen.SumBig.Frame
public import proofs.«01_k».proof.Proof.Gen.SumBigRefIdeal.Run
public import proofs.«01_k».proof.Proof.Gen.SumSmall.Frame
public import proofs.«01_k».proof.Proof.Gen.SumSmallRefIdeal.Run
public import Idealize.ShloMosaic.Lib.Quiescent

@[expose] public section

set_option Elab.async false
set_option maxRecDepth 16384

noncomputable section

open Idealize.ShloMosaic Idealize.SL.Sem
open Idealize.ShloMosaic.TcCoe

namespace Cert.SumTwo.Claims

theorem frame_kernel : Cert.quiescent_SumTwo := fun m g _ => Cert.SumTwo.Gen.frame (F := Bits) m g
theorem frame_ideal : Cert.quiescent_SumTwoIdeal := fun m g _ => Cert.SumTwoIdeal.Gen.frame (F := Ideal) m g
theorem frame_ref_ideal : Cert.quiescent_SumTwoRefIdeal := fun m g _ =>
  (θ_run Cert.SumTwoRefIdeal.defs _ _).mono (fun r h => ⟨fun c => (h c).2, sem_eq_zero_of_no_sems (by decide) r.2⟩)
    (Cert.SumTwoRefIdeal.Value.run (F := Ideal) m g)
theorem frame_ref : Cert.quiescent_SumTwoRef := fun m g _ =>
  (θ_run Cert.SumTwoRef.defs _ _).mono (fun r h => ⟨fun c => (h c).2, sem_eq_zero_of_no_sems (by decide) r.2⟩)
    (Cert.SumTwoRef.Value.run (F := Bits) m g)

theorem algebraic : Cert.algebraic_SumTwoIdeal_SumTwoRefIdeal := fun m g m' g' _ h =>
  ⟨_, Cert.SumTwoIdeal.Value.run (F := Ideal) m g,
    (θ_run Cert.SumTwoRefIdeal.defs _ _).mono
      (fun _ r c => ⟨(r c).1.trans (congrArg₂ addf (h c).1 (h c).2), (r c).2⟩)
      (Cert.SumTwoRefIdeal.Value.run (F := Ideal) m' g')⟩

/-- Bit for bit too: the one addition is the same. -/
theorem bitexact : Cert.bitexact_SumTwo_SumTwoRef := fun m g m' g' _ h =>
  ⟨_, Cert.SumTwo.Value.run (F := Bits) m g,
    (θ_run Cert.SumTwoRef.defs _ _).mono
      (fun _ r c => ⟨(r c).1.trans (congrArg₂ addf (h c).1 (h c).2), (r c).2⟩)
      (Cert.SumTwoRef.Value.run (F := Bits) m' g')⟩

end Cert.SumTwo.Claims

namespace Cert.SumBig.Claims

theorem frame_kernel : Cert.quiescent_SumBig := fun m g _ => Cert.SumBig.Gen.frame (F := Bits) m g trivial
theorem frame_ideal : Cert.quiescent_SumBigIdeal := fun m g _ => Cert.SumBigIdeal.Gen.frame (F := Ideal) m g trivial
theorem frame_ref : Cert.quiescent_SumBigRefIdeal := fun m g _ =>
  (θ_run Cert.SumBigRefIdeal.defs _ _).mono (fun r h => ⟨fun c => (h c).2, sem_eq_zero_of_no_sems (by decide) r.2⟩)
    (Cert.SumBigRefIdeal.Value.run (F := Ideal) m g)

theorem algebraic : Cert.algebraic_SumBigIdeal_SumBigRefIdeal := fun m g m' g' _ h =>
  ⟨_, Cert.SumBigIdeal.Entry.run (F := Ideal) m g,
    (θ_run Cert.SumBigRefIdeal.defs _ _).mono
      (fun _ r c => ⟨(r c).1.trans ((Cert.Sum.reference_eq (by decide) (by decide) _ _ _ _ _ _ _ _ _ _ _ _).trans (by
        rw [(h c).1, (h c).2.1, (h c).2.2])), (r c).2⟩)
      (Cert.SumBigRefIdeal.Value.run (F := Ideal) m' g')⟩

end Cert.SumBig.Claims

namespace Cert.SumSmall.Claims

theorem frame_kernel : Cert.quiescent_SumSmall := fun m g _ => Cert.SumSmall.Gen.frame (F := Bits) m g trivial
theorem frame_ideal : Cert.quiescent_SumSmallIdeal := fun m g _ => Cert.SumSmallIdeal.Gen.frame (F := Ideal) m g trivial
theorem frame_ref : Cert.quiescent_SumSmallRefIdeal := fun m g _ =>
  (θ_run Cert.SumSmallRefIdeal.defs _ _).mono (fun r h => ⟨fun c => (h c).2, sem_eq_zero_of_no_sems (by decide) r.2⟩)
    (Cert.SumSmallRefIdeal.Value.run (F := Ideal) m g)

theorem algebraic : Cert.algebraic_SumSmallIdeal_SumSmallRefIdeal := fun m g m' g' _ h =>
  ⟨_, Cert.SumSmallIdeal.Entry.run (F := Ideal) m g,
    (θ_run Cert.SumSmallRefIdeal.defs _ _).mono
      (fun _ r c => ⟨(r c).1.trans ((Cert.Sum.reference_eq (by decide) (by decide) _ _ _ _ _ _ _ _ _ _ _ _).trans (by
        rw [(h c).1, (h c).2.1, (h c).2.2])), (r c).2⟩)
      (Cert.SumSmallRefIdeal.Value.run (F := Ideal) m' g')⟩

end Cert.SumSmall.Claims
-- ==== Proof.PairRun.lean ====
/-
# The sum with the chip's partner: the kernel's run

What the kernel's body does at one point, on the windows it is handed, and what the two results hold after the whole run:
the sum of the two halves of every part, rounded, and the unrounded sum of the part that is the chip's own.
-/
module

public import proofs.«01_k».proof.Proof.Sum
public import proofs.«01_k».proof.Proof.Gen.SumPairIdeal.Skeleton
public import proofs.«01_k».proof.Proof.Gen.SumPairIdeal.Launch
public import Idealize.ShloMosaic.Lib.Pipeline.Kit
public import Idealize.ShloMosaic.Lib.Pipeline.TableIdle
public import Idealize.ShloMosaic.Lib.Pipeline.FrameBody
public import Idealize.ShloMosaic.Lib.WritesUnit
public import Idealize.ShloMosaic.Lib.Quiescent
public import Idealize.ShloMosaic.Lib.Claim
public import Idealize.ShloMosaic.Lib.Ring
public import Idealize.ShloMosaic.Lib.Tactic

@[expose] public section
set_option Elab.async false
set_option maxRecDepth 16384
noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.SumPairIdeal.Entry

open Cert.SumPairIdeal.Gen

variable {F : FTy → Type} [FloatOps F]

local notation "𝕄" => MT nD τ sig Unit (Elt F) ℕ (UR sig nD τ) ℕ

/-! ## The body at one point -/

/-- The table the kernel reads, as its body is handed it. -/
abbrev names : Memref sig .tc .smem S2 .i32 := Memref.whole main_arg0

/-- The word the body compares the part with. -/
abbrev own (T : S2.Idx → BitVec 32) : BitVec 32 := T (ix1 1)

/-- A store over a whole window leaves what it stored. -/
theorem stored {κ : Kind} {sp : Space} {s : Shape} {e : EltTy} (v : View sig κ sp s e) (f : v.ty.Contents (Elt F))
    {off : Fin s.rank → ℕ} (inb : ∀ a, off a + s.size a ≤ s.size a) (hoff : off = fun _ => 0) (w : s.Idx → Elt F e) :
    v.read (Elt F) (v.writes (Elt F) f [⟨Rect.unit off s.size inb, w⟩]) = w :=
  funext fun y => View.read_writes_cons_unit_of_mem v f inb w [] y y hoff fun a => (Nat.zero_add _).symm

theorem zero2 : (![0, 0] : Fin 2 → ℕ) = fun _ => 0 := funext fun a => by match a with | ⟨0, _⟩ => rfl | ⟨1, _⟩ => rfl
theorem zero3 : (![0, 0, 0] : Fin 3 → ℕ) = fun _ => 0 :=
  funext fun a => by match a with | ⟨0, _⟩ => rfl | ⟨1, _⟩ => rfl | ⟨2, _⟩ => rfl
theorem zero4 : (![0, 0, 0, 0] : Fin 4 → ℕ) = fun _ => 0 :=
  funext fun a => by match a with | ⟨0, _⟩ => rfl | ⟨1, _⟩ => rfl | ⟨2, _⟩ => rfl | ⟨3, _⟩ => rfl

/-- The word the body loads from the table. -/
theorem word (T : S2.Idx → BitVec 32) : View.readAt (Elt F) names.view (Rect.unit (s := S2) ![1] S1.size inb_S2_S1_1).toLoadRect T
    (Shape.Idx.first (numel1_S1.symm ▸ Nat.one_pos)) = own T :=
  congrArg T (funext fun a => by match a with | ⟨0, _⟩ => rfl)

set_option maxHeartbeats 2000000 in
/-- At the chip's own part the body leaves the sum in both results. -/
theorem body_own (c : Dev nD) (i : grid0.Coords) (arg3 : Memref sig .tc .vmem S1x1x2560x128 .f32) (harg3 : arg3.IsWhole)
    (arg4 : Memref sig .tc .vmem S1x2560x128 .f32) (harg4 : arg4.IsWhole) (arg5 : Memref sig .tc .vmem S1x2560x128 .bf16)
    (harg5 : arg5.IsWhole) (arg6 : Memref sig .tc .vmem S2560x128 .f32) (harg6 : arg6.IsWhole)
    (x0 : Vec F S1x1x2560x128 .f32) (x1 : Vec F S1x2560x128 .f32) (T : S2.Idx → BitVec 32)
    (here : k0_cond1 i (own T) = 1#1) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (names.view.loc (c : Thread nD τ) ↦{fullShare.right} T)
        ∗ (iprop(owns (c : Thread nD τ) arg3 fullShare x0 ∗ owns (c : Thread nD τ) arg4 fullShare x1
            ∗ owns (c : Thread nD τ) arg5 fullShare (k0_pay2 x0 x1) ∗ owns (c : Thread nD τ) arg6 fullShare (k0_pay1 x0 x1)
            ∗ (names.view.loc (c : Thread nD τ) ↦{fullShare.right} T)) -∗ K ⟨⟩))
      ⊢ wp frame (wpE (defs₀ (F := F)) Variants.none c none) Set.univ
          (cc0_rs_chip_sum i names (Memref.isWhole_whole _) arg3 harg3 arg4 harg4 arg5 harg5 arg6 harg6) K := by
  have cond : k0_cond1 i (View.readAt (Elt F) names.view (Rect.unit (s := S2) ![1] S1.size inb_S2_S1_1).toLoadRect T
      (Shape.Idx.first (numel1_S1.symm ▸ Nat.one_pos))) = 1#1 := by rw [word]; exact here
  unfold owns
  rw [cc0_rs_chip_sum_eq_skeleton]; unfold cc0_rs_chip_sum_skel
  iintro ⟨⟨%f0, %hf0, H0⟩, ⟨%f1, %hf1, H1⟩, ⟨%d2, %f2, -, H2⟩, ⟨%d3, %f3, -, H3⟩, HT, Hk⟩
  obtain rfl := harg3.eq_unread hf0; obtain rfl := harg4.eq_unread hf1
  sl_exec! (disch := first | (guard_target = k0_cond1 _ _ = _; exact cond))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    unfold body_own.sl.H2_1
    refine (stored _ _ _ zero3 _).trans ?_
    simp only [View.readAt_eq_ld, harg3.read_unread, harg4.read_unread]
    rw [View.ld_unit_zero (S := S1x1x2560x128) zero4, View.ld_unit_zero (S := S1x2560x128) zero3]
  isplitl [H3]
  · iexists _; isplitr; swap; · iexact H3
    ipureintro
    unfold body_own.sl.H3_1
    refine (stored _ _ _ zero2 _).trans ?_
    simp only [View.readAt_eq_ld, harg3.read_unread, harg4.read_unread]
    rw [View.ld_unit_zero (S := S1x1x2560x128) zero4, View.ld_unit_zero (S := S1x2560x128) zero3]
  iexact HT

set_option maxHeartbeats 2000000 in
/-- At another part the body leaves the sum in the first result and the second as it was. -/
theorem body_other (c : Dev nD) (i : grid0.Coords) (arg3 : Memref sig .tc .vmem S1x1x2560x128 .f32) (harg3 : arg3.IsWhole)
    (arg4 : Memref sig .tc .vmem S1x2560x128 .f32) (harg4 : arg4.IsWhole) (arg5 : Memref sig .tc .vmem S1x2560x128 .bf16)
    (harg5 : arg5.IsWhole) (arg6 : Memref sig .tc .vmem S2560x128 .f32) (harg6 : arg6.IsWhole)
    (x0 : Vec F S1x1x2560x128 .f32) (x1 : Vec F S1x2560x128 .f32) (y : Vec F S2560x128 .f32) (T : S2.Idx → BitVec 32)
    (away : ¬k0_cond1 i (own T) = 1#1) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare y
        ∗ (names.view.loc (c : Thread nD τ) ↦{fullShare.right} T)
        ∗ (iprop(owns (c : Thread nD τ) arg3 fullShare x0 ∗ owns (c : Thread nD τ) arg4 fullShare x1
            ∗ owns (c : Thread nD τ) arg5 fullShare (k0_pay2 x0 x1) ∗ owns (c : Thread nD τ) arg6 fullShare y
            ∗ (names.view.loc (c : Thread nD τ) ↦{fullShare.right} T)) -∗ K ⟨⟩))
      ⊢ wp frame (wpE (defs₀ (F := F)) Variants.none c none) Set.univ
          (cc0_rs_chip_sum i names (Memref.isWhole_whole _) arg3 harg3 arg4 harg4 arg5 harg5 arg6 harg6) K := by
  have cond : ¬k0_cond1 i (View.readAt (Elt F) names.view (Rect.unit (s := S2) ![1] S1.size inb_S2_S1_1).toLoadRect T
      (Shape.Idx.first (numel1_S1.symm ▸ Nat.one_pos))) = 1#1 := by rw [word]; exact away
  unfold owns
  rw [cc0_rs_chip_sum_eq_skeleton]; unfold cc0_rs_chip_sum_skel
  iintro ⟨⟨%f0, %hf0, H0⟩, ⟨%f1, %hf1, H1⟩, ⟨%d2, %f2, -, H2⟩, ⟨%f3, %hf3, H3⟩, HT, Hk⟩
  obtain rfl := harg3.eq_unread hf0; obtain rfl := harg4.eq_unread hf1
  sl_exec! (disch := first | (guard_target = k0_cond1 _ _ = _; exact cond))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    unfold body_other.sl.H2_1
    refine (stored _ _ _ zero3 _).trans ?_
    simp only [View.readAt_eq_ld, harg3.read_unread, harg4.read_unread]
    rw [View.ld_unit_zero (S := S1x1x2560x128) zero4, View.ld_unit_zero (S := S1x2560x128) zero3]
  isplitl [H3]
  · iexists _; isplitr; swap; · iexact H3
    ipureintro; exact hf3
  iexact HT

/-! ## The tables and the schedule -/

/-- What the two names say: a half that is there, and the part that is the chip's own. -/
structure Named (ids : S2.Idx → BitVec 32) (q : Fin 4) : Prop where
  half : (ids (ix1 0)).toNat < 2
  part : ids (ix1 1) = BitVec.ofNat 32 q

variable (m : (ℓ : Loc nD τ sig) → Buf (Elt F) ℓ) (ρ : Dev nD → PrngReg)

/-- A buffer as the run finds it. -/
abbrev V (c : Dev nD) (b : Ref sig .tc) : Buf (Elt F) ((c : Thread nD τ).loc b) := m ((c : Thread nD τ).loc b)

/-- The two names as the run finds them. -/
abbrev ids : S2.Idx → BitVec 32 := V m (0 : Dev nD) main_arg0

/-- The one table. -/
def tbl : pre0.Contents (Elt F) := fun k => V m (0 : Dev nD) (pre0.ref k)

theorem V_pre (c : Dev nD) (k : Fin 1) : V m c (pre0.ref k) = tbl m k := by
  obtain rfl : c = 0 := Subsingleton.elim _ _; rfl

/-- The halves' block: the half named, then the block of the other argument. -/
theorem place0 (T : pre0.Contents (Elt F)) (i : grid0.Coords) : cc0_transform_0 inb_S2_S1_0 numel1_S1 T i
    = ![((T 0 : S2.Idx → BitVec 32) (ix1 0)).toNat, cc0_transform_1 i 0, cc0_transform_1 i 1, 0] := by
  have e : T.at 0 (Rect.unit (s := S2) ![0] S1.size inb_S2_S1_0) numel1_S1 = (T 0 : S2.Idx → BitVec 32) (ix1 0) :=
    congrArg (T 0 : S2.Idx → BitVec 32) (funext fun a => by match a with | ⟨0, _⟩ => rfl)
  rw [← e]; rfl

/-- Which part and which rows a point works on. -/
theorem places : ∀ t : Fin grid0.N, cc0_transform_1 (grid0.coords t) = ![t.val % 4, t.val / 4, 0]
    ∧ cc0_transform_2 (grid0.coords t) = ![t.val % 4, t.val / 4, 0] ∧ cc0_transform_3 (grid0.coords t) = ![t.val / 4, 0] := by
  decide +kernel

/-- The body finds its own part where the point's part is the one named. -/
theorem here_iff : ∀ (q : Fin 4) (t : Fin grid0.N), k0_cond1 (grid0.coords t) (BitVec.ofNat 32 q) = 1#1 ↔ t.val % 4 = q.val := by
  decide +kernel

variable {q : Fin 4} (n : Named (ids m) q)
include n

/-- Every block lies in its array. -/
theorem ok : ok0 (F := F) (tbl m) := fun i => by
  refine ⟨fun a => ?_, .inl rfl⟩
  rw [place0]
  match a with
  | ⟨0, _⟩ => show (((ids m) (ix1 0)).toNat + 1) * 1 ≤ 2; have := n.half; omega
  | ⟨1, _⟩ => exact hinb0_1 i 0
  | ⟨2, _⟩ => exact hinb0_1 i 1
  | ⟨3, _⟩ => exact hinb0_1 i 2

abbrev adm : (pcfg0 (F := F)).Adm := ⟨tbl m, ok m n⟩
abbrev cfgM : Pipeline.Cfg sig Λ₀ := cfg0 (adm m n)

theorem flush2 (t : Fin (cfgM m n).N) : ((cfgM m n).win (2 : Fin 4)).flush t = true :=
  (fun t => (Pipeline.Window.flushOf_reads cc0_transform_2 reads0_2 hreads0_2 1 (by decide) (by decide)
      (Pipeline.Window.sep_of_coord cc0_transform_2 1 0 (fun _ => rfl) (by decide)) (P := 1) (m := 0) (by decide) rfl t).mpr
      (Nat.mod_one _) : ∀ t : Fin grid0.N, Pipeline.Window.flushOf grid0 true cc0_transform_2 t = true) t

theorem flush3 (t : Fin (cfgM m n).N) : ((cfgM m n).win (3 : Fin 4)).flush t = true ↔ t.val % 4 = 3 :=
  (fun t => Pipeline.Window.flushOf_reads cc0_transform_3 reads0_3 hreads0_3 0 (by decide) (by decide)
      (Pipeline.Window.sep_of_coord cc0_transform_3 0 0 (fun _ => rfl) (by decide)) (P := 4) (m := 3) (by decide) rfl t :
    ∀ t : Fin grid0.N, Pipeline.Window.flushOf grid0 true cc0_transform_3 t = true ↔ t.val % 4 = 3) t

/-- The second result's window is idle at the other parts. -/
theorem idle3 (t : Fin (cfgM m n).N) : (cfgM m n).idle (3 : Fin 4) ((cfgM m n).grid.coords t) = !decide (t.val % 4 = q.val) := by
  have e : (cfgM m n).idle (3 : Fin 4) ((cfgM m n).grid.coords t) = !(k0_cond1 (grid0.coords t) ((ids m) (ix1 1)) == 1#1) := by
    show (!(k0_cond1 (grid0.coords t) ((tbl m).atD 0 ![1]) == 1#1)) = _
    refine congrArg (fun w => !(k0_cond1 (grid0.coords t) w == 1#1)) ?_
    refine (dif_pos (show ∀ a : Fin 1, (![1] : Fin 1 → ℕ) a + 1 ≤ S2.size a from by decide)).trans ?_
    exact congrArg (ids m) (funext fun a => by match a with | ⟨0, _⟩ => rfl)
  rw [e, n.part]
  refine congrArg Bool.not (Bool.eq_iff_iff.mpr ?_)
  rw [beq_iff_eq, decide_eq_true_iff]
  exact here_iff q t

/-- Nothing was stored into the second result's window since its last write-back up to the chip's own part. -/
theorem fresh3 (t : Fin (cfgM m n).N) : (cfgM m n).fresh (3 : Fin 4) t.val = decide (t.val % 4 ≤ q.val) := by
  refine Pipeline.Cfg.fresh_tab (cfgM m n) (3 : Fin 4) (fun k => decide (k % 4 ≤ q.val)) (by simp) (fun t => ?_) t.val (Nat.le_of_lt t.isLt)
  rw [idle3]
  have hq := q.isLt
  by_cases hf : t.val % 4 = 3
  · rw [(flush3 m n t).mpr hf, Bool.true_or]
    exact decide_eq_true (by omega)
  · have hf' : ((cfgM m n).win (3 : Fin 4)).flush t = false := by
      rw [← Bool.not_eq_true]; exact fun h => hf ((flush3 m n t).mp h)
    rw [hf', Bool.false_or]
    refine Bool.eq_iff_iff.mpr ?_
    simp only [Bool.and_eq_true, Bool.not_eq_true', decide_eq_true_iff, decide_eq_false_iff_not]
    omega

/-! ## What the windows hold -/

/-- A window's block at a point. -/
def iblk (c : Dev nD) (w : Fin (cfgM m n).W) (t : Fin (cfgM m n).N) :
    (((cfgM m n).win w).xblock ((cfgM m n).grid.coords t)).Idx → Elt F ((cfgM m n).win w).elt :=
  (((cfgM m n).win w).blk t).view.read (Elt F) (V m c (Pipeline.arrRef spec0 w))

/-- The point with the same rows at the chip's own part. -/
def mine (t : Fin (cfgM m n).N) : Fin (cfgM m n).N :=
  ⟨t.val / 4 * 4 + q.val, by have h : t.val < 56 := N_0 ▸ t.isLt; have := q.isLt; show _ < grid0.N; rw [N_0]; omega⟩

/-- The rounded sum at a point, and the sum kept. -/
def rounded (c : Dev nD) (t : Fin (cfgM m n).N) : Vec F S1x2560x128 .bf16 := k0_pay2 (iblk m n c (0 : Fin 4) t) (iblk m n c (1 : Fin 4) t)
def kept (c : Dev nD) (t : Fin (cfgM m n).N) : Vec F S2560x128 .f32 :=
  k0_pay1 (iblk m n c (0 : Fin 4) (mine m n t)) (iblk m n c (1 : Fin 4) (mine m n t))

/-- The proof data: each window's contents after each point. -/
def dats (_ : Fin 1) (c : Dev nD) : Dat τ (Elt F) Unit ℕ (UR sig nD τ) ℕ (cfgM m n) c where
  A w := V m c (Pipeline.arrRef spec0 w)
  after w t := match w with
    | ⟨0, _⟩ => iblk m n c (0 : Fin 4) t
    | ⟨1, _⟩ => iblk m n c (1 : Fin 4) t
    | ⟨2, _⟩ => rounded m n c t
    | ⟨3, _⟩ => kept m n c t
  Φ _ := iprop(Pipeline.ΦA spec0 c ∗ Pipeline.ΦT pre0 (tbl m) c)
  q _ := fullShare
  owed _ := 0

theorem A_eq (c : Dev nD) (w : Fin (cfgM m n).W) : (dats m n 0 c).A w = V m c (Pipeline.arrRef spec0 w) := by dsimp only [dats]
theorem after0 (c : Dev nD) (t : Fin (cfgM m n).N) : (dats m n 0 c).after (0 : Fin 4) t = iblk m n c (0 : Fin 4) t := by dsimp only [dats]
theorem after1 (c : Dev nD) (t : Fin (cfgM m n).N) : (dats m n 0 c).after (1 : Fin 4) t = iblk m n c (1 : Fin 4) t := by dsimp only [dats]
theorem after2 (c : Dev nD) (t : Fin (cfgM m n).N) : (dats m n 0 c).after (2 : Fin 4) t = rounded m n c t := by dsimp only [dats]
theorem after3 (c : Dev nD) (t : Fin (cfgM m n).N) : (dats m n 0 c).after (3 : Fin 4) t = kept m n c t := by dsimp only [dats]

theorem before0 (c : Dev nD) (t : Fin (cfgM m n).N) (d) : (dats m n 0 c).before (0 : Fin 4) t d = iblk m n c (0 : Fin 4) t :=
  ((dats m n 0 c).before_in_eq_fetched (0 : Fin 4) rfl (fun _ => rfl) (fun _ _ _ => rfl)
      (fun t => by rw [after0]; unfold Dat.blockOf iblk; rw [A_eq]; try rfl) t d).trans
    (by unfold Dat.fetched Dat.blockOf iblk; rw [A_eq]; try rfl)

theorem before1 (c : Dev nD) (t : Fin (cfgM m n).N) (d) : (dats m n 0 c).before (1 : Fin 4) t d = iblk m n c (1 : Fin 4) t :=
  ((dats m n 0 c).before_in_eq_fetched (1 : Fin 4) rfl (fun _ => rfl) (fun _ _ _ => rfl)
      (fun t => by rw [after1]; unfold Dat.blockOf iblk; rw [A_eq]; try rfl) t d).trans
    (by unfold Dat.fetched Dat.blockOf iblk; rw [A_eq]; try rfl)

/-- The kept sum is the same at every point with the same rows. -/
theorem kept_pred (c : Dev nD) (t : Fin (cfgM m n).N) (h : t.val % 4 ≠ 0) :
    kept m n c t = kept m n c ⟨t.val - 1, Nat.lt_of_le_of_lt (Nat.sub_le _ _) t.isLt⟩ := by
  have e : mine m n t = mine m n ⟨t.val - 1, Nat.lt_of_le_of_lt (Nat.sub_le _ _) t.isLt⟩ :=
    Fin.ext (by show t.val / 4 * 4 + q.val = (t.val - 1) / 4 * 4 + q.val; omega)
  unfold kept; rw [e]

/-- Past the chip's own part the second result's window holds the sum kept. -/
theorem before3 (c : Dev nD) (t : Fin (cfgM m n).N) (h : q.val < t.val % 4) (d) : (dats m n 0 c).before (3 : Fin 4) t d = kept m n c t := by
  have carry : ∀ (t : Fin (cfgM m n).N) (_ : t.val ≠ 0), (cfgM m n).idle (3 : Fin 4) ((cfgM m n).grid.coords t) = true →
      (cfgM m n).fresh (3 : Fin 4) t.val = false → (dats m n 0 c).after (3 : Fin 4) t = (dats m n 0 c).after (3 : Fin 4) ⟨t.val - 1, by omega⟩ := fun t _ _ hf => by
    rw [fresh3, decide_eq_false_iff_not] at hf
    rw [after3, after3]
    exact kept_pred m n c t (by omega)
  rw [(dats m n 0 c).before_out_traj (3 : Fin 4) rfl (fun _ _ => rfl) carry t.val t rfl d, fresh3, decide_eq_false (by omega),
    if_neg Bool.false_ne_true, after3]
  exact (kept_pred m n c t (by omega)).symm

/-! ## The body at every point -/

/-- The windows' memrefs at a point. -/
abbrev ms0 (t : Fin (cfgM m n).N) : Memref sig .tc .vmem S1x1x2560x128 .f32 := spec0_0.stage ((cfgM m n).slots t 0)
abbrev hs0 (t : Fin (cfgM m n).N) : (ms0 m n t).IsWhole := hstage0_0 (((cfgM m n).slots t 0).cast nbuf0_0)
abbrev ms1 (t : Fin (cfgM m n).N) : Memref sig .tc .vmem S1x2560x128 .f32 := spec0_1.stage ((cfgM m n).slots t 1)
abbrev hs1 (t : Fin (cfgM m n).N) : (ms1 m n t).IsWhole := hstage0_1 (((cfgM m n).slots t 1).cast nbuf0_1)
abbrev ms2 (t : Fin (cfgM m n).N) : Memref sig .tc .vmem S1x2560x128 .bf16 := spec0_2.stage ((cfgM m n).slots t 2)
abbrev hs2 (t : Fin (cfgM m n).N) : (ms2 m n t).IsWhole := hstage0_2 (((cfgM m n).slots t 2).cast nbuf0_2)
abbrev ms3 (t : Fin (cfgM m n).N) : Memref sig .tc .vmem S2560x128 .f32 := spec0_3.stage ((cfgM m n).slots t 3)
abbrev hs3 (t : Fin (cfgM m n).N) : (ms3 m n t).IsWhole := hstage0_3 (((cfgM m n).slots t 3).cast nbuf0_3)

abbrev bodyAt (t : Fin (cfgM m n).N) : Prog (TpuEff nD τ sig (Elt F) Λ₀ .tc) PUnit :=
  cc0_rs_chip_sum (grid0.coords t) names (Memref.isWhole_whole _) (ms0 m n t) (hs0 m n t) (ms1 m n t) (hs1 m n t)
    (ms2 m n t) (hs2 m n t) (ms3 m n t) (hs3 m n t)

omit n in
theorem PhiT_eq (c : Dev nD) : (Pipeline.ΦT pre0 (tbl m) c : sProp 𝕄)
    = iprop(names.view.loc (c : Thread nD τ) ↦{fullShare.right} (ids m)) := by
  unfold Pipeline.ΦT Pipeline.prefHeld
  rw [show (Finset.univ : Finset (Fin 1)) = {(0 : Fin 1)} from by decide, bigSep_singleton]
  rfl

set_option maxHeartbeats 4000000 in
/-- The body at any point, from what the windows hold before it to what they hold after. -/
theorem sound_body (c : Dev nD) (t : Fin (cfgM m n).N) :
    iprop((dats m n 0 c).Φ t.castSucc ∗ (dats m n 0 c).owesAt () t.castSucc
        ∗ (∃ d, owns (c : Thread nD τ) (ms0 m n t) fullShare ((dats m n 0 c).before (0 : Fin 4) t d))
        ∗ (∃ d, owns (c : Thread nD τ) (ms1 m n t) fullShare ((dats m n 0 c).before (1 : Fin 4) t d))
        ∗ (∃ d, owns (c : Thread nD τ) (ms2 m n t) fullShare ((dats m n 0 c).before (2 : Fin 4) t d))
        ∗ (∃ d, owns (c : Thread nD τ) (ms3 m n t) fullShare ((dats m n 0 c).before (3 : Fin 4) t d)))
      ⊢ wp frame (wpE (defs₀ (F := F)) Variants.none c none) Set.univ (bodyAt m n t) fun _ =>
          iprop((dats m n 0 c).Φ t.succ ∗ (dats m n 0 c).owesAt () t.succ
            ∗ bigSep Finset.univ fun w : Fin (cfgM m n).W =>
                match (cfgM m n).idle w ((cfgM m n).grid.coords t) with
                | true =>
                  match ((cfgM m n).win w).flush t with
                  | false => iprop(∃ d, owns (c : Thread nD τ) (((cfgM m n).win w).stage ((cfgM m n).slots t w)) fullShare ((dats m n 0 c).before w t d))
                  | true => owns (c : Thread nD τ) (((cfgM m n).win w).stage ((cfgM m n).slots t w)) fullShare ((dats m n 0 c).after w t)
                | false => owns (c : Thread nD τ) (((cfgM m n).win w).stage ((cfgM m n).slots t w)) fullShare ((dats m n 0 c).after w t)) := by
  rw [bigSep_W0]
  rewrite [idle3 m n t]
  rw [show (dats m n 0 c).Φ t.succ = (dats m n 0 c).Φ t.castSucc from rfl,
    show (dats m n 0 c).owesAt () t.succ = (dats m n 0 c).owesAt () t.castSucc from rfl,
    show (dats m n 0 c).Φ t.castSucc = iprop(Pipeline.ΦA spec0 c ∗ Pipeline.ΦT pre0 (tbl m) c) from rfl, PhiT_eq]
  simp only [before0, before1]
  have part : own (ids m) = BitVec.ofNat 32 q := n.part
  by_cases hq : t.val % 4 = q.val
  · have here : k0_cond1 (grid0.coords t) (own (ids m)) = 1#1 := by rw [part]; exact (here_iff q t).mpr hq
    rewrite [decide_eq_true hq]
    simp only [Bool.not_true, after0, after1, after2, after3]
    have e : kept m n c t = k0_pay1 (iblk m n c (0 : Fin 4) t) (iblk m n c (1 : Fin 4) t) := by
      have e : mine m n t = t := Fin.ext (by show t.val / 4 * 4 + q.val = t.val; omega)
      unfold kept; rw [e]
    rw [e]; unfold rounded
    iintro ⟨⟨HΦ, HT⟩, Ho, ⟨%d0, H0⟩, ⟨%d1, H1⟩, ⟨%d2, H2⟩, ⟨%d3, H3⟩⟩
    iapply (body_own c (grid0.coords t) (ms0 m n t) (hs0 m n t) (ms1 m n t) (hs1 m n t) (ms2 m n t) (hs2 m n t) (ms3 m n t) (hs3 m n t)
      (iblk m n c (0 : Fin 4) t) (iblk m n c (1 : Fin 4) t) (ids m) here _)
    isplitl [H0]; · iexact H0
    isplitl [H1]; · iexact H1
    isplitl [H2]; · iexists _; iexact H2
    isplitl [H3]; · iexists _; iexact H3
    isplitl [HT]; · iexact HT
    iintro ⟨H0, H1, H2, H3, HT⟩
    isplitl [HΦ HT]
    · isplitl [HΦ]
      · iexact HΦ
      iexact HT
    isplitl [Ho]; · iexact Ho
    isplitl [H0]; · iexact H0
    isplitl [H1]; · iexact H1
    isplitl [H2]; · iexact H2
    iexact H3
  · have away : ¬k0_cond1 (grid0.coords t) (own (ids m)) = 1#1 := by rw [part]; exact fun h => hq ((here_iff q t).mp h)
    rewrite [decide_eq_false hq]
    cases f3 : ((cfgM m n).win (3 : Fin 4)).flush t
    · simp only [Bool.not_false, after0, after1, after2]
      unfold rounded
      iintro ⟨⟨HΦ, HT⟩, Ho, ⟨%d0, H0⟩, ⟨%d1, H1⟩, ⟨%d2, H2⟩, ⟨%d3, H3⟩⟩
      iapply (body_other c (grid0.coords t) (ms0 m n t) (hs0 m n t) (ms1 m n t) (hs1 m n t) (ms2 m n t) (hs2 m n t) (ms3 m n t) (hs3 m n t)
        (iblk m n c (0 : Fin 4) t) (iblk m n c (1 : Fin 4) t) _ (ids m) away _)
      isplitl [H0]; · iexact H0
      isplitl [H1]; · iexact H1
      isplitl [H2]; · iexists _; iexact H2
      isplitl [H3]; · iexact H3
      isplitl [HT]; · iexact HT
      iintro ⟨H0, H1, H2, H3, HT⟩
      isplitl [HΦ HT]
      · isplitl [HΦ]
        · iexact HΦ
        iexact HT
      isplitl [Ho]; · iexact Ho
      isplitl [H0]; · iexact H0
      isplitl [H1]; · iexact H1
      isplitl [H2]; · iexact H2
      iexists _; iexact H3
    · have last := (flush3 m n t).mp f3
      have hlt : q.val < t.val % 4 := by have := q.isLt; omega
      simp only [Bool.not_false, after0, after1, after2, after3, before3 m n c t hlt]
      unfold rounded
      iintro ⟨⟨HΦ, HT⟩, Ho, ⟨%d0, H0⟩, ⟨%d1, H1⟩, ⟨%d2, H2⟩, ⟨%d3, H3⟩⟩
      iapply (body_other c (grid0.coords t) (ms0 m n t) (hs0 m n t) (ms1 m n t) (hs1 m n t) (ms2 m n t) (hs2 m n t) (ms3 m n t) (hs3 m n t)
        (iblk m n c (0 : Fin 4) t) (iblk m n c (1 : Fin 4) t) _ (ids m) away _)
      isplitl [H0]; · iexact H0
      isplitl [H1]; · iexact H1
      isplitl [H2]; · iexists _; iexact H2
      isplitl [H3]; · iexact H3
      isplitl [HT]; · iexact HT
      iintro ⟨H0, H1, H2, H3, HT⟩
      isplitl [HΦ HT]
      · isplitl [HΦ]
        · iexact HΦ
        iexact HT
      isplitl [Ho]; · iexact Ho
      isplitl [H0]; · iexact H0
      isplitl [H1]; · iexact H1
      isplitl [H2]; · iexact H2
      iexact H3

theorem body_obligation (c : Dev nD) : BodyObligation (dats m n 0 c) (defs₀ (F := F)) Variants.none () Set.univ := fun t => by
  rw [bigSep_W0]
  exact sound_body m n c t

omit n in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

set_option backward.isDefEq.respectTransparency.types false in
/-- The launch: every array at what the proof data say, and every counter at zero. -/
theorem launch : θ_run defs (onTc (τ := τ) (main (F := F))) (s₀ m ρ)
    (fun r => (Pipeline.FramePost (Pipeline.pin pcfgs fun _ => adm m n) (dats m n) 0 (V m)) r ∧ r.2.sem = fun _ => 0) :=
  Pipeline.θ_run_frameP (Q' := _) pcfgs (fun _ => adm m n) (dats m n) (0 : Fin 1) launch0 defs₀ Variants.none m ρ main
    (hbody := fun c => (body_obligation m n c).loose) (hshare := fun c => (dats m n 0 c).share_full fun _ => rfl)
    (howed := fun _ _ => rfl) (V := V m) (hmain := hmain m Variants.none) (hA := A_eq m n) (hpf := V_pre m)
    (hΦ := fun _ _ => rfl)

/-! ## What the results hold -/

/-- The half named. -/
abbrev side : Fin 2 := ⟨((ids m) (ix1 0)).toNat, n.half⟩

omit n in
/-- One entry of the sum the body keeps. -/
theorem sum_at (x0 : Vec F S1x1x2560x128 .f32) (x1 : Vec F S1x2560x128 .f32) (a : Fin 2560) (b : Fin 128) :
    k0_pay1 x0 x1 (ix2 (n0 := 2560) (n1 := 128) a b)
      = FloatOps.addf (x0 (ix4 (n0 := 1) (n1 := 1) (n2 := 2560) (n3 := 128) 0 0 a b)) (x1 (ix3 (n0 := 1) (n1 := 2560) (n2 := 128) 0 a b)) := by
  unfold k0_pay1
  refine congrArg₂ FloatOps.addf (shapeCast_apply x0 shapeCasts_S1x1x2560x128_S2560x128 _ _ ?_)
    (ValueIdx.shapeCast_1ab_ab_apply x1 shapeCasts_S1x2560x128_S2560x128 a b)
  rw [Shape.rowMajor_val_four, Shape.rowMajor_val_two]
  show ((0 * 1 + 0) * 2560 + a.val) * 128 + b.val = a.val * 128 + b.val
  omega

/-- Every part's two halves added. -/
def sum (h : Fin 2) (big : S2x4x35840x128.Idx → F .f32) (theirs : S4x35840x128.Idx → F .f32) : S4x35840x128.Idx → F .f32 :=
  fun i => FloatOps.addf (big (ix4 h (i 0) (i 1) (i 2))) (theirs i)

/-- Where an entry of a point's block lies in its array, window by window. -/
abbrev at0 (t : Fin (cfgM m n).N) (j : S1x1x2560x128.Idx) : S2x4x35840x128.Idx := (((cfgM m n).win (0 : Fin 4)).blk t).view.emb j
abbrev at1 (t : Fin (cfgM m n).N) (j : S1x2560x128.Idx) : S4x35840x128.Idx := (((cfgM m n).win (1 : Fin 4)).blk t).view.emb j
abbrev at2 (t : Fin (cfgM m n).N) (j : S1x2560x128.Idx) : S4x35840x128.Idx := (((cfgM m n).win (2 : Fin 4)).blk t).view.emb j
abbrev at3 (t : Fin (cfgM m n).N) (j : S2560x128.Idx) : S35840x128.Idx := (((cfgM m n).win (3 : Fin 4)).blk t).view.emb j

/-- The rows of a block, as rows of the whole part. -/
abbrev row (t : Fin (cfgM m n).N) (a : Fin 2560) : Fin 35840 :=
  ⟨t.val / 4 * 2560 + a.val, by have h : t.val < 56 := N_0 ▸ t.isLt; have := a.isLt; omega⟩

/-- The part of a point. -/
abbrev part (t : Fin (cfgM m n).N) : Fin 4 := ⟨t.val % 4, Nat.mod_lt _ (by decide)⟩

theorem at0_eq (t : Fin (cfgM m n).N) (a : Fin 2560) (b : Fin 128) :
    at0 m n t (ix4 (n0 := 1) (n1 := 1) (n2 := 2560) (n3 := 128) 0 0 a b) = ix4 (side m n) (part m n t) (row m n t a) b := by
  have e := place0 (tbl m) (grid0.coords t)
  rw [(places t).1] at e
  funext x; apply Fin.ext
  match x with
  | ⟨0, _⟩ => show cc0_transform_0 inb_S2_S1_0 numel1_S1 (tbl m) (grid0.coords t) 0 * 1 + 1 * 0 = ((ids m) (ix1 0)).toNat; rw [e]; show ((ids m) (ix1 0)).toNat * 1 + 1 * 0 = _; omega
  | ⟨1, _⟩ => show cc0_transform_0 inb_S2_S1_0 numel1_S1 (tbl m) (grid0.coords t) 1 * 1 + 1 * 0 = t.val % 4; rw [e]; show t.val % 4 * 1 + 1 * 0 = _; omega
  | ⟨2, _⟩ => show cc0_transform_0 inb_S2_S1_0 numel1_S1 (tbl m) (grid0.coords t) 2 * 2560 + 1 * a.val = t.val / 4 * 2560 + a.val; rw [e]; show t.val / 4 * 2560 + 1 * a.val = _; omega
  | ⟨3, _⟩ => show cc0_transform_0 inb_S2_S1_0 numel1_S1 (tbl m) (grid0.coords t) 3 * 128 + 1 * b.val = b.val; rw [e]; show 0 * 128 + 1 * b.val = _; omega

theorem at1_eq (t : Fin (cfgM m n).N) (a : Fin 2560) (b : Fin 128) :
    at1 m n t (ix3 (n0 := 1) (n1 := 2560) (n2 := 128) 0 a b) = ix3 (part m n t) (row m n t a) b := by
  have e := (places t).1
  funext x; apply Fin.ext
  match x with
  | ⟨0, _⟩ => show cc0_transform_1 (grid0.coords t) 0 * 1 + 1 * 0 = t.val % 4; rw [e]; show t.val % 4 * 1 + 1 * 0 = _; omega
  | ⟨1, _⟩ => show cc0_transform_1 (grid0.coords t) 1 * 2560 + 1 * a.val = t.val / 4 * 2560 + a.val; rw [e]; show t.val / 4 * 2560 + 1 * a.val = _; omega
  | ⟨2, _⟩ => show cc0_transform_1 (grid0.coords t) 2 * 128 + 1 * b.val = b.val; rw [e]; show 0 * 128 + 1 * b.val = _; omega

theorem at2_eq (t : Fin (cfgM m n).N) (a : Fin 2560) (b : Fin 128) :
    at2 m n t (ix3 (n0 := 1) (n1 := 2560) (n2 := 128) 0 a b) = ix3 (part m n t) (row m n t a) b := by
  have e := (places t).2.1
  funext x; apply Fin.ext
  match x with
  | ⟨0, _⟩ => show cc0_transform_2 (grid0.coords t) 0 * 1 + 1 * 0 = t.val % 4; rw [e]; show t.val % 4 * 1 + 1 * 0 = _; omega
  | ⟨1, _⟩ => show cc0_transform_2 (grid0.coords t) 1 * 2560 + 1 * a.val = t.val / 4 * 2560 + a.val; rw [e]; show t.val / 4 * 2560 + 1 * a.val = _; omega
  | ⟨2, _⟩ => show cc0_transform_2 (grid0.coords t) 2 * 128 + 1 * b.val = b.val; rw [e]; show 0 * 128 + 1 * b.val = _; omega

theorem at3_eq (t : Fin (cfgM m n).N) (a : Fin 2560) (b : Fin 128) :
    at3 m n t (ix2 (n0 := 2560) (n1 := 128) a b) = ix2 (row m n t a) b := by
  have e := (places t).2.2
  funext x; apply Fin.ext
  match x with
  | ⟨0, _⟩ => show cc0_transform_3 (grid0.coords t) 0 * 2560 + 1 * a.val = t.val / 4 * 2560 + a.val; rw [e]; show t.val / 4 * 2560 + 1 * a.val = _; omega
  | ⟨1, _⟩ => show cc0_transform_3 (grid0.coords t) 1 * 128 + 1 * b.val = b.val; rw [e]; show 0 * 128 + 1 * b.val = _; omega

/-- One entry of the sum at a point, over the two whole arguments. -/
theorem point_at (c : Dev nD) (t : Fin (cfgM m n).N) (a : Fin 2560) (b : Fin 128) :
    k0_pay1 (iblk m n c (0 : Fin 4) t) (iblk m n c (1 : Fin 4) t) (ix2 (n0 := 2560) (n1 := 128) a b)
      = sum (side m n) (V m c main_arg1) (V m c main_arg2) (ix3 (part m n t) (row m n t a) b) :=
  (sum_at _ _ a b).trans (congrArg₂ FloatOps.addf (congrArg (V m c main_arg1) (at0_eq m n t a b))
    (congrArg (V m c main_arg2) (at1_eq m n t a b)))

/-- What one point writes back into the first result is its block of the rounded sum. -/
theorem flushed2_eq (c : Dev nD) (t : Fin (cfgM m n).N) : (dats m n 0 c).flushed (2 : Fin 4) t
    = (((cfgM m n).win (2 : Fin 4)).blk t).view.read (Elt F)
      (truncf .bf16 (sum (side m n) (V m c main_arg1) (V m c main_arg2)) bitsLt_bf16_f32) := by
  show ((cfgM m n).win (2 : Fin 4)).cut (grid0.coords t) ((dats m n 0 c).after (2 : Fin 4) t) = _
  rw [after2]
  refine funext fun (j : S1x2560x128.Idx) => ?_
  obtain ⟨u, a, b, rfl⟩ : ∃ (u : Fin 1) (a : Fin 2560) (b : Fin 128), j = ix3 u a b := ⟨j 0, j 1, j 2, eq_ix3 j⟩
  obtain rfl : u = 0 := Subsingleton.elim _ _
  show k0_pay2 _ _ _ = truncf .bf16 (sum (side m n) (V m c main_arg1) (V m c main_arg2)) bitsLt_bf16_f32 (at2 m n t _)
  rw [at2_eq]
  unfold k0_pay2
  refine (ValueIdx.shapeCast_ab_1ab_apply _ shapeCasts_S2560x128_S1x2560x128 0 a b).trans ?_
  exact congrArg (FloatOps.truncf .bf16 bitsLt_bf16_f32) (point_at m n c t a b)

/-- What is written back into the second result, at the last part of each block of rows, is that block of the sum kept. -/
theorem flushed3_eq (c : Dev nD) (t : Fin (cfgM m n).N) : (dats m n 0 c).flushed (3 : Fin 4) t
    = (((cfgM m n).win (3 : Fin 4)).blk t).view.read (Elt F)
      (fun i : S35840x128.Idx => sum (side m n) (V m c main_arg1) (V m c main_arg2) (ix3 q (i 0) (i 1))) := by
  show ((cfgM m n).win (3 : Fin 4)).cut (grid0.coords t) ((dats m n 0 c).after (3 : Fin 4) t) = _
  rw [after3]
  refine funext fun (j : S2560x128.Idx) => ?_
  obtain ⟨a, b, rfl⟩ : ∃ (a : Fin 2560) (b : Fin 128), j = ix2 a b := ⟨j 0, j 1, eq_ix2 j⟩
  show k0_pay1 _ _ _ = sum (side m n) (V m c main_arg1) (V m c main_arg2) (ix3 q (at3 m n t _ 0) (at3 m n t _ 1))
  rw [at3_eq]
  refine (point_at m n c (mine m n t) a b).trans (congrArg (sum (side m n) (V m c main_arg1) (V m c main_arg2)) ?_)
  have hq := q.isLt
  funext x; apply Fin.ext
  match x with
  | ⟨0, _⟩ => show (t.val / 4 * 4 + q.val) % 4 = q.val; omega
  | ⟨1, _⟩ => show (t.val / 4 * 4 + q.val) / 4 * 2560 + a.val = t.val / 4 * 2560 + a.val; omega
  | ⟨2, _⟩ => rfl

/-- Every entry of the first result is in the block of some point. -/
theorem cover2 (i : S4x35840x128.Idx) : ∃ t : Fin (cfgM m n).N, ((cfgM m n).win (2 : Fin 4)).flush t = true
    ∧ i ∈ (((cfgM m n).win (2 : Fin 4)).blk t).view.set := by
  have hi0 : (i 0).val < 4 := (i 0).isLt
  have hi1 : (i 1).val < 35840 := (i 1).isLt
  have hi2 : (i 2).val < 128 := (i 2).isLt
  have ht : (i 1).val / 2560 * 4 + (i 0).val < grid0.N := by rw [N_0]; omega
  refine ⟨⟨(i 1).val / 2560 * 4 + (i 0).val, ht⟩, flush2 m n _, ?_⟩
  refine (Finset.ext_iff.mp (View.set_slice_whole main_v0_0 _) i).mpr (Rect.mem_set_unit.mpr fun a => ?_)
  obtain ⟨-, e, -⟩ := places ⟨(i 1).val / 2560 * 4 + (i 0).val, ht⟩
  match a with
  | ⟨0, _⟩ =>
    show cc0_transform_2 (grid0.coords ⟨_, ht⟩) 0 * 1 ≤ (i 0).val ∧ (i 0).val < cc0_transform_2 (grid0.coords ⟨_, ht⟩) 0 * 1 + 1
    rw [e]; show ((i 1).val / 2560 * 4 + (i 0).val) % 4 * 1 ≤ _ ∧ _ < ((i 1).val / 2560 * 4 + (i 0).val) % 4 * 1 + 1; omega
  | ⟨1, _⟩ =>
    show cc0_transform_2 (grid0.coords ⟨_, ht⟩) 1 * 2560 ≤ (i 1).val ∧ (i 1).val < cc0_transform_2 (grid0.coords ⟨_, ht⟩) 1 * 2560 + 2560
    rw [e]; show ((i 1).val / 2560 * 4 + (i 0).val) / 4 * 2560 ≤ _ ∧ _ < ((i 1).val / 2560 * 4 + (i 0).val) / 4 * 2560 + 2560; omega
  | ⟨2, _⟩ =>
    show cc0_transform_2 (grid0.coords ⟨_, ht⟩) 2 * 128 ≤ (i 2).val ∧ (i 2).val < cc0_transform_2 (grid0.coords ⟨_, ht⟩) 2 * 128 + 128
    rw [e]; show 0 * 128 ≤ _ ∧ _ < 0 * 128 + 128; omega

/-- Every entry of the second is in the block of some point that writes it back. -/
theorem cover3 (i : S35840x128.Idx) : ∃ t : Fin (cfgM m n).N, ((cfgM m n).win (3 : Fin 4)).flush t = true
    ∧ i ∈ (((cfgM m n).win (3 : Fin 4)).blk t).view.set := by
  have hi0 : (i 0).val < 35840 := (i 0).isLt
  have hi1 : (i 1).val < 128 := (i 1).isLt
  have ht : (i 0).val / 2560 * 4 + 3 < grid0.N := by rw [N_0]; omega
  refine ⟨⟨(i 0).val / 2560 * 4 + 3, ht⟩, (flush3 m n _).mpr (by show ((i 0).val / 2560 * 4 + 3) % 4 = 3; omega), ?_⟩
  refine (Finset.ext_iff.mp (View.set_slice_whole main_v0_1 _) i).mpr (Rect.mem_set_unit.mpr fun a => ?_)
  obtain ⟨-, -, e⟩ := places ⟨(i 0).val / 2560 * 4 + 3, ht⟩
  match a with
  | ⟨0, _⟩ =>
    show cc0_transform_3 (grid0.coords ⟨_, ht⟩) 0 * 2560 ≤ (i 0).val ∧ (i 0).val < cc0_transform_3 (grid0.coords ⟨_, ht⟩) 0 * 2560 + 2560
    rw [e]; show ((i 0).val / 2560 * 4 + 3) / 4 * 2560 ≤ _ ∧ _ < ((i 0).val / 2560 * 4 + 3) / 4 * 2560 + 2560; omega
  | ⟨1, _⟩ =>
    show cc0_transform_3 (grid0.coords ⟨_, ht⟩) 1 * 128 ≤ (i 1).val ∧ (i 1).val < cc0_transform_3 (grid0.coords ⟨_, ht⟩) 1 * 128 + 128
    rw [e]; show 0 * 128 ≤ _ ∧ _ < 0 * 128 + 128; omega

/-- The kernel's run: the two results, the arguments as they were, and every counter at zero. -/
theorem run : θ_run defs (onTc (τ := τ) (main (F := F))) ⟨m, fun _ => 0, ρ⟩ fun r => (∀ c : Dev nD,
      (r.2.mem ((c : Thread nD τ).loc main_v0_0)
          = truncf .bf16 (sum (side m n) (m ((c : Thread nD τ).loc main_arg1)) (m ((c : Thread nD τ).loc main_arg2))) bitsLt_bf16_f32
        ∧ r.2.mem ((c : Thread nD τ).loc main_v0_1)
          = fun i : S35840x128.Idx => sum (side m n) (m ((c : Thread nD τ).loc main_arg1)) (m ((c : Thread nD τ).loc main_arg2)) (ix3 q (i 0) (i 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0 :=
  (θ_run defs _ _).mono (fun r h => ⟨fun c => ⟨⟨
      ((h.1 c).1 (2 : Fin 4)).trans ((dats m n 0 c).arrAt_eq_of_cover (2 : Fin 4) _ (fun t _ => flushed2_eq m n c t) (cover2 m n)),
      ((h.1 c).1 (3 : Fin 4)).trans ((dats m n 0 c).arrAt_eq_of_cover (3 : Fin 4) _ (fun t _ => flushed3_eq m n c t) (cover3 m n))⟩,
      ((h.1 c).2 main_arg0 (by decide : main_arg0 ∈ Pipeline.restRefs sig spec0)).trans rfl,
      ((h.1 c).1 (0 : Fin 4)).trans (((dats m n 0 c).arrAt_in (0 : Fin 4) rfl _).trans (A_eq m n c (0 : Fin 4))),
      ((h.1 c).1 (1 : Fin 4)).trans (((dats m n 0 c).arrAt_in (1 : Fin 4) rfl _).trans (A_eq m n c (1 : Fin 4)))⟩, h.2⟩)
    (launch m ρ n)

end Cert.SumPairIdeal.Entry
-- ==== Proof.PairClaims.lean ====
/-
# The sum with the chip's partner: the claims

Where the half and the part named are there, the kernel's run and the reference's give the same two results: the reference
takes the half by a choice and the part by a sum over all four of which three terms are zero.
-/
module

public import proofs.«01_k».proof.Defs
public import proofs.«01_k».proof.Proof.PairRun
public import proofs.«01_k».proof.Proof.Gen.SumPair
public import proofs.«01_k».proof.Proof.Gen.SumPairRefIdeal.Run
public import proofs.«01_k».proof.Proof.Gen.Pre_named

@[expose] public section

set_option Elab.async false
set_option maxRecDepth 16384

noncomputable section

open Idealize.ShloMosaic Idealize.SL.Sem
open Idealize.ShloMosaic.TcCoe
open Idealize.ShloMosaic.ValueIdx hiding ix1 ix2 ix3 ix4 eq_ix2

namespace Cert.SumPair.Claims

open Cert.SumPairIdeal.Entry

/-! ## What the precondition says -/

/-- A word that is at least zero and below a small bound, both signed, is below it unsigned. -/
theorem word_lt (w : BitVec 32) (b : ℕ) (hb : b < 2 ^ 31) (h0 : Scalar.cmpi .sge w 0#32 = 1#1)
    (h1 : Scalar.cmpi .slt w (BitVec.ofNat 32 b) = 1#1) : w.toNat < b := by
  have p : ∀ c : Bool, BitVec.ofBool c = 1#1 → c = true := by decide
  have h0' : (0#32).sle w = true := p _ h0
  have h1' : w.slt (BitVec.ofNat 32 b) = true := p _ h1
  rw [BitVec.sle_eq_decide, decide_eq_true_iff] at h0'
  rw [BitVec.slt_eq_decide, decide_eq_true_iff] at h1'
  have hw := w.isLt
  simp only [BitVec.toInt_eq_toNat_cond, BitVec.toNat_ofNat] at h0' h1'
  split at h0' <;> split at h1' <;> omega

theorem of_toNat (w : BitVec 32) : BitVec.ofNat 32 w.toNat = w := BitVec.eq_of_toNat_eq (Nat.mod_eq_of_lt w.isLt)

/-- The precondition is that the half and the part named are there. -/
theorem exists_named {F : FTy → Type} [FloatOps F] (ids : Cert.Pre_named.S2.Idx → BitVec 32) (big theirs)
    (h : Cert.Pre_named.fn (F := F) ids big theirs = fun _ => 1#1) : ∃ q : Fin 4, Named ids q := by
  have one : ∀ a b : BitVec 1, a &&& b = 1#1 → a = 1#1 ∧ b = 1#1 := by decide
  have e := congrFun h (fun a => a.elim0)
  obtain ⟨e, h3⟩ := one _ _ e
  obtain ⟨e, h2⟩ := one _ _ e
  obtain ⟨h0, h1⟩ := one _ _ e
  have w0 : shapeCast Cert.Pre_named.S_ (extractStridedSlice Cert.Pre_named.S1 ![0] ids Cert.Pre_named.Facts.slices_S2_S1_0)
      Cert.Pre_named.Facts.shapeCasts_S1_S_ (fun a => a.elim0) = ids (ix1 0) :=
    (shapeCast_apply _ _ _ (ix1 (n0 := 1) 0) rfl).trans (congrArg ids (funext fun a => by match a with | ⟨0, _⟩ => rfl))
  have w1 : shapeCast Cert.Pre_named.S_ (extractStridedSlice Cert.Pre_named.S1 ![1] ids Cert.Pre_named.Facts.slices_S2_S1_1)
      Cert.Pre_named.Facts.shapeCasts_S1_S_ (fun a => a.elim0) = ids (ix1 1) :=
    (shapeCast_apply _ _ _ (ix1 (n0 := 1) 0) rfl).trans (congrArg ids (funext fun a => by match a with | ⟨0, _⟩ => rfl))
  have l0 := word_lt _ 2 (by decide) ((congrArg (Scalar.cmpi .sge · 0#32) w0.symm).trans h0) ((congrArg (Scalar.cmpi .slt · 2#32) w0.symm).trans h1)
  have l1 := word_lt _ 4 (by decide) ((congrArg (Scalar.cmpi .sge · 0#32) w1.symm).trans h2) ((congrArg (Scalar.cmpi .slt · 4#32) w1.symm).trans h3)
  exact ⟨⟨_, l1⟩, l0, (of_toNat _).symm⟩

/-! ## The reference -/

open Cert.SumPairRefIdeal Cert.SumPairRefIdeal.Gen

variable {F : FTy → Type} [FloatOps F]

/-- One half, cut out and cast, at one entry. -/
theorem half_at (k : Fin 2) (big : S2x4x35840x128.Idx → F .f32) (hs : S2x4x35840x128.Slices ![k.val, 0, 0, 0] S1x4x35840x128)
    (i : S4x35840x128.Idx) : shapeCast S4x35840x128 (extractStridedSlice S1x4x35840x128 ![k.val, 0, 0, 0] big hs)
      shapeCasts_S1x4x35840x128_S4x35840x128 i = big (ix4 k (i 0) (i 1) (i 2)) := by
  refine (shapeCast_apply _ _ _ (ix4 (n0 := 1) (n1 := 4) (n2 := 35840) (n3 := 128) 0 (i 0) (i 1) (i 2)) ?_).trans
    (congrArg big (funext fun a => Fin.ext ?_))
  · rw [Shape.rowMajor_val_four, Shape.rowMajor_val_three]
    show ((0 * 4 + (i 0).val) * 35840 + (i 1).val) * 128 + (i 2).val = ((i 0).val * 35840 + (i 1).val) * 128 + (i 2).val
    omega
  · match a with
    | ⟨0, _⟩ => show k.val + 0 = k.val; omega
    | ⟨1, _⟩ => show 0 + (i 0).val = (i 0).val; omega
    | ⟨2, _⟩ => show 0 + (i 1).val = (i 1).val; omega
    | ⟨3, _⟩ => show 0 + (i 2).val = (i 2).val; omega

/-- One of the two names, cut out and cast. -/
theorem name_at (k : Fin 2) (ids : S2.Idx → BitVec 32) (hs : S2.Slices ![k.val] S1) (i : S_.Idx) :
    shapeCast S_ (extractStridedSlice S1 ![k.val] ids hs) shapeCasts_S1_S_ i = ids (ix1 k) := by
  refine (shapeCast_apply _ _ _ (ix1 (n0 := 1) 0) ?_).trans (congrArg ids (funext fun a => Fin.ext ?_))
  · rw [show i = fun a => a.elim0 from funext fun a => a.elim0]; rfl
  · match a with | ⟨0, _⟩ => rfl

/-- The reference's sum is the sum of the half named and the other array. -/
theorem sum_ref (ids : S2.Idx → BitVec 32) (h : Fin 2) (hh : (ids (ix1 0)).toNat = h.val) (big : S2x4x35840x128.Idx → F .f32)
    (theirs : S4x35840x128.Idx → F .f32) : addf (select (broadcastInDim S4x35840x128 ![] bcast_S_S4x35840x128
      (cmpi .eq (shapeCast S_ (extractStridedSlice S1 ![0] ids slices_S2_S1_0) shapeCasts_S1_S_) (constantI S_ 32 0#32)))
        (shapeCast S4x35840x128 (extractStridedSlice S1x4x35840x128 ![0, 0, 0, 0] big slices_S2x4x35840x128_S1x4x35840x128_0_0_0_0) shapeCasts_S1x4x35840x128_S4x35840x128)
        (shapeCast S4x35840x128 (extractStridedSlice S1x4x35840x128 ![1, 0, 0, 0] big slices_S2x4x35840x128_S1x4x35840x128_1_0_0_0) shapeCasts_S1x4x35840x128_S4x35840x128)) theirs
      = sum h big theirs := by
  funext i
  refine congrArg (FloatOps.addf · (theirs i)) ?_
  have c : broadcastInDim S4x35840x128 ![] bcast_S_S4x35840x128
      (cmpi .eq (shapeCast S_ (extractStridedSlice S1 ![0] ids slices_S2_S1_0) shapeCasts_S1_S_) (constantI S_ 32 0#32)) i
      = Scalar.cmpi .eq (ids (ix1 0)) 0#32 :=
    (broadcastInDim_scalar_apply _ _ _).trans (congrArg (Scalar.cmpi .eq · 0#32) (name_at 0 ids slices_S2_S1_0 _))
  have e : ids (ix1 0) = BitVec.ofNat 32 h.val := by rw [← hh]; exact (of_toNat _).symm
  refine (congr (congr (congrArg Scalar.select c) (half_at 0 big slices_S2x4x35840x128_S1x4x35840x128_0_0_0_0 i))
    (half_at 1 big slices_S2x4x35840x128_S1x4x35840x128_1_0_0_0 i)).trans ?_
  rw [e]
  match h with
  | ⟨0, _⟩ => rfl
  | ⟨1, _⟩ => rfl

/-- The reference's second result is the part named: the other three add zero. -/
theorem part_ref (ids : S2.Idx → BitVec 32) (q : Fin 4) (hq : ids (ix1 1) = BitVec.ofNat 32 q) (s : S4x35840x128.Idx → Ideal .f32) :
    Host.reduceAdd (select (broadcastInDim S4x35840x128 ![0, 1, 2] bcast_S4x1x1_S4x35840x128_0_1_2
        (cmpi .eq (broadcastInDim S4x1x1 ![0] bcast_S4_S4x1x1_0 (iotaInDim S4 32 0)) (broadcastInDim S4x1x1 ![] bcast_S_S4x1x1
          (shapeCast S_ (extractStridedSlice S1 ![1] ids slices_S2_S1_1) shapeCasts_S1_S_)))) s
        (broadcastInDim S4x35840x128 ![] bcast_S_S4x35840x128 (id (constant S_ .f32 0x00000000#32))))
      (constant S_ .f32 0x00000000#32) reducesTo_S4x35840x128_S35840x128_d0 h_S_ = fun j => s (ix3 q (j 0) (j 1)) := by
  funext j
  refine (hostReduceAdd_apply _ _ reducesTo_S4x35840x128_S35840x128_d0 h_S_ j).trans ?_
  refine (Ideal.hostReduceAdd_r3_a0 reducesTo_S4x35840x128_S35840x128_d0 _ _ j).trans ?_
  have chip : ∀ k : Fin 4, broadcastInDim S4x35840x128 ![0, 1, 2] bcast_S4x1x1_S4x35840x128_0_1_2
        (cmpi .eq (broadcastInDim S4x1x1 ![0] bcast_S4_S4x1x1_0 (iotaInDim S4 32 0)) (broadcastInDim S4x1x1 ![] bcast_S_S4x1x1
          (shapeCast S_ (extractStridedSlice S1 ![1] ids slices_S2_S1_1) shapeCasts_S1_S_)))
        (ix3 (n0 := 4) (n1 := 35840) (n2 := 128) k (j 0) (j 1)) = Scalar.cmpi .eq (BitVec.ofNat 32 k.val) (BitVec.ofNat 32 q.val) := fun k => by
    refine (broadcastInDim_apply ![0, 1, 2] bcast_S4x1x1_S4x35840x128_0_1_2 _ (ix3 (n0 := 4) (n1 := 35840) (n2 := 128) k (j 0) (j 1))
      (ix3 (n0 := 4) (n1 := 1) (n2 := 1) k 0 0) (fun a => by match a with | ⟨0, _⟩ => rfl | ⟨1, _⟩ => rfl | ⟨2, _⟩ => rfl)).trans ?_
    refine congrArg₂ (Scalar.cmpi .eq) ?_ ?_
    · exact broadcastInDim_apply ![0] bcast_S4_S4x1x1_0 (iotaInDim S4 32 0) (ix3 (n0 := 4) (n1 := 1) (n2 := 1) k 0 0) (ix1 (n0 := 4) k)
        (fun a => by match a with | ⟨0, _⟩ => rfl)
    · exact (broadcastInDim_scalar_apply _ _ _).trans ((name_at 1 ids slices_S2_S1_1 _).trans hq)
  have zero : ∀ i, broadcastInDim S4x35840x128 ![] bcast_S_S4x35840x128 (id (constant (F := Ideal) S_ .f32 0x00000000#32)) i = (0 : EReal) :=
    fun i => (broadcastInDim_scalar_apply _ _ _).trans Ideal.ofBits_zero_f32
  have differ : ∀ k q : Fin 4, k ≠ q → Scalar.cmpi .eq (BitVec.ofNat 32 k.val) (BitVec.ofNat 32 q.val) = 0#1 := by decide
  have same : ∀ q : Fin 4, Scalar.cmpi .eq (BitVec.ofNat 32 q.val) (BitVec.ofNat 32 q.val) = 1#1 := by decide
  have each : ∀ k : Fin 4, select _ s _ (ix3 (n0 := 4) (n1 := 35840) (n2 := 128) k (j 0) (j 1))
      = Scalar.select (Scalar.cmpi .eq (BitVec.ofNat 32 k.val) (BitVec.ofNat 32 q.val)) (s (ix3 (n0 := 4) (n1 := 35840) (n2 := 128) k (j 0) (j 1))) (0 : EReal) :=
    fun k => congr (congr (congrArg Scalar.select (chip k)) rfl) (zero _)
  refine (congrArg₂ (· + ·) (Ideal.ofBits_zero_f32) ((Finset.sum_congr rfl fun k _ => each k).trans
    (Finset.sum_eq_single q (fun k _ hk => ?_) (fun h => absurd (Finset.mem_univ q) h)))).trans ?_
  · rw [differ k q hk]; exact if_neg (by decide)
  · rw [same q]; exact (zero_add _).trans (if_pos rfl)

/-! ## The claims -/

/-- The kernel keeps its arguments and returns every counter to zero. -/
theorem keeps (m : (ℓ : Loc Cert.SumPairIdeal.nD Cert.SumPairIdeal.τ Cert.SumPairIdeal.sig) → Buf (Elt F) ℓ)
    (g : Dev Cert.SumPairIdeal.nD → PrngReg) {q : Fin 4} (n : Named (ids m) q) :
    θ_run (Cert.SumPairIdeal.defs (F := F)) (onTc (τ := Cert.SumPairIdeal.τ) (Cert.SumPairIdeal.main (F := F))) ⟨m, fun _ => 0, g⟩ fun r =>
      (∀ c : Dev Cert.SumPairIdeal.nD,
        r.2.mem ((c.tc : Thread Cert.SumPairIdeal.nD Cert.SumPairIdeal.τ).loc Cert.SumPairIdeal.main_arg0) = m ((c.tc : Thread Cert.SumPairIdeal.nD Cert.SumPairIdeal.τ).loc Cert.SumPairIdeal.main_arg0)
        ∧ r.2.mem ((c.tc : Thread Cert.SumPairIdeal.nD Cert.SumPairIdeal.τ).loc Cert.SumPairIdeal.main_arg1) = m ((c.tc : Thread Cert.SumPairIdeal.nD Cert.SumPairIdeal.τ).loc Cert.SumPairIdeal.main_arg1)
        ∧ r.2.mem ((c.tc : Thread Cert.SumPairIdeal.nD Cert.SumPairIdeal.τ).loc Cert.SumPairIdeal.main_arg2) = m ((c.tc : Thread Cert.SumPairIdeal.nD Cert.SumPairIdeal.τ).loc Cert.SumPairIdeal.main_arg2))
      ∧ r.2.sem = fun _ => 0 :=
  (θ_run Cert.SumPairIdeal.defs _ _).mono (fun _ h => ⟨fun c => (h.1 c).2, h.2⟩) (Cert.SumPairIdeal.Entry.run m g n)

/-- The kernel and its idealization are one program. -/
theorem same_body : Cert.SumPair.defs₀ (F := Bits) = Cert.SumPairIdeal.defs₀ (F := Bits) :=
  congrArg Defs.onTc (funext fun l => match l with
    | ⟨0, _⟩ => funext fun (_, _) => rfl)
theorem same_defs : Cert.SumPair.defs (F := Bits) = Cert.SumPairIdeal.defs (F := Bits) :=
  congrArg (Pipeline.defs Cert.SumPairIdeal.pcfgs) same_body

theorem frame_kernel : Cert.quiescent_SumPair := fun m g pre =>
  (exists_named (F := Bits) _ _ _ (pre 0)).elim fun _ n => by rw [same_defs]; exact keeps (F := Bits) m g n
theorem frame_ideal : Cert.quiescent_SumPairIdeal := fun m g pre =>
  (exists_named (F := Ideal) _ _ _ (pre 0)).elim fun _ n => keeps (F := Ideal) m g n

theorem frame_ref : Cert.quiescent_SumPairRefIdeal := fun m g _ =>
  (θ_run Cert.SumPairRefIdeal.defs _ _).mono (fun r h => ⟨fun c => (h c).2.2, sem_eq_zero_of_no_sems (by decide) r.2⟩)
    (Cert.SumPairRefIdeal.Value.run (F := Ideal) m g)

theorem frame_ref_pre : Cert.quiescent_SumPairRefIdeal_pre_named := fun m g _ => frame_ref m g trivial

theorem algebraic : Cert.algebraic_SumPairIdeal_SumPairRefIdeal := fun m g m' g' pre h => by
  obtain ⟨q, n⟩ := exists_named _ _ _ (pre 0)
  refine ⟨_, _, (θ_run Cert.SumPairIdeal.defs _ _).mono (fun r e c => ⟨(e.1 c).1.1, (e.1 c).1.2, (e.1 c).2⟩)
      (Cert.SumPairIdeal.Entry.run (F := Ideal) m g n),
    (θ_run Cert.SumPairRefIdeal.defs _ _).mono (fun r e c => ?_) (Cert.SumPairRefIdeal.Value.run (F := Ideal) m' g')⟩
  obtain rfl : c = 0 := Subsingleton.elim _ _
  have s := sum_ref (F := Ideal) (m ((0 : Dev Cert.SumPairIdeal.nD).tc.loc Cert.SumPairIdeal.main_arg0)) (side m n) rfl
    (m ((0 : Dev Cert.SumPairIdeal.nD).tc.loc Cert.SumPairIdeal.main_arg1)) (m ((0 : Dev Cert.SumPairIdeal.nD).tc.loc Cert.SumPairIdeal.main_arg2))
  refine ⟨(e 0).1.trans ?_, (e 0).2.1.trans ?_, (e 0).2.2⟩
  · rw [(h 0).1, (h 0).2.1, (h 0).2.2]
    exact congrArg (truncf .bf16 · bitsLt_bf16_f32) s
  · rw [(h 0).1, (h 0).2.1, (h 0).2.2]
    refine (part_ref _ q n.part _).trans ?_
    rw [s]

end Cert.SumPair.Claims

end
-- ==== Proof.Tokens.lean ====
/-
# Sums over a device's tokens

A device holds 4096 tokens of 1024 numbers. A kernel that sums over them adds blocks of 512 tokens, and in each block the
64 groups of eight; here those sums are put together, and a positive number is moved through a sum. The mean over a
token's numbers is a sum over 1024, written as a quotient or as a product. The norm of a token is stated for its row.
-/
module

public import Idealize.ShloMosaic.Lib.StableHlo.Run
public import Idealize.ShloMosaic.Lib.IdealHost
public import Idealize.ShloMosaic.Lib.Pointwise
public import Idealize.ShloMosaic.Lib.VecWindow
public import Idealize.ShloMosaic.PureOps.Ideal

@[expose] public section

set_option Elab.async false

noncomputable section

namespace Cert.Tokens

open Idealize.ShloMosaic
open scoped BigOperators

section Rows

variable {M : Type} [AddCommMonoid M]

/-- A sum over `p * q` things, taken `q` at a time. -/
theorem sum_pairs (p q : ℕ) (f : Fin (p * q) → M) :
    ∑ n : Fin p, ∑ r : Fin q, f (finProdFinEquiv (n, r)) = ∑ i, f i := by
  rw [← Fintype.sum_prod_type' (fun n r => f (finProdFinEquiv (n, r)))]
  exact Equiv.sum_comp finProdFinEquiv f

/-- What a row gives, for a row's number: nothing outside the rows. -/
def ofRow {n : ℕ} (f : Fin n → M) (i : ℕ) : M := if h : i < n then f ⟨i, h⟩ else 0

theorem ofRow_eq {n : ℕ} (f : Fin n → M) (i : Fin n) {k : ℕ} (h : k = i.val) : ofRow f k = f i := by
  subst h
  exact dif_pos i.isLt

/-- What the eight lanes of an accumulator hold, added up, is the sum over all tokens. -/
theorem sum_lanes (g : Fin 4096 → M) :
    ∑ a : Fin 8, ∑ k ∈ Finset.range 8, ∑ r : Fin 64, ofRow g (512 * k + (8 * r.val + a.val)) = ∑ i, g i := by
  refine Eq.trans ?_ (Finset.sum_congr rfl fun i _ => ofRow_eq g i rfl)
  generalize ofRow g = f
  rw [Finset.sum_comm, ← Fin.sum_univ_eq_sum_range (fun k => ∑ a : Fin 8, ∑ r : Fin 64, f (512 * k + (8 * r.val + a.val))) 8]
  refine (Finset.sum_congr rfl fun n _ => ?_).trans (sum_pairs 8 512 fun i => f i.val)
  rw [Finset.sum_comm]
  refine (Finset.sum_congr rfl fun r _ => Finset.sum_congr rfl fun a _ => ?_).trans
    (sum_pairs 64 8 fun q => f (finProdFinEquiv (n, (q : Fin 512))).val)
  refine congrArg f ?_
  show 512 * n.val + (8 * r.val + a.val) = (a.val + 8 * r.val) + 512 * n.val
  omega

end Rows

/-- 1024, as the kernel and the reference write it. -/
theorem word_1024 : Ideal.ofBits .f32 0x44800000#32 = ((1024 : ℝ) : EReal) := by
  simp [Ideal.ofBits, Ideal.ieee, -EReal.coe_mul]; norm_num

/-- 1/1024. -/
theorem word_inv : Ideal.ofBits .f32 0x3A800000#32 = ((1 / 1024 : ℝ) : EReal) := by
  simp [Ideal.ofBits, Ideal.ieee, -EReal.coe_mul]; norm_num

/-- 1/2048. -/
theorem word_half_inv : Ideal.ofBits .f32 0x3A000000#32 = ((1 / 2048 : ℝ) : EReal) := by
  simp [Ideal.ofBits, Ideal.ieee, -EReal.coe_mul]; norm_num

/-- 1/2. -/
theorem word_half : Ideal.ofBits .f32 0x3F000000#32 = ((1 / 2 : ℝ) : EReal) := by
  simp [Ideal.ofBits, Ideal.ieee, -EReal.coe_mul]; norm_num

/-- A quotient by 1024 is a product with 1/1024. -/
theorem div_1024 (x : EReal) : Ideal.div x (Ideal.ofBits .f32 0x44800000#32) = x * ((1 / 1024 : ℝ) : EReal) := by
  rw [word_1024]
  unfold Ideal.div
  rw [if_neg (by exact_mod_cast (by norm_num : (1024 : ℝ) ≠ 0)), ← EReal.coe_inv]
  norm_num

/-- A number that is not negative goes through a sum of extended reals. -/
theorem sum_scale {ι : Type} (s : Finset ι) (c : ℝ) (hc : 0 ≤ c) (f : ι → EReal) :
    ∑ i ∈ s, f i * (c : EReal) = (∑ i ∈ s, f i) * (c : EReal) := by
  classical
  induction s using Finset.induction_on with
  | empty => simp
  | insert i s hi ih =>
    rw [Finset.sum_insert hi, Finset.sum_insert hi, ih,
      EReal.right_distrib_of_nonneg_of_ne_top (by exact_mod_cast hc) (EReal.coe_ne_top c)]

/-- Half the sum of the means is the whole sum over 2048. -/
theorem half_means {n : ℕ} (f : Fin n → EReal) :
    Ideal.ofBits .f32 0x3F000000#32 * ∑ i, Ideal.div (f i) (Ideal.ofBits .f32 0x44800000#32)
      = (∑ i, f i) * Ideal.ofBits .f32 0x3A000000#32 := by
  simp only [div_1024]
  rw [sum_scale _ _ (by norm_num), word_half, word_half_inv, mul_comm, mul_assoc, ← EReal.coe_mul]
  norm_num

/-! ## The root-mean-square norm of one token -/

/-- One over the root of the mean of the squares. -/
def inv (u : Fin 1024 → EReal) : EReal :=
  Ideal.rsqrt (Ideal.div (∑ l, u l * u l) (Ideal.ofBits .f32 0x44800000#32) + Ideal.ofBits .f32 0x358637BD#32)

/-- The derivative through the norm, added onto what came around it. -/
def back (u gain h d : Fin 1024 → EReal) (l : Fin 1024) : EReal :=
  d l + inv u * (h l * gain l - u l * inv u * Ideal.div (∑ k, h k * gain k * (u k * inv u)) (Ideal.ofBits .f32 0x44800000#32))

end Cert.Tokens

end
-- ==== Proof.LossClaims.lean ====
/-
# The loss head

Eight points, one for each 512 tokens. At each the kernel writes its block of the loss's derivative and adds the squares
of the errors onto an accumulator of eight lanes; the last point adds the lanes and scales. The reference takes the mean
of each token's squares and half the sum of the means.
-/
module

public import proofs.«01_k».proof.Defs
public import proofs.«01_k».proof.Proof.Tokens
public import proofs.«01_k».proof.Proof.Gen.LossHead.Frame
public import proofs.«01_k».proof.Proof.Gen.LossHeadIdeal.Value
public import proofs.«01_k».proof.Proof.Gen.LossHeadRefIdeal.Run
public import Idealize.ShloMosaic.Lib.Quiescent

@[expose] public section

set_option Elab.async false
set_option maxRecDepth 16384

noncomputable section

open Idealize.ShloMosaic Idealize.SL.Sem
open Idealize.ShloMosaic.TcCoe
open scoped BigOperators

namespace Cert.LossHeadIdeal.Entry

open Cert.LossHeadIdeal Cert.LossHeadIdeal.Gen

section Points

variable {F : FTy → Type} [FloatOps F] {c : Dev nD} {i : grid0.Coords}
  {arg1 arg2 arg3 : Memref sig .tc .vmem S512x1024 .f32} {arg4 : Memref sig .tc .vmem S1x1 .f32}
  {arg5 : Memref sig .tc .vmem S8x1024 .f32} {harg1 : arg1.IsWhole} {harg2 : arg2.IsWhole} {harg3 : arg3.IsWhole}
  {harg4 : arg4.IsWhole} {harg5 : arg5.IsWhole} {x0 x1 : Vec F S512x1024 .f32} {xs0 : Vec F S8x1024 .f32}

theorem load_rows (x : Vec F S512x1024 .f32) : View.ld x (Rect.unit ![0, 0] S512x1024.size inb_S512x1024_S512x1024_0_0) = x :=
  View.ld_unit_zero (S := S512x1024) (funext fun a => by match a with | ⟨0, _⟩ => rfl | ⟨1, _⟩ => rfl) _ x

theorem load_lanes (x : Vec F S8x1024 .f32) : View.ld x (Rect.unit ![0, 0] S8x1024.size inb_S8x1024_S8x1024_0_0) = x :=
  View.ld_unit_zero (S := S8x1024) (funext fun a => by match a with | ⟨0, _⟩ => rfl | ⟨1, _⟩ => rfl) _ x

theorem slope_first {hc0 : cond0_0 i} {hc1 : ¬cond0_1 i} {hc2 : ¬cond0_2 i} :
    out0_A_2 c i arg1 harg1 arg2 harg2 arg3 harg3 arg4 harg4 arg5 harg5 hc0 hc1 hc2 x0 x1 = k0_pay2 x0 x1 := by
  unfold out0_A_2 kernelRun0_A
  refine (View.read_writes_full _ _ _ _ _).trans ?_
  simp only [View.readAt_eq_ld, harg1.read_unread, harg2.read_unread]
  exact congrArg₂ k0_pay2 (load_rows x0) (load_rows x1)

theorem slope_next {hc0 : ¬cond0_0 i} {hc1 : cond0_1 i} {hc2 : ¬cond0_2 i} :
    out0_B_2 c i arg1 harg1 arg2 harg2 arg3 harg3 arg4 harg4 arg5 harg5 hc0 hc1 hc2 x0 x1 xs0 = k0_pay2 x0 x1 := by
  unfold out0_B_2 kernelRun0_B
  refine (View.read_writes_full _ _ _ _ _).trans ?_
  simp only [View.readAt_eq_ld, harg1.read_unread, harg2.read_unread]
  exact congrArg₂ k0_pay2 (load_rows x0) (load_rows x1)

theorem slope_last {hc0 : ¬cond0_0 i} {hc1 : cond0_1 i} {hc2 : cond0_2 i} :
    out0_C_2 c i arg1 harg1 arg2 harg2 arg3 harg3 arg4 harg4 arg5 harg5 hc0 hc1 hc2 x0 x1 xs0 = k0_pay2 x0 x1 := by
  unfold out0_C_2 kernelRun0_C
  refine (View.read_writes_full _ _ _ _ _).trans ?_
  simp only [View.readAt_eq_ld, harg1.read_unread, harg2.read_unread]
  exact congrArg₂ k0_pay2 (load_rows x0) (load_rows x1)

theorem held_first {hc0 : cond0_0 i} {hc1 : ¬cond0_1 i} {hc2 : ¬cond0_2 i} :
    sout0_A_0 c i arg1 harg1 arg2 harg2 arg3 harg3 arg4 harg4 arg5 harg5 hc0 hc1 hc2 x0 x1 = k0_pay4 x0 x1 := by
  unfold sout0_A_0 kernelRun0_A
  refine (View.read_writes_full _ _ _ _ _).trans ?_
  simp only [View.readAt_eq_ld, harg1.read_unread, harg2.read_unread]
  exact congrArg₂ k0_pay4 (load_rows x0) (load_rows x1)

theorem held_next {hc0 : ¬cond0_0 i} {hc1 : cond0_1 i} {hc2 : ¬cond0_2 i} :
    sout0_B_0 c i arg1 harg1 arg2 harg2 arg3 harg3 arg4 harg4 arg5 harg5 hc0 hc1 hc2 x0 x1 xs0 = k0_pay5 x0 x1 xs0 := by
  unfold sout0_B_0 kernelRun0_B
  refine (View.read_writes_full _ _ _ _ _).trans ?_
  simp only [View.readAt_eq_ld, harg1.read_unread, harg2.read_unread, harg5.read_unread]
  exact congr (congrArg₂ k0_pay5 (load_rows x0) (load_rows x1)) (load_lanes xs0)

theorem held_last {hc0 : ¬cond0_0 i} {hc1 : cond0_1 i} {hc2 : cond0_2 i} :
    sout0_C_0 c i arg1 harg1 arg2 harg2 arg3 harg3 arg4 harg4 arg5 harg5 hc0 hc1 hc2 x0 x1 xs0 = k0_pay5 x0 x1 xs0 := by
  unfold sout0_C_0 kernelRun0_C
  refine (View.read_writes_full _ _ _ _ _).trans ?_
  simp only [View.readAt_eq_ld, harg1.read_unread, harg2.read_unread, harg5.read_unread]
  exact congr (congrArg₂ k0_pay5 (load_rows x0) (load_rows x1)) (load_lanes xs0)

theorem total_last {hc0 : ¬cond0_0 i} {hc1 : cond0_1 i} {hc2 : cond0_2 i} :
    out0_C_3 c i arg1 harg1 arg2 harg2 arg3 harg3 arg4 harg4 arg5 harg5 hc0 hc1 hc2 x0 x1 xs0 = k0_pay6 (k0_pay5 x0 x1 xs0) := by
  unfold out0_C_3 kernelRun0_C
  refine (View.read_writes_full _ _ _ _ _).trans ?_
  unfold kernelRun0_C.sl.v18
  refine congrArg k0_pay6 ((View.readCov_full _ _ _ _ _).trans ?_)
  simp only [View.readAt_eq_ld, harg1.read_unread, harg2.read_unread, harg5.read_unread]
  exact congr (congrArg₂ k0_pay5 (load_rows x0) (load_rows x1)) (load_lanes xs0)

variable (m : (ℓ : Loc nD τ sig) → Buf (Elt F) ℓ)

theorem slope (c : Dev nD) (t : Fin cfg0.N) : (outsAt0 m c t.val t.isLt).1 = k0_pay2 (F := F) (iblk m c 0 t) (iblk m c 1 t) := by
  have hN : t.val < 8 := lt_of_lt_of_eq t.isLt N_0
  by_cases h0 : t.val % 8 = 0
  · rw [outsAt0_A m c t h0 (by omega) (by omega)]; dsimp only; exact slope_first (F := F)
  · by_cases h2 : t.val % 8 = 7
    · rw [outsAt0_C m c t h0 (by omega) h2]; dsimp only; exact slope_last (F := F)
    · rw [outsAt0_B m c t h0 (by omega) h2]; dsimp only; exact slope_next (F := F)

theorem start (c : Dev nD) (t : Fin cfg0.N) (ht : t.val = 0) :
    (outsAt0 m c t.val t.isLt).2.2 = k0_pay4 (F := F) (iblk m c 0 t) (iblk m c 1 t) := by
  rw [outsAt0_A m c t (by omega) (by omega) (by omega)]; dsimp only; exact held_first (F := F)

theorem step (c : Dev nD) (t : Fin cfg0.N) (ht : 1 ≤ t.val) : (outsAt0 m c t.val t.isLt).2.2
      = k0_pay5 (F := F) (iblk m c 0 t) (iblk m c 1 t) (outsAt0 m c (t.val - 1) (Nat.lt_of_le_of_lt (Nat.sub_le _ _) t.isLt)).2.2 := by
  have hN : t.val < 8 := lt_of_lt_of_eq t.isLt N_0
  by_cases h2 : t.val % 8 = 7
  · rw [outsAt0_C m c t (by omega) ht h2]; dsimp only; exact held_last (F := F)
  · rw [outsAt0_B m c t (by omega) ht h2]; dsimp only; exact held_next (F := F)

theorem finish (c : Dev nD) (t : Fin cfg0.N) (ht : t.val = 7) :
    (outsAt0 m c t.val t.isLt).2.1 = k0_pay6 (F := F) (outsAt0 m c t.val t.isLt).2.2 := by
  rw [step m c t (by omega), outsAt0_C m c t (by omega) (by omega) (by omega)]; dsimp only; exact total_last (F := F)

/-- The windows of the tokens move together, one block of rows at each point. -/
theorem places : ∀ t : Fin grid0.N, cc0_transform_0 (grid0.coords t) = ![t.val, 0]
    ∧ cc0_transform_1 (grid0.coords t) = ![t.val, 0] := by decide +kernel

/-- The row of the array that a block's row is. -/
abbrev row (t : Fin cfg0.N) (r : Fin 512) : Fin 4096 :=
  ⟨512 * t.val + r.val, by have := lt_of_lt_of_eq t.isLt N_0; omega⟩

theorem block0 (c : Dev nD) (t : Fin cfg0.N) (r : Fin 512) (l : Fin 1024) : (iblk m c 0 t : S512x1024.Idx → F .f32) (ix2 r l)
    = (m ((c : Thread nD τ).loc main_arg0) : S4096x1024.Idx → F .f32) (ix2 (row t r) l) := by
  refine congrArg (m ((c : Thread nD τ).loc main_arg0) : S4096x1024.Idx → F .f32) (funext fun a => Fin.ext ?_)
  have e := (places t).1
  match a with
  | ⟨0, _⟩ => show cc0_transform_0 (grid0.coords t) 0 * 512 + 1 * r.val = 512 * t.val + r.val; rw [e]; show t.val * 512 + 1 * r.val = _; omega
  | ⟨1, _⟩ => show cc0_transform_0 (grid0.coords t) 1 * 1024 + 1 * l.val = l.val; rw [e]; show 0 * 1024 + 1 * l.val = _; omega

theorem block1 (c : Dev nD) (t : Fin cfg0.N) (r : Fin 512) (l : Fin 1024) : (iblk m c 1 t : S512x1024.Idx → F .f32) (ix2 r l)
    = (m ((c : Thread nD τ).loc main_arg1) : S4096x1024.Idx → F .f32) (ix2 (row t r) l) := by
  refine congrArg (m ((c : Thread nD τ).loc main_arg1) : S4096x1024.Idx → F .f32) (funext fun a => Fin.ext ?_)
  have e := (places t).2
  match a with
  | ⟨0, _⟩ => show cc0_transform_1 (grid0.coords t) 0 * 512 + 1 * r.val = 512 * t.val + r.val; rw [e]; show t.val * 512 + 1 * r.val = _; omega
  | ⟨1, _⟩ => show cc0_transform_1 (grid0.coords t) 1 * 1024 + 1 * l.val = l.val; rw [e]; show 0 * 1024 + 1 * l.val = _; omega

end Points

section Values

variable (m : (ℓ : Loc nD τ sig) → Buf (Elt Ideal) ℓ)

/-- What is off at an entry. -/
abbrev off (y target : S4096x1024.Idx → Ideal .f32) (i : Fin 4096) (l : Fin 1024) : Ideal .f32 := y (ix2 i l) - target (ix2 i l)

abbrev sq (y target : S4096x1024.Idx → Ideal .f32) (l : Fin 1024) (i : Fin 4096) : EReal := off y target i l * off y target i l

section Sums

variable {y target : S4096x1024.Idx → Ideal .f32} {x0 x1 : Fin cfg0.N → S512x1024.Idx → Ideal .f32}
  (h0 : ∀ t r l, x0 t (ix2 r l) = y (ix2 (row t r) l)) (h1 : ∀ t r l, x1 t (ix2 r l) = target (ix2 (row t r) l))

include h0 h1

/-- A block's squares, in lanes of eight. -/
theorem squares (t : Fin cfg0.N) (j : S8x1024.Idx) : k0_pay3 (F := Ideal) (x0 t) (x1 t) j
    = ∑ r : Fin 64, Cert.Tokens.ofRow (sq y target (j 1)) (512 * t.val + (8 * r.val + (j 0).val)) := by
  have hN : t.val < 8 := lt_of_lt_of_eq t.isLt N_0
  have hj : (j 0).val < 8 := (j 0).isLt
  pointwise [k0_pay3, k0_pay1]
  refine Finset.sum_congr rfl fun r _ => ?_
  refine (congrArg₂ (fun a b : Ideal .f32 => (a - b) * (a - b)) (h0 t _ _) (h1 t _ _)).trans ?_
  refine (Cert.Tokens.ofRow_eq (sq y target (j 1)) (row t ⟨r.val * 8 + (j 0).val, by omega⟩) ?_).symm
  show 512 * t.val + (8 * r.val + (j 0).val) = 512 * t.val + (r.val * 8 + (j 0).val)
  omega

variable {A : (n : ℕ) → n < cfg0.N → S8x1024.Idx → Ideal .f32}
  (hs : ∀ h, A 0 h = k0_pay4 (F := Ideal) (x0 ⟨0, h⟩) (x1 ⟨0, h⟩))
  (hn : ∀ n h, A (n + 1) h = k0_pay5 (F := Ideal) (x0 ⟨n + 1, h⟩) (x1 ⟨n + 1, h⟩) (A n (Nat.lt_of_succ_lt h)))

include hs hn

/-- What an accumulator that goes from point to point holds after one: the squares of the blocks so far. -/
theorem held : ∀ (n : ℕ) (h : n < cfg0.N) (j : S8x1024.Idx), A n h j
    = ∑ k ∈ Finset.range (n + 1), ∑ r : Fin 64, Cert.Tokens.ofRow (sq y target (j 1)) (512 * k + (8 * r.val + (j 0).val))
  | 0, h, j => by
    rw [hs, Finset.sum_range_one]
    refine Eq.trans ?_ (squares h0 h1 ⟨0, h⟩ j)
    unfold k0_pay4
    rw [shapeCast_self]
  | n + 1, h, j => by
    rw [hn, Finset.sum_range_succ, ← held n (Nat.lt_of_succ_lt h) j, ← squares h0 h1 ⟨n + 1, h⟩ j]
    pointwise [k0_pay5]

/-- The lanes added up and scaled after the last point: all the squares, scaled. -/
theorem added (n : ℕ) (h : n < cfg0.N) (ht : n = 7) (i : S1x1.Idx) : k0_pay6 (F := Ideal) (A n h) i
    = (∑ r : Fin 4096, ∑ l : Fin 1024, sq y target l r) * Ideal.ofBits .f32 0x3A000000#32 := by
  pointwise [k0_pay6]
  refine congrArg (· * _) ?_
  rw [Finset.sum_comm, Finset.sum_comm (s := (Finset.univ : Finset (Fin 4096)))]
  refine Finset.sum_congr rfl fun l _ => ?_
  have lane : ∀ a : Fin 8, A n h (ix2 a l) = ∑ k ∈ Finset.range 8, ∑ r : Fin 64, Cert.Tokens.ofRow
      (sq y target l) (512 * k + (8 * r.val + a.val)) :=
    fun a => (held h0 h1 hs hn n h (ix2 a l)).trans (by rw [ht]; rfl)
  exact (Finset.sum_congr rfl fun a _ => lane a).trans (Cert.Tokens.sum_lanes _)

end Sums

theorem whole (c : Dev nD) (i : S1x1.Idx) : (Cert.LossHeadIdeal.Value.G3 m c : S1x1.Idx → Ideal .f32) i
    = (∑ r : Fin 4096, ∑ l : Fin 1024, sq (m ((c : Thread nD τ).loc main_arg0)) (m ((c : Thread nD τ).loc main_arg1)) l r)
      * Ideal.ofBits .f32 0x3A000000#32 := by
  have h0 : (i 0).val < 1 := (i 0).isLt
  have h1 : (i 1).val < 1 := (i 1).isLt
  have ht : Cert.LossHeadIdeal.Value.pt3Of i = 7 := by
    show 8 * (1 * ((i 0).val / 1 - 0) + 1 * ((i 1).val / 1 - 0)) + 7 = 7
    omega
  have hp : Cert.LossHeadIdeal.Value.pt3Of i < cfg0.N := by rw [show cfg0.N = 8 from N_0, ht]; omega
  unfold Cert.LossHeadIdeal.Value.G3
  rw [dif_pos hp, ← Cert.LossHeadIdeal.Value.outsAt0_sweep m c _ hp, finish m c ⟨_, hp⟩ ht]
  exact added (A := fun n h => (outsAt0 m c n h).2.2) (block0 m c) (block1 m c) (fun h => start m c ⟨0, h⟩ rfl)
    (fun n h => step m c ⟨n + 1, h⟩ (Nat.le_add_left 1 n)) _ hp ht _

theorem slope_at (c : Dev nD) (i : S4096x1024.Idx) : Cert.LossHeadIdeal.Value.G2 m c i
    = off (m ((c : Thread nD τ).loc main_arg0)) (m ((c : Thread nD τ).loc main_arg1)) (i 0) (i 1) * ((1 / 1024 : ℝ) : EReal) := by
  have h0 : (i 0).val < 4096 := (i 0).isLt
  have h1 : (i 1).val < 1024 := (i 1).isLt
  unfold Cert.LossHeadIdeal.Value.G2
  have hp : Cert.LossHeadIdeal.Value.pt2Of i < cfg0.N := by rw [show cfg0.N = 8 from N_0]; show 1 * ((i 0).val / 512 - 0) + 1 * ((i 1).val / 1024 - 0) < 8; omega
  rw [dif_pos hp, ← Cert.LossHeadIdeal.Value.outsAt0_sweep m c _ hp, slope m c ⟨_, hp⟩]
  pointwise [k0_pay2, k0_pay1]
  rw [Cert.Tokens.word_inv]
  refine congrArg (· * _) ?_
  have e : Cert.LossHeadIdeal.Value.loc2Of i = ix2 (⟨(i 0).val % 512, Nat.mod_lt _ (by decide)⟩ : Fin 512) (⟨(i 1).val % 1024, Nat.mod_lt _ (by decide)⟩ : Fin 1024) :=
    funext fun a => by match a with | ⟨0, _⟩ => rfl | ⟨1, _⟩ => rfl
  rw [e]
  refine congrArg₂ (fun a b : Ideal .f32 => a - b) ((block0 m c _ _ _).trans ?_) ((block1 m c _ _ _).trans ?_)
  all_goals
    refine congrArg _ (funext fun a => Fin.ext ?_)
    match a with
    | ⟨0, _⟩ => show 512 * (1 * ((i 0).val / 512 - 0) + 1 * ((i 1).val / 1024 - 0)) + (i 0).val % 512 = (i 0).val; omega
    | ⟨1, _⟩ => show (i 1).val % 1024 = (i 1).val; omega

end Values

end Cert.LossHeadIdeal.Entry

namespace Cert.LossHead.Claims

open Cert.LossHeadIdeal.Entry (off sq)

theorem frame_kernel : Cert.quiescent_LossHead := fun m g _ => Cert.LossHead.Gen.frame (F := Bits) m g
theorem frame_ideal : Cert.quiescent_LossHeadIdeal := fun m g _ => Cert.LossHeadIdeal.Gen.frame (F := Ideal) m g
theorem frame_ref : Cert.quiescent_LossHeadRefIdeal := fun m g _ =>
  (θ_run Cert.LossHeadRefIdeal.defs _ _).mono (fun r h => ⟨fun c => (h c).2.2, sem_eq_zero_of_no_sems (by decide) r.2⟩)
    (Cert.LossHeadRefIdeal.Value.run (F := Ideal) m g)

theorem algebraic : Cert.algebraic_LossHeadIdeal_LossHeadRefIdeal := fun m g m' g' _ h => by
  refine ⟨_, _, Cert.LossHeadIdeal.Value.run (F := Ideal) m g,
    (θ_run Cert.LossHeadRefIdeal.defs _ _).mono (fun _ r c => ?_)
      (Cert.LossHeadRefIdeal.Value.run (F := Ideal) m' g')⟩
  obtain ⟨h0, h1⟩ := h c
  obtain ⟨r0, r1, r2⟩ := r c
  refine ⟨r0.trans ?_, r1.trans ?_, r2⟩
  · refine funext fun i => Eq.trans ?_ (Cert.LossHeadIdeal.Entry.slope_at m c i).symm
    rw [h0, h1]
    pointwise
    rw [Cert.Tokens.div_1024, eq_ix2 (i : Cert.LossHeadIdeal.S4096x1024.Idx)]
    rfl
  · refine funext fun i => Eq.trans ?_ (Cert.LossHeadIdeal.Entry.whole m c i).symm
    rw [h0, h1]
    pointwise
    exact Cert.Tokens.half_means _

end Cert.LossHead.Claims
-- ==== Proof.NormClaims.lean ====
/-
# The norm

Eight points, one for each 512 tokens, and no point touches another's block: a token's result is its row over the root of
the mean of the row's squares, times the gain. The reference says the same of the whole array.
-/
module

public import proofs.«01_k».proof.Defs
public import proofs.«01_k».proof.Proof.Tokens
public import proofs.«01_k».proof.Proof.Gen.NormFwd.Frame
public import proofs.«01_k».proof.Proof.Gen.NormFwdIdeal.Value
public import proofs.«01_k».proof.Proof.Gen.NormFwdRefIdeal.Run
public import Idealize.ShloMosaic.Lib.Quiescent

@[expose] public section

set_option Elab.async false
set_option maxRecDepth 16384

noncomputable section

open Idealize.ShloMosaic Idealize.SL.Sem
open Idealize.ShloMosaic.TcCoe
open scoped BigOperators

namespace Cert.NormFwdIdeal.Entry

open Cert.NormFwdIdeal Cert.NormFwdIdeal.Gen

variable (m : (ℓ : Loc nD τ sig) → Buf (Elt Ideal) ℓ) (ρ : Dev nD → PrngReg)

/-- The norm of every token. -/
abbrev normed (x : S4096x1024.Idx → Ideal .f32) (gain : S1x1024.Idx → Ideal .f32) : S4096x1024.Idx → Ideal .bf16 := fun i =>
  x i * Cert.Tokens.inv (fun l => x (ix2 (i 0) l)) * gain (ix2 0 (i 1))

/-- The windows of the tokens move together, one block of rows at each point; the gain's stays. -/
theorem places : ∀ t : Fin grid0.N, cc0_transform_0 (grid0.coords t) = ![t.val, 0]
    ∧ cc0_transform_1 (grid0.coords t) = ![0, 0] ∧ cc0_transform_2 (grid0.coords t) = ![t.val, 0] := by decide +kernel

/-- The row of the array that a block's row is. -/
abbrev row (t : Fin cfg0.N) (r : Fin 512) : Fin 4096 :=
  ⟨512 * t.val + r.val, by have := lt_of_lt_of_eq t.isLt N_0; omega⟩

theorem block0 (c : Dev nD) (t : Fin cfg0.N) (r : Fin 512) (l : Fin 1024) : (iblk m c 0 t : S512x1024.Idx → Ideal .f32) (ix2 r l)
    = (m ((c : Thread nD τ).loc main_arg0) : S4096x1024.Idx → Ideal .f32) (ix2 (row t r) l) := by
  refine congrArg (m ((c : Thread nD τ).loc main_arg0) : S4096x1024.Idx → Ideal .f32) (funext fun a => Fin.ext ?_)
  have e := (places t).1
  match a with
  | ⟨0, _⟩ => show cc0_transform_0 (grid0.coords t) 0 * 512 + 1 * r.val = 512 * t.val + r.val; rw [e]; show t.val * 512 + 1 * r.val = _; omega
  | ⟨1, _⟩ => show cc0_transform_0 (grid0.coords t) 1 * 1024 + 1 * l.val = l.val; rw [e]; show 0 * 1024 + 1 * l.val = _; omega

theorem block1 (c : Dev nD) (t : Fin cfg0.N) (l : Fin 1024) : (iblk m c 1 t : S1x1024.Idx → Ideal .f32) (ix2 0 l)
    = (m ((c : Thread nD τ).loc main_arg1) : S1x1024.Idx → Ideal .f32) (ix2 0 l) := by
  refine congrArg (m ((c : Thread nD τ).loc main_arg1) : S1x1024.Idx → Ideal .f32) (funext fun a => Fin.ext ?_)
  have e := (places t).2.1
  match a with
  | ⟨0, _⟩ => show cc0_transform_1 (grid0.coords t) 0 * 1 + 1 * 0 = 0; rw [e]; rfl
  | ⟨1, _⟩ => show cc0_transform_1 (grid0.coords t) 1 * 1024 + 1 * l.val = l.val; rw [e]; show 0 * 1024 + 1 * l.val = _; omega

/-- What the kernel leaves in its block. -/
theorem left (x : Vec Ideal S512x1024 .f32) (gain : Vec Ideal S1x1024 .f32) (r : Fin 512) (l : Fin 1024) :
    out0_2 x gain (ix2 r l) = x (ix2 r l) * Cert.Tokens.inv (fun k => x (ix2 r k)) * gain (ix2 0 l) := by
  have origin : (![0, 0] : Fin 2 → ℕ) = fun _ => 0 := funext fun a => by match a with | ⟨0, _⟩ => rfl | ⟨1, _⟩ => rfl
  refine (congrFun (View.canon_unit_zero (S := S512x1024) origin _ _) _).trans ?_
  refine (congrFun (congrArg₂ k0_pay1 (View.ld_unit_zero (S := S512x1024) origin _ x) (View.ld_unit_zero (S := S1x1024) origin _ gain)) _).trans ?_
  pointwise [k0_pay1]
  rfl

/-- What one point writes back is its block of the norm. -/
theorem flushed_eq (c : Dev nD) (t : Fin cfg0.N) : (dats m 0 c).flushed 2 t
    = ((cfg0.win 2).blk t).view.read (Elt Ideal) (normed (m ((c : Thread nD τ).loc main_arg0)) (m ((c : Thread nD τ).loc main_arg1))) := by
  rw [Cert.NormFwdIdeal.Value.flushed2]
  refine funext fun (j : S512x1024.Idx) => ?_
  have h : (((cfg0.win 2).blk t).view.emb j : S4096x1024.Idx) = ix2 (row t (j 0)) (j 1) := by
    have e := (places t).2.2
    funext a; apply Fin.ext
    match a with
    | ⟨0, _⟩ => show cc0_transform_2 (grid0.coords t) 0 * 512 + 1 * (j 0).val = 512 * t.val + (j 0).val; rw [e]; show t.val * 512 + 1 * (j 0).val = _; omega
    | ⟨1, _⟩ => show cc0_transform_2 (grid0.coords t) 1 * 1024 + 1 * (j 1).val = (j 1).val; rw [e]; show 0 * 1024 + 1 * (j 1).val = _; omega
  refine Eq.trans ?_ (congrArg (normed _ _) h).symm
  refine (congrArg (out0_2 (iblk m c 0 t) (iblk m c 1 t)) (eq_ix2 (j : S512x1024.Idx))).trans ((left _ _ (j 0) (j 1)).trans ?_)
  refine congrArg₂ (fun a b : EReal => a * b) (congrArg₂ (fun a b : EReal => a * b) (block0 m c t _ _)
    (congrArg Cert.Tokens.inv (funext fun k => block0 m c t _ k))) (block1 m c t _)

/-- Every token is in the block of some point. -/
theorem cover (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  have hq : (i 0).val / 512 < grid0.N := by rw [N_0]; omega
  refine ⟨⟨(i 0).val / 512, hq⟩, flush0_2 _, ?_⟩
  refine (Finset.ext_iff.mp (View.set_slice_whole main_v0 _) i).mpr (Rect.mem_set_unit.mpr fun a => ?_)
  obtain ⟨-, -, e⟩ := places ⟨(i 0).val / 512, hq⟩
  match a with
  | ⟨0, _⟩ =>
    show cc0_transform_2 (grid0.coords ⟨(i 0).val / 512, hq⟩) 0 * 512 ≤ (i 0).val
      ∧ (i 0).val < cc0_transform_2 (grid0.coords ⟨(i 0).val / 512, hq⟩) 0 * 512 + 512
    rw [e]; show (i 0).val / 512 * 512 ≤ _ ∧ _ < (i 0).val / 512 * 512 + 512; omega
  | ⟨1, _⟩ =>
    show cc0_transform_2 (grid0.coords ⟨(i 0).val / 512, hq⟩) 1 * 1024 ≤ (i 1).val
      ∧ (i 1).val < cc0_transform_2 (grid0.coords ⟨(i 0).val / 512, hq⟩) 1 * 1024 + 1024
    rw [e]; show 0 * 1024 ≤ _ ∧ _ < 0 * 1024 + 1024; omega

/-- After the run the result is the norm. -/
theorem final (c : Dev nD) : (dats m 0 c).arrAt 2 cfg0.N
    = normed (m ((c : Thread nD τ).loc main_arg0)) (m ((c : Thread nD τ).loc main_arg1)) :=
  (dats m 0 c).arrAt_eq_of_cover 2 _ (fun t _ => flushed_eq m c t) cover

end Cert.NormFwdIdeal.Entry

namespace Cert.NormFwd.Claims

theorem frame_kernel : Cert.quiescent_NormFwd := fun m g _ => Cert.NormFwd.Gen.frame (F := Bits) m g
theorem frame_ideal : Cert.quiescent_NormFwdIdeal := fun m g _ => Cert.NormFwdIdeal.Gen.frame (F := Ideal) m g
theorem frame_ref : Cert.quiescent_NormFwdRefIdeal := fun m g _ =>
  (θ_run Cert.NormFwdRefIdeal.defs _ _).mono (fun r h => ⟨fun c => (h c).2, sem_eq_zero_of_no_sems (by decide) r.2⟩)
    (Cert.NormFwdRefIdeal.Value.run (F := Ideal) m g)

theorem algebraic : Cert.algebraic_NormFwdIdeal_NormFwdRefIdeal := fun m g m' g' _ h => by
  refine ⟨_, Cert.NormFwdIdeal.Value.run_blocks (F := Ideal) m g,
    (θ_run Cert.NormFwdRefIdeal.defs _ _).mono (fun _ r c => ?_)
      (Cert.NormFwdRefIdeal.Value.run (F := Ideal) m' g')⟩
  obtain ⟨h0, h1⟩ := h c
  obtain ⟨r0, r1⟩ := r c
  refine ⟨r0.trans ?_, r1⟩
  refine funext fun i => Eq.trans ?_ (congrFun (Cert.NormFwdIdeal.Entry.final m c) i).symm
  rw [h0, h1]
  pointwise
  rfl

end Cert.NormFwd.Claims
-- ==== Proof.NormBwdClaims.lean ====
/-
# The norm's derivative

Eight points, one for each 512 tokens. At each the kernel writes its block of the derivative by the tokens and adds the
products of the incoming derivative and the normed tokens onto an accumulator of eight lanes; the last point adds the
lanes, which is the derivative by the gain. The reference says both of the whole array.
-/
module

public import proofs.«01_k».proof.Defs
public import proofs.«01_k».proof.Proof.Tokens
public import proofs.«01_k».proof.Proof.Gen.NormBwd.Frame
public import proofs.«01_k».proof.Proof.Gen.NormBwdIdeal.Value
public import proofs.«01_k».proof.Proof.Gen.NormBwdRefIdeal.Run
public import Idealize.ShloMosaic.Lib.Quiescent

@[expose] public section

set_option Elab.async false
set_option maxRecDepth 16384

noncomputable section

open Idealize.ShloMosaic Idealize.SL.Sem
open Idealize.ShloMosaic.TcCoe
open scoped BigOperators

namespace Cert.NormBwdIdeal.Entry

open Cert.NormBwdIdeal Cert.NormBwdIdeal.Gen

section Points

variable {F : FTy → Type} [FloatOps F] {c : Dev nD} {i : grid0.Coords}
  {arg1 arg3 arg4 arg5 : Memref sig .tc .vmem S512x1024 .f32} {arg2 arg6 : Memref sig .tc .vmem S1x1024 .f32}
  {arg7 : Memref sig .tc .vmem S8x1024 .f32} {harg1 : arg1.IsWhole} {harg2 : arg2.IsWhole} {harg3 : arg3.IsWhole}
  {harg4 : arg4.IsWhole} {harg5 : arg5.IsWhole} {harg6 : arg6.IsWhole} {harg7 : arg7.IsWhole}
  {x0 x2 x3 : Vec F S512x1024 .f32} {x1 : Vec F S1x1024 .f32} {xs0 : Vec F S8x1024 .f32}

theorem origin : (![0, 0] : Fin 2 → ℕ) = fun _ => 0 := funext fun a => by match a with | ⟨0, _⟩ => rfl | ⟨1, _⟩ => rfl

theorem load_rows {arg : Memref sig .tc .vmem S512x1024 .f32} (h : arg.IsWhole) (x : Vec F S512x1024 .f32) :
    View.readAt (Elt F) arg.view (Rect.unit ![0, 0] S512x1024.size inb_S512x1024_S512x1024_0_0).toLoadRect (h.unread x) = x := by
  rw [View.readAt_eq_ld, h.read_unread]; exact View.ld_unit_zero (S := S512x1024) origin _ x

theorem load_gain {arg : Memref sig .tc .vmem S1x1024 .f32} (h : arg.IsWhole) (x : Vec F S1x1024 .f32) :
    View.readAt (Elt F) arg.view (Rect.unit ![0, 0] S1x1024.size inb_S1x1024_S1x1024_0_0).toLoadRect (h.unread x) = x := by
  rw [View.readAt_eq_ld, h.read_unread]; exact View.ld_unit_zero (S := S1x1024) origin _ x

theorem load_lanes {arg : Memref sig .tc .vmem S8x1024 .f32} (h : arg.IsWhole) (x : Vec F S8x1024 .f32) :
    View.readAt (Elt F) arg.view (Rect.unit ![0, 0] S8x1024.size inb_S8x1024_S8x1024_0_0).toLoadRect (h.unread x) = x := by
  rw [View.readAt_eq_ld, h.read_unread]; exact View.ld_unit_zero (S := S8x1024) origin _ x

theorem slope_first {hc0 : cond0_0 i} {hc1 : ¬cond0_1 i} {hc2 : ¬cond0_2 i} : out0_A_4 c i arg1 harg1 arg2 harg2 arg3 harg3 arg4 harg4 arg5 harg5
      arg6 harg6 arg7 harg7 hc0 hc1 hc2 x0 x1 x2 x3 = k0_pay5 x0 x2 x1 x3 := by
  unfold out0_A_4 kernelRun0_A
  refine (View.read_writes_full _ _ _ _ _).trans ?_
  exact congr (congr (congrArg₂ k0_pay5 (load_rows harg1 x0) (load_rows harg3 x2)) (load_gain harg2 x1)) (load_rows harg4 x3)

theorem slope_next {hc0 : ¬cond0_0 i} {hc1 : cond0_1 i} {hc2 : ¬cond0_2 i} : out0_B_4 c i arg1 harg1 arg2 harg2 arg3 harg3 arg4 harg4 arg5 harg5
      arg6 harg6 arg7 harg7 hc0 hc1 hc2 x0 x1 x2 x3 xs0 = k0_pay5 x0 x2 x1 x3 := by
  unfold out0_B_4 kernelRun0_B
  refine (View.read_writes_full _ _ _ _ _).trans ?_
  exact congr (congr (congrArg₂ k0_pay5 (load_rows harg1 x0) (load_rows harg3 x2)) (load_gain harg2 x1)) (load_rows harg4 x3)

theorem slope_last {hc0 : ¬cond0_0 i} {hc1 : cond0_1 i} {hc2 : cond0_2 i} : out0_C_4 c i arg1 harg1 arg2 harg2 arg3 harg3 arg4 harg4 arg5 harg5
      arg6 harg6 arg7 harg7 hc0 hc1 hc2 x0 x1 x2 x3 xs0 = k0_pay5 x0 x2 x1 x3 := by
  unfold out0_C_4 kernelRun0_C
  refine (View.read_writes_full _ _ _ _ _).trans ?_
  exact congr (congr (congrArg₂ k0_pay5 (load_rows harg1 x0) (load_rows harg3 x2)) (load_gain harg2 x1)) (load_rows harg4 x3)

theorem held_first {hc0 : cond0_0 i} {hc1 : ¬cond0_1 i} {hc2 : ¬cond0_2 i} : sout0_A_0 c i arg1 harg1 arg2 harg2 arg3 harg3 arg4 harg4 arg5 harg5
      arg6 harg6 arg7 harg7 hc0 hc1 hc2 x0 x1 x2 x3 = k0_pay7 x0 x2 := by
  unfold sout0_A_0 kernelRun0_A
  refine (View.read_writes_full _ _ _ _ _).trans ?_
  exact congrArg₂ k0_pay7 (load_rows harg1 x0) (load_rows harg3 x2)

theorem held_next {hc0 : ¬cond0_0 i} {hc1 : cond0_1 i} {hc2 : ¬cond0_2 i} : sout0_B_0 c i arg1 harg1 arg2 harg2 arg3 harg3 arg4 harg4 arg5 harg5
      arg6 harg6 arg7 harg7 hc0 hc1 hc2 x0 x1 x2 x3 xs0 = k0_pay1 (k0_pay6 x0 x2) xs0 := by
  unfold sout0_B_0 kernelRun0_B
  refine (View.read_writes_full _ _ _ _ _).trans ?_
  exact congrArg₂ k0_pay1 (congrArg₂ k0_pay6 (load_rows harg1 x0) (load_rows harg3 x2)) (load_lanes harg7 xs0)

theorem held_last {hc0 : ¬cond0_0 i} {hc1 : cond0_1 i} {hc2 : cond0_2 i} : sout0_C_0 c i arg1 harg1 arg2 harg2 arg3 harg3 arg4 harg4 arg5 harg5
      arg6 harg6 arg7 harg7 hc0 hc1 hc2 x0 x1 x2 x3 xs0 = k0_pay1 (k0_pay6 x0 x2) xs0 := by
  unfold sout0_C_0 kernelRun0_C
  refine (View.read_writes_full _ _ _ _ _).trans ?_
  exact congrArg₂ k0_pay1 (congrArg₂ k0_pay6 (load_rows harg1 x0) (load_rows harg3 x2)) (load_lanes harg7 xs0)

theorem total_last {hc0 : ¬cond0_0 i} {hc1 : cond0_1 i} {hc2 : cond0_2 i} : out0_C_5 c i arg1 harg1 arg2 harg2 arg3 harg3 arg4 harg4 arg5 harg5
      arg6 harg6 arg7 harg7 hc0 hc1 hc2 x0 x1 x2 x3 xs0 = k0_pay2 (k0_pay1 (k0_pay6 x0 x2) xs0) := by
  unfold out0_C_5 kernelRun0_C
  refine (View.read_writes_full _ _ _ _ _).trans ?_
  refine congrArg k0_pay2 ((View.readCov_full _ _ _ _ _).trans ?_)
  exact congrArg₂ k0_pay1 (congrArg₂ k0_pay6 (load_rows harg1 x0) (load_rows harg3 x2)) (load_lanes harg7 xs0)

variable (m : (ℓ : Loc nD τ sig) → Buf (Elt F) ℓ)

theorem slope (c : Dev nD) (t : Fin cfg0.N) : (outsAt0 m c t.val t.isLt).1 = k0_pay5 (F := F) (iblk m c 0 t) (iblk m c 2 t) (iblk m c 1 t) (iblk m c 3 t) := by
  have hN : t.val < 8 := lt_of_lt_of_eq t.isLt N_0
  by_cases h0 : t.val % 8 = 0
  · rw [outsAt0_A m c t h0 (by omega) (by omega)]; dsimp only; exact slope_first (F := F)
  · by_cases h2 : t.val % 8 = 7
    · rw [outsAt0_C m c t h0 (by omega) h2]; dsimp only; exact slope_last (F := F)
    · rw [outsAt0_B m c t h0 (by omega) h2]; dsimp only; exact slope_next (F := F)

theorem start (c : Dev nD) (t : Fin cfg0.N) (ht : t.val = 0) :
    (outsAt0 m c t.val t.isLt).2.2 = k0_pay7 (F := F) (iblk m c 0 t) (iblk m c 2 t) := by
  rw [outsAt0_A m c t (by omega) (by omega) (by omega)]; dsimp only; exact held_first (F := F)

theorem step (c : Dev nD) (t : Fin cfg0.N) (ht : 1 ≤ t.val) : (outsAt0 m c t.val t.isLt).2.2
      = k0_pay1 (F := F) (k0_pay6 (F := F) (iblk m c 0 t) (iblk m c 2 t)) (outsAt0 m c (t.val - 1) (Nat.lt_of_le_of_lt (Nat.sub_le _ _) t.isLt)).2.2 := by
  have hN : t.val < 8 := lt_of_lt_of_eq t.isLt N_0
  by_cases h2 : t.val % 8 = 7
  · rw [outsAt0_C m c t (by omega) ht h2]; dsimp only; exact held_last (F := F)
  · rw [outsAt0_B m c t (by omega) ht h2]; dsimp only; exact held_next (F := F)

theorem finish (c : Dev nD) (t : Fin cfg0.N) (ht : t.val = 7) :
    (outsAt0 m c t.val t.isLt).2.1 = k0_pay2 (F := F) (outsAt0 m c t.val t.isLt).2.2 := by
  rw [step m c t (by omega), outsAt0_C m c t (by omega) (by omega) (by omega)]; dsimp only; exact total_last (F := F)

/-- The windows of the tokens move together, one block of rows at each point; the gain's stays. -/
theorem places : ∀ t : Fin grid0.N, cc0_transform_0 (grid0.coords t) = ![t.val, 0]
    ∧ cc0_transform_1 (grid0.coords t) = ![0, 0] ∧ cc0_transform_2 (grid0.coords t) = ![t.val, 0]
    ∧ cc0_transform_3 (grid0.coords t) = ![t.val, 0] := by decide +kernel

/-- The row of the array that a block's row is. -/
abbrev row (t : Fin cfg0.N) (r : Fin 512) : Fin 4096 :=
  ⟨512 * t.val + r.val, by have := lt_of_lt_of_eq t.isLt N_0; omega⟩

theorem block1 (c : Dev nD) (t : Fin cfg0.N) (l : Fin 1024) : (iblk m c 1 t : S1x1024.Idx → F .f32) (ix2 0 l)
    = (m ((c : Thread nD τ).loc main_arg1) : S1x1024.Idx → F .f32) (ix2 0 l) := by
  refine congrArg (m ((c : Thread nD τ).loc main_arg1) : S1x1024.Idx → F .f32) (funext fun a => Fin.ext ?_)
  have e := (places t).2.1
  match a with
  | ⟨0, _⟩ => show cc0_transform_1 (grid0.coords t) 0 * 1 + 1 * 0 = 0; rw [e]; rfl
  | ⟨1, _⟩ => show cc0_transform_1 (grid0.coords t) 1 * 1024 + 1 * l.val = l.val; rw [e]; show 0 * 1024 + 1 * l.val = _; omega

theorem block0 (c : Dev nD) (t : Fin cfg0.N) (r : Fin 512) (l : Fin 1024) : (iblk m c 0 t : S512x1024.Idx → F .f32) (ix2 r l)
    = (m ((c : Thread nD τ).loc main_arg0) : S4096x1024.Idx → F .f32) (ix2 (row t r) l) := by
  refine congrArg (m ((c : Thread nD τ).loc main_arg0) : S4096x1024.Idx → F .f32) (funext fun a => Fin.ext ?_)
  have e := (places t).1
  match a with
  | ⟨0, _⟩ => show cc0_transform_0 (grid0.coords t) 0 * 512 + 1 * r.val = 512 * t.val + r.val; rw [e]; show t.val * 512 + 1 * r.val = _; omega
  | ⟨1, _⟩ => show cc0_transform_0 (grid0.coords t) 1 * 1024 + 1 * l.val = l.val; rw [e]; show 0 * 1024 + 1 * l.val = _; omega

theorem block2 (c : Dev nD) (t : Fin cfg0.N) (r : Fin 512) (l : Fin 1024) : (iblk m c 2 t : S512x1024.Idx → F .f32) (ix2 r l)
    = (m ((c : Thread nD τ).loc main_arg2) : S4096x1024.Idx → F .f32) (ix2 (row t r) l) := by
  refine congrArg (m ((c : Thread nD τ).loc main_arg2) : S4096x1024.Idx → F .f32) (funext fun a => Fin.ext ?_)
  have e := (places t).2.2.1
  match a with
  | ⟨0, _⟩ => show cc0_transform_2 (grid0.coords t) 0 * 512 + 1 * r.val = 512 * t.val + r.val; rw [e]; show t.val * 512 + 1 * r.val = _; omega
  | ⟨1, _⟩ => show cc0_transform_2 (grid0.coords t) 1 * 1024 + 1 * l.val = l.val; rw [e]; show 0 * 1024 + 1 * l.val = _; omega

theorem block3 (c : Dev nD) (t : Fin cfg0.N) (r : Fin 512) (l : Fin 1024) : (iblk m c 3 t : S512x1024.Idx → F .f32) (ix2 r l)
    = (m ((c : Thread nD τ).loc main_arg3) : S4096x1024.Idx → F .f32) (ix2 (row t r) l) := by
  refine congrArg (m ((c : Thread nD τ).loc main_arg3) : S4096x1024.Idx → F .f32) (funext fun a => Fin.ext ?_)
  have e := (places t).2.2.2
  match a with
  | ⟨0, _⟩ => show cc0_transform_3 (grid0.coords t) 0 * 512 + 1 * r.val = 512 * t.val + r.val; rw [e]; show t.val * 512 + 1 * r.val = _; omega
  | ⟨1, _⟩ => show cc0_transform_3 (grid0.coords t) 1 * 1024 + 1 * l.val = l.val; rw [e]; show 0 * 1024 + 1 * l.val = _; omega

end Points

section Values

variable (m : (ℓ : Loc nD τ sig) → Buf (Elt Ideal) ℓ)

/-- What a token adds to the derivative by the gain. -/
abbrev part (x h : S4096x1024.Idx → Ideal .f32) (l : Fin 1024) (i : Fin 4096) : EReal :=
  h (ix2 i l) * (x (ix2 i l) * Cert.Tokens.inv (fun k => x (ix2 i k)))

/-- A block's part, in lanes of eight. -/
theorem parts (c : Dev nD) (t : Fin cfg0.N) (j : S8x1024.Idx) : k0_pay6 (F := Ideal) (iblk m c 0 t) (iblk m c 2 t) j
    = ∑ r : Fin 64, Cert.Tokens.ofRow (part (m ((c : Thread nD τ).loc main_arg0)) (m ((c : Thread nD τ).loc main_arg2)) (j 1))
        (512 * t.val + (8 * r.val + (j 0).val)) := by
  have hN : t.val < 8 := lt_of_lt_of_eq t.isLt N_0
  have hj : (j 0).val < 8 := (j 0).isLt
  pointwise [k0_pay6, k0_pay4, k0_pay3]
  refine Finset.sum_congr rfl fun r _ => ?_
  refine (congrArg₂ (fun a b : EReal => a * b) (block2 m c t _ _) (congrArg₂ (fun a b : EReal => a * b) (block0 m c t _ _)
    (congrArg Cert.Tokens.inv (funext fun k => block0 m c t _ k)))).trans ?_
  refine (Cert.Tokens.ofRow_eq (part (m ((c : Thread nD τ).loc main_arg0)) (m ((c : Thread nD τ).loc main_arg2)) (j 1)) (row t ⟨r.val * 8 + (j 0).val, by omega⟩) ?_).symm
  show 512 * t.val + (8 * r.val + (j 0).val) = 512 * t.val + (r.val * 8 + (j 0).val)
  omega

/-- What the accumulator holds after a point: the parts of the blocks so far. -/
theorem held (c : Dev nD) : ∀ (n : ℕ) (hn : n < cfg0.N) (j : S8x1024.Idx), (outsAt0 m c n hn).2.2 j
    = ∑ k ∈ Finset.range (n + 1), ∑ r : Fin 64, Cert.Tokens.ofRow
        (part (m ((c : Thread nD τ).loc main_arg0)) (m ((c : Thread nD τ).loc main_arg2)) (j 1)) (512 * k + (8 * r.val + (j 0).val))
  | 0, hn, j => by
    rw [start m c ⟨0, hn⟩ rfl, Finset.sum_range_one]
    refine Eq.trans ?_ (parts m c ⟨0, hn⟩ j)
    unfold k0_pay7
    rw [shapeCast_self]
  | n + 1, hn, j => by
    rw [step m c ⟨n + 1, hn⟩ (Nat.le_add_left 1 n), Finset.sum_range_succ, ← held c n (Nat.lt_of_succ_lt hn) j, ← parts m c ⟨n + 1, hn⟩ j]
    pointwise [k0_pay1]
    rfl

/-- The derivative by the gain. -/
theorem whole (c : Dev nD) (i : S1x1024.Idx) : (Cert.NormBwdIdeal.Value.G5 m c : S1x1024.Idx → Ideal .f32) i
    = ∑ r : Fin 4096, part (m ((c : Thread nD τ).loc main_arg0)) (m ((c : Thread nD τ).loc main_arg2)) (i 1) r := by
  have h0 : (i 0).val < 1 := (i 0).isLt
  have h1 : (i 1).val < 1024 := (i 1).isLt
  have ht : Cert.NormBwdIdeal.Value.pt5Of i = 7 := by
    show 8 * (1 * ((i 0).val / 1 - 0) + 1 * ((i 1).val / 1024 - 0)) + 7 = 7
    omega
  have hp : Cert.NormBwdIdeal.Value.pt5Of i < cfg0.N := by rw [show cfg0.N = 8 from N_0, ht]; omega
  have e : Cert.NormBwdIdeal.Value.loc5Of i = ix2 (0 : Fin 1) (i 1) := funext fun a => Fin.ext (by
    match a with
    | ⟨0, _⟩ => show (i 0).val % 1 = 0; omega
    | ⟨1, _⟩ => show (i 1).val % 1024 = (i 1).val; omega)
  unfold Cert.NormBwdIdeal.Value.G5
  rw [dif_pos hp, ← Cert.NormBwdIdeal.Value.outsAt0_sweep m c _ hp, finish m c ⟨_, hp⟩ ht, e]
  pointwise [k0_pay2]
  have lane : ∀ a : Fin 8, (outsAt0 m c _ hp).2.2 (ix2 a (i 1)) = ∑ k ∈ Finset.range 8, ∑ r : Fin 64, Cert.Tokens.ofRow
      (part (m ((c : Thread nD τ).loc main_arg0)) (m ((c : Thread nD τ).loc main_arg2)) (i 1)) (512 * k + (8 * r.val + a.val)) :=
    fun a => (held m c _ hp (ix2 a (i 1))).trans (by rw [ht]; rfl)
  exact (Finset.sum_congr rfl fun a _ => lane a).trans (Cert.Tokens.sum_lanes _)

/-- The derivative by the tokens. -/
abbrev through (x : S4096x1024.Idx → Ideal .f32) (gain : S1x1024.Idx → Ideal .f32) (h d : S4096x1024.Idx → Ideal .f32)
    (i : Fin 4096) (l : Fin 1024) : EReal :=
  Cert.Tokens.back (fun k => x (ix2 i k)) (fun k => gain (ix2 0 k)) (fun k => h (ix2 i k)) (fun k => d (ix2 i k)) l

/-- The kernel's block of it. -/
theorem left (x h d : Vec Ideal S512x1024 .f32) (gain : Vec Ideal S1x1024 .f32) (r : Fin 512) (l : Fin 1024) :
    k0_pay5 x h gain d (ix2 r l)
      = Cert.Tokens.back (fun k => x (ix2 r k)) (fun k => gain (ix2 0 k)) (fun k => h (ix2 r k)) (fun k => d (ix2 r k)) l := by
  pointwise [k0_pay5, k0_pay4, k0_pay3]
  rfl

theorem slope_at (c : Dev nD) (i : S4096x1024.Idx) : Cert.NormBwdIdeal.Value.G4 m c i
    = through (m ((c : Thread nD τ).loc main_arg0)) (m ((c : Thread nD τ).loc main_arg1)) (m ((c : Thread nD τ).loc main_arg2))
        (m ((c : Thread nD τ).loc main_arg3)) (i 0) (i 1) := by
  have h0 : (i 0).val < 4096 := (i 0).isLt
  have h1 : (i 1).val < 1024 := (i 1).isLt
  unfold Cert.NormBwdIdeal.Value.G4
  have hp : Cert.NormBwdIdeal.Value.pt4Of i < cfg0.N := by rw [show cfg0.N = 8 from N_0]; show 1 * ((i 0).val / 512 - 0) + 1 * ((i 1).val / 1024 - 0) < 8; omega
  have e : Cert.NormBwdIdeal.Value.loc4Of i = ix2 (⟨(i 0).val % 512, Nat.mod_lt _ (by decide)⟩ : Fin 512) (i 1) :=
    funext fun a => Fin.ext (by
      match a with
      | ⟨0, _⟩ => rfl
      | ⟨1, _⟩ => show (i 1).val % 1024 = (i 1).val; omega)
  have er : row ⟨_, hp⟩ (⟨(i 0).val % 512, Nat.mod_lt _ (by decide)⟩ : Fin 512) = i 0 := Fin.ext (by
    show 512 * (1 * ((i 0).val / 512 - 0) + 1 * ((i 1).val / 1024 - 0)) + (i 0).val % 512 = (i 0).val
    omega)
  rw [dif_pos hp, ← Cert.NormBwdIdeal.Value.outsAt0_sweep m c _ hp, slope m c ⟨_, hp⟩, e]
  refine (left _ _ _ _ _ _).trans ?_
  rw [funext fun k => block0 m c ⟨_, hp⟩ _ k, funext fun k => block1 m c ⟨_, hp⟩ k, funext fun k => block2 m c ⟨_, hp⟩ _ k,
    funext fun k => block3 m c ⟨_, hp⟩ _ k, er]

end Values

end Cert.NormBwdIdeal.Entry

namespace Cert.NormBwd.Claims

theorem frame_kernel : Cert.quiescent_NormBwd := fun m g _ => Cert.NormBwd.Gen.frame (F := Bits) m g
theorem frame_ideal : Cert.quiescent_NormBwdIdeal := fun m g _ => Cert.NormBwdIdeal.Gen.frame (F := Ideal) m g
theorem frame_ref : Cert.quiescent_NormBwdRefIdeal := fun m g _ =>
  (θ_run Cert.NormBwdRefIdeal.defs _ _).mono (fun r h => ⟨fun c => (h c).2.2, sem_eq_zero_of_no_sems (by decide) r.2⟩)
    (Cert.NormBwdRefIdeal.Value.run (F := Ideal) m g)

theorem algebraic : Cert.algebraic_NormBwdIdeal_NormBwdRefIdeal := fun m g m' g' _ h => by
  refine ⟨_, _, Cert.NormBwdIdeal.Value.run (F := Ideal) m g,
    (θ_run Cert.NormBwdRefIdeal.defs _ _).mono (fun _ r c => ?_)
      (Cert.NormBwdRefIdeal.Value.run (F := Ideal) m' g')⟩
  obtain ⟨h0, h1, h2, h3⟩ := h c
  obtain ⟨r0, r1, r2⟩ := r c
  refine ⟨r0.trans ?_, r1.trans ?_, r2⟩
  · refine funext fun i => Eq.trans ?_ (Cert.NormBwdIdeal.Entry.slope_at m c i).symm
    rw [h0, h1, h2, h3]
    pointwise
    rw [eq_ix2 (i : Cert.NormBwdIdeal.S4096x1024.Idx)]
    rfl
  · refine funext fun i => Eq.trans ?_ (Cert.NormBwdIdeal.Entry.whole m c i).symm
    rw [h0, h2]
    pointwise
    rfl

end Cert.NormBwd.Claims
-- ==== Proof.TotalRun.lean ====
/-
# The loss over all devices: the kernel's run

Each device runs the loss head over its own tokens, eight points of 512 tokens each, and the devices' totals are then
added up. Here: what the body does at one point, what a device's total is after the eight, and that the run ends with
every device holding the sum of the totals, in the devices' order.
-/
module

public import proofs.«01_k».proof.Proof.Gen.TotalIdeal.Skeleton
public import proofs.«01_k».proof.Proof.Gen.TotalIdeal.Launch
public import Idealize.ShloMosaic.Lib.Pipeline.Regions
public import Idealize.ShloMosaic.Lib.Pipeline.RegionArrays
public import Idealize.ShloMosaic.Lib.Pipeline.RegionArraysS
public import Idealize.ShloMosaic.Lib.Pipeline.RegionsLoop
public import Idealize.ShloMosaic.Lib.Pipeline.CollectiveSegs
public import Idealize.ShloMosaic.Lib.Pipeline.Kit
public import Idealize.ShloMosaic.Lib.Pipeline.FrameBody
public import Idealize.ShloMosaic.Lib.StableHlo.CollectiveRules
public import Idealize.ShloMosaic.Lib.WritesUnit
public import Idealize.ShloMosaic.Lib.Pointwise
public import Idealize.ShloMosaic.Lib.VecWindow
public import Idealize.ShloMosaic.Lib.Ring
public import Idealize.ShloMosaic.Lib.Tactic

@[expose] public section
set_option Elab.async false
set_option maxRecDepth 16384
noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.TotalIdeal.Entry

open Cert.TotalIdeal.Gen
open Cert.TotalIdeal.Gen.Sites (L lv)

variable {F : FTy → Type} [FloatOps F]

/-- What is owned: the pipeline's part and the sum's. -/
abbrev UU : Type := UR sig nD τ × Sites.UC

local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR

/-! ## The body at one point -/

/-- The first point, a later point and the last point, as the body asks for them. -/
abbrev isFirst (i : grid0.Coords) : Prop := Scalar.cmpi .ne (Scalar.extui (Scalar.cmpi .eq (BitVec.ofNat 32 (i 0).val) 0#32)) 0#32 = 1#1
abbrev isNext (i : grid0.Coords) : Prop := Scalar.cmpi .ne (Scalar.extui (Scalar.cmpi .sgt (BitVec.ofNat 32 (i 0).val) 0#32)) 0#32 = 1#1
abbrev isLast (i : grid0.Coords) : Prop := k0_cond3 i = 1#1

theorem first_iff : ∀ t : Fin cfg0.N, isFirst (grid0.coords t) ↔ t.val = 0 :=
  (by decide +kernel : ∀ t : Fin grid0.N, isFirst (grid0.coords t) ↔ t.val = 0)
theorem next_iff : ∀ t : Fin cfg0.N, isNext (grid0.coords t) ↔ t.val ≠ 0 :=
  (by decide +kernel : ∀ t : Fin grid0.N, isNext (grid0.coords t) ↔ t.val ≠ 0)
theorem last_iff : ∀ t : Fin cfg0.N, isLast (grid0.coords t) ↔ t.val = 7 :=
  (by decide +kernel : ∀ t : Fin grid0.N, isLast (grid0.coords t) ↔ t.val = 7)

theorem load_rows (x : Vec F S512x1024 .f32) : View.ld x (Rect.unit ![0, 0] S512x1024.size inb_S512x1024_S512x1024_0_0) = x :=
  View.ld_unit_zero (S := S512x1024) (funext fun a => by match a with | ⟨0, _⟩ => rfl | ⟨1, _⟩ => rfl) _ x

theorem load_lanes (x : Vec F S8x1024 .f32) : View.ld x (Rect.unit ![0, 0] S8x1024.size inb_S8x1024_S8x1024_0_0) = x :=
  View.ld_unit_zero (S := S8x1024) (funext fun a => by match a with | ⟨0, _⟩ => rfl | ⟨1, _⟩ => rfl) _ x

section Body

variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32) (harg3 : arg3.IsWhole)
  (arg4 : Memref sig .tc .vmem S1x1 .f32) (harg4 : arg4.IsWhole) (arg5 : Memref sig .tc .vmem S8x1024 .f32) (harg5 : arg5.IsWhole)
  (x0 x1 : Vec F S512x1024 .f32) (xs : Vec F S8x1024 .f32) (y : Vec F S1x1 .f32)

set_option maxHeartbeats 2000000 in
/-- The first point starts the accumulator. -/
theorem body_first (h0 : isFirst i) (h1 : ¬isNext i) (h2 : ¬isLast i) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare y
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (k0_pay2 x0 x1) ∗ owns (c : Thread nD τ) arg4 fullShare y
            ∗ owns (c : Thread nD τ) arg5 fullShare (k0_pay4 x0 x1)) -∗ K ⟨⟩))
      ⊢ wp frame (wpE (defs₀ (F := F)) Variants.none c none) Set.univ
          (cc0_loss_head i arg1 harg1 arg2 harg2 arg3 harg3 arg4 harg4 arg5 harg5) K := by
  simp only [cc0_loss_head_eq_skeleton]; unfold cc0_loss_head_skel
  unfold owns
  iintro ⟨⟨%f0, %hf0, H0⟩, ⟨%f1, %hf1, H1⟩, ⟨%d2, %f2, -, H2⟩, ⟨%f3, %hf3, H3⟩, ⟨%ds, %fs, -, HS⟩, Hk⟩
  obtain rfl := harg1.eq_unread hf0; obtain rfl := harg2.eq_unread hf1
  sl_exec (disch := first | sl_exact h0 | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full _ _ _ _ _).trans ?_
    simp only [View.readAt_eq_ld, harg1.read_unread, harg2.read_unread]
    exact congrArg₂ k0_pay2 (load_rows x0) (load_rows x1)
  isplitl [H3]
  · iexists _; isplitr; swap; · iexact H3
    ipureintro; exact hf3
  iexists _; isplitr; swap; · iexact HS
  ipureintro
  refine (View.read_writes_full _ _ _ _ _).trans ?_
  simp only [View.readAt_eq_ld, harg1.read_unread, harg2.read_unread]
  exact congrArg₂ k0_pay4 (load_rows x0) (load_rows x1)

set_option maxHeartbeats 2000000 in
/-- A point between adds onto the accumulator. -/
theorem body_next (h0 : ¬isFirst i) (h1 : isNext i) (h2 : ¬isLast i) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare y
        ∗ owns (c : Thread nD τ) arg5 fullShare xs
        ∗ (iprop(owns (c : Thread nD τ) arg1 fullShare x0 ∗ owns (c : Thread nD τ) arg2 fullShare x1
            ∗ owns (c : Thread nD τ) arg3 fullShare (k0_pay2 x0 x1) ∗ owns (c : Thread nD τ) arg4 fullShare y
            ∗ owns (c : Thread nD τ) arg5 fullShare (k0_pay5 x0 x1 xs)) -∗ K ⟨⟩))
      ⊢ wp frame (wpE (defs₀ (F := F)) Variants.none c none) Set.univ
          (cc0_loss_head i arg1 harg1 arg2 harg2 arg3 harg3 arg4 harg4 arg5 harg5) K := by
  simp only [cc0_loss_head_eq_skeleton]; unfold cc0_loss_head_skel
  unfold owns
  iintro ⟨⟨%f0, %hf0, H0⟩, ⟨%f1, %hf1, H1⟩, ⟨%d2, %f2, -, H2⟩, ⟨%f3, %hf3, H3⟩, ⟨%fs, %hfs, HS⟩, Hk⟩
  obtain rfl := harg1.eq_unread hf0; obtain rfl := harg2.eq_unread hf1; obtain rfl := harg5.eq_unread hfs
  sl_exec (disch := first | sl_exact h0 | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full _ _ _ _ _).trans ?_
    simp only [View.readAt_eq_ld, harg1.read_unread, harg2.read_unread]
    exact congrArg₂ k0_pay2 (load_rows x0) (load_rows x1)
  isplitl [H3]
  · iexists _; isplitr; swap; · iexact H3
    ipureintro; exact hf3
  iexists _; isplitr; swap; · iexact HS
  ipureintro
  refine (View.read_writes_full _ _ _ _ _).trans ?_
  simp only [View.readAt_eq_ld, harg1.read_unread, harg2.read_unread, harg5.read_unread]
  exact congr (congrArg₂ k0_pay5 (load_rows x0) (load_rows x1)) (load_lanes xs)

set_option maxHeartbeats 2000000 in
/-- The last point adds onto the accumulator and writes the device's total. -/
theorem body_last (h0 : ¬isFirst i) (h1 : isNext i) (h2 : isLast i) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare xs
        ∗ (iprop(owns (c : Thread nD τ) arg1 fullShare x0 ∗ owns (c : Thread nD τ) arg2 fullShare x1
            ∗ owns (c : Thread nD τ) arg3 fullShare (k0_pay2 x0 x1) ∗ owns (c : Thread nD τ) arg4 fullShare (k0_pay6 (k0_pay5 x0 x1 xs))
            ∗ owns (c : Thread nD τ) arg5 fullShare (k0_pay5 x0 x1 xs)) -∗ K ⟨⟩))
      ⊢ wp frame (wpE (defs₀ (F := F)) Variants.none c none) Set.univ
          (cc0_loss_head i arg1 harg1 arg2 harg2 arg3 harg3 arg4 harg4 arg5 harg5) K := by
  simp only [cc0_loss_head_eq_skeleton]; unfold cc0_loss_head_skel
  unfold owns
  iintro ⟨⟨%f0, %hf0, H0⟩, ⟨%f1, %hf1, H1⟩, ⟨%d2, %f2, -, H2⟩, ⟨%d3, %f3, -, H3⟩, ⟨%fs, %hfs, HS⟩, Hk⟩
  obtain rfl := harg1.eq_unread hf0; obtain rfl := harg2.eq_unread hf1; obtain rfl := harg5.eq_unread hfs
  sl_exec (disch := first | sl_exact h0 | sl_exact h1 | sl_exact h2)
  sl_step
  iapply Hk
  have lanes : k0_pay5 (View.ld x0 (Rect.unit (s := S512x1024) ![0, 0] S512x1024.size inb_S512x1024_S512x1024_0_0))
      (View.ld x1 (Rect.unit (s := S512x1024) ![0, 0] S512x1024.size inb_S512x1024_S512x1024_0_0))
      (View.ld xs (Rect.unit (s := S8x1024) ![0, 0] S8x1024.size inb_S8x1024_S8x1024_0_0)) = k0_pay5 x0 x1 xs :=
    congr (congrArg₂ k0_pay5 (load_rows x0) (load_rows x1)) (load_lanes xs)
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full _ _ _ _ _).trans ?_
    simp only [View.readAt_eq_ld, harg1.read_unread, harg2.read_unread]
    exact congrArg₂ k0_pay2 (load_rows x0) (load_rows x1)
  isplitl [H3]
  · iexists _; isplitr; swap; · iexact H3
    ipureintro
    refine (View.read_writes_full _ _ _ _ _).trans ?_
    unfold body_last.sl.v20
    refine congrArg k0_pay6 ((View.readCov_full _ _ _ _ _).trans ?_)
    simp only [View.readAt_eq_ld, harg1.read_unread, harg2.read_unread, harg5.read_unread]
    exact lanes
  iexists _; isplitr; swap; · iexact HS
  ipureintro
  refine (View.read_writes_full _ _ _ _ _).trans ?_
  simp only [View.readAt_eq_ld, harg1.read_unread, harg2.read_unread, harg5.read_unread]
  exact lanes

end Body

/-! ## What the windows hold -/

variable (m : (ℓ : Loc nD τ sig) → Buf (Elt F) ℓ) (ρ : Dev nD → PrngReg)

/-- A device's buffers as the run finds them. -/
abbrev V₀ (c : Dev nD) : Valuation τ sig (Elt F) := fun b => m ((c : Dev nD), b)

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- What the accumulator holds after a point. -/
def acc (c : Dev nD) : (n : ℕ) → n < cfg0.N → Vec F S8x1024 .f32
  | 0, h => k0_pay4 (iblk m c (0 : Fin 4) ⟨0, h⟩) (iblk m c (1 : Fin 4) ⟨0, h⟩)
  | n + 1, h => k0_pay5 (iblk m c (0 : Fin 4) ⟨n + 1, h⟩) (iblk m c (1 : Fin 4) ⟨n + 1, h⟩) (acc c n (Nat.lt_of_succ_lt h))

theorem acc_next (c : Dev nD) (t : Fin cfg0.N) (ht : t.val ≠ 0) : acc m c t.val t.isLt
    = k0_pay5 (iblk m c (0 : Fin 4) t) (iblk m c (1 : Fin 4) t) (acc m c (t.val - 1) (Nat.lt_of_le_of_lt (Nat.sub_le _ _) t.isLt)) := by
  obtain ⟨n, hn⟩ := t
  cases n with
  | zero => exact absurd rfl ht
  | succ n => rfl

theorem acc_first (c : Dev nD) (t : Fin cfg0.N) (ht : t.val = 0) : acc m c t.val t.isLt
    = k0_pay4 (iblk m c (0 : Fin 4) t) (iblk m c (1 : Fin 4) t) := by
  obtain ⟨n, hn⟩ := t
  obtain rfl : n = 0 := ht
  rfl

/-- The accumulator's buffer. -/
abbrev lanes : Memref sig .tc .vmem S8x1024 .f32 := Memref.whole cc0_scratch0

/-- What goes from point to point: the accumulator. -/
def carried (c : Dev nD) : (n : ℕ) → n ≤ cfg0.N → sProp 𝕄
  | 0, _ => iprop((∃ d, owns (c : Thread nD τ) lanes fullShare d) ∗ ∃ r, prngReg c r)
  | n + 1, h => iprop(owns (c : Thread nD τ) lanes fullShare (acc m c n h) ∗ ∃ r, prngReg c r)

theorem carried_first (c : Dev nD) (n : ℕ) (h : n ≤ cfg0.N) (hn : n = 0) :
    carried m c n h = iprop((∃ d, owns (c : Thread nD τ) lanes fullShare d) ∗ ∃ r, prngReg c r) := by subst hn; rfl

theorem carried_next (c : Dev nD) (n : ℕ) (h : n ≤ cfg0.N) (hn : n ≠ 0) : carried m c n h
    = iprop(owns (c : Thread nD τ) lanes fullShare (acc m c (n - 1) (by omega)) ∗ ∃ r, prngReg c r) := by
  cases n with
  | zero => exact absurd rfl hn
  | succ n => rfl

/-- The proof data: each window's contents after each point. What is owed throughout is the devices' sum. -/
def dats (c : Dev nD) : Dat τ (Elt F) ℕ ℕ UU ℕ cfg0 c where
  A w := m ((c : Thread nD τ).loc (Pipeline.arrRef spec0 w))
  after w t := match w with
    | ⟨0, _⟩ => iblk m c (0 : Fin 4) t
    | ⟨1, _⟩ => iblk m c (1 : Fin 4) t
    | ⟨2, _⟩ => k0_pay2 (iblk m c (0 : Fin 4) t) (iblk m c (1 : Fin 4) t)
    | ⟨3, _⟩ => k0_pay6 (acc m c t.val t.isLt)
  Φ t := carried m c t.val (Nat.le_of_lt_succ t.isLt)
  q _ := fullShare
  owed _ := Sites.O0 (F := F) c

theorem A_eq (c : Dev nD) (w : Fin cfg0.W) : (dats m c).A w = m ((c : Thread nD τ).loc (Pipeline.arrRef spec0 w)) := by dsimp only [dats]
theorem after0 (c : Dev nD) (t : Fin cfg0.N) : (dats m c).after 0 t = iblk m c (0 : Fin 4) t := by dsimp only [dats]
theorem after1 (c : Dev nD) (t : Fin cfg0.N) : (dats m c).after 1 t = iblk m c (1 : Fin 4) t := by dsimp only [dats]
theorem after2 (c : Dev nD) (t : Fin cfg0.N) : (dats m c).after 2 t = k0_pay2 (iblk m c (0 : Fin 4) t) (iblk m c (1 : Fin 4) t) := by
  dsimp only [dats]
theorem after3 (c : Dev nD) (t : Fin cfg0.N) : (dats m c).after 3 t = k0_pay6 (acc m c t.val t.isLt) := by dsimp only [dats]

theorem before0 (c : Dev nD) (t : Fin cfg0.N) (d) : (dats m c).before 0 t d = iblk m c (0 : Fin 4) t :=
  ((dats m c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

theorem before1 (c : Dev nD) (t : Fin cfg0.N) (d) : (dats m c).before 1 t d = iblk m c (1 : Fin 4) t :=
  ((dats m c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-! ## The body at every point -/

/-- The total's window is idle before the last point, and written back at the last point alone. -/
theorem idle3 : ∀ t : Fin cfg0.N, t.val ≠ 7 → cfg0.idle 3 (grid0.coords t) = true ∧ (cfg0.win 3).flush t = false :=
  (by decide +kernel : ∀ t : Fin grid0.N, t.val ≠ 7 → idle0 3 (grid0.coords t) = true ∧ win0_3.flush t = false)
theorem live3 : ∀ t : Fin cfg0.N, t.val = 7 → cfg0.idle 3 (grid0.coords t) = false :=
  (by decide +kernel : ∀ t : Fin grid0.N, t.val = 7 → idle0 3 (grid0.coords t) = false)

abbrev ms0 (t : Fin cfg0.N) : Memref sig .tc .vmem S512x1024 .f32 := win0_0.stage (cfg0.slots t 0)
abbrev ms1 (t : Fin cfg0.N) : Memref sig .tc .vmem S512x1024 .f32 := win0_1.stage (cfg0.slots t 1)
abbrev ms2 (t : Fin cfg0.N) : Memref sig .tc .vmem S512x1024 .f32 := win0_2.stage (cfg0.slots t 2)
abbrev ms3 (t : Fin cfg0.N) : Memref sig .tc .vmem S1x1 .f32 := win0_3.stage (cfg0.slots t 3)

abbrev bodyAt (t : Fin cfg0.N) : Prog (TpuEff nD τ sig (Elt F) Λ₀ .tc) PUnit :=
  cc0_loss_head (grid0.coords t) (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3))
    lanes (Memref.isWhole_whole _)

theorem leaves_live (c : Dev nD) (w : Fin cfg0.W) (t : Fin cfg0.N) (h : cfg0.idle w (cfg0.grid.coords t) = false) :
    (dats m c).leavesExact w t = owns (c : Thread nD τ) ((cfg0.win w).stage (cfg0.slots t w)) fullShare ((dats m c).after w t) := by
  unfold Dat.leavesExact; rw [h]

set_option maxHeartbeats 4000000 in
theorem body_at (c : Dev nD) (t : Fin cfg0.N) :
    iprop((dats m c).Φ t.castSucc ∗ (dats m c).owesAt 0 t.castSucc
        ∗ (∃ d, owns (c : Thread nD τ) (ms0 t) fullShare ((dats m c).before 0 t d))
        ∗ (∃ d, owns (c : Thread nD τ) (ms1 t) fullShare ((dats m c).before 1 t d))
        ∗ (∃ d, owns (c : Thread nD τ) (ms2 t) fullShare ((dats m c).before 2 t d))
        ∗ (∃ d, owns (c : Thread nD τ) (ms3 t) fullShare ((dats m c).before 3 t d)))
      ⊢ wp frame (wpE (defs₀ (F := F)) Variants.none c none) Set.univ (bodyAt t) (fun _ =>
        iprop((dats m c).Φ t.succ ∗ (dats m c).owesAt 0 t.succ ∗ (dats m c).leavesExact 0 t ∗ (dats m c).leavesExact 1 t
          ∗ (dats m c).leavesExact 2 t ∗ (dats m c).leavesExact 3 t)) := by
  simp only [before0, before1]
  rw [show (dats m c).owesAt 0 t.succ = (dats m c).owesAt 0 t.castSucc from rfl,
    show (dats m c).Φ t.castSucc = carried m c t.val (Nat.le_of_lt t.isLt) from by dsimp only [dats]; exact Dat.Φ_castSucc (carried m c) t,
    show (dats m c).Φ t.succ = iprop(owns (c : Thread nD τ) lanes fullShare (acc m c t.val t.isLt) ∗ ∃ r, prngReg c r) from rfl,
    leaves_live m c 0 t rfl, leaves_live m c 1 t rfl, leaves_live m c 2 t rfl, after0, after1, after2]
  by_cases hz : t.val = 0
  · have ht : t.val ≠ 7 := by omega
    rw [carried_first m c _ _ hz, acc_first m c t hz, Dat.leavesExact_idle (dats m c) 3 t (idle3 t ht).1 (idle3 t ht).2]
    iintro ⟨⟨HS, Hg⟩, Ho, ⟨%d0, H0⟩, ⟨%d1, H1⟩, ⟨%d2, H2⟩, ⟨%d3, H3⟩⟩
    iapply (body_first c (grid0.coords t) _ _ _ _ _ _ _ _ _ _ (iblk m c (0 : Fin 4) t) (iblk m c (1 : Fin 4) t) _
      ((first_iff t).mpr hz) (fun h => (next_iff t).mp h hz) (fun h => ht ((last_iff t).mp h)) _)
    isplitl [H0]; · iexact H0
    isplitl [H1]; · iexact H1
    isplitl [H2]; · iexists _; iexact H2
    isplitl [H3]; · iexact H3
    isplitl [HS]; · iexact HS
    iintro ⟨H0, H1, H2, H3, HS⟩
    isplitl [HS Hg]; · isplitl [HS] <;> iassumption
    isplitl [Ho]; · iexact Ho
    isplitl [H0]; · iexact H0
    isplitl [H1]; · iexact H1
    isplitl [H2]; · iexact H2
    iexists _; iexact H3
  · rw [carried_next m c _ _ hz, acc_next m c t hz]
    by_cases ht : t.val = 7
    · rw [leaves_live m c 3 t (live3 t ht), after3, acc_next m c t hz]
      iintro ⟨⟨HS, Hg⟩, Ho, ⟨%d0, H0⟩, ⟨%d1, H1⟩, ⟨%d2, H2⟩, ⟨%d3, H3⟩⟩
      iapply (body_last c (grid0.coords t) _ _ _ _ _ _ _ _ _ _ (iblk m c (0 : Fin 4) t) (iblk m c (1 : Fin 4) t) _
        (fun h => hz ((first_iff t).mp h)) ((next_iff t).mpr hz) ((last_iff t).mpr ht) _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]; · isplitl [HS] <;> iassumption
      isplitl [Ho]; · iexact Ho
      isplitl [H0]; · iexact H0
      isplitl [H1]; · iexact H1
      isplitl [H2] <;> iassumption
    · rw [Dat.leavesExact_idle (dats m c) 3 t (idle3 t ht).1 (idle3 t ht).2]
      iintro ⟨⟨HS, Hg⟩, Ho, ⟨%d0, H0⟩, ⟨%d1, H1⟩, ⟨%d2, H2⟩, ⟨%d3, H3⟩⟩
      iapply (body_next c (grid0.coords t) _ _ _ _ _ _ _ _ _ _ (iblk m c (0 : Fin 4) t) (iblk m c (1 : Fin 4) t) _ _
        (fun h => hz ((first_iff t).mp h)) ((next_iff t).mpr hz) (fun h => ht ((last_iff t).mp h)) _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hg]; · isplitl [HS] <;> iassumption
      isplitl [Ho]; · iexact Ho
      isplitl [H0]; · iexact H0
      isplitl [H1]; · iexact H1
      isplitl [H2]; · iexact H2
      iexists _; iexact H3

theorem body_obligation (c : Dev nD) : BodyObligation (dats (F := F) m c) (defs₀ (F := F)) Variants.none 0 Set.univ := fun t => by
  rw [bigSep_W0, bigSep_W0, show defs₀ (F := F) .tc cfg0.body (cfg0.bodyArgs t (cfg0.slots t)) = bodyAt t from by
    unfold defs₀; rw [Defs.onTc_tc]]
  exact Idealize.ShloMosaic.triple_restated (body_at m c t) rfl .rfl fun _ => .rfl

/-! ## The three stretches of the program -/

abbrev 𝒱₀ : Variants := Variants.none
abbrev adm : (p : Fin 1) → (pcfgs (F := F) p).Adm := fun p => (cfgs p).toPCfg_adm

def pdats : (p : Fin 1) → (c : Dev nD) → Dat τ (Elt F) ℕ ℕ UU ℕ (Pipeline.pin (pcfgs (F := F)) adm p) c
  | 0 => dats m

/-- A device's buffers after the loss head, -/
def Vr (c : Dev nD) : Valuation τ sig (Elt F) := Pipeline.afterRegion (pdats m 0 c) (V₀ m c)
/-- after its total is made a scalar, -/
def V₁ (c : Dev nD) : Valuation τ sig (Elt F) := StableHlo.after (hostOps1 (F := F)) (Vr m c)
/-- and after the devices' sum. -/
def V₂ (c : Dev nD) : Valuation τ sig (Elt F) := (ar0 (F := F)).after₀ (V₁ m) c

/-- The record that the sum's counters are shared as the sum needs them. -/
abbrev invs : sProp 𝕄 := iprop(∃ κ, (AllReduce.Dat.once (ar0 (F := F)) (V₁ m)).cellInvs (Sites.E0 EC) κ)

theorem arrays_sub : Pipeline.arrRefs (pcfgs (F := F) 0).spec ⊆ Pipeline.ucRefs τ sig := Pipeline.arrRefs_sub_ucRefs spec0 (by decide)

/-- What rides beside the loss head's arrays: the sum's share of the launch. -/
abbrev rest0 (c : Dev nD) : sProp 𝕄 := iprop(Sites.rides0 EC (V₁ m) c ∗ invs m)

/-- The accumulator before the first point, as the launch leaves it and as the body takes it. -/
theorem enter (c : Dev nD) : (iprop(Pipeline.scopedRest spec0 c ∗ ∃ r, prngReg c r) : sProp 𝕄) ⊢ carried m c 0 (Nat.zero_le _) := by
  unfold carried
  rw [scopedRest0_eq]
  simp only [lanes, owns_whole]
  exact .rfl

theorem leave (c : Dev nD) : carried m c cfg0.N le_rfl ⊢ (iprop(Pipeline.scopedRest spec0 c ∗ ∃ r, prngReg c r) : sProp 𝕄) := by
  rw [carried_next m c cfg0.N le_rfl (by decide), scopedRest0_eq]
  simp only [lanes, owns_whole]
  iintro ⟨HS, Hg⟩
  isplitl [HS]
  · iexists _; iexact HS
  · iexact Hg

def reg0 : Pipeline.RegionSeg (pcfgs (F := F)) adm (pdats m) 0 defs₀ 𝒱₀ L lv 0 :=
  Pipeline.RegionSeg.ofHeldIn (pcfgs (F := F)) adm (pdats m) 0 defs₀ 𝒱₀ L lv 0 Sites.O0 (Pipeline.ucRefs τ sig)
    (fun c => iprop(∃ r, prngReg c r)) (fun c => iprop(∃ r, prngReg c r)) launch0.toP rfl
    (fun c => (body_obligation m c).loose) (fun _ _ => rfl) (fun _ => rfl) (fun c => (pdats m 0 c).share_full fun _ => rfl)
    (enter m) (leave m) (fun _ => 0)
    ⟨fun _ _ _ => Sites.mem_L _ _ (by decide), fun _ _ _ => le_refl _, fun _ _ _ hg => ⟨(Sites.O0_pos hg).1, (Sites.O0_pos hg).2⟩⟩
    (rest0 m) (V₀ m) (fun _ _ => rfl)

theorem ops1_sub : ∀ op ∈ (hostOps1 (F := F)), op.bufs ⊆ Pipeline.ucRefs τ sig := fun op h => by
  simp only [hostOps1, List.mem_cons, List.mem_nil_iff, or_false] at h
  subst h; exact Pipeline.sub_ucRefs _ (by simp)

theorem ops1_fresh : ∀ op ∈ (hostOps1 (F := F)), op.fresh = ∅ := fun op h => by
  simp only [hostOps1, List.mem_cons, List.mem_nil_iff, or_false] at h
  subst h; rfl

local notation "ℍ" => Pipeline.HostSeg (Ix := ℕ) (Name := ℕ) (U := UU) (Lvl := ℕ) (pcfgs (F := F)) defs₀ 𝒱₀ L lv

def seg1 : ℍ := Pipeline.HostSeg.ofOps _ _ _ _ _ (Pipeline.ucRefs τ sig) (hostOps1 (F := F)) ops1_sub ops1_fresh (Vr m)
  (fun c => iprop(Sites.Es EC (V₁ m) 0 c ∗ invs m))
def seg2 : ℍ := Sites.seg0 EC 𝒱₀ (V₁ m) (Sites.Rest0 (V₁ m) fun _ => invs m)

def segs : List (Pipeline.Seg (pcfgs (F := F)) adm (pdats m) 0 defs₀ 𝒱₀ L lv) := [.region (reg0 m), .host (seg1 m), .host (seg2 m)]

theorem main_wp (c : Dev nD) (Q : PUnit → sProp 𝕄) :
    wp frame (wpE defs 𝒱₀.lift (c.tc : Thread nD τ) none) Set.univ (Pipeline.Seg.run (segs m)) Q
      ⊢ wp frame (wpE defs 𝒱₀.lift (c.tc : Thread nD τ) none) Set.univ (main (F := F) c) Q := by
  rw [main_segs adm (pdats m) 0 𝒱₀ L lv (seg1 m) (seg2 m) (reg0 m) rfl rfl c]
  exact .rfl

/-! ## From one stretch to the next -/

abbrev T₀ (c : Dev nD) : sProp 𝕄 :=
  iprop(StableHlo.held (c : Thread nD τ) (Pipeline.ucRefs τ sig) (V₀ m c) ∗ Sites.Es EC (V₁ m) 0 c ∗ invs m)
abbrev Tₙ (c : Dev nD) : sProp 𝕄 :=
  iprop(StableHlo.held (c : Thread nD τ) (Pipeline.ucRefs τ sig) (V₂ m c) ∗ (invs m ∗ Sites.Ghost0 EC c) ∗ ∃ r, prngReg c r)

theorem T₀_reg0 (c : Dev nD) : T₀ m c ⊢ (reg0 m).pre c := by
  refine .trans ?_ (Pipeline.RegionSeg.ofHeldIn_pre arrays_sub c)
  unfold T₀
  rw [Sites.Es_0]
  iintro ⟨Hh, ⟨HO, Hp, Hr⟩, Hi⟩
  isplitl [Hh]; · iexact Hh
  isplitl [HO]; · iexact HO
  isplitl [Hp]; · iexact Hp
  isplitl [Hr] <;> iassumption

theorem reg0_seg1 (c : Dev nD) : (reg0 m).post c ⊢ (seg1 m).pre c := by
  refine (Pipeline.RegionSeg.ofHeldIn_post arrays_sub c).trans ?_
  unfold seg1 Pipeline.HostSeg.ofOps
  dsimp only
  rw [Sites.Es_0]
  iintro ⟨Hh, HO, Hp, Hr, Hi⟩
  isplitl [Hh]; · iexact Hh
  isplitr [Hi]
  · isplitl [HO]; · iexact HO
    isplitl [Hp] <;> iassumption
  · iexact Hi

theorem seg1_seg2 (c : Dev nD) : (seg1 m).post c ⊢ (seg2 (F := F) m).pre c := Sites.pre0 EC 𝒱₀ (V₁ m) (fun _ => invs m) c

theorem seg2_Tₙ (c : Dev nD) : (seg2 (F := F) m).post c ⊢ iprop(Tₙ m c ∗ ∃ W, owes (c : Thread nD τ) (0 : CellTallies nD τ sig ℕ) W) := by
  refine (Sites.post0' EC 𝒱₀ (V₁ m) (fun _ => invs m) c (V₂ m c) (fun _ _ => rfl)).trans ?_
  rw [Sites.Es_1]; dsimp only [Sites.O1]
  iintro ⟨Hh, ⟨HO, Hp, -⟩, Hg, Hi⟩
  isplitr [HO]
  · isplitl [Hh]; · iexact Hh
    isplitl [Hg Hi]; · isplitl [Hi] <;> iassumption
    iexact Hp
  · iexact HO

/-! ## The launch -/

def u₀ : UU :=
  (initOf (Pipeline.cells (Pipeline.pin (pcfgs (F := F)) adm) cellOf_inj) (Pipeline.launchToks (Pipeline.pin (pcfgs (F := F)) adm) cellOf_inj),
    Sites.uC (U := UU) (V₁ m))

theorem rides_invs (c : Dev nD) : Sites.Es EC (V₁ m) 0 c ⊢ invs m := by
  rw [Sites.Es_0]; dsimp only [Sites.rides0]; unfold AllReduce.Dat.rides
  iintro ⟨-, -, Hi, -⟩; iexact Hi

theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (V₁ m) c)) ∗ levAts L lv)
      ⊢ (|={Set.univ}=> bigSep Finset.univ (T₀ m) : sProp 𝕄) := by
  have h1 (c : Dev nD) : iprop(unscopedBufs c (fun b => m ((c : Thread nD τ).loc b)) ∗ unscopedSems0 c
        ∗ owes (c : Thread nD τ) (Sites.O0 (F := F) c) ∅ ∗ Pipeline.launchCred (Sites.O0 (F := F)) c ∗ prngReg c (ρ c) ∗ Sites.G EC (V₁ m) c)
      ⊢ iprop((unscopedSems0 c ∗ owes (c : Thread nD τ) (Sites.O0 (F := F) c) ∅ ∗ Pipeline.launchCred (Sites.O0 (F := F)) c ∗ prngReg c (ρ c) ∗ Sites.G EC (V₁ m) c)
          ∗ unscopedBufs c (fun b => m ((c : Thread nD τ).loc b))) := by
    iintro ⟨Hb, Hr⟩
    isplitl [Hr] <;> iassumption
  have h2 (c : Dev nD) : iprop(Sites.Es EC (V₁ m) 0 c ∗ unscopedBufs c (fun b => m ((c : Thread nD τ).loc b))) ⊢ T₀ m c := by
    unfold T₀
    rw [show (unscopedBufs c fun b => m ((c : Thread nD τ).loc b) : sProp 𝕄)
        = StableHlo.held (c.tc : Thread nD τ) (Pipeline.ucRefs τ sig) (V₀ m c) from Pipeline.unscopedBufs_held c (V₀ m c)]
    iintro ⟨HE, Hub⟩
    ihave #Hi := (rides_invs m c) $$ HE
    isplitl [Hub]; · iexact Hub
    isplitl [HE]; · iexact HE
    iexact Hi
  iintro ⟨H, Hlv⟩
  ihave H' := (show _ ⊢ iprop((bigSep Finset.univ fun c : Dev nD => iprop(unscopedSems0 c ∗ owes (c : Thread nD τ) (Sites.O0 (F := F) c) ∅ ∗ Pipeline.launchCred (Sites.O0 (F := F)) c ∗ prngReg c (ρ c) ∗ Sites.G EC (V₁ m) c))
        ∗ bigSep Finset.univ fun c : Dev nD => unscopedBufs (Ix := ℕ) (Name := ℕ) (U := UU) (Lvl := ℕ) c (fun b => m ((c : Thread nD τ).loc b)))
      from by rw [← bigSep_sep']; exact bigSep_mono fun c _ => h1 c) $$ H
  icases H' with ⟨Hs, Hub⟩
  imod (Sites.hE0 EC (V₁ m) ρ) $$ [Hs Hlv] with HE
  · isplitl [Hs] <;> iassumption
  imodintro
  iapply (show iprop((bigSep Finset.univ (Sites.Es EC (V₁ m) 0)) ∗ bigSep Finset.univ fun c : Dev nD => unscopedBufs (Ix := ℕ) (Name := ℕ) (U := UU) (Lvl := ℕ) c (fun b => m ((c : Thread nD τ).loc b)))
      ⊢ bigSep Finset.univ (T₀ m) from by rw [← bigSep_sep']; exact bigSep_mono fun c _ => h2 c)
  isplitl [HE] <;> iassumption

/-! ## The run -/

set_option backward.isDefEq.respectTransparency.types false in
/-- From any memory with the counters at zero the run ends, with every buffer at `V₂` and the counters at zero again. -/
theorem run_main : θ_run defs (onTc (τ := τ) (main (F := F))) ⟨m, fun _ => 0, ρ⟩ (fun r =>
    (∀ (c : Dev nD) (b : Ref sig .tc), (Proc.devRef .tc b : DevRef τ sig) ∈ Pipeline.ucRefs τ sig →
      r.2.mem ((c : Thread nD τ).loc b) = V₂ m c (Proc.devRef .tc b)) ∧ r.2.sem = fun _ => 0) :=
  Pipeline.θ_run_regions_kit_sems (pcfgs (F := F)) adm (pdats m) 0 cellOf_inj EP defs₀ 𝒱₀ L lv m ρ main (segs m)
    (main_wp m)
    (by simp only [segs, Pipeline.Seg.pipes_host, Pipeline.Seg.pipes_region, Pipeline.Seg.pipes_nil]; decide)
    (O₀ := Sites.O0) (hL := Sites.hL) (G := Sites.G EC (V₁ m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := T₀ m) (Tₙ := Tₙ m)
    (hch := ⟨T₀_reg0 m, reg0_seg1 m, seg1_seg2 m, seg2_Tₙ m⟩)
    (hinit := init m ρ)
    (QY := fun c s => (∀ b : Ref sig .tc, (Proc.devRef .tc b : DevRef τ sig) ∈ Pipeline.ucRefs τ sig →
      s.mem ((c : Thread nD τ).loc b) = V₂ m c (Proc.devRef .tc b))
      ∧ (s.sem ((c.tc : Thread nD τ), .reg (ar0 (F := F)).barrier) = 0 ∧ s.sem ((c.tc : Thread nD τ), .dma (ar0 (F := F)).recv) = 0
        ∧ s.sem ((c.tc : Thread nD τ), .dma (ar0 (F := F)).send) = 0))
    (hfin := fun c s' => by
      unfold Tₙ StableHlo.held
      iintro ⟨⟨Hh, He, -⟩, HSI⟩
      ihave %h := (SI_pointsTo_bufs_agree (qs := fun _ => fullShare) (Pipeline.ucRefs τ sig)) $$ [HSI Hh]
      · isplitl [HSI] <;> iassumption
      imod ((AllReduce.Dat.once (ar0 (F := F)) (V₁ m)).ghostAfter_read (Sites.E0 EC) c (k := 0) le_rfl s') $$ [He HSI] with ⟨%hz, HSI⟩
      · isplitl [He] <;> iassumption
      imodintro
      isplitr; · ipureintro; exact ⟨fun b hb => h _ hb, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      obtain ⟨hb, hr, hd⟩ := (h c).2
      rcases hl sm hsm with rfl | rfl | rfl
      exacts [hb, hr, hd]⟩)

/-! ## What the run leaves -/

/-- The last point. -/
def lastPt : Fin cfg0.N := ⟨7, by decide⟩

/-- A device's total. -/
def total (c : Dev nD) : Vec F S1x1 .f32 := k0_pay6 (acc m c lastPt.val lastPt.isLt)

/-- The total is written back once, at the last point. -/
theorem flush3 (t : Fin cfg0.N) (h : (cfg0.win 3).flush t = true) : t = lastPt := by
  by_contra hne
  have := (idle3 t fun e => hne (Fin.ext e)).2
  rw [h] at this
  cases this

theorem cell_eq (i j : S1x1.Idx) : i = j := funext fun a => Fin.ext <| by
  have hi := (i a).isLt
  have hj := (j a).isLt
  match a with
  | ⟨0, _⟩ => replace hi : (i 0).val < 1 := hi; replace hj : (j 0).val < 1 := hj; show (i 0).val = (j 0).val; omega
  | ⟨1, _⟩ => replace hi : (i 1).val < 1 := hi; replace hj : (j 1).val < 1 := hj; show (i 1).val = (j 1).val; omega

theorem final (c : Dev nD) : (dats m c).arrAt 3 cfg0.N = total m c :=
  (dats m c).arrAt_eq_of_cover 3 _ (fun t h => by
      obtain rfl := flush3 t h
      refine funext fun (j : S1x1.Idx) => ?_
      exact (congrFun (after3 m c lastPt) _).trans (congrArg (total m c) (cell_eq _ _)))
    (fun i => ⟨lastPt, by decide, by
      refine (Finset.ext_iff.mp (View.set_slice_whole main_v1_1 _) i).mpr (Rect.mem_set_unit.mpr fun a => ?_)
      match a with
      | ⟨0, _⟩ => have h : (i 0).val < 1 := (i 0).isLt; exact ⟨Nat.zero_le _, h⟩
      | ⟨1, _⟩ => have h : (i 1).val < 1 := (i 1).isLt; exact ⟨Nat.zero_le _, h⟩⟩)

theorem kept0 (c : Dev nD) : V₂ m c (Proc.devRef .tc main_arg0) = m ((c : Thread nD τ).loc main_arg0) :=
  (show V₂ m c (Proc.devRef .tc main_arg0) = Vr m c (Proc.devRef .tc main_arg0) from rfl).trans
    (Pipeline.afterRegion_keeps (dats m c) (V₀ m c) winFacts0.arr_inj (fun _ => rfl) main_arg0 (by decide))

theorem kept1 (c : Dev nD) : V₂ m c (Proc.devRef .tc main_arg1) = m ((c : Thread nD τ).loc main_arg1) :=
  (show V₂ m c (Proc.devRef .tc main_arg1) = Vr m c (Proc.devRef .tc main_arg1) from rfl).trans
    (Pipeline.afterRegion_keeps (dats m c) (V₀ m c) winFacts0.arr_inj (fun _ => rfl) main_arg1 (by decide))

/-- What a device sends: its total, as a scalar. -/
theorem sent (c : Dev nD) : V₁ m c (Proc.devRef .tc main_v2) = shapeCast S_ (total m c) shapeCasts_S1x1_S_ := by
  rw [← final m c, ← Pipeline.afterRegion_arr (dats m c) (V₀ m c) winFacts0.arr_inj 3]
  unfold V₁
  rw [StableHlo.after_cons, StableHlo.after_nil]
  exact StableHlo.reshape_result' _ _ _ _ _

/-- Every device ends with the totals added up in the devices' order. -/
theorem result (c : Dev nD) : V₂ m c (Proc.devRef .tc main_v3) = fun i =>
    ((List.finRange 8).drop 1).foldl (fun a j => Collective.reduce .add a (shapeCast S_ (total m j) shapeCasts_S1x1_S_ i))
      (shapeCast S_ (total m 0) shapeCasts_S1x1_S_ i) := by
  refine ((ar0 (F := F)).after₀_result (V₁ m) c).trans ?_
  have hp : ∀ j : Fin 8, (ar0 (F := F)).peer c j = j := fun j => by fin_cases c <;> fin_cases j <;> rfl
  have hv : (fun j : Fin 8 => V₁ m ((ar0 (F := F)).peer c j) (Proc.devRef .tc main_v2)) = fun j => shapeCast S_ (total m j) shapeCasts_S1x1_S_ :=
    funext fun j => by rw [hp, sent]
  exact (congrArg (fun v => (ar0 (F := F)).toResult ((ar0 (F := F)).foldGroup v)) hv).trans (by unfold AllReduce.Cfg.toResult AllReduce.Cfg.foldGroup; rfl)

theorem run : θ_run defs (onTc (τ := τ) (main (F := F))) ⟨m, fun _ => 0, ρ⟩ (fun r =>
    (∀ c : Dev nD, r.2.mem ((c : Thread nD τ).loc main_v3) = V₂ m c (Proc.devRef .tc main_v3)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c =>
    ⟨h.1 c main_v3 (Pipeline.devRef_mem_ucRefs rfl), (h.1 c main_arg0 (Pipeline.devRef_mem_ucRefs rfl)).trans (kept0 m c),
      (h.1 c main_arg1 (Pipeline.devRef_mem_ucRefs rfl)).trans (kept1 m c)⟩, h.2⟩) (run_main m ρ)

end Cert.TotalIdeal.Entry

end
-- ==== Proof.TotalClaims.lean ====
/-
# The loss over all devices: the claims

Each device's total is the sum of its tokens' squares, scaled; the devices' totals added up are the sum over all tokens.
The reference takes the mean of each token's squares and half the sum of the means over all of them.
-/
module

public import proofs.«01_k».proof.Defs
public import proofs.«01_k».proof.Proof.LossClaims
public import proofs.«01_k».proof.Proof.TotalRun
public import proofs.«01_k».proof.Proof.Gen.Total
public import proofs.«01_k».proof.Proof.Gen.TotalRefIdeal.Run

@[expose] public section

set_option Elab.async false
set_option maxRecDepth 16384

noncomputable section

open Idealize.ShloMosaic Idealize.SL.Sem
open Idealize.ShloMosaic.TcCoe
open scoped BigOperators

namespace Cert.TotalIdeal.Entry

open Cert.TotalIdeal Cert.TotalIdeal.Gen
open Cert.LossHeadIdeal.Entry (row sq)

section Device

variable (m : (ℓ : Loc nD τ sig) → Buf (Elt Ideal) ℓ)

/-- A point of the one loss head, as a point of the other. -/
abbrev pt (t : Fin Cert.LossHeadIdeal.cfg0.N) : Fin cfg0.N := ⟨t.val, lt_of_lt_of_eq t.isLt (Cert.LossHeadIdeal.Gen.N_0.trans N_0.symm)⟩

/-- The windows of the tokens move together, one block of rows at each point. -/
theorem places : ∀ t : Fin grid0.N, cc0_transform_0 (grid0.coords t) = ![t.val, 0]
    ∧ cc0_transform_1 (grid0.coords t) = ![t.val, 0] := by decide +kernel

theorem block0 (c : Dev nD) (t : Fin Cert.LossHeadIdeal.cfg0.N) (r : Fin 512) (l : Fin 1024) :
    (iblk m c (0 : Fin 4) (pt t) : S512x1024.Idx → Ideal .f32) (ix2 r l)
      = (m ((c : Thread nD τ).loc main_arg0) : S4096x1024.Idx → Ideal .f32) (ix2 (row t r) l) := by
  refine congrArg (m ((c : Thread nD τ).loc main_arg0) : S4096x1024.Idx → Ideal .f32) (funext fun a => Fin.ext ?_)
  have e := (places (pt t)).1
  match a with
  | ⟨0, _⟩ => show cc0_transform_0 (grid0.coords (pt t)) 0 * 512 + 1 * r.val = 512 * t.val + r.val; rw [e]; show t.val * 512 + 1 * r.val = _; omega
  | ⟨1, _⟩ => show cc0_transform_0 (grid0.coords (pt t)) 1 * 1024 + 1 * l.val = l.val; rw [e]; show 0 * 1024 + 1 * l.val = _; omega

theorem block1 (c : Dev nD) (t : Fin Cert.LossHeadIdeal.cfg0.N) (r : Fin 512) (l : Fin 1024) :
    (iblk m c (1 : Fin 4) (pt t) : S512x1024.Idx → Ideal .f32) (ix2 r l)
      = (m ((c : Thread nD τ).loc main_arg1) : S4096x1024.Idx → Ideal .f32) (ix2 (row t r) l) := by
  refine congrArg (m ((c : Thread nD τ).loc main_arg1) : S4096x1024.Idx → Ideal .f32) (funext fun a => Fin.ext ?_)
  have e := (places (pt t)).2
  match a with
  | ⟨0, _⟩ => show cc0_transform_1 (grid0.coords (pt t)) 0 * 512 + 1 * r.val = 512 * t.val + r.val; rw [e]; show t.val * 512 + 1 * r.val = _; omega
  | ⟨1, _⟩ => show cc0_transform_1 (grid0.coords (pt t)) 1 * 1024 + 1 * l.val = l.val; rw [e]; show 0 * 1024 + 1 * l.val = _; omega

/-! The two loss heads compute the same. -/

theorem squares_same (x0 x1 : Vec Ideal S512x1024 .f32) : k0_pay3 x0 x1 = Cert.LossHeadIdeal.Gen.k0_pay3 (F := Ideal) x0 x1 := by
  unfold k0_pay3 Cert.LossHeadIdeal.Gen.k0_pay3 k0_pay1 Cert.LossHeadIdeal.Gen.k0_pay1
  simp only [shapeCast_self]
theorem start_same (x0 x1 : Vec Ideal S512x1024 .f32) : k0_pay4 x0 x1 = Cert.LossHeadIdeal.Gen.k0_pay4 (F := Ideal) x0 x1 := by
  unfold k0_pay4 Cert.LossHeadIdeal.Gen.k0_pay4
  rw [squares_same]
theorem step_same (x0 x1 : Vec Ideal S512x1024 .f32) (xs : Vec Ideal S8x1024 .f32) :
    k0_pay5 x0 x1 xs = Cert.LossHeadIdeal.Gen.k0_pay5 (F := Ideal) x0 x1 xs := by
  unfold k0_pay5 Cert.LossHeadIdeal.Gen.k0_pay5
  rw [squares_same]
theorem finish_same (xs : Vec Ideal S8x1024 .f32) : k0_pay6 xs = Cert.LossHeadIdeal.Gen.k0_pay6 (F := Ideal) xs := rfl

/-- A device's total is its tokens' squares, scaled. -/
theorem total_eq (c : Dev nD) (i : S1x1.Idx) : total (F := Ideal) m c i
    = (∑ r : Fin 4096, ∑ l : Fin 1024, sq (m ((c : Thread nD τ).loc main_arg0)) (m ((c : Thread nD τ).loc main_arg1)) l r)
      * Ideal.ofBits .f32 0x3A000000#32 := by
  unfold total
  rw [finish_same]
  exact Cert.LossHeadIdeal.Entry.added (A := fun n h => acc m c n (lt_of_lt_of_eq h (Cert.LossHeadIdeal.Gen.N_0.trans N_0.symm)))
    (block0 m c) (block1 m c) (fun _ => start_same _ _) (fun _ _ => step_same _ _ _) lastPt.val (lt_of_lt_of_eq lastPt.isLt (N_0.trans Cert.LossHeadIdeal.Gen.N_0.symm)) rfl i

end Device

/-- A left fold over the eight is their sum. -/
theorem fold_eight (f : Fin 8 → EReal) : ((List.finRange 8).drop 1).foldl (fun a j => a + f j) (f 0) = ∑ j, f j := by
  rw [Fin.sum_univ_eight]; rfl

/-- The squares over all devices' tokens. -/
abbrev squares (y target : (⟨2, ![32768, 1024]⟩ : Shape).Idx → Ideal .f32) (i : Fin 32768) : EReal :=
  ∑ l : Fin 1024, (y (ix2 i l) - target (ix2 i l)) * (y (ix2 i l) - target (ix2 i l))

theorem devices (y target : (⟨2, ![32768, 1024]⟩ : Shape).Idx → Ideal .f32) :
    ∑ c : Fin 8, ((∑ r : Fin 4096, ∑ l : Fin 1024, sq (Layout.block ⟨2, ![4096, 1024]⟩ ⟨2, ![32768, 1024]⟩ 0 8 c y)
        (Layout.block ⟨2, ![4096, 1024]⟩ ⟨2, ![32768, 1024]⟩ 0 8 c target) l r) * Ideal.ofBits .f32 0x3A000000#32)
      = (∑ i, squares y target i) * Ideal.ofBits .f32 0x3A000000#32 := by
  rw [Cert.Tokens.word_half_inv, Cert.Tokens.sum_scale _ _ (by norm_num), ← Cert.Tokens.sum_pairs 8 4096 (squares y target)]
  refine congrArg (· * _) (Finset.sum_congr rfl fun c _ => Finset.sum_congr rfl fun r _ => Finset.sum_congr rfl fun l _ => ?_)
  have h : Layout.Tiles ⟨2, ![4096, 1024]⟩ ⟨2, ![32768, 1024]⟩ 0 8 := by decide
  have e : h.idx c (ix2 r l) = (ix2 (finProdFinEquiv (c, r) : Fin 32768) l : (⟨2, ![32768, 1024]⟩ : Shape).Idx) := by
    funext a; apply Fin.ext
    match a with
    | ⟨0, _⟩ => show c.val * 4096 + r.val = r.val + 4096 * c.val; omega
    | ⟨1, _⟩ => rfl
  exact congrArg (fun j => (y j - target j) * (y j - target j)) e

theorem keeps {F : FTy → Type} [FloatOps F] (m : (ℓ : Loc nD τ sig) → Buf (Elt F) ℓ) (g : Dev nD → PrngReg) :
    θ_run defs (onTc (τ := τ) (main (F := F))) ⟨m, fun _ => 0, g⟩ (fun r =>
      (∀ c : Dev nD, r.2.mem (c.tc.loc main_arg0) = m (c.tc.loc main_arg0) ∧ r.2.mem (c.tc.loc main_arg1) = m (c.tc.loc main_arg1))
        ∧ r.2.sem = fun _ => 0) :=
  (θ_run defs _ _).mono (fun _ h => ⟨fun c => (h.1 c).2, h.2⟩) (Cert.TotalIdeal.Entry.run m g)

end Cert.TotalIdeal.Entry

namespace Cert.Total.Claims

open Cert.TotalIdeal.Entry (keeps result fold_eight total total_eq devices)

theorem same_body : Cert.Total.defs₀ (F := Bits) = Cert.TotalIdeal.defs₀ (F := Bits) :=
  congrArg Defs.onTc (funext fun l => match l with
    | ⟨0, _⟩ => funext fun (_, _) => rfl)
theorem same_defs : Cert.Total.defs (F := Bits) = Cert.TotalIdeal.defs (F := Bits) :=
  congrArg (Pipeline.defs Cert.TotalIdeal.pcfgs) same_body

theorem frame_kernel : Cert.quiescent_Total := fun m g _ => by rw [same_defs]; exact keeps (F := Bits) m g
theorem frame_ideal : Cert.quiescent_TotalIdeal := fun m g _ => keeps (F := Ideal) m g
theorem frame_ref : Cert.quiescent_TotalRefIdeal := fun m g _ =>
  (θ_run Cert.TotalRefIdeal.defs _ _).mono (fun r h => ⟨fun c => (h c).2, sem_eq_zero_of_no_sems (by decide) r.2⟩)
    (Cert.TotalRefIdeal.Value.run (F := Ideal) m g)

theorem algebraic : Cert.algebraic_TotalIdeal_TotalRefIdeal := fun m g m' g' _ h => by
  refine ⟨_, (θ_run Cert.TotalIdeal.defs _ _).mono (fun r e c => ⟨(e.1 c).1.trans ?_, (e.1 c).2⟩) (Cert.TotalIdeal.Entry.run (F := Ideal) m g),
    (θ_run Cert.TotalRefIdeal.defs _ _).mono (fun r e => e 0) (Cert.TotalRefIdeal.Value.run (F := Ideal) m' g')⟩
  rw [result]
  refine funext fun i => (fold_eight fun j => shapeCast Cert.TotalIdeal.S_ (total (F := Ideal) m j) Cert.TotalIdeal.Gen.shapeCasts_S1x1_S_ i).trans ?_
  refine (Finset.sum_congr rfl fun j _ => (total_eq m j _).trans (by rw [(h j).1, (h j).2])).trans ((devices _ _).trans ?_)
  pointwise
  exact (Cert.Tokens.half_means _).symm

end Cert.Total.Claims
-- ==== Proof.Products.lean ====
/-
# Products of matrices, by blocks

A call that multiplies two matrices goes over the blocks of its result. Here: a product at one entry, where an entry of a
block lies in the array, and which block an entry of the array is in.
-/
module

public import Idealize.ShloMosaic.Lib.Pointwise
public import Idealize.ShloMosaic.Lib.VecWindow
public import Idealize.ShloMosaic.PureOps.Ideal

@[expose] public section

set_option Elab.async false

noncomputable section

namespace Cert.Products

open Idealize.ShloMosaic
open scoped BigOperators

section

variable {M K N : ℕ}

/-- The product of two matrices. -/
abbrev times (a : (⟨2, ![M, K]⟩ : Shape).Idx → EReal) (b : (⟨2, ![K, N]⟩ : Shape).Idx → EReal) :
    (⟨2, ![M, N]⟩ : Shape).Idx → EReal := fun i => ∑ k : Fin K, a (ix2 (i 0) k) * b (ix2 k (i 1))

/-- The product with a transposed matrix. -/
abbrev timesT (a : (⟨2, ![M, K]⟩ : Shape).Idx → EReal) (b : (⟨2, ![N, K]⟩ : Shape).Idx → EReal) :
    (⟨2, ![M, N]⟩ : Shape).Idx → EReal := fun i => ∑ k : Fin K, a (ix2 (i 0) k) * b (ix2 (i 1) k)

/-- The product of a transposed matrix with another. -/
abbrev Ttimes (a : (⟨2, ![K, M]⟩ : Shape).Idx → EReal) (b : (⟨2, ![K, N]⟩ : Shape).Idx → EReal) :
    (⟨2, ![M, N]⟩ : Shape).Idx → EReal := fun i => ∑ k : Fin K, a (ix2 k (i 0)) * b (ix2 k (i 1))

/-- Where an entry of a block lies, for a block named by its two numbers. -/
theorem spot {p : Fin 2 → ℕ} {a b tm tn r l : ℕ} (hp : p = ![a, b]) {x : (⟨2, ![M, N]⟩ : Shape).Idx} {R : Fin M} {L : Fin N}
    (h0 : (x 0).val = p 0 * tm + 1 * r) (h1 : (x 1).val = p 1 * tn + 1 * l) (hR : R.val = a * tm + r) (hL : L.val = b * tn + l) :
    x = ix2 R L := by
  subst hp
  funext d
  apply Fin.ext
  match d with
  | ⟨0, _⟩ => show (x 0).val = R.val; rw [h0, hR]; show a * tm + 1 * r = _; omega
  | ⟨1, _⟩ => show (x 1).val = L.val; rw [h1, hL]; show b * tn + 1 * l = _; omega

/-- The block that an entry lies in, for the point that goes over it, the points counted row by row. -/
theorem inside {p : Fin 2 → ℕ} {t n tm tn i j : ℕ} (hp : p = ![t / n, t % n]) (hm : 0 < tm) (hn : 0 < tn)
    (ht : t = i / tm * n + j / tn) (hj : j / tn < n) :
    (p 0 * tm ≤ i ∧ i < p 0 * tm + tm) ∧ (p 1 * tn ≤ j ∧ j < p 1 * tn + tn) := by
  have e0 : p 0 = i / tm := by
    subst hp ht; show (i / tm * n + j / tn) / n = _
    rw [Nat.add_comm, Nat.add_mul_div_right _ _ (Nat.zero_lt_of_lt hj), Nat.div_eq_of_lt hj, Nat.zero_add]
  have e1 : p 1 = j / tn := by
    subst hp ht; show (i / tm * n + j / tn) % n = _
    rw [Nat.add_comm, Nat.add_mul_mod_self_right, Nat.mod_eq_of_lt hj]
  rw [e0, e1]
  have a := Nat.div_add_mod i tm
  have b := Nat.mod_lt i hm
  have c := Nat.div_add_mod j tn
  have d := Nat.mod_lt j hn
  rw [Nat.mul_comm] at a c
  omega

/-- The first of the two numbers of a load or store of a whole block. -/
theorem origin : (![0, 0] : Fin 2 → ℕ) = fun _ => 0 := funext fun a => by match a with | ⟨0, _⟩ => rfl | ⟨1, _⟩ => rfl

end

section

variable {N J T K : ℕ} {A P : (n : ℕ) → n < N → EReal} (hs : ∀ n h, n % J = 0 → A n h = P n h)
  (hn : ∀ n h, n % J ≠ 0 → A n h = A (n - 1) (Nat.lt_of_le_of_lt (Nat.sub_le _ _) h) + P n h)

include hs hn

/-- An accumulator that starts anew every `J` points holds what the points since then added. -/
theorem carried (q : ℕ) : ∀ (k : ℕ) (_ : k < J) (h : J * q + k < N), A (J * q + k) h
    = ∑ j : Fin (k + 1), P (J * q + j.val) (Nat.lt_of_le_of_lt (Nat.add_le_add_left (Nat.le_of_lt_succ j.isLt) _) h)
  | 0, _, h => by
    rw [hs _ h (Nat.mul_mod_right J q), Fin.sum_univ_castSucc, Fin.sum_univ_zero, zero_add]
    rfl
  | k + 1, hk, h => by
    have hm : (J * q + (k + 1)) % J = k + 1 := by rw [Nat.mul_add_mod, Nat.mod_eq_of_lt hk]
    rw [hn _ h (by rw [hm]; exact Nat.succ_ne_zero k), Fin.sum_univ_castSucc]
    exact congrArg (· + _) (carried q k (Nat.lt_of_succ_lt hk) _)

/-- When every point adds its tile of a sum, the accumulator ends with the whole sum. -/
theorem gathered (hK : J * T = K) (f : Fin K → EReal) {n q : ℕ} (h : n < N) (hq : n = J * q + (J - 1)) (hJ : 0 < J)
    (hP : ∀ j (hj : j < J) h', P (J * q + j) h' = ∑ s : Fin T, f ⟨j * T + s.val, by
      have a := Nat.mul_le_mul_right T hj; have b := s.isLt; rw [Nat.succ_mul, hK] at a; omega⟩) : A n h = ∑ k, f k := by
  obtain ⟨k, rfl⟩ : ∃ k, J = k + 1 := ⟨J - 1, by omega⟩
  subst hq
  refine (carried hs hn q k (Nat.lt_succ_self k) h).trans ?_
  rw [Fin.sum_univ_tiles (k + 1) T hK f]
  exact Finset.sum_congr rfl fun j _ => hP j.val j.isLt _

end

end Cert.Products
-- ==== Proof.ProductClaims.lean ====
/-
# Products with the weights, summed in one go

Seven calls whose blocks each hold the whole sum: a point reads a block of rows and a block of columns and writes their
product. What a point writes is its block of the product of the arrays; the reference names the same sums.
-/
module

public import proofs.«01_k».proof.Defs
public import proofs.«01_k».proof.Proof.Products
public import proofs.«01_k».proof.Proof.Gen.InProj.Frame
public import proofs.«01_k».proof.Proof.Gen.InProjIdeal.Value
public import proofs.«01_k».proof.Proof.Gen.InProjRefIdeal.Run
public import proofs.«01_k».proof.Proof.Gen.OutProj.Frame
public import proofs.«01_k».proof.Proof.Gen.OutProjIdeal.Value
public import proofs.«01_k».proof.Proof.Gen.OutProjRefIdeal.Run
public import proofs.«01_k».proof.Proof.Gen.FfUp.Frame
public import proofs.«01_k».proof.Proof.Gen.FfUpIdeal.Value
public import proofs.«01_k».proof.Proof.Gen.FfUpRefIdeal.Run
public import proofs.«01_k».proof.Proof.Gen.FfBack.Frame
public import proofs.«01_k».proof.Proof.Gen.FfBackIdeal.Value
public import proofs.«01_k».proof.Proof.Gen.FfBackRefIdeal.Run
public import proofs.«01_k».proof.Proof.Gen.OutBack.Frame
public import proofs.«01_k».proof.Proof.Gen.OutBackIdeal.Value
public import proofs.«01_k».proof.Proof.Gen.OutBackRefIdeal.Run
public import proofs.«01_k».proof.Proof.Gen.UpBack.Frame
public import proofs.«01_k».proof.Proof.Gen.UpBackIdeal.Value
public import proofs.«01_k».proof.Proof.Gen.UpBackRefIdeal.Run
public import proofs.«01_k».proof.Proof.Gen.UpBackNarrow.Frame
public import proofs.«01_k».proof.Proof.Gen.UpBackNarrowIdeal.Value
public import proofs.«01_k».proof.Proof.Gen.UpBackNarrowRefIdeal.Run
public import Idealize.ShloMosaic.Lib.Quiescent

@[expose] public section

set_option Elab.async false
set_option maxRecDepth 16384

noncomputable section

open Idealize.ShloMosaic Idealize.SL.Sem
open Idealize.ShloMosaic.TcCoe
open scoped BigOperators

/-! ## The input projection -/

namespace Cert.InProjIdeal.Entry

open Cert.InProjIdeal Cert.InProjIdeal.Gen
open Cert.Products

variable (m : (ℓ : Loc nD τ sig) → Buf (Elt Ideal) ℓ)

/-- The block of each window at a point. -/
theorem places : ∀ t : Fin grid0.N, cc0_transform_0 (grid0.coords t) = ![t.val / 2, 0]
    ∧ cc0_transform_1 (grid0.coords t) = ![0, t.val % 2]
    ∧ cc0_transform_2 (grid0.coords t) = ![t.val / 2, t.val % 2] := by decide +kernel

/-- The row and the column of the result that an entry of a block is. -/
abbrev row (t : Fin cfg0.N) (r : Fin 512) : Fin 4096 :=
  ⟨t.val / 2 * 512 + r.val, by have := lt_of_lt_of_eq t.isLt N_0; omega⟩
abbrev col (t : Fin cfg0.N) (l : Fin 3712) : Fin 7424 :=
  ⟨t.val % 2 * 3712 + l.val, by have := lt_of_lt_of_eq t.isLt N_0; omega⟩

theorem block0 (c : Dev nD) (t : Fin cfg0.N) (r : Fin 512) (k : Fin 1024) : (iblk m c 0 t : S512x1024.Idx → EReal) (ix2 r k)
    = (m ((c : Thread nD τ).loc main_arg0) : S4096x1024.Idx → EReal) (ix2 (row t r) k) :=
  congrArg (m ((c : Thread nD τ).loc main_arg0) : S4096x1024.Idx → EReal) (spot (tm := 512) (tn := 1024) (l := k.val) (places t).1 rfl rfl rfl (by omega))

theorem block1 (c : Dev nD) (t : Fin cfg0.N) (k : Fin 1024) (l : Fin 3712) : (iblk m c 1 t : S1024x3712.Idx → EReal) (ix2 k l)
    = (m ((c : Thread nD τ).loc main_arg1) : S1024x7424.Idx → EReal) (ix2 k (col t l)) :=
  congrArg (m ((c : Thread nD τ).loc main_arg1) : S1024x7424.Idx → EReal) (spot (tm := 1024) (tn := 3712) (r := k.val) (places t).2.1 rfl rfl (by omega) rfl)

/-- The result of the call. -/
abbrev value (x : S4096x1024.Idx → EReal) (w : S1024x7424.Idx → EReal) : S4096x7424.Idx → EReal := fun i => times x w i

/-- What the kernel leaves in its block. -/
theorem left (x : Vec Ideal S512x1024 .bf16) (w : Vec Ideal S1024x3712 .bf16) (r : Fin 512) (l : Fin 3712) :
    out0_2 x w (ix2 r l) = (∑ k : Fin 1024, x (ix2 r k) * w (ix2 k l)) := by
  refine (congrFun (View.canon_unit_zero (S := S512x3712) origin _ _) _).trans ?_
  refine (congrFun (congrArg₂ k0_pay1 (View.ld_unit_zero (S := S512x1024) origin _ x) (View.ld_unit_zero (S := S1024x3712) origin _ w)) _).trans ?_
  pointwise [k0_pay1]

/-- What one point writes back is its block of the result. -/
theorem flushed (c : Dev nD) (t : Fin cfg0.N) : (dats m 0 c).flushed 2 t
    = ((cfg0.win 2).blk t).view.read (Elt Ideal) (value (m ((c : Thread nD τ).loc main_arg0)) (m ((c : Thread nD τ).loc main_arg1))) := by
  rw [Cert.InProjIdeal.Value.flushed2]
  refine funext fun (j : S512x3712.Idx) => ?_
  have h : (((cfg0.win 2).blk t).view.emb j : S4096x7424.Idx) = ix2 (row t (j 0)) (col t (j 1)) :=
    spot (tm := 512) (tn := 3712) (places t).2.2 rfl rfl rfl rfl
  refine Eq.trans ?_ (congrArg (value _ _) h).symm
  refine (congrArg (out0_2 (iblk m c 0 t) (iblk m c 1 t)) (eq_ix2 (j : S512x3712.Idx))).trans ((left _ _ (j 0) (j 1)).trans ?_)
  have s := Finset.sum_congr rfl fun (k : Fin 1024) (_ : k ∈ Finset.univ) =>
    congrArg₂ (fun a b : EReal => a * b) (block0 m c t (j 0) k) (block1 m c t k (j 1))
  exact congrArg (fun s : EReal => s) s

/-- Every entry is in the block of some point. -/
theorem cover (i : S4096x7424.Idx) : ∃ t : Fin cfg0.N, (cfg0.win 2).flush t = true ∧ i ∈ ((cfg0.win 2).blk t).view.set := by
  have hi0 : (i 0).val < 4096 := (i 0).isLt
  have hi1 : (i 1).val < 7424 := (i 1).isLt
  have hq : (i 0).val / 512 * 2 + (i 1).val / 3712 < grid0.N := by rw [N_0]; omega
  refine ⟨⟨_, hq⟩, flush0_2 _, ?_⟩
  have b := inside (tm := 512) (tn := 3712) (places ⟨_, hq⟩).2.2 (by decide) (by decide) rfl (by omega)
  refine (Finset.ext_iff.mp (View.set_slice_whole main_v0 _) i).mpr (Rect.mem_set_unit.mpr fun a => ?_)
  match a with
  | ⟨0, _⟩ => exact b.1
  | ⟨1, _⟩ => exact b.2

/-- After the run the array is the result. -/
theorem final (c : Dev nD) : (dats m 0 c).arrAt 2 cfg0.N = value (m ((c : Thread nD τ).loc main_arg0)) (m ((c : Thread nD τ).loc main_arg1)) :=
  (dats m 0 c).arrAt_eq_of_cover 2 _ (fun t _ => flushed m c t) cover

end Cert.InProjIdeal.Entry

namespace Cert.InProj.Claims

theorem frame_kernel : Cert.quiescent_InProj := fun m g _ => Cert.InProj.Gen.frame (F := Bits) m g
theorem frame_ideal : Cert.quiescent_InProjIdeal := fun m g _ => Cert.InProjIdeal.Gen.frame (F := Ideal) m g
theorem frame_ref : Cert.quiescent_InProjRefIdeal := fun m g _ =>
  (θ_run Cert.InProjRefIdeal.defs _ _).mono (fun r h => ⟨fun c => (h c).2, sem_eq_zero_of_no_sems (by decide) r.2⟩)
    (Cert.InProjRefIdeal.Value.run (F := Ideal) m g)

theorem algebraic : Cert.algebraic_InProjIdeal_InProjRefIdeal := fun m g m' g' _ h => by
  refine ⟨_, Cert.InProjIdeal.Value.run_blocks (F := Ideal) m g,
    (θ_run Cert.InProjRefIdeal.defs _ _).mono (fun _ r c => ?_)
      (Cert.InProjRefIdeal.Value.run (F := Ideal) m' g')⟩
  obtain ⟨h0, h1⟩ := h c
  obtain ⟨r0, r1⟩ := r c
  refine ⟨r0.trans ?_, r1⟩
  refine funext fun i => Eq.trans ?_ (congrFun (Cert.InProjIdeal.Entry.final m c) i).symm
  rw [h0, h1]
  pointwise

end Cert.InProj.Claims

/-! ## The output projection, added to the stream -/

namespace Cert.OutProjIdeal.Entry

open Cert.OutProjIdeal Cert.OutProjIdeal.Gen
open Cert.Products

variable (m : (ℓ : Loc nD τ sig) → Buf (Elt Ideal) ℓ)

/-- The block of each window at a point. -/
theorem places : ∀ t : Fin grid0.N, cc0_transform_0 (grid0.coords t) = ![t.val / 1, 0]
    ∧ cc0_transform_1 (grid0.coords t) = ![0, t.val % 1]
    ∧ cc0_transform_2 (grid0.coords t) = ![t.val / 1, t.val % 1]
    ∧ cc0_transform_3 (grid0.coords t) = ![t.val / 1, t.val % 1] := by decide +kernel

/-- The row and the column of the result that an entry of a block is. -/
abbrev row (t : Fin cfg0.N) (r : Fin 512) : Fin 4096 :=
  ⟨t.val / 1 * 512 + r.val, by have := lt_of_lt_of_eq t.isLt N_0; omega⟩
abbrev col (t : Fin cfg0.N) (l : Fin 1024) : Fin 1024 :=
  ⟨t.val % 1 * 1024 + l.val, by have := lt_of_lt_of_eq t.isLt N_0; omega⟩

theorem block0 (c : Dev nD) (t : Fin cfg0.N) (r : Fin 512) (k : Fin 1024) : (iblk m c 0 t : S512x1024.Idx → EReal) (ix2 r k)
    = (m ((c : Thread nD τ).loc main_arg0) : S4096x1024.Idx → EReal) (ix2 (row t r) k) :=
  congrArg (m ((c : Thread nD τ).loc main_arg0) : S4096x1024.Idx → EReal) (spot (tm := 512) (tn := 1024) (l := k.val) (places t).1 rfl rfl rfl (by omega))

theorem block1 (c : Dev nD) (t : Fin cfg0.N) (k : Fin 1024) (l : Fin 1024) : (iblk m c 1 t : S1024x1024.Idx → EReal) (ix2 k l)
    = (m ((c : Thread nD τ).loc main_arg1) : S1024x1024.Idx → EReal) (ix2 k (col t l)) :=
  congrArg (m ((c : Thread nD τ).loc main_arg1) : S1024x1024.Idx → EReal) (spot (tm := 1024) (tn := 1024) (r := k.val) (places t).2.1 rfl rfl (by omega) rfl)

theorem block2 (c : Dev nD) (t : Fin cfg0.N) (r : Fin 512) (l : Fin 1024) : (iblk m c 2 t : S512x1024.Idx → EReal) (ix2 r l)
    = (m ((c : Thread nD τ).loc main_arg2) : S4096x1024.Idx → EReal) (ix2 (row t r) (col t l)) :=
  congrArg (m ((c : Thread nD τ).loc main_arg2) : S4096x1024.Idx → EReal) (spot (tm := 512) (tn := 1024) (places t).2.2.1 rfl rfl rfl rfl)

/-- The result of the call. -/
abbrev value (x : S4096x1024.Idx → EReal) (w : S1024x1024.Idx → EReal) (e : S4096x1024.Idx → EReal) : S4096x1024.Idx → EReal := fun i => e i + times x w i

/-- What the kernel leaves in its block. -/
theorem left (x : Vec Ideal S512x1024 .bf16) (w : Vec Ideal S1024x1024 .bf16) (e : Vec Ideal S512x1024 .f32) (r : Fin 512) (l : Fin 1024) :
    out0_3 x w e (ix2 r l) = e (ix2 r l) + (∑ k : Fin 1024, x (ix2 r k) * w (ix2 k l)) := by
  refine (congrFun (View.canon_unit_zero (S := S512x1024) origin _ _) _).trans ?_
  refine (congrFun (show k0_pay1 _ _ _ = k0_pay1 x w e by rw [View.ld_unit_zero (S := S512x1024) origin _ x, View.ld_unit_zero (S := S1024x1024) origin _ w, View.ld_unit_zero (S := S512x1024) origin _ e]) _).trans ?_
  pointwise [k0_pay1]

/-- What one point writes back is its block of the result. -/
theorem flushed (c : Dev nD) (t : Fin cfg0.N) : (dats m 0 c).flushed 3 t
    = ((cfg0.win 3).blk t).view.read (Elt Ideal) (value (m ((c : Thread nD τ).loc main_arg0)) (m ((c : Thread nD τ).loc main_arg1)) (m ((c : Thread nD τ).loc main_arg2))) := by
  rw [Cert.OutProjIdeal.Value.flushed3]
  refine funext fun (j : S512x1024.Idx) => ?_
  have h : (((cfg0.win 3).blk t).view.emb j : S4096x1024.Idx) = ix2 (row t (j 0)) (col t (j 1)) :=
    spot (tm := 512) (tn := 1024) (places t).2.2.2 rfl rfl rfl rfl
  refine Eq.trans ?_ (congrArg (value _ _ _) h).symm
  refine (congrArg (out0_3 (iblk m c 0 t) (iblk m c 1 t) (iblk m c 2 t)) (eq_ix2 (j : S512x1024.Idx))).trans ((left _ _ _ (j 0) (j 1)).trans ?_)
  have s := Finset.sum_congr rfl fun (k : Fin 1024) (_ : k ∈ Finset.univ) =>
    congrArg₂ (fun a b : EReal => a * b) (block0 m c t (j 0) k) (block1 m c t k (j 1))
  exact congrArg₂ (fun s e : EReal => e + s) s (block2 m c t (j 0) (j 1))

/-- Every entry is in the block of some point. -/
theorem cover (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  have hq : (i 0).val / 512 * 1 + (i 1).val / 1024 < grid0.N := by rw [N_0]; omega
  refine ⟨⟨_, hq⟩, flush0_3 _, ?_⟩
  have b := inside (tm := 512) (tn := 1024) (places ⟨_, hq⟩).2.2.2 (by decide) (by decide) rfl (by omega)
  refine (Finset.ext_iff.mp (View.set_slice_whole main_v0 _) i).mpr (Rect.mem_set_unit.mpr fun a => ?_)
  match a with
  | ⟨0, _⟩ => exact b.1
  | ⟨1, _⟩ => exact b.2

/-- After the run the array is the result. -/
theorem final (c : Dev nD) : (dats m 0 c).arrAt 3 cfg0.N = value (m ((c : Thread nD τ).loc main_arg0)) (m ((c : Thread nD τ).loc main_arg1)) (m ((c : Thread nD τ).loc main_arg2)) :=
  (dats m 0 c).arrAt_eq_of_cover 3 _ (fun t _ => flushed m c t) cover

end Cert.OutProjIdeal.Entry

namespace Cert.OutProj.Claims

theorem frame_kernel : Cert.quiescent_OutProj := fun m g _ => Cert.OutProj.Gen.frame (F := Bits) m g
theorem frame_ideal : Cert.quiescent_OutProjIdeal := fun m g _ => Cert.OutProjIdeal.Gen.frame (F := Ideal) m g
theorem frame_ref : Cert.quiescent_OutProjRefIdeal := fun m g _ =>
  (θ_run Cert.OutProjRefIdeal.defs _ _).mono (fun r h => ⟨fun c => (h c).2, sem_eq_zero_of_no_sems (by decide) r.2⟩)
    (Cert.OutProjRefIdeal.Value.run (F := Ideal) m g)

theorem algebraic : Cert.algebraic_OutProjIdeal_OutProjRefIdeal := fun m g m' g' _ h => by
  refine ⟨_, Cert.OutProjIdeal.Value.run_blocks (F := Ideal) m g,
    (θ_run Cert.OutProjRefIdeal.defs _ _).mono (fun _ r c => ?_)
      (Cert.OutProjRefIdeal.Value.run (F := Ideal) m' g')⟩
  obtain ⟨h0, h1, h2⟩ := h c
  obtain ⟨r0, r1⟩ := r c
  refine ⟨r0.trans ?_, r1⟩
  refine funext fun i => Eq.trans ?_ (congrFun (Cert.OutProjIdeal.Entry.final m c) i).symm
  rw [h0, h1, h2]
  pointwise

end Cert.OutProj.Claims

/-! ## The first product of the channel mixer, and the square of its positive part -/

namespace Cert.FfUpIdeal.Entry

open Cert.FfUpIdeal Cert.FfUpIdeal.Gen
open Cert.Products

variable (m : (ℓ : Loc nD τ sig) → Buf (Elt Ideal) ℓ)

/-- The block of each window at a point. -/
theorem places : ∀ t : Fin grid0.N, cc0_transform_0 (grid0.coords t) = ![t.val / 4, 0]
    ∧ cc0_transform_1 (grid0.coords t) = ![0, t.val % 4]
    ∧ cc0_transform_2 (grid0.coords t) = ![t.val / 4, t.val % 4]
    ∧ cc0_transform_3 (grid0.coords t) = ![t.val / 4, t.val % 4] := by decide +kernel

/-- The row and the column of the result that an entry of a block is. -/
abbrev row (t : Fin cfg0.N) (r : Fin 512) : Fin 4096 :=
  ⟨t.val / 4 * 512 + r.val, by have := lt_of_lt_of_eq t.isLt N_0; omega⟩
abbrev col (t : Fin cfg0.N) (l : Fin 1024) : Fin 4096 :=
  ⟨t.val % 4 * 1024 + l.val, by have := lt_of_lt_of_eq t.isLt N_0; omega⟩

theorem block0 (c : Dev nD) (t : Fin cfg0.N) (r : Fin 512) (k : Fin 1024) : (iblk m c 0 t : S512x1024.Idx → EReal) (ix2 r k)
    = (m ((c : Thread nD τ).loc main_arg0) : S4096x1024.Idx → EReal) (ix2 (row t r) k) :=
  congrArg (m ((c : Thread nD τ).loc main_arg0) : S4096x1024.Idx → EReal) (spot (tm := 512) (tn := 1024) (l := k.val) (places t).1 rfl rfl rfl (by omega))

theorem block1 (c : Dev nD) (t : Fin cfg0.N) (k : Fin 1024) (l : Fin 1024) : (iblk m c 1 t : S1024x1024.Idx → EReal) (ix2 k l)
    = (m ((c : Thread nD τ).loc main_arg1) : S1024x4096.Idx → EReal) (ix2 k (col t l)) :=
  congrArg (m ((c : Thread nD τ).loc main_arg1) : S1024x4096.Idx → EReal) (spot (tm := 1024) (tn := 1024) (r := k.val) (places t).2.1 rfl rfl (by omega) rfl)

/-- The result of the call. -/
abbrev value2 (x : S4096x1024.Idx → EReal) (w : S1024x4096.Idx → EReal) : S4096x4096.Idx → EReal := fun i => times x w i

/-- What the kernel leaves in its block. -/
theorem left2 (x : Vec Ideal S512x1024 .bf16) (w : Vec Ideal S1024x1024 .bf16) (r : Fin 512) (l : Fin 1024) :
    out0_2 x w (ix2 r l) = (∑ k : Fin 1024, x (ix2 r k) * w (ix2 k l)) := by
  refine (congrFun (View.canon_unit_zero (S := S512x1024) origin _ _) _).trans ?_
  refine (congrFun (congrArg₂ k0_pay1 (View.ld_unit_zero (S := S512x1024) origin _ x) (View.ld_unit_zero (S := S1024x1024) origin _ w)) _).trans ?_
  pointwise [k0_pay1]

/-- What one point writes back is its block of the result. -/
theorem flushed2 (c : Dev nD) (t : Fin cfg0.N) : (dats m 0 c).flushed 2 t
    = ((cfg0.win 2).blk t).view.read (Elt Ideal) (value2 (m ((c : Thread nD τ).loc main_arg0)) (m ((c : Thread nD τ).loc main_arg1))) := by
  rw [Cert.FfUpIdeal.Value.flushed2]
  refine funext fun (j : S512x1024.Idx) => ?_
  have h : (((cfg0.win 2).blk t).view.emb j : S4096x4096.Idx) = ix2 (row t (j 0)) (col t (j 1)) :=
    spot (tm := 512) (tn := 1024) (places t).2.2.1 rfl rfl rfl rfl
  refine Eq.trans ?_ (congrArg (value2 _ _) h).symm
  refine (congrArg (out0_2 (iblk m c 0 t) (iblk m c 1 t)) (eq_ix2 (j : S512x1024.Idx))).trans ((left2 _ _ (j 0) (j 1)).trans ?_)
  have s := Finset.sum_congr rfl fun (k : Fin 1024) (_ : k ∈ Finset.univ) =>
    congrArg₂ (fun a b : EReal => a * b) (block0 m c t (j 0) k) (block1 m c t k (j 1))
  exact congrArg (fun s : EReal => s) s

/-- Every entry is in the block of some point. -/
theorem cover2 (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  have hq : (i 0).val / 512 * 4 + (i 1).val / 1024 < grid0.N := by rw [N_0]; omega
  refine ⟨⟨_, hq⟩, flush0_2 _, ?_⟩
  have b := inside (tm := 512) (tn := 1024) (places ⟨_, hq⟩).2.2.1 (by decide) (by decide) rfl (by omega)
  refine (Finset.ext_iff.mp (View.set_slice_whole main_v0_0 _) i).mpr (Rect.mem_set_unit.mpr fun a => ?_)
  match a with
  | ⟨0, _⟩ => exact b.1
  | ⟨1, _⟩ => exact b.2

/-- After the run the array is the result. -/
theorem final2 (c : Dev nD) : (dats m 0 c).arrAt 2 cfg0.N = value2 (m ((c : Thread nD τ).loc main_arg0)) (m ((c : Thread nD τ).loc main_arg1)) :=
  (dats m 0 c).arrAt_eq_of_cover 2 _ (fun t _ => flushed2 m c t) cover2

/-- Its second result. -/
abbrev value3 (x : S4096x1024.Idx → EReal) (w : S1024x4096.Idx → EReal) : S4096x4096.Idx → EReal := fun i => max (times x w i) 0 * max (times x w i) 0

/-- What the kernel leaves in its block. -/
theorem left3 (x : Vec Ideal S512x1024 .bf16) (w : Vec Ideal S1024x1024 .bf16) (r : Fin 512) (l : Fin 1024) :
    out0_3 x w (ix2 r l) = max (∑ k : Fin 1024, x (ix2 r k) * w (ix2 k l)) 0 * max (∑ k : Fin 1024, x (ix2 r k) * w (ix2 k l)) 0 := by
  refine (congrFun (View.canon_unit_zero (S := S512x1024) origin _ _) _).trans ?_
  refine (congrFun (congrArg₂ k0_pay2 (View.ld_unit_zero (S := S512x1024) origin _ x) (View.ld_unit_zero (S := S1024x1024) origin _ w)) _).trans ?_
  pointwise [k0_pay1, k0_pay2]

/-- What one point writes back is its block of the result. -/
theorem flushed3 (c : Dev nD) (t : Fin cfg0.N) : (dats m 0 c).flushed 3 t
    = ((cfg0.win 3).blk t).view.read (Elt Ideal) (value3 (m ((c : Thread nD τ).loc main_arg0)) (m ((c : Thread nD τ).loc main_arg1))) := by
  rw [Cert.FfUpIdeal.Value.flushed3]
  refine funext fun (j : S512x1024.Idx) => ?_
  have h : (((cfg0.win 3).blk t).view.emb j : S4096x4096.Idx) = ix2 (row t (j 0)) (col t (j 1)) :=
    spot (tm := 512) (tn := 1024) (places t).2.2.2 rfl rfl rfl rfl
  refine Eq.trans ?_ (congrArg (value3 _ _) h).symm
  refine (congrArg (out0_3 (iblk m c 0 t) (iblk m c 1 t)) (eq_ix2 (j : S512x1024.Idx))).trans ((left3 _ _ (j 0) (j 1)).trans ?_)
  have s := Finset.sum_congr rfl fun (k : Fin 1024) (_ : k ∈ Finset.univ) =>
    congrArg₂ (fun a b : EReal => a * b) (block0 m c t (j 0) k) (block1 m c t k (j 1))
  exact congrArg (fun s : EReal => max (s) 0 * max (s) 0) s

/-- Every entry is in the block of some point. -/
theorem cover3 (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  have hq : (i 0).val / 512 * 4 + (i 1).val / 1024 < grid0.N := by rw [N_0]; omega
  refine ⟨⟨_, hq⟩, flush0_3 _, ?_⟩
  have b := inside (tm := 512) (tn := 1024) (places ⟨_, hq⟩).2.2.2 (by decide) (by decide) rfl (by omega)
  refine (Finset.ext_iff.mp (View.set_slice_whole main_v0_1 _) i).mpr (Rect.mem_set_unit.mpr fun a => ?_)
  match a with
  | ⟨0, _⟩ => exact b.1
  | ⟨1, _⟩ => exact b.2

/-- After the run the array is the result. -/
theorem final3 (c : Dev nD) : (dats m 0 c).arrAt 3 cfg0.N = value3 (m ((c : Thread nD τ).loc main_arg0)) (m ((c : Thread nD τ).loc main_arg1)) :=
  (dats m 0 c).arrAt_eq_of_cover 3 _ (fun t _ => flushed3 m c t) cover3

end Cert.FfUpIdeal.Entry

namespace Cert.FfUp.Claims

theorem frame_kernel : Cert.quiescent_FfUp := fun m g _ => Cert.FfUp.Gen.frame (F := Bits) m g
theorem frame_ideal : Cert.quiescent_FfUpIdeal := fun m g _ => Cert.FfUpIdeal.Gen.frame (F := Ideal) m g
theorem frame_ref : Cert.quiescent_FfUpRefIdeal := fun m g _ =>
  (θ_run Cert.FfUpRefIdeal.defs _ _).mono (fun r h => ⟨fun c => (h c).2.2, sem_eq_zero_of_no_sems (by decide) r.2⟩)
    (Cert.FfUpRefIdeal.Value.run (F := Ideal) m g)

theorem algebraic : Cert.algebraic_FfUpIdeal_FfUpRefIdeal := fun m g m' g' _ h => by
  refine ⟨_, _, Cert.FfUpIdeal.Value.run_blocks (F := Ideal) m g,
    (θ_run Cert.FfUpRefIdeal.defs _ _).mono (fun _ r c => ?_)
      (Cert.FfUpRefIdeal.Value.run (F := Ideal) m' g')⟩
  obtain ⟨h0, h1⟩ := h c
  obtain ⟨r0, r1, r2⟩ := r c
  refine ⟨r0.trans ?_, r1.trans ?_, r2⟩
  · refine funext fun i => Eq.trans ?_ (congrFun (Cert.FfUpIdeal.Entry.final2 m c) i).symm
    rw [h0, h1]
    pointwise
  · refine funext fun i => Eq.trans ?_ (congrFun (Cert.FfUpIdeal.Entry.final3 m c) i).symm
    rw [h0, h1]
    pointwise

end Cert.FfUp.Claims

/-! ## Back through the second product of the channel mixer and the square -/

namespace Cert.FfBackIdeal.Entry

open Cert.FfBackIdeal Cert.FfBackIdeal.Gen
open Cert.Products

variable (m : (ℓ : Loc nD τ sig) → Buf (Elt Ideal) ℓ)

/-- The block of each window at a point. -/
theorem places : ∀ t : Fin grid0.N, cc0_transform_0 (grid0.coords t) = ![t.val / 4, 0]
    ∧ cc0_transform_1 (grid0.coords t) = ![t.val % 4, 0]
    ∧ cc0_transform_2 (grid0.coords t) = ![t.val / 4, t.val % 4]
    ∧ cc0_transform_3 (grid0.coords t) = ![t.val / 4, t.val % 4] := by decide +kernel

/-- The row and the column of the result that an entry of a block is. -/
abbrev row (t : Fin cfg0.N) (r : Fin 512) : Fin 4096 :=
  ⟨t.val / 4 * 512 + r.val, by have := lt_of_lt_of_eq t.isLt N_0; omega⟩
abbrev col (t : Fin cfg0.N) (l : Fin 1024) : Fin 4096 :=
  ⟨t.val % 4 * 1024 + l.val, by have := lt_of_lt_of_eq t.isLt N_0; omega⟩

theorem block0 (c : Dev nD) (t : Fin cfg0.N) (r : Fin 512) (k : Fin 1024) : (iblk m c 0 t : S512x1024.Idx → EReal) (ix2 r k)
    = (m ((c : Thread nD τ).loc main_arg0) : S4096x1024.Idx → EReal) (ix2 (row t r) k) :=
  congrArg (m ((c : Thread nD τ).loc main_arg0) : S4096x1024.Idx → EReal) (spot (tm := 512) (tn := 1024) (l := k.val) (places t).1 rfl rfl rfl (by omega))

theorem block1 (c : Dev nD) (t : Fin cfg0.N) (k : Fin 1024) (l : Fin 1024) : (iblk m c 1 t : S1024x1024.Idx → EReal) (ix2 l k)
    = (m ((c : Thread nD τ).loc main_arg1) : S4096x1024.Idx → EReal) (ix2 (col t l) k) :=
  congrArg (m ((c : Thread nD τ).loc main_arg1) : S4096x1024.Idx → EReal) (spot (tm := 1024) (tn := 1024) (l := k.val) (places t).2.1 rfl rfl rfl (by omega))

theorem block2 (c : Dev nD) (t : Fin cfg0.N) (r : Fin 512) (l : Fin 1024) : (iblk m c 2 t : S512x1024.Idx → EReal) (ix2 r l)
    = (m ((c : Thread nD τ).loc main_arg2) : S4096x4096.Idx → EReal) (ix2 (row t r) (col t l)) :=
  congrArg (m ((c : Thread nD τ).loc main_arg2) : S4096x4096.Idx → EReal) (spot (tm := 512) (tn := 1024) (places t).2.2.1 rfl rfl rfl rfl)

/-- The result of the call. -/
abbrev value (x : S4096x1024.Idx → EReal) (w : S4096x1024.Idx → EReal) (e : S4096x4096.Idx → EReal) : S4096x4096.Idx → EReal := fun i => timesT x w i * (Ideal.ofBits .f32 0x40000000#32 * max (e i) 0)

/-- What the kernel leaves in its block. -/
theorem left (x : Vec Ideal S512x1024 .f32) (w : Vec Ideal S1024x1024 .bf16) (e : Vec Ideal S512x1024 .f32) (r : Fin 512) (l : Fin 1024) :
    out0_3 x w e (ix2 r l) = (∑ k : Fin 1024, x (ix2 r k) * w (ix2 l k)) * (Ideal.ofBits .f32 0x40000000#32 * max (e (ix2 r l)) 0) := by
  refine (congrFun (View.canon_unit_zero (S := S512x1024) origin _ _) _).trans ?_
  refine (congrFun (show k0_pay1 _ _ _ = k0_pay1 x w e by rw [View.ld_unit_zero (S := S512x1024) origin _ x, View.ld_unit_zero (S := S1024x1024) origin _ w, View.ld_unit_zero (S := S512x1024) origin _ e]) _).trans ?_
  pointwise [k0_pay1]

/-- What one point writes back is its block of the result. -/
theorem flushed (c : Dev nD) (t : Fin cfg0.N) : (dats m 0 c).flushed 3 t
    = ((cfg0.win 3).blk t).view.read (Elt Ideal) (value (m ((c : Thread nD τ).loc main_arg0)) (m ((c : Thread nD τ).loc main_arg1)) (m ((c : Thread nD τ).loc main_arg2))) := by
  rw [Cert.FfBackIdeal.Value.flushed3]
  refine funext fun (j : S512x1024.Idx) => ?_
  have h : (((cfg0.win 3).blk t).view.emb j : S4096x4096.Idx) = ix2 (row t (j 0)) (col t (j 1)) :=
    spot (tm := 512) (tn := 1024) (places t).2.2.2 rfl rfl rfl rfl
  refine Eq.trans ?_ (congrArg (value _ _ _) h).symm
  refine (congrArg (out0_3 (iblk m c 0 t) (iblk m c 1 t) (iblk m c 2 t)) (eq_ix2 (j : S512x1024.Idx))).trans ((left _ _ _ (j 0) (j 1)).trans ?_)
  have s := Finset.sum_congr rfl fun (k : Fin 1024) (_ : k ∈ Finset.univ) =>
    congrArg₂ (fun a b : EReal => a * b) (block0 m c t (j 0) k) (block1 m c t k (j 1))
  exact congrArg₂ (fun s e : EReal => s * (Ideal.ofBits .f32 0x40000000#32 * max (e) 0)) s (block2 m c t (j 0) (j 1))

/-- Every entry is in the block of some point. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  have hq : (i 0).val / 512 * 4 + (i 1).val / 1024 < grid0.N := by rw [N_0]; omega
  refine ⟨⟨_, hq⟩, flush0_3 _, ?_⟩
  have b := inside (tm := 512) (tn := 1024) (places ⟨_, hq⟩).2.2.2 (by decide) (by decide) rfl (by omega)
  refine (Finset.ext_iff.mp (View.set_slice_whole main_v0 _) i).mpr (Rect.mem_set_unit.mpr fun a => ?_)
  match a with
  | ⟨0, _⟩ => exact b.1
  | ⟨1, _⟩ => exact b.2

/-- After the run the array is the result. -/
theorem final (c : Dev nD) : (dats m 0 c).arrAt 3 cfg0.N = value (m ((c : Thread nD τ).loc main_arg0)) (m ((c : Thread nD τ).loc main_arg1)) (m ((c : Thread nD τ).loc main_arg2)) :=
  (dats m 0 c).arrAt_eq_of_cover 3 _ (fun t _ => flushed m c t) cover

end Cert.FfBackIdeal.Entry

namespace Cert.FfBack.Claims

theorem frame_kernel : Cert.quiescent_FfBack := fun m g _ => Cert.FfBack.Gen.frame (F := Bits) m g
theorem frame_ideal : Cert.quiescent_FfBackIdeal := fun m g _ => Cert.FfBackIdeal.Gen.frame (F := Ideal) m g
theorem frame_ref : Cert.quiescent_FfBackRefIdeal := fun m g _ =>
  (θ_run Cert.FfBackRefIdeal.defs _ _).mono (fun r h => ⟨fun c => (h c).2, sem_eq_zero_of_no_sems (by decide) r.2⟩)
    (Cert.FfBackRefIdeal.Value.run (F := Ideal) m g)

theorem algebraic : Cert.algebraic_FfBackIdeal_FfBackRefIdeal := fun m g m' g' _ h => by
  refine ⟨_, Cert.FfBackIdeal.Value.run_blocks (F := Ideal) m g,
    (θ_run Cert.FfBackRefIdeal.defs _ _).mono (fun _ r c => ?_)
      (Cert.FfBackRefIdeal.Value.run (F := Ideal) m' g')⟩
  obtain ⟨h0, h1, h2⟩ := h c
  obtain ⟨r0, r1⟩ := r c
  refine ⟨r0.trans ?_, r1⟩
  refine funext fun i => Eq.trans ?_ (congrFun (Cert.FfBackIdeal.Entry.final m c) i).symm
  rw [h0, h1, h2]
  pointwise

end Cert.FfBack.Claims

/-! ## Back through the output projection -/

namespace Cert.OutBackIdeal.Entry

open Cert.OutBackIdeal Cert.OutBackIdeal.Gen
open Cert.Products

variable (m : (ℓ : Loc nD τ sig) → Buf (Elt Ideal) ℓ)

/-- The block of each window at a point. -/
theorem places : ∀ t : Fin grid0.N, cc0_transform_0 (grid0.coords t) = ![t.val / 1, 0]
    ∧ cc0_transform_1 (grid0.coords t) = ![t.val % 1, 0]
    ∧ cc0_transform_2 (grid0.coords t) = ![t.val / 1, t.val % 1] := by decide +kernel

/-- The row and the column of the result that an entry of a block is. -/
abbrev row (t : Fin cfg0.N) (r : Fin 512) : Fin 4096 :=
  ⟨t.val / 1 * 512 + r.val, by have := lt_of_lt_of_eq t.isLt N_0; omega⟩
abbrev col (t : Fin cfg0.N) (l : Fin 1024) : Fin 1024 :=
  ⟨t.val % 1 * 1024 + l.val, by have := lt_of_lt_of_eq t.isLt N_0; omega⟩

theorem block0 (c : Dev nD) (t : Fin cfg0.N) (r : Fin 512) (k : Fin 1024) : (iblk m c 0 t : S512x1024.Idx → EReal) (ix2 r k)
    = (m ((c : Thread nD τ).loc main_arg0) : S4096x1024.Idx → EReal) (ix2 (row t r) k) :=
  congrArg (m ((c : Thread nD τ).loc main_arg0) : S4096x1024.Idx → EReal) (spot (tm := 512) (tn := 1024) (l := k.val) (places t).1 rfl rfl rfl (by omega))

theorem block1 (c : Dev nD) (t : Fin cfg0.N) (k : Fin 1024) (l : Fin 1024) : (iblk m c 1 t : S1024x1024.Idx → EReal) (ix2 l k)
    = (m ((c : Thread nD τ).loc main_arg1) : S1024x1024.Idx → EReal) (ix2 (col t l) k) :=
  congrArg (m ((c : Thread nD τ).loc main_arg1) : S1024x1024.Idx → EReal) (spot (tm := 1024) (tn := 1024) (l := k.val) (places t).2.1 rfl rfl rfl (by omega))

/-- The result of the call. -/
abbrev value (x : S4096x1024.Idx → EReal) (w : S1024x1024.Idx → EReal) : S4096x1024.Idx → EReal := fun i => timesT x w i

/-- What the kernel leaves in its block. -/
theorem left (x : Vec Ideal S512x1024 .f32) (w : Vec Ideal S1024x1024 .bf16) (r : Fin 512) (l : Fin 1024) :
    out0_2 x w (ix2 r l) = (∑ k : Fin 1024, x (ix2 r k) * w (ix2 l k)) := by
  refine (congrFun (View.canon_unit_zero (S := S512x1024) origin _ _) _).trans ?_
  refine (congrFun (congrArg₂ k0_pay1 (View.ld_unit_zero (S := S512x1024) origin _ x) (View.ld_unit_zero (S := S1024x1024) origin _ w)) _).trans ?_
  pointwise [k0_pay1]

/-- What one point writes back is its block of the result. -/
theorem flushed (c : Dev nD) (t : Fin cfg0.N) : (dats m 0 c).flushed 2 t
    = ((cfg0.win 2).blk t).view.read (Elt Ideal) (value (m ((c : Thread nD τ).loc main_arg0)) (m ((c : Thread nD τ).loc main_arg1))) := by
  rw [Cert.OutBackIdeal.Value.flushed2]
  refine funext fun (j : S512x1024.Idx) => ?_
  have h : (((cfg0.win 2).blk t).view.emb j : S4096x1024.Idx) = ix2 (row t (j 0)) (col t (j 1)) :=
    spot (tm := 512) (tn := 1024) (places t).2.2 rfl rfl rfl rfl
  refine Eq.trans ?_ (congrArg (value _ _) h).symm
  refine (congrArg (out0_2 (iblk m c 0 t) (iblk m c 1 t)) (eq_ix2 (j : S512x1024.Idx))).trans ((left _ _ (j 0) (j 1)).trans ?_)
  have s := Finset.sum_congr rfl fun (k : Fin 1024) (_ : k ∈ Finset.univ) =>
    congrArg₂ (fun a b : EReal => a * b) (block0 m c t (j 0) k) (block1 m c t k (j 1))
  exact congrArg (fun s : EReal => s) s

/-- Every entry is in the block of some point. -/
theorem cover (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  have hq : (i 0).val / 512 * 1 + (i 1).val / 1024 < grid0.N := by rw [N_0]; omega
  refine ⟨⟨_, hq⟩, flush0_2 _, ?_⟩
  have b := inside (tm := 512) (tn := 1024) (places ⟨_, hq⟩).2.2 (by decide) (by decide) rfl (by omega)
  refine (Finset.ext_iff.mp (View.set_slice_whole main_v0 _) i).mpr (Rect.mem_set_unit.mpr fun a => ?_)
  match a with
  | ⟨0, _⟩ => exact b.1
  | ⟨1, _⟩ => exact b.2

/-- After the run the array is the result. -/
theorem final (c : Dev nD) : (dats m 0 c).arrAt 2 cfg0.N = value (m ((c : Thread nD τ).loc main_arg0)) (m ((c : Thread nD τ).loc main_arg1)) :=
  (dats m 0 c).arrAt_eq_of_cover 2 _ (fun t _ => flushed m c t) cover

end Cert.OutBackIdeal.Entry

namespace Cert.OutBack.Claims

theorem frame_kernel : Cert.quiescent_OutBack := fun m g _ => Cert.OutBack.Gen.frame (F := Bits) m g
theorem frame_ideal : Cert.quiescent_OutBackIdeal := fun m g _ => Cert.OutBackIdeal.Gen.frame (F := Ideal) m g
theorem frame_ref : Cert.quiescent_OutBackRefIdeal := fun m g _ =>
  (θ_run Cert.OutBackRefIdeal.defs _ _).mono (fun r h => ⟨fun c => (h c).2, sem_eq_zero_of_no_sems (by decide) r.2⟩)
    (Cert.OutBackRefIdeal.Value.run (F := Ideal) m g)

theorem algebraic : Cert.algebraic_OutBackIdeal_OutBackRefIdeal := fun m g m' g' _ h => by
  refine ⟨_, Cert.OutBackIdeal.Value.run_blocks (F := Ideal) m g,
    (θ_run Cert.OutBackRefIdeal.defs _ _).mono (fun _ r c => ?_)
      (Cert.OutBackRefIdeal.Value.run (F := Ideal) m' g')⟩
  obtain ⟨h0, h1⟩ := h c
  obtain ⟨r0, r1⟩ := r c
  refine ⟨r0.trans ?_, r1⟩
  refine funext fun i => Eq.trans ?_ (congrFun (Cert.OutBackIdeal.Entry.final m c) i).symm
  rw [h0, h1]
  pointwise

end Cert.OutBack.Claims

/-! ## Back through a branch's product -/

namespace Cert.UpBackIdeal.Entry

open Cert.UpBackIdeal Cert.UpBackIdeal.Gen
open Cert.Products

variable (m : (ℓ : Loc nD τ sig) → Buf (Elt Ideal) ℓ)

/-- The block of each window at a point. -/
theorem places : ∀ t : Fin grid0.N, cc0_transform_0 (grid0.coords t) = ![t.val / 1, 0]
    ∧ cc0_transform_1 (grid0.coords t) = ![t.val % 1, 0]
    ∧ cc0_transform_2 (grid0.coords t) = ![t.val / 1, t.val % 1] := by decide +kernel

/-- The row and the column of the result that an entry of a block is. -/
abbrev row (t : Fin cfg0.N) (r : Fin 512) : Fin 4096 :=
  ⟨t.val / 1 * 512 + r.val, by have := lt_of_lt_of_eq t.isLt N_0; omega⟩
abbrev col (t : Fin cfg0.N) (l : Fin 512) : Fin 512 :=
  ⟨t.val % 1 * 512 + l.val, by have := lt_of_lt_of_eq t.isLt N_0; omega⟩

theorem block0 (c : Dev nD) (t : Fin cfg0.N) (r : Fin 512) (k : Fin 1024) : (iblk m c 0 t : S512x1024.Idx → EReal) (ix2 r k)
    = (m ((c : Thread nD τ).loc main_arg0) : S4096x1024.Idx → EReal) (ix2 (row t r) k) :=
  congrArg (m ((c : Thread nD τ).loc main_arg0) : S4096x1024.Idx → EReal) (spot (tm := 512) (tn := 1024) (l := k.val) (places t).1 rfl rfl rfl (by omega))

theorem block1 (c : Dev nD) (t : Fin cfg0.N) (k : Fin 1024) (l : Fin 512) : (iblk m c 1 t : S512x1024.Idx → EReal) (ix2 l k)
    = (m ((c : Thread nD τ).loc main_arg1) : S512x1024.Idx → EReal) (ix2 (col t l) k) :=
  congrArg (m ((c : Thread nD τ).loc main_arg1) : S512x1024.Idx → EReal) (spot (tm := 512) (tn := 1024) (l := k.val) (places t).2.1 rfl rfl rfl (by omega))

/-- The result of the call. -/
abbrev value (x : S4096x1024.Idx → EReal) (w : S512x1024.Idx → EReal) : S4096x512.Idx → EReal := fun i => timesT x w i

/-- What the kernel leaves in its block. -/
theorem left (x : Vec Ideal S512x1024 .bf16) (w : Vec Ideal S512x1024 .bf16) (r : Fin 512) (l : Fin 512) :
    out0_2 x w (ix2 r l) = (∑ k : Fin 1024, x (ix2 r k) * w (ix2 l k)) := by
  refine (congrFun (View.canon_unit_zero (S := S512x512) origin _ _) _).trans ?_
  refine (congrFun (congrArg₂ k0_pay1 (View.ld_unit_zero (S := S512x1024) origin _ x) (View.ld_unit_zero (S := S512x1024) origin _ w)) _).trans ?_
  pointwise [k0_pay1]

/-- What one point writes back is its block of the result. -/
theorem flushed (c : Dev nD) (t : Fin cfg0.N) : (dats m 0 c).flushed 2 t
    = ((cfg0.win 2).blk t).view.read (Elt Ideal) (value (m ((c : Thread nD τ).loc main_arg0)) (m ((c : Thread nD τ).loc main_arg1))) := by
  rw [Cert.UpBackIdeal.Value.flushed2]
  refine funext fun (j : S512x512.Idx) => ?_
  have h : (((cfg0.win 2).blk t).view.emb j : S4096x512.Idx) = ix2 (row t (j 0)) (col t (j 1)) :=
    spot (tm := 512) (tn := 512) (places t).2.2 rfl rfl rfl rfl
  refine Eq.trans ?_ (congrArg (value _ _) h).symm
  refine (congrArg (out0_2 (iblk m c 0 t) (iblk m c 1 t)) (eq_ix2 (j : S512x512.Idx))).trans ((left _ _ (j 0) (j 1)).trans ?_)
  have s := Finset.sum_congr rfl fun (k : Fin 1024) (_ : k ∈ Finset.univ) =>
    congrArg₂ (fun a b : EReal => a * b) (block0 m c t (j 0) k) (block1 m c t k (j 1))
  exact congrArg (fun s : EReal => s) s

/-- Every entry is in the block of some point. -/
theorem cover (i : S4096x512.Idx) : ∃ t : Fin cfg0.N, (cfg0.win 2).flush t = true ∧ i ∈ ((cfg0.win 2).blk t).view.set := by
  have hi0 : (i 0).val < 4096 := (i 0).isLt
  have hi1 : (i 1).val < 512 := (i 1).isLt
  have hq : (i 0).val / 512 * 1 + (i 1).val / 512 < grid0.N := by rw [N_0]; omega
  refine ⟨⟨_, hq⟩, flush0_2 _, ?_⟩
  have b := inside (tm := 512) (tn := 512) (places ⟨_, hq⟩).2.2 (by decide) (by decide) rfl (by omega)
  refine (Finset.ext_iff.mp (View.set_slice_whole main_v0 _) i).mpr (Rect.mem_set_unit.mpr fun a => ?_)
  match a with
  | ⟨0, _⟩ => exact b.1
  | ⟨1, _⟩ => exact b.2

/-- After the run the array is the result. -/
theorem final (c : Dev nD) : (dats m 0 c).arrAt 2 cfg0.N = value (m ((c : Thread nD τ).loc main_arg0)) (m ((c : Thread nD τ).loc main_arg1)) :=
  (dats m 0 c).arrAt_eq_of_cover 2 _ (fun t _ => flushed m c t) cover

end Cert.UpBackIdeal.Entry

namespace Cert.UpBack.Claims

theorem frame_kernel : Cert.quiescent_UpBack := fun m g _ => Cert.UpBack.Gen.frame (F := Bits) m g
theorem frame_ideal : Cert.quiescent_UpBackIdeal := fun m g _ => Cert.UpBackIdeal.Gen.frame (F := Ideal) m g
theorem frame_ref : Cert.quiescent_UpBackRefIdeal := fun m g _ =>
  (θ_run Cert.UpBackRefIdeal.defs _ _).mono (fun r h => ⟨fun c => (h c).2, sem_eq_zero_of_no_sems (by decide) r.2⟩)
    (Cert.UpBackRefIdeal.Value.run (F := Ideal) m g)

theorem algebraic : Cert.algebraic_UpBackIdeal_UpBackRefIdeal := fun m g m' g' _ h => by
  refine ⟨_, Cert.UpBackIdeal.Value.run_blocks (F := Ideal) m g,
    (θ_run Cert.UpBackRefIdeal.defs _ _).mono (fun _ r c => ?_)
      (Cert.UpBackRefIdeal.Value.run (F := Ideal) m' g')⟩
  obtain ⟨h0, h1⟩ := h c
  obtain ⟨r0, r1⟩ := r c
  refine ⟨r0.trans ?_, r1⟩
  refine funext fun i => Eq.trans ?_ (congrFun (Cert.UpBackIdeal.Entry.final m c) i).symm
  rw [h0, h1]
  pointwise

end Cert.UpBack.Claims

/-! ## Back through the third branch's product, which is narrower -/

namespace Cert.UpBackNarrowIdeal.Entry

open Cert.UpBackNarrowIdeal Cert.UpBackNarrowIdeal.Gen
open Cert.Products

variable (m : (ℓ : Loc nD τ sig) → Buf (Elt Ideal) ℓ)

/-- The block of each window at a point. -/
theorem places : ∀ t : Fin grid0.N, cc0_transform_0 (grid0.coords t) = ![t.val / 1, 0]
    ∧ cc0_transform_1 (grid0.coords t) = ![t.val % 1, 0]
    ∧ cc0_transform_2 (grid0.coords t) = ![t.val / 1, t.val % 1] := by decide +kernel

/-- The row and the column of the result that an entry of a block is. -/
abbrev row (t : Fin cfg0.N) (r : Fin 512) : Fin 4096 :=
  ⟨t.val / 1 * 512 + r.val, by have := lt_of_lt_of_eq t.isLt N_0; omega⟩
abbrev col (t : Fin cfg0.N) (l : Fin 256) : Fin 256 :=
  ⟨t.val % 1 * 256 + l.val, by have := lt_of_lt_of_eq t.isLt N_0; omega⟩

theorem block0 (c : Dev nD) (t : Fin cfg0.N) (r : Fin 512) (k : Fin 1024) : (iblk m c 0 t : S512x1024.Idx → EReal) (ix2 r k)
    = (m ((c : Thread nD τ).loc main_arg0) : S4096x1024.Idx → EReal) (ix2 (row t r) k) :=
  congrArg (m ((c : Thread nD τ).loc main_arg0) : S4096x1024.Idx → EReal) (spot (tm := 512) (tn := 1024) (l := k.val) (places t).1 rfl rfl rfl (by omega))

theorem block1 (c : Dev nD) (t : Fin cfg0.N) (k : Fin 1024) (l : Fin 256) : (iblk m c 1 t : S256x1024.Idx → EReal) (ix2 l k)
    = (m ((c : Thread nD τ).loc main_arg1) : S256x1024.Idx → EReal) (ix2 (col t l) k) :=
  congrArg (m ((c : Thread nD τ).loc main_arg1) : S256x1024.Idx → EReal) (spot (tm := 256) (tn := 1024) (l := k.val) (places t).2.1 rfl rfl rfl (by omega))

/-- The result of the call. -/
abbrev value (x : S4096x1024.Idx → EReal) (w : S256x1024.Idx → EReal) : S4096x256.Idx → EReal := fun i => timesT x w i

/-- What the kernel leaves in its block. -/
theorem left (x : Vec Ideal S512x1024 .bf16) (w : Vec Ideal S256x1024 .bf16) (r : Fin 512) (l : Fin 256) :
    out0_2 x w (ix2 r l) = (∑ k : Fin 1024, x (ix2 r k) * w (ix2 l k)) := by
  refine (congrFun (View.canon_unit_zero (S := S512x256) origin _ _) _).trans ?_
  refine (congrFun (congrArg₂ k0_pay1 (View.ld_unit_zero (S := S512x1024) origin _ x) (View.ld_unit_zero (S := S256x1024) origin _ w)) _).trans ?_
  pointwise [k0_pay1]

/-- What one point writes back is its block of the result. -/
theorem flushed (c : Dev nD) (t : Fin cfg0.N) : (dats m 0 c).flushed 2 t
    = ((cfg0.win 2).blk t).view.read (Elt Ideal) (value (m ((c : Thread nD τ).loc main_arg0)) (m ((c : Thread nD τ).loc main_arg1))) := by
  rw [Cert.UpBackNarrowIdeal.Value.flushed2]
  refine funext fun (j : S512x256.Idx) => ?_
  have h : (((cfg0.win 2).blk t).view.emb j : S4096x256.Idx) = ix2 (row t (j 0)) (col t (j 1)) :=
    spot (tm := 512) (tn := 256) (places t).2.2 rfl rfl rfl rfl
  refine Eq.trans ?_ (congrArg (value _ _) h).symm
  refine (congrArg (out0_2 (iblk m c 0 t) (iblk m c 1 t)) (eq_ix2 (j : S512x256.Idx))).trans ((left _ _ (j 0) (j 1)).trans ?_)
  have s := Finset.sum_congr rfl fun (k : Fin 1024) (_ : k ∈ Finset.univ) =>
    congrArg₂ (fun a b : EReal => a * b) (block0 m c t (j 0) k) (block1 m c t k (j 1))
  exact congrArg (fun s : EReal => s) s

/-- Every entry is in the block of some point. -/
theorem cover (i : S4096x256.Idx) : ∃ t : Fin cfg0.N, (cfg0.win 2).flush t = true ∧ i ∈ ((cfg0.win 2).blk t).view.set := by
  have hi0 : (i 0).val < 4096 := (i 0).isLt
  have hi1 : (i 1).val < 256 := (i 1).isLt
  have hq : (i 0).val / 512 * 1 + (i 1).val / 256 < grid0.N := by rw [N_0]; omega
  refine ⟨⟨_, hq⟩, flush0_2 _, ?_⟩
  have b := inside (tm := 512) (tn := 256) (places ⟨_, hq⟩).2.2 (by decide) (by decide) rfl (by omega)
  refine (Finset.ext_iff.mp (View.set_slice_whole main_v0 _) i).mpr (Rect.mem_set_unit.mpr fun a => ?_)
  match a with
  | ⟨0, _⟩ => exact b.1
  | ⟨1, _⟩ => exact b.2

/-- After the run the array is the result. -/
theorem final (c : Dev nD) : (dats m 0 c).arrAt 2 cfg0.N = value (m ((c : Thread nD τ).loc main_arg0)) (m ((c : Thread nD τ).loc main_arg1)) :=
  (dats m 0 c).arrAt_eq_of_cover 2 _ (fun t _ => flushed m c t) cover

end Cert.UpBackNarrowIdeal.Entry

namespace Cert.UpBackNarrow.Claims

theorem frame_kernel : Cert.quiescent_UpBackNarrow := fun m g _ => Cert.UpBackNarrow.Gen.frame (F := Bits) m g
theorem frame_ideal : Cert.quiescent_UpBackNarrowIdeal := fun m g _ => Cert.UpBackNarrowIdeal.Gen.frame (F := Ideal) m g
theorem frame_ref : Cert.quiescent_UpBackNarrowRefIdeal := fun m g _ =>
  (θ_run Cert.UpBackNarrowRefIdeal.defs _ _).mono (fun r h => ⟨fun c => (h c).2, sem_eq_zero_of_no_sems (by decide) r.2⟩)
    (Cert.UpBackNarrowRefIdeal.Value.run (F := Ideal) m g)

theorem algebraic : Cert.algebraic_UpBackNarrowIdeal_UpBackNarrowRefIdeal := fun m g m' g' _ h => by
  refine ⟨_, Cert.UpBackNarrowIdeal.Value.run_blocks (F := Ideal) m g,
    (θ_run Cert.UpBackNarrowRefIdeal.defs _ _).mono (fun _ r c => ?_)
      (Cert.UpBackNarrowRefIdeal.Value.run (F := Ideal) m' g')⟩
  obtain ⟨h0, h1⟩ := h c
  obtain ⟨r0, r1⟩ := r c
  refine ⟨r0.trans ?_, r1⟩
  refine funext fun i => Eq.trans ?_ (congrFun (Cert.UpBackNarrowIdeal.Entry.final m c) i).symm
  rw [h0, h1]
  pointwise

end Cert.UpBackNarrow.Claims
-- ==== Proof.PartClaims.lean ====
/-
# Products summed over several points

Three calls whose sums take several points: each point multiplies a part of the rows with a part of the columns, the first\nwrites the product to a scratch buffer, the others add theirs, and the last hands the sum on. The buffer ends with the whole\nsum; the reference names the same sums.
-/
module

public import proofs.«01_k».proof.Defs
public import proofs.«01_k».proof.Proof.Products
public import proofs.«01_k».proof.Proof.Gen.FfDown.Frame
public import proofs.«01_k».proof.Proof.Gen.FfDownIdeal.Value
public import proofs.«01_k».proof.Proof.Gen.FfDownRefIdeal.Run
public import proofs.«01_k».proof.Proof.Gen.FfIn.Frame
public import proofs.«01_k».proof.Proof.Gen.FfInIdeal.Value
public import proofs.«01_k».proof.Proof.Gen.FfInRefIdeal.Run
public import proofs.«01_k».proof.Proof.Gen.InBack.Frame
public import proofs.«01_k».proof.Proof.Gen.InBackIdeal.Value
public import proofs.«01_k».proof.Proof.Gen.InBackRefIdeal.Run
public import Idealize.ShloMosaic.Lib.Quiescent

@[expose] public section

set_option Elab.async false
set_option maxRecDepth 16384

noncomputable section

open Idealize.ShloMosaic Idealize.SL.Sem
open Idealize.ShloMosaic.TcCoe
open scoped BigOperators

/-! ## The second product of the channel mixer, added to the stream -/

namespace Cert.FfDownIdeal.Entry

open Cert.FfDownIdeal Cert.FfDownIdeal.Gen
open Cert.Products

section Points

variable {F : FTy → Type} [FloatOps F] {c : Dev nD} {i : grid0.Coords}
  {arg3 : Memref sig .tc .vmem S512x1024 .bf16} {harg3 : arg3.IsWhole}
  {arg4 : Memref sig .tc .vmem S1024x1024 .bf16} {harg4 : arg4.IsWhole}
  {arg5 : Memref sig .tc .vmem S512x1024 .f32} {harg5 : arg5.IsWhole}
  {arg6 : Memref sig .tc .vmem S512x1024 .f32} {harg6 : arg6.IsWhole}
  {arg7 : Memref sig .tc .vmem S512x1024 .f32} {harg7 : arg7.IsWhole}
  {x : Vec F S512x1024 .bf16} {w : Vec F S1024x1024 .bf16} {e : Vec F S512x1024 .f32} {s : Vec F S512x1024 .f32}

theorem held_first {hc0 : cond0_0 i} {hc1 : ¬cond0_1 i} {hc2 : ¬cond0_2 i} :
    sout0_A_0 c i arg3 harg3 arg4 harg4 arg5 harg5 arg6 harg6 arg7 harg7 hc0 hc1 hc2 x w e = k0_pay2 x w := by
  unfold sout0_A_0 kernelRun0_A
  refine (View.read_writes_full _ _ _ _ _).trans ?_
  simp only [View.readAt_eq_ld, harg3.read_unread, harg4.read_unread]
  exact congrArg₂ k0_pay2 (View.ld_unit_zero (S := S512x1024) origin _ x) (View.ld_unit_zero (S := S1024x1024) origin _ w)

theorem held_next {hc0 : ¬cond0_0 i} {hc1 : cond0_1 i} {hc2 : ¬cond0_2 i} :
    sout0_B_0 c i arg3 harg3 arg4 harg4 arg5 harg5 arg6 harg6 arg7 harg7 hc0 hc1 hc2 x w e s = k0_pay3 x w s := by
  unfold sout0_B_0 kernelRun0_B
  refine (View.read_writes_full _ _ _ _ _).trans ?_
  simp only [View.readAt_eq_ld, harg3.read_unread, harg4.read_unread, harg7.read_unread]
  exact congr (congrArg₂ k0_pay3 (View.ld_unit_zero (S := S512x1024) origin _ x) (View.ld_unit_zero (S := S1024x1024) origin _ w)) (View.ld_unit_zero (S := S512x1024) origin _ s)

theorem held_last {hc0 : ¬cond0_0 i} {hc1 : cond0_1 i} {hc2 : cond0_2 i} :
    sout0_C_0 c i arg3 harg3 arg4 harg4 arg5 harg5 arg6 harg6 arg7 harg7 hc0 hc1 hc2 x w e s = k0_pay3 x w s := by
  unfold sout0_C_0 kernelRun0_C
  refine (View.read_writes_full _ _ _ _ _).trans ?_
  simp only [View.readAt_eq_ld, harg3.read_unread, harg4.read_unread, harg7.read_unread]
  exact congr (congrArg₂ k0_pay3 (View.ld_unit_zero (S := S512x1024) origin _ x) (View.ld_unit_zero (S := S1024x1024) origin _ w)) (View.ld_unit_zero (S := S512x1024) origin _ s)

theorem result_last {hc0 : ¬cond0_0 i} {hc1 : cond0_1 i} {hc2 : cond0_2 i} :
    out0_C_3 c i arg3 harg3 arg4 harg4 arg5 harg5 arg6 harg6 arg7 harg7 hc0 hc1 hc2 x w e s = k0_pay4 (k0_pay3 x w s) e := by
  unfold out0_C_3 kernelRun0_C
  refine (View.read_writes_full _ _ _ _ _).trans ?_
  unfold kernelRun0_C.sl.v12
  refine congrArg₂ k0_pay4 ((View.readCov_full _ _ _ _ _).trans ?_) ?_
  · simp only [View.readAt_eq_ld, harg3.read_unread, harg4.read_unread, harg7.read_unread]
    exact congr (congrArg₂ k0_pay3 (View.ld_unit_zero (S := S512x1024) origin _ x) (View.ld_unit_zero (S := S1024x1024) origin _ w)) (View.ld_unit_zero (S := S512x1024) origin _ s)
  · simp only [View.readAt_eq_ld, harg5.read_unread]
    exact (View.ld_unit_zero (S := S512x1024) origin _ e)

variable (m : (ℓ : Loc nD τ sig) → Buf (Elt F) ℓ)

/-- A point that starts a sum leaves its product. -/
theorem start (c : Dev nD) (t : Fin cfg0.N) (ht : t.val % 4 = 0) :
    (outsAt0 m c t.val t.isLt).2 = k0_pay2 (F := F) (iblk m c 0 t) (iblk m c 1 t) := by
  have hN : t.val < 32 := lt_of_lt_of_eq t.isLt N_0
  rw [outsAt0_A m c t ht (by omega) (by omega)]; dsimp only; exact held_first (F := F)

/-- Any other point adds its product to what the point before left. -/
theorem step (c : Dev nD) (t : Fin cfg0.N) (ht : t.val % 4 ≠ 0) :
    (outsAt0 m c t.val t.isLt).2 = k0_pay3 (F := F) (iblk m c 0 t) (iblk m c 1 t) (outsAt0 m c (t.val - 1) (Nat.lt_of_le_of_lt (Nat.sub_le _ _) t.isLt)).2 := by
  have hN : t.val < 32 := lt_of_lt_of_eq t.isLt N_0
  by_cases h2 : t.val % 4 = 3
  · rw [outsAt0_C m c t ht (by omega) h2]; dsimp only; exact held_last (F := F)
  · rw [outsAt0_B m c t ht (by omega) h2]; dsimp only; exact held_next (F := F)

/-- The last point of a sum hands it on. -/
theorem finish (c : Dev nD) (t : Fin cfg0.N) (ht : t.val % 4 = 3) : (outsAt0 m c t.val t.isLt).1
    = k0_pay4 (F := F) (outsAt0 m c t.val t.isLt).2 (iblk m c 2 t) := by
  have hN : t.val < 32 := lt_of_lt_of_eq t.isLt N_0
  rw [step m c t (by omega), outsAt0_C m c t (by omega) (by omega) (by omega)]; dsimp only; exact result_last (F := F)

/-- The block of each input at a point. -/
theorem places : ∀ t : Fin grid0.N, cc0_transform_0 (grid0.coords t) = ![t.val / 4, t.val % 4]
    ∧ cc0_transform_1 (grid0.coords t) = ![t.val % 4, t.val / 4 % 1]
    ∧ cc0_transform_2 (grid0.coords t) = ![t.val / 4, t.val / 4 % 1] := by decide +kernel

end Points

section Values

variable (m : (ℓ : Loc nD τ sig) → Buf (Elt Ideal) ℓ)

theorem block0 (c : Dev nD) (t : Fin cfg0.N) {r : Fin 512} {s : Fin 1024} {R : Fin 4096} {S : Fin 4096}
    (hR : R.val = t.val / 4 * 512 + r.val) (hS : S.val = t.val % 4 * 1024 + s.val) :
    (iblk m c 0 t : S512x1024.Idx → EReal) (ix2 r s) = (m ((c : Thread nD τ).loc main_arg0) : S4096x4096.Idx → EReal) (ix2 R S) :=
  congrArg (m ((c : Thread nD τ).loc main_arg0) : S4096x4096.Idx → EReal) (spot (tm := 512) (tn := 1024) (places t).1 rfl rfl hR hS)

theorem block1 (c : Dev nD) (t : Fin cfg0.N) {s : Fin 1024} {l : Fin 1024} {S : Fin 4096} {C : Fin 1024}
    (hS : S.val = t.val % 4 * 1024 + s.val) (hC : C.val = t.val / 4 % 1 * 1024 + l.val) :
    (iblk m c 1 t : S1024x1024.Idx → EReal) (ix2 s l) = (m ((c : Thread nD τ).loc main_arg1) : S4096x1024.Idx → EReal) (ix2 S C) :=
  congrArg (m ((c : Thread nD τ).loc main_arg1) : S4096x1024.Idx → EReal) (spot (tm := 1024) (tn := 1024) (places t).2.1 rfl rfl hS hC)

theorem block2 (c : Dev nD) (t : Fin cfg0.N) {r : Fin 512} {l : Fin 1024} {R : Fin 4096} {C : Fin 1024}
    (hR : R.val = t.val / 4 * 512 + r.val) (hC : C.val = t.val / 4 % 1 * 1024 + l.val) :
    (iblk m c 2 t : S512x1024.Idx → EReal) (ix2 r l) = (m ((c : Thread nD τ).loc main_arg2) : S4096x1024.Idx → EReal) (ix2 R C) :=
  congrArg (m ((c : Thread nD τ).loc main_arg2) : S4096x1024.Idx → EReal) (spot (tm := 512) (tn := 1024) (places t).2.2 rfl rfl hR hC)

theorem part (x : Vec Ideal S512x1024 .bf16) (w : Vec Ideal S1024x1024 .bf16) (r : Fin 512) (l : Fin 1024) :
    k0_pay2 (F := Ideal) x w (ix2 r l) = ∑ s : Fin 1024, x (ix2 r s) * w (ix2 s l) := by
  unfold k0_pay2
  rw [shapeCast_self]
  pointwise [k0_pay1]

theorem more (x : Vec Ideal S512x1024 .bf16) (w : Vec Ideal S1024x1024 .bf16) (a : Vec Ideal S512x1024 .f32) (r : Fin 512) (l : Fin 1024) :
    k0_pay3 (F := Ideal) x w a (ix2 r l) = a (ix2 r l) + ∑ s : Fin 1024, x (ix2 r s) * w (ix2 s l) := by
  unfold k0_pay3
  rw [shapeCast_self]
  pointwise [k0_pay1]

/-- The result of the call. -/
abbrev value (x : S4096x4096.Idx → EReal) (w : S4096x1024.Idx → EReal) (e : S4096x1024.Idx → EReal) : S4096x1024.Idx → EReal := fun i => e i + times x w i

/-- After the run the array is the result. -/
theorem whole (c : Dev nD) : (Cert.FfDownIdeal.Value.G3 m c : S4096x1024.Idx → EReal) = value (m ((c : Thread nD τ).loc main_arg0)) (m ((c : Thread nD τ).loc main_arg1)) (m ((c : Thread nD τ).loc main_arg2)) := by
  funext i
  have hi0 : (i 0).val < 4096 := (i 0).isLt
  have hi1 : (i 1).val < 1024 := (i 1).isLt
  obtain ⟨q, hq⟩ : ∃ q, q = Cert.FfDownIdeal.Value.run3Of i := ⟨_, rfl⟩
  have hq' : q = 1 * ((i 0).val / 512 - 0) + 1 * ((i 1).val / 1024 - 0) := hq
  have ht : Cert.FfDownIdeal.Value.pt3Of i = 4 * q + (4 - 1) := by rw [hq]
  have hp : Cert.FfDownIdeal.Value.pt3Of i < cfg0.N := by rw [show cfg0.N = 32 from N_0, ht]; omega
  have e : Cert.FfDownIdeal.Value.loc3Of i = ix2 (⟨(i 0).val % 512, Nat.mod_lt _ (by decide)⟩ : Fin 512) (⟨(i 1).val % 1024, Nat.mod_lt _ (by decide)⟩ : Fin 1024) :=
    funext fun a => by match a with | ⟨0, _⟩ => rfl | ⟨1, _⟩ => rfl
  unfold Cert.FfDownIdeal.Value.G3
  rw [dif_pos hp, ← Cert.FfDownIdeal.Value.outsAt0_sweep m c _ hp, finish m c ⟨_, hp⟩ (by show Cert.FfDownIdeal.Value.pt3Of i % 4 = 3; rw [ht]; omega), e]
  have s := gathered (J := 4) (T := 1024)
    (A := fun n h => (outsAt0 m c n h).2 (ix2 (⟨(i 0).val % 512, Nat.mod_lt _ (by decide)⟩ : Fin 512) (⟨(i 1).val % 1024, Nat.mod_lt _ (by decide)⟩ : Fin 1024)))
    (fun n h hn => (congrFun (start m c ⟨n, h⟩ hn) _).trans (part _ _ _ _))
    (fun n h hn => (congrFun (step m c ⟨n, h⟩ hn) _).trans (more _ _ _ _ _)) rfl
    ((fun (a : S4096x4096.Idx → EReal) (b : S4096x1024.Idx → EReal) (k : Fin 4096) => a (ix2 (i 0) k) * b (ix2 k (i 1))) (m ((c : Thread nD τ).loc main_arg0)) (m ((c : Thread nD τ).loc main_arg1))) hp ht (by decide)
    (fun j hj h => Finset.sum_congr rfl fun s _ => congrArg₂ (fun a b : EReal => a * b)
      (block0 m c ⟨4 * q + j, h⟩ (by show (i 0).val = (4 * q + j) / 4 * 512 + (i 0).val % 512; omega) (by show j * 1024 + s.val = (4 * q + j) % 4 * 1024 + s.val; omega))
      (block1 m c ⟨4 * q + j, h⟩ (by show j * 1024 + s.val = (4 * q + j) % 4 * 1024 + s.val; omega) (by show (i 1).val = (4 * q + j) / 4 % 1 * 1024 + (i 1).val % 1024; omega)))
  have b := block2 m c ⟨_, hp⟩ (r := ⟨(i 0).val % 512, Nat.mod_lt _ (by decide)⟩) (l := ⟨(i 1).val % 1024, Nat.mod_lt _ (by decide)⟩) (R := i 0) (C := i 1)
    (by show (i 0).val = Cert.FfDownIdeal.Value.pt3Of i / 4 * 512 + (i 0).val % 512; rw [ht]; omega)
    (by show (i 1).val = Cert.FfDownIdeal.Value.pt3Of i / 4 % 1 * 1024 + (i 1).val % 1024; rw [ht]; omega)
  refine (congrArg₂ (fun a b : EReal => a + b) b s).trans ?_
  exact congrArg (fun v : EReal => v + _) (congrArg (m ((c : Thread nD τ).loc main_arg2) : S4096x1024.Idx → EReal) (eq_ix2 (i : S4096x1024.Idx)).symm)

end Values

end Cert.FfDownIdeal.Entry

namespace Cert.FfDown.Claims

open Cert.FfDownIdeal.Entry (value)

theorem frame_kernel : Cert.quiescent_FfDown := fun m g _ => Cert.FfDown.Gen.frame (F := Bits) m g
theorem frame_ideal : Cert.quiescent_FfDownIdeal := fun m g _ => Cert.FfDownIdeal.Gen.frame (F := Ideal) m g
theorem frame_ref : Cert.quiescent_FfDownRefIdeal := fun m g _ =>
  (θ_run Cert.FfDownRefIdeal.defs _ _).mono (fun r h => ⟨fun c => (h c).2, sem_eq_zero_of_no_sems (by decide) r.2⟩)
    (Cert.FfDownRefIdeal.Value.run (F := Ideal) m g)

theorem algebraic : Cert.algebraic_FfDownIdeal_FfDownRefIdeal := fun m g m' g' _ h => by
  refine ⟨_, (θ_run Cert.FfDownIdeal.defs _ _).mono (fun _ r c => ⟨(r c).1.trans (Cert.FfDownIdeal.Entry.whole m c), (r c).2⟩)
      (Cert.FfDownIdeal.Value.run (F := Ideal) m g),
    (θ_run Cert.FfDownRefIdeal.defs _ _).mono (fun _ r c => ?_)
      (Cert.FfDownRefIdeal.Value.run (F := Ideal) m' g')⟩
  obtain ⟨h0, h1, h2⟩ := h c
  obtain ⟨r0, r1⟩ := r c
  refine ⟨r0.trans (funext fun i => ?_), r1⟩
  rw [h0, h1, h2]
  pointwise

end Cert.FfDown.Claims

/-! ## Back through the first product of the channel mixer -/

namespace Cert.FfInIdeal.Entry

open Cert.FfInIdeal Cert.FfInIdeal.Gen
open Cert.Products

section Points

variable {F : FTy → Type} [FloatOps F] {c : Dev nD} {i : grid0.Coords}
  {arg3 : Memref sig .tc .vmem S512x1024 .bf16} {harg3 : arg3.IsWhole}
  {arg4 : Memref sig .tc .vmem S1024x1024 .bf16} {harg4 : arg4.IsWhole}
  {arg5 : Memref sig .tc .vmem S512x1024 .f32} {harg5 : arg5.IsWhole}
  {arg6 : Memref sig .tc .vmem S512x1024 .f32} {harg6 : arg6.IsWhole}
  {x : Vec F S512x1024 .bf16} {w : Vec F S1024x1024 .bf16} {s : Vec F S512x1024 .f32}

theorem held_first {hc0 : cond0_0 i} {hc1 : ¬cond0_1 i} {hc2 : ¬cond0_2 i} :
    sout0_A_0 c i arg3 harg3 arg4 harg4 arg5 harg5 arg6 harg6 hc0 hc1 hc2 x w = k0_pay2 x w := by
  unfold sout0_A_0 kernelRun0_A
  refine (View.read_writes_full _ _ _ _ _).trans ?_
  simp only [View.readAt_eq_ld, harg3.read_unread, harg4.read_unread]
  exact congrArg₂ k0_pay2 (View.ld_unit_zero (S := S512x1024) origin _ x) (View.ld_unit_zero (S := S1024x1024) origin _ w)

theorem held_next {hc0 : ¬cond0_0 i} {hc1 : cond0_1 i} {hc2 : ¬cond0_2 i} :
    sout0_B_0 c i arg3 harg3 arg4 harg4 arg5 harg5 arg6 harg6 hc0 hc1 hc2 x w s = k0_pay3 x w s := by
  unfold sout0_B_0 kernelRun0_B
  refine (View.read_writes_full _ _ _ _ _).trans ?_
  simp only [View.readAt_eq_ld, harg3.read_unread, harg4.read_unread, harg6.read_unread]
  exact congr (congrArg₂ k0_pay3 (View.ld_unit_zero (S := S512x1024) origin _ x) (View.ld_unit_zero (S := S1024x1024) origin _ w)) (View.ld_unit_zero (S := S512x1024) origin _ s)

theorem held_last {hc0 : ¬cond0_0 i} {hc1 : cond0_1 i} {hc2 : cond0_2 i} :
    sout0_C_0 c i arg3 harg3 arg4 harg4 arg5 harg5 arg6 harg6 hc0 hc1 hc2 x w s = k0_pay3 x w s := by
  unfold sout0_C_0 kernelRun0_C
  refine (View.read_writes_full _ _ _ _ _).trans ?_
  simp only [View.readAt_eq_ld, harg3.read_unread, harg4.read_unread, harg6.read_unread]
  exact congr (congrArg₂ k0_pay3 (View.ld_unit_zero (S := S512x1024) origin _ x) (View.ld_unit_zero (S := S1024x1024) origin _ w)) (View.ld_unit_zero (S := S512x1024) origin _ s)

theorem result_last {hc0 : ¬cond0_0 i} {hc1 : cond0_1 i} {hc2 : cond0_2 i} :
    out0_C_2 c i arg3 harg3 arg4 harg4 arg5 harg5 arg6 harg6 hc0 hc1 hc2 x w s = k0_pay3 x w s := by
  unfold out0_C_2 kernelRun0_C
  refine (View.read_writes_full _ _ _ _ _).trans ?_
  unfold kernelRun0_C.sl.v12
  refine (View.readCov_full _ _ _ _ _).trans ?_
  simp only [View.readAt_eq_ld, harg3.read_unread, harg4.read_unread, harg6.read_unread]
  exact congr (congrArg₂ k0_pay3 (View.ld_unit_zero (S := S512x1024) origin _ x) (View.ld_unit_zero (S := S1024x1024) origin _ w)) (View.ld_unit_zero (S := S512x1024) origin _ s)

variable (m : (ℓ : Loc nD τ sig) → Buf (Elt F) ℓ)

/-- A point that starts a sum leaves its product. -/
theorem start (c : Dev nD) (t : Fin cfg0.N) (ht : t.val % 4 = 0) :
    (outsAt0 m c t.val t.isLt).2 = k0_pay2 (F := F) (iblk m c 0 t) (iblk m c 1 t) := by
  have hN : t.val < 32 := lt_of_lt_of_eq t.isLt N_0
  rw [outsAt0_A m c t ht (by omega) (by omega)]; dsimp only; exact held_first (F := F)

/-- Any other point adds its product to what the point before left. -/
theorem step (c : Dev nD) (t : Fin cfg0.N) (ht : t.val % 4 ≠ 0) :
    (outsAt0 m c t.val t.isLt).2 = k0_pay3 (F := F) (iblk m c 0 t) (iblk m c 1 t) (outsAt0 m c (t.val - 1) (Nat.lt_of_le_of_lt (Nat.sub_le _ _) t.isLt)).2 := by
  have hN : t.val < 32 := lt_of_lt_of_eq t.isLt N_0
  by_cases h2 : t.val % 4 = 3
  · rw [outsAt0_C m c t ht (by omega) h2]; dsimp only; exact held_last (F := F)
  · rw [outsAt0_B m c t ht (by omega) h2]; dsimp only; exact held_next (F := F)

/-- The last point of a sum hands it on. -/
theorem finish (c : Dev nD) (t : Fin cfg0.N) (ht : t.val % 4 = 3) : (outsAt0 m c t.val t.isLt).1
    = (outsAt0 m c t.val t.isLt).2 := by
  have hN : t.val < 32 := lt_of_lt_of_eq t.isLt N_0
  rw [step m c t (by omega), outsAt0_C m c t (by omega) (by omega) (by omega)]; dsimp only; exact result_last (F := F)

/-- The block of each input at a point. -/
theorem places : ∀ t : Fin grid0.N, cc0_transform_0 (grid0.coords t) = ![t.val / 4, t.val % 4]
    ∧ cc0_transform_1 (grid0.coords t) = ![t.val / 4 % 1, t.val % 4] := by decide +kernel

end Points

section Values

variable (m : (ℓ : Loc nD τ sig) → Buf (Elt Ideal) ℓ)

theorem block0 (c : Dev nD) (t : Fin cfg0.N) {r : Fin 512} {s : Fin 1024} {R : Fin 4096} {S : Fin 4096}
    (hR : R.val = t.val / 4 * 512 + r.val) (hS : S.val = t.val % 4 * 1024 + s.val) :
    (iblk m c 0 t : S512x1024.Idx → EReal) (ix2 r s) = (m ((c : Thread nD τ).loc main_arg0) : S4096x4096.Idx → EReal) (ix2 R S) :=
  congrArg (m ((c : Thread nD τ).loc main_arg0) : S4096x4096.Idx → EReal) (spot (tm := 512) (tn := 1024) (places t).1 rfl rfl hR hS)

theorem block1 (c : Dev nD) (t : Fin cfg0.N) {s : Fin 1024} {l : Fin 1024} {S : Fin 4096} {C : Fin 1024}
    (hS : S.val = t.val % 4 * 1024 + s.val) (hC : C.val = t.val / 4 % 1 * 1024 + l.val) :
    (iblk m c 1 t : S1024x1024.Idx → EReal) (ix2 l s) = (m ((c : Thread nD τ).loc main_arg1) : S1024x4096.Idx → EReal) (ix2 C S) :=
  congrArg (m ((c : Thread nD τ).loc main_arg1) : S1024x4096.Idx → EReal) (spot (tm := 1024) (tn := 1024) (places t).2 rfl rfl hC hS)

theorem part (x : Vec Ideal S512x1024 .bf16) (w : Vec Ideal S1024x1024 .bf16) (r : Fin 512) (l : Fin 1024) :
    k0_pay2 (F := Ideal) x w (ix2 r l) = ∑ s : Fin 1024, x (ix2 r s) * w (ix2 l s) := by
  unfold k0_pay2
  rw [shapeCast_self]
  pointwise [k0_pay1]

theorem more (x : Vec Ideal S512x1024 .bf16) (w : Vec Ideal S1024x1024 .bf16) (a : Vec Ideal S512x1024 .f32) (r : Fin 512) (l : Fin 1024) :
    k0_pay3 (F := Ideal) x w a (ix2 r l) = a (ix2 r l) + ∑ s : Fin 1024, x (ix2 r s) * w (ix2 l s) := by
  unfold k0_pay3
  rw [shapeCast_self]
  pointwise [k0_pay1]

/-- The result of the call. -/
abbrev value (x : S4096x4096.Idx → EReal) (w : S1024x4096.Idx → EReal) : S4096x1024.Idx → EReal := fun i => timesT x w i

/-- After the run the array is the result. -/
theorem whole (c : Dev nD) : (Cert.FfInIdeal.Value.G2 m c : S4096x1024.Idx → EReal) = value (m ((c : Thread nD τ).loc main_arg0)) (m ((c : Thread nD τ).loc main_arg1)) := by
  funext i
  have hi0 : (i 0).val < 4096 := (i 0).isLt
  have hi1 : (i 1).val < 1024 := (i 1).isLt
  obtain ⟨q, hq⟩ : ∃ q, q = Cert.FfInIdeal.Value.run2Of i := ⟨_, rfl⟩
  have hq' : q = 1 * ((i 0).val / 512 - 0) + 1 * ((i 1).val / 1024 - 0) := hq
  have ht : Cert.FfInIdeal.Value.pt2Of i = 4 * q + (4 - 1) := by rw [hq]
  have hp : Cert.FfInIdeal.Value.pt2Of i < cfg0.N := by rw [show cfg0.N = 32 from N_0, ht]; omega
  have e : Cert.FfInIdeal.Value.loc2Of i = ix2 (⟨(i 0).val % 512, Nat.mod_lt _ (by decide)⟩ : Fin 512) (⟨(i 1).val % 1024, Nat.mod_lt _ (by decide)⟩ : Fin 1024) :=
    funext fun a => by match a with | ⟨0, _⟩ => rfl | ⟨1, _⟩ => rfl
  unfold Cert.FfInIdeal.Value.G2
  rw [dif_pos hp, ← Cert.FfInIdeal.Value.outsAt0_sweep m c _ hp, finish m c ⟨_, hp⟩ (by show Cert.FfInIdeal.Value.pt2Of i % 4 = 3; rw [ht]; omega), e]
  have s := gathered (J := 4) (T := 1024)
    (A := fun n h => (outsAt0 m c n h).2 (ix2 (⟨(i 0).val % 512, Nat.mod_lt _ (by decide)⟩ : Fin 512) (⟨(i 1).val % 1024, Nat.mod_lt _ (by decide)⟩ : Fin 1024)))
    (fun n h hn => (congrFun (start m c ⟨n, h⟩ hn) _).trans (part _ _ _ _))
    (fun n h hn => (congrFun (step m c ⟨n, h⟩ hn) _).trans (more _ _ _ _ _)) rfl
    ((fun (a : S4096x4096.Idx → EReal) (b : S1024x4096.Idx → EReal) (k : Fin 4096) => a (ix2 (i 0) k) * b (ix2 (i 1) k)) (m ((c : Thread nD τ).loc main_arg0)) (m ((c : Thread nD τ).loc main_arg1))) hp ht (by decide)
    (fun j hj h => Finset.sum_congr rfl fun s _ => congrArg₂ (fun a b : EReal => a * b)
      (block0 m c ⟨4 * q + j, h⟩ (by show (i 0).val = (4 * q + j) / 4 * 512 + (i 0).val % 512; omega) (by show j * 1024 + s.val = (4 * q + j) % 4 * 1024 + s.val; omega))
      (block1 m c ⟨4 * q + j, h⟩ (by show j * 1024 + s.val = (4 * q + j) % 4 * 1024 + s.val; omega) (by show (i 1).val = (4 * q + j) / 4 % 1 * 1024 + (i 1).val % 1024; omega)))
  exact s

end Values

end Cert.FfInIdeal.Entry

namespace Cert.FfIn.Claims

open Cert.FfInIdeal.Entry (value)

theorem frame_kernel : Cert.quiescent_FfIn := fun m g _ => Cert.FfIn.Gen.frame (F := Bits) m g
theorem frame_ideal : Cert.quiescent_FfInIdeal := fun m g _ => Cert.FfInIdeal.Gen.frame (F := Ideal) m g
theorem frame_ref : Cert.quiescent_FfInRefIdeal := fun m g _ =>
  (θ_run Cert.FfInRefIdeal.defs _ _).mono (fun r h => ⟨fun c => (h c).2, sem_eq_zero_of_no_sems (by decide) r.2⟩)
    (Cert.FfInRefIdeal.Value.run (F := Ideal) m g)

theorem algebraic : Cert.algebraic_FfInIdeal_FfInRefIdeal := fun m g m' g' _ h => by
  refine ⟨_, (θ_run Cert.FfInIdeal.defs _ _).mono (fun _ r c => ⟨(r c).1.trans (Cert.FfInIdeal.Entry.whole m c), (r c).2⟩)
      (Cert.FfInIdeal.Value.run (F := Ideal) m g),
    (θ_run Cert.FfInRefIdeal.defs _ _).mono (fun _ r c => ?_)
      (Cert.FfInRefIdeal.Value.run (F := Ideal) m' g')⟩
  obtain ⟨h0, h1⟩ := h c
  obtain ⟨r0, r1⟩ := r c
  refine ⟨r0.trans (funext fun i => ?_), r1⟩
  rw [h0, h1]
  pointwise

end Cert.FfIn.Claims

/-! ## Back through the input projection -/

namespace Cert.InBackIdeal.Entry

open Cert.InBackIdeal Cert.InBackIdeal.Gen
open Cert.Products

section Points

variable {F : FTy → Type} [FloatOps F] {c : Dev nD} {i : grid0.Coords}
  {arg3 : Memref sig .tc .vmem S512x3712 .bf16} {harg3 : arg3.IsWhole}
  {arg4 : Memref sig .tc .vmem S1024x3712 .bf16} {harg4 : arg4.IsWhole}
  {arg5 : Memref sig .tc .vmem S512x1024 .f32} {harg5 : arg5.IsWhole}
  {arg6 : Memref sig .tc .vmem S512x1024 .f32} {harg6 : arg6.IsWhole}
  {x : Vec F S512x3712 .bf16} {w : Vec F S1024x3712 .bf16} {s : Vec F S512x1024 .f32}

theorem held_first {hc0 : cond0_0 i} {hc1 : ¬cond0_1 i} {hc2 : ¬cond0_2 i} :
    sout0_A_0 c i arg3 harg3 arg4 harg4 arg5 harg5 arg6 harg6 hc0 hc1 hc2 x w = k0_pay2 x w := by
  unfold sout0_A_0 kernelRun0_A
  refine (View.read_writes_full _ _ _ _ _).trans ?_
  simp only [View.readAt_eq_ld, harg3.read_unread, harg4.read_unread]
  exact congrArg₂ k0_pay2 (View.ld_unit_zero (S := S512x3712) origin _ x) (View.ld_unit_zero (S := S1024x3712) origin _ w)

theorem held_last {hc0 : ¬cond0_0 i} {hc1 : cond0_1 i} {hc2 : cond0_2 i} :
    sout0_B_0 c i arg3 harg3 arg4 harg4 arg5 harg5 arg6 harg6 hc0 hc1 hc2 x w s = k0_pay3 x w s := by
  unfold sout0_B_0 kernelRun0_B
  refine (View.read_writes_full _ _ _ _ _).trans ?_
  simp only [View.readAt_eq_ld, harg3.read_unread, harg4.read_unread, harg6.read_unread]
  exact congr (congrArg₂ k0_pay3 (View.ld_unit_zero (S := S512x3712) origin _ x) (View.ld_unit_zero (S := S1024x3712) origin _ w)) (View.ld_unit_zero (S := S512x1024) origin _ s)

theorem result_last {hc0 : ¬cond0_0 i} {hc1 : cond0_1 i} {hc2 : cond0_2 i} :
    out0_B_2 c i arg3 harg3 arg4 harg4 arg5 harg5 arg6 harg6 hc0 hc1 hc2 x w s = k0_pay3 x w s := by
  unfold out0_B_2 kernelRun0_B
  refine (View.read_writes_full _ _ _ _ _).trans ?_
  unfold kernelRun0_B.sl.v12
  refine (View.readCov_full _ _ _ _ _).trans ?_
  simp only [View.readAt_eq_ld, harg3.read_unread, harg4.read_unread, harg6.read_unread]
  exact congr (congrArg₂ k0_pay3 (View.ld_unit_zero (S := S512x3712) origin _ x) (View.ld_unit_zero (S := S1024x3712) origin _ w)) (View.ld_unit_zero (S := S512x1024) origin _ s)

variable (m : (ℓ : Loc nD τ sig) → Buf (Elt F) ℓ)

/-- A point that starts a sum leaves its product. -/
theorem start (c : Dev nD) (t : Fin cfg0.N) (ht : t.val % 2 = 0) :
    (outsAt0 m c t.val t.isLt).2 = k0_pay2 (F := F) (iblk m c 0 t) (iblk m c 1 t) := by
  have hN : t.val < 16 := lt_of_lt_of_eq t.isLt N_0
  rw [outsAt0_A m c t ht (by omega) (by omega)]; dsimp only; exact held_first (F := F)

/-- Any other point adds its product to what the point before left. -/
theorem step (c : Dev nD) (t : Fin cfg0.N) (ht : t.val % 2 ≠ 0) :
    (outsAt0 m c t.val t.isLt).2 = k0_pay3 (F := F) (iblk m c 0 t) (iblk m c 1 t) (outsAt0 m c (t.val - 1) (Nat.lt_of_le_of_lt (Nat.sub_le _ _) t.isLt)).2 := by
  have hN : t.val < 16 := lt_of_lt_of_eq t.isLt N_0
  rw [outsAt0_B m c t ht (by omega) (by omega)]; dsimp only; exact held_last (F := F)

/-- The last point of a sum hands it on. -/
theorem finish (c : Dev nD) (t : Fin cfg0.N) (ht : t.val % 2 = 1) : (outsAt0 m c t.val t.isLt).1
    = (outsAt0 m c t.val t.isLt).2 := by
  have hN : t.val < 16 := lt_of_lt_of_eq t.isLt N_0
  rw [step m c t (by omega), outsAt0_B m c t (by omega) (by omega) (by omega)]; dsimp only; exact result_last (F := F)

/-- The block of each input at a point. -/
theorem places : ∀ t : Fin grid0.N, cc0_transform_0 (grid0.coords t) = ![t.val / 2, t.val % 2]
    ∧ cc0_transform_1 (grid0.coords t) = ![t.val / 2 % 1, t.val % 2] := by decide +kernel

end Points

section Values

variable (m : (ℓ : Loc nD τ sig) → Buf (Elt Ideal) ℓ)

theorem block0 (c : Dev nD) (t : Fin cfg0.N) {r : Fin 512} {s : Fin 3712} {R : Fin 4096} {S : Fin 7424}
    (hR : R.val = t.val / 2 * 512 + r.val) (hS : S.val = t.val % 2 * 3712 + s.val) :
    (iblk m c 0 t : S512x3712.Idx → EReal) (ix2 r s) = (m ((c : Thread nD τ).loc main_arg0) : S4096x7424.Idx → EReal) (ix2 R S) :=
  congrArg (m ((c : Thread nD τ).loc main_arg0) : S4096x7424.Idx → EReal) (spot (tm := 512) (tn := 3712) (places t).1 rfl rfl hR hS)

theorem block1 (c : Dev nD) (t : Fin cfg0.N) {s : Fin 3712} {l : Fin 1024} {S : Fin 7424} {C : Fin 1024}
    (hS : S.val = t.val % 2 * 3712 + s.val) (hC : C.val = t.val / 2 % 1 * 1024 + l.val) :
    (iblk m c 1 t : S1024x3712.Idx → EReal) (ix2 l s) = (m ((c : Thread nD τ).loc main_arg1) : S1024x7424.Idx → EReal) (ix2 C S) :=
  congrArg (m ((c : Thread nD τ).loc main_arg1) : S1024x7424.Idx → EReal) (spot (tm := 1024) (tn := 3712) (places t).2 rfl rfl hC hS)

theorem part (x : Vec Ideal S512x3712 .bf16) (w : Vec Ideal S1024x3712 .bf16) (r : Fin 512) (l : Fin 1024) :
    k0_pay2 (F := Ideal) x w (ix2 r l) = ∑ s : Fin 3712, x (ix2 r s) * w (ix2 l s) := by
  unfold k0_pay2
  rw [shapeCast_self]
  pointwise [k0_pay1]

theorem more (x : Vec Ideal S512x3712 .bf16) (w : Vec Ideal S1024x3712 .bf16) (a : Vec Ideal S512x1024 .f32) (r : Fin 512) (l : Fin 1024) :
    k0_pay3 (F := Ideal) x w a (ix2 r l) = a (ix2 r l) + ∑ s : Fin 3712, x (ix2 r s) * w (ix2 l s) := by
  unfold k0_pay3
  rw [shapeCast_self]
  pointwise [k0_pay1]

/-- The result of the call. -/
abbrev value (x : S4096x7424.Idx → EReal) (w : S1024x7424.Idx → EReal) : S4096x1024.Idx → EReal := fun i => timesT x w i

/-- After the run the array is the result. -/
theorem whole (c : Dev nD) : (Cert.InBackIdeal.Value.G2 m c : S4096x1024.Idx → EReal) = value (m ((c : Thread nD τ).loc main_arg0)) (m ((c : Thread nD τ).loc main_arg1)) := by
  funext i
  have hi0 : (i 0).val < 4096 := (i 0).isLt
  have hi1 : (i 1).val < 1024 := (i 1).isLt
  obtain ⟨q, hq⟩ : ∃ q, q = Cert.InBackIdeal.Value.run2Of i := ⟨_, rfl⟩
  have hq' : q = 1 * ((i 0).val / 512 - 0) + 1 * ((i 1).val / 1024 - 0) := hq
  have ht : Cert.InBackIdeal.Value.pt2Of i = 2 * q + (2 - 1) := by rw [hq]
  have hp : Cert.InBackIdeal.Value.pt2Of i < cfg0.N := by rw [show cfg0.N = 16 from N_0, ht]; omega
  have e : Cert.InBackIdeal.Value.loc2Of i = ix2 (⟨(i 0).val % 512, Nat.mod_lt _ (by decide)⟩ : Fin 512) (⟨(i 1).val % 1024, Nat.mod_lt _ (by decide)⟩ : Fin 1024) :=
    funext fun a => by match a with | ⟨0, _⟩ => rfl | ⟨1, _⟩ => rfl
  unfold Cert.InBackIdeal.Value.G2
  rw [dif_pos hp, ← Cert.InBackIdeal.Value.outsAt0_sweep m c _ hp, finish m c ⟨_, hp⟩ (by show Cert.InBackIdeal.Value.pt2Of i % 2 = 1; rw [ht]; omega), e]
  have s := gathered (J := 2) (T := 3712)
    (A := fun n h => (outsAt0 m c n h).2 (ix2 (⟨(i 0).val % 512, Nat.mod_lt _ (by decide)⟩ : Fin 512) (⟨(i 1).val % 1024, Nat.mod_lt _ (by decide)⟩ : Fin 1024)))
    (fun n h hn => (congrFun (start m c ⟨n, h⟩ hn) _).trans (part _ _ _ _))
    (fun n h hn => (congrFun (step m c ⟨n, h⟩ hn) _).trans (more _ _ _ _ _)) rfl
    ((fun (a : S4096x7424.Idx → EReal) (b : S1024x7424.Idx → EReal) (k : Fin 7424) => a (ix2 (i 0) k) * b (ix2 (i 1) k)) (m ((c : Thread nD τ).loc main_arg0)) (m ((c : Thread nD τ).loc main_arg1))) hp ht (by decide)
    (fun j hj h => Finset.sum_congr rfl fun s _ => congrArg₂ (fun a b : EReal => a * b)
      (block0 m c ⟨2 * q + j, h⟩ (by show (i 0).val = (2 * q + j) / 2 * 512 + (i 0).val % 512; omega) (by show j * 3712 + s.val = (2 * q + j) % 2 * 3712 + s.val; omega))
      (block1 m c ⟨2 * q + j, h⟩ (by show j * 3712 + s.val = (2 * q + j) % 2 * 3712 + s.val; omega) (by show (i 1).val = (2 * q + j) / 2 % 1 * 1024 + (i 1).val % 1024; omega)))
  exact s

end Values

end Cert.InBackIdeal.Entry

namespace Cert.InBack.Claims

open Cert.InBackIdeal.Entry (value)

theorem frame_kernel : Cert.quiescent_InBack := fun m g _ => Cert.InBack.Gen.frame (F := Bits) m g
theorem frame_ideal : Cert.quiescent_InBackIdeal := fun m g _ => Cert.InBackIdeal.Gen.frame (F := Ideal) m g
theorem frame_ref : Cert.quiescent_InBackRefIdeal := fun m g _ =>
  (θ_run Cert.InBackRefIdeal.defs _ _).mono (fun r h => ⟨fun c => (h c).2, sem_eq_zero_of_no_sems (by decide) r.2⟩)
    (Cert.InBackRefIdeal.Value.run (F := Ideal) m g)

theorem algebraic : Cert.algebraic_InBackIdeal_InBackRefIdeal := fun m g m' g' _ h => by
  refine ⟨_, (θ_run Cert.InBackIdeal.defs _ _).mono (fun _ r c => ⟨(r c).1.trans (Cert.InBackIdeal.Entry.whole m c), (r c).2⟩)
      (Cert.InBackIdeal.Value.run (F := Ideal) m g),
    (θ_run Cert.InBackRefIdeal.defs _ _).mono (fun _ r c => ?_)
      (Cert.InBackRefIdeal.Value.run (F := Ideal) m' g')⟩
  obtain ⟨h0, h1⟩ := h c
  obtain ⟨r0, r1⟩ := r c
  refine ⟨r0.trans (funext fun i => ?_), r1⟩
  rw [h0, h1]
  pointwise

end Cert.InBack.Claims

end
-- ==== Proof.GradClaims.lean ====
/-
# Gradients of the weights

Six calls that multiply a transposed matrix of tokens with another, eight blocks of tokens one after another, the sum held in a\nscratch buffer. The buffer ends with the sum over all the tokens; the reference names the same sum.
-/
module

public import proofs.«01_k».proof.Defs
public import proofs.«01_k».proof.Proof.Products
public import proofs.«01_k».proof.Proof.Gen.GradFf2.Frame
public import proofs.«01_k».proof.Proof.Gen.GradFf2Ideal.Value
public import proofs.«01_k».proof.Proof.Gen.GradFf2RefIdeal.Run
public import proofs.«01_k».proof.Proof.Gen.GradFf1.Frame
public import proofs.«01_k».proof.Proof.Gen.GradFf1Ideal.Value
public import proofs.«01_k».proof.Proof.Gen.GradFf1RefIdeal.Run
public import proofs.«01_k».proof.Proof.Gen.GradO.Frame
public import proofs.«01_k».proof.Proof.Gen.GradOIdeal.Value
public import proofs.«01_k».proof.Proof.Gen.GradORefIdeal.Run
public import proofs.«01_k».proof.Proof.Gen.GradUp.Frame
public import proofs.«01_k».proof.Proof.Gen.GradUpIdeal.Value
public import proofs.«01_k».proof.Proof.Gen.GradUpRefIdeal.Run
public import proofs.«01_k».proof.Proof.Gen.GradUpNarrow.Frame
public import proofs.«01_k».proof.Proof.Gen.GradUpNarrowIdeal.Value
public import proofs.«01_k».proof.Proof.Gen.GradUpNarrowRefIdeal.Run
public import proofs.«01_k».proof.Proof.Gen.GradIn.Frame
public import proofs.«01_k».proof.Proof.Gen.GradInIdeal.Value
public import proofs.«01_k».proof.Proof.Gen.GradInRefIdeal.Run
public import Idealize.ShloMosaic.Lib.Quiescent

@[expose] public section

set_option Elab.async false
set_option maxRecDepth 16384

noncomputable section

open Idealize.ShloMosaic Idealize.SL.Sem
open Idealize.ShloMosaic.TcCoe
open scoped BigOperators

/-! ## The second weights of the channel mixer -/

namespace Cert.GradFf2Ideal.Entry

open Cert.GradFf2Ideal Cert.GradFf2Ideal.Gen
open Cert.Products

section Points

variable {F : FTy → Type} [FloatOps F] {c : Dev nD} {i : grid0.Coords}
  {arg3 : Memref sig .tc .vmem S512x512 .bf16} {harg3 : arg3.IsWhole}
  {arg4 : Memref sig .tc .vmem S512x1024 .f32} {harg4 : arg4.IsWhole}
  {arg5 : Memref sig .tc .vmem S512x1024 .f32} {harg5 : arg5.IsWhole}
  {arg6 : Memref sig .tc .vmem S512x1024 .f32} {harg6 : arg6.IsWhole}
  {x : Vec F S512x512 .bf16} {w : Vec F S512x1024 .f32} {s : Vec F S512x1024 .f32}

theorem held_first {hc0 : cond0_0 i} {hc1 : ¬cond0_1 i} {hc2 : ¬cond0_2 i} :
    sout0_A_0 c i arg3 harg3 arg4 harg4 arg5 harg5 arg6 harg6 hc0 hc1 hc2 x w = k0_pay2 x w := by
  unfold sout0_A_0 kernelRun0_A
  refine (View.read_writes_full _ _ _ _ _).trans ?_
  simp only [View.readAt_eq_ld, harg3.read_unread, harg4.read_unread]
  exact congrArg₂ k0_pay2 (View.ld_unit_zero (S := S512x512) origin _ x) (View.ld_unit_zero (S := S512x1024) origin _ w)

theorem held_next {hc0 : ¬cond0_0 i} {hc1 : cond0_1 i} {hc2 : ¬cond0_2 i} :
    sout0_B_0 c i arg3 harg3 arg4 harg4 arg5 harg5 arg6 harg6 hc0 hc1 hc2 x w s = k0_pay3 x w s := by
  unfold sout0_B_0 kernelRun0_B
  refine (View.read_writes_full _ _ _ _ _).trans ?_
  simp only [View.readAt_eq_ld, harg3.read_unread, harg4.read_unread, harg6.read_unread]
  exact congr (congrArg₂ k0_pay3 (View.ld_unit_zero (S := S512x512) origin _ x) (View.ld_unit_zero (S := S512x1024) origin _ w)) (View.ld_unit_zero (S := S512x1024) origin _ s)

theorem held_last {hc0 : ¬cond0_0 i} {hc1 : cond0_1 i} {hc2 : cond0_2 i} :
    sout0_C_0 c i arg3 harg3 arg4 harg4 arg5 harg5 arg6 harg6 hc0 hc1 hc2 x w s = k0_pay3 x w s := by
  unfold sout0_C_0 kernelRun0_C
  refine (View.read_writes_full _ _ _ _ _).trans ?_
  simp only [View.readAt_eq_ld, harg3.read_unread, harg4.read_unread, harg6.read_unread]
  exact congr (congrArg₂ k0_pay3 (View.ld_unit_zero (S := S512x512) origin _ x) (View.ld_unit_zero (S := S512x1024) origin _ w)) (View.ld_unit_zero (S := S512x1024) origin _ s)

theorem result_last {hc0 : ¬cond0_0 i} {hc1 : cond0_1 i} {hc2 : cond0_2 i} :
    out0_C_2 c i arg3 harg3 arg4 harg4 arg5 harg5 arg6 harg6 hc0 hc1 hc2 x w s = k0_pay3 x w s := by
  unfold out0_C_2 kernelRun0_C
  refine (View.read_writes_full _ _ _ _ _).trans ?_
  unfold kernelRun0_C.sl.v13
  refine (View.readCov_full _ _ _ _ _).trans ?_
  simp only [View.readAt_eq_ld, harg3.read_unread, harg4.read_unread, harg6.read_unread]
  exact congr (congrArg₂ k0_pay3 (View.ld_unit_zero (S := S512x512) origin _ x) (View.ld_unit_zero (S := S512x1024) origin _ w)) (View.ld_unit_zero (S := S512x1024) origin _ s)

variable (m : (ℓ : Loc nD τ sig) → Buf (Elt F) ℓ)

/-- A point that starts a sum leaves its product. -/
theorem start (c : Dev nD) (t : Fin cfg0.N) (ht : t.val % 8 = 0) :
    (outsAt0 m c t.val t.isLt).2 = k0_pay2 (F := F) (iblk m c 0 t) (iblk m c 1 t) := by
  have hN : t.val < 64 := lt_of_lt_of_eq t.isLt N_0
  rw [outsAt0_A m c t ht (by omega) (by omega)]; dsimp only; exact held_first (F := F)

/-- Any other point adds its product to what the point before left. -/
theorem step (c : Dev nD) (t : Fin cfg0.N) (ht : t.val % 8 ≠ 0) :
    (outsAt0 m c t.val t.isLt).2 = k0_pay3 (F := F) (iblk m c 0 t) (iblk m c 1 t) (outsAt0 m c (t.val - 1) (Nat.lt_of_le_of_lt (Nat.sub_le _ _) t.isLt)).2 := by
  have hN : t.val < 64 := lt_of_lt_of_eq t.isLt N_0
  by_cases h2 : t.val % 8 = 7
  · rw [outsAt0_C m c t ht (by omega) h2]; dsimp only; exact held_last (F := F)
  · rw [outsAt0_B m c t ht (by omega) h2]; dsimp only; exact held_next (F := F)

/-- The last point of a sum hands it on. -/
theorem finish (c : Dev nD) (t : Fin cfg0.N) (ht : t.val % 8 = 7) : (outsAt0 m c t.val t.isLt).1
    = (outsAt0 m c t.val t.isLt).2 := by
  have hN : t.val < 64 := lt_of_lt_of_eq t.isLt N_0
  rw [step m c t (by omega), outsAt0_C m c t (by omega) (by omega) (by omega)]; dsimp only; exact result_last (F := F)

/-- The block of each input at a point. -/
theorem places : ∀ t : Fin grid0.N, cc0_transform_0 (grid0.coords t) = ![t.val % 8, t.val / 8]
    ∧ cc0_transform_1 (grid0.coords t) = ![t.val % 8, t.val / 8 % 1] := by decide +kernel

end Points

section Values

variable (m : (ℓ : Loc nD τ sig) → Buf (Elt Ideal) ℓ)

theorem block0 (c : Dev nD) (t : Fin cfg0.N) {r : Fin 512} {s : Fin 512} {R : Fin 4096} {S : Fin 4096}
    (hR : R.val = t.val / 8 * 512 + r.val) (hS : S.val = t.val % 8 * 512 + s.val) :
    (iblk m c 0 t : S512x512.Idx → EReal) (ix2 s r) = (m ((c : Thread nD τ).loc main_arg0) : S4096x4096.Idx → EReal) (ix2 S R) :=
  congrArg (m ((c : Thread nD τ).loc main_arg0) : S4096x4096.Idx → EReal) (spot (tm := 512) (tn := 512) (places t).1 rfl rfl hS hR)

theorem block1 (c : Dev nD) (t : Fin cfg0.N) {s : Fin 512} {l : Fin 1024} {S : Fin 4096} {C : Fin 1024}
    (hS : S.val = t.val % 8 * 512 + s.val) (hC : C.val = t.val / 8 % 1 * 1024 + l.val) :
    (iblk m c 1 t : S512x1024.Idx → EReal) (ix2 s l) = (m ((c : Thread nD τ).loc main_arg1) : S4096x1024.Idx → EReal) (ix2 S C) :=
  congrArg (m ((c : Thread nD τ).loc main_arg1) : S4096x1024.Idx → EReal) (spot (tm := 512) (tn := 1024) (places t).2 rfl rfl hS hC)

theorem part (x : Vec Ideal S512x512 .bf16) (w : Vec Ideal S512x1024 .f32) (r : Fin 512) (l : Fin 1024) :
    k0_pay2 (F := Ideal) x w (ix2 r l) = ∑ s : Fin 512, x (ix2 s r) * w (ix2 s l) := by
  unfold k0_pay2
  rw [shapeCast_self]
  pointwise [k0_pay1]

theorem more (x : Vec Ideal S512x512 .bf16) (w : Vec Ideal S512x1024 .f32) (a : Vec Ideal S512x1024 .f32) (r : Fin 512) (l : Fin 1024) :
    k0_pay3 (F := Ideal) x w a (ix2 r l) = a (ix2 r l) + ∑ s : Fin 512, x (ix2 s r) * w (ix2 s l) := by
  unfold k0_pay3
  rw [shapeCast_self]
  pointwise [k0_pay1]

/-- The result of the call. -/
abbrev value (x : S4096x4096.Idx → EReal) (w : S4096x1024.Idx → EReal) : S4096x1024.Idx → EReal := fun i => Ttimes x w i

/-- After the run the array is the result. -/
theorem whole (c : Dev nD) : (Cert.GradFf2Ideal.Value.G2 m c : S4096x1024.Idx → EReal) = value (m ((c : Thread nD τ).loc main_arg0)) (m ((c : Thread nD τ).loc main_arg1)) := by
  funext i
  have hi0 : (i 0).val < 4096 := (i 0).isLt
  have hi1 : (i 1).val < 1024 := (i 1).isLt
  obtain ⟨q, hq⟩ : ∃ q, q = Cert.GradFf2Ideal.Value.run2Of i := ⟨_, rfl⟩
  have hq' : q = 1 * ((i 0).val / 512 - 0) + 1 * ((i 1).val / 1024 - 0) := hq
  have ht : Cert.GradFf2Ideal.Value.pt2Of i = 8 * q + (8 - 1) := by rw [hq]
  have hp : Cert.GradFf2Ideal.Value.pt2Of i < cfg0.N := by rw [show cfg0.N = 64 from N_0, ht]; omega
  have e : Cert.GradFf2Ideal.Value.loc2Of i = ix2 (⟨(i 0).val % 512, Nat.mod_lt _ (by decide)⟩ : Fin 512) (⟨(i 1).val % 1024, Nat.mod_lt _ (by decide)⟩ : Fin 1024) :=
    funext fun a => by match a with | ⟨0, _⟩ => rfl | ⟨1, _⟩ => rfl
  unfold Cert.GradFf2Ideal.Value.G2
  rw [dif_pos hp, ← Cert.GradFf2Ideal.Value.outsAt0_sweep m c _ hp, finish m c ⟨_, hp⟩ (by show Cert.GradFf2Ideal.Value.pt2Of i % 8 = 7; rw [ht]; omega), e]
  have s := gathered (J := 8) (T := 512)
    (A := fun n h => (outsAt0 m c n h).2 (ix2 (⟨(i 0).val % 512, Nat.mod_lt _ (by decide)⟩ : Fin 512) (⟨(i 1).val % 1024, Nat.mod_lt _ (by decide)⟩ : Fin 1024)))
    (fun n h hn => (congrFun (start m c ⟨n, h⟩ hn) _).trans (part _ _ _ _))
    (fun n h hn => (congrFun (step m c ⟨n, h⟩ hn) _).trans (more _ _ _ _ _)) rfl
    ((fun (a : S4096x4096.Idx → EReal) (b : S4096x1024.Idx → EReal) (k : Fin 4096) => a (ix2 k (i 0)) * b (ix2 k (i 1))) (m ((c : Thread nD τ).loc main_arg0)) (m ((c : Thread nD τ).loc main_arg1))) hp ht (by decide)
    (fun j hj h => Finset.sum_congr rfl fun s _ => congrArg₂ (fun a b : EReal => a * b)
      (block0 m c ⟨8 * q + j, h⟩ (by show (i 0).val = (8 * q + j) / 8 * 512 + (i 0).val % 512; omega) (by show j * 512 + s.val = (8 * q + j) % 8 * 512 + s.val; omega))
      (block1 m c ⟨8 * q + j, h⟩ (by show j * 512 + s.val = (8 * q + j) % 8 * 512 + s.val; omega) (by show (i 1).val = (8 * q + j) / 8 % 1 * 1024 + (i 1).val % 1024; omega)))
  exact s

end Values

end Cert.GradFf2Ideal.Entry

namespace Cert.GradFf2.Claims

open Cert.GradFf2Ideal.Entry (value)

theorem frame_kernel : Cert.quiescent_GradFf2 := fun m g _ => Cert.GradFf2.Gen.frame (F := Bits) m g
theorem frame_ideal : Cert.quiescent_GradFf2Ideal := fun m g _ => Cert.GradFf2Ideal.Gen.frame (F := Ideal) m g
theorem frame_ref : Cert.quiescent_GradFf2RefIdeal := fun m g _ =>
  (θ_run Cert.GradFf2RefIdeal.defs _ _).mono (fun r h => ⟨fun c => (h c).2, sem_eq_zero_of_no_sems (by decide) r.2⟩)
    (Cert.GradFf2RefIdeal.Value.run (F := Ideal) m g)

theorem algebraic : Cert.algebraic_GradFf2Ideal_GradFf2RefIdeal := fun m g m' g' _ h => by
  refine ⟨_, (θ_run Cert.GradFf2Ideal.defs _ _).mono (fun _ r c => ⟨(r c).1.trans (Cert.GradFf2Ideal.Entry.whole m c), (r c).2⟩)
      (Cert.GradFf2Ideal.Value.run (F := Ideal) m g),
    (θ_run Cert.GradFf2RefIdeal.defs _ _).mono (fun _ r c => ?_)
      (Cert.GradFf2RefIdeal.Value.run (F := Ideal) m' g')⟩
  obtain ⟨h0, h1⟩ := h c
  obtain ⟨r0, r1⟩ := r c
  refine ⟨r0.trans (funext fun i => ?_), r1⟩
  rw [h0, h1]
  pointwise

end Cert.GradFf2.Claims

/-! ## The first weights of the channel mixer -/

namespace Cert.GradFf1Ideal.Entry

open Cert.GradFf1Ideal Cert.GradFf1Ideal.Gen
open Cert.Products

section Points

variable {F : FTy → Type} [FloatOps F] {c : Dev nD} {i : grid0.Coords}
  {arg3 : Memref sig .tc .vmem S512x512 .bf16} {harg3 : arg3.IsWhole}
  {arg4 : Memref sig .tc .vmem S512x1024 .bf16} {harg4 : arg4.IsWhole}
  {arg5 : Memref sig .tc .vmem S512x1024 .f32} {harg5 : arg5.IsWhole}
  {arg6 : Memref sig .tc .vmem S512x1024 .f32} {harg6 : arg6.IsWhole}
  {x : Vec F S512x512 .bf16} {w : Vec F S512x1024 .bf16} {s : Vec F S512x1024 .f32}

theorem held_first {hc0 : cond0_0 i} {hc1 : ¬cond0_1 i} {hc2 : ¬cond0_2 i} :
    sout0_A_0 c i arg3 harg3 arg4 harg4 arg5 harg5 arg6 harg6 hc0 hc1 hc2 x w = k0_pay2 x w := by
  unfold sout0_A_0 kernelRun0_A
  refine (View.read_writes_full _ _ _ _ _).trans ?_
  simp only [View.readAt_eq_ld, harg3.read_unread, harg4.read_unread]
  exact congrArg₂ k0_pay2 (View.ld_unit_zero (S := S512x512) origin _ x) (View.ld_unit_zero (S := S512x1024) origin _ w)

theorem held_next {hc0 : ¬cond0_0 i} {hc1 : cond0_1 i} {hc2 : ¬cond0_2 i} :
    sout0_B_0 c i arg3 harg3 arg4 harg4 arg5 harg5 arg6 harg6 hc0 hc1 hc2 x w s = k0_pay3 x w s := by
  unfold sout0_B_0 kernelRun0_B
  refine (View.read_writes_full _ _ _ _ _).trans ?_
  simp only [View.readAt_eq_ld, harg3.read_unread, harg4.read_unread, harg6.read_unread]
  exact congr (congrArg₂ k0_pay3 (View.ld_unit_zero (S := S512x512) origin _ x) (View.ld_unit_zero (S := S512x1024) origin _ w)) (View.ld_unit_zero (S := S512x1024) origin _ s)

theorem held_last {hc0 : ¬cond0_0 i} {hc1 : cond0_1 i} {hc2 : cond0_2 i} :
    sout0_C_0 c i arg3 harg3 arg4 harg4 arg5 harg5 arg6 harg6 hc0 hc1 hc2 x w s = k0_pay3 x w s := by
  unfold sout0_C_0 kernelRun0_C
  refine (View.read_writes_full _ _ _ _ _).trans ?_
  simp only [View.readAt_eq_ld, harg3.read_unread, harg4.read_unread, harg6.read_unread]
  exact congr (congrArg₂ k0_pay3 (View.ld_unit_zero (S := S512x512) origin _ x) (View.ld_unit_zero (S := S512x1024) origin _ w)) (View.ld_unit_zero (S := S512x1024) origin _ s)

theorem result_last {hc0 : ¬cond0_0 i} {hc1 : cond0_1 i} {hc2 : cond0_2 i} :
    out0_C_2 c i arg3 harg3 arg4 harg4 arg5 harg5 arg6 harg6 hc0 hc1 hc2 x w s = k0_pay3 x w s := by
  unfold out0_C_2 kernelRun0_C
  refine (View.read_writes_full _ _ _ _ _).trans ?_
  unfold kernelRun0_C.sl.v12
  refine (View.readCov_full _ _ _ _ _).trans ?_
  simp only [View.readAt_eq_ld, harg3.read_unread, harg4.read_unread, harg6.read_unread]
  exact congr (congrArg₂ k0_pay3 (View.ld_unit_zero (S := S512x512) origin _ x) (View.ld_unit_zero (S := S512x1024) origin _ w)) (View.ld_unit_zero (S := S512x1024) origin _ s)

variable (m : (ℓ : Loc nD τ sig) → Buf (Elt F) ℓ)

/-- A point that starts a sum leaves its product. -/
theorem start (c : Dev nD) (t : Fin cfg0.N) (ht : t.val % 8 = 0) :
    (outsAt0 m c t.val t.isLt).2 = k0_pay2 (F := F) (iblk m c 0 t) (iblk m c 1 t) := by
  have hN : t.val < 64 := lt_of_lt_of_eq t.isLt N_0
  rw [outsAt0_A m c t ht (by omega) (by omega)]; dsimp only; exact held_first (F := F)

/-- Any other point adds its product to what the point before left. -/
theorem step (c : Dev nD) (t : Fin cfg0.N) (ht : t.val % 8 ≠ 0) :
    (outsAt0 m c t.val t.isLt).2 = k0_pay3 (F := F) (iblk m c 0 t) (iblk m c 1 t) (outsAt0 m c (t.val - 1) (Nat.lt_of_le_of_lt (Nat.sub_le _ _) t.isLt)).2 := by
  have hN : t.val < 64 := lt_of_lt_of_eq t.isLt N_0
  by_cases h2 : t.val % 8 = 7
  · rw [outsAt0_C m c t ht (by omega) h2]; dsimp only; exact held_last (F := F)
  · rw [outsAt0_B m c t ht (by omega) h2]; dsimp only; exact held_next (F := F)

/-- The last point of a sum hands it on. -/
theorem finish (c : Dev nD) (t : Fin cfg0.N) (ht : t.val % 8 = 7) : (outsAt0 m c t.val t.isLt).1
    = (outsAt0 m c t.val t.isLt).2 := by
  have hN : t.val < 64 := lt_of_lt_of_eq t.isLt N_0
  rw [step m c t (by omega), outsAt0_C m c t (by omega) (by omega) (by omega)]; dsimp only; exact result_last (F := F)

/-- The block of each input at a point. -/
theorem places : ∀ t : Fin grid0.N, cc0_transform_0 (grid0.coords t) = ![t.val % 8, t.val / 32]
    ∧ cc0_transform_1 (grid0.coords t) = ![t.val % 8, t.val / 8 % 4] := by decide +kernel

end Points

section Values

variable (m : (ℓ : Loc nD τ sig) → Buf (Elt Ideal) ℓ)

theorem block0 (c : Dev nD) (t : Fin cfg0.N) {r : Fin 512} {s : Fin 512} {R : Fin 1024} {S : Fin 4096}
    (hR : R.val = t.val / 32 * 512 + r.val) (hS : S.val = t.val % 8 * 512 + s.val) :
    (iblk m c 0 t : S512x512.Idx → EReal) (ix2 s r) = (m ((c : Thread nD τ).loc main_arg0) : S4096x1024.Idx → EReal) (ix2 S R) :=
  congrArg (m ((c : Thread nD τ).loc main_arg0) : S4096x1024.Idx → EReal) (spot (tm := 512) (tn := 512) (places t).1 rfl rfl hS hR)

theorem block1 (c : Dev nD) (t : Fin cfg0.N) {s : Fin 512} {l : Fin 1024} {S : Fin 4096} {C : Fin 4096}
    (hS : S.val = t.val % 8 * 512 + s.val) (hC : C.val = t.val / 8 % 4 * 1024 + l.val) :
    (iblk m c 1 t : S512x1024.Idx → EReal) (ix2 s l) = (m ((c : Thread nD τ).loc main_arg1) : S4096x4096.Idx → EReal) (ix2 S C) :=
  congrArg (m ((c : Thread nD τ).loc main_arg1) : S4096x4096.Idx → EReal) (spot (tm := 512) (tn := 1024) (places t).2 rfl rfl hS hC)

theorem part (x : Vec Ideal S512x512 .bf16) (w : Vec Ideal S512x1024 .bf16) (r : Fin 512) (l : Fin 1024) :
    k0_pay2 (F := Ideal) x w (ix2 r l) = ∑ s : Fin 512, x (ix2 s r) * w (ix2 s l) := by
  unfold k0_pay2
  rw [shapeCast_self]
  pointwise [k0_pay1]

theorem more (x : Vec Ideal S512x512 .bf16) (w : Vec Ideal S512x1024 .bf16) (a : Vec Ideal S512x1024 .f32) (r : Fin 512) (l : Fin 1024) :
    k0_pay3 (F := Ideal) x w a (ix2 r l) = a (ix2 r l) + ∑ s : Fin 512, x (ix2 s r) * w (ix2 s l) := by
  unfold k0_pay3
  rw [shapeCast_self]
  pointwise [k0_pay1]

/-- The result of the call. -/
abbrev value (x : S4096x1024.Idx → EReal) (w : S4096x4096.Idx → EReal) : S1024x4096.Idx → EReal := fun i => Ttimes x w i

/-- After the run the array is the result. -/
theorem whole (c : Dev nD) : (Cert.GradFf1Ideal.Value.G2 m c : S1024x4096.Idx → EReal) = value (m ((c : Thread nD τ).loc main_arg0)) (m ((c : Thread nD τ).loc main_arg1)) := by
  funext i
  have hi0 : (i 0).val < 1024 := (i 0).isLt
  have hi1 : (i 1).val < 4096 := (i 1).isLt
  obtain ⟨q, hq⟩ : ∃ q, q = Cert.GradFf1Ideal.Value.run2Of i := ⟨_, rfl⟩
  have hq' : q = 4 * ((i 0).val / 512 - 0) + 1 * ((i 1).val / 1024 - 0) := hq
  have ht : Cert.GradFf1Ideal.Value.pt2Of i = 8 * q + (8 - 1) := by rw [hq]
  have hp : Cert.GradFf1Ideal.Value.pt2Of i < cfg0.N := by rw [show cfg0.N = 64 from N_0, ht]; omega
  have e : Cert.GradFf1Ideal.Value.loc2Of i = ix2 (⟨(i 0).val % 512, Nat.mod_lt _ (by decide)⟩ : Fin 512) (⟨(i 1).val % 1024, Nat.mod_lt _ (by decide)⟩ : Fin 1024) :=
    funext fun a => by match a with | ⟨0, _⟩ => rfl | ⟨1, _⟩ => rfl
  unfold Cert.GradFf1Ideal.Value.G2
  rw [dif_pos hp, ← Cert.GradFf1Ideal.Value.outsAt0_sweep m c _ hp, finish m c ⟨_, hp⟩ (by show Cert.GradFf1Ideal.Value.pt2Of i % 8 = 7; rw [ht]; omega), e]
  have s := gathered (J := 8) (T := 512)
    (A := fun n h => (outsAt0 m c n h).2 (ix2 (⟨(i 0).val % 512, Nat.mod_lt _ (by decide)⟩ : Fin 512) (⟨(i 1).val % 1024, Nat.mod_lt _ (by decide)⟩ : Fin 1024)))
    (fun n h hn => (congrFun (start m c ⟨n, h⟩ hn) _).trans (part _ _ _ _))
    (fun n h hn => (congrFun (step m c ⟨n, h⟩ hn) _).trans (more _ _ _ _ _)) rfl
    ((fun (a : S4096x1024.Idx → EReal) (b : S4096x4096.Idx → EReal) (k : Fin 4096) => a (ix2 k (i 0)) * b (ix2 k (i 1))) (m ((c : Thread nD τ).loc main_arg0)) (m ((c : Thread nD τ).loc main_arg1))) hp ht (by decide)
    (fun j hj h => Finset.sum_congr rfl fun s _ => congrArg₂ (fun a b : EReal => a * b)
      (block0 m c ⟨8 * q + j, h⟩ (by show (i 0).val = (8 * q + j) / 32 * 512 + (i 0).val % 512; omega) (by show j * 512 + s.val = (8 * q + j) % 8 * 512 + s.val; omega))
      (block1 m c ⟨8 * q + j, h⟩ (by show j * 512 + s.val = (8 * q + j) % 8 * 512 + s.val; omega) (by show (i 1).val = (8 * q + j) / 8 % 4 * 1024 + (i 1).val % 1024; omega)))
  exact s

end Values

end Cert.GradFf1Ideal.Entry

namespace Cert.GradFf1.Claims

open Cert.GradFf1Ideal.Entry (value)

theorem frame_kernel : Cert.quiescent_GradFf1 := fun m g _ => Cert.GradFf1.Gen.frame (F := Bits) m g
theorem frame_ideal : Cert.quiescent_GradFf1Ideal := fun m g _ => Cert.GradFf1Ideal.Gen.frame (F := Ideal) m g
theorem frame_ref : Cert.quiescent_GradFf1RefIdeal := fun m g _ =>
  (θ_run Cert.GradFf1RefIdeal.defs _ _).mono (fun r h => ⟨fun c => (h c).2, sem_eq_zero_of_no_sems (by decide) r.2⟩)
    (Cert.GradFf1RefIdeal.Value.run (F := Ideal) m g)

theorem algebraic : Cert.algebraic_GradFf1Ideal_GradFf1RefIdeal := fun m g m' g' _ h => by
  refine ⟨_, (θ_run Cert.GradFf1Ideal.defs _ _).mono (fun _ r c => ⟨(r c).1.trans (Cert.GradFf1Ideal.Entry.whole m c), (r c).2⟩)
      (Cert.GradFf1Ideal.Value.run (F := Ideal) m g),
    (θ_run Cert.GradFf1RefIdeal.defs _ _).mono (fun _ r c => ?_)
      (Cert.GradFf1RefIdeal.Value.run (F := Ideal) m' g')⟩
  obtain ⟨h0, h1⟩ := h c
  obtain ⟨r0, r1⟩ := r c
  refine ⟨r0.trans (funext fun i => ?_), r1⟩
  rw [h0, h1]
  pointwise

end Cert.GradFf1.Claims

/-! ## The output projection -/

namespace Cert.GradOIdeal.Entry

open Cert.GradOIdeal Cert.GradOIdeal.Gen
open Cert.Products

section Points

variable {F : FTy → Type} [FloatOps F] {c : Dev nD} {i : grid0.Coords}
  {arg3 : Memref sig .tc .vmem S512x512 .bf16} {harg3 : arg3.IsWhole}
  {arg4 : Memref sig .tc .vmem S512x1024 .f32} {harg4 : arg4.IsWhole}
  {arg5 : Memref sig .tc .vmem S512x1024 .f32} {harg5 : arg5.IsWhole}
  {arg6 : Memref sig .tc .vmem S512x1024 .f32} {harg6 : arg6.IsWhole}
  {x : Vec F S512x512 .bf16} {w : Vec F S512x1024 .f32} {s : Vec F S512x1024 .f32}

theorem held_first {hc0 : cond0_0 i} {hc1 : ¬cond0_1 i} {hc2 : ¬cond0_2 i} :
    sout0_A_0 c i arg3 harg3 arg4 harg4 arg5 harg5 arg6 harg6 hc0 hc1 hc2 x w = k0_pay2 x w := by
  unfold sout0_A_0 kernelRun0_A
  refine (View.read_writes_full _ _ _ _ _).trans ?_
  simp only [View.readAt_eq_ld, harg3.read_unread, harg4.read_unread]
  exact congrArg₂ k0_pay2 (View.ld_unit_zero (S := S512x512) origin _ x) (View.ld_unit_zero (S := S512x1024) origin _ w)

theorem held_next {hc0 : ¬cond0_0 i} {hc1 : cond0_1 i} {hc2 : ¬cond0_2 i} :
    sout0_B_0 c i arg3 harg3 arg4 harg4 arg5 harg5 arg6 harg6 hc0 hc1 hc2 x w s = k0_pay3 x w s := by
  unfold sout0_B_0 kernelRun0_B
  refine (View.read_writes_full _ _ _ _ _).trans ?_
  simp only [View.readAt_eq_ld, harg3.read_unread, harg4.read_unread, harg6.read_unread]
  exact congr (congrArg₂ k0_pay3 (View.ld_unit_zero (S := S512x512) origin _ x) (View.ld_unit_zero (S := S512x1024) origin _ w)) (View.ld_unit_zero (S := S512x1024) origin _ s)

theorem held_last {hc0 : ¬cond0_0 i} {hc1 : cond0_1 i} {hc2 : cond0_2 i} :
    sout0_C_0 c i arg3 harg3 arg4 harg4 arg5 harg5 arg6 harg6 hc0 hc1 hc2 x w s = k0_pay3 x w s := by
  unfold sout0_C_0 kernelRun0_C
  refine (View.read_writes_full _ _ _ _ _).trans ?_
  simp only [View.readAt_eq_ld, harg3.read_unread, harg4.read_unread, harg6.read_unread]
  exact congr (congrArg₂ k0_pay3 (View.ld_unit_zero (S := S512x512) origin _ x) (View.ld_unit_zero (S := S512x1024) origin _ w)) (View.ld_unit_zero (S := S512x1024) origin _ s)

theorem result_last {hc0 : ¬cond0_0 i} {hc1 : cond0_1 i} {hc2 : cond0_2 i} :
    out0_C_2 c i arg3 harg3 arg4 harg4 arg5 harg5 arg6 harg6 hc0 hc1 hc2 x w s = k0_pay3 x w s := by
  unfold out0_C_2 kernelRun0_C
  refine (View.read_writes_full _ _ _ _ _).trans ?_
  unfold kernelRun0_C.sl.v13
  refine (View.readCov_full _ _ _ _ _).trans ?_
  simp only [View.readAt_eq_ld, harg3.read_unread, harg4.read_unread, harg6.read_unread]
  exact congr (congrArg₂ k0_pay3 (View.ld_unit_zero (S := S512x512) origin _ x) (View.ld_unit_zero (S := S512x1024) origin _ w)) (View.ld_unit_zero (S := S512x1024) origin _ s)

variable (m : (ℓ : Loc nD τ sig) → Buf (Elt F) ℓ)

/-- A point that starts a sum leaves its product. -/
theorem start (c : Dev nD) (t : Fin cfg0.N) (ht : t.val % 8 = 0) :
    (outsAt0 m c t.val t.isLt).2 = k0_pay2 (F := F) (iblk m c 0 t) (iblk m c 1 t) := by
  have hN : t.val < 16 := lt_of_lt_of_eq t.isLt N_0
  rw [outsAt0_A m c t ht (by omega) (by omega)]; dsimp only; exact held_first (F := F)

/-- Any other point adds its product to what the point before left. -/
theorem step (c : Dev nD) (t : Fin cfg0.N) (ht : t.val % 8 ≠ 0) :
    (outsAt0 m c t.val t.isLt).2 = k0_pay3 (F := F) (iblk m c 0 t) (iblk m c 1 t) (outsAt0 m c (t.val - 1) (Nat.lt_of_le_of_lt (Nat.sub_le _ _) t.isLt)).2 := by
  have hN : t.val < 16 := lt_of_lt_of_eq t.isLt N_0
  by_cases h2 : t.val % 8 = 7
  · rw [outsAt0_C m c t ht (by omega) h2]; dsimp only; exact held_last (F := F)
  · rw [outsAt0_B m c t ht (by omega) h2]; dsimp only; exact held_next (F := F)

/-- The last point of a sum hands it on. -/
theorem finish (c : Dev nD) (t : Fin cfg0.N) (ht : t.val % 8 = 7) : (outsAt0 m c t.val t.isLt).1
    = (outsAt0 m c t.val t.isLt).2 := by
  have hN : t.val < 16 := lt_of_lt_of_eq t.isLt N_0
  rw [step m c t (by omega), outsAt0_C m c t (by omega) (by omega) (by omega)]; dsimp only; exact result_last (F := F)

/-- The block of each input at a point. -/
theorem places : ∀ t : Fin grid0.N, cc0_transform_0 (grid0.coords t) = ![t.val % 8, t.val / 8]
    ∧ cc0_transform_1 (grid0.coords t) = ![t.val % 8, t.val / 8 % 1] := by decide +kernel

end Points

section Values

variable (m : (ℓ : Loc nD τ sig) → Buf (Elt Ideal) ℓ)

theorem block0 (c : Dev nD) (t : Fin cfg0.N) {r : Fin 512} {s : Fin 512} {R : Fin 1024} {S : Fin 4096}
    (hR : R.val = t.val / 8 * 512 + r.val) (hS : S.val = t.val % 8 * 512 + s.val) :
    (iblk m c 0 t : S512x512.Idx → EReal) (ix2 s r) = (m ((c : Thread nD τ).loc main_arg0) : S4096x1024.Idx → EReal) (ix2 S R) :=
  congrArg (m ((c : Thread nD τ).loc main_arg0) : S4096x1024.Idx → EReal) (spot (tm := 512) (tn := 512) (places t).1 rfl rfl hS hR)

theorem block1 (c : Dev nD) (t : Fin cfg0.N) {s : Fin 512} {l : Fin 1024} {S : Fin 4096} {C : Fin 1024}
    (hS : S.val = t.val % 8 * 512 + s.val) (hC : C.val = t.val / 8 % 1 * 1024 + l.val) :
    (iblk m c 1 t : S512x1024.Idx → EReal) (ix2 s l) = (m ((c : Thread nD τ).loc main_arg1) : S4096x1024.Idx → EReal) (ix2 S C) :=
  congrArg (m ((c : Thread nD τ).loc main_arg1) : S4096x1024.Idx → EReal) (spot (tm := 512) (tn := 1024) (places t).2 rfl rfl hS hC)

theorem part (x : Vec Ideal S512x512 .bf16) (w : Vec Ideal S512x1024 .f32) (r : Fin 512) (l : Fin 1024) :
    k0_pay2 (F := Ideal) x w (ix2 r l) = ∑ s : Fin 512, x (ix2 s r) * w (ix2 s l) := by
  unfold k0_pay2
  rw [shapeCast_self]
  pointwise [k0_pay1]

theorem more (x : Vec Ideal S512x512 .bf16) (w : Vec Ideal S512x1024 .f32) (a : Vec Ideal S512x1024 .f32) (r : Fin 512) (l : Fin 1024) :
    k0_pay3 (F := Ideal) x w a (ix2 r l) = a (ix2 r l) + ∑ s : Fin 512, x (ix2 s r) * w (ix2 s l) := by
  unfold k0_pay3
  rw [shapeCast_self]
  pointwise [k0_pay1]

/-- The result of the call. -/
abbrev value (x : S4096x1024.Idx → EReal) (w : S4096x1024.Idx → EReal) : S1024x1024.Idx → EReal := fun i => Ttimes x w i

/-- After the run the array is the result. -/
theorem whole (c : Dev nD) : (Cert.GradOIdeal.Value.G2 m c : S1024x1024.Idx → EReal) = value (m ((c : Thread nD τ).loc main_arg0)) (m ((c : Thread nD τ).loc main_arg1)) := by
  funext i
  have hi0 : (i 0).val < 1024 := (i 0).isLt
  have hi1 : (i 1).val < 1024 := (i 1).isLt
  obtain ⟨q, hq⟩ : ∃ q, q = Cert.GradOIdeal.Value.run2Of i := ⟨_, rfl⟩
  have hq' : q = 1 * ((i 0).val / 512 - 0) + 1 * ((i 1).val / 1024 - 0) := hq
  have ht : Cert.GradOIdeal.Value.pt2Of i = 8 * q + (8 - 1) := by rw [hq]
  have hp : Cert.GradOIdeal.Value.pt2Of i < cfg0.N := by rw [show cfg0.N = 16 from N_0, ht]; omega
  have e : Cert.GradOIdeal.Value.loc2Of i = ix2 (⟨(i 0).val % 512, Nat.mod_lt _ (by decide)⟩ : Fin 512) (⟨(i 1).val % 1024, Nat.mod_lt _ (by decide)⟩ : Fin 1024) :=
    funext fun a => by match a with | ⟨0, _⟩ => rfl | ⟨1, _⟩ => rfl
  unfold Cert.GradOIdeal.Value.G2
  rw [dif_pos hp, ← Cert.GradOIdeal.Value.outsAt0_sweep m c _ hp, finish m c ⟨_, hp⟩ (by show Cert.GradOIdeal.Value.pt2Of i % 8 = 7; rw [ht]; omega), e]
  have s := gathered (J := 8) (T := 512)
    (A := fun n h => (outsAt0 m c n h).2 (ix2 (⟨(i 0).val % 512, Nat.mod_lt _ (by decide)⟩ : Fin 512) (⟨(i 1).val % 1024, Nat.mod_lt _ (by decide)⟩ : Fin 1024)))
    (fun n h hn => (congrFun (start m c ⟨n, h⟩ hn) _).trans (part _ _ _ _))
    (fun n h hn => (congrFun (step m c ⟨n, h⟩ hn) _).trans (more _ _ _ _ _)) rfl
    ((fun (a : S4096x1024.Idx → EReal) (b : S4096x1024.Idx → EReal) (k : Fin 4096) => a (ix2 k (i 0)) * b (ix2 k (i 1))) (m ((c : Thread nD τ).loc main_arg0)) (m ((c : Thread nD τ).loc main_arg1))) hp ht (by decide)
    (fun j hj h => Finset.sum_congr rfl fun s _ => congrArg₂ (fun a b : EReal => a * b)
      (block0 m c ⟨8 * q + j, h⟩ (by show (i 0).val = (8 * q + j) / 8 * 512 + (i 0).val % 512; omega) (by show j * 512 + s.val = (8 * q + j) % 8 * 512 + s.val; omega))
      (block1 m c ⟨8 * q + j, h⟩ (by show j * 512 + s.val = (8 * q + j) % 8 * 512 + s.val; omega) (by show (i 1).val = (8 * q + j) / 8 % 1 * 1024 + (i 1).val % 1024; omega)))
  exact s

end Values

end Cert.GradOIdeal.Entry

namespace Cert.GradO.Claims

open Cert.GradOIdeal.Entry (value)

theorem frame_kernel : Cert.quiescent_GradO := fun m g _ => Cert.GradO.Gen.frame (F := Bits) m g
theorem frame_ideal : Cert.quiescent_GradOIdeal := fun m g _ => Cert.GradOIdeal.Gen.frame (F := Ideal) m g
theorem frame_ref : Cert.quiescent_GradORefIdeal := fun m g _ =>
  (θ_run Cert.GradORefIdeal.defs _ _).mono (fun r h => ⟨fun c => (h c).2, sem_eq_zero_of_no_sems (by decide) r.2⟩)
    (Cert.GradORefIdeal.Value.run (F := Ideal) m g)

theorem algebraic : Cert.algebraic_GradOIdeal_GradORefIdeal := fun m g m' g' _ h => by
  refine ⟨_, (θ_run Cert.GradOIdeal.defs _ _).mono (fun _ r c => ⟨(r c).1.trans (Cert.GradOIdeal.Entry.whole m c), (r c).2⟩)
      (Cert.GradOIdeal.Value.run (F := Ideal) m g),
    (θ_run Cert.GradORefIdeal.defs _ _).mono (fun _ r c => ?_)
      (Cert.GradORefIdeal.Value.run (F := Ideal) m' g')⟩
  obtain ⟨h0, h1⟩ := h c
  obtain ⟨r0, r1⟩ := r c
  refine ⟨r0.trans (funext fun i => ?_), r1⟩
  rw [h0, h1]
  pointwise

end Cert.GradO.Claims

/-! ## A branch's weights -/

namespace Cert.GradUpIdeal.Entry

open Cert.GradUpIdeal Cert.GradUpIdeal.Gen
open Cert.Products

section Points

variable {F : FTy → Type} [FloatOps F] {c : Dev nD} {i : grid0.Coords}
  {arg3 : Memref sig .tc .vmem S512x512 .f32} {harg3 : arg3.IsWhole}
  {arg4 : Memref sig .tc .vmem S512x1024 .bf16} {harg4 : arg4.IsWhole}
  {arg5 : Memref sig .tc .vmem S512x1024 .f32} {harg5 : arg5.IsWhole}
  {arg6 : Memref sig .tc .vmem S512x1024 .f32} {harg6 : arg6.IsWhole}
  {x : Vec F S512x512 .f32} {w : Vec F S512x1024 .bf16} {s : Vec F S512x1024 .f32}

theorem held_first {hc0 : cond0_0 i} {hc1 : ¬cond0_1 i} {hc2 : ¬cond0_2 i} :
    sout0_A_0 c i arg3 harg3 arg4 harg4 arg5 harg5 arg6 harg6 hc0 hc1 hc2 x w = k0_pay2 x w := by
  unfold sout0_A_0 kernelRun0_A
  refine (View.read_writes_full _ _ _ _ _).trans ?_
  simp only [View.readAt_eq_ld, harg3.read_unread, harg4.read_unread]
  exact congrArg₂ k0_pay2 (View.ld_unit_zero (S := S512x512) origin _ x) (View.ld_unit_zero (S := S512x1024) origin _ w)

theorem held_next {hc0 : ¬cond0_0 i} {hc1 : cond0_1 i} {hc2 : ¬cond0_2 i} :
    sout0_B_0 c i arg3 harg3 arg4 harg4 arg5 harg5 arg6 harg6 hc0 hc1 hc2 x w s = k0_pay3 x w s := by
  unfold sout0_B_0 kernelRun0_B
  refine (View.read_writes_full _ _ _ _ _).trans ?_
  simp only [View.readAt_eq_ld, harg3.read_unread, harg4.read_unread, harg6.read_unread]
  exact congr (congrArg₂ k0_pay3 (View.ld_unit_zero (S := S512x512) origin _ x) (View.ld_unit_zero (S := S512x1024) origin _ w)) (View.ld_unit_zero (S := S512x1024) origin _ s)

theorem held_last {hc0 : ¬cond0_0 i} {hc1 : cond0_1 i} {hc2 : cond0_2 i} :
    sout0_C_0 c i arg3 harg3 arg4 harg4 arg5 harg5 arg6 harg6 hc0 hc1 hc2 x w s = k0_pay3 x w s := by
  unfold sout0_C_0 kernelRun0_C
  refine (View.read_writes_full _ _ _ _ _).trans ?_
  simp only [View.readAt_eq_ld, harg3.read_unread, harg4.read_unread, harg6.read_unread]
  exact congr (congrArg₂ k0_pay3 (View.ld_unit_zero (S := S512x512) origin _ x) (View.ld_unit_zero (S := S512x1024) origin _ w)) (View.ld_unit_zero (S := S512x1024) origin _ s)

theorem result_last {hc0 : ¬cond0_0 i} {hc1 : cond0_1 i} {hc2 : cond0_2 i} :
    out0_C_2 c i arg3 harg3 arg4 harg4 arg5 harg5 arg6 harg6 hc0 hc1 hc2 x w s = k0_pay3 x w s := by
  unfold out0_C_2 kernelRun0_C
  refine (View.read_writes_full _ _ _ _ _).trans ?_
  unfold kernelRun0_C.sl.v13
  refine (View.readCov_full _ _ _ _ _).trans ?_
  simp only [View.readAt_eq_ld, harg3.read_unread, harg4.read_unread, harg6.read_unread]
  exact congr (congrArg₂ k0_pay3 (View.ld_unit_zero (S := S512x512) origin _ x) (View.ld_unit_zero (S := S512x1024) origin _ w)) (View.ld_unit_zero (S := S512x1024) origin _ s)

variable (m : (ℓ : Loc nD τ sig) → Buf (Elt F) ℓ)

/-- A point that starts a sum leaves its product. -/
theorem start (c : Dev nD) (t : Fin cfg0.N) (ht : t.val % 8 = 0) :
    (outsAt0 m c t.val t.isLt).2 = k0_pay2 (F := F) (iblk m c 0 t) (iblk m c 1 t) := by
  have hN : t.val < 8 := lt_of_lt_of_eq t.isLt N_0
  rw [outsAt0_A m c t ht (by omega) (by omega)]; dsimp only; exact held_first (F := F)

/-- Any other point adds its product to what the point before left. -/
theorem step (c : Dev nD) (t : Fin cfg0.N) (ht : t.val % 8 ≠ 0) :
    (outsAt0 m c t.val t.isLt).2 = k0_pay3 (F := F) (iblk m c 0 t) (iblk m c 1 t) (outsAt0 m c (t.val - 1) (Nat.lt_of_le_of_lt (Nat.sub_le _ _) t.isLt)).2 := by
  have hN : t.val < 8 := lt_of_lt_of_eq t.isLt N_0
  by_cases h2 : t.val % 8 = 7
  · rw [outsAt0_C m c t ht (by omega) h2]; dsimp only; exact held_last (F := F)
  · rw [outsAt0_B m c t ht (by omega) h2]; dsimp only; exact held_next (F := F)

/-- The last point of a sum hands it on. -/
theorem finish (c : Dev nD) (t : Fin cfg0.N) (ht : t.val % 8 = 7) : (outsAt0 m c t.val t.isLt).1
    = (outsAt0 m c t.val t.isLt).2 := by
  have hN : t.val < 8 := lt_of_lt_of_eq t.isLt N_0
  rw [step m c t (by omega), outsAt0_C m c t (by omega) (by omega) (by omega)]; dsimp only; exact result_last (F := F)

/-- The block of each input at a point. -/
theorem places : ∀ t : Fin grid0.N, cc0_transform_0 (grid0.coords t) = ![t.val % 8, t.val / 8]
    ∧ cc0_transform_1 (grid0.coords t) = ![t.val % 8, t.val / 8 % 1] := by decide +kernel

end Points

section Values

variable (m : (ℓ : Loc nD τ sig) → Buf (Elt Ideal) ℓ)

theorem block0 (c : Dev nD) (t : Fin cfg0.N) {r : Fin 512} {s : Fin 512} {R : Fin 512} {S : Fin 4096}
    (hR : R.val = t.val / 8 * 512 + r.val) (hS : S.val = t.val % 8 * 512 + s.val) :
    (iblk m c 0 t : S512x512.Idx → EReal) (ix2 s r) = (m ((c : Thread nD τ).loc main_arg0) : S4096x512.Idx → EReal) (ix2 S R) :=
  congrArg (m ((c : Thread nD τ).loc main_arg0) : S4096x512.Idx → EReal) (spot (tm := 512) (tn := 512) (places t).1 rfl rfl hS hR)

theorem block1 (c : Dev nD) (t : Fin cfg0.N) {s : Fin 512} {l : Fin 1024} {S : Fin 4096} {C : Fin 1024}
    (hS : S.val = t.val % 8 * 512 + s.val) (hC : C.val = t.val / 8 % 1 * 1024 + l.val) :
    (iblk m c 1 t : S512x1024.Idx → EReal) (ix2 s l) = (m ((c : Thread nD τ).loc main_arg1) : S4096x1024.Idx → EReal) (ix2 S C) :=
  congrArg (m ((c : Thread nD τ).loc main_arg1) : S4096x1024.Idx → EReal) (spot (tm := 512) (tn := 1024) (places t).2 rfl rfl hS hC)

theorem part (x : Vec Ideal S512x512 .f32) (w : Vec Ideal S512x1024 .bf16) (r : Fin 512) (l : Fin 1024) :
    k0_pay2 (F := Ideal) x w (ix2 r l) = ∑ s : Fin 512, x (ix2 s r) * w (ix2 s l) := by
  unfold k0_pay2
  rw [shapeCast_self]
  pointwise [k0_pay1]

theorem more (x : Vec Ideal S512x512 .f32) (w : Vec Ideal S512x1024 .bf16) (a : Vec Ideal S512x1024 .f32) (r : Fin 512) (l : Fin 1024) :
    k0_pay3 (F := Ideal) x w a (ix2 r l) = a (ix2 r l) + ∑ s : Fin 512, x (ix2 s r) * w (ix2 s l) := by
  unfold k0_pay3
  rw [shapeCast_self]
  pointwise [k0_pay1]

/-- The result of the call. -/
abbrev value (x : S4096x512.Idx → EReal) (w : S4096x1024.Idx → EReal) : S512x1024.Idx → EReal := fun i => Ttimes x w i

/-- After the run the array is the result. -/
theorem whole (c : Dev nD) : (Cert.GradUpIdeal.Value.G2 m c : S512x1024.Idx → EReal) = value (m ((c : Thread nD τ).loc main_arg0)) (m ((c : Thread nD τ).loc main_arg1)) := by
  funext i
  have hi0 : (i 0).val < 512 := (i 0).isLt
  have hi1 : (i 1).val < 1024 := (i 1).isLt
  obtain ⟨q, hq⟩ : ∃ q, q = Cert.GradUpIdeal.Value.run2Of i := ⟨_, rfl⟩
  have hq' : q = 1 * ((i 0).val / 512 - 0) + 1 * ((i 1).val / 1024 - 0) := hq
  have ht : Cert.GradUpIdeal.Value.pt2Of i = 8 * q + (8 - 1) := by rw [hq]
  have hp : Cert.GradUpIdeal.Value.pt2Of i < cfg0.N := by rw [show cfg0.N = 8 from N_0, ht]; omega
  have e : Cert.GradUpIdeal.Value.loc2Of i = ix2 (⟨(i 0).val % 512, Nat.mod_lt _ (by decide)⟩ : Fin 512) (⟨(i 1).val % 1024, Nat.mod_lt _ (by decide)⟩ : Fin 1024) :=
    funext fun a => by match a with | ⟨0, _⟩ => rfl | ⟨1, _⟩ => rfl
  unfold Cert.GradUpIdeal.Value.G2
  rw [dif_pos hp, ← Cert.GradUpIdeal.Value.outsAt0_sweep m c _ hp, finish m c ⟨_, hp⟩ (by show Cert.GradUpIdeal.Value.pt2Of i % 8 = 7; rw [ht]; omega), e]
  have s := gathered (J := 8) (T := 512)
    (A := fun n h => (outsAt0 m c n h).2 (ix2 (⟨(i 0).val % 512, Nat.mod_lt _ (by decide)⟩ : Fin 512) (⟨(i 1).val % 1024, Nat.mod_lt _ (by decide)⟩ : Fin 1024)))
    (fun n h hn => (congrFun (start m c ⟨n, h⟩ hn) _).trans (part _ _ _ _))
    (fun n h hn => (congrFun (step m c ⟨n, h⟩ hn) _).trans (more _ _ _ _ _)) rfl
    ((fun (a : S4096x512.Idx → EReal) (b : S4096x1024.Idx → EReal) (k : Fin 4096) => a (ix2 k (i 0)) * b (ix2 k (i 1))) (m ((c : Thread nD τ).loc main_arg0)) (m ((c : Thread nD τ).loc main_arg1))) hp ht (by decide)
    (fun j hj h => Finset.sum_congr rfl fun s _ => congrArg₂ (fun a b : EReal => a * b)
      (block0 m c ⟨8 * q + j, h⟩ (by show (i 0).val = (8 * q + j) / 8 * 512 + (i 0).val % 512; omega) (by show j * 512 + s.val = (8 * q + j) % 8 * 512 + s.val; omega))
      (block1 m c ⟨8 * q + j, h⟩ (by show j * 512 + s.val = (8 * q + j) % 8 * 512 + s.val; omega) (by show (i 1).val = (8 * q + j) / 8 % 1 * 1024 + (i 1).val % 1024; omega)))
  exact s

end Values

end Cert.GradUpIdeal.Entry

namespace Cert.GradUp.Claims

open Cert.GradUpIdeal.Entry (value)

theorem frame_kernel : Cert.quiescent_GradUp := fun m g _ => Cert.GradUp.Gen.frame (F := Bits) m g
theorem frame_ideal : Cert.quiescent_GradUpIdeal := fun m g _ => Cert.GradUpIdeal.Gen.frame (F := Ideal) m g
theorem frame_ref : Cert.quiescent_GradUpRefIdeal := fun m g _ =>
  (θ_run Cert.GradUpRefIdeal.defs _ _).mono (fun r h => ⟨fun c => (h c).2, sem_eq_zero_of_no_sems (by decide) r.2⟩)
    (Cert.GradUpRefIdeal.Value.run (F := Ideal) m g)

theorem algebraic : Cert.algebraic_GradUpIdeal_GradUpRefIdeal := fun m g m' g' _ h => by
  refine ⟨_, (θ_run Cert.GradUpIdeal.defs _ _).mono (fun _ r c => ⟨(r c).1.trans (Cert.GradUpIdeal.Entry.whole m c), (r c).2⟩)
      (Cert.GradUpIdeal.Value.run (F := Ideal) m g),
    (θ_run Cert.GradUpRefIdeal.defs _ _).mono (fun _ r c => ?_)
      (Cert.GradUpRefIdeal.Value.run (F := Ideal) m' g')⟩
  obtain ⟨h0, h1⟩ := h c
  obtain ⟨r0, r1⟩ := r c
  refine ⟨r0.trans (funext fun i => ?_), r1⟩
  rw [h0, h1]
  pointwise

end Cert.GradUp.Claims

/-! ## The third branch's weights, which are narrower -/

namespace Cert.GradUpNarrowIdeal.Entry

open Cert.GradUpNarrowIdeal Cert.GradUpNarrowIdeal.Gen
open Cert.Products

section Points

variable {F : FTy → Type} [FloatOps F] {c : Dev nD} {i : grid0.Coords}
  {arg3 : Memref sig .tc .vmem S512x256 .f32} {harg3 : arg3.IsWhole}
  {arg4 : Memref sig .tc .vmem S512x1024 .bf16} {harg4 : arg4.IsWhole}
  {arg5 : Memref sig .tc .vmem S256x1024 .f32} {harg5 : arg5.IsWhole}
  {arg6 : Memref sig .tc .vmem S256x1024 .f32} {harg6 : arg6.IsWhole}
  {x : Vec F S512x256 .f32} {w : Vec F S512x1024 .bf16} {s : Vec F S256x1024 .f32}

theorem held_first {hc0 : cond0_0 i} {hc1 : ¬cond0_1 i} {hc2 : ¬cond0_2 i} :
    sout0_A_0 c i arg3 harg3 arg4 harg4 arg5 harg5 arg6 harg6 hc0 hc1 hc2 x w = k0_pay2 x w := by
  unfold sout0_A_0 kernelRun0_A
  refine (View.read_writes_full _ _ _ _ _).trans ?_
  simp only [View.readAt_eq_ld, harg3.read_unread, harg4.read_unread]
  exact congrArg₂ k0_pay2 (View.ld_unit_zero (S := S512x256) origin _ x) (View.ld_unit_zero (S := S512x1024) origin _ w)

theorem held_next {hc0 : ¬cond0_0 i} {hc1 : cond0_1 i} {hc2 : ¬cond0_2 i} :
    sout0_B_0 c i arg3 harg3 arg4 harg4 arg5 harg5 arg6 harg6 hc0 hc1 hc2 x w s = k0_pay3 x w s := by
  unfold sout0_B_0 kernelRun0_B
  refine (View.read_writes_full _ _ _ _ _).trans ?_
  simp only [View.readAt_eq_ld, harg3.read_unread, harg4.read_unread, harg6.read_unread]
  exact congr (congrArg₂ k0_pay3 (View.ld_unit_zero (S := S512x256) origin _ x) (View.ld_unit_zero (S := S512x1024) origin _ w)) (View.ld_unit_zero (S := S256x1024) origin _ s)

theorem held_last {hc0 : ¬cond0_0 i} {hc1 : cond0_1 i} {hc2 : cond0_2 i} :
    sout0_C_0 c i arg3 harg3 arg4 harg4 arg5 harg5 arg6 harg6 hc0 hc1 hc2 x w s = k0_pay3 x w s := by
  unfold sout0_C_0 kernelRun0_C
  refine (View.read_writes_full _ _ _ _ _).trans ?_
  simp only [View.readAt_eq_ld, harg3.read_unread, harg4.read_unread, harg6.read_unread]
  exact congr (congrArg₂ k0_pay3 (View.ld_unit_zero (S := S512x256) origin _ x) (View.ld_unit_zero (S := S512x1024) origin _ w)) (View.ld_unit_zero (S := S256x1024) origin _ s)

theorem result_last {hc0 : ¬cond0_0 i} {hc1 : cond0_1 i} {hc2 : cond0_2 i} :
    out0_C_2 c i arg3 harg3 arg4 harg4 arg5 harg5 arg6 harg6 hc0 hc1 hc2 x w s = k0_pay3 x w s := by
  unfold out0_C_2 kernelRun0_C
  refine (View.read_writes_full _ _ _ _ _).trans ?_
  unfold kernelRun0_C.sl.v13
  refine (View.readCov_full _ _ _ _ _).trans ?_
  simp only [View.readAt_eq_ld, harg3.read_unread, harg4.read_unread, harg6.read_unread]
  exact congr (congrArg₂ k0_pay3 (View.ld_unit_zero (S := S512x256) origin _ x) (View.ld_unit_zero (S := S512x1024) origin _ w)) (View.ld_unit_zero (S := S256x1024) origin _ s)

variable (m : (ℓ : Loc nD τ sig) → Buf (Elt F) ℓ)

/-- A point that starts a sum leaves its product. -/
theorem start (c : Dev nD) (t : Fin cfg0.N) (ht : t.val % 8 = 0) :
    (outsAt0 m c t.val t.isLt).2 = k0_pay2 (F := F) (iblk m c 0 t) (iblk m c 1 t) := by
  have hN : t.val < 8 := lt_of_lt_of_eq t.isLt N_0
  rw [outsAt0_A m c t ht (by omega) (by omega)]; dsimp only; exact held_first (F := F)

/-- Any other point adds its product to what the point before left. -/
theorem step (c : Dev nD) (t : Fin cfg0.N) (ht : t.val % 8 ≠ 0) :
    (outsAt0 m c t.val t.isLt).2 = k0_pay3 (F := F) (iblk m c 0 t) (iblk m c 1 t) (outsAt0 m c (t.val - 1) (Nat.lt_of_le_of_lt (Nat.sub_le _ _) t.isLt)).2 := by
  have hN : t.val < 8 := lt_of_lt_of_eq t.isLt N_0
  by_cases h2 : t.val % 8 = 7
  · rw [outsAt0_C m c t ht (by omega) h2]; dsimp only; exact held_last (F := F)
  · rw [outsAt0_B m c t ht (by omega) h2]; dsimp only; exact held_next (F := F)

/-- The last point of a sum hands it on. -/
theorem finish (c : Dev nD) (t : Fin cfg0.N) (ht : t.val % 8 = 7) : (outsAt0 m c t.val t.isLt).1
    = (outsAt0 m c t.val t.isLt).2 := by
  have hN : t.val < 8 := lt_of_lt_of_eq t.isLt N_0
  rw [step m c t (by omega), outsAt0_C m c t (by omega) (by omega) (by omega)]; dsimp only; exact result_last (F := F)

/-- The block of each input at a point. -/
theorem places : ∀ t : Fin grid0.N, cc0_transform_0 (grid0.coords t) = ![t.val % 8, t.val / 8]
    ∧ cc0_transform_1 (grid0.coords t) = ![t.val % 8, t.val / 8 % 1] := by decide +kernel

end Points

section Values

variable (m : (ℓ : Loc nD τ sig) → Buf (Elt Ideal) ℓ)

theorem block0 (c : Dev nD) (t : Fin cfg0.N) {r : Fin 256} {s : Fin 512} {R : Fin 256} {S : Fin 4096}
    (hR : R.val = t.val / 8 * 256 + r.val) (hS : S.val = t.val % 8 * 512 + s.val) :
    (iblk m c 0 t : S512x256.Idx → EReal) (ix2 s r) = (m ((c : Thread nD τ).loc main_arg0) : S4096x256.Idx → EReal) (ix2 S R) :=
  congrArg (m ((c : Thread nD τ).loc main_arg0) : S4096x256.Idx → EReal) (spot (tm := 512) (tn := 256) (places t).1 rfl rfl hS hR)

theorem block1 (c : Dev nD) (t : Fin cfg0.N) {s : Fin 512} {l : Fin 1024} {S : Fin 4096} {C : Fin 1024}
    (hS : S.val = t.val % 8 * 512 + s.val) (hC : C.val = t.val / 8 % 1 * 1024 + l.val) :
    (iblk m c 1 t : S512x1024.Idx → EReal) (ix2 s l) = (m ((c : Thread nD τ).loc main_arg1) : S4096x1024.Idx → EReal) (ix2 S C) :=
  congrArg (m ((c : Thread nD τ).loc main_arg1) : S4096x1024.Idx → EReal) (spot (tm := 512) (tn := 1024) (places t).2 rfl rfl hS hC)

theorem part (x : Vec Ideal S512x256 .f32) (w : Vec Ideal S512x1024 .bf16) (r : Fin 256) (l : Fin 1024) :
    k0_pay2 (F := Ideal) x w (ix2 r l) = ∑ s : Fin 512, x (ix2 s r) * w (ix2 s l) := by
  unfold k0_pay2
  rw [shapeCast_self]
  pointwise [k0_pay1]

theorem more (x : Vec Ideal S512x256 .f32) (w : Vec Ideal S512x1024 .bf16) (a : Vec Ideal S256x1024 .f32) (r : Fin 256) (l : Fin 1024) :
    k0_pay3 (F := Ideal) x w a (ix2 r l) = a (ix2 r l) + ∑ s : Fin 512, x (ix2 s r) * w (ix2 s l) := by
  unfold k0_pay3
  rw [shapeCast_self]
  pointwise [k0_pay1]

/-- The result of the call. -/
abbrev value (x : S4096x256.Idx → EReal) (w : S4096x1024.Idx → EReal) : S256x1024.Idx → EReal := fun i => Ttimes x w i

/-- After the run the array is the result. -/
theorem whole (c : Dev nD) : (Cert.GradUpNarrowIdeal.Value.G2 m c : S256x1024.Idx → EReal) = value (m ((c : Thread nD τ).loc main_arg0)) (m ((c : Thread nD τ).loc main_arg1)) := by
  funext i
  have hi0 : (i 0).val < 256 := (i 0).isLt
  have hi1 : (i 1).val < 1024 := (i 1).isLt
  obtain ⟨q, hq⟩ : ∃ q, q = Cert.GradUpNarrowIdeal.Value.run2Of i := ⟨_, rfl⟩
  have hq' : q = 1 * ((i 0).val / 256 - 0) + 1 * ((i 1).val / 1024 - 0) := hq
  have ht : Cert.GradUpNarrowIdeal.Value.pt2Of i = 8 * q + (8 - 1) := by rw [hq]
  have hp : Cert.GradUpNarrowIdeal.Value.pt2Of i < cfg0.N := by rw [show cfg0.N = 8 from N_0, ht]; omega
  have e : Cert.GradUpNarrowIdeal.Value.loc2Of i = ix2 (⟨(i 0).val % 256, Nat.mod_lt _ (by decide)⟩ : Fin 256) (⟨(i 1).val % 1024, Nat.mod_lt _ (by decide)⟩ : Fin 1024) :=
    funext fun a => by match a with | ⟨0, _⟩ => rfl | ⟨1, _⟩ => rfl
  unfold Cert.GradUpNarrowIdeal.Value.G2
  rw [dif_pos hp, ← Cert.GradUpNarrowIdeal.Value.outsAt0_sweep m c _ hp, finish m c ⟨_, hp⟩ (by show Cert.GradUpNarrowIdeal.Value.pt2Of i % 8 = 7; rw [ht]; omega), e]
  have s := gathered (J := 8) (T := 512)
    (A := fun n h => (outsAt0 m c n h).2 (ix2 (⟨(i 0).val % 256, Nat.mod_lt _ (by decide)⟩ : Fin 256) (⟨(i 1).val % 1024, Nat.mod_lt _ (by decide)⟩ : Fin 1024)))
    (fun n h hn => (congrFun (start m c ⟨n, h⟩ hn) _).trans (part _ _ _ _))
    (fun n h hn => (congrFun (step m c ⟨n, h⟩ hn) _).trans (more _ _ _ _ _)) rfl
    ((fun (a : S4096x256.Idx → EReal) (b : S4096x1024.Idx → EReal) (k : Fin 4096) => a (ix2 k (i 0)) * b (ix2 k (i 1))) (m ((c : Thread nD τ).loc main_arg0)) (m ((c : Thread nD τ).loc main_arg1))) hp ht (by decide)
    (fun j hj h => Finset.sum_congr rfl fun s _ => congrArg₂ (fun a b : EReal => a * b)
      (block0 m c ⟨8 * q + j, h⟩ (by show (i 0).val = (8 * q + j) / 8 * 256 + (i 0).val % 256; omega) (by show j * 512 + s.val = (8 * q + j) % 8 * 512 + s.val; omega))
      (block1 m c ⟨8 * q + j, h⟩ (by show j * 512 + s.val = (8 * q + j) % 8 * 512 + s.val; omega) (by show (i 1).val = (8 * q + j) / 8 % 1 * 1024 + (i 1).val % 1024; omega)))
  exact s

end Values

end Cert.GradUpNarrowIdeal.Entry

namespace Cert.GradUpNarrow.Claims

open Cert.GradUpNarrowIdeal.Entry (value)

theorem frame_kernel : Cert.quiescent_GradUpNarrow := fun m g _ => Cert.GradUpNarrow.Gen.frame (F := Bits) m g
theorem frame_ideal : Cert.quiescent_GradUpNarrowIdeal := fun m g _ => Cert.GradUpNarrowIdeal.Gen.frame (F := Ideal) m g
theorem frame_ref : Cert.quiescent_GradUpNarrowRefIdeal := fun m g _ =>
  (θ_run Cert.GradUpNarrowRefIdeal.defs _ _).mono (fun r h => ⟨fun c => (h c).2, sem_eq_zero_of_no_sems (by decide) r.2⟩)
    (Cert.GradUpNarrowRefIdeal.Value.run (F := Ideal) m g)

theorem algebraic : Cert.algebraic_GradUpNarrowIdeal_GradUpNarrowRefIdeal := fun m g m' g' _ h => by
  refine ⟨_, (θ_run Cert.GradUpNarrowIdeal.defs _ _).mono (fun _ r c => ⟨(r c).1.trans (Cert.GradUpNarrowIdeal.Entry.whole m c), (r c).2⟩)
      (Cert.GradUpNarrowIdeal.Value.run (F := Ideal) m g),
    (θ_run Cert.GradUpNarrowRefIdeal.defs _ _).mono (fun _ r c => ?_)
      (Cert.GradUpNarrowRefIdeal.Value.run (F := Ideal) m' g')⟩
  obtain ⟨h0, h1⟩ := h c
  obtain ⟨r0, r1⟩ := r c
  refine ⟨r0.trans (funext fun i => ?_), r1⟩
  rw [h0, h1]
  pointwise

end Cert.GradUpNarrow.Claims

/-! ## The input projection -/

namespace Cert.GradInIdeal.Entry

open Cert.GradInIdeal Cert.GradInIdeal.Gen
open Cert.Products

section Points

variable {F : FTy → Type} [FloatOps F] {c : Dev nD} {i : grid0.Coords}
  {arg3 : Memref sig .tc .vmem S512x512 .bf16} {harg3 : arg3.IsWhole}
  {arg4 : Memref sig .tc .vmem S512x3712 .bf16} {harg4 : arg4.IsWhole}
  {arg5 : Memref sig .tc .vmem S512x3712 .f32} {harg5 : arg5.IsWhole}
  {arg6 : Memref sig .tc .vmem S512x3712 .f32} {harg6 : arg6.IsWhole}
  {x : Vec F S512x512 .bf16} {w : Vec F S512x3712 .bf16} {s : Vec F S512x3712 .f32}

theorem held_first {hc0 : cond0_0 i} {hc1 : ¬cond0_1 i} {hc2 : ¬cond0_2 i} :
    sout0_A_0 c i arg3 harg3 arg4 harg4 arg5 harg5 arg6 harg6 hc0 hc1 hc2 x w = k0_pay2 x w := by
  unfold sout0_A_0 kernelRun0_A
  refine (View.read_writes_full _ _ _ _ _).trans ?_
  simp only [View.readAt_eq_ld, harg3.read_unread, harg4.read_unread]
  exact congrArg₂ k0_pay2 (View.ld_unit_zero (S := S512x512) origin _ x) (View.ld_unit_zero (S := S512x3712) origin _ w)

theorem held_next {hc0 : ¬cond0_0 i} {hc1 : cond0_1 i} {hc2 : ¬cond0_2 i} :
    sout0_B_0 c i arg3 harg3 arg4 harg4 arg5 harg5 arg6 harg6 hc0 hc1 hc2 x w s = k0_pay3 x w s := by
  unfold sout0_B_0 kernelRun0_B
  refine (View.read_writes_full _ _ _ _ _).trans ?_
  simp only [View.readAt_eq_ld, harg3.read_unread, harg4.read_unread, harg6.read_unread]
  exact congr (congrArg₂ k0_pay3 (View.ld_unit_zero (S := S512x512) origin _ x) (View.ld_unit_zero (S := S512x3712) origin _ w)) (View.ld_unit_zero (S := S512x3712) origin _ s)

theorem held_last {hc0 : ¬cond0_0 i} {hc1 : cond0_1 i} {hc2 : cond0_2 i} :
    sout0_C_0 c i arg3 harg3 arg4 harg4 arg5 harg5 arg6 harg6 hc0 hc1 hc2 x w s = k0_pay3 x w s := by
  unfold sout0_C_0 kernelRun0_C
  refine (View.read_writes_full _ _ _ _ _).trans ?_
  simp only [View.readAt_eq_ld, harg3.read_unread, harg4.read_unread, harg6.read_unread]
  exact congr (congrArg₂ k0_pay3 (View.ld_unit_zero (S := S512x512) origin _ x) (View.ld_unit_zero (S := S512x3712) origin _ w)) (View.ld_unit_zero (S := S512x3712) origin _ s)

theorem result_last {hc0 : ¬cond0_0 i} {hc1 : cond0_1 i} {hc2 : cond0_2 i} :
    out0_C_2 c i arg3 harg3 arg4 harg4 arg5 harg5 arg6 harg6 hc0 hc1 hc2 x w s = k0_pay3 x w s := by
  unfold out0_C_2 kernelRun0_C
  refine (View.read_writes_full _ _ _ _ _).trans ?_
  unfold kernelRun0_C.sl.v12
  refine (View.readCov_full _ _ _ _ _).trans ?_
  simp only [View.readAt_eq_ld, harg3.read_unread, harg4.read_unread, harg6.read_unread]
  exact congr (congrArg₂ k0_pay3 (View.ld_unit_zero (S := S512x512) origin _ x) (View.ld_unit_zero (S := S512x3712) origin _ w)) (View.ld_unit_zero (S := S512x3712) origin _ s)

variable (m : (ℓ : Loc nD τ sig) → Buf (Elt F) ℓ)

/-- A point that starts a sum leaves its product. -/
theorem start (c : Dev nD) (t : Fin cfg0.N) (ht : t.val % 8 = 0) :
    (outsAt0 m c t.val t.isLt).2 = k0_pay2 (F := F) (iblk m c 0 t) (iblk m c 1 t) := by
  have hN : t.val < 32 := lt_of_lt_of_eq t.isLt N_0
  rw [outsAt0_A m c t ht (by omega) (by omega)]; dsimp only; exact held_first (F := F)

/-- Any other point adds its product to what the point before left. -/
theorem step (c : Dev nD) (t : Fin cfg0.N) (ht : t.val % 8 ≠ 0) :
    (outsAt0 m c t.val t.isLt).2 = k0_pay3 (F := F) (iblk m c 0 t) (iblk m c 1 t) (outsAt0 m c (t.val - 1) (Nat.lt_of_le_of_lt (Nat.sub_le _ _) t.isLt)).2 := by
  have hN : t.val < 32 := lt_of_lt_of_eq t.isLt N_0
  by_cases h2 : t.val % 8 = 7
  · rw [outsAt0_C m c t ht (by omega) h2]; dsimp only; exact held_last (F := F)
  · rw [outsAt0_B m c t ht (by omega) h2]; dsimp only; exact held_next (F := F)

/-- The last point of a sum hands it on. -/
theorem finish (c : Dev nD) (t : Fin cfg0.N) (ht : t.val % 8 = 7) : (outsAt0 m c t.val t.isLt).1
    = (outsAt0 m c t.val t.isLt).2 := by
  have hN : t.val < 32 := lt_of_lt_of_eq t.isLt N_0
  rw [step m c t (by omega), outsAt0_C m c t (by omega) (by omega) (by omega)]; dsimp only; exact result_last (F := F)

/-- The block of each input at a point. -/
theorem places : ∀ t : Fin grid0.N, cc0_transform_0 (grid0.coords t) = ![t.val % 8, t.val / 16]
    ∧ cc0_transform_1 (grid0.coords t) = ![t.val % 8, t.val / 8 % 2] := by decide +kernel

end Points

section Values

variable (m : (ℓ : Loc nD τ sig) → Buf (Elt Ideal) ℓ)

theorem block0 (c : Dev nD) (t : Fin cfg0.N) {r : Fin 512} {s : Fin 512} {R : Fin 1024} {S : Fin 4096}
    (hR : R.val = t.val / 16 * 512 + r.val) (hS : S.val = t.val % 8 * 512 + s.val) :
    (iblk m c 0 t : S512x512.Idx → EReal) (ix2 s r) = (m ((c : Thread nD τ).loc main_arg0) : S4096x1024.Idx → EReal) (ix2 S R) :=
  congrArg (m ((c : Thread nD τ).loc main_arg0) : S4096x1024.Idx → EReal) (spot (tm := 512) (tn := 512) (places t).1 rfl rfl hS hR)

theorem block1 (c : Dev nD) (t : Fin cfg0.N) {s : Fin 512} {l : Fin 3712} {S : Fin 4096} {C : Fin 7424}
    (hS : S.val = t.val % 8 * 512 + s.val) (hC : C.val = t.val / 8 % 2 * 3712 + l.val) :
    (iblk m c 1 t : S512x3712.Idx → EReal) (ix2 s l) = (m ((c : Thread nD τ).loc main_arg1) : S4096x7424.Idx → EReal) (ix2 S C) :=
  congrArg (m ((c : Thread nD τ).loc main_arg1) : S4096x7424.Idx → EReal) (spot (tm := 512) (tn := 3712) (places t).2 rfl rfl hS hC)

theorem part (x : Vec Ideal S512x512 .bf16) (w : Vec Ideal S512x3712 .bf16) (r : Fin 512) (l : Fin 3712) :
    k0_pay2 (F := Ideal) x w (ix2 r l) = ∑ s : Fin 512, x (ix2 s r) * w (ix2 s l) := by
  unfold k0_pay2
  rw [shapeCast_self]
  pointwise [k0_pay1]

theorem more (x : Vec Ideal S512x512 .bf16) (w : Vec Ideal S512x3712 .bf16) (a : Vec Ideal S512x3712 .f32) (r : Fin 512) (l : Fin 3712) :
    k0_pay3 (F := Ideal) x w a (ix2 r l) = a (ix2 r l) + ∑ s : Fin 512, x (ix2 s r) * w (ix2 s l) := by
  unfold k0_pay3
  rw [shapeCast_self]
  pointwise [k0_pay1]

/-- The result of the call. -/
abbrev value (x : S4096x1024.Idx → EReal) (w : S4096x7424.Idx → EReal) : S1024x7424.Idx → EReal := fun i => Ttimes x w i

/-- After the run the array is the result. -/
theorem whole (c : Dev nD) : (Cert.GradInIdeal.Value.G2 m c : S1024x7424.Idx → EReal) = value (m ((c : Thread nD τ).loc main_arg0)) (m ((c : Thread nD τ).loc main_arg1)) := by
  funext i
  have hi0 : (i 0).val < 1024 := (i 0).isLt
  have hi1 : (i 1).val < 7424 := (i 1).isLt
  obtain ⟨q, hq⟩ : ∃ q, q = Cert.GradInIdeal.Value.run2Of i := ⟨_, rfl⟩
  have hq' : q = 2 * ((i 0).val / 512 - 0) + 1 * ((i 1).val / 3712 - 0) := hq
  have ht : Cert.GradInIdeal.Value.pt2Of i = 8 * q + (8 - 1) := by rw [hq]
  have hp : Cert.GradInIdeal.Value.pt2Of i < cfg0.N := by rw [show cfg0.N = 32 from N_0, ht]; omega
  have e : Cert.GradInIdeal.Value.loc2Of i = ix2 (⟨(i 0).val % 512, Nat.mod_lt _ (by decide)⟩ : Fin 512) (⟨(i 1).val % 3712, Nat.mod_lt _ (by decide)⟩ : Fin 3712) :=
    funext fun a => by match a with | ⟨0, _⟩ => rfl | ⟨1, _⟩ => rfl
  unfold Cert.GradInIdeal.Value.G2
  rw [dif_pos hp, ← Cert.GradInIdeal.Value.outsAt0_sweep m c _ hp, finish m c ⟨_, hp⟩ (by show Cert.GradInIdeal.Value.pt2Of i % 8 = 7; rw [ht]; omega), e]
  have s := gathered (J := 8) (T := 512)
    (A := fun n h => (outsAt0 m c n h).2 (ix2 (⟨(i 0).val % 512, Nat.mod_lt _ (by decide)⟩ : Fin 512) (⟨(i 1).val % 3712, Nat.mod_lt _ (by decide)⟩ : Fin 3712)))
    (fun n h hn => (congrFun (start m c ⟨n, h⟩ hn) _).trans (part _ _ _ _))
    (fun n h hn => (congrFun (step m c ⟨n, h⟩ hn) _).trans (more _ _ _ _ _)) rfl
    ((fun (a : S4096x1024.Idx → EReal) (b : S4096x7424.Idx → EReal) (k : Fin 4096) => a (ix2 k (i 0)) * b (ix2 k (i 1))) (m ((c : Thread nD τ).loc main_arg0)) (m ((c : Thread nD τ).loc main_arg1))) hp ht (by decide)
    (fun j hj h => Finset.sum_congr rfl fun s _ => congrArg₂ (fun a b : EReal => a * b)
      (block0 m c ⟨8 * q + j, h⟩ (by show (i 0).val = (8 * q + j) / 16 * 512 + (i 0).val % 512; omega) (by show j * 512 + s.val = (8 * q + j) % 8 * 512 + s.val; omega))
      (block1 m c ⟨8 * q + j, h⟩ (by show j * 512 + s.val = (8 * q + j) % 8 * 512 + s.val; omega) (by show (i 1).val = (8 * q + j) / 8 % 2 * 3712 + (i 1).val % 3712; omega)))
  exact s

end Values

end Cert.GradInIdeal.Entry

namespace Cert.GradIn.Claims

open Cert.GradInIdeal.Entry (value)

theorem frame_kernel : Cert.quiescent_GradIn := fun m g _ => Cert.GradIn.Gen.frame (F := Bits) m g
theorem frame_ideal : Cert.quiescent_GradInIdeal := fun m g _ => Cert.GradInIdeal.Gen.frame (F := Ideal) m g
theorem frame_ref : Cert.quiescent_GradInRefIdeal := fun m g _ =>
  (θ_run Cert.GradInRefIdeal.defs _ _).mono (fun r h => ⟨fun c => (h c).2, sem_eq_zero_of_no_sems (by decide) r.2⟩)
    (Cert.GradInRefIdeal.Value.run (F := Ideal) m g)

theorem algebraic : Cert.algebraic_GradInIdeal_GradInRefIdeal := fun m g m' g' _ h => by
  refine ⟨_, (θ_run Cert.GradInIdeal.defs _ _).mono (fun _ r c => ⟨(r c).1.trans (Cert.GradInIdeal.Entry.whole m c), (r c).2⟩)
      (Cert.GradInIdeal.Value.run (F := Ideal) m g),
    (θ_run Cert.GradInRefIdeal.defs _ _).mono (fun _ r c => ?_)
      (Cert.GradInRefIdeal.Value.run (F := Ideal) m' g')⟩
  obtain ⟨h0, h1⟩ := h c
  obtain ⟨r0, r1⟩ := r c
  refine ⟨r0.trans (funext fun i => ?_), r1⟩
  rw [h0, h1]
  pointwise

end Cert.GradIn.Claims

end
-- ==== Proof.MergeClaims.lean ====
/-
# The three branches, gated and added

A call whose blocks each hold one sum of three products, a branch's each, and scale each by a gate: the logistic function of the
sum of an entry of the input projection and a bias. The gates of the three branches lie side by side in the projection.
-/
module

public import proofs.«01_k».proof.Defs
public import proofs.«01_k».proof.Proof.Products
public import proofs.«01_k».proof.Proof.Gen.Merge.Frame
public import proofs.«01_k».proof.Proof.Gen.MergeIdeal.Value
public import proofs.«01_k».proof.Proof.Gen.MergeRefIdeal.Run
public import Idealize.ShloMosaic.Lib.Quiescent

@[expose] public section

set_option Elab.async false
set_option maxRecDepth 16384

noncomputable section

open Idealize.ShloMosaic Idealize.SL.Sem
open Idealize.ShloMosaic.TcCoe
open scoped BigOperators

namespace Cert.MergeIdeal.Entry

open Cert.MergeIdeal Cert.MergeIdeal.Gen
open Cert.Products

variable (m : (ℓ : Loc nD τ sig) → Buf (Elt Ideal) ℓ)

/-- The block of each window at a point. -/
theorem places : ∀ t : Fin grid0.N, cc0_transform_0 (grid0.coords t) = ![t.val / 4, 0]
    ∧ cc0_transform_1 (grid0.coords t) = ![t.val / 4, 0]
    ∧ cc0_transform_2 (grid0.coords t) = ![t.val / 4, 0]
    ∧ cc0_transform_3 (grid0.coords t) = ![0, t.val % 4]
    ∧ cc0_transform_4 (grid0.coords t) = ![0, t.val % 4]
    ∧ cc0_transform_5 (grid0.coords t) = ![0, t.val % 4]
    ∧ cc0_transform_6 (grid0.coords t) = ![t.val / 4, 17 + t.val % 4]
    ∧ cc0_transform_7 (grid0.coords t) = ![t.val / 4, 21 + t.val % 4]
    ∧ cc0_transform_8 (grid0.coords t) = ![t.val / 4, 25 + t.val % 4]
    ∧ cc0_transform_9 (grid0.coords t) = ![0, t.val % 4]
    ∧ cc0_transform_10 (grid0.coords t) = ![0, 4 + t.val % 4]
    ∧ cc0_transform_11 (grid0.coords t) = ![0, 8 + t.val % 4]
    ∧ cc0_transform_12 (grid0.coords t) = ![t.val / 4, t.val % 4] := by decide +kernel

/-- The row and the column of the result that an entry of a block is. -/
abbrev row (t : Fin cfg0.N) (r : Fin 512) : Fin 4096 :=
  ⟨t.val / 4 * 512 + r.val, by have := lt_of_lt_of_eq t.isLt N_0; omega⟩
abbrev col (t : Fin cfg0.N) (l : Fin 256) : Fin 1024 :=
  ⟨t.val % 4 * 256 + l.val, by omega⟩

theorem block0 (c : Dev nD) (t : Fin cfg0.N) (r : Fin 512) (k : Fin 512) : (iblk m c 0 t : S512x512.Idx → EReal) (ix2 r k)
    = (m ((c : Thread nD τ).loc main_arg2) : S4096x512.Idx → EReal) (ix2 (row t r) k) :=
  congrArg (m ((c : Thread nD τ).loc main_arg2) : S4096x512.Idx → EReal) (spot (tm := 512) (tn := 512) (l := k.val) (places t).1 rfl rfl rfl (by omega))

theorem block1 (c : Dev nD) (t : Fin cfg0.N) (r : Fin 512) (k : Fin 512) : (iblk m c 1 t : S512x512.Idx → EReal) (ix2 r k)
    = (m ((c : Thread nD τ).loc main_arg3) : S4096x512.Idx → EReal) (ix2 (row t r) k) :=
  congrArg (m ((c : Thread nD τ).loc main_arg3) : S4096x512.Idx → EReal) (spot (tm := 512) (tn := 512) (l := k.val) (places t).2.1 rfl rfl rfl (by omega))

theorem block2 (c : Dev nD) (t : Fin cfg0.N) (r : Fin 512) (k : Fin 256) : (iblk m c 2 t : S512x256.Idx → EReal) (ix2 r k)
    = (m ((c : Thread nD τ).loc main_arg4) : S4096x256.Idx → EReal) (ix2 (row t r) k) :=
  congrArg (m ((c : Thread nD τ).loc main_arg4) : S4096x256.Idx → EReal) (spot (tm := 512) (tn := 256) (l := k.val) (places t).2.2.1 rfl rfl rfl (by omega))

theorem block3 (c : Dev nD) (t : Fin cfg0.N) (k : Fin 512) (l : Fin 256) : (iblk m c 3 t : S512x256.Idx → EReal) (ix2 k l)
    = (m ((c : Thread nD τ).loc main_arg5) : S512x1024.Idx → EReal) (ix2 k (col t l)) :=
  congrArg (m ((c : Thread nD τ).loc main_arg5) : S512x1024.Idx → EReal) (spot (tm := 512) (tn := 256) (r := k.val) (places t).2.2.2.1 rfl rfl (by omega) rfl)

theorem block4 (c : Dev nD) (t : Fin cfg0.N) (k : Fin 512) (l : Fin 256) : (iblk m c 4 t : S512x256.Idx → EReal) (ix2 k l)
    = (m ((c : Thread nD τ).loc main_arg6) : S512x1024.Idx → EReal) (ix2 k (col t l)) :=
  congrArg (m ((c : Thread nD τ).loc main_arg6) : S512x1024.Idx → EReal) (spot (tm := 512) (tn := 256) (r := k.val) (places t).2.2.2.2.1 rfl rfl (by omega) rfl)

theorem block5 (c : Dev nD) (t : Fin cfg0.N) (k : Fin 256) (l : Fin 256) : (iblk m c 5 t : S256x256.Idx → EReal) (ix2 k l)
    = (m ((c : Thread nD τ).loc main_arg7) : S256x1024.Idx → EReal) (ix2 k (col t l)) :=
  congrArg (m ((c : Thread nD τ).loc main_arg7) : S256x1024.Idx → EReal) (spot (tm := 256) (tn := 256) (r := k.val) (places t).2.2.2.2.2.1 rfl rfl (by omega) rfl)

theorem block6 (c : Dev nD) (t : Fin cfg0.N) (r : Fin 512) (l : Fin 256) : (iblk m c 6 t : S512x256.Idx → EReal) (ix2 r l)
    = (m ((c : Thread nD τ).loc main_arg0) : S4096x7424.Idx → EReal) (ix2 (row t r) ⟨4352 + (col t l).val, by have := (col t l).isLt; omega⟩) :=
  congrArg (m ((c : Thread nD τ).loc main_arg0) : S4096x7424.Idx → EReal) (spot (tm := 512) (tn := 256) (l := l.val) (places t).2.2.2.2.2.2.1 rfl rfl rfl
    (by show 4352 + (t.val % 4 * 256 + l.val) = _; omega))

theorem block7 (c : Dev nD) (t : Fin cfg0.N) (r : Fin 512) (l : Fin 256) : (iblk m c 7 t : S512x256.Idx → EReal) (ix2 r l)
    = (m ((c : Thread nD τ).loc main_arg0) : S4096x7424.Idx → EReal) (ix2 (row t r) ⟨4352 + (1024 + (col t l).val), by have := (col t l).isLt; omega⟩) :=
  congrArg (m ((c : Thread nD τ).loc main_arg0) : S4096x7424.Idx → EReal) (spot (tm := 512) (tn := 256) (l := l.val) (places t).2.2.2.2.2.2.2.1 rfl rfl rfl
    (by show 4352 + (1024 + (t.val % 4 * 256 + l.val)) = _; omega))

theorem block8 (c : Dev nD) (t : Fin cfg0.N) (r : Fin 512) (l : Fin 256) : (iblk m c 8 t : S512x256.Idx → EReal) (ix2 r l)
    = (m ((c : Thread nD τ).loc main_arg0) : S4096x7424.Idx → EReal) (ix2 (row t r) ⟨4352 + (2048 + (col t l).val), by have := (col t l).isLt; omega⟩) :=
  congrArg (m ((c : Thread nD τ).loc main_arg0) : S4096x7424.Idx → EReal) (spot (tm := 512) (tn := 256) (l := l.val) (places t).2.2.2.2.2.2.2.2.1 rfl rfl rfl
    (by show 4352 + (2048 + (t.val % 4 * 256 + l.val)) = _; omega))

theorem block9 (c : Dev nD) (t : Fin cfg0.N) (l : Fin 256) : (iblk m c 9 t : S1x256.Idx → EReal) (ix2 (0 : Fin 1) l)
    = (m ((c : Thread nD τ).loc main_arg1) : S1x3072.Idx → EReal) (ix2 (0 : Fin 1) ⟨(col t l).val, by have := (col t l).isLt; omega⟩) :=
  congrArg (m ((c : Thread nD τ).loc main_arg1) : S1x3072.Idx → EReal) (spot (tm := 1) (tn := 256) (r := 0) (l := l.val) (places t).2.2.2.2.2.2.2.2.2.1 rfl rfl rfl
    (by show (t.val % 4 * 256 + l.val) = _; omega))

theorem block10 (c : Dev nD) (t : Fin cfg0.N) (l : Fin 256) : (iblk m c 10 t : S1x256.Idx → EReal) (ix2 (0 : Fin 1) l)
    = (m ((c : Thread nD τ).loc main_arg1) : S1x3072.Idx → EReal) (ix2 (0 : Fin 1) ⟨1024 + (col t l).val, by have := (col t l).isLt; omega⟩) :=
  congrArg (m ((c : Thread nD τ).loc main_arg1) : S1x3072.Idx → EReal) (spot (tm := 1) (tn := 256) (r := 0) (l := l.val) (places t).2.2.2.2.2.2.2.2.2.2.1 rfl rfl rfl
    (by show 1024 + (t.val % 4 * 256 + l.val) = _; omega))

theorem block11 (c : Dev nD) (t : Fin cfg0.N) (l : Fin 256) : (iblk m c 11 t : S1x256.Idx → EReal) (ix2 (0 : Fin 1) l)
    = (m ((c : Thread nD τ).loc main_arg1) : S1x3072.Idx → EReal) (ix2 (0 : Fin 1) ⟨2048 + (col t l).val, by have := (col t l).isLt; omega⟩) :=
  congrArg (m ((c : Thread nD τ).loc main_arg1) : S1x3072.Idx → EReal) (spot (tm := 1) (tn := 256) (r := 0) (l := l.val) (places t).2.2.2.2.2.2.2.2.2.2.2.1 rfl rfl rfl
    (by show 2048 + (t.val % 4 * 256 + l.val) = _; omega))

/-- A gate: the logistic function of the sum of an entry and a bias. -/
abbrev gate (z b : EReal) : EReal := Ideal.div 1 (1 + Ideal.exp (-(z + b)))

/-- The result of the call. -/
abbrev value (z : S4096x7424.Idx → EReal) (b : S1x3072.Idx → EReal) (y0 y1 : S4096x512.Idx → EReal) (y2 : S4096x256.Idx → EReal) (w0 w1 : S512x1024.Idx → EReal) (w2 : S256x1024.Idx → EReal) :
    S4096x1024.Idx → EReal := fun i =>
  gate (z (ix2 (i 0) ⟨4352 + (i 1).val, by have : (i 1).val < 1024 := (i 1).isLt; omega⟩)) (b (ix2 (0 : Fin 1) ⟨(i 1).val, by have : (i 1).val < 1024 := (i 1).isLt; omega⟩)) * times y0 w0 i
    + gate (z (ix2 (i 0) ⟨4352 + (1024 + (i 1).val), by have : (i 1).val < 1024 := (i 1).isLt; omega⟩)) (b (ix2 (0 : Fin 1) ⟨1024 + (i 1).val, by have : (i 1).val < 1024 := (i 1).isLt; omega⟩)) * times y1 w1 i
    + gate (z (ix2 (i 0) ⟨4352 + (2048 + (i 1).val), by have : (i 1).val < 1024 := (i 1).isLt; omega⟩)) (b (ix2 (0 : Fin 1) ⟨2048 + (i 1).val, by have : (i 1).val < 1024 := (i 1).isLt; omega⟩)) * times y2 w2 i

/-- What the kernel leaves in its block. -/
theorem left (y0 y1 : Vec Ideal S512x512 .f32) (y2 : Vec Ideal S512x256 .f32) (w0 w1 : Vec Ideal S512x256 .bf16) (w2 : Vec Ideal S256x256 .bf16)
    (g0 g1 g2 : Vec Ideal S512x256 .f32) (b0 b1 b2 : Vec Ideal S1x256 .f32) (r : Fin 512) (l : Fin 256) :
    out0_12 y0 y1 y2 w0 w1 w2 g0 g1 g2 b0 b1 b2 (ix2 r l)
      = gate (g0 (ix2 r l)) (b0 (ix2 (0 : Fin 1) l)) * (∑ k : Fin 512, y0 (ix2 r k) * w0 (ix2 k l))
        + gate (g1 (ix2 r l)) (b1 (ix2 (0 : Fin 1) l)) * (∑ k : Fin 512, y1 (ix2 r k) * w1 (ix2 k l))
        + gate (g2 (ix2 r l)) (b2 (ix2 (0 : Fin 1) l)) * (∑ k : Fin 256, y2 (ix2 r k) * w2 (ix2 k l)) := by
  refine (congrFun (View.canon_unit_zero (S := S512x256) origin _ _) _).trans ?_
  refine (congrFun (show k0_pay1 (k0_pay2 _ _ _ _ _ _ _ _) _ _ _ _ = k0_pay1 (k0_pay2 y0 w0 g0 b0 y1 w1 g1 b1) y2 w2 g2 b2 by
    rw [View.ld_unit_zero (S := S512x512) origin _ y0, View.ld_unit_zero (S := S512x512) origin _ y1, View.ld_unit_zero (S := S512x256) origin _ y2,
      View.ld_unit_zero (S := S512x256) origin _ w0, View.ld_unit_zero (S := S512x256) origin _ w1, View.ld_unit_zero (S := S256x256) origin _ w2,
      View.ld_unit_zero (S := S512x256) origin _ g0, View.ld_unit_zero (S := S512x256) origin _ g1, View.ld_unit_zero (S := S512x256) origin _ g2,
      View.ld_unit_zero (S := S1x256) origin _ b0, View.ld_unit_zero (S := S1x256) origin _ b1, View.ld_unit_zero (S := S1x256) origin _ b2]) _).trans ?_
  pointwise [k0_pay1, k0_pay2]
  simp only [zero_sub]

/-- What one point writes back is its block of the result. -/
theorem flushed (c : Dev nD) (t : Fin cfg0.N) : (dats m 0 c).flushed 12 t
    = ((cfg0.win 12).blk t).view.read (Elt Ideal) (value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Cert.MergeIdeal.Value.flushed12]
  refine funext fun (j : S512x256.Idx) => ?_
  have h : (((cfg0.win 12).blk t).view.emb j : S4096x1024.Idx) = ix2 (row t (j 0)) (col t (j 1)) :=
    spot (tm := 512) (tn := 256) (places t).2.2.2.2.2.2.2.2.2.2.2.2 rfl rfl rfl rfl
  refine Eq.trans ?_ (congrArg (value _ _ _ _ _ _ _ _) h).symm
  refine (congrArg (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (eq_ix2 (j : S512x256.Idx))).trans
    ((left _ _ _ _ _ _ _ _ _ _ _ _ (j 0) (j 1)).trans ?_)
  have s0 := congrArg₂ (fun a b : EReal => a * b) (congrArg₂ gate (block6 m c t (j 0) (j 1)) (block9 m c t (j 1)))
    (Finset.sum_congr rfl fun (k : Fin 512) (_ : k ∈ Finset.univ) =>
      congrArg₂ (fun a b : EReal => a * b) (block0 m c t (j 0) k) (block3 m c t k (j 1)))
  have s1 := congrArg₂ (fun a b : EReal => a * b) (congrArg₂ gate (block7 m c t (j 0) (j 1)) (block10 m c t (j 1)))
    (Finset.sum_congr rfl fun (k : Fin 512) (_ : k ∈ Finset.univ) =>
      congrArg₂ (fun a b : EReal => a * b) (block1 m c t (j 0) k) (block4 m c t k (j 1)))
  have s2 := congrArg₂ (fun a b : EReal => a * b) (congrArg₂ gate (block8 m c t (j 0) (j 1)) (block11 m c t (j 1)))
    (Finset.sum_congr rfl fun (k : Fin 256) (_ : k ∈ Finset.univ) =>
      congrArg₂ (fun a b : EReal => a * b) (block2 m c t (j 0) k) (block5 m c t k (j 1)))
  exact congrArg₂ (fun a b : EReal => a + b) (congrArg₂ (fun a b : EReal => a + b) s0 s1) s2

/-- Every entry is in the block of some point. -/
theorem cover (i : S4096x1024.Idx) : ∃ t : Fin cfg0.N, (cfg0.win 12).flush t = true ∧ i ∈ ((cfg0.win 12).blk t).view.set := by
  have hi0 : (i 0).val < 4096 := (i 0).isLt
  have hi1 : (i 1).val < 1024 := (i 1).isLt
  have hq : (i 0).val / 512 * 4 + (i 1).val / 256 < grid0.N := by rw [N_0]; omega
  refine ⟨⟨_, hq⟩, flush0_12 _, ?_⟩
  have b := inside (tm := 512) (tn := 256) (places ⟨_, hq⟩).2.2.2.2.2.2.2.2.2.2.2.2 (by decide) (by decide) rfl (by omega)
  refine (Finset.ext_iff.mp (View.set_slice_whole main_v0 _) i).mpr (Rect.mem_set_unit.mpr fun a => ?_)
  match a with
  | ⟨0, _⟩ => exact b.1
  | ⟨1, _⟩ => exact b.2

/-- After the run the array is the result. -/
theorem final (c : Dev nD) : (dats m 0 c).arrAt 12 cfg0.N = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 12 _ (fun t _ => flushed m c t) cover

end Cert.MergeIdeal.Entry

namespace Cert.Merge.Claims

theorem frame_kernel : Cert.quiescent_Merge := fun m g _ => Cert.Merge.Gen.frame (F := Bits) m g
theorem frame_ideal : Cert.quiescent_MergeIdeal := fun m g _ => Cert.MergeIdeal.Gen.frame (F := Ideal) m g
theorem frame_ref : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run (F := Ideal) m g)

theorem algebraic : Cert.algebraic_MergeIdeal_MergeRefIdeal := fun m g m' g' _ h => by
  refine ⟨_, Cert.MergeIdeal.Value.run_blocks (F := Ideal) m g,
    (θ_run Cert.MergeRefIdeal.defs _ _).mono (fun _ r c => ?_)
      (Cert.MergeRefIdeal.Value.run (F := Ideal) m' g')⟩
  obtain ⟨h0, h1, h2, h3, h4, h5, h6, h7⟩ := h c
  obtain ⟨r0, r1⟩ := r c
  refine ⟨r0.trans ?_, r1⟩
  refine funext fun i => Eq.trans ?_ (congrFun (Cert.MergeIdeal.Entry.final m c) i).symm
  rw [h0, h1, h2, h3, h4, h5, h6, h7]
  pointwise

end Cert.Merge.Claims

end
-- ==== Proof.MixClaims.lean ====
/-
# The attention groups, weighted

A call that works entry by entry: three outputs weighted by the exponentials of their logarithms of sums, and the logarithm of
the whole sum. The kernel divides the weighted sum by the sum of the weights; the reference divides each weight. These agree when
the greatest of the three logarithms is a real number, since the sum of the weights is then positive.
-/
module

public import proofs.«01_k».proof.Defs
public import proofs.«01_k».proof.Proof.Gen.Mix.Frame
public import proofs.«01_k».proof.Proof.Gen.MixIdeal.Value
public import proofs.«01_k».proof.Proof.Gen.MixRefIdeal.Run
public import proofs.«01_k».proof.Proof.Gen.Pre_weighed
public import Idealize.ShloMosaic.Lib.Pointwise
public import Idealize.ShloMosaic.Lib.Quiescent

@[expose] public section

set_option Elab.async false
set_option maxRecDepth 16384

noncomputable section

open Idealize.ShloMosaic Idealize.SL.Sem
open Idealize.ShloMosaic.TcCoe
open scoped BigOperators

namespace Cert.Mixed

/-- The greatest of three. -/
abbrev top (a b c : EReal) : EReal := max (max a b) c

/-- A weight: the exponential of what is left of the greatest. -/
abbrev weight (m x : EReal) : EReal := Ideal.exp (x - m)

theorem exp_nonneg (x : EReal) : 0 ≤ Ideal.exp x := by
  induction x with
  | bot => exact le_refl _
  | top => exact le_top
  | coe r => exact EReal.coe_nonneg.mpr (Real.exp_nonneg r)

theorem exp_zero : Ideal.exp 0 = 1 := by
  show ((Real.exp 0 : ℝ) : EReal) = 1
  rw [Real.exp_zero]; rfl

/-- A quotient by a positive number is taken entry by entry. -/
theorem div_sum {ea eb ec z : EReal} (hz : 0 < z) (o0 o1 o2 : EReal) :
    Ideal.div (ea * o0 + eb * o1 + ec * o2) z = Ideal.div ea z * o0 + Ideal.div eb z * o1 + Ideal.div ec z * o2 := by
  have h : z ≠ 0 := ne_of_gt hz
  have hp : 0 ≤ z⁻¹ := EReal.inv_nonneg_of_nonneg hz.le
  have ht : z⁻¹ ≠ ⊤ := by
    induction z with
    | bot => exact absurd hz (by simp)
    | top => simp
    | coe r => rw [← EReal.coe_inv]; exact EReal.coe_ne_top _
  simp only [Ideal.div, if_neg h]
  rw [EReal.right_distrib_of_nonneg_of_ne_top hp ht, EReal.right_distrib_of_nonneg_of_ne_top hp ht,
    mul_right_comm ea, mul_right_comm eb, mul_right_comm ec]

/-- The sum of the weights is positive when the greatest is a real number. -/
theorem sum_pos {a b c : EReal} (hb : ⊥ < top a b c) (ht : top a b c < ⊤) :
    0 < weight (top a b c) a + weight (top a b c) b + weight (top a b c) c := by
  have h : ∀ x, x = top a b c → weight (top a b c) x = 1 := fun x hx => by
    show Ideal.exp (x - _) = 1
    rw [hx, EReal.sub_self ht.ne hb.ne', exp_zero]
  have na := exp_nonneg (a - top a b c)
  have nb := exp_nonneg (b - top a b c)
  have nc := exp_nonneg (c - top a b c)
  have one : (0 : EReal) < 1 := by norm_num
  rcases max_choice (max a b) c with e | e
  · rcases max_choice a b with f | f
    · exact lt_of_lt_of_le (one.trans_eq (h a (by rw [top, e, f])).symm)
        ((le_add_of_nonneg_right nb).trans (le_add_of_nonneg_right nc))
    · exact lt_of_lt_of_le (one.trans_eq (h b (by rw [top, e, f])).symm)
        ((le_add_of_nonneg_left na).trans (le_add_of_nonneg_right nc))
  · exact lt_of_lt_of_le (one.trans_eq (h c (by rw [top, e])).symm) (le_add_of_nonneg_left (add_nonneg na nb))

theorem low : Ideal.ofBits FTy.f32 0xFF800000#32 = ⊥ := by
  simp [Ideal.ofBits, Ideal.ieee]

theorem high : Ideal.ofBits FTy.f32 0x7F800000#32 = ⊤ := by
  simp [Ideal.ofBits, Ideal.ieee]

/-- The greatest of three, taken one after another from the least of all. -/
theorem fold_three (f : Fin 3 → EReal) :
    Finset.fold max (Ideal.ofBits FTy.f32 0xFF800000#32) f Finset.univ = top (f 0) (f 1) (f 2) := by
  rw [low, show (Finset.univ : Finset (Fin 3)) = {0, 1, 2} from rfl, Finset.fold_insert (by decide), Finset.fold_insert (by decide),
    Finset.fold_singleton, max_bot_right]
  exact (max_assoc _ _ _).symm

/-- One of three. -/
abbrev pick (a b c : EReal) : Fin 3 → EReal := fun x => if _h : x.val < 1 then a else if _h : x.val - 1 < 1 then b else c

/-- The weighted mean of three. -/
abbrev mixed (a b c o0 o1 o2 : EReal) : EReal :=
  Ideal.div (weight (top a b c) a * o0 + weight (top a b c) b * o1 + weight (top a b c) c * o2)
    (weight (top a b c) a + weight (top a b c) b + weight (top a b c) c)

/-- The logarithm of the whole sum. -/
abbrev whole (a b c : EReal) : EReal :=
  top a b c + Ideal.log (weight (top a b c) a + weight (top a b c) b + weight (top a b c) c)

end Cert.Mixed

namespace Cert.MixRefIdeal.Entry

open Cert.MixRefIdeal Cert.MixRefIdeal.Gen
open Cert.Mixed

/-! ## The reference, operation by operation -/

/-- Three arrays, one behind another. -/
def stack (a b c : S4096x256.Idx → EReal) : S3x4096x256.Idx → EReal :=
  (concatenate S3x4096x256 0 [
    ⟨S1x4096x256, ((broadcastInDim S1x4096x256 ![1, 2] bcast_S4096x256_S1x4096x256_1_2 a) : (⟨S1x4096x256, .f32⟩ : BufTy).Contents (Elt Ideal))⟩,
    ⟨S1x4096x256, ((broadcastInDim S1x4096x256 ![1, 2] bcast_S4096x256_S1x4096x256_1_2 b) : (⟨S1x4096x256, .f32⟩ : BufTy).Contents (Elt Ideal))⟩,
    ⟨S1x4096x256, ((broadcastInDim S1x4096x256 ![1, 2] bcast_S4096x256_S1x4096x256_1_2 c) : (⟨S1x4096x256, .f32⟩ : BufTy).Contents (Elt Ideal))⟩]
    concatenates_S1x4096x256_S1x4096x256_S1x4096x256_S3x4096x256_d0 : (⟨S3x4096x256, .f32⟩ : BufTy).Contents (Elt Ideal))

theorem stack_at (a b c : S4096x256.Idx → EReal) (k : Fin 3) (r : Fin 4096) (l : Fin 256) :
    stack a b c (ix3 k r l) = pick (a (ix2 r l)) (b (ix2 r l)) (c (ix2 r l)) k := by
  unfold stack
  pointwise

/-- One array three times. -/
def spread (g : S4096x256.Idx → EReal) : S3x4096x256.Idx → EReal :=
  broadcastInDim S3x4096x256 ![0, 1, 2] bcast_S1x4096x256_S3x4096x256_0_1_2 (broadcastInDim S1x4096x256 ![1, 2] bcast_S4096x256_S1x4096x256_1_2 g)

theorem spread_at (g : S4096x256.Idx → EReal) (k : Fin 3) (r : Fin 4096) (l : Fin 256) : spread g (ix3 k r l) = g (ix2 r l) := by
  unfold spread
  pointwise

/-- The greatest of the three. -/
def greatest (f : S3x4096x256.Idx → EReal) : S4096x256.Idx → EReal :=
  Host.reduce (FloatOps.maximumf (F := Ideal) (φ := .f32)) f (constant (F := Ideal) S_ .f32 0xFF800000#32) reducesTo_S3x4096x256_S4096x256_d0 h_S_

theorem greatest_at (f : S3x4096x256.Idx → EReal) (r : Fin 4096) (l : Fin 256) :
    greatest f (ix2 r l) = top (f (ix3 0 r l)) (f (ix3 1 r l)) (f (ix3 2 r l)) := by
  refine Eq.trans ?_ (fold_three fun k => f (ix3 k r l))
  unfold greatest
  pointwise

/-- The sum of the three. -/
def total (f : S3x4096x256.Idx → EReal) : S4096x256.Idx → EReal :=
  Host.reduceAdd (F := Ideal) (f : (⟨S3x4096x256, .f32⟩ : BufTy).Contents (Elt Ideal)) (constant S_ .f32 0x00000000#32) reducesTo_S3x4096x256_S4096x256_d0 h_S_

theorem total_at (f : S3x4096x256.Idx → EReal) (r : Fin 4096) (l : Fin 256) :
    total f (ix2 r l) = f (ix3 0 r l) + f (ix3 1 r l) + f (ix3 2 r l) := by
  refine Eq.trans ?_ (Fin.sum_univ_three fun k : Fin 3 => f (ix3 k r l))
  unfold total
  pointwise

/-- The three weights. -/
def weights (f : S3x4096x256.Idx → EReal) (g : S4096x256.Idx → EReal) : S3x4096x256.Idx → EReal :=
  Host.exp (F := Ideal) (φ := .f32) (subf f (spread g))

theorem exp_at (f g : S3x4096x256.Idx → EReal) (i : S3x4096x256.Idx) :
    Host.exp (F := Ideal) (φ := .f32) (subf f g) i = Ideal.exp (f i - g i) := rfl

theorem weights_at (f : S3x4096x256.Idx → EReal) (g : S4096x256.Idx → EReal) (k : Fin 3) (r : Fin 4096) (l : Fin 256) :
    weights f g (ix3 k r l) = weight (g (ix2 r l)) (f (ix3 k r l)) := by
  unfold weights
  rw [exp_at, spread_at]

/-- The greatest, never less than the least of all. -/
def floored (g : S4096x256.Idx → EReal) : S4096x256.Idx → EReal :=
  maximumf (F := Ideal) (φ := .f32) (broadcastInDim S4096x256 ![] bcast_S_S4096x256 (constant S_ .f32 0xFF800000#32)) g

theorem floored_eq (g : S4096x256.Idx → EReal) : floored g = g := by
  funext i
  refine Eq.trans ?_ (max_bot_left (a := g i))
  rw [← low]
  unfold floored
  pointwise

theorem log_at (f g : S4096x256.Idx → EReal) (i : S4096x256.Idx) :
    addf (F := Ideal) (φ := .f32) f (Host.log (F := Ideal) (φ := .f32) g) i = f i + Ideal.log (g i) := rfl

theorem quotient_at (f g o : S3x4096x256.Idx → EReal) (i : S3x4096x256.Idx) :
    mulf (F := Ideal) (φ := .f32) (Host.divf (F := Ideal) (φ := .f32) f g) o i = Ideal.div (f i) (g i) * o i := rfl

/-- The reference's first result. -/
def mean (o0 o1 o2 a b c : S4096x256.Idx → EReal) : S4096x256.Idx → EReal :=
  total (mulf (F := Ideal) (φ := .f32) (Host.divf (F := Ideal) (φ := .f32) (weights (stack a b c) (floored (greatest (stack a b c))))
    (spread (total (weights (stack a b c) (floored (greatest (stack a b c))))))) (stack o0 o1 o2))

/-- The reference's second result. -/
def lse (a b c : S4096x256.Idx → EReal) : S4096x256.Idx → EReal :=
  addf (F := Ideal) (φ := .f32) (greatest (stack a b c)) (Host.log (F := Ideal) (φ := .f32) (total (weights (stack a b c) (greatest (stack a b c)))))

theorem greatest_stack (a b c : S4096x256.Idx → EReal) (r : Fin 4096) (l : Fin 256) :
    greatest (stack a b c) (ix2 r l) = top (a (ix2 r l)) (b (ix2 r l)) (c (ix2 r l)) := by
  rw [greatest_at, stack_at, stack_at, stack_at]
  rfl

theorem total_weights (a b c g : S4096x256.Idx → EReal) (r : Fin 4096) (l : Fin 256) : total (weights (stack a b c) g) (ix2 r l)
    = weight (g (ix2 r l)) (a (ix2 r l)) + weight (g (ix2 r l)) (b (ix2 r l)) + weight (g (ix2 r l)) (c (ix2 r l)) := by
  rw [total_at, weights_at, weights_at, weights_at, stack_at, stack_at, stack_at]
  rfl

theorem lse_at (a b c : S4096x256.Idx → EReal) (r : Fin 4096) (l : Fin 256) : lse a b c (ix2 r l)
    = whole (a (ix2 r l)) (b (ix2 r l)) (c (ix2 r l)) := by
  unfold lse
  rw [log_at, total_weights, greatest_stack]

theorem mean_at (o0 o1 o2 a b c : S4096x256.Idx → EReal) (r : Fin 4096) (l : Fin 256)
    (h : ⊥ < top (a (ix2 r l)) (b (ix2 r l)) (c (ix2 r l)) ∧ top (a (ix2 r l)) (b (ix2 r l)) (c (ix2 r l)) < ⊤) :
    mean o0 o1 o2 a b c (ix2 r l)
      = mixed (a (ix2 r l)) (b (ix2 r l)) (c (ix2 r l)) (o0 (ix2 r l)) (o1 (ix2 r l)) (o2 (ix2 r l)) := by
  unfold mean
  rw [floored_eq, total_at, quotient_at, quotient_at, quotient_at, spread_at, spread_at, spread_at, total_weights, weights_at, weights_at, weights_at, greatest_stack,
    stack_at, stack_at, stack_at, stack_at, stack_at, stack_at]
  exact (div_sum (sum_pos h.1 h.2) _ _ _).symm

end Cert.MixRefIdeal.Entry

namespace Cert.Mix.Claims

theorem frame_kernel : Cert.quiescent_Mix := fun m g _ => Cert.Mix.Gen.frame (F := Bits) m g
theorem frame_ideal : Cert.quiescent_MixIdeal := fun m g _ => Cert.MixIdeal.Gen.frame (F := Ideal) m g
theorem frame_ref : Cert.quiescent_MixRefIdeal := fun m g _ =>
  (θ_run Cert.MixRefIdeal.defs _ _).mono (fun r h => ⟨fun c => (h c).2.2, sem_eq_zero_of_no_sems (by decide) r.2⟩)
    (Cert.MixRefIdeal.Value.run (F := Ideal) m g)
theorem frame_ideal_pre : Cert.quiescent_MixIdeal_pre_weighed := fun m g _ => frame_ideal m g trivial
theorem frame_ref_pre : Cert.quiescent_MixRefIdeal_pre_weighed := fun m g _ => frame_ref m g trivial

/-- The precondition is that the greatest of the three is a real number. -/
theorem real_top (o0 o1 o2 l0 l1 l2 : Cert.Pre_weighed.S4096x256.Idx → EReal)
    (h : Cert.Pre_weighed.fn (F := Ideal) o0 o1 o2 l0 l1 l2 = fun _ => 1#1) (i : Cert.Pre_weighed.S4096x256.Idx) :
    ⊥ < Cert.Mixed.top (l0 i) (l1 i) (l2 i) ∧ Cert.Mixed.top (l0 i) (l1 i) (l2 i) < ⊤ := by
  have both : ∀ a b : BitVec 1, a &&& b = 1#1 → a = 1#1 ∧ b = 1#1 := by decide
  obtain ⟨e0, e1⟩ := both _ _ (congrFun h i)
  refine ⟨?_, ?_⟩
  · rw [← Cert.Mixed.low]
    by_contra hn
    refine absurd e0 ?_
    show ¬ (BitVec.ofBool (decide (Ideal.ofBits FTy.f32 0xFF800000#32 < Cert.Mixed.top (l0 i) (l1 i) (l2 i))) = 1#1)
    rw [decide_eq_false hn]
    decide
  · rw [← Cert.Mixed.high]
    by_contra hn
    refine absurd e1 ?_
    show ¬ (BitVec.ofBool (decide (Cert.Mixed.top (l0 i) (l1 i) (l2 i) < Ideal.ofBits FTy.f32 0x7F800000#32)) = 1#1)
    rw [decide_eq_false hn]
    decide

theorem kernel_mean (a b c o0 o1 o2 : Cert.MixIdeal.S4096x256.Idx → EReal) (i : Cert.MixIdeal.S4096x256.Idx) :
    Cert.MixIdeal.Value.G6 (F := Ideal) a b c o0 o1 o2 i = Cert.Mixed.mixed (a i) (b i) (c i) (o0 i) (o1 i) (o2 i) := rfl

theorem kernel_lse (a b c : Cert.MixIdeal.S4096x256.Idx → EReal) (i : Cert.MixIdeal.S4096x256.Idx) :
    Cert.MixIdeal.Value.G7 (F := Ideal) a b c i = Cert.Mixed.whole (a i) (b i) (c i) := rfl

theorem ref_mean (m' : (ℓ : Loc Cert.MixRefIdeal.nD Cert.MixRefIdeal.τ Cert.MixRefIdeal.sig) → Buf (Elt Ideal) ℓ) (c : Dev Cert.MixRefIdeal.nD) :
    Cert.MixRefIdeal.Value.res_main_v21 (F := Ideal) m' c = Cert.MixRefIdeal.Entry.mean (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2))
      (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5)) := by
  unfold Cert.MixRefIdeal.Value.res_main_v21 Cert.MixRefIdeal.Entry.mean Cert.MixRefIdeal.Entry.total Cert.MixRefIdeal.Entry.weights Cert.MixRefIdeal.Entry.floored Cert.MixRefIdeal.Entry.greatest Cert.MixRefIdeal.Entry.spread Cert.MixRefIdeal.Entry.stack
  rfl

theorem algebraic : Cert.algebraic_MixIdeal_MixRefIdeal_pre_weighed := fun m g m' g' pre h => by
  refine ⟨_, _, Cert.MixIdeal.Value.run (F := Ideal) m g,
    (θ_run Cert.MixRefIdeal.defs _ _).mono (fun _ r c => ?_)
      (Cert.MixRefIdeal.Value.run (F := Ideal) m' g')⟩
  obtain ⟨h0, h1, h2, h3, h4, h5⟩ := h c
  obtain ⟨r0, r1, r2⟩ := r c
  refine ⟨r0.trans ((ref_mean m' c).trans ?_), r1.trans (Eq.trans (b := Cert.MixRefIdeal.Entry.lse (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5))) ?_ ?_), r2⟩
  · rw [h0, h1, h2, h3, h4, h5]
    refine funext fun (i : Cert.MixRefIdeal.S4096x256.Idx) => Eq.trans ?_ (kernel_mean _ _ _ _ _ _ i).symm
    have e := Cert.MixRefIdeal.Entry.mean_at (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (i 0) (i 1)
      (real_top _ _ _ _ _ _ (pre c) (ix2 (i 0) (i 1)))
    rw [← eq_ix2 i] at e
    exact e
  · clear r0 r2
    unfold Cert.MixRefIdeal.Entry.lse Cert.MixRefIdeal.Entry.total Cert.MixRefIdeal.Entry.weights Cert.MixRefIdeal.Entry.greatest Cert.MixRefIdeal.Entry.spread Cert.MixRefIdeal.Entry.stack
    rfl
  · rw [h3, h4, h5]
    refine funext fun (i : Cert.MixRefIdeal.S4096x256.Idx) => Eq.trans ?_ (kernel_lse _ _ _ i).symm
    have e := Cert.MixRefIdeal.Entry.lse_at (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (i 0) (i 1)
    rw [← eq_ix2 i] at e
    exact e

end Cert.Mix.Claims

end
-- ==== Proof.lean ====
/-
# The claims together

The exchange calls of the training step, each alone on the eight devices, against the plain rearrangement of the whole
arrays that it is; the AdamW update of each weight on one device, against AdamW; and the sums between the exchanges, on one
device, against plain sums; the loss head, the RMS norm with its derivative and the products with the weights, on one
device's tokens; and the loss over all devices.
-/
module

public import proofs.«01_k».proof.Defs
public import proofs.«01_k».proof.Proof.Gen.Gather
public import proofs.«01_k».proof.Proof.Gen.Sibling
public import proofs.«01_k».proof.Proof.Gen.Chips
public import proofs.«01_k».proof.Proof.Gen.GatherIdeal.Skeleton
public import proofs.«01_k».proof.Proof.Gen.GatherIdeal.Launch
public import proofs.«01_k».proof.Proof.Gen.SiblingIdeal.Skeleton
public import proofs.«01_k».proof.Proof.Gen.SiblingIdeal.Launch
public import proofs.«01_k».proof.Proof.Gen.ChipsIdeal.Skeleton
public import proofs.«01_k».proof.Proof.Gen.ChipsIdeal.Launch
public import proofs.«01_k».proof.Proof.Gen.GatherRefIdeal.Run
public import proofs.«01_k».proof.Proof.Gen.GatherRef.Run
public import proofs.«01_k».proof.Proof.Gen.SiblingRefIdeal.Run
public import proofs.«01_k».proof.Proof.Gen.SiblingRef.Run
public import proofs.«01_k».proof.Proof.Gen.ChipsRefIdeal.Run
public import proofs.«01_k».proof.Proof.Gen.ChipsRef.Run
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamPoolUp.Frame
public import proofs.«01_k».proof.Proof.Gen.AdamPoolUpIdeal.Value
public import proofs.«01_k».proof.Proof.Gen.AdamPoolUpRefIdeal.Run
public import proofs.«01_k».proof.Proof.Gen.AdamConvOut.Frame
public import proofs.«01_k».proof.Proof.Gen.AdamConvOutIdeal.Value
public import proofs.«01_k».proof.Proof.Gen.AdamConvOutRefIdeal.Run
public import proofs.«01_k».proof.Proof.Gen.AdamAttnUp.Frame
public import proofs.«01_k».proof.Proof.Gen.AdamAttnUpIdeal.Value
public import proofs.«01_k».proof.Proof.Gen.AdamAttnUpRefIdeal.Run
public import proofs.«01_k».proof.Proof.Gen.AdamO.Frame
public import proofs.«01_k».proof.Proof.Gen.AdamOIdeal.Value
public import proofs.«01_k».proof.Proof.Gen.AdamORefIdeal.Run
public import proofs.«01_k».proof.Proof.Gen.AdamFf1.Frame
public import proofs.«01_k».proof.Proof.Gen.AdamFf1Ideal.Value
public import proofs.«01_k».proof.Proof.Gen.AdamFf1RefIdeal.Run
public import proofs.«01_k».proof.Proof.Gen.AdamFf2.Frame
public import proofs.«01_k».proof.Proof.Gen.AdamFf2Ideal.Value
public import proofs.«01_k».proof.Proof.Gen.AdamFf2RefIdeal.Run
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.SumTwo.Value
public import proofs.«01_k».proof.Proof.Gen.SumTwoIdeal.Value
public import proofs.«01_k».proof.Proof.Gen.SumTwoRef.Run
public import proofs.«01_k».proof.Proof.Gen.SumTwoRefIdeal.Run
public import proofs.«01_k».proof.Proof.Gen.SumBig.Frame
public import proofs.«01_k».proof.Proof.Gen.SumBigIdeal.Frame
public import proofs.«01_k».proof.Proof.Gen.SumBigRefIdeal.Run
public import proofs.«01_k».proof.Proof.Gen.SumSmall.Frame
public import proofs.«01_k».proof.Proof.Gen.SumSmallIdeal.Frame
public import proofs.«01_k».proof.Proof.Gen.SumSmallRefIdeal.Run
public import proofs.«01_k».proof.Proof.Gen.SumPair
public import proofs.«01_k».proof.Proof.Gen.SumPairIdeal.Skeleton
public import proofs.«01_k».proof.Proof.Gen.SumPairIdeal.Launch
public import proofs.«01_k».proof.Proof.Gen.SumPairRefIdeal.Run
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.NormFwd.Frame
public import proofs.«01_k».proof.Proof.Gen.NormFwdIdeal.Value
public import proofs.«01_k».proof.Proof.Gen.NormFwdRefIdeal.Run
public import proofs.«01_k».proof.Proof.Gen.NormBwd.Frame
public import proofs.«01_k».proof.Proof.Gen.NormBwdIdeal.Value
public import proofs.«01_k».proof.Proof.Gen.NormBwdRefIdeal.Run
public import proofs.«01_k».proof.Proof.Gen.Total.Launch
public import proofs.«01_k».proof.Proof.Gen.TotalIdeal.Launch
public import proofs.«01_k».proof.Proof.Gen.TotalIdeal.Skeleton
public import proofs.«01_k».proof.Proof.Gen.TotalRefIdeal.Run
public import proofs.«01_k».proof.Proof.Gen.InProj.Frame
public import proofs.«01_k».proof.Proof.Gen.InProjIdeal.Value
public import proofs.«01_k».proof.Proof.Gen.InProjRefIdeal.Run
public import proofs.«01_k».proof.Proof.Gen.OutProj.Frame
public import proofs.«01_k».proof.Proof.Gen.OutProjIdeal.Value
public import proofs.«01_k».proof.Proof.Gen.OutProjRefIdeal.Run
public import proofs.«01_k».proof.Proof.Gen.FfUp.Frame
public import proofs.«01_k».proof.Proof.Gen.FfUpIdeal.Value
public import proofs.«01_k».proof.Proof.Gen.FfUpRefIdeal.Run
public import proofs.«01_k».proof.Proof.Gen.FfBack.Frame
public import proofs.«01_k».proof.Proof.Gen.FfBackIdeal.Value
public import proofs.«01_k».proof.Proof.Gen.FfBackRefIdeal.Run
public import proofs.«01_k».proof.Proof.Gen.OutBack.Frame
public import proofs.«01_k».proof.Proof.Gen.OutBackIdeal.Value
public import proofs.«01_k».proof.Proof.Gen.OutBackRefIdeal.Run
public import proofs.«01_k».proof.Proof.Gen.UpBack.Frame
public import proofs.«01_k».proof.Proof.Gen.UpBackIdeal.Value
public import proofs.«01_k».proof.Proof.Gen.UpBackRefIdeal.Run
public import proofs.«01_k».proof.Proof.Gen.UpBackNarrow.Frame
public import proofs.«01_k».proof.Proof.Gen.UpBackNarrowIdeal.Value
public import proofs.«01_k».proof.Proof.Gen.UpBackNarrowRefIdeal.Run
public import proofs.«01_k».proof.Proof.Gen.FfDown.Frame
public import proofs.«01_k».proof.Proof.Gen.FfDownIdeal.Value
public import proofs.«01_k».proof.Proof.Gen.FfDownRefIdeal.Run
public import proofs.«01_k».proof.Proof.Gen.FfIn.Frame
public import proofs.«01_k».proof.Proof.Gen.FfInIdeal.Value
public import proofs.«01_k».proof.Proof.Gen.FfInRefIdeal.Run
public import proofs.«01_k».proof.Proof.Gen.InBack.Frame
public import proofs.«01_k».proof.Proof.Gen.InBackIdeal.Value
public import proofs.«01_k».proof.Proof.Gen.InBackRefIdeal.Run
public import proofs.«01_k».proof.Proof.Gen.GradFf2.Frame
public import proofs.«01_k».proof.Proof.Gen.GradFf2Ideal.Value
public import proofs.«01_k».proof.Proof.Gen.GradFf2RefIdeal.Run
public import proofs.«01_k».proof.Proof.Gen.GradFf1.Frame
public import proofs.«01_k».proof.Proof.Gen.GradFf1Ideal.Value
public import proofs.«01_k».proof.Proof.Gen.GradFf1RefIdeal.Run
public import proofs.«01_k».proof.Proof.Gen.GradO.Frame
public import proofs.«01_k».proof.Proof.Gen.GradOIdeal.Value
public import proofs.«01_k».proof.Proof.Gen.GradORefIdeal.Run
public import proofs.«01_k».proof.Proof.Gen.GradUp.Frame
public import proofs.«01_k».proof.Proof.Gen.GradUpIdeal.Value
public import proofs.«01_k».proof.Proof.Gen.GradUpRefIdeal.Run
public import proofs.«01_k».proof.Proof.Gen.GradUpNarrow.Frame
public import proofs.«01_k».proof.Proof.Gen.GradUpNarrowIdeal.Value
public import proofs.«01_k».proof.Proof.Gen.GradUpNarrowRefIdeal.Run
public import proofs.«01_k».proof.Proof.Gen.GradIn.Frame
public import proofs.«01_k».proof.Proof.Gen.GradInIdeal.Value
public import proofs.«01_k».proof.Proof.Gen.GradInRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.Mix.Frame
public import proofs.«01_k».proof.Proof.Gen.MixIdeal.Value
public import proofs.«01_k».proof.Proof.Gen.MixRefIdeal.Run
public import proofs.«01_k».proof.Proof.Gen.Pre_weighed
public import proofs.«01_k».proof.Proof.Gen.Pre_named
public import proofs.«01_k».proof.Proof.GatherClaims
public import proofs.«01_k».proof.Proof.SiblingClaims
public import proofs.«01_k».proof.Proof.ChipsClaims
public import proofs.«01_k».proof.Proof.AdamClaims
public import proofs.«01_k».proof.Proof.SumClaims
public import proofs.«01_k».proof.Proof.PairClaims
public import proofs.«01_k».proof.Proof.LossClaims
public import proofs.«01_k».proof.Proof.NormClaims
public import proofs.«01_k».proof.Proof.NormBwdClaims
public import proofs.«01_k».proof.Proof.TotalRun
public import proofs.«01_k».proof.Proof.TotalClaims
public import proofs.«01_k».proof.Proof.Products
public import proofs.«01_k».proof.Proof.ProductClaims
public import proofs.«01_k».proof.Proof.PartClaims
public import proofs.«01_k».proof.Proof.GradClaims
public import proofs.«01_k».proof.Proof.MergeClaims
public import proofs.«01_k».proof.Proof.MixClaims

@[expose] public section

noncomputable section

namespace Cert.Proof

open Idealize.ShloMosaic Idealize.SL.Sem

/-- Everything claimed of the exchanges, of the updates, of the sums, of the loss, of the norm and of the products. -/
theorem claim : Cert.Claim :=
  ⟨Cert.Gather.Gen.facts, Cert.GatherIdeal.Gen.facts, Cert.GatherRefIdeal.Gen.facts, Cert.GatherRef.Gen.facts,
    Cert.Sibling.Gen.facts, Cert.SiblingIdeal.Gen.facts, Cert.SiblingRefIdeal.Gen.facts, Cert.SiblingRef.Gen.facts,
    Cert.Chips.Gen.facts, Cert.ChipsIdeal.Gen.facts, Cert.ChipsRefIdeal.Gen.facts, Cert.ChipsRef.Gen.facts,
    Cert.AdamIn.Gen.facts, Cert.AdamInIdeal.Gen.facts, Cert.AdamInRefIdeal.Gen.facts,
    Cert.AdamPoolUp.Gen.facts, Cert.AdamPoolUpIdeal.Gen.facts, Cert.AdamPoolUpRefIdeal.Gen.facts,
    Cert.AdamConvOut.Gen.facts, Cert.AdamConvOutIdeal.Gen.facts, Cert.AdamConvOutRefIdeal.Gen.facts,
    Cert.AdamAttnUp.Gen.facts, Cert.AdamAttnUpIdeal.Gen.facts, Cert.AdamAttnUpRefIdeal.Gen.facts,
    Cert.AdamO.Gen.facts, Cert.AdamOIdeal.Gen.facts, Cert.AdamORefIdeal.Gen.facts,
    Cert.AdamFf1.Gen.facts, Cert.AdamFf1Ideal.Gen.facts, Cert.AdamFf1RefIdeal.Gen.facts,
    Cert.AdamFf2.Gen.facts, Cert.AdamFf2Ideal.Gen.facts, Cert.AdamFf2RefIdeal.Gen.facts,
    Cert.AdamSmall.Gen.facts, Cert.AdamSmallIdeal.Gen.facts, Cert.AdamSmallRefIdeal.Gen.facts,
    Cert.SumTwo.Gen.facts, Cert.SumTwoIdeal.Gen.facts, Cert.SumTwoRefIdeal.Gen.facts,
    Cert.SumBig.Gen.facts, Cert.SumBigIdeal.Gen.facts, Cert.SumBigRefIdeal.Gen.facts,
    Cert.SumSmall.Gen.facts, Cert.SumSmallIdeal.Gen.facts, Cert.SumSmallRefIdeal.Gen.facts,
    Cert.SumTwoRef.Gen.facts,
    Cert.SumPair.Gen.facts, Cert.SumPairIdeal.Gen.facts, Cert.SumPairRefIdeal.Gen.facts,
    Cert.LossHead.Gen.facts, Cert.LossHeadIdeal.Gen.facts, Cert.LossHeadRefIdeal.Gen.facts,
    Cert.NormFwd.Gen.facts, Cert.NormFwdIdeal.Gen.facts, Cert.NormFwdRefIdeal.Gen.facts,
    Cert.NormBwd.Gen.facts, Cert.NormBwdIdeal.Gen.facts, Cert.NormBwdRefIdeal.Gen.facts,
    Cert.Total.Gen.facts, Cert.TotalIdeal.Gen.facts, Cert.TotalRefIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.FfUp.Gen.facts, Cert.FfUpIdeal.Gen.facts, Cert.FfUpRefIdeal.Gen.facts,
    Cert.FfBack.Gen.facts, Cert.FfBackIdeal.Gen.facts, Cert.FfBackRefIdeal.Gen.facts,
    Cert.OutBack.Gen.facts, Cert.OutBackIdeal.Gen.facts, Cert.OutBackRefIdeal.Gen.facts,
    Cert.UpBack.Gen.facts, Cert.UpBackIdeal.Gen.facts, Cert.UpBackRefIdeal.Gen.facts,
    Cert.UpBackNarrow.Gen.facts, Cert.UpBackNarrowIdeal.Gen.facts, Cert.UpBackNarrowRefIdeal.Gen.facts,
    Cert.FfDown.Gen.facts, Cert.FfDownIdeal.Gen.facts, Cert.FfDownRefIdeal.Gen.facts,
    Cert.FfIn.Gen.facts, Cert.FfInIdeal.Gen.facts, Cert.FfInRefIdeal.Gen.facts,
    Cert.InBack.Gen.facts, Cert.InBackIdeal.Gen.facts, Cert.InBackRefIdeal.Gen.facts,
    Cert.GradFf2.Gen.facts, Cert.GradFf2Ideal.Gen.facts, Cert.GradFf2RefIdeal.Gen.facts,
    Cert.GradFf1.Gen.facts, Cert.GradFf1Ideal.Gen.facts, Cert.GradFf1RefIdeal.Gen.facts,
    Cert.GradO.Gen.facts, Cert.GradOIdeal.Gen.facts, Cert.GradORefIdeal.Gen.facts,
    Cert.GradUp.Gen.facts, Cert.GradUpIdeal.Gen.facts, Cert.GradUpRefIdeal.Gen.facts,
    Cert.GradUpNarrow.Gen.facts, Cert.GradUpNarrowIdeal.Gen.facts, Cert.GradUpNarrowRefIdeal.Gen.facts,
    Cert.GradIn.Gen.facts, Cert.GradInIdeal.Gen.facts, Cert.GradInRefIdeal.Gen.facts,
    Cert.Merge.Gen.facts, Cert.MergeIdeal.Gen.facts, Cert.MergeRefIdeal.Gen.facts,
    Cert.Mix.Gen.facts, Cert.MixIdeal.Gen.facts, Cert.MixRefIdeal.Gen.facts,
    Cert.Pre_named.Gen.facts, Cert.Pre_weighed.Gen.facts,
    Cert.GatherClaims.frame_kernel, Cert.GatherClaims.frame_ideal, Cert.GatherClaims.frame_ref_ideal, Cert.GatherClaims.frame_ref,
    Cert.SiblingClaims.frame_kernel, Cert.SiblingClaims.frame_ideal, Cert.SiblingClaims.frame_ref_ideal, Cert.SiblingClaims.frame_ref,
    Cert.ChipsClaims.frame_kernel, Cert.ChipsClaims.frame_ideal, Cert.ChipsClaims.frame_ref_ideal, Cert.ChipsClaims.frame_ref,
    Cert.AdamIn.Claims.frame_kernel, Cert.AdamIn.Claims.frame_ideal, Cert.AdamIn.Claims.frame_ref,
    Cert.AdamPoolUp.Claims.frame_kernel, Cert.AdamPoolUp.Claims.frame_ideal, Cert.AdamPoolUp.Claims.frame_ref,
    Cert.AdamConvOut.Claims.frame_kernel, Cert.AdamConvOut.Claims.frame_ideal, Cert.AdamConvOut.Claims.frame_ref,
    Cert.AdamAttnUp.Claims.frame_kernel, Cert.AdamAttnUp.Claims.frame_ideal, Cert.AdamAttnUp.Claims.frame_ref,
    Cert.AdamO.Claims.frame_kernel, Cert.AdamO.Claims.frame_ideal, Cert.AdamO.Claims.frame_ref,
    Cert.AdamFf1.Claims.frame_kernel, Cert.AdamFf1.Claims.frame_ideal, Cert.AdamFf1.Claims.frame_ref,
    Cert.AdamFf2.Claims.frame_kernel, Cert.AdamFf2.Claims.frame_ideal, Cert.AdamFf2.Claims.frame_ref,
    Cert.AdamSmall.Claims.frame_kernel, Cert.AdamSmall.Claims.frame_ideal, Cert.AdamSmall.Claims.frame_ref,
    Cert.SumTwo.Claims.frame_kernel, Cert.SumTwo.Claims.frame_ideal, Cert.SumTwo.Claims.frame_ref_ideal,
    Cert.SumBig.Claims.frame_kernel, Cert.SumBig.Claims.frame_ideal, Cert.SumBig.Claims.frame_ref,
    Cert.SumSmall.Claims.frame_kernel, Cert.SumSmall.Claims.frame_ideal, Cert.SumSmall.Claims.frame_ref,
    Cert.SumTwo.Claims.frame_ref,
    Cert.SumPair.Claims.frame_kernel, Cert.SumPair.Claims.frame_ideal, Cert.SumPair.Claims.frame_ref, Cert.SumPair.Claims.frame_ref_pre,
    Cert.LossHead.Claims.frame_kernel, Cert.LossHead.Claims.frame_ideal, Cert.LossHead.Claims.frame_ref,
    Cert.NormFwd.Claims.frame_kernel, Cert.NormFwd.Claims.frame_ideal, Cert.NormFwd.Claims.frame_ref,
    Cert.NormBwd.Claims.frame_kernel, Cert.NormBwd.Claims.frame_ideal, Cert.NormBwd.Claims.frame_ref,
    Cert.Total.Claims.frame_kernel, Cert.Total.Claims.frame_ideal, Cert.Total.Claims.frame_ref,
    Cert.InProj.Claims.frame_kernel, Cert.InProj.Claims.frame_ideal, Cert.InProj.Claims.frame_ref,
    Cert.OutProj.Claims.frame_kernel, Cert.OutProj.Claims.frame_ideal, Cert.OutProj.Claims.frame_ref,
    Cert.FfUp.Claims.frame_kernel, Cert.FfUp.Claims.frame_ideal, Cert.FfUp.Claims.frame_ref,
    Cert.FfBack.Claims.frame_kernel, Cert.FfBack.Claims.frame_ideal, Cert.FfBack.Claims.frame_ref,
    Cert.OutBack.Claims.frame_kernel, Cert.OutBack.Claims.frame_ideal, Cert.OutBack.Claims.frame_ref,
    Cert.UpBack.Claims.frame_kernel, Cert.UpBack.Claims.frame_ideal, Cert.UpBack.Claims.frame_ref,
    Cert.UpBackNarrow.Claims.frame_kernel, Cert.UpBackNarrow.Claims.frame_ideal, Cert.UpBackNarrow.Claims.frame_ref,
    Cert.FfDown.Claims.frame_kernel, Cert.FfDown.Claims.frame_ideal, Cert.FfDown.Claims.frame_ref,
    Cert.FfIn.Claims.frame_kernel, Cert.FfIn.Claims.frame_ideal, Cert.FfIn.Claims.frame_ref,
    Cert.InBack.Claims.frame_kernel, Cert.InBack.Claims.frame_ideal, Cert.InBack.Claims.frame_ref,
    Cert.GradFf2.Claims.frame_kernel, Cert.GradFf2.Claims.frame_ideal, Cert.GradFf2.Claims.frame_ref,
    Cert.GradFf1.Claims.frame_kernel, Cert.GradFf1.Claims.frame_ideal, Cert.GradFf1.Claims.frame_ref,
    Cert.GradO.Claims.frame_kernel, Cert.GradO.Claims.frame_ideal, Cert.GradO.Claims.frame_ref,
    Cert.GradUp.Claims.frame_kernel, Cert.GradUp.Claims.frame_ideal, Cert.GradUp.Claims.frame_ref,
    Cert.GradUpNarrow.Claims.frame_kernel, Cert.GradUpNarrow.Claims.frame_ideal, Cert.GradUpNarrow.Claims.frame_ref,
    Cert.GradIn.Claims.frame_kernel, Cert.GradIn.Claims.frame_ideal, Cert.GradIn.Claims.frame_ref,
    Cert.Merge.Claims.frame_kernel, Cert.Merge.Claims.frame_ideal, Cert.Merge.Claims.frame_ref,
    Cert.Mix.Claims.frame_kernel, Cert.Mix.Claims.frame_ideal, Cert.Mix.Claims.frame_ideal_pre, Cert.Mix.Claims.frame_ref,
    Cert.Mix.Claims.frame_ref_pre,
    trivial, Cert.GatherClaims.algebraic, Cert.GatherClaims.bitexact,
    trivial, Cert.SiblingClaims.algebraic, Cert.SiblingClaims.bitexact,
    trivial, Cert.ChipsClaims.algebraic, Cert.ChipsClaims.bitexact,
    trivial, Cert.AdamIn.Claims.algebraic,
    trivial, Cert.AdamPoolUp.Claims.algebraic,
    trivial, Cert.AdamConvOut.Claims.algebraic,
    trivial, Cert.AdamAttnUp.Claims.algebraic,
    trivial, Cert.AdamO.Claims.algebraic,
    trivial, Cert.AdamFf1.Claims.algebraic,
    trivial, Cert.AdamFf2.Claims.algebraic,
    trivial, Cert.AdamSmall.Claims.algebraic,
    trivial, Cert.SumTwo.Claims.algebraic,
    trivial, Cert.SumBig.Claims.algebraic,
    trivial, Cert.SumSmall.Claims.algebraic,
    Cert.SumTwo.Claims.bitexact,
    trivial, Cert.SumPair.Claims.algebraic,
    trivial, Cert.LossHead.Claims.algebraic,
    trivial, Cert.NormFwd.Claims.algebraic,
    trivial, Cert.NormBwd.Claims.algebraic,
    trivial, Cert.Total.Claims.algebraic,
    trivial, Cert.InProj.Claims.algebraic,
    trivial, Cert.OutProj.Claims.algebraic,
    trivial, Cert.FfUp.Claims.algebraic,
    trivial, Cert.FfBack.Claims.algebraic,
    trivial, Cert.OutBack.Claims.algebraic,
    trivial, Cert.UpBack.Claims.algebraic,
    trivial, Cert.UpBackNarrow.Claims.algebraic,
    trivial, Cert.FfDown.Claims.algebraic,
    trivial, Cert.FfIn.Claims.algebraic,
    trivial, Cert.InBack.Claims.algebraic,
    trivial, Cert.GradFf2.Claims.algebraic,
    trivial, Cert.GradFf1.Claims.algebraic,
    trivial, Cert.GradO.Claims.algebraic,
    trivial, Cert.GradUp.Claims.algebraic,
    trivial, Cert.GradUpNarrow.Claims.algebraic,
    trivial, Cert.GradIn.Claims.algebraic,
    trivial, Cert.Merge.Claims.algebraic,
    trivial, Cert.Mix.Claims.algebraic⟩

end Cert.Proof

end
